-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownReferenceIdeal (m : (ℓ : Loc Cert.GradDownReferenceIdeal.nD Cert.GradDownReferenceIdeal.τ Cert.GradDownReferenceIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpReferenceIdeal (m : (ℓ : Loc Cert.GradUpReferenceIdeal.nD Cert.GradUpReferenceIdeal.τ Cert.GradUpReferenceIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInReferenceIdeal (m : (ℓ : Loc Cert.GradInReferenceIdeal.nD Cert.GradInReferenceIdeal.τ Cert.GradInReferenceIdeal.sig) → Buf (Elt Ideal) ℓ) : Prop :=
  True

def Pre_GradAtt (m : (ℓ : Loc Cert.GradAtt.nD Cert.GradAtt.τ Cert.GradAtt.sig) → Buf (Elt Bits) ℓ) : Prop :=
  True

def Pre_GradAttIdeal (m : (ℓ : Loc Cert.GradAttIdeal.nD Cert.GradAttIdeal.τ Cert.GradAttIdeal.sig) → Buf (Elt Ideal) ℓ) : Prop :=
  True

def Pre_GradAttReferenceIdeal (m : (ℓ : Loc Cert.GradAttReferenceIdeal.nD Cert.GradAttReferenceIdeal.τ Cert.GradAttReferenceIdeal.sig) → Buf (Elt Ideal) ℓ) : Prop :=
  True

def Pre_GradBranch (m : (ℓ : Loc Cert.GradBranch.nD Cert.GradBranch.τ Cert.GradBranch.sig) → Buf (Elt Bits) ℓ) : Prop :=
  True

def Pre_GradBranchIdeal (m : (ℓ : Loc Cert.GradBranchIdeal.nD Cert.GradBranchIdeal.τ Cert.GradBranchIdeal.sig) → Buf (Elt Ideal) ℓ) : Prop :=
  True

def Pre_GradBranchReferenceIdeal (m : (ℓ : Loc Cert.GradBranchReferenceIdeal.nD Cert.GradBranchReferenceIdeal.τ Cert.GradBranchReferenceIdeal.sig) → Buf (Elt Ideal) ℓ) : Prop :=
  True

def Pre_InAtt (m : (ℓ : Loc Cert.InAtt.nD Cert.InAtt.τ Cert.InAtt.sig) → Buf (Elt Bits) ℓ) : Prop :=
  True

def Pre_InAttIdeal (m : (ℓ : Loc Cert.InAttIdeal.nD Cert.InAttIdeal.τ Cert.InAttIdeal.sig) → Buf (Elt Ideal) ℓ) : Prop :=
  True

def Pre_InAttReferenceIdeal (m : (ℓ : Loc Cert.InAttReferenceIdeal.nD Cert.InAttReferenceIdeal.τ Cert.InAttReferenceIdeal.sig) → Buf (Elt Ideal) ℓ) : Prop :=
  True

def Pre_InRest (m : (ℓ : Loc Cert.InRest.nD Cert.InRest.τ Cert.InRest.sig) → Buf (Elt Bits) ℓ) : Prop :=
  True

def Pre_InRestIdeal (m : (ℓ : Loc Cert.InRestIdeal.nD Cert.InRestIdeal.τ Cert.InRestIdeal.sig) → Buf (Elt Ideal) ℓ) : Prop :=
  True

def Pre_InRestReferenceIdeal (m : (ℓ : Loc Cert.InRestReferenceIdeal.nD Cert.InRestReferenceIdeal.τ Cert.InRestReferenceIdeal.sig) → Buf (Elt Ideal) ℓ) : Prop :=
  True

def Pre_BackAtt (m : (ℓ : Loc Cert.BackAtt.nD Cert.BackAtt.τ Cert.BackAtt.sig) → Buf (Elt Bits) ℓ) : Prop :=
  True

def Pre_BackAttIdeal (m : (ℓ : Loc Cert.BackAttIdeal.nD Cert.BackAttIdeal.τ Cert.BackAttIdeal.sig) → Buf (Elt Ideal) ℓ) : Prop :=
  True

def Pre_BackAttReferenceIdeal (m : (ℓ : Loc Cert.BackAttReferenceIdeal.nD Cert.BackAttReferenceIdeal.τ Cert.BackAttReferenceIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_UpBack (m : (ℓ : Loc Cert.UpBack.nD Cert.UpBack.τ Cert.UpBack.sig) → Buf (Elt Bits) ℓ) : Prop :=
  True

def Pre_UpBackIdeal (m : (ℓ : Loc Cert.UpBackIdeal.nD Cert.UpBackIdeal.τ Cert.UpBackIdeal.sig) → Buf (Elt Ideal) ℓ) : Prop :=
  True

def Pre_UpBackReferenceIdeal (m : (ℓ : Loc Cert.UpBackReferenceIdeal.nD Cert.UpBackReferenceIdeal.τ Cert.UpBackReferenceIdeal.sig) → Buf (Elt Ideal) ℓ) : Prop :=
  True

def Pre_RestBack (m : (ℓ : Loc Cert.RestBack.nD Cert.RestBack.τ Cert.RestBack.sig) → Buf (Elt Bits) ℓ) : Prop :=
  True

def Pre_RestBackIdeal (m : (ℓ : Loc Cert.RestBackIdeal.nD Cert.RestBackIdeal.τ Cert.RestBackIdeal.sig) → Buf (Elt Ideal) ℓ) : Prop :=
  True

def Pre_RestBackReferenceIdeal (m : (ℓ : Loc Cert.RestBackReferenceIdeal.nD Cert.RestBackReferenceIdeal.τ Cert.RestBackReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutReferenceIdeal (m : (ℓ : Loc Cert.GradOutReferenceIdeal.nD Cert.GradOutReferenceIdeal.τ Cert.GradOutReferenceIdeal.sig) → Buf (Elt Ideal) ℓ) : Prop :=
  True

def Pre_GradMix (m : (ℓ : Loc Cert.GradMix.nD Cert.GradMix.τ Cert.GradMix.sig) → Buf (Elt Bits) ℓ) : Prop :=
  True

def Pre_GradMixIdeal (m : (ℓ : Loc Cert.GradMixIdeal.nD Cert.GradMixIdeal.τ Cert.GradMixIdeal.sig) → Buf (Elt Ideal) ℓ) : Prop :=
  True

def Pre_GradMixReferenceIdeal (m : (ℓ : Loc Cert.GradMixReferenceIdeal.nD Cert.GradMixReferenceIdeal.τ Cert.GradMixReferenceIdeal.sig) → Buf (Elt Ideal) ℓ) : Prop :=
  True

def Pre_MixBack (m : (ℓ : Loc Cert.MixBack.nD Cert.MixBack.τ Cert.MixBack.sig) → Buf (Elt Bits) ℓ) : Prop :=
  True

def Pre_MixBackIdeal (m : (ℓ : Loc Cert.MixBackIdeal.nD Cert.MixBackIdeal.τ Cert.MixBackIdeal.sig) → Buf (Elt Ideal) ℓ) : Prop :=
  True

def Pre_MixBackReferenceIdeal (m : (ℓ : Loc Cert.MixBackReferenceIdeal.nD Cert.MixBackReferenceIdeal.τ Cert.MixBackReferenceIdeal.sig) → Buf (Elt Ideal) ℓ) : Prop :=
  True

def Pre_HeadBack (m : (ℓ : Loc Cert.HeadBack.nD Cert.HeadBack.τ Cert.HeadBack.sig) → Buf (Elt Bits) ℓ) : Prop :=
  True

def Pre_HeadBackIdeal (m : (ℓ : Loc Cert.HeadBackIdeal.nD Cert.HeadBackIdeal.τ Cert.HeadBackIdeal.sig) → Buf (Elt Ideal) ℓ) : Prop :=
  True

def Pre_HeadBackReferenceIdeal (m : (ℓ : Loc Cert.HeadBackReferenceIdeal.nD Cert.HeadBackReferenceIdeal.τ Cert.HeadBackReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownReferenceIdeal [hGradDownReferenceIdeal : Cert.GradDownReferenceIdeal.Facts] : Prop :=
  ∀ (m : (ℓ : Loc Cert.GradDownReferenceIdeal.nD Cert.GradDownReferenceIdeal.τ Cert.GradDownReferenceIdeal.sig) → Buf (Elt Ideal) ℓ) (g : Dev Cert.GradDownReferenceIdeal.nD → PrngReg), Pre_GradDownReferenceIdeal m →
    θ_run (Cert.GradDownReferenceIdeal.defs (F := Ideal)) (onTc (τ := Cert.GradDownReferenceIdeal.τ) (Cert.GradDownReferenceIdeal.main (F := Ideal))) ⟨m, fun _ => 0, g⟩ (fun r => (∀ c : Dev Cert.GradDownReferenceIdeal.nD,
      r.2.mem ((c.tc : Thread Cert.GradDownReferenceIdeal.nD Cert.GradDownReferenceIdeal.τ).loc Cert.GradDownReferenceIdeal.main_arg0) = m ((c.tc : Thread Cert.GradDownReferenceIdeal.nD Cert.GradDownReferenceIdeal.τ).loc Cert.GradDownReferenceIdeal.main_arg0)
      ∧ r.2.mem ((c.tc : Thread Cert.GradDownReferenceIdeal.nD Cert.GradDownReferenceIdeal.τ).loc Cert.GradDownReferenceIdeal.main_arg1) = m ((c.tc : Thread Cert.GradDownReferenceIdeal.nD Cert.GradDownReferenceIdeal.τ).loc Cert.GradDownReferenceIdeal.main_arg1))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpReferenceIdeal [hGradUpReferenceIdeal : Cert.GradUpReferenceIdeal.Facts] : Prop :=
  ∀ (m : (ℓ : Loc Cert.GradUpReferenceIdeal.nD Cert.GradUpReferenceIdeal.τ Cert.GradUpReferenceIdeal.sig) → Buf (Elt Ideal) ℓ) (g : Dev Cert.GradUpReferenceIdeal.nD → PrngReg), Pre_GradUpReferenceIdeal m →
    θ_run (Cert.GradUpReferenceIdeal.defs (F := Ideal)) (onTc (τ := Cert.GradUpReferenceIdeal.τ) (Cert.GradUpReferenceIdeal.main (F := Ideal))) ⟨m, fun _ => 0, g⟩ (fun r => (∀ c : Dev Cert.GradUpReferenceIdeal.nD,
      r.2.mem ((c.tc : Thread Cert.GradUpReferenceIdeal.nD Cert.GradUpReferenceIdeal.τ).loc Cert.GradUpReferenceIdeal.main_arg0) = m ((c.tc : Thread Cert.GradUpReferenceIdeal.nD Cert.GradUpReferenceIdeal.τ).loc Cert.GradUpReferenceIdeal.main_arg0)
      ∧ r.2.mem ((c.tc : Thread Cert.GradUpReferenceIdeal.nD Cert.GradUpReferenceIdeal.τ).loc Cert.GradUpReferenceIdeal.main_arg1) = m ((c.tc : Thread Cert.GradUpReferenceIdeal.nD Cert.GradUpReferenceIdeal.τ).loc Cert.GradUpReferenceIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInReferenceIdeal [hGradInReferenceIdeal : Cert.GradInReferenceIdeal.Facts] : Prop :=
  ∀ (m : (ℓ : Loc Cert.GradInReferenceIdeal.nD Cert.GradInReferenceIdeal.τ Cert.GradInReferenceIdeal.sig) → Buf (Elt Ideal) ℓ) (g : Dev Cert.GradInReferenceIdeal.nD → PrngReg), Pre_GradInReferenceIdeal m →
    θ_run (Cert.GradInReferenceIdeal.defs (F := Ideal)) (onTc (τ := Cert.GradInReferenceIdeal.τ) (Cert.GradInReferenceIdeal.main (F := Ideal))) ⟨m, fun _ => 0, g⟩ (fun r => (∀ c : Dev Cert.GradInReferenceIdeal.nD,
      r.2.mem ((c.tc : Thread Cert.GradInReferenceIdeal.nD Cert.GradInReferenceIdeal.τ).loc Cert.GradInReferenceIdeal.main_arg0) = m ((c.tc : Thread Cert.GradInReferenceIdeal.nD Cert.GradInReferenceIdeal.τ).loc Cert.GradInReferenceIdeal.main_arg0)
      ∧ r.2.mem ((c.tc : Thread Cert.GradInReferenceIdeal.nD Cert.GradInReferenceIdeal.τ).loc Cert.GradInReferenceIdeal.main_arg1) = m ((c.tc : Thread Cert.GradInReferenceIdeal.nD Cert.GradInReferenceIdeal.τ).loc Cert.GradInReferenceIdeal.main_arg1))
      ∧ r.2.sem = fun _ => 0)

def quiescent_GradAtt [hGradAtt : Cert.GradAtt.Facts] : Prop :=
  ∀ (m : (ℓ : Loc Cert.GradAtt.nD Cert.GradAtt.τ Cert.GradAtt.sig) → Buf (Elt Bits) ℓ) (g : Dev Cert.GradAtt.nD → PrngReg), Pre_GradAtt m →
    θ_run (Cert.GradAtt.defs (F := Bits)) (onTc (τ := Cert.GradAtt.τ) (Cert.GradAtt.main (F := Bits))) ⟨m, fun _ => 0, g⟩ (fun r => (∀ c : Dev Cert.GradAtt.nD,
      r.2.mem ((c.tc : Thread Cert.GradAtt.nD Cert.GradAtt.τ).loc Cert.GradAtt.main_arg0) = m ((c.tc : Thread Cert.GradAtt.nD Cert.GradAtt.τ).loc Cert.GradAtt.main_arg0)
      ∧ r.2.mem ((c.tc : Thread Cert.GradAtt.nD Cert.GradAtt.τ).loc Cert.GradAtt.main_arg1) = m ((c.tc : Thread Cert.GradAtt.nD Cert.GradAtt.τ).loc Cert.GradAtt.main_arg1))
      ∧ r.2.sem = fun _ => 0)

def quiescent_GradAttIdeal [hGradAttIdeal : Cert.GradAttIdeal.Facts] : Prop :=
  ∀ (m : (ℓ : Loc Cert.GradAttIdeal.nD Cert.GradAttIdeal.τ Cert.GradAttIdeal.sig) → Buf (Elt Ideal) ℓ) (g : Dev Cert.GradAttIdeal.nD → PrngReg), Pre_GradAttIdeal m →
    θ_run (Cert.GradAttIdeal.defs (F := Ideal)) (onTc (τ := Cert.GradAttIdeal.τ) (Cert.GradAttIdeal.main (F := Ideal))) ⟨m, fun _ => 0, g⟩ (fun r => (∀ c : Dev Cert.GradAttIdeal.nD,
      r.2.mem ((c.tc : Thread Cert.GradAttIdeal.nD Cert.GradAttIdeal.τ).loc Cert.GradAttIdeal.main_arg0) = m ((c.tc : Thread Cert.GradAttIdeal.nD Cert.GradAttIdeal.τ).loc Cert.GradAttIdeal.main_arg0)
      ∧ r.2.mem ((c.tc : Thread Cert.GradAttIdeal.nD Cert.GradAttIdeal.τ).loc Cert.GradAttIdeal.main_arg1) = m ((c.tc : Thread Cert.GradAttIdeal.nD Cert.GradAttIdeal.τ).loc Cert.GradAttIdeal.main_arg1))
      ∧ r.2.sem = fun _ => 0)

def quiescent_GradAttReferenceIdeal [hGradAttReferenceIdeal : Cert.GradAttReferenceIdeal.Facts] : Prop :=
  ∀ (m : (ℓ : Loc Cert.GradAttReferenceIdeal.nD Cert.GradAttReferenceIdeal.τ Cert.GradAttReferenceIdeal.sig) → Buf (Elt Ideal) ℓ) (g : Dev Cert.GradAttReferenceIdeal.nD → PrngReg), Pre_GradAttReferenceIdeal m →
    θ_run (Cert.GradAttReferenceIdeal.defs (F := Ideal)) (onTc (τ := Cert.GradAttReferenceIdeal.τ) (Cert.GradAttReferenceIdeal.main (F := Ideal))) ⟨m, fun _ => 0, g⟩ (fun r => (∀ c : Dev Cert.GradAttReferenceIdeal.nD,
      r.2.mem ((c.tc : Thread Cert.GradAttReferenceIdeal.nD Cert.GradAttReferenceIdeal.τ).loc Cert.GradAttReferenceIdeal.main_arg0) = m ((c.tc : Thread Cert.GradAttReferenceIdeal.nD Cert.GradAttReferenceIdeal.τ).loc Cert.GradAttReferenceIdeal.main_arg0)
      ∧ r.2.mem ((c.tc : Thread Cert.GradAttReferenceIdeal.nD Cert.GradAttReferenceIdeal.τ).loc Cert.GradAttReferenceIdeal.main_arg1) = m ((c.tc : Thread Cert.GradAttReferenceIdeal.nD Cert.GradAttReferenceIdeal.τ).loc Cert.GradAttReferenceIdeal.main_arg1))
      ∧ r.2.sem = fun _ => 0)

def quiescent_GradBranch [hGradBranch : Cert.GradBranch.Facts] : Prop :=
  ∀ (m : (ℓ : Loc Cert.GradBranch.nD Cert.GradBranch.τ Cert.GradBranch.sig) → Buf (Elt Bits) ℓ) (g : Dev Cert.GradBranch.nD → PrngReg), Pre_GradBranch m →
    θ_run (Cert.GradBranch.defs (F := Bits)) (onTc (τ := Cert.GradBranch.τ) (Cert.GradBranch.main (F := Bits))) ⟨m, fun _ => 0, g⟩ (fun r => (∀ c : Dev Cert.GradBranch.nD,
      r.2.mem ((c.tc : Thread Cert.GradBranch.nD Cert.GradBranch.τ).loc Cert.GradBranch.main_arg0) = m ((c.tc : Thread Cert.GradBranch.nD Cert.GradBranch.τ).loc Cert.GradBranch.main_arg0)
      ∧ r.2.mem ((c.tc : Thread Cert.GradBranch.nD Cert.GradBranch.τ).loc Cert.GradBranch.main_arg1) = m ((c.tc : Thread Cert.GradBranch.nD Cert.GradBranch.τ).loc Cert.GradBranch.main_arg1))
      ∧ r.2.sem = fun _ => 0)

def quiescent_GradBranchIdeal [hGradBranchIdeal : Cert.GradBranchIdeal.Facts] : Prop :=
  ∀ (m : (ℓ : Loc Cert.GradBranchIdeal.nD Cert.GradBranchIdeal.τ Cert.GradBranchIdeal.sig) → Buf (Elt Ideal) ℓ) (g : Dev Cert.GradBranchIdeal.nD → PrngReg), Pre_GradBranchIdeal m →
    θ_run (Cert.GradBranchIdeal.defs (F := Ideal)) (onTc (τ := Cert.GradBranchIdeal.τ) (Cert.GradBranchIdeal.main (F := Ideal))) ⟨m, fun _ => 0, g⟩ (fun r => (∀ c : Dev Cert.GradBranchIdeal.nD,
      r.2.mem ((c.tc : Thread Cert.GradBranchIdeal.nD Cert.GradBranchIdeal.τ).loc Cert.GradBranchIdeal.main_arg0) = m ((c.tc : Thread Cert.GradBranchIdeal.nD Cert.GradBranchIdeal.τ).loc Cert.GradBranchIdeal.main_arg0)
      ∧ r.2.mem ((c.tc : Thread Cert.GradBranchIdeal.nD Cert.GradBranchIdeal.τ).loc Cert.GradBranchIdeal.main_arg1) = m ((c.tc : Thread Cert.GradBranchIdeal.nD Cert.GradBranchIdeal.τ).loc Cert.GradBranchIdeal.main_arg1))
      ∧ r.2.sem = fun _ => 0)

def quiescent_GradBranchReferenceIdeal [hGradBranchReferenceIdeal : Cert.GradBranchReferenceIdeal.Facts] : Prop :=
  ∀ (m : (ℓ : Loc Cert.GradBranchReferenceIdeal.nD Cert.GradBranchReferenceIdeal.τ Cert.GradBranchReferenceIdeal.sig) → Buf (Elt Ideal) ℓ) (g : Dev Cert.GradBranchReferenceIdeal.nD → PrngReg), Pre_GradBranchReferenceIdeal m →
    θ_run (Cert.GradBranchReferenceIdeal.defs (F := Ideal)) (onTc (τ := Cert.GradBranchReferenceIdeal.τ) (Cert.GradBranchReferenceIdeal.main (F := Ideal))) ⟨m, fun _ => 0, g⟩ (fun r => (∀ c : Dev Cert.GradBranchReferenceIdeal.nD,
      r.2.mem ((c.tc : Thread Cert.GradBranchReferenceIdeal.nD Cert.GradBranchReferenceIdeal.τ).loc Cert.GradBranchReferenceIdeal.main_arg0) = m ((c.tc : Thread Cert.GradBranchReferenceIdeal.nD Cert.GradBranchReferenceIdeal.τ).loc Cert.GradBranchReferenceIdeal.main_arg0)
      ∧ r.2.mem ((c.tc : Thread Cert.GradBranchReferenceIdeal.nD Cert.GradBranchReferenceIdeal.τ).loc Cert.GradBranchReferenceIdeal.main_arg1) = m ((c.tc : Thread Cert.GradBranchReferenceIdeal.nD Cert.GradBranchReferenceIdeal.τ).loc Cert.GradBranchReferenceIdeal.main_arg1))
      ∧ r.2.sem = fun _ => 0)

def quiescent_InAtt [hInAtt : Cert.InAtt.Facts] : Prop :=
  ∀ (m : (ℓ : Loc Cert.InAtt.nD Cert.InAtt.τ Cert.InAtt.sig) → Buf (Elt Bits) ℓ) (g : Dev Cert.InAtt.nD → PrngReg), Pre_InAtt m →
    θ_run (Cert.InAtt.defs (F := Bits)) (onTc (τ := Cert.InAtt.τ) (Cert.InAtt.main (F := Bits))) ⟨m, fun _ => 0, g⟩ (fun r => (∀ c : Dev Cert.InAtt.nD,
      r.2.mem ((c.tc : Thread Cert.InAtt.nD Cert.InAtt.τ).loc Cert.InAtt.main_arg0) = m ((c.tc : Thread Cert.InAtt.nD Cert.InAtt.τ).loc Cert.InAtt.main_arg0)
      ∧ r.2.mem ((c.tc : Thread Cert.InAtt.nD Cert.InAtt.τ).loc Cert.InAtt.main_arg1) = m ((c.tc : Thread Cert.InAtt.nD Cert.InAtt.τ).loc Cert.InAtt.main_arg1))
      ∧ r.2.sem = fun _ => 0)

def quiescent_InAttIdeal [hInAttIdeal : Cert.InAttIdeal.Facts] : Prop :=
  ∀ (m : (ℓ : Loc Cert.InAttIdeal.nD Cert.InAttIdeal.τ Cert.InAttIdeal.sig) → Buf (Elt Ideal) ℓ) (g : Dev Cert.InAttIdeal.nD → PrngReg), Pre_InAttIdeal m →
    θ_run (Cert.InAttIdeal.defs (F := Ideal)) (onTc (τ := Cert.InAttIdeal.τ) (Cert.InAttIdeal.main (F := Ideal))) ⟨m, fun _ => 0, g⟩ (fun r => (∀ c : Dev Cert.InAttIdeal.nD,
      r.2.mem ((c.tc : Thread Cert.InAttIdeal.nD Cert.InAttIdeal.τ).loc Cert.InAttIdeal.main_arg0) = m ((c.tc : Thread Cert.InAttIdeal.nD Cert.InAttIdeal.τ).loc Cert.InAttIdeal.main_arg0)
      ∧ r.2.mem ((c.tc : Thread Cert.InAttIdeal.nD Cert.InAttIdeal.τ).loc Cert.InAttIdeal.main_arg1) = m ((c.tc : Thread Cert.InAttIdeal.nD Cert.InAttIdeal.τ).loc Cert.InAttIdeal.main_arg1))
      ∧ r.2.sem = fun _ => 0)

def quiescent_InAttReferenceIdeal [hInAttReferenceIdeal : Cert.InAttReferenceIdeal.Facts] : Prop :=
  ∀ (m : (ℓ : Loc Cert.InAttReferenceIdeal.nD Cert.InAttReferenceIdeal.τ Cert.InAttReferenceIdeal.sig) → Buf (Elt Ideal) ℓ) (g : Dev Cert.InAttReferenceIdeal.nD → PrngReg), Pre_InAttReferenceIdeal m →
    θ_run (Cert.InAttReferenceIdeal.defs (F := Ideal)) (onTc (τ := Cert.InAttReferenceIdeal.τ) (Cert.InAttReferenceIdeal.main (F := Ideal))) ⟨m, fun _ => 0, g⟩ (fun r => (∀ c : Dev Cert.InAttReferenceIdeal.nD,
      r.2.mem ((c.tc : Thread Cert.InAttReferenceIdeal.nD Cert.InAttReferenceIdeal.τ).loc Cert.InAttReferenceIdeal.main_arg0) = m ((c.tc : Thread Cert.InAttReferenceIdeal.nD Cert.InAttReferenceIdeal.τ).loc Cert.InAttReferenceIdeal.main_arg0)
      ∧ r.2.mem ((c.tc : Thread Cert.InAttReferenceIdeal.nD Cert.InAttReferenceIdeal.τ).loc Cert.InAttReferenceIdeal.main_arg1) = m ((c.tc : Thread Cert.InAttReferenceIdeal.nD Cert.InAttReferenceIdeal.τ).loc Cert.InAttReferenceIdeal.main_arg1))
      ∧ r.2.sem = fun _ => 0)

def quiescent_InRest [hInRest : Cert.InRest.Facts] : Prop :=
  ∀ (m : (ℓ : Loc Cert.InRest.nD Cert.InRest.τ Cert.InRest.sig) → Buf (Elt Bits) ℓ) (g : Dev Cert.InRest.nD → PrngReg), Pre_InRest m →
    θ_run (Cert.InRest.defs (F := Bits)) (onTc (τ := Cert.InRest.τ) (Cert.InRest.main (F := Bits))) ⟨m, fun _ => 0, g⟩ (fun r => (∀ c : Dev Cert.InRest.nD,
      r.2.mem ((c.tc : Thread Cert.InRest.nD Cert.InRest.τ).loc Cert.InRest.main_arg0) = m ((c.tc : Thread Cert.InRest.nD Cert.InRest.τ).loc Cert.InRest.main_arg0)
      ∧ r.2.mem ((c.tc : Thread Cert.InRest.nD Cert.InRest.τ).loc Cert.InRest.main_arg1) = m ((c.tc : Thread Cert.InRest.nD Cert.InRest.τ).loc Cert.InRest.main_arg1))
      ∧ r.2.sem = fun _ => 0)

def quiescent_InRestIdeal [hInRestIdeal : Cert.InRestIdeal.Facts] : Prop :=
  ∀ (m : (ℓ : Loc Cert.InRestIdeal.nD Cert.InRestIdeal.τ Cert.InRestIdeal.sig) → Buf (Elt Ideal) ℓ) (g : Dev Cert.InRestIdeal.nD → PrngReg), Pre_InRestIdeal m →
    θ_run (Cert.InRestIdeal.defs (F := Ideal)) (onTc (τ := Cert.InRestIdeal.τ) (Cert.InRestIdeal.main (F := Ideal))) ⟨m, fun _ => 0, g⟩ (fun r => (∀ c : Dev Cert.InRestIdeal.nD,
      r.2.mem ((c.tc : Thread Cert.InRestIdeal.nD Cert.InRestIdeal.τ).loc Cert.InRestIdeal.main_arg0) = m ((c.tc : Thread Cert.InRestIdeal.nD Cert.InRestIdeal.τ).loc Cert.InRestIdeal.main_arg0)
      ∧ r.2.mem ((c.tc : Thread Cert.InRestIdeal.nD Cert.InRestIdeal.τ).loc Cert.InRestIdeal.main_arg1) = m ((c.tc : Thread Cert.InRestIdeal.nD Cert.InRestIdeal.τ).loc Cert.InRestIdeal.main_arg1))
      ∧ r.2.sem = fun _ => 0)

def quiescent_InRestReferenceIdeal [hInRestReferenceIdeal : Cert.InRestReferenceIdeal.Facts] : Prop :=
  ∀ (m : (ℓ : Loc Cert.InRestReferenceIdeal.nD Cert.InRestReferenceIdeal.τ Cert.InRestReferenceIdeal.sig) → Buf (Elt Ideal) ℓ) (g : Dev Cert.InRestReferenceIdeal.nD → PrngReg), Pre_InRestReferenceIdeal m →
    θ_run (Cert.InRestReferenceIdeal.defs (F := Ideal)) (onTc (τ := Cert.InRestReferenceIdeal.τ) (Cert.InRestReferenceIdeal.main (F := Ideal))) ⟨m, fun _ => 0, g⟩ (fun r => (∀ c : Dev Cert.InRestReferenceIdeal.nD,
      r.2.mem ((c.tc : Thread Cert.InRestReferenceIdeal.nD Cert.InRestReferenceIdeal.τ).loc Cert.InRestReferenceIdeal.main_arg0) = m ((c.tc : Thread Cert.InRestReferenceIdeal.nD Cert.InRestReferenceIdeal.τ).loc Cert.InRestReferenceIdeal.main_arg0)
      ∧ r.2.mem ((c.tc : Thread Cert.InRestReferenceIdeal.nD Cert.InRestReferenceIdeal.τ).loc Cert.InRestReferenceIdeal.main_arg1) = m ((c.tc : Thread Cert.InRestReferenceIdeal.nD Cert.InRestReferenceIdeal.τ).loc Cert.InRestReferenceIdeal.main_arg1))
      ∧ r.2.sem = fun _ => 0)

def quiescent_BackAtt [hBackAtt : Cert.BackAtt.Facts] : Prop :=
  ∀ (m : (ℓ : Loc Cert.BackAtt.nD Cert.BackAtt.τ Cert.BackAtt.sig) → Buf (Elt Bits) ℓ) (g : Dev Cert.BackAtt.nD → PrngReg), Pre_BackAtt m →
    θ_run (Cert.BackAtt.defs (F := Bits)) (onTc (τ := Cert.BackAtt.τ) (Cert.BackAtt.main (F := Bits))) ⟨m, fun _ => 0, g⟩ (fun r => (∀ c : Dev Cert.BackAtt.nD,
      r.2.mem ((c.tc : Thread Cert.BackAtt.nD Cert.BackAtt.τ).loc Cert.BackAtt.main_arg0) = m ((c.tc : Thread Cert.BackAtt.nD Cert.BackAtt.τ).loc Cert.BackAtt.main_arg0)
      ∧ r.2.mem ((c.tc : Thread Cert.BackAtt.nD Cert.BackAtt.τ).loc Cert.BackAtt.main_arg1) = m ((c.tc : Thread Cert.BackAtt.nD Cert.BackAtt.τ).loc Cert.BackAtt.main_arg1))
      ∧ r.2.sem = fun _ => 0)

def quiescent_BackAttIdeal [hBackAttIdeal : Cert.BackAttIdeal.Facts] : Prop :=
  ∀ (m : (ℓ : Loc Cert.BackAttIdeal.nD Cert.BackAttIdeal.τ Cert.BackAttIdeal.sig) → Buf (Elt Ideal) ℓ) (g : Dev Cert.BackAttIdeal.nD → PrngReg), Pre_BackAttIdeal m →
    θ_run (Cert.BackAttIdeal.defs (F := Ideal)) (onTc (τ := Cert.BackAttIdeal.τ) (Cert.BackAttIdeal.main (F := Ideal))) ⟨m, fun _ => 0, g⟩ (fun r => (∀ c : Dev Cert.BackAttIdeal.nD,
      r.2.mem ((c.tc : Thread Cert.BackAttIdeal.nD Cert.BackAttIdeal.τ).loc Cert.BackAttIdeal.main_arg0) = m ((c.tc : Thread Cert.BackAttIdeal.nD Cert.BackAttIdeal.τ).loc Cert.BackAttIdeal.main_arg0)
      ∧ r.2.mem ((c.tc : Thread Cert.BackAttIdeal.nD Cert.BackAttIdeal.τ).loc Cert.BackAttIdeal.main_arg1) = m ((c.tc : Thread Cert.BackAttIdeal.nD Cert.BackAttIdeal.τ).loc Cert.BackAttIdeal.main_arg1))
      ∧ r.2.sem = fun _ => 0)

def quiescent_BackAttReferenceIdeal [hBackAttReferenceIdeal : Cert.BackAttReferenceIdeal.Facts] : Prop :=
  ∀ (m : (ℓ : Loc Cert.BackAttReferenceIdeal.nD Cert.BackAttReferenceIdeal.τ Cert.BackAttReferenceIdeal.sig) → Buf (Elt Ideal) ℓ) (g : Dev Cert.BackAttReferenceIdeal.nD → PrngReg), Pre_BackAttReferenceIdeal m →
    θ_run (Cert.BackAttReferenceIdeal.defs (F := Ideal)) (onTc (τ := Cert.BackAttReferenceIdeal.τ) (Cert.BackAttReferenceIdeal.main (F := Ideal))) ⟨m, fun _ => 0, g⟩ (fun r => (∀ c : Dev Cert.BackAttReferenceIdeal.nD,
      r.2.mem ((c.tc : Thread Cert.BackAttReferenceIdeal.nD Cert.BackAttReferenceIdeal.τ).loc Cert.BackAttReferenceIdeal.main_arg0) = m ((c.tc : Thread Cert.BackAttReferenceIdeal.nD Cert.BackAttReferenceIdeal.τ).loc Cert.BackAttReferenceIdeal.main_arg0)
      ∧ r.2.mem ((c.tc : Thread Cert.BackAttReferenceIdeal.nD Cert.BackAttReferenceIdeal.τ).loc Cert.BackAttReferenceIdeal.main_arg1) = m ((c.tc : Thread Cert.BackAttReferenceIdeal.nD Cert.BackAttReferenceIdeal.τ).loc Cert.BackAttReferenceIdeal.main_arg1))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4))
      ∧ r.2.sem = fun _ => 0)

def quiescent_UpBack [hUpBack : Cert.UpBack.Facts] : Prop :=
  ∀ (m : (ℓ : Loc Cert.UpBack.nD Cert.UpBack.τ Cert.UpBack.sig) → Buf (Elt Bits) ℓ) (g : Dev Cert.UpBack.nD → PrngReg), Pre_UpBack m →
    θ_run (Cert.UpBack.defs (F := Bits)) (onTc (τ := Cert.UpBack.τ) (Cert.UpBack.main (F := Bits))) ⟨m, fun _ => 0, g⟩ (fun r => (∀ c : Dev Cert.UpBack.nD,
      r.2.mem ((c.tc : Thread Cert.UpBack.nD Cert.UpBack.τ).loc Cert.UpBack.main_arg0) = m ((c.tc : Thread Cert.UpBack.nD Cert.UpBack.τ).loc Cert.UpBack.main_arg0)
      ∧ r.2.mem ((c.tc : Thread Cert.UpBack.nD Cert.UpBack.τ).loc Cert.UpBack.main_arg1) = m ((c.tc : Thread Cert.UpBack.nD Cert.UpBack.τ).loc Cert.UpBack.main_arg1)
      ∧ r.2.mem ((c.tc : Thread Cert.UpBack.nD Cert.UpBack.τ).loc Cert.UpBack.main_arg2) = m ((c.tc : Thread Cert.UpBack.nD Cert.UpBack.τ).loc Cert.UpBack.main_arg2)
      ∧ r.2.mem ((c.tc : Thread Cert.UpBack.nD Cert.UpBack.τ).loc Cert.UpBack.main_arg3) = m ((c.tc : Thread Cert.UpBack.nD Cert.UpBack.τ).loc Cert.UpBack.main_arg3)
      ∧ r.2.mem ((c.tc : Thread Cert.UpBack.nD Cert.UpBack.τ).loc Cert.UpBack.main_arg4) = m ((c.tc : Thread Cert.UpBack.nD Cert.UpBack.τ).loc Cert.UpBack.main_arg4))
      ∧ r.2.sem = fun _ => 0)

def quiescent_UpBackIdeal [hUpBackIdeal : Cert.UpBackIdeal.Facts] : Prop :=
  ∀ (m : (ℓ : Loc Cert.UpBackIdeal.nD Cert.UpBackIdeal.τ Cert.UpBackIdeal.sig) → Buf (Elt Ideal) ℓ) (g : Dev Cert.UpBackIdeal.nD → PrngReg), Pre_UpBackIdeal m →
    θ_run (Cert.UpBackIdeal.defs (F := Ideal)) (onTc (τ := Cert.UpBackIdeal.τ) (Cert.UpBackIdeal.main (F := Ideal))) ⟨m, fun _ => 0, g⟩ (fun r => (∀ c : Dev Cert.UpBackIdeal.nD,
      r.2.mem ((c.tc : Thread Cert.UpBackIdeal.nD Cert.UpBackIdeal.τ).loc Cert.UpBackIdeal.main_arg0) = m ((c.tc : Thread Cert.UpBackIdeal.nD Cert.UpBackIdeal.τ).loc Cert.UpBackIdeal.main_arg0)
      ∧ r.2.mem ((c.tc : Thread Cert.UpBackIdeal.nD Cert.UpBackIdeal.τ).loc Cert.UpBackIdeal.main_arg1) = m ((c.tc : Thread Cert.UpBackIdeal.nD Cert.UpBackIdeal.τ).loc Cert.UpBackIdeal.main_arg1)
      ∧ r.2.mem ((c.tc : Thread Cert.UpBackIdeal.nD Cert.UpBackIdeal.τ).loc Cert.UpBackIdeal.main_arg2) = m ((c.tc : Thread Cert.UpBackIdeal.nD Cert.UpBackIdeal.τ).loc Cert.UpBackIdeal.main_arg2)
      ∧ r.2.mem ((c.tc : Thread Cert.UpBackIdeal.nD Cert.UpBackIdeal.τ).loc Cert.UpBackIdeal.main_arg3) = m ((c.tc : Thread Cert.UpBackIdeal.nD Cert.UpBackIdeal.τ).loc Cert.UpBackIdeal.main_arg3)
      ∧ r.2.mem ((c.tc : Thread Cert.UpBackIdeal.nD Cert.UpBackIdeal.τ).loc Cert.UpBackIdeal.main_arg4) = m ((c.tc : Thread Cert.UpBackIdeal.nD Cert.UpBackIdeal.τ).loc Cert.UpBackIdeal.main_arg4))
      ∧ r.2.sem = fun _ => 0)

def quiescent_UpBackReferenceIdeal [hUpBackReferenceIdeal : Cert.UpBackReferenceIdeal.Facts] : Prop :=
  ∀ (m : (ℓ : Loc Cert.UpBackReferenceIdeal.nD Cert.UpBackReferenceIdeal.τ Cert.UpBackReferenceIdeal.sig) → Buf (Elt Ideal) ℓ) (g : Dev Cert.UpBackReferenceIdeal.nD → PrngReg), Pre_UpBackReferenceIdeal m →
    θ_run (Cert.UpBackReferenceIdeal.defs (F := Ideal)) (onTc (τ := Cert.UpBackReferenceIdeal.τ) (Cert.UpBackReferenceIdeal.main (F := Ideal))) ⟨m, fun _ => 0, g⟩ (fun r => (∀ c : Dev Cert.UpBackReferenceIdeal.nD,
      r.2.mem ((c.tc : Thread Cert.UpBackReferenceIdeal.nD Cert.UpBackReferenceIdeal.τ).loc Cert.UpBackReferenceIdeal.main_arg0) = m ((c.tc : Thread Cert.UpBackReferenceIdeal.nD Cert.UpBackReferenceIdeal.τ).loc Cert.UpBackReferenceIdeal.main_arg0)
      ∧ r.2.mem ((c.tc : Thread Cert.UpBackReferenceIdeal.nD Cert.UpBackReferenceIdeal.τ).loc Cert.UpBackReferenceIdeal.main_arg1) = m ((c.tc : Thread Cert.UpBackReferenceIdeal.nD Cert.UpBackReferenceIdeal.τ).loc Cert.UpBackReferenceIdeal.main_arg1)
      ∧ r.2.mem ((c.tc : Thread Cert.UpBackReferenceIdeal.nD Cert.UpBackReferenceIdeal.τ).loc Cert.UpBackReferenceIdeal.main_arg2) = m ((c.tc : Thread Cert.UpBackReferenceIdeal.nD Cert.UpBackReferenceIdeal.τ).loc Cert.UpBackReferenceIdeal.main_arg2)
      ∧ r.2.mem ((c.tc : Thread Cert.UpBackReferenceIdeal.nD Cert.UpBackReferenceIdeal.τ).loc Cert.UpBackReferenceIdeal.main_arg3) = m ((c.tc : Thread Cert.UpBackReferenceIdeal.nD Cert.UpBackReferenceIdeal.τ).loc Cert.UpBackReferenceIdeal.main_arg3)
      ∧ r.2.mem ((c.tc : Thread Cert.UpBackReferenceIdeal.nD Cert.UpBackReferenceIdeal.τ).loc Cert.UpBackReferenceIdeal.main_arg4) = m ((c.tc : Thread Cert.UpBackReferenceIdeal.nD Cert.UpBackReferenceIdeal.τ).loc Cert.UpBackReferenceIdeal.main_arg4))
      ∧ r.2.sem = fun _ => 0)

def quiescent_RestBack [hRestBack : Cert.RestBack.Facts] : Prop :=
  ∀ (m : (ℓ : Loc Cert.RestBack.nD Cert.RestBack.τ Cert.RestBack.sig) → Buf (Elt Bits) ℓ) (g : Dev Cert.RestBack.nD → PrngReg), Pre_RestBack m →
    θ_run (Cert.RestBack.defs (F := Bits)) (onTc (τ := Cert.RestBack.τ) (Cert.RestBack.main (F := Bits))) ⟨m, fun _ => 0, g⟩ (fun r => (∀ c : Dev Cert.RestBack.nD,
      r.2.mem ((c.tc : Thread Cert.RestBack.nD Cert.RestBack.τ).loc Cert.RestBack.main_arg0) = m ((c.tc : Thread Cert.RestBack.nD Cert.RestBack.τ).loc Cert.RestBack.main_arg0)
      ∧ r.2.mem ((c.tc : Thread Cert.RestBack.nD Cert.RestBack.τ).loc Cert.RestBack.main_arg1) = m ((c.tc : Thread Cert.RestBack.nD Cert.RestBack.τ).loc Cert.RestBack.main_arg1)
      ∧ r.2.mem ((c.tc : Thread Cert.RestBack.nD Cert.RestBack.τ).loc Cert.RestBack.main_arg2) = m ((c.tc : Thread Cert.RestBack.nD Cert.RestBack.τ).loc Cert.RestBack.main_arg2)
      ∧ r.2.mem ((c.tc : Thread Cert.RestBack.nD Cert.RestBack.τ).loc Cert.RestBack.main_arg3) = m ((c.tc : Thread Cert.RestBack.nD Cert.RestBack.τ).loc Cert.RestBack.main_arg3)
      ∧ r.2.mem ((c.tc : Thread Cert.RestBack.nD Cert.RestBack.τ).loc Cert.RestBack.main_arg4) = m ((c.tc : Thread Cert.RestBack.nD Cert.RestBack.τ).loc Cert.RestBack.main_arg4)
      ∧ r.2.mem ((c.tc : Thread Cert.RestBack.nD Cert.RestBack.τ).loc Cert.RestBack.main_arg5) = m ((c.tc : Thread Cert.RestBack.nD Cert.RestBack.τ).loc Cert.RestBack.main_arg5))
      ∧ r.2.sem = fun _ => 0)

def quiescent_RestBackIdeal [hRestBackIdeal : Cert.RestBackIdeal.Facts] : Prop :=
  ∀ (m : (ℓ : Loc Cert.RestBackIdeal.nD Cert.RestBackIdeal.τ Cert.RestBackIdeal.sig) → Buf (Elt Ideal) ℓ) (g : Dev Cert.RestBackIdeal.nD → PrngReg), Pre_RestBackIdeal m →
    θ_run (Cert.RestBackIdeal.defs (F := Ideal)) (onTc (τ := Cert.RestBackIdeal.τ) (Cert.RestBackIdeal.main (F := Ideal))) ⟨m, fun _ => 0, g⟩ (fun r => (∀ c : Dev Cert.RestBackIdeal.nD,
      r.2.mem ((c.tc : Thread Cert.RestBackIdeal.nD Cert.RestBackIdeal.τ).loc Cert.RestBackIdeal.main_arg0) = m ((c.tc : Thread Cert.RestBackIdeal.nD Cert.RestBackIdeal.τ).loc Cert.RestBackIdeal.main_arg0)
      ∧ r.2.mem ((c.tc : Thread Cert.RestBackIdeal.nD Cert.RestBackIdeal.τ).loc Cert.RestBackIdeal.main_arg1) = m ((c.tc : Thread Cert.RestBackIdeal.nD Cert.RestBackIdeal.τ).loc Cert.RestBackIdeal.main_arg1)
      ∧ r.2.mem ((c.tc : Thread Cert.RestBackIdeal.nD Cert.RestBackIdeal.τ).loc Cert.RestBackIdeal.main_arg2) = m ((c.tc : Thread Cert.RestBackIdeal.nD Cert.RestBackIdeal.τ).loc Cert.RestBackIdeal.main_arg2)
      ∧ r.2.mem ((c.tc : Thread Cert.RestBackIdeal.nD Cert.RestBackIdeal.τ).loc Cert.RestBackIdeal.main_arg3) = m ((c.tc : Thread Cert.RestBackIdeal.nD Cert.RestBackIdeal.τ).loc Cert.RestBackIdeal.main_arg3)
      ∧ r.2.mem ((c.tc : Thread Cert.RestBackIdeal.nD Cert.RestBackIdeal.τ).loc Cert.RestBackIdeal.main_arg4) = m ((c.tc : Thread Cert.RestBackIdeal.nD Cert.RestBackIdeal.τ).loc Cert.RestBackIdeal.main_arg4)
      ∧ r.2.mem ((c.tc : Thread Cert.RestBackIdeal.nD Cert.RestBackIdeal.τ).loc Cert.RestBackIdeal.main_arg5) = m ((c.tc : Thread Cert.RestBackIdeal.nD Cert.RestBackIdeal.τ).loc Cert.RestBackIdeal.main_arg5))
      ∧ r.2.sem = fun _ => 0)

def quiescent_RestBackReferenceIdeal [hRestBackReferenceIdeal : Cert.RestBackReferenceIdeal.Facts] : Prop :=
  ∀ (m : (ℓ : Loc Cert.RestBackReferenceIdeal.nD Cert.RestBackReferenceIdeal.τ Cert.RestBackReferenceIdeal.sig) → Buf (Elt Ideal) ℓ) (g : Dev Cert.RestBackReferenceIdeal.nD → PrngReg), Pre_RestBackReferenceIdeal m →
    θ_run (Cert.RestBackReferenceIdeal.defs (F := Ideal)) (onTc (τ := Cert.RestBackReferenceIdeal.τ) (Cert.RestBackReferenceIdeal.main (F := Ideal))) ⟨m, fun _ => 0, g⟩ (fun r => (∀ c : Dev Cert.RestBackReferenceIdeal.nD,
      r.2.mem ((c.tc : Thread Cert.RestBackReferenceIdeal.nD Cert.RestBackReferenceIdeal.τ).loc Cert.RestBackReferenceIdeal.main_arg0) = m ((c.tc : Thread Cert.RestBackReferenceIdeal.nD Cert.RestBackReferenceIdeal.τ).loc Cert.RestBackReferenceIdeal.main_arg0)
      ∧ r.2.mem ((c.tc : Thread Cert.RestBackReferenceIdeal.nD Cert.RestBackReferenceIdeal.τ).loc Cert.RestBackReferenceIdeal.main_arg1) = m ((c.tc : Thread Cert.RestBackReferenceIdeal.nD Cert.RestBackReferenceIdeal.τ).loc Cert.RestBackReferenceIdeal.main_arg1)
      ∧ r.2.mem ((c.tc : Thread Cert.RestBackReferenceIdeal.nD Cert.RestBackReferenceIdeal.τ).loc Cert.RestBackReferenceIdeal.main_arg2) = m ((c.tc : Thread Cert.RestBackReferenceIdeal.nD Cert.RestBackReferenceIdeal.τ).loc Cert.RestBackReferenceIdeal.main_arg2)
      ∧ r.2.mem ((c.tc : Thread Cert.RestBackReferenceIdeal.nD Cert.RestBackReferenceIdeal.τ).loc Cert.RestBackReferenceIdeal.main_arg3) = m ((c.tc : Thread Cert.RestBackReferenceIdeal.nD Cert.RestBackReferenceIdeal.τ).loc Cert.RestBackReferenceIdeal.main_arg3)
      ∧ r.2.mem ((c.tc : Thread Cert.RestBackReferenceIdeal.nD Cert.RestBackReferenceIdeal.τ).loc Cert.RestBackReferenceIdeal.main_arg4) = m ((c.tc : Thread Cert.RestBackReferenceIdeal.nD Cert.RestBackReferenceIdeal.τ).loc Cert.RestBackReferenceIdeal.main_arg4)
      ∧ r.2.mem ((c.tc : Thread Cert.RestBackReferenceIdeal.nD Cert.RestBackReferenceIdeal.τ).loc Cert.RestBackReferenceIdeal.main_arg5) = m ((c.tc : Thread Cert.RestBackReferenceIdeal.nD Cert.RestBackReferenceIdeal.τ).loc Cert.RestBackReferenceIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutReferenceIdeal [hGradOutReferenceIdeal : Cert.GradOutReferenceIdeal.Facts] : Prop :=
  ∀ (m : (ℓ : Loc Cert.GradOutReferenceIdeal.nD Cert.GradOutReferenceIdeal.τ Cert.GradOutReferenceIdeal.sig) → Buf (Elt Ideal) ℓ) (g : Dev Cert.GradOutReferenceIdeal.nD → PrngReg), Pre_GradOutReferenceIdeal m →
    θ_run (Cert.GradOutReferenceIdeal.defs (F := Ideal)) (onTc (τ := Cert.GradOutReferenceIdeal.τ) (Cert.GradOutReferenceIdeal.main (F := Ideal))) ⟨m, fun _ => 0, g⟩ (fun r => (∀ c : Dev Cert.GradOutReferenceIdeal.nD,
      r.2.mem ((c.tc : Thread Cert.GradOutReferenceIdeal.nD Cert.GradOutReferenceIdeal.τ).loc Cert.GradOutReferenceIdeal.main_arg0) = m ((c.tc : Thread Cert.GradOutReferenceIdeal.nD Cert.GradOutReferenceIdeal.τ).loc Cert.GradOutReferenceIdeal.main_arg0)
      ∧ r.2.mem ((c.tc : Thread Cert.GradOutReferenceIdeal.nD Cert.GradOutReferenceIdeal.τ).loc Cert.GradOutReferenceIdeal.main_arg1) = m ((c.tc : Thread Cert.GradOutReferenceIdeal.nD Cert.GradOutReferenceIdeal.τ).loc Cert.GradOutReferenceIdeal.main_arg1))
      ∧ r.2.sem = fun _ => 0)

def quiescent_GradMix [hGradMix : Cert.GradMix.Facts] : Prop :=
  ∀ (m : (ℓ : Loc Cert.GradMix.nD Cert.GradMix.τ Cert.GradMix.sig) → Buf (Elt Bits) ℓ) (g : Dev Cert.GradMix.nD → PrngReg), Pre_GradMix m →
    θ_run (Cert.GradMix.defs (F := Bits)) (onTc (τ := Cert.GradMix.τ) (Cert.GradMix.main (F := Bits))) ⟨m, fun _ => 0, g⟩ (fun r => (∀ c : Dev Cert.GradMix.nD,
      r.2.mem ((c.tc : Thread Cert.GradMix.nD Cert.GradMix.τ).loc Cert.GradMix.main_arg0) = m ((c.tc : Thread Cert.GradMix.nD Cert.GradMix.τ).loc Cert.GradMix.main_arg0)
      ∧ r.2.mem ((c.tc : Thread Cert.GradMix.nD Cert.GradMix.τ).loc Cert.GradMix.main_arg1) = m ((c.tc : Thread Cert.GradMix.nD Cert.GradMix.τ).loc Cert.GradMix.main_arg1))
      ∧ r.2.sem = fun _ => 0)

def quiescent_GradMixIdeal [hGradMixIdeal : Cert.GradMixIdeal.Facts] : Prop :=
  ∀ (m : (ℓ : Loc Cert.GradMixIdeal.nD Cert.GradMixIdeal.τ Cert.GradMixIdeal.sig) → Buf (Elt Ideal) ℓ) (g : Dev Cert.GradMixIdeal.nD → PrngReg), Pre_GradMixIdeal m →
    θ_run (Cert.GradMixIdeal.defs (F := Ideal)) (onTc (τ := Cert.GradMixIdeal.τ) (Cert.GradMixIdeal.main (F := Ideal))) ⟨m, fun _ => 0, g⟩ (fun r => (∀ c : Dev Cert.GradMixIdeal.nD,
      r.2.mem ((c.tc : Thread Cert.GradMixIdeal.nD Cert.GradMixIdeal.τ).loc Cert.GradMixIdeal.main_arg0) = m ((c.tc : Thread Cert.GradMixIdeal.nD Cert.GradMixIdeal.τ).loc Cert.GradMixIdeal.main_arg0)
      ∧ r.2.mem ((c.tc : Thread Cert.GradMixIdeal.nD Cert.GradMixIdeal.τ).loc Cert.GradMixIdeal.main_arg1) = m ((c.tc : Thread Cert.GradMixIdeal.nD Cert.GradMixIdeal.τ).loc Cert.GradMixIdeal.main_arg1))
      ∧ r.2.sem = fun _ => 0)

def quiescent_GradMixReferenceIdeal [hGradMixReferenceIdeal : Cert.GradMixReferenceIdeal.Facts] : Prop :=
  ∀ (m : (ℓ : Loc Cert.GradMixReferenceIdeal.nD Cert.GradMixReferenceIdeal.τ Cert.GradMixReferenceIdeal.sig) → Buf (Elt Ideal) ℓ) (g : Dev Cert.GradMixReferenceIdeal.nD → PrngReg), Pre_GradMixReferenceIdeal m →
    θ_run (Cert.GradMixReferenceIdeal.defs (F := Ideal)) (onTc (τ := Cert.GradMixReferenceIdeal.τ) (Cert.GradMixReferenceIdeal.main (F := Ideal))) ⟨m, fun _ => 0, g⟩ (fun r => (∀ c : Dev Cert.GradMixReferenceIdeal.nD,
      r.2.mem ((c.tc : Thread Cert.GradMixReferenceIdeal.nD Cert.GradMixReferenceIdeal.τ).loc Cert.GradMixReferenceIdeal.main_arg0) = m ((c.tc : Thread Cert.GradMixReferenceIdeal.nD Cert.GradMixReferenceIdeal.τ).loc Cert.GradMixReferenceIdeal.main_arg0)
      ∧ r.2.mem ((c.tc : Thread Cert.GradMixReferenceIdeal.nD Cert.GradMixReferenceIdeal.τ).loc Cert.GradMixReferenceIdeal.main_arg1) = m ((c.tc : Thread Cert.GradMixReferenceIdeal.nD Cert.GradMixReferenceIdeal.τ).loc Cert.GradMixReferenceIdeal.main_arg1))
      ∧ r.2.sem = fun _ => 0)

def quiescent_MixBack [hMixBack : Cert.MixBack.Facts] : Prop :=
  ∀ (m : (ℓ : Loc Cert.MixBack.nD Cert.MixBack.τ Cert.MixBack.sig) → Buf (Elt Bits) ℓ) (g : Dev Cert.MixBack.nD → PrngReg), Pre_MixBack m →
    θ_run (Cert.MixBack.defs (F := Bits)) (onTc (τ := Cert.MixBack.τ) (Cert.MixBack.main (F := Bits))) ⟨m, fun _ => 0, g⟩ (fun r => (∀ c : Dev Cert.MixBack.nD,
      r.2.mem ((c.tc : Thread Cert.MixBack.nD Cert.MixBack.τ).loc Cert.MixBack.main_arg0) = m ((c.tc : Thread Cert.MixBack.nD Cert.MixBack.τ).loc Cert.MixBack.main_arg0)
      ∧ r.2.mem ((c.tc : Thread Cert.MixBack.nD Cert.MixBack.τ).loc Cert.MixBack.main_arg1) = m ((c.tc : Thread Cert.MixBack.nD Cert.MixBack.τ).loc Cert.MixBack.main_arg1)
      ∧ r.2.mem ((c.tc : Thread Cert.MixBack.nD Cert.MixBack.τ).loc Cert.MixBack.main_arg2) = m ((c.tc : Thread Cert.MixBack.nD Cert.MixBack.τ).loc Cert.MixBack.main_arg2)
      ∧ r.2.mem ((c.tc : Thread Cert.MixBack.nD Cert.MixBack.τ).loc Cert.MixBack.main_arg3) = m ((c.tc : Thread Cert.MixBack.nD Cert.MixBack.τ).loc Cert.MixBack.main_arg3)
      ∧ r.2.mem ((c.tc : Thread Cert.MixBack.nD Cert.MixBack.τ).loc Cert.MixBack.main_arg4) = m ((c.tc : Thread Cert.MixBack.nD Cert.MixBack.τ).loc Cert.MixBack.main_arg4))
      ∧ r.2.sem = fun _ => 0)

def quiescent_MixBackIdeal [hMixBackIdeal : Cert.MixBackIdeal.Facts] : Prop :=
  ∀ (m : (ℓ : Loc Cert.MixBackIdeal.nD Cert.MixBackIdeal.τ Cert.MixBackIdeal.sig) → Buf (Elt Ideal) ℓ) (g : Dev Cert.MixBackIdeal.nD → PrngReg), Pre_MixBackIdeal m →
    θ_run (Cert.MixBackIdeal.defs (F := Ideal)) (onTc (τ := Cert.MixBackIdeal.τ) (Cert.MixBackIdeal.main (F := Ideal))) ⟨m, fun _ => 0, g⟩ (fun r => (∀ c : Dev Cert.MixBackIdeal.nD,
      r.2.mem ((c.tc : Thread Cert.MixBackIdeal.nD Cert.MixBackIdeal.τ).loc Cert.MixBackIdeal.main_arg0) = m ((c.tc : Thread Cert.MixBackIdeal.nD Cert.MixBackIdeal.τ).loc Cert.MixBackIdeal.main_arg0)
      ∧ r.2.mem ((c.tc : Thread Cert.MixBackIdeal.nD Cert.MixBackIdeal.τ).loc Cert.MixBackIdeal.main_arg1) = m ((c.tc : Thread Cert.MixBackIdeal.nD Cert.MixBackIdeal.τ).loc Cert.MixBackIdeal.main_arg1)
      ∧ r.2.mem ((c.tc : Thread Cert.MixBackIdeal.nD Cert.MixBackIdeal.τ).loc Cert.MixBackIdeal.main_arg2) = m ((c.tc : Thread Cert.MixBackIdeal.nD Cert.MixBackIdeal.τ).loc Cert.MixBackIdeal.main_arg2)
      ∧ r.2.mem ((c.tc : Thread Cert.MixBackIdeal.nD Cert.MixBackIdeal.τ).loc Cert.MixBackIdeal.main_arg3) = m ((c.tc : Thread Cert.MixBackIdeal.nD Cert.MixBackIdeal.τ).loc Cert.MixBackIdeal.main_arg3)
      ∧ r.2.mem ((c.tc : Thread Cert.MixBackIdeal.nD Cert.MixBackIdeal.τ).loc Cert.MixBackIdeal.main_arg4) = m ((c.tc : Thread Cert.MixBackIdeal.nD Cert.MixBackIdeal.τ).loc Cert.MixBackIdeal.main_arg4))
      ∧ r.2.sem = fun _ => 0)

def quiescent_MixBackReferenceIdeal [hMixBackReferenceIdeal : Cert.MixBackReferenceIdeal.Facts] : Prop :=
  ∀ (m : (ℓ : Loc Cert.MixBackReferenceIdeal.nD Cert.MixBackReferenceIdeal.τ Cert.MixBackReferenceIdeal.sig) → Buf (Elt Ideal) ℓ) (g : Dev Cert.MixBackReferenceIdeal.nD → PrngReg), Pre_MixBackReferenceIdeal m →
    θ_run (Cert.MixBackReferenceIdeal.defs (F := Ideal)) (onTc (τ := Cert.MixBackReferenceIdeal.τ) (Cert.MixBackReferenceIdeal.main (F := Ideal))) ⟨m, fun _ => 0, g⟩ (fun r => (∀ c : Dev Cert.MixBackReferenceIdeal.nD,
      r.2.mem ((c.tc : Thread Cert.MixBackReferenceIdeal.nD Cert.MixBackReferenceIdeal.τ).loc Cert.MixBackReferenceIdeal.main_arg0) = m ((c.tc : Thread Cert.MixBackReferenceIdeal.nD Cert.MixBackReferenceIdeal.τ).loc Cert.MixBackReferenceIdeal.main_arg0)
      ∧ r.2.mem ((c.tc : Thread Cert.MixBackReferenceIdeal.nD Cert.MixBackReferenceIdeal.τ).loc Cert.MixBackReferenceIdeal.main_arg1) = m ((c.tc : Thread Cert.MixBackReferenceIdeal.nD Cert.MixBackReferenceIdeal.τ).loc Cert.MixBackReferenceIdeal.main_arg1)
      ∧ r.2.mem ((c.tc : Thread Cert.MixBackReferenceIdeal.nD Cert.MixBackReferenceIdeal.τ).loc Cert.MixBackReferenceIdeal.main_arg2) = m ((c.tc : Thread Cert.MixBackReferenceIdeal.nD Cert.MixBackReferenceIdeal.τ).loc Cert.MixBackReferenceIdeal.main_arg2)
      ∧ r.2.mem ((c.tc : Thread Cert.MixBackReferenceIdeal.nD Cert.MixBackReferenceIdeal.τ).loc Cert.MixBackReferenceIdeal.main_arg3) = m ((c.tc : Thread Cert.MixBackReferenceIdeal.nD Cert.MixBackReferenceIdeal.τ).loc Cert.MixBackReferenceIdeal.main_arg3)
      ∧ r.2.mem ((c.tc : Thread Cert.MixBackReferenceIdeal.nD Cert.MixBackReferenceIdeal.τ).loc Cert.MixBackReferenceIdeal.main_arg4) = m ((c.tc : Thread Cert.MixBackReferenceIdeal.nD Cert.MixBackReferenceIdeal.τ).loc Cert.MixBackReferenceIdeal.main_arg4))
      ∧ r.2.sem = fun _ => 0)

def quiescent_HeadBack [hHeadBack : Cert.HeadBack.Facts] : Prop :=
  ∀ (m : (ℓ : Loc Cert.HeadBack.nD Cert.HeadBack.τ Cert.HeadBack.sig) → Buf (Elt Bits) ℓ) (g : Dev Cert.HeadBack.nD → PrngReg), Pre_HeadBack m →
    θ_run (Cert.HeadBack.defs (F := Bits)) (onTc (τ := Cert.HeadBack.τ) (Cert.HeadBack.main (F := Bits))) ⟨m, fun _ => 0, g⟩ (fun r => (∀ c : Dev Cert.HeadBack.nD,
      r.2.mem ((c.tc : Thread Cert.HeadBack.nD Cert.HeadBack.τ).loc Cert.HeadBack.main_arg0) = m ((c.tc : Thread Cert.HeadBack.nD Cert.HeadBack.τ).loc Cert.HeadBack.main_arg0)
      ∧ r.2.mem ((c.tc : Thread Cert.HeadBack.nD Cert.HeadBack.τ).loc Cert.HeadBack.main_arg1) = m ((c.tc : Thread Cert.HeadBack.nD Cert.HeadBack.τ).loc Cert.HeadBack.main_arg1)
      ∧ r.2.mem ((c.tc : Thread Cert.HeadBack.nD Cert.HeadBack.τ).loc Cert.HeadBack.main_arg2) = m ((c.tc : Thread Cert.HeadBack.nD Cert.HeadBack.τ).loc Cert.HeadBack.main_arg2)
      ∧ r.2.mem ((c.tc : Thread Cert.HeadBack.nD Cert.HeadBack.τ).loc Cert.HeadBack.main_arg3) = m ((c.tc : Thread Cert.HeadBack.nD Cert.HeadBack.τ).loc Cert.HeadBack.main_arg3))
      ∧ r.2.sem = fun _ => 0)

def quiescent_HeadBackIdeal [hHeadBackIdeal : Cert.HeadBackIdeal.Facts] : Prop :=
  ∀ (m : (ℓ : Loc Cert.HeadBackIdeal.nD Cert.HeadBackIdeal.τ Cert.HeadBackIdeal.sig) → Buf (Elt Ideal) ℓ) (g : Dev Cert.HeadBackIdeal.nD → PrngReg), Pre_HeadBackIdeal m →
    θ_run (Cert.HeadBackIdeal.defs (F := Ideal)) (onTc (τ := Cert.HeadBackIdeal.τ) (Cert.HeadBackIdeal.main (F := Ideal))) ⟨m, fun _ => 0, g⟩ (fun r => (∀ c : Dev Cert.HeadBackIdeal.nD,
      r.2.mem ((c.tc : Thread Cert.HeadBackIdeal.nD Cert.HeadBackIdeal.τ).loc Cert.HeadBackIdeal.main_arg0) = m ((c.tc : Thread Cert.HeadBackIdeal.nD Cert.HeadBackIdeal.τ).loc Cert.HeadBackIdeal.main_arg0)
      ∧ r.2.mem ((c.tc : Thread Cert.HeadBackIdeal.nD Cert.HeadBackIdeal.τ).loc Cert.HeadBackIdeal.main_arg1) = m ((c.tc : Thread Cert.HeadBackIdeal.nD Cert.HeadBackIdeal.τ).loc Cert.HeadBackIdeal.main_arg1)
      ∧ r.2.mem ((c.tc : Thread Cert.HeadBackIdeal.nD Cert.HeadBackIdeal.τ).loc Cert.HeadBackIdeal.main_arg2) = m ((c.tc : Thread Cert.HeadBackIdeal.nD Cert.HeadBackIdeal.τ).loc Cert.HeadBackIdeal.main_arg2)
      ∧ r.2.mem ((c.tc : Thread Cert.HeadBackIdeal.nD Cert.HeadBackIdeal.τ).loc Cert.HeadBackIdeal.main_arg3) = m ((c.tc : Thread Cert.HeadBackIdeal.nD Cert.HeadBackIdeal.τ).loc Cert.HeadBackIdeal.main_arg3))
      ∧ r.2.sem = fun _ => 0)

def quiescent_HeadBackReferenceIdeal [hHeadBackReferenceIdeal : Cert.HeadBackReferenceIdeal.Facts] : Prop :=
  ∀ (m : (ℓ : Loc Cert.HeadBackReferenceIdeal.nD Cert.HeadBackReferenceIdeal.τ Cert.HeadBackReferenceIdeal.sig) → Buf (Elt Ideal) ℓ) (g : Dev Cert.HeadBackReferenceIdeal.nD → PrngReg), Pre_HeadBackReferenceIdeal m →
    θ_run (Cert.HeadBackReferenceIdeal.defs (F := Ideal)) (onTc (τ := Cert.HeadBackReferenceIdeal.τ) (Cert.HeadBackReferenceIdeal.main (F := Ideal))) ⟨m, fun _ => 0, g⟩ (fun r => (∀ c : Dev Cert.HeadBackReferenceIdeal.nD,
      r.2.mem ((c.tc : Thread Cert.HeadBackReferenceIdeal.nD Cert.HeadBackReferenceIdeal.τ).loc Cert.HeadBackReferenceIdeal.main_arg0) = m ((c.tc : Thread Cert.HeadBackReferenceIdeal.nD Cert.HeadBackReferenceIdeal.τ).loc Cert.HeadBackReferenceIdeal.main_arg0)
      ∧ r.2.mem ((c.tc : Thread Cert.HeadBackReferenceIdeal.nD Cert.HeadBackReferenceIdeal.τ).loc Cert.HeadBackReferenceIdeal.main_arg1) = m ((c.tc : Thread Cert.HeadBackReferenceIdeal.nD Cert.HeadBackReferenceIdeal.τ).loc Cert.HeadBackReferenceIdeal.main_arg1)
      ∧ r.2.mem ((c.tc : Thread Cert.HeadBackReferenceIdeal.nD Cert.HeadBackReferenceIdeal.τ).loc Cert.HeadBackReferenceIdeal.main_arg2) = m ((c.tc : Thread Cert.HeadBackReferenceIdeal.nD Cert.HeadBackReferenceIdeal.τ).loc Cert.HeadBackReferenceIdeal.main_arg2)
      ∧ r.2.mem ((c.tc : Thread Cert.HeadBackReferenceIdeal.nD Cert.HeadBackReferenceIdeal.τ).loc Cert.HeadBackReferenceIdeal.main_arg3) = m ((c.tc : Thread Cert.HeadBackReferenceIdeal.nD Cert.HeadBackReferenceIdeal.τ).loc Cert.HeadBackReferenceIdeal.main_arg3))
      ∧ r.2.sem = fun _ => 0)

def preserves_Kernel_KernelIdeal : Prop :=
  IdealRules.named_const.Statement Cert.KernelIdeal.κ "lg0" .f32 0xBD020AEC#32 ((Real.log (31 / 32) : ℝ) : EReal)
  ∧ IdealRules.named_const.Statement Cert.KernelIdeal.κ "lgc0" .f32 0xC0820AEC#32 ((128 * (Real.log (31 / 32)) : ℝ) : EReal)
  ∧ IdealRules.named_const.Statement Cert.KernelIdeal.κ "lg1" .f32 0xBC8102B3#32 ((Real.log (63 / 64) : ℝ) : EReal)
  ∧ IdealRules.named_const.Statement Cert.KernelIdeal.κ "gch1" .f32 0x3E08698E#32 ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  ∧ IdealRules.named_const.Statement Cert.KernelIdeal.κ "lg2" .f32 0xBC0080AC#32 ((Real.log (127 / 128) : ℝ) : EReal)
  ∧ IdealRules.named_const.Statement Cert.KernelIdeal.κ "gch2" .f32 0x3EBB9DB9#32 ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  ∧ IdealRules.named_const.Statement Cert.KernelIdeal.κ "lg3" .f32 0xBB80402B#32 ((Real.log (255 / 256) : ℝ) : EReal)
  ∧ IdealRules.named_const.Statement Cert.KernelIdeal.κ "gch3" .f32 0x3F1B1EB1#32 ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_v154) = v1 c
          ∧ r.2.mem ((c.tc : Thread Cert.ReferenceIdeal.nD Cert.ReferenceIdeal.τ).loc Cert.ReferenceIdeal.main_v152) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_GradDown_GradDownIdeal : Prop :=
  True

def algebraic_GradDownIdeal_GradDownReferenceIdeal [hGradDownIdeal : Cert.GradDownIdeal.Facts] [hGradDownReferenceIdeal : Cert.GradDownReferenceIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownReferenceIdeal.nD Cert.GradDownReferenceIdeal.τ Cert.GradDownReferenceIdeal.sig) → Buf (Elt Ideal) ℓ) (g' : Dev Cert.GradDownReferenceIdeal.nD → PrngReg), Pre_GradDownIdeal m →
    (∀ c : Dev Cert.GradDownIdeal.nD,
      m' ((c.tc : Thread Cert.GradDownReferenceIdeal.nD Cert.GradDownReferenceIdeal.τ).loc Cert.GradDownReferenceIdeal.main_arg0) = m ((c.tc : Thread Cert.GradDownIdeal.nD Cert.GradDownIdeal.τ).loc Cert.GradDownIdeal.main_arg0)
      ∧ m' ((c.tc : Thread Cert.GradDownReferenceIdeal.nD Cert.GradDownReferenceIdeal.τ).loc Cert.GradDownReferenceIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v0)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v0) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownReferenceIdeal.defs (F := Ideal)) (onTc (τ := Cert.GradDownReferenceIdeal.τ) (Cert.GradDownReferenceIdeal.main (F := Ideal))) ⟨m', fun _ => 0, g'⟩ (fun r => ∀ c : Dev Cert.GradDownReferenceIdeal.nD,
          r.2.mem ((c.tc : Thread Cert.GradDownReferenceIdeal.nD Cert.GradDownReferenceIdeal.τ).loc Cert.GradDownReferenceIdeal.main_v6) = v0 c
          ∧ r.2.mem ((c.tc : Thread Cert.GradDownReferenceIdeal.nD Cert.GradDownReferenceIdeal.τ).loc Cert.GradDownReferenceIdeal.main_arg0) = m' ((c.tc : Thread Cert.GradDownReferenceIdeal.nD Cert.GradDownReferenceIdeal.τ).loc Cert.GradDownReferenceIdeal.main_arg0)
          ∧ r.2.mem ((c.tc : Thread Cert.GradDownReferenceIdeal.nD Cert.GradDownReferenceIdeal.τ).loc Cert.GradDownReferenceIdeal.main_arg1) = m' ((c.tc : Thread Cert.GradDownReferenceIdeal.nD Cert.GradDownReferenceIdeal.τ).loc Cert.GradDownReferenceIdeal.main_arg1))

def preserves_GradUp_GradUpIdeal : Prop :=
  True

def algebraic_GradUpIdeal_GradUpReferenceIdeal [hGradUpIdeal : Cert.GradUpIdeal.Facts] [hGradUpReferenceIdeal : Cert.GradUpReferenceIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpReferenceIdeal.nD Cert.GradUpReferenceIdeal.τ Cert.GradUpReferenceIdeal.sig) → Buf (Elt Ideal) ℓ) (g' : Dev Cert.GradUpReferenceIdeal.nD → PrngReg), Pre_GradUpIdeal m →
    (∀ c : Dev Cert.GradUpIdeal.nD,
      m' ((c.tc : Thread Cert.GradUpReferenceIdeal.nD Cert.GradUpReferenceIdeal.τ).loc Cert.GradUpReferenceIdeal.main_arg0) = m ((c.tc : Thread Cert.GradUpIdeal.nD Cert.GradUpIdeal.τ).loc Cert.GradUpIdeal.main_arg0)
      ∧ m' ((c.tc : Thread Cert.GradUpReferenceIdeal.nD Cert.GradUpReferenceIdeal.τ).loc Cert.GradUpReferenceIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v0)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v0) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpReferenceIdeal.defs (F := Ideal)) (onTc (τ := Cert.GradUpReferenceIdeal.τ) (Cert.GradUpReferenceIdeal.main (F := Ideal))) ⟨m', fun _ => 0, g'⟩ (fun r => ∀ c : Dev Cert.GradUpReferenceIdeal.nD,
          r.2.mem ((c.tc : Thread Cert.GradUpReferenceIdeal.nD Cert.GradUpReferenceIdeal.τ).loc Cert.GradUpReferenceIdeal.main_v8) = v0 c
          ∧ r.2.mem ((c.tc : Thread Cert.GradUpReferenceIdeal.nD Cert.GradUpReferenceIdeal.τ).loc Cert.GradUpReferenceIdeal.main_arg0) = m' ((c.tc : Thread Cert.GradUpReferenceIdeal.nD Cert.GradUpReferenceIdeal.τ).loc Cert.GradUpReferenceIdeal.main_arg0)
          ∧ r.2.mem ((c.tc : Thread Cert.GradUpReferenceIdeal.nD Cert.GradUpReferenceIdeal.τ).loc Cert.GradUpReferenceIdeal.main_arg1) = m' ((c.tc : Thread Cert.GradUpReferenceIdeal.nD Cert.GradUpReferenceIdeal.τ).loc Cert.GradUpReferenceIdeal.main_arg1))

def preserves_GradIn_GradInIdeal : Prop :=
  True

def algebraic_GradInIdeal_GradInReferenceIdeal [hGradInIdeal : Cert.GradInIdeal.Facts] [hGradInReferenceIdeal : Cert.GradInReferenceIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInReferenceIdeal.nD Cert.GradInReferenceIdeal.τ Cert.GradInReferenceIdeal.sig) → Buf (Elt Ideal) ℓ) (g' : Dev Cert.GradInReferenceIdeal.nD → PrngReg), Pre_GradInIdeal m →
    (∀ c : Dev Cert.GradInIdeal.nD,
      m' ((c.tc : Thread Cert.GradInReferenceIdeal.nD Cert.GradInReferenceIdeal.τ).loc Cert.GradInReferenceIdeal.main_arg0) = m ((c.tc : Thread Cert.GradInIdeal.nD Cert.GradInIdeal.τ).loc Cert.GradInIdeal.main_arg0)
      ∧ m' ((c.tc : Thread Cert.GradInReferenceIdeal.nD Cert.GradInReferenceIdeal.τ).loc Cert.GradInReferenceIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInReferenceIdeal.defs (F := Ideal)) (onTc (τ := Cert.GradInReferenceIdeal.τ) (Cert.GradInReferenceIdeal.main (F := Ideal))) ⟨m', fun _ => 0, g'⟩ (fun r => ∀ c : Dev Cert.GradInReferenceIdeal.nD,
          r.2.mem ((c.tc : Thread Cert.GradInReferenceIdeal.nD Cert.GradInReferenceIdeal.τ).loc Cert.GradInReferenceIdeal.main_v6) = v0 c
          ∧ r.2.mem ((c.tc : Thread Cert.GradInReferenceIdeal.nD Cert.GradInReferenceIdeal.τ).loc Cert.GradInReferenceIdeal.main_arg0) = m' ((c.tc : Thread Cert.GradInReferenceIdeal.nD Cert.GradInReferenceIdeal.τ).loc Cert.GradInReferenceIdeal.main_arg0)
          ∧ r.2.mem ((c.tc : Thread Cert.GradInReferenceIdeal.nD Cert.GradInReferenceIdeal.τ).loc Cert.GradInReferenceIdeal.main_arg1) = m' ((c.tc : Thread Cert.GradInReferenceIdeal.nD Cert.GradInReferenceIdeal.τ).loc Cert.GradInReferenceIdeal.main_arg1))

def preserves_GradAtt_GradAttIdeal : Prop :=
  True

def algebraic_GradAttIdeal_GradAttReferenceIdeal [hGradAttIdeal : Cert.GradAttIdeal.Facts] [hGradAttReferenceIdeal : Cert.GradAttReferenceIdeal.Facts] : Prop :=
  ∀ (m : (ℓ : Loc Cert.GradAttIdeal.nD Cert.GradAttIdeal.τ Cert.GradAttIdeal.sig) → Buf (Elt Ideal) ℓ) (g : Dev Cert.GradAttIdeal.nD → PrngReg)
    (m' : (ℓ : Loc Cert.GradAttReferenceIdeal.nD Cert.GradAttReferenceIdeal.τ Cert.GradAttReferenceIdeal.sig) → Buf (Elt Ideal) ℓ) (g' : Dev Cert.GradAttReferenceIdeal.nD → PrngReg), Pre_GradAttIdeal m →
    (∀ c : Dev Cert.GradAttIdeal.nD,
      m' ((c.tc : Thread Cert.GradAttReferenceIdeal.nD Cert.GradAttReferenceIdeal.τ).loc Cert.GradAttReferenceIdeal.main_arg0) = m ((c.tc : Thread Cert.GradAttIdeal.nD Cert.GradAttIdeal.τ).loc Cert.GradAttIdeal.main_arg0)
      ∧ m' ((c.tc : Thread Cert.GradAttReferenceIdeal.nD Cert.GradAttReferenceIdeal.τ).loc Cert.GradAttReferenceIdeal.main_arg1) = m ((c.tc : Thread Cert.GradAttIdeal.nD Cert.GradAttIdeal.τ).loc Cert.GradAttIdeal.main_arg1)) →
    ∃ (v0 : (c : Dev Cert.GradAttIdeal.nD) → Buf (Elt Ideal) ((c.tc : Thread Cert.GradAttIdeal.nD Cert.GradAttIdeal.τ).loc Cert.GradAttIdeal.main_v0)),
      θ_run (Cert.GradAttIdeal.defs (F := Ideal)) (onTc (τ := Cert.GradAttIdeal.τ) (Cert.GradAttIdeal.main (F := Ideal))) ⟨m, fun _ => 0, g⟩ (fun r => ∀ c : Dev Cert.GradAttIdeal.nD,
          r.2.mem ((c.tc : Thread Cert.GradAttIdeal.nD Cert.GradAttIdeal.τ).loc Cert.GradAttIdeal.main_v0) = v0 c
          ∧ r.2.mem ((c.tc : Thread Cert.GradAttIdeal.nD Cert.GradAttIdeal.τ).loc Cert.GradAttIdeal.main_arg0) = m ((c.tc : Thread Cert.GradAttIdeal.nD Cert.GradAttIdeal.τ).loc Cert.GradAttIdeal.main_arg0)
          ∧ r.2.mem ((c.tc : Thread Cert.GradAttIdeal.nD Cert.GradAttIdeal.τ).loc Cert.GradAttIdeal.main_arg1) = m ((c.tc : Thread Cert.GradAttIdeal.nD Cert.GradAttIdeal.τ).loc Cert.GradAttIdeal.main_arg1))
      ∧ θ_run (Cert.GradAttReferenceIdeal.defs (F := Ideal)) (onTc (τ := Cert.GradAttReferenceIdeal.τ) (Cert.GradAttReferenceIdeal.main (F := Ideal))) ⟨m', fun _ => 0, g'⟩ (fun r => ∀ c : Dev Cert.GradAttReferenceIdeal.nD,
          r.2.mem ((c.tc : Thread Cert.GradAttReferenceIdeal.nD Cert.GradAttReferenceIdeal.τ).loc Cert.GradAttReferenceIdeal.main_v6) = v0 c
          ∧ r.2.mem ((c.tc : Thread Cert.GradAttReferenceIdeal.nD Cert.GradAttReferenceIdeal.τ).loc Cert.GradAttReferenceIdeal.main_arg0) = m' ((c.tc : Thread Cert.GradAttReferenceIdeal.nD Cert.GradAttReferenceIdeal.τ).loc Cert.GradAttReferenceIdeal.main_arg0)
          ∧ r.2.mem ((c.tc : Thread Cert.GradAttReferenceIdeal.nD Cert.GradAttReferenceIdeal.τ).loc Cert.GradAttReferenceIdeal.main_arg1) = m' ((c.tc : Thread Cert.GradAttReferenceIdeal.nD Cert.GradAttReferenceIdeal.τ).loc Cert.GradAttReferenceIdeal.main_arg1))

def preserves_GradBranch_GradBranchIdeal : Prop :=
  True

def algebraic_GradBranchIdeal_GradBranchReferenceIdeal [hGradBranchIdeal : Cert.GradBranchIdeal.Facts] [hGradBranchReferenceIdeal : Cert.GradBranchReferenceIdeal.Facts] : Prop :=
  ∀ (m : (ℓ : Loc Cert.GradBranchIdeal.nD Cert.GradBranchIdeal.τ Cert.GradBranchIdeal.sig) → Buf (Elt Ideal) ℓ) (g : Dev Cert.GradBranchIdeal.nD → PrngReg)
    (m' : (ℓ : Loc Cert.GradBranchReferenceIdeal.nD Cert.GradBranchReferenceIdeal.τ Cert.GradBranchReferenceIdeal.sig) → Buf (Elt Ideal) ℓ) (g' : Dev Cert.GradBranchReferenceIdeal.nD → PrngReg), Pre_GradBranchIdeal m →
    (∀ c : Dev Cert.GradBranchIdeal.nD,
      m' ((c.tc : Thread Cert.GradBranchReferenceIdeal.nD Cert.GradBranchReferenceIdeal.τ).loc Cert.GradBranchReferenceIdeal.main_arg0) = m ((c.tc : Thread Cert.GradBranchIdeal.nD Cert.GradBranchIdeal.τ).loc Cert.GradBranchIdeal.main_arg0)
      ∧ m' ((c.tc : Thread Cert.GradBranchReferenceIdeal.nD Cert.GradBranchReferenceIdeal.τ).loc Cert.GradBranchReferenceIdeal.main_arg1) = m ((c.tc : Thread Cert.GradBranchIdeal.nD Cert.GradBranchIdeal.τ).loc Cert.GradBranchIdeal.main_arg1)) →
    ∃ (v0 : (c : Dev Cert.GradBranchIdeal.nD) → Buf (Elt Ideal) ((c.tc : Thread Cert.GradBranchIdeal.nD Cert.GradBranchIdeal.τ).loc Cert.GradBranchIdeal.main_v0)),
      θ_run (Cert.GradBranchIdeal.defs (F := Ideal)) (onTc (τ := Cert.GradBranchIdeal.τ) (Cert.GradBranchIdeal.main (F := Ideal))) ⟨m, fun _ => 0, g⟩ (fun r => ∀ c : Dev Cert.GradBranchIdeal.nD,
          r.2.mem ((c.tc : Thread Cert.GradBranchIdeal.nD Cert.GradBranchIdeal.τ).loc Cert.GradBranchIdeal.main_v0) = v0 c
          ∧ r.2.mem ((c.tc : Thread Cert.GradBranchIdeal.nD Cert.GradBranchIdeal.τ).loc Cert.GradBranchIdeal.main_arg0) = m ((c.tc : Thread Cert.GradBranchIdeal.nD Cert.GradBranchIdeal.τ).loc Cert.GradBranchIdeal.main_arg0)
          ∧ r.2.mem ((c.tc : Thread Cert.GradBranchIdeal.nD Cert.GradBranchIdeal.τ).loc Cert.GradBranchIdeal.main_arg1) = m ((c.tc : Thread Cert.GradBranchIdeal.nD Cert.GradBranchIdeal.τ).loc Cert.GradBranchIdeal.main_arg1))
      ∧ θ_run (Cert.GradBranchReferenceIdeal.defs (F := Ideal)) (onTc (τ := Cert.GradBranchReferenceIdeal.τ) (Cert.GradBranchReferenceIdeal.main (F := Ideal))) ⟨m', fun _ => 0, g'⟩ (fun r => ∀ c : Dev Cert.GradBranchReferenceIdeal.nD,
          r.2.mem ((c.tc : Thread Cert.GradBranchReferenceIdeal.nD Cert.GradBranchReferenceIdeal.τ).loc Cert.GradBranchReferenceIdeal.main_v6) = v0 c
          ∧ r.2.mem ((c.tc : Thread Cert.GradBranchReferenceIdeal.nD Cert.GradBranchReferenceIdeal.τ).loc Cert.GradBranchReferenceIdeal.main_arg0) = m' ((c.tc : Thread Cert.GradBranchReferenceIdeal.nD Cert.GradBranchReferenceIdeal.τ).loc Cert.GradBranchReferenceIdeal.main_arg0)
          ∧ r.2.mem ((c.tc : Thread Cert.GradBranchReferenceIdeal.nD Cert.GradBranchReferenceIdeal.τ).loc Cert.GradBranchReferenceIdeal.main_arg1) = m' ((c.tc : Thread Cert.GradBranchReferenceIdeal.nD Cert.GradBranchReferenceIdeal.τ).loc Cert.GradBranchReferenceIdeal.main_arg1))

def preserves_InAtt_InAttIdeal : Prop :=
  True

def algebraic_InAttIdeal_InAttReferenceIdeal [hInAttIdeal : Cert.InAttIdeal.Facts] [hInAttReferenceIdeal : Cert.InAttReferenceIdeal.Facts] : Prop :=
  ∀ (m : (ℓ : Loc Cert.InAttIdeal.nD Cert.InAttIdeal.τ Cert.InAttIdeal.sig) → Buf (Elt Ideal) ℓ) (g : Dev Cert.InAttIdeal.nD → PrngReg)
    (m' : (ℓ : Loc Cert.InAttReferenceIdeal.nD Cert.InAttReferenceIdeal.τ Cert.InAttReferenceIdeal.sig) → Buf (Elt Ideal) ℓ) (g' : Dev Cert.InAttReferenceIdeal.nD → PrngReg), Pre_InAttIdeal m →
    (∀ c : Dev Cert.InAttIdeal.nD,
      m' ((c.tc : Thread Cert.InAttReferenceIdeal.nD Cert.InAttReferenceIdeal.τ).loc Cert.InAttReferenceIdeal.main_arg0) = m ((c.tc : Thread Cert.InAttIdeal.nD Cert.InAttIdeal.τ).loc Cert.InAttIdeal.main_arg0)
      ∧ m' ((c.tc : Thread Cert.InAttReferenceIdeal.nD Cert.InAttReferenceIdeal.τ).loc Cert.InAttReferenceIdeal.main_arg1) = m ((c.tc : Thread Cert.InAttIdeal.nD Cert.InAttIdeal.τ).loc Cert.InAttIdeal.main_arg1)) →
    ∃ (v0 : (c : Dev Cert.InAttIdeal.nD) → Buf (Elt Ideal) ((c.tc : Thread Cert.InAttIdeal.nD Cert.InAttIdeal.τ).loc Cert.InAttIdeal.main_v0)),
      θ_run (Cert.InAttIdeal.defs (F := Ideal)) (onTc (τ := Cert.InAttIdeal.τ) (Cert.InAttIdeal.main (F := Ideal))) ⟨m, fun _ => 0, g⟩ (fun r => ∀ c : Dev Cert.InAttIdeal.nD,
          r.2.mem ((c.tc : Thread Cert.InAttIdeal.nD Cert.InAttIdeal.τ).loc Cert.InAttIdeal.main_v0) = v0 c
          ∧ r.2.mem ((c.tc : Thread Cert.InAttIdeal.nD Cert.InAttIdeal.τ).loc Cert.InAttIdeal.main_arg0) = m ((c.tc : Thread Cert.InAttIdeal.nD Cert.InAttIdeal.τ).loc Cert.InAttIdeal.main_arg0)
          ∧ r.2.mem ((c.tc : Thread Cert.InAttIdeal.nD Cert.InAttIdeal.τ).loc Cert.InAttIdeal.main_arg1) = m ((c.tc : Thread Cert.InAttIdeal.nD Cert.InAttIdeal.τ).loc Cert.InAttIdeal.main_arg1))
      ∧ θ_run (Cert.InAttReferenceIdeal.defs (F := Ideal)) (onTc (τ := Cert.InAttReferenceIdeal.τ) (Cert.InAttReferenceIdeal.main (F := Ideal))) ⟨m', fun _ => 0, g'⟩ (fun r => ∀ c : Dev Cert.InAttReferenceIdeal.nD,
          r.2.mem ((c.tc : Thread Cert.InAttReferenceIdeal.nD Cert.InAttReferenceIdeal.τ).loc Cert.InAttReferenceIdeal.main_v2) = v0 c
          ∧ r.2.mem ((c.tc : Thread Cert.InAttReferenceIdeal.nD Cert.InAttReferenceIdeal.τ).loc Cert.InAttReferenceIdeal.main_arg0) = m' ((c.tc : Thread Cert.InAttReferenceIdeal.nD Cert.InAttReferenceIdeal.τ).loc Cert.InAttReferenceIdeal.main_arg0)
          ∧ r.2.mem ((c.tc : Thread Cert.InAttReferenceIdeal.nD Cert.InAttReferenceIdeal.τ).loc Cert.InAttReferenceIdeal.main_arg1) = m' ((c.tc : Thread Cert.InAttReferenceIdeal.nD Cert.InAttReferenceIdeal.τ).loc Cert.InAttReferenceIdeal.main_arg1))

def preserves_InRest_InRestIdeal : Prop :=
  True

def algebraic_InRestIdeal_InRestReferenceIdeal [hInRestIdeal : Cert.InRestIdeal.Facts] [hInRestReferenceIdeal : Cert.InRestReferenceIdeal.Facts] : Prop :=
  ∀ (m : (ℓ : Loc Cert.InRestIdeal.nD Cert.InRestIdeal.τ Cert.InRestIdeal.sig) → Buf (Elt Ideal) ℓ) (g : Dev Cert.InRestIdeal.nD → PrngReg)
    (m' : (ℓ : Loc Cert.InRestReferenceIdeal.nD Cert.InRestReferenceIdeal.τ Cert.InRestReferenceIdeal.sig) → Buf (Elt Ideal) ℓ) (g' : Dev Cert.InRestReferenceIdeal.nD → PrngReg), Pre_InRestIdeal m →
    (∀ c : Dev Cert.InRestIdeal.nD,
      m' ((c.tc : Thread Cert.InRestReferenceIdeal.nD Cert.InRestReferenceIdeal.τ).loc Cert.InRestReferenceIdeal.main_arg0) = m ((c.tc : Thread Cert.InRestIdeal.nD Cert.InRestIdeal.τ).loc Cert.InRestIdeal.main_arg0)
      ∧ m' ((c.tc : Thread Cert.InRestReferenceIdeal.nD Cert.InRestReferenceIdeal.τ).loc Cert.InRestReferenceIdeal.main_arg1) = m ((c.tc : Thread Cert.InRestIdeal.nD Cert.InRestIdeal.τ).loc Cert.InRestIdeal.main_arg1)) →
    ∃ (v0 : (c : Dev Cert.InRestIdeal.nD) → Buf (Elt Ideal) ((c.tc : Thread Cert.InRestIdeal.nD Cert.InRestIdeal.τ).loc Cert.InRestIdeal.main_v0)),
      θ_run (Cert.InRestIdeal.defs (F := Ideal)) (onTc (τ := Cert.InRestIdeal.τ) (Cert.InRestIdeal.main (F := Ideal))) ⟨m, fun _ => 0, g⟩ (fun r => ∀ c : Dev Cert.InRestIdeal.nD,
          r.2.mem ((c.tc : Thread Cert.InRestIdeal.nD Cert.InRestIdeal.τ).loc Cert.InRestIdeal.main_v0) = v0 c
          ∧ r.2.mem ((c.tc : Thread Cert.InRestIdeal.nD Cert.InRestIdeal.τ).loc Cert.InRestIdeal.main_arg0) = m ((c.tc : Thread Cert.InRestIdeal.nD Cert.InRestIdeal.τ).loc Cert.InRestIdeal.main_arg0)
          ∧ r.2.mem ((c.tc : Thread Cert.InRestIdeal.nD Cert.InRestIdeal.τ).loc Cert.InRestIdeal.main_arg1) = m ((c.tc : Thread Cert.InRestIdeal.nD Cert.InRestIdeal.τ).loc Cert.InRestIdeal.main_arg1))
      ∧ θ_run (Cert.InRestReferenceIdeal.defs (F := Ideal)) (onTc (τ := Cert.InRestReferenceIdeal.τ) (Cert.InRestReferenceIdeal.main (F := Ideal))) ⟨m', fun _ => 0, g'⟩ (fun r => ∀ c : Dev Cert.InRestReferenceIdeal.nD,
          r.2.mem ((c.tc : Thread Cert.InRestReferenceIdeal.nD Cert.InRestReferenceIdeal.τ).loc Cert.InRestReferenceIdeal.main_v3) = v0 c
          ∧ r.2.mem ((c.tc : Thread Cert.InRestReferenceIdeal.nD Cert.InRestReferenceIdeal.τ).loc Cert.InRestReferenceIdeal.main_arg0) = m' ((c.tc : Thread Cert.InRestReferenceIdeal.nD Cert.InRestReferenceIdeal.τ).loc Cert.InRestReferenceIdeal.main_arg0)
          ∧ r.2.mem ((c.tc : Thread Cert.InRestReferenceIdeal.nD Cert.InRestReferenceIdeal.τ).loc Cert.InRestReferenceIdeal.main_arg1) = m' ((c.tc : Thread Cert.InRestReferenceIdeal.nD Cert.InRestReferenceIdeal.τ).loc Cert.InRestReferenceIdeal.main_arg1))

def preserves_BackAtt_BackAttIdeal : Prop :=
  True

def algebraic_BackAttIdeal_BackAttReferenceIdeal [hBackAttIdeal : Cert.BackAttIdeal.Facts] [hBackAttReferenceIdeal : Cert.BackAttReferenceIdeal.Facts] : Prop :=
  ∀ (m : (ℓ : Loc Cert.BackAttIdeal.nD Cert.BackAttIdeal.τ Cert.BackAttIdeal.sig) → Buf (Elt Ideal) ℓ) (g : Dev Cert.BackAttIdeal.nD → PrngReg)
    (m' : (ℓ : Loc Cert.BackAttReferenceIdeal.nD Cert.BackAttReferenceIdeal.τ Cert.BackAttReferenceIdeal.sig) → Buf (Elt Ideal) ℓ) (g' : Dev Cert.BackAttReferenceIdeal.nD → PrngReg), Pre_BackAttIdeal m →
    (∀ c : Dev Cert.BackAttIdeal.nD,
      m' ((c.tc : Thread Cert.BackAttReferenceIdeal.nD Cert.BackAttReferenceIdeal.τ).loc Cert.BackAttReferenceIdeal.main_arg0) = m ((c.tc : Thread Cert.BackAttIdeal.nD Cert.BackAttIdeal.τ).loc Cert.BackAttIdeal.main_arg0)
      ∧ m' ((c.tc : Thread Cert.BackAttReferenceIdeal.nD Cert.BackAttReferenceIdeal.τ).loc Cert.BackAttReferenceIdeal.main_arg1) = m ((c.tc : Thread Cert.BackAttIdeal.nD Cert.BackAttIdeal.τ).loc Cert.BackAttIdeal.main_arg1)) →
    ∃ (v0 : (c : Dev Cert.BackAttIdeal.nD) → Buf (Elt Ideal) ((c.tc : Thread Cert.BackAttIdeal.nD Cert.BackAttIdeal.τ).loc Cert.BackAttIdeal.main_v1)),
      θ_run (Cert.BackAttIdeal.defs (F := Ideal)) (onTc (τ := Cert.BackAttIdeal.τ) (Cert.BackAttIdeal.main (F := Ideal))) ⟨m, fun _ => 0, g⟩ (fun r => ∀ c : Dev Cert.BackAttIdeal.nD,
          r.2.mem ((c.tc : Thread Cert.BackAttIdeal.nD Cert.BackAttIdeal.τ).loc Cert.BackAttIdeal.main_v1) = v0 c
          ∧ r.2.mem ((c.tc : Thread Cert.BackAttIdeal.nD Cert.BackAttIdeal.τ).loc Cert.BackAttIdeal.main_arg0) = m ((c.tc : Thread Cert.BackAttIdeal.nD Cert.BackAttIdeal.τ).loc Cert.BackAttIdeal.main_arg0)
          ∧ r.2.mem ((c.tc : Thread Cert.BackAttIdeal.nD Cert.BackAttIdeal.τ).loc Cert.BackAttIdeal.main_arg1) = m ((c.tc : Thread Cert.BackAttIdeal.nD Cert.BackAttIdeal.τ).loc Cert.BackAttIdeal.main_arg1))
      ∧ θ_run (Cert.BackAttReferenceIdeal.defs (F := Ideal)) (onTc (τ := Cert.BackAttReferenceIdeal.τ) (Cert.BackAttReferenceIdeal.main (F := Ideal))) ⟨m', fun _ => 0, g'⟩ (fun r => ∀ c : Dev Cert.BackAttReferenceIdeal.nD,
          r.2.mem ((c.tc : Thread Cert.BackAttReferenceIdeal.nD Cert.BackAttReferenceIdeal.τ).loc Cert.BackAttReferenceIdeal.main_v4) = v0 c
          ∧ r.2.mem ((c.tc : Thread Cert.BackAttReferenceIdeal.nD Cert.BackAttReferenceIdeal.τ).loc Cert.BackAttReferenceIdeal.main_arg0) = m' ((c.tc : Thread Cert.BackAttReferenceIdeal.nD Cert.BackAttReferenceIdeal.τ).loc Cert.BackAttReferenceIdeal.main_arg0)
          ∧ r.2.mem ((c.tc : Thread Cert.BackAttReferenceIdeal.nD Cert.BackAttReferenceIdeal.τ).loc Cert.BackAttReferenceIdeal.main_arg1) = m' ((c.tc : Thread Cert.BackAttReferenceIdeal.nD Cert.BackAttReferenceIdeal.τ).loc Cert.BackAttReferenceIdeal.main_arg1))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v3)) (v1 : (c : Dev Cert.MlpIdeal.nD) → Buf (Elt Ideal) ((c.tc : Thread Cert.MlpIdeal.nD Cert.MlpIdeal.τ).loc Cert.MlpIdeal.main_v1_0)) (v2 : (c : Dev Cert.MlpIdeal.nD) → Buf (Elt Ideal) ((c.tc : Thread Cert.MlpIdeal.nD Cert.MlpIdeal.τ).loc Cert.MlpIdeal.main_v0_0)) (v3 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v3) = v0 c
          ∧ r.2.mem ((c.tc : Thread Cert.MlpIdeal.nD Cert.MlpIdeal.τ).loc Cert.MlpIdeal.main_v1_0) = v1 c
          ∧ r.2.mem ((c.tc : Thread Cert.MlpIdeal.nD Cert.MlpIdeal.τ).loc Cert.MlpIdeal.main_v0_0) = v2 c
          ∧ r.2.mem ((c.tc : Thread Cert.MlpIdeal.nD Cert.MlpIdeal.τ).loc Cert.MlpIdeal.main_v5) = v3 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v21) = v0 c
          ∧ r.2.mem ((c.tc : Thread Cert.MlpReferenceIdeal.nD Cert.MlpReferenceIdeal.τ).loc Cert.MlpReferenceIdeal.main_v27) = v1 c
          ∧ r.2.mem ((c.tc : Thread Cert.MlpReferenceIdeal.nD Cert.MlpReferenceIdeal.τ).loc Cert.MlpReferenceIdeal.main_v34) = v2 c
          ∧ r.2.mem ((c.tc : Thread Cert.MlpReferenceIdeal.nD Cert.MlpReferenceIdeal.τ).loc Cert.MlpReferenceIdeal.main_v35) = v3 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4))

def preserves_UpBack_UpBackIdeal : Prop :=
  True

def algebraic_UpBackIdeal_UpBackReferenceIdeal [hUpBackIdeal : Cert.UpBackIdeal.Facts] [hUpBackReferenceIdeal : Cert.UpBackReferenceIdeal.Facts] : Prop :=
  ∀ (m : (ℓ : Loc Cert.UpBackIdeal.nD Cert.UpBackIdeal.τ Cert.UpBackIdeal.sig) → Buf (Elt Ideal) ℓ) (g : Dev Cert.UpBackIdeal.nD → PrngReg)
    (m' : (ℓ : Loc Cert.UpBackReferenceIdeal.nD Cert.UpBackReferenceIdeal.τ Cert.UpBackReferenceIdeal.sig) → Buf (Elt Ideal) ℓ) (g' : Dev Cert.UpBackReferenceIdeal.nD → PrngReg), Pre_UpBackIdeal m →
    (∀ c : Dev Cert.UpBackIdeal.nD,
      m' ((c.tc : Thread Cert.UpBackReferenceIdeal.nD Cert.UpBackReferenceIdeal.τ).loc Cert.UpBackReferenceIdeal.main_arg0) = m ((c.tc : Thread Cert.UpBackIdeal.nD Cert.UpBackIdeal.τ).loc Cert.UpBackIdeal.main_arg0)
      ∧ m' ((c.tc : Thread Cert.UpBackReferenceIdeal.nD Cert.UpBackReferenceIdeal.τ).loc Cert.UpBackReferenceIdeal.main_arg1) = m ((c.tc : Thread Cert.UpBackIdeal.nD Cert.UpBackIdeal.τ).loc Cert.UpBackIdeal.main_arg1)
      ∧ m' ((c.tc : Thread Cert.UpBackReferenceIdeal.nD Cert.UpBackReferenceIdeal.τ).loc Cert.UpBackReferenceIdeal.main_arg2) = m ((c.tc : Thread Cert.UpBackIdeal.nD Cert.UpBackIdeal.τ).loc Cert.UpBackIdeal.main_arg2)
      ∧ m' ((c.tc : Thread Cert.UpBackReferenceIdeal.nD Cert.UpBackReferenceIdeal.τ).loc Cert.UpBackReferenceIdeal.main_arg3) = m ((c.tc : Thread Cert.UpBackIdeal.nD Cert.UpBackIdeal.τ).loc Cert.UpBackIdeal.main_arg3)
      ∧ m' ((c.tc : Thread Cert.UpBackReferenceIdeal.nD Cert.UpBackReferenceIdeal.τ).loc Cert.UpBackReferenceIdeal.main_arg4) = m ((c.tc : Thread Cert.UpBackIdeal.nD Cert.UpBackIdeal.τ).loc Cert.UpBackIdeal.main_arg4)) →
    ∃ (v0 : (c : Dev Cert.UpBackIdeal.nD) → Buf (Elt Ideal) ((c.tc : Thread Cert.UpBackIdeal.nD Cert.UpBackIdeal.τ).loc Cert.UpBackIdeal.main_v1_0)) (v1 : (c : Dev Cert.UpBackIdeal.nD) → Buf (Elt Ideal) ((c.tc : Thread Cert.UpBackIdeal.nD Cert.UpBackIdeal.τ).loc Cert.UpBackIdeal.main_v1_1)) (v2 : (c : Dev Cert.UpBackIdeal.nD) → Buf (Elt Ideal) ((c.tc : Thread Cert.UpBackIdeal.nD Cert.UpBackIdeal.τ).loc Cert.UpBackIdeal.main_v1_2)),
      θ_run (Cert.UpBackIdeal.defs (F := Ideal)) (onTc (τ := Cert.UpBackIdeal.τ) (Cert.UpBackIdeal.main (F := Ideal))) ⟨m, fun _ => 0, g⟩ (fun r => ∀ c : Dev Cert.UpBackIdeal.nD,
          r.2.mem ((c.tc : Thread Cert.UpBackIdeal.nD Cert.UpBackIdeal.τ).loc Cert.UpBackIdeal.main_v1_0) = v0 c
          ∧ r.2.mem ((c.tc : Thread Cert.UpBackIdeal.nD Cert.UpBackIdeal.τ).loc Cert.UpBackIdeal.main_v1_1) = v1 c
          ∧ r.2.mem ((c.tc : Thread Cert.UpBackIdeal.nD Cert.UpBackIdeal.τ).loc Cert.UpBackIdeal.main_v1_2) = v2 c
          ∧ r.2.mem ((c.tc : Thread Cert.UpBackIdeal.nD Cert.UpBackIdeal.τ).loc Cert.UpBackIdeal.main_arg0) = m ((c.tc : Thread Cert.UpBackIdeal.nD Cert.UpBackIdeal.τ).loc Cert.UpBackIdeal.main_arg0)
          ∧ r.2.mem ((c.tc : Thread Cert.UpBackIdeal.nD Cert.UpBackIdeal.τ).loc Cert.UpBackIdeal.main_arg1) = m ((c.tc : Thread Cert.UpBackIdeal.nD Cert.UpBackIdeal.τ).loc Cert.UpBackIdeal.main_arg1)
          ∧ r.2.mem ((c.tc : Thread Cert.UpBackIdeal.nD Cert.UpBackIdeal.τ).loc Cert.UpBackIdeal.main_arg2) = m ((c.tc : Thread Cert.UpBackIdeal.nD Cert.UpBackIdeal.τ).loc Cert.UpBackIdeal.main_arg2)
          ∧ r.2.mem ((c.tc : Thread Cert.UpBackIdeal.nD Cert.UpBackIdeal.τ).loc Cert.UpBackIdeal.main_arg3) = m ((c.tc : Thread Cert.UpBackIdeal.nD Cert.UpBackIdeal.τ).loc Cert.UpBackIdeal.main_arg3)
          ∧ r.2.mem ((c.tc : Thread Cert.UpBackIdeal.nD Cert.UpBackIdeal.τ).loc Cert.UpBackIdeal.main_arg4) = m ((c.tc : Thread Cert.UpBackIdeal.nD Cert.UpBackIdeal.τ).loc Cert.UpBackIdeal.main_arg4))
      ∧ θ_run (Cert.UpBackReferenceIdeal.defs (F := Ideal)) (onTc (τ := Cert.UpBackReferenceIdeal.τ) (Cert.UpBackReferenceIdeal.main (F := Ideal))) ⟨m', fun _ => 0, g'⟩ (fun r => ∀ c : Dev Cert.UpBackReferenceIdeal.nD,
          r.2.mem ((c.tc : Thread Cert.UpBackReferenceIdeal.nD Cert.UpBackReferenceIdeal.τ).loc Cert.UpBackReferenceIdeal.main_v41) = v0 c
          ∧ r.2.mem ((c.tc : Thread Cert.UpBackReferenceIdeal.nD Cert.UpBackReferenceIdeal.τ).loc Cert.UpBackReferenceIdeal.main_v42) = v1 c
          ∧ r.2.mem ((c.tc : Thread Cert.UpBackReferenceIdeal.nD Cert.UpBackReferenceIdeal.τ).loc Cert.UpBackReferenceIdeal.main_v43) = v2 c
          ∧ r.2.mem ((c.tc : Thread Cert.UpBackReferenceIdeal.nD Cert.UpBackReferenceIdeal.τ).loc Cert.UpBackReferenceIdeal.main_arg0) = m' ((c.tc : Thread Cert.UpBackReferenceIdeal.nD Cert.UpBackReferenceIdeal.τ).loc Cert.UpBackReferenceIdeal.main_arg0)
          ∧ r.2.mem ((c.tc : Thread Cert.UpBackReferenceIdeal.nD Cert.UpBackReferenceIdeal.τ).loc Cert.UpBackReferenceIdeal.main_arg1) = m' ((c.tc : Thread Cert.UpBackReferenceIdeal.nD Cert.UpBackReferenceIdeal.τ).loc Cert.UpBackReferenceIdeal.main_arg1)
          ∧ r.2.mem ((c.tc : Thread Cert.UpBackReferenceIdeal.nD Cert.UpBackReferenceIdeal.τ).loc Cert.UpBackReferenceIdeal.main_arg2) = m' ((c.tc : Thread Cert.UpBackReferenceIdeal.nD Cert.UpBackReferenceIdeal.τ).loc Cert.UpBackReferenceIdeal.main_arg2)
          ∧ r.2.mem ((c.tc : Thread Cert.UpBackReferenceIdeal.nD Cert.UpBackReferenceIdeal.τ).loc Cert.UpBackReferenceIdeal.main_arg3) = m' ((c.tc : Thread Cert.UpBackReferenceIdeal.nD Cert.UpBackReferenceIdeal.τ).loc Cert.UpBackReferenceIdeal.main_arg3)
          ∧ r.2.mem ((c.tc : Thread Cert.UpBackReferenceIdeal.nD Cert.UpBackReferenceIdeal.τ).loc Cert.UpBackReferenceIdeal.main_arg4) = m' ((c.tc : Thread Cert.UpBackReferenceIdeal.nD Cert.UpBackReferenceIdeal.τ).loc Cert.UpBackReferenceIdeal.main_arg4))

def preserves_RestBack_RestBackIdeal : Prop :=
  True

def algebraic_RestBackIdeal_RestBackReferenceIdeal [hRestBackIdeal : Cert.RestBackIdeal.Facts] [hRestBackReferenceIdeal : Cert.RestBackReferenceIdeal.Facts] : Prop :=
  ∀ (m : (ℓ : Loc Cert.RestBackIdeal.nD Cert.RestBackIdeal.τ Cert.RestBackIdeal.sig) → Buf (Elt Ideal) ℓ) (g : Dev Cert.RestBackIdeal.nD → PrngReg)
    (m' : (ℓ : Loc Cert.RestBackReferenceIdeal.nD Cert.RestBackReferenceIdeal.τ Cert.RestBackReferenceIdeal.sig) → Buf (Elt Ideal) ℓ) (g' : Dev Cert.RestBackReferenceIdeal.nD → PrngReg), Pre_RestBackIdeal m →
    (∀ c : Dev Cert.RestBackIdeal.nD,
      m' ((c.tc : Thread Cert.RestBackReferenceIdeal.nD Cert.RestBackReferenceIdeal.τ).loc Cert.RestBackReferenceIdeal.main_arg0) = m ((c.tc : Thread Cert.RestBackIdeal.nD Cert.RestBackIdeal.τ).loc Cert.RestBackIdeal.main_arg0)
      ∧ m' ((c.tc : Thread Cert.RestBackReferenceIdeal.nD Cert.RestBackReferenceIdeal.τ).loc Cert.RestBackReferenceIdeal.main_arg1) = m ((c.tc : Thread Cert.RestBackIdeal.nD Cert.RestBackIdeal.τ).loc Cert.RestBackIdeal.main_arg1)
      ∧ m' ((c.tc : Thread Cert.RestBackReferenceIdeal.nD Cert.RestBackReferenceIdeal.τ).loc Cert.RestBackReferenceIdeal.main_arg2) = m ((c.tc : Thread Cert.RestBackIdeal.nD Cert.RestBackIdeal.τ).loc Cert.RestBackIdeal.main_arg2)
      ∧ m' ((c.tc : Thread Cert.RestBackReferenceIdeal.nD Cert.RestBackReferenceIdeal.τ).loc Cert.RestBackReferenceIdeal.main_arg3) = m ((c.tc : Thread Cert.RestBackIdeal.nD Cert.RestBackIdeal.τ).loc Cert.RestBackIdeal.main_arg3)
      ∧ m' ((c.tc : Thread Cert.RestBackReferenceIdeal.nD Cert.RestBackReferenceIdeal.τ).loc Cert.RestBackReferenceIdeal.main_arg4) = m ((c.tc : Thread Cert.RestBackIdeal.nD Cert.RestBackIdeal.τ).loc Cert.RestBackIdeal.main_arg4)
      ∧ m' ((c.tc : Thread Cert.RestBackReferenceIdeal.nD Cert.RestBackReferenceIdeal.τ).loc Cert.RestBackReferenceIdeal.main_arg5) = m ((c.tc : Thread Cert.RestBackIdeal.nD Cert.RestBackIdeal.τ).loc Cert.RestBackIdeal.main_arg5)) →
    ∃ (v0 : (c : Dev Cert.RestBackIdeal.nD) → Buf (Elt Ideal) ((c.tc : Thread Cert.RestBackIdeal.nD Cert.RestBackIdeal.τ).loc Cert.RestBackIdeal.main_v1_0)) (v1 : (c : Dev Cert.RestBackIdeal.nD) → Buf (Elt Ideal) ((c.tc : Thread Cert.RestBackIdeal.nD Cert.RestBackIdeal.τ).loc Cert.RestBackIdeal.main_v1_1)),
      θ_run (Cert.RestBackIdeal.defs (F := Ideal)) (onTc (τ := Cert.RestBackIdeal.τ) (Cert.RestBackIdeal.main (F := Ideal))) ⟨m, fun _ => 0, g⟩ (fun r => ∀ c : Dev Cert.RestBackIdeal.nD,
          r.2.mem ((c.tc : Thread Cert.RestBackIdeal.nD Cert.RestBackIdeal.τ).loc Cert.RestBackIdeal.main_v1_0) = v0 c
          ∧ r.2.mem ((c.tc : Thread Cert.RestBackIdeal.nD Cert.RestBackIdeal.τ).loc Cert.RestBackIdeal.main_v1_1) = v1 c
          ∧ r.2.mem ((c.tc : Thread Cert.RestBackIdeal.nD Cert.RestBackIdeal.τ).loc Cert.RestBackIdeal.main_arg0) = m ((c.tc : Thread Cert.RestBackIdeal.nD Cert.RestBackIdeal.τ).loc Cert.RestBackIdeal.main_arg0)
          ∧ r.2.mem ((c.tc : Thread Cert.RestBackIdeal.nD Cert.RestBackIdeal.τ).loc Cert.RestBackIdeal.main_arg1) = m ((c.tc : Thread Cert.RestBackIdeal.nD Cert.RestBackIdeal.τ).loc Cert.RestBackIdeal.main_arg1)
          ∧ r.2.mem ((c.tc : Thread Cert.RestBackIdeal.nD Cert.RestBackIdeal.τ).loc Cert.RestBackIdeal.main_arg2) = m ((c.tc : Thread Cert.RestBackIdeal.nD Cert.RestBackIdeal.τ).loc Cert.RestBackIdeal.main_arg2)
          ∧ r.2.mem ((c.tc : Thread Cert.RestBackIdeal.nD Cert.RestBackIdeal.τ).loc Cert.RestBackIdeal.main_arg3) = m ((c.tc : Thread Cert.RestBackIdeal.nD Cert.RestBackIdeal.τ).loc Cert.RestBackIdeal.main_arg3)
          ∧ r.2.mem ((c.tc : Thread Cert.RestBackIdeal.nD Cert.RestBackIdeal.τ).loc Cert.RestBackIdeal.main_arg4) = m ((c.tc : Thread Cert.RestBackIdeal.nD Cert.RestBackIdeal.τ).loc Cert.RestBackIdeal.main_arg4)
          ∧ r.2.mem ((c.tc : Thread Cert.RestBackIdeal.nD Cert.RestBackIdeal.τ).loc Cert.RestBackIdeal.main_arg5) = m ((c.tc : Thread Cert.RestBackIdeal.nD Cert.RestBackIdeal.τ).loc Cert.RestBackIdeal.main_arg5))
      ∧ θ_run (Cert.RestBackReferenceIdeal.defs (F := Ideal)) (onTc (τ := Cert.RestBackReferenceIdeal.τ) (Cert.RestBackReferenceIdeal.main (F := Ideal))) ⟨m', fun _ => 0, g'⟩ (fun r => ∀ c : Dev Cert.RestBackReferenceIdeal.nD,
          r.2.mem ((c.tc : Thread Cert.RestBackReferenceIdeal.nD Cert.RestBackReferenceIdeal.τ).loc Cert.RestBackReferenceIdeal.main_v42) = v0 c
          ∧ r.2.mem ((c.tc : Thread Cert.RestBackReferenceIdeal.nD Cert.RestBackReferenceIdeal.τ).loc Cert.RestBackReferenceIdeal.main_v43) = v1 c
          ∧ r.2.mem ((c.tc : Thread Cert.RestBackReferenceIdeal.nD Cert.RestBackReferenceIdeal.τ).loc Cert.RestBackReferenceIdeal.main_arg0) = m' ((c.tc : Thread Cert.RestBackReferenceIdeal.nD Cert.RestBackReferenceIdeal.τ).loc Cert.RestBackReferenceIdeal.main_arg0)
          ∧ r.2.mem ((c.tc : Thread Cert.RestBackReferenceIdeal.nD Cert.RestBackReferenceIdeal.τ).loc Cert.RestBackReferenceIdeal.main_arg1) = m' ((c.tc : Thread Cert.RestBackReferenceIdeal.nD Cert.RestBackReferenceIdeal.τ).loc Cert.RestBackReferenceIdeal.main_arg1)
          ∧ r.2.mem ((c.tc : Thread Cert.RestBackReferenceIdeal.nD Cert.RestBackReferenceIdeal.τ).loc Cert.RestBackReferenceIdeal.main_arg2) = m' ((c.tc : Thread Cert.RestBackReferenceIdeal.nD Cert.RestBackReferenceIdeal.τ).loc Cert.RestBackReferenceIdeal.main_arg2)
          ∧ r.2.mem ((c.tc : Thread Cert.RestBackReferenceIdeal.nD Cert.RestBackReferenceIdeal.τ).loc Cert.RestBackReferenceIdeal.main_arg3) = m' ((c.tc : Thread Cert.RestBackReferenceIdeal.nD Cert.RestBackReferenceIdeal.τ).loc Cert.RestBackReferenceIdeal.main_arg3)
          ∧ r.2.mem ((c.tc : Thread Cert.RestBackReferenceIdeal.nD Cert.RestBackReferenceIdeal.τ).loc Cert.RestBackReferenceIdeal.main_arg4) = m' ((c.tc : Thread Cert.RestBackReferenceIdeal.nD Cert.RestBackReferenceIdeal.τ).loc Cert.RestBackReferenceIdeal.main_arg4)
          ∧ r.2.mem ((c.tc : Thread Cert.RestBackReferenceIdeal.nD Cert.RestBackReferenceIdeal.τ).loc Cert.RestBackReferenceIdeal.main_arg5) = m' ((c.tc : Thread Cert.RestBackReferenceIdeal.nD Cert.RestBackReferenceIdeal.τ).loc Cert.RestBackReferenceIdeal.main_arg5))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)) (v4 : (c : Dev Cert.MergeIdeal.nD) → Buf (Elt Ideal) ((c.tc : Thread Cert.MergeIdeal.nD Cert.MergeIdeal.τ).loc Cert.MergeIdeal.main_v0_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_v0_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v26) = v0 c
          ∧ r.2.mem ((c.tc : Thread Cert.MergeReferenceIdeal.nD Cert.MergeReferenceIdeal.τ).loc Cert.MergeReferenceIdeal.main_v27) = v1 c
          ∧ r.2.mem ((c.tc : Thread Cert.MergeReferenceIdeal.nD Cert.MergeReferenceIdeal.τ).loc Cert.MergeReferenceIdeal.main_v28) = v2 c
          ∧ r.2.mem ((c.tc : Thread Cert.MergeReferenceIdeal.nD Cert.MergeReferenceIdeal.τ).loc Cert.MergeReferenceIdeal.main_v29) = v3 c
          ∧ r.2.mem ((c.tc : Thread Cert.MergeReferenceIdeal.nD Cert.MergeReferenceIdeal.τ).loc Cert.MergeReferenceIdeal.main_v44) = v4 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_GradOut_GradOutIdeal : Prop :=
  True

def algebraic_GradOutIdeal_GradOutReferenceIdeal [hGradOutIdeal : Cert.GradOutIdeal.Facts] [hGradOutReferenceIdeal : Cert.GradOutReferenceIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutReferenceIdeal.nD Cert.GradOutReferenceIdeal.τ Cert.GradOutReferenceIdeal.sig) → Buf (Elt Ideal) ℓ) (g' : Dev Cert.GradOutReferenceIdeal.nD → PrngReg), Pre_GradOutIdeal m →
    (∀ c : Dev Cert.GradOutIdeal.nD,
      m' ((c.tc : Thread Cert.GradOutReferenceIdeal.nD Cert.GradOutReferenceIdeal.τ).loc Cert.GradOutReferenceIdeal.main_arg0) = m ((c.tc : Thread Cert.GradOutIdeal.nD Cert.GradOutIdeal.τ).loc Cert.GradOutIdeal.main_arg0)
      ∧ m' ((c.tc : Thread Cert.GradOutReferenceIdeal.nD Cert.GradOutReferenceIdeal.τ).loc Cert.GradOutReferenceIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutReferenceIdeal.defs (F := Ideal)) (onTc (τ := Cert.GradOutReferenceIdeal.τ) (Cert.GradOutReferenceIdeal.main (F := Ideal))) ⟨m', fun _ => 0, g'⟩ (fun r => ∀ c : Dev Cert.GradOutReferenceIdeal.nD,
          r.2.mem ((c.tc : Thread Cert.GradOutReferenceIdeal.nD Cert.GradOutReferenceIdeal.τ).loc Cert.GradOutReferenceIdeal.main_v6) = v0 c
          ∧ r.2.mem ((c.tc : Thread Cert.GradOutReferenceIdeal.nD Cert.GradOutReferenceIdeal.τ).loc Cert.GradOutReferenceIdeal.main_arg0) = m' ((c.tc : Thread Cert.GradOutReferenceIdeal.nD Cert.GradOutReferenceIdeal.τ).loc Cert.GradOutReferenceIdeal.main_arg0)
          ∧ r.2.mem ((c.tc : Thread Cert.GradOutReferenceIdeal.nD Cert.GradOutReferenceIdeal.τ).loc Cert.GradOutReferenceIdeal.main_arg1) = m' ((c.tc : Thread Cert.GradOutReferenceIdeal.nD Cert.GradOutReferenceIdeal.τ).loc Cert.GradOutReferenceIdeal.main_arg1))

def preserves_GradMix_GradMixIdeal : Prop :=
  True

def algebraic_GradMixIdeal_GradMixReferenceIdeal [hGradMixIdeal : Cert.GradMixIdeal.Facts] [hGradMixReferenceIdeal : Cert.GradMixReferenceIdeal.Facts] : Prop :=
  ∀ (m : (ℓ : Loc Cert.GradMixIdeal.nD Cert.GradMixIdeal.τ Cert.GradMixIdeal.sig) → Buf (Elt Ideal) ℓ) (g : Dev Cert.GradMixIdeal.nD → PrngReg)
    (m' : (ℓ : Loc Cert.GradMixReferenceIdeal.nD Cert.GradMixReferenceIdeal.τ Cert.GradMixReferenceIdeal.sig) → Buf (Elt Ideal) ℓ) (g' : Dev Cert.GradMixReferenceIdeal.nD → PrngReg), Pre_GradMixIdeal m →
    (∀ c : Dev Cert.GradMixIdeal.nD,
      m' ((c.tc : Thread Cert.GradMixReferenceIdeal.nD Cert.GradMixReferenceIdeal.τ).loc Cert.GradMixReferenceIdeal.main_arg0) = m ((c.tc : Thread Cert.GradMixIdeal.nD Cert.GradMixIdeal.τ).loc Cert.GradMixIdeal.main_arg0)
      ∧ m' ((c.tc : Thread Cert.GradMixReferenceIdeal.nD Cert.GradMixReferenceIdeal.τ).loc Cert.GradMixReferenceIdeal.main_arg1) = m ((c.tc : Thread Cert.GradMixIdeal.nD Cert.GradMixIdeal.τ).loc Cert.GradMixIdeal.main_arg1)) →
    ∃ (v0 : (c : Dev Cert.GradMixIdeal.nD) → Buf (Elt Ideal) ((c.tc : Thread Cert.GradMixIdeal.nD Cert.GradMixIdeal.τ).loc Cert.GradMixIdeal.main_v0)),
      θ_run (Cert.GradMixIdeal.defs (F := Ideal)) (onTc (τ := Cert.GradMixIdeal.τ) (Cert.GradMixIdeal.main (F := Ideal))) ⟨m, fun _ => 0, g⟩ (fun r => ∀ c : Dev Cert.GradMixIdeal.nD,
          r.2.mem ((c.tc : Thread Cert.GradMixIdeal.nD Cert.GradMixIdeal.τ).loc Cert.GradMixIdeal.main_v0) = v0 c
          ∧ r.2.mem ((c.tc : Thread Cert.GradMixIdeal.nD Cert.GradMixIdeal.τ).loc Cert.GradMixIdeal.main_arg0) = m ((c.tc : Thread Cert.GradMixIdeal.nD Cert.GradMixIdeal.τ).loc Cert.GradMixIdeal.main_arg0)
          ∧ r.2.mem ((c.tc : Thread Cert.GradMixIdeal.nD Cert.GradMixIdeal.τ).loc Cert.GradMixIdeal.main_arg1) = m ((c.tc : Thread Cert.GradMixIdeal.nD Cert.GradMixIdeal.τ).loc Cert.GradMixIdeal.main_arg1))
      ∧ θ_run (Cert.GradMixReferenceIdeal.defs (F := Ideal)) (onTc (τ := Cert.GradMixReferenceIdeal.τ) (Cert.GradMixReferenceIdeal.main (F := Ideal))) ⟨m', fun _ => 0, g'⟩ (fun r => ∀ c : Dev Cert.GradMixReferenceIdeal.nD,
          r.2.mem ((c.tc : Thread Cert.GradMixReferenceIdeal.nD Cert.GradMixReferenceIdeal.τ).loc Cert.GradMixReferenceIdeal.main_v5) = v0 c
          ∧ r.2.mem ((c.tc : Thread Cert.GradMixReferenceIdeal.nD Cert.GradMixReferenceIdeal.τ).loc Cert.GradMixReferenceIdeal.main_arg0) = m' ((c.tc : Thread Cert.GradMixReferenceIdeal.nD Cert.GradMixReferenceIdeal.τ).loc Cert.GradMixReferenceIdeal.main_arg0)
          ∧ r.2.mem ((c.tc : Thread Cert.GradMixReferenceIdeal.nD Cert.GradMixReferenceIdeal.τ).loc Cert.GradMixReferenceIdeal.main_arg1) = m' ((c.tc : Thread Cert.GradMixReferenceIdeal.nD Cert.GradMixReferenceIdeal.τ).loc Cert.GradMixReferenceIdeal.main_arg1))

def preserves_MixBack_MixBackIdeal : Prop :=
  True

def algebraic_MixBackIdeal_MixBackReferenceIdeal [hMixBackIdeal : Cert.MixBackIdeal.Facts] [hMixBackReferenceIdeal : Cert.MixBackReferenceIdeal.Facts] : Prop :=
  ∀ (m : (ℓ : Loc Cert.MixBackIdeal.nD Cert.MixBackIdeal.τ Cert.MixBackIdeal.sig) → Buf (Elt Ideal) ℓ) (g : Dev Cert.MixBackIdeal.nD → PrngReg)
    (m' : (ℓ : Loc Cert.MixBackReferenceIdeal.nD Cert.MixBackReferenceIdeal.τ Cert.MixBackReferenceIdeal.sig) → Buf (Elt Ideal) ℓ) (g' : Dev Cert.MixBackReferenceIdeal.nD → PrngReg), Pre_MixBackIdeal m →
    (∀ c : Dev Cert.MixBackIdeal.nD,
      m' ((c.tc : Thread Cert.MixBackReferenceIdeal.nD Cert.MixBackReferenceIdeal.τ).loc Cert.MixBackReferenceIdeal.main_arg0) = m ((c.tc : Thread Cert.MixBackIdeal.nD Cert.MixBackIdeal.τ).loc Cert.MixBackIdeal.main_arg0)
      ∧ m' ((c.tc : Thread Cert.MixBackReferenceIdeal.nD Cert.MixBackReferenceIdeal.τ).loc Cert.MixBackReferenceIdeal.main_arg1) = m ((c.tc : Thread Cert.MixBackIdeal.nD Cert.MixBackIdeal.τ).loc Cert.MixBackIdeal.main_arg1)
      ∧ m' ((c.tc : Thread Cert.MixBackReferenceIdeal.nD Cert.MixBackReferenceIdeal.τ).loc Cert.MixBackReferenceIdeal.main_arg2) = m ((c.tc : Thread Cert.MixBackIdeal.nD Cert.MixBackIdeal.τ).loc Cert.MixBackIdeal.main_arg2)
      ∧ m' ((c.tc : Thread Cert.MixBackReferenceIdeal.nD Cert.MixBackReferenceIdeal.τ).loc Cert.MixBackReferenceIdeal.main_arg3) = m ((c.tc : Thread Cert.MixBackIdeal.nD Cert.MixBackIdeal.τ).loc Cert.MixBackIdeal.main_arg3)
      ∧ m' ((c.tc : Thread Cert.MixBackReferenceIdeal.nD Cert.MixBackReferenceIdeal.τ).loc Cert.MixBackReferenceIdeal.main_arg4) = m ((c.tc : Thread Cert.MixBackIdeal.nD Cert.MixBackIdeal.τ).loc Cert.MixBackIdeal.main_arg4)) →
    ∃ (v0 : (c : Dev Cert.MixBackIdeal.nD) → Buf (Elt Ideal) ((c.tc : Thread Cert.MixBackIdeal.nD Cert.MixBackIdeal.τ).loc Cert.MixBackIdeal.main_v1_0)) (v1 : (c : Dev Cert.MixBackIdeal.nD) → Buf (Elt Ideal) ((c.tc : Thread Cert.MixBackIdeal.nD Cert.MixBackIdeal.τ).loc Cert.MixBackIdeal.main_v1_1)) (v2 : (c : Dev Cert.MixBackIdeal.nD) → Buf (Elt Ideal) ((c.tc : Thread Cert.MixBackIdeal.nD Cert.MixBackIdeal.τ).loc Cert.MixBackIdeal.main_v2)) (v3 : (c : Dev Cert.MixBackIdeal.nD) → Buf (Elt Ideal) ((c.tc : Thread Cert.MixBackIdeal.nD Cert.MixBackIdeal.τ).loc Cert.MixBackIdeal.main_v3)),
      θ_run (Cert.MixBackIdeal.defs (F := Ideal)) (onTc (τ := Cert.MixBackIdeal.τ) (Cert.MixBackIdeal.main (F := Ideal))) ⟨m, fun _ => 0, g⟩ (fun r => ∀ c : Dev Cert.MixBackIdeal.nD,
          r.2.mem ((c.tc : Thread Cert.MixBackIdeal.nD Cert.MixBackIdeal.τ).loc Cert.MixBackIdeal.main_v1_0) = v0 c
          ∧ r.2.mem ((c.tc : Thread Cert.MixBackIdeal.nD Cert.MixBackIdeal.τ).loc Cert.MixBackIdeal.main_v1_1) = v1 c
          ∧ r.2.mem ((c.tc : Thread Cert.MixBackIdeal.nD Cert.MixBackIdeal.τ).loc Cert.MixBackIdeal.main_v2) = v2 c
          ∧ r.2.mem ((c.tc : Thread Cert.MixBackIdeal.nD Cert.MixBackIdeal.τ).loc Cert.MixBackIdeal.main_v3) = v3 c
          ∧ r.2.mem ((c.tc : Thread Cert.MixBackIdeal.nD Cert.MixBackIdeal.τ).loc Cert.MixBackIdeal.main_arg0) = m ((c.tc : Thread Cert.MixBackIdeal.nD Cert.MixBackIdeal.τ).loc Cert.MixBackIdeal.main_arg0)
          ∧ r.2.mem ((c.tc : Thread Cert.MixBackIdeal.nD Cert.MixBackIdeal.τ).loc Cert.MixBackIdeal.main_arg1) = m ((c.tc : Thread Cert.MixBackIdeal.nD Cert.MixBackIdeal.τ).loc Cert.MixBackIdeal.main_arg1)
          ∧ r.2.mem ((c.tc : Thread Cert.MixBackIdeal.nD Cert.MixBackIdeal.τ).loc Cert.MixBackIdeal.main_arg2) = m ((c.tc : Thread Cert.MixBackIdeal.nD Cert.MixBackIdeal.τ).loc Cert.MixBackIdeal.main_arg2)
          ∧ r.2.mem ((c.tc : Thread Cert.MixBackIdeal.nD Cert.MixBackIdeal.τ).loc Cert.MixBackIdeal.main_arg3) = m ((c.tc : Thread Cert.MixBackIdeal.nD Cert.MixBackIdeal.τ).loc Cert.MixBackIdeal.main_arg3)
          ∧ r.2.mem ((c.tc : Thread Cert.MixBackIdeal.nD Cert.MixBackIdeal.τ).loc Cert.MixBackIdeal.main_arg4) = m ((c.tc : Thread Cert.MixBackIdeal.nD Cert.MixBackIdeal.τ).loc Cert.MixBackIdeal.main_arg4))
      ∧ θ_run (Cert.MixBackReferenceIdeal.defs (F := Ideal)) (onTc (τ := Cert.MixBackReferenceIdeal.τ) (Cert.MixBackReferenceIdeal.main (F := Ideal))) ⟨m', fun _ => 0, g'⟩ (fun r => ∀ c : Dev Cert.MixBackReferenceIdeal.nD,
          r.2.mem ((c.tc : Thread Cert.MixBackReferenceIdeal.nD Cert.MixBackReferenceIdeal.τ).loc Cert.MixBackReferenceIdeal.main_v37) = v0 c
          ∧ r.2.mem ((c.tc : Thread Cert.MixBackReferenceIdeal.nD Cert.MixBackReferenceIdeal.τ).loc Cert.MixBackReferenceIdeal.main_v38) = v1 c
          ∧ r.2.mem ((c.tc : Thread Cert.MixBackReferenceIdeal.nD Cert.MixBackReferenceIdeal.τ).loc Cert.MixBackReferenceIdeal.main_v39) = v2 c
          ∧ r.2.mem ((c.tc : Thread Cert.MixBackReferenceIdeal.nD Cert.MixBackReferenceIdeal.τ).loc Cert.MixBackReferenceIdeal.main_v40) = v3 c
          ∧ r.2.mem ((c.tc : Thread Cert.MixBackReferenceIdeal.nD Cert.MixBackReferenceIdeal.τ).loc Cert.MixBackReferenceIdeal.main_arg0) = m' ((c.tc : Thread Cert.MixBackReferenceIdeal.nD Cert.MixBackReferenceIdeal.τ).loc Cert.MixBackReferenceIdeal.main_arg0)
          ∧ r.2.mem ((c.tc : Thread Cert.MixBackReferenceIdeal.nD Cert.MixBackReferenceIdeal.τ).loc Cert.MixBackReferenceIdeal.main_arg1) = m' ((c.tc : Thread Cert.MixBackReferenceIdeal.nD Cert.MixBackReferenceIdeal.τ).loc Cert.MixBackReferenceIdeal.main_arg1)
          ∧ r.2.mem ((c.tc : Thread Cert.MixBackReferenceIdeal.nD Cert.MixBackReferenceIdeal.τ).loc Cert.MixBackReferenceIdeal.main_arg2) = m' ((c.tc : Thread Cert.MixBackReferenceIdeal.nD Cert.MixBackReferenceIdeal.τ).loc Cert.MixBackReferenceIdeal.main_arg2)
          ∧ r.2.mem ((c.tc : Thread Cert.MixBackReferenceIdeal.nD Cert.MixBackReferenceIdeal.τ).loc Cert.MixBackReferenceIdeal.main_arg3) = m' ((c.tc : Thread Cert.MixBackReferenceIdeal.nD Cert.MixBackReferenceIdeal.τ).loc Cert.MixBackReferenceIdeal.main_arg3)
          ∧ r.2.mem ((c.tc : Thread Cert.MixBackReferenceIdeal.nD Cert.MixBackReferenceIdeal.τ).loc Cert.MixBackReferenceIdeal.main_arg4) = m' ((c.tc : Thread Cert.MixBackReferenceIdeal.nD Cert.MixBackReferenceIdeal.τ).loc Cert.MixBackReferenceIdeal.main_arg4))

def preserves_HeadBack_HeadBackIdeal : Prop :=
  True

def algebraic_HeadBackIdeal_HeadBackReferenceIdeal [hHeadBackIdeal : Cert.HeadBackIdeal.Facts] [hHeadBackReferenceIdeal : Cert.HeadBackReferenceIdeal.Facts] : Prop :=
  ∀ (m : (ℓ : Loc Cert.HeadBackIdeal.nD Cert.HeadBackIdeal.τ Cert.HeadBackIdeal.sig) → Buf (Elt Ideal) ℓ) (g : Dev Cert.HeadBackIdeal.nD → PrngReg)
    (m' : (ℓ : Loc Cert.HeadBackReferenceIdeal.nD Cert.HeadBackReferenceIdeal.τ Cert.HeadBackReferenceIdeal.sig) → Buf (Elt Ideal) ℓ) (g' : Dev Cert.HeadBackReferenceIdeal.nD → PrngReg), Pre_HeadBackIdeal m →
    (∀ c : Dev Cert.HeadBackIdeal.nD,
      m' ((c.tc : Thread Cert.HeadBackReferenceIdeal.nD Cert.HeadBackReferenceIdeal.τ).loc Cert.HeadBackReferenceIdeal.main_arg0) = m ((c.tc : Thread Cert.HeadBackIdeal.nD Cert.HeadBackIdeal.τ).loc Cert.HeadBackIdeal.main_arg0)
      ∧ m' ((c.tc : Thread Cert.HeadBackReferenceIdeal.nD Cert.HeadBackReferenceIdeal.τ).loc Cert.HeadBackReferenceIdeal.main_arg1) = m ((c.tc : Thread Cert.HeadBackIdeal.nD Cert.HeadBackIdeal.τ).loc Cert.HeadBackIdeal.main_arg1)
      ∧ m' ((c.tc : Thread Cert.HeadBackReferenceIdeal.nD Cert.HeadBackReferenceIdeal.τ).loc Cert.HeadBackReferenceIdeal.main_arg2) = m ((c.tc : Thread Cert.HeadBackIdeal.nD Cert.HeadBackIdeal.τ).loc Cert.HeadBackIdeal.main_arg2)
      ∧ m' ((c.tc : Thread Cert.HeadBackReferenceIdeal.nD Cert.HeadBackReferenceIdeal.τ).loc Cert.HeadBackReferenceIdeal.main_arg3) = m ((c.tc : Thread Cert.HeadBackIdeal.nD Cert.HeadBackIdeal.τ).loc Cert.HeadBackIdeal.main_arg3)) →
    ∃ (v0 : (c : Dev Cert.HeadBackIdeal.nD) → Buf (Elt Ideal) ((c.tc : Thread Cert.HeadBackIdeal.nD Cert.HeadBackIdeal.τ).loc Cert.HeadBackIdeal.main_v1_0)),
      θ_run (Cert.HeadBackIdeal.defs (F := Ideal)) (onTc (τ := Cert.HeadBackIdeal.τ) (Cert.HeadBackIdeal.main (F := Ideal))) ⟨m, fun _ => 0, g⟩ (fun r => ∀ c : Dev Cert.HeadBackIdeal.nD,
          r.2.mem ((c.tc : Thread Cert.HeadBackIdeal.nD Cert.HeadBackIdeal.τ).loc Cert.HeadBackIdeal.main_v1_0) = v0 c
          ∧ r.2.mem ((c.tc : Thread Cert.HeadBackIdeal.nD Cert.HeadBackIdeal.τ).loc Cert.HeadBackIdeal.main_arg0) = m ((c.tc : Thread Cert.HeadBackIdeal.nD Cert.HeadBackIdeal.τ).loc Cert.HeadBackIdeal.main_arg0)
          ∧ r.2.mem ((c.tc : Thread Cert.HeadBackIdeal.nD Cert.HeadBackIdeal.τ).loc Cert.HeadBackIdeal.main_arg1) = m ((c.tc : Thread Cert.HeadBackIdeal.nD Cert.HeadBackIdeal.τ).loc Cert.HeadBackIdeal.main_arg1)
          ∧ r.2.mem ((c.tc : Thread Cert.HeadBackIdeal.nD Cert.HeadBackIdeal.τ).loc Cert.HeadBackIdeal.main_arg2) = m ((c.tc : Thread Cert.HeadBackIdeal.nD Cert.HeadBackIdeal.τ).loc Cert.HeadBackIdeal.main_arg2)
          ∧ r.2.mem ((c.tc : Thread Cert.HeadBackIdeal.nD Cert.HeadBackIdeal.τ).loc Cert.HeadBackIdeal.main_arg3) = m ((c.tc : Thread Cert.HeadBackIdeal.nD Cert.HeadBackIdeal.τ).loc Cert.HeadBackIdeal.main_arg3))
      ∧ θ_run (Cert.HeadBackReferenceIdeal.defs (F := Ideal)) (onTc (τ := Cert.HeadBackReferenceIdeal.τ) (Cert.HeadBackReferenceIdeal.main (F := Ideal))) ⟨m', fun _ => 0, g'⟩ (fun r => ∀ c : Dev Cert.HeadBackReferenceIdeal.nD,
          r.2.mem ((c.tc : Thread Cert.HeadBackReferenceIdeal.nD Cert.HeadBackReferenceIdeal.τ).loc Cert.HeadBackReferenceIdeal.main_v3) = v0 c
          ∧ r.2.mem ((c.tc : Thread Cert.HeadBackReferenceIdeal.nD Cert.HeadBackReferenceIdeal.τ).loc Cert.HeadBackReferenceIdeal.main_arg0) = m' ((c.tc : Thread Cert.HeadBackReferenceIdeal.nD Cert.HeadBackReferenceIdeal.τ).loc Cert.HeadBackReferenceIdeal.main_arg0)
          ∧ r.2.mem ((c.tc : Thread Cert.HeadBackReferenceIdeal.nD Cert.HeadBackReferenceIdeal.τ).loc Cert.HeadBackReferenceIdeal.main_arg1) = m' ((c.tc : Thread Cert.HeadBackReferenceIdeal.nD Cert.HeadBackReferenceIdeal.τ).loc Cert.HeadBackReferenceIdeal.main_arg1)
          ∧ r.2.mem ((c.tc : Thread Cert.HeadBackReferenceIdeal.nD Cert.HeadBackReferenceIdeal.τ).loc Cert.HeadBackReferenceIdeal.main_arg2) = m' ((c.tc : Thread Cert.HeadBackReferenceIdeal.nD Cert.HeadBackReferenceIdeal.τ).loc Cert.HeadBackReferenceIdeal.main_arg2)
          ∧ r.2.mem ((c.tc : Thread Cert.HeadBackReferenceIdeal.nD Cert.HeadBackReferenceIdeal.τ).loc Cert.HeadBackReferenceIdeal.main_arg3) = m' ((c.tc : Thread Cert.HeadBackReferenceIdeal.nD Cert.HeadBackReferenceIdeal.τ).loc Cert.HeadBackReferenceIdeal.main_arg3))

def Claim : Prop :=
  ∃ (hKernel : Cert.Kernel.Facts) (hKernelIdeal : Cert.KernelIdeal.Facts) (hReferenceIdeal : Cert.ReferenceIdeal.Facts) (hGradDown : Cert.GradDown.Facts) (hGradDownIdeal : Cert.GradDownIdeal.Facts) (hGradDownReferenceIdeal : Cert.GradDownReferenceIdeal.Facts) (hGradUp : Cert.GradUp.Facts) (hGradUpIdeal : Cert.GradUpIdeal.Facts) (hGradUpReferenceIdeal : Cert.GradUpReferenceIdeal.Facts) (hGradIn : Cert.GradIn.Facts) (hGradInIdeal : Cert.GradInIdeal.Facts) (hGradInReferenceIdeal : Cert.GradInReferenceIdeal.Facts) (hGradAtt : Cert.GradAtt.Facts) (hGradAttIdeal : Cert.GradAttIdeal.Facts) (hGradAttReferenceIdeal : Cert.GradAttReferenceIdeal.Facts) (hGradBranch : Cert.GradBranch.Facts) (hGradBranchIdeal : Cert.GradBranchIdeal.Facts) (hGradBranchReferenceIdeal : Cert.GradBranchReferenceIdeal.Facts) (hInAtt : Cert.InAtt.Facts) (hInAttIdeal : Cert.InAttIdeal.Facts) (hInAttReferenceIdeal : Cert.InAttReferenceIdeal.Facts) (hInRest : Cert.InRest.Facts) (hInRestIdeal : Cert.InRestIdeal.Facts) (hInRestReferenceIdeal : Cert.InRestReferenceIdeal.Facts) (hBackAtt : Cert.BackAtt.Facts) (hBackAttIdeal : Cert.BackAttIdeal.Facts) (hBackAttReferenceIdeal : Cert.BackAttReferenceIdeal.Facts) (hMlp : Cert.Mlp.Facts) (hMlpIdeal : Cert.MlpIdeal.Facts) (hMlpReferenceIdeal : Cert.MlpReferenceIdeal.Facts) (hUpBack : Cert.UpBack.Facts) (hUpBackIdeal : Cert.UpBackIdeal.Facts) (hUpBackReferenceIdeal : Cert.UpBackReferenceIdeal.Facts) (hRestBack : Cert.RestBack.Facts) (hRestBackIdeal : Cert.RestBackIdeal.Facts) (hRestBackReferenceIdeal : Cert.RestBackReferenceIdeal.Facts) (hMerge : Cert.Merge.Facts) (hMergeIdeal : Cert.MergeIdeal.Facts) (hMergeReferenceIdeal : Cert.MergeReferenceIdeal.Facts) (hGradOut : Cert.GradOut.Facts) (hGradOutIdeal : Cert.GradOutIdeal.Facts) (hGradOutReferenceIdeal : Cert.GradOutReferenceIdeal.Facts) (hGradMix : Cert.GradMix.Facts) (hGradMixIdeal : Cert.GradMixIdeal.Facts) (hGradMixReferenceIdeal : Cert.GradMixReferenceIdeal.Facts) (hMixBack : Cert.MixBack.Facts) (hMixBackIdeal : Cert.MixBackIdeal.Facts) (hMixBackReferenceIdeal : Cert.MixBackReferenceIdeal.Facts) (hHeadBack : Cert.HeadBack.Facts) (hHeadBackIdeal : Cert.HeadBackIdeal.Facts) (hHeadBackReferenceIdeal : Cert.HeadBackReferenceIdeal.Facts),
    quiescent_Kernel (hKernel := hKernel)
    ∧ quiescent_KernelIdeal (hKernelIdeal := hKernelIdeal)
    ∧ quiescent_ReferenceIdeal (hReferenceIdeal := hReferenceIdeal)
    ∧ quiescent_GradDown (hGradDown := hGradDown)
    ∧ quiescent_GradDownIdeal (hGradDownIdeal := hGradDownIdeal)
    ∧ quiescent_GradDownReferenceIdeal (hGradDownReferenceIdeal := hGradDownReferenceIdeal)
    ∧ quiescent_GradUp (hGradUp := hGradUp)
    ∧ quiescent_GradUpIdeal (hGradUpIdeal := hGradUpIdeal)
    ∧ quiescent_GradUpReferenceIdeal (hGradUpReferenceIdeal := hGradUpReferenceIdeal)
    ∧ quiescent_GradIn (hGradIn := hGradIn)
    ∧ quiescent_GradInIdeal (hGradInIdeal := hGradInIdeal)
    ∧ quiescent_GradInReferenceIdeal (hGradInReferenceIdeal := hGradInReferenceIdeal)
    ∧ quiescent_GradAtt (hGradAtt := hGradAtt)
    ∧ quiescent_GradAttIdeal (hGradAttIdeal := hGradAttIdeal)
    ∧ quiescent_GradAttReferenceIdeal (hGradAttReferenceIdeal := hGradAttReferenceIdeal)
    ∧ quiescent_GradBranch (hGradBranch := hGradBranch)
    ∧ quiescent_GradBranchIdeal (hGradBranchIdeal := hGradBranchIdeal)
    ∧ quiescent_GradBranchReferenceIdeal (hGradBranchReferenceIdeal := hGradBranchReferenceIdeal)
    ∧ quiescent_InAtt (hInAtt := hInAtt)
    ∧ quiescent_InAttIdeal (hInAttIdeal := hInAttIdeal)
    ∧ quiescent_InAttReferenceIdeal (hInAttReferenceIdeal := hInAttReferenceIdeal)
    ∧ quiescent_InRest (hInRest := hInRest)
    ∧ quiescent_InRestIdeal (hInRestIdeal := hInRestIdeal)
    ∧ quiescent_InRestReferenceIdeal (hInRestReferenceIdeal := hInRestReferenceIdeal)
    ∧ quiescent_BackAtt (hBackAtt := hBackAtt)
    ∧ quiescent_BackAttIdeal (hBackAttIdeal := hBackAttIdeal)
    ∧ quiescent_BackAttReferenceIdeal (hBackAttReferenceIdeal := hBackAttReferenceIdeal)
    ∧ quiescent_Mlp (hMlp := hMlp)
    ∧ quiescent_MlpIdeal (hMlpIdeal := hMlpIdeal)
    ∧ quiescent_MlpReferenceIdeal (hMlpReferenceIdeal := hMlpReferenceIdeal)
    ∧ quiescent_UpBack (hUpBack := hUpBack)
    ∧ quiescent_UpBackIdeal (hUpBackIdeal := hUpBackIdeal)
    ∧ quiescent_UpBackReferenceIdeal (hUpBackReferenceIdeal := hUpBackReferenceIdeal)
    ∧ quiescent_RestBack (hRestBack := hRestBack)
    ∧ quiescent_RestBackIdeal (hRestBackIdeal := hRestBackIdeal)
    ∧ quiescent_RestBackReferenceIdeal (hRestBackReferenceIdeal := hRestBackReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_GradOut (hGradOut := hGradOut)
    ∧ quiescent_GradOutIdeal (hGradOutIdeal := hGradOutIdeal)
    ∧ quiescent_GradOutReferenceIdeal (hGradOutReferenceIdeal := hGradOutReferenceIdeal)
    ∧ quiescent_GradMix (hGradMix := hGradMix)
    ∧ quiescent_GradMixIdeal (hGradMixIdeal := hGradMixIdeal)
    ∧ quiescent_GradMixReferenceIdeal (hGradMixReferenceIdeal := hGradMixReferenceIdeal)
    ∧ quiescent_MixBack (hMixBack := hMixBack)
    ∧ quiescent_MixBackIdeal (hMixBackIdeal := hMixBackIdeal)
    ∧ quiescent_MixBackReferenceIdeal (hMixBackReferenceIdeal := hMixBackReferenceIdeal)
    ∧ quiescent_HeadBack (hHeadBack := hHeadBack)
    ∧ quiescent_HeadBackIdeal (hHeadBackIdeal := hHeadBackIdeal)
    ∧ quiescent_HeadBackReferenceIdeal (hHeadBackReferenceIdeal := hHeadBackReferenceIdeal)
    ∧ preserves_Kernel_KernelIdeal
    ∧ algebraic_KernelIdeal_ReferenceIdeal (hKernelIdeal := hKernelIdeal) (hReferenceIdeal := hReferenceIdeal)
    ∧ preserves_GradDown_GradDownIdeal
    ∧ algebraic_GradDownIdeal_GradDownReferenceIdeal (hGradDownIdeal := hGradDownIdeal) (hGradDownReferenceIdeal := hGradDownReferenceIdeal)
    ∧ preserves_GradUp_GradUpIdeal
    ∧ algebraic_GradUpIdeal_GradUpReferenceIdeal (hGradUpIdeal := hGradUpIdeal) (hGradUpReferenceIdeal := hGradUpReferenceIdeal)
    ∧ preserves_GradIn_GradInIdeal
    ∧ algebraic_GradInIdeal_GradInReferenceIdeal (hGradInIdeal := hGradInIdeal) (hGradInReferenceIdeal := hGradInReferenceIdeal)
    ∧ preserves_GradAtt_GradAttIdeal
    ∧ algebraic_GradAttIdeal_GradAttReferenceIdeal (hGradAttIdeal := hGradAttIdeal) (hGradAttReferenceIdeal := hGradAttReferenceIdeal)
    ∧ preserves_GradBranch_GradBranchIdeal
    ∧ algebraic_GradBranchIdeal_GradBranchReferenceIdeal (hGradBranchIdeal := hGradBranchIdeal) (hGradBranchReferenceIdeal := hGradBranchReferenceIdeal)
    ∧ preserves_InAtt_InAttIdeal
    ∧ algebraic_InAttIdeal_InAttReferenceIdeal (hInAttIdeal := hInAttIdeal) (hInAttReferenceIdeal := hInAttReferenceIdeal)
    ∧ preserves_InRest_InRestIdeal
    ∧ algebraic_InRestIdeal_InRestReferenceIdeal (hInRestIdeal := hInRestIdeal) (hInRestReferenceIdeal := hInRestReferenceIdeal)
    ∧ preserves_BackAtt_BackAttIdeal
    ∧ algebraic_BackAttIdeal_BackAttReferenceIdeal (hBackAttIdeal := hBackAttIdeal) (hBackAttReferenceIdeal := hBackAttReferenceIdeal)
    ∧ preserves_Mlp_MlpIdeal
    ∧ algebraic_MlpIdeal_MlpReferenceIdeal (hMlpIdeal := hMlpIdeal) (hMlpReferenceIdeal := hMlpReferenceIdeal)
    ∧ preserves_UpBack_UpBackIdeal
    ∧ algebraic_UpBackIdeal_UpBackReferenceIdeal (hUpBackIdeal := hUpBackIdeal) (hUpBackReferenceIdeal := hUpBackReferenceIdeal)
    ∧ preserves_RestBack_RestBackIdeal
    ∧ algebraic_RestBackIdeal_RestBackReferenceIdeal (hRestBackIdeal := hRestBackIdeal) (hRestBackReferenceIdeal := hRestBackReferenceIdeal)
    ∧ preserves_Merge_MergeIdeal
    ∧ algebraic_MergeIdeal_MergeReferenceIdeal (hMergeIdeal := hMergeIdeal) (hMergeReferenceIdeal := hMergeReferenceIdeal)
    ∧ preserves_GradOut_GradOutIdeal
    ∧ algebraic_GradOutIdeal_GradOutReferenceIdeal (hGradOutIdeal := hGradOutIdeal) (hGradOutReferenceIdeal := hGradOutReferenceIdeal)
    ∧ preserves_GradMix_GradMixIdeal
    ∧ algebraic_GradMixIdeal_GradMixReferenceIdeal (hGradMixIdeal := hGradMixIdeal) (hGradMixReferenceIdeal := hGradMixReferenceIdeal)
    ∧ preserves_MixBack_MixBackIdeal
    ∧ algebraic_MixBackIdeal_MixBackReferenceIdeal (hMixBackIdeal := hMixBackIdeal) (hMixBackReferenceIdeal := hMixBackReferenceIdeal)
    ∧ preserves_HeadBack_HeadBackIdeal
    ∧ algebraic_HeadBackIdeal_HeadBackReferenceIdeal (hHeadBackIdeal := hHeadBackIdeal) (hHeadBackReferenceIdeal := hHeadBackReferenceIdeal)
-- ==== Kernel.lean ====
abbrev S8192x8192 : Shape := ⟨2, ![8192, 8192]⟩
abbrev S1x2048 : Shape := ⟨2, ![1, 2048]⟩
abbrev S8192x2048 : Shape := ⟨2, ![8192, 2048]⟩
abbrev S4x64x256x512 : Shape := ⟨4, ![4, 64, 256, 512]⟩
abbrev S512x1024 : Shape := ⟨2, ![512, 1024]⟩
abbrev S512x2048 : Shape := ⟨2, ![512, 2048]⟩
abbrev S4x4x256x512 : Shape := ⟨4, ![4, 4, 256, 512]⟩
abbrev S4x256x512 : Shape := ⟨3, ![4, 256, 512]⟩
abbrev S128x128 : Shape := ⟨2, ![128, 128]⟩
abbrev S128x1 : Shape := ⟨2, ![128, 1]⟩
abbrev S1x1 : Shape := ⟨2, ![1, 1]⟩
abbrev S128x256 : Shape := ⟨2, ![128, 256]⟩
abbrev S128x512 : Shape := ⟨2, ![128, 512]⟩
abbrev S1x256x512 : Shape := ⟨3, ![1, 256, 512]⟩
abbrev S256x512 : Shape := ⟨2, ![256, 512]⟩
abbrev S1x1x256x512 : Shape := ⟨4, ![1, 1, 256, 512]⟩
abbrev S128 : Shape := ⟨1, ![128]⟩
abbrev S1x512 : Shape := ⟨2, ![1, 512]⟩
abbrev S512x4096 : Shape := ⟨2, ![512, 4096]⟩

abbrev nBuf : Space → Nat
  | .hbm => 9
  | .vmem => 30
  | .smem => 0
  | _ => 0

abbrev bufTy : (tb : Table) → Fin (tcTables nBuf tb) → BufTy
  | .hbm, ⟨0, _⟩ => ⟨S8192x8192, .bf16⟩
  | .hbm, ⟨1, _⟩ => ⟨S1x2048, .f32⟩
  | .hbm, ⟨2, _⟩ => ⟨S1x2048, .f32⟩
  | .hbm, ⟨3, _⟩ => ⟨S8192x2048, .bf16⟩
  | .hbm, ⟨4, _⟩ => ⟨S8192x8192, .bf16⟩
  | .hbm, ⟨5, _⟩ => ⟨S8192x2048, .bf16⟩
  | .hbm, ⟨6, _⟩ => ⟨S8192x2048, .f32⟩
  | .hbm, ⟨7, _⟩ => ⟨S4x64x256x512, .bf16⟩
  | .hbm, ⟨8, _⟩ => ⟨S8192x8192, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .bf16⟩
  | .local _ .vmem, ⟨11, _⟩ => ⟨S512x2048, .bf16⟩
  | .local _ .vmem, ⟨12, _⟩ => ⟨S512x2048, .f32⟩
  | .local _ .vmem, ⟨13, _⟩ => ⟨S512x2048, .f32⟩
  | .local _ .vmem, ⟨14, _⟩ => ⟨S4x4x256x512, .bf16⟩
  | .local _ .vmem, ⟨15, _⟩ => ⟨S4x4x256x512, .bf16⟩
  | .local _ .vmem, ⟨16, _⟩ => ⟨S4x256x512, .f32⟩
  | .local _ .vmem, ⟨17, _⟩ => ⟨S512x2048, .bf16⟩
  | .local _ .vmem, ⟨18, _⟩ => ⟨S512x2048, .bf16⟩
  | .local _ .vmem, ⟨19, _⟩ => ⟨S4x4x256x512, .bf16⟩
  | .local _ .vmem, ⟨20, _⟩ => ⟨S4x4x256x512, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x2048, .bf16⟩
  | .local _ .vmem, ⟨26, _⟩ => ⟨S512x2048, .bf16⟩
  | .local _ .vmem, ⟨27, _⟩ => ⟨S512x4096, .bf16⟩
  | .local _ .vmem, ⟨28, _⟩ => ⟨S512x4096, .bf16⟩
  | .local _ .vmem, ⟨29, _⟩ => ⟨S4x256x512, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x4x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_1 (i : grid1.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc1_transform_2 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc1_transform_4 (i : grid1.Coords) : Fin 2 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  ![v0.toNat, c1_i32.toNat]

def cc1_transform_6 (i : grid1.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x4x256x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x4096 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== KernelIdeal.lean ====
variable {F : FTy → Type} [FloatOps F] [Named F]
def κ : String → Option EReal := fun
  | "gch1" => some ((206818950539439974611426494768646509052450548467862700447621795740222426769977288960977743464810862855020740953892191788741654107464722037227942902092362014238569158361477328071348684792194146041516068394618902177421160615463608321 / 1552518092300708935148979488462502555256886017116696611139052038026050952686376886330878408828646477950487730697131073206171580044114814391444287275041181139204454976020849905550265285631598444825262999193716468750892846853816057856 : ℝ) : EReal)
  | "gch2" => some ((193587041323456767073378744577144446238302802122755626265377701497888780029664683420821685794909561110112747584183810952248255320179325448240268888426074358932225073573129703527667374571068332710586954198407984961320402885440313498999562662298934347135846335745400750081 / 528294531135665246352339784916516606518847326036121522127960709026673902556724859474417255887657187894674394993257128678882347559502685537250538978462939576908386683999005084168731517676426441053024232908211188404148028292751561738838396898767036476489538580897737998336 : ℝ) : EReal)
  | "gch3" => some ((108928894366787909538482854136354399894027807047938726384754988597771177118744824750036685260233948099017113922415252234011703451806056104642801051378500851854629730635169211674367174308372494347446246524392175556695189741637351359098122801357656299133935250096489309214187191088285544537939131259918212890625 / 179769313486231590772930519078902473361797697894230657273430081157732675805500963132708477322407536021120113879871393357658789768814416622492847430639474124377767893424865485276302219601246094119453082952085005768838150682342462881473913110540827237163350510684586298239947245938479716304835356329624224137216 : ℝ) : EReal)
  | "lg0" => some ((Real.log (31 / 32) : ℝ) : EReal)
  | "lg1" => some ((Real.log (63 / 64) : ℝ) : EReal)
  | "lg2" => some ((Real.log (127 / 128) : ℝ) : EReal)
  | "lg3" => some ((Real.log (255 / 256) : ℝ) : EReal)
  | "lgc0" => some ((128 * (Real.log (31 / 32)) : ℝ) : EReal)
  | _ => none
-- ==== ReferenceIdeal.lean ====
abbrev S8192x8192 : Shape := ⟨2, ![8192, 8192]⟩
abbrev S1x2048 : Shape := ⟨2, ![1, 2048]⟩
abbrev S8192x2048 : Shape := ⟨2, ![8192, 2048]⟩
abbrev S8192x1024 : Shape := ⟨2, ![8192, 1024]⟩
abbrev S1x8192x4x256 : Shape := ⟨4, ![1, 8192, 4, 256]⟩
abbrev S1x8192x4x512 : Shape := ⟨4, ![1, 8192, 4, 512]⟩
abbrev S4 : Shape := ⟨1, ![4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x4 : Shape := ⟨2, ![1, 4]⟩
abbrev S128x4 : Shape := ⟨2, ![128, 4]⟩
abbrev S1x64x128x4x256 : Shape := ⟨5, ![1, 64, 128, 4, 256]⟩
abbrev S1x64x128x4x512 : Shape := ⟨5, ![1, 64, 128, 4, 512]⟩
abbrev S1x64x4x128x128 : Shape := ⟨5, ![1, 64, 4, 128, 128]⟩
abbrev S1x1x4x128x128 : Shape := ⟨5, ![1, 1, 4, 128, 128]⟩
abbrev S1x64x4x512x128 : Shape := ⟨5, ![1, 64, 4, 512, 128]⟩
abbrev S1x1x128x4x1 : Shape := ⟨5, ![1, 1, 128, 4, 1]⟩
abbrev S1x4x256x512 : Shape := ⟨4, ![1, 4, 256, 512]⟩
abbrev S64x1x128x4x256 : Shape := ⟨5, ![64, 1, 128, 4, 256]⟩
abbrev S64x1x128x4x512 : Shape := ⟨5, ![64, 1, 128, 4, 512]⟩
abbrev S1x4x1x1 : Shape := ⟨4, ![1, 4, 1, 1]⟩
abbrev S64x1x4x256x512 : Shape := ⟨5, ![64, 1, 4, 256, 512]⟩
abbrev S1x1x128x4x256 : Shape := ⟨5, ![1, 1, 128, 4, 256]⟩
abbrev S1x128x4x256 : Shape := ⟨4, ![1, 128, 4, 256]⟩
abbrev S1x1x128x4x512 : Shape := ⟨5, ![1, 1, 128, 4, 512]⟩
abbrev S1x128x4x512 : Shape := ⟨4, ![1, 128, 4, 512]⟩
abbrev S1x4x512x128 : Shape := ⟨4, ![1, 4, 512, 128]⟩
abbrev S1x1x4x256x512 : Shape := ⟨5, ![1, 1, 4, 256, 512]⟩
abbrev S2048 : Shape := ⟨1, ![2048]⟩
abbrev S1x8192x4 : Shape := ⟨3, ![1, 8192, 4]⟩
abbrev S1x8192x4x1 : Shape := ⟨4, ![1, 8192, 4, 1]⟩
abbrev S1x8192x2048 : Shape := ⟨3, ![1, 8192, 2048]⟩
abbrev S1x1x2048 : Shape := ⟨3, ![1, 1, 2048]⟩
abbrev S1x4x256x128 : Shape := ⟨4, ![1, 4, 256, 128]⟩
abbrev S1x4x128x256 : Shape := ⟨4, ![1, 4, 128, 256]⟩
abbrev S1x4x512x256 : Shape := ⟨4, ![1, 4, 512, 256]⟩
abbrev S1x64x4x128x256 : Shape := ⟨5, ![1, 64, 4, 128, 256]⟩
abbrev S8192x4096 : Shape := ⟨2, ![8192, 4096]⟩

abbrev nBuf : Space → Nat
  | .hbm => 322
  | .vmem => 0
  | .smem => 0
  | _ => 0

abbrev hbmTy0_0 (i : Nat) : BufTy := match i % 128 with
  | 0 => ⟨S8192x8192, .bf16⟩
  | 1 => ⟨S1x2048, .f32⟩
  | 2 => ⟨S1x2048, .f32⟩
  | 3 => ⟨S8192x2048, .bf16⟩
  | 4 => ⟨S8192x8192, .bf16⟩
  | 5 => ⟨S8192x8192, .f32⟩
  | 6 => ⟨S8192x1024, .f32⟩
  | 7 => ⟨S8192x1024, .f32⟩
  | 8 => ⟨S8192x2048, .f32⟩
  | 9 => ⟨S1x8192x4x256, .f32⟩
  | 10 => ⟨S1x8192x4x256, .f32⟩
  | 11 => ⟨S1x8192x4x512, .f32⟩
  | 12 => ⟨S4, .f32⟩
  | 13 => ⟨S_, .f32⟩
  | 14 => ⟨S4, .f32⟩
  | 15 => ⟨S4, .f32⟩
  | 16 => ⟨S_, .f32⟩
  | 17 => ⟨S4, .f32⟩
  | 18 => ⟨S4, .f32⟩
  | 19 => ⟨S_, .f32⟩
  | 20 => ⟨S4, .f32⟩
  | 21 => ⟨S4, .f32⟩
  | 22 => ⟨S4, .f32⟩
  | 23 => ⟨S128, .f32⟩
  | 24 => ⟨S128x1, .f32⟩
  | 25 => ⟨S1x128, .f32⟩
  | 26 => ⟨S128x128, .f32⟩
  | 27 => ⟨S128x128, .f32⟩
  | 28 => ⟨S128x128, .f32⟩
  | 29 => ⟨S_, .f32⟩
  | 30 => ⟨S128x128, .f32⟩
  | 31 => ⟨S128x128, .i1⟩
  | 32 => ⟨S4x1x1, .f32⟩
  | 33 => ⟨S_, .f32⟩
  | 34 => ⟨S128x128, .f32⟩
  | 35 => ⟨S128x128, .f32⟩
  | 36 => ⟨S1x128x128, .f32⟩
  | 37 => ⟨S4x128x128, .f32⟩
  | 38 => ⟨S4x128x128, .f32⟩
  | 39 => ⟨S4x128x128, .f32⟩
  | 40 => ⟨S4x128x128, .f32⟩
  | 41 => ⟨S_, .f32⟩
  | 42 => ⟨S_, .f32⟩
  | 43 => ⟨S4x128x128, .i1⟩
  | 44 => ⟨S4x128x128, .f32⟩
  | 45 => ⟨S4x128x128, .f32⟩
  | 46 => ⟨S1x4, .f32⟩
  | 47 => ⟨S128x1, .f32⟩
  | 48 => ⟨S_, .f32⟩
  | 49 => ⟨S128x1, .f32⟩
  | 50 => ⟨S128x1, .f32⟩
  | 51 => ⟨S128x4, .f32⟩
  | 52 => ⟨S128x4, .f32⟩
  | 53 => ⟨S128x4, .f32⟩
  | 54 => ⟨S128x4, .f32⟩
  | 55 => ⟨S1x4, .f32⟩
  | 56 => ⟨S128x1, .f32⟩
  | 57 => ⟨S_, .f32⟩
  | 58 => ⟨S128x1, .f32⟩
  | 59 => ⟨S128x1, .f32⟩
  | 60 => ⟨S128x4, .f32⟩
  | 61 => ⟨S128x4, .f32⟩
  | 62 => ⟨S128x4, .f32⟩
  | 63 => ⟨S128x4, .f32⟩
  | 64 => ⟨S_, .f32⟩
  | 65 => ⟨S4, .f32⟩
  | 66 => ⟨S4, .f32⟩
  | 67 => ⟨S4, .f32⟩
  | 68 => ⟨S1x64x128x4x256, .f32⟩
  | 69 => ⟨S_, .f32⟩
  | 70 => ⟨S1x8192x4x256, .f32⟩
  | 71 => ⟨S1x8192x4x256, .f32⟩
  | 72 => ⟨S1x64x128x4x256, .f32⟩
  | 73 => ⟨S1x64x128x4x512, .f32⟩
  | 74 => ⟨S1x64x4x128x128, .f32⟩
  | 75 => ⟨S1x1x4x128x128, .f32⟩
  | 76 => ⟨S1x64x4x128x128, .f32⟩
  | 77 => ⟨S1x64x4x128x128, .f32⟩
  | 78 => ⟨S1x64x4x512x128, .f32⟩
  | 79 => ⟨S1x64x128x4x512, .f32⟩
  | 80 => ⟨S1x1x128x4x1, .f32⟩
  | 81 => ⟨S1x64x128x4x256, .f32⟩
  | 82 => ⟨S1x64x128x4x256, .f32⟩
  | 83 => ⟨S_, .f32⟩
  | 84 => ⟨S1x4x256x512, .f32⟩
  | 85 => ⟨S64x1x128x4x256, .f32⟩
  | 86 => ⟨S64x1x128x4x256, .f32⟩
  | 87 => ⟨S64x1x128x4x512, .f32⟩
  | 88 => ⟨S1x4x1x1, .f32⟩
  | 89 => ⟨S_, .f32⟩
  | 90 => ⟨S64x1x128x4x512, .f32⟩
  | 91 => ⟨S_, .f32⟩
  | 92 => ⟨S64x1x4x256x512, .f32⟩
  | 93 => ⟨S_, .i32⟩
  | 94 => ⟨S64x1x128x4x256, .f32⟩
  | 95 => ⟨S64x1x128x4x256, .f32⟩
  | 96 => ⟨S64x1x128x4x512, .f32⟩
  | 97 => ⟨S1x4x1x1, .f32⟩
  | 98 => ⟨S_, .i32⟩
  | 99 => ⟨S1x4x256x512, .f32⟩
  | 100 => ⟨S64x1x128x4x512, .f32⟩
  | 101 => ⟨S64x1x4x256x512, .f32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S1x1x128x4x256, .f32⟩
  | 109 => ⟨S1x128x4x256, .f32⟩
  | 110 => ⟨S_, .i32⟩
  | 111 => ⟨S_, .i32⟩
  | 112 => ⟨S_, .i32⟩
  | 113 => ⟨S_, .i32⟩
  | 114 => ⟨S1x1x128x4x256, .f32⟩
  | 115 => ⟨S1x128x4x256, .f32⟩
  | 116 => ⟨S_, .i32⟩
  | 117 => ⟨S_, .i32⟩
  | 118 => ⟨S_, .i32⟩
  | 119 => ⟨S_, .i32⟩
  | 120 => ⟨S1x1x128x4x512, .f32⟩
  | 121 => ⟨S1x128x4x512, .f32⟩
  | 122 => ⟨S1x4x512x128, .f32⟩
  | 123 => ⟨S1x128x4x512, .f32⟩
  | 124 => ⟨S1x4x256x512, .f32⟩
  | 125 => ⟨S1x4x256x512, .f32⟩
  | 126 => ⟨S1x4x256x512, .f32⟩
  | 127 => ⟨S1x4x256x512, .f32⟩
  | _ => ⟨S8192x8192, .bf16⟩

abbrev hbmTy0_1 (i : Nat) : BufTy := match i % 128 with
  | 0 => ⟨S1x1x128x4x512, .f32⟩
  | 1 => ⟨S_, .i32⟩
  | 2 => ⟨S_, .i32⟩
  | 3 => ⟨S_, .i32⟩
  | 4 => ⟨S_, .i32⟩
  | 5 => ⟨S64x1x128x4x512, .f32⟩
  | 6 => ⟨S1x1x4x256x512, .f32⟩
  | 7 => ⟨S_, .i32⟩
  | 8 => ⟨S_, .i32⟩
  | 9 => ⟨S_, .i32⟩
  | 10 => ⟨S_, .i32⟩
  | 11 => ⟨S64x1x4x256x512, .f32⟩
  | 12 => ⟨S_, .i32⟩
  | 13 => ⟨S_, .i32⟩
  | 14 => ⟨S1x64x128x4x512, .f32⟩
  | 15 => ⟨S1x1x128x4x1, .f32⟩
  | 16 => ⟨S1x64x128x4x512, .f32⟩
  | 17 => ⟨S1x64x128x4x512, .f32⟩
  | 18 => ⟨S1x64x128x4x512, .f32⟩
  | 19 => ⟨S1x8192x4x512, .f32⟩
  | 20 => ⟨S2048, .f32⟩
  | 21 => ⟨S2048, .f32⟩
  | 22 => ⟨S_, .f32⟩
  | 23 => ⟨S1x8192x4, .f32⟩
  | 24 => ⟨S1x8192x4x1, .f32⟩
  | 25 => ⟨S_, .f32⟩
  | 26 => ⟨S1x8192x4x1, .f32⟩
  | 27 => ⟨S1x8192x4x1, .f32⟩
  | 28 => ⟨S1x8192x4x512, .f32⟩
  | 29 => ⟨S1x8192x4x512, .f32⟩
  | 30 => ⟨S1x8192x4x512, .f32⟩
  | 31 => ⟨S_, .f32⟩
  | 32 => ⟨S1x8192x4, .f32⟩
  | 33 => ⟨S1x8192x4x1, .f32⟩
  | 34 => ⟨S_, .f32⟩
  | 35 => ⟨S1x8192x4x1, .f32⟩
  | 36 => ⟨S1x8192x4x1, .f32⟩
  | 37 => ⟨S1x8192x4x512, .f32⟩
  | 38 => ⟨S1x8192x4x512, .f32⟩
  | 39 => ⟨S_, .f32⟩
  | 40 => ⟨S1x8192x4x1, .f32⟩
  | 41 => ⟨S1x8192x4x1, .f32⟩
  | 42 => ⟨S1x8192x4x1, .f32⟩
  | 43 => ⟨S1x8192x4x512, .f32⟩
  | 44 => ⟨S1x8192x4x512, .f32⟩
  | 45 => ⟨S1x8192x2048, .f32⟩
  | 46 => ⟨S1x1x2048, .f32⟩
  | 47 => ⟨S1x8192x2048, .f32⟩
  | 48 => ⟨S1x8192x2048, .f32⟩
  | 49 => ⟨S1x1x2048, .f32⟩
  | 50 => ⟨S1x8192x2048, .f32⟩
  | 51 => ⟨S1x8192x2048, .f32⟩
  | 52 => ⟨S8192x2048, .f32⟩
  | 53 => ⟨S1x8192x2048, .f32⟩
  | 54 => ⟨S1x8192x2048, .f32⟩
  | 55 => ⟨S1x8192x2048, .f32⟩
  | 56 => ⟨S_, .f32⟩
  | 57 => ⟨S1x8192x2048, .f32⟩
  | 58 => ⟨S1x8192x2048, .f32⟩
  | 59 => ⟨S_, .f32⟩
  | 60 => ⟨S1x8192x2048, .f32⟩
  | 61 => ⟨S1x8192x2048, .f32⟩
  | 62 => ⟨S1x8192x2048, .f32⟩
  | 63 => ⟨S1x8192x2048, .f32⟩
  | 64 => ⟨S1x8192x2048, .bf16⟩
  | 65 => ⟨S8192x2048, .f32⟩
  | 66 => ⟨S1x8192x4x512, .f32⟩
  | 67 => ⟨S_, .f32⟩
  | 68 => ⟨S1x4x256x512, .f32⟩
  | 69 => ⟨S1x64x128x4x512, .f32⟩
  | 70 => ⟨S1x64x128x4x512, .f32⟩
  | 71 => ⟨S1x64x128x4x512, .f32⟩
  | 72 => ⟨S64x1x128x4x512, .f32⟩
  | 73 => ⟨S_, .f32⟩
  | 74 => ⟨S1x4x256x512, .f32⟩
  | 75 => ⟨S_, .f32⟩
  | 76 => ⟨S64x1x128x4x256, .f32⟩
  | 77 => ⟨S_, .f32⟩
  | 78 => ⟨S64x1x128x4x256, .f32⟩
  | 79 => ⟨S_, .f32⟩
  | 80 => ⟨S64x1x128x4x512, .f32⟩
  | 81 => ⟨S_, .i32⟩
  | 82 => ⟨S64x1x128x4x512, .f32⟩
  | 83 => ⟨S64x1x128x4x256, .f32⟩
  | 84 => ⟨S64x1x4x256x512, .f32⟩
  | 85 => ⟨S64x1x128x4x512, .f32⟩
  | 86 => ⟨S64x1x128x4x256, .f32⟩
  | 87 => ⟨S1x4x1x1, .f32⟩
  | 88 => ⟨S_, .i32⟩
  | 89 => ⟨S1x4x256x512, .f32⟩
  | 90 => ⟨S64x1x128x4x256, .f32⟩
  | 91 => ⟨S64x1x128x4x256, .f32⟩
  | 92 => ⟨S64x1x128x4x512, .f32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S_, .i32⟩
  | 103 => ⟨S1x1x128x4x512, .f32⟩
  | 104 => ⟨S1x128x4x512, .f32⟩
  | 105 => ⟨S_, .i32⟩
  | 106 => ⟨S_, .i32⟩
  | 107 => ⟨S_, .i32⟩
  | 108 => ⟨S_, .i32⟩
  | 109 => ⟨S1x1x128x4x256, .f32⟩
  | 110 => ⟨S1x128x4x256, .f32⟩
  | 111 => ⟨S_, .i32⟩
  | 112 => ⟨S_, .i32⟩
  | 113 => ⟨S_, .i32⟩
  | 114 => ⟨S_, .i32⟩
  | 115 => ⟨S1x1x4x256x512, .f32⟩
  | 116 => ⟨S1x4x256x512, .f32⟩
  | 117 => ⟨S_, .i32⟩
  | 118 => ⟨S_, .i32⟩
  | 119 => ⟨S_, .i32⟩
  | 120 => ⟨S_, .i32⟩
  | 121 => ⟨S1x1x128x4x512, .f32⟩
  | 122 => ⟨S1x128x4x512, .f32⟩
  | 123 => ⟨S_, .i32⟩
  | 124 => ⟨S_, .i32⟩
  | 125 => ⟨S_, .i32⟩
  | 126 => ⟨S_, .i32⟩
  | 127 => ⟨S1x1x128x4x256, .f32⟩
  | _ => ⟨S8192x8192, .bf16⟩

abbrev hbmTy0_2 (i : Nat) : BufTy := match i % 128 with
  | 0 => ⟨S1x128x4x256, .f32⟩
  | 1 => ⟨S1x4x512x128, .f32⟩
  | 2 => ⟨S1x128x4x512, .f32⟩
  | 3 => ⟨S1x4x256x128, .f32⟩
  | 4 => ⟨S1x128x4x256, .f32⟩
  | 5 => ⟨S1x4x256x512, .f32⟩
  | 6 => ⟨S1x4x256x512, .f32⟩
  | 7 => ⟨S1x4x512x128, .f32⟩
  | 8 => ⟨S1x4x128x256, .f32⟩
  | 9 => ⟨S1x128x4x256, .f32⟩
  | 10 => ⟨S1x4x512x256, .f32⟩
  | 11 => ⟨S1x4x256x512, .f32⟩
  | 12 => ⟨S1x4x256x512, .f32⟩
  | 13 => ⟨S1x1x128x4x256, .f32⟩
  | 14 => ⟨S_, .i32⟩
  | 15 => ⟨S_, .i32⟩
  | 16 => ⟨S_, .i32⟩
  | 17 => ⟨S_, .i32⟩
  | 18 => ⟨S64x1x128x4x256, .f32⟩
  | 19 => ⟨S1x1x128x4x256, .f32⟩
  | 20 => ⟨S_, .i32⟩
  | 21 => ⟨S_, .i32⟩
  | 22 => ⟨S_, .i32⟩
  | 23 => ⟨S_, .i32⟩
  | 24 => ⟨S64x1x128x4x256, .f32⟩
  | 25 => ⟨S1x1x128x4x512, .f32⟩
  | 26 => ⟨S_, .i32⟩
  | 27 => ⟨S_, .i32⟩
  | 28 => ⟨S_, .i32⟩
  | 29 => ⟨S_, .i32⟩
  | 30 => ⟨S64x1x128x4x512, .f32⟩
  | 31 => ⟨S_, .i32⟩
  | 32 => ⟨S_, .i32⟩
  | 33 => ⟨S1x64x128x4x512, .f32⟩
  | 34 => ⟨S1x64x128x4x256, .f32⟩
  | 35 => ⟨S1x64x128x4x256, .f32⟩
  | 36 => ⟨S1x64x128x4x256, .f32⟩
  | 37 => ⟨S1x64x128x4x256, .f32⟩
  | 38 => ⟨S1x64x4x512x128, .f32⟩
  | 39 => ⟨S1x64x4x128x128, .f32⟩
  | 40 => ⟨S1x64x4x512x128, .f32⟩
  | 41 => ⟨S1x64x128x4x512, .f32⟩
  | 42 => ⟨S1x64x128x4x512, .f32⟩
  | 43 => ⟨S1x64x4x128x128, .f32⟩
  | 44 => ⟨S1x64x4x128x128, .f32⟩
  | 45 => ⟨S1x64x4x128x256, .f32⟩
  | 46 => ⟨S1x64x128x4x256, .f32⟩
  | 47 => ⟨S1x64x128x4x256, .f32⟩
  | 48 => ⟨S1x64x4x128x256, .f32⟩
  | 49 => ⟨S1x64x128x4x256, .f32⟩
  | 50 => ⟨S1x64x128x4x256, .f32⟩
  | 51 => ⟨S1x8192x4x512, .f32⟩
  | 52 => ⟨S1x8192x4x256, .f32⟩
  | 53 => ⟨S_, .f32⟩
  | 54 => ⟨S1x8192x4x256, .f32⟩
  | 55 => ⟨S1x8192x4x256, .f32⟩
  | 56 => ⟨S1x8192x4x256, .f32⟩
  | 57 => ⟨S8192x2048, .f32⟩
  | 58 => ⟨S8192x1024, .f32⟩
  | 59 => ⟨S8192x1024, .f32⟩
  | 60 => ⟨S8192x4096, .bf16⟩
  | 61 => ⟨S8192x4096, .f32⟩
  | 62 => ⟨S8192x8192, .f32⟩
  | 63 => ⟨S8192x8192, .bf16⟩
  | 64 => ⟨S8192x2048, .bf16⟩
  | 65 => ⟨S8192x2048, .f32⟩
  | _ => ⟨S8192x8192, .bf16⟩

abbrev hbmTy (i : Nat) : BufTy := match i / 128 with
  | 0 => hbmTy0_0 i
  | 1 => hbmTy0_1 i
  | 2 => hbmTy0_2 i
  | _ => ⟨S8192x8192, .bf16⟩

abbrev bufTy : (tb : Table) → Fin (tcTables nBuf tb) → BufTy
  | .hbm, ⟨i, _⟩ => hbmTy i
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_10 : Ref sig .tc := ⟨.hbm, 89, rfl⟩
abbrev main_v70 : Ref sig .tc := ⟨.hbm, 90, rfl⟩
abbrev main_cst_11 : Ref sig .tc := ⟨.hbm, 91, rfl⟩
abbrev main_v71 : Ref sig .tc := ⟨.hbm, 92, rfl⟩
abbrev main_c : Ref sig .tc := ⟨.hbm, 93, rfl⟩
abbrev main_v72_0 : Ref sig .tc := ⟨.hbm, 94, rfl⟩
abbrev main_v72_1 : Ref sig .tc := ⟨.hbm, 95, rfl⟩
abbrev main_v72_2 : Ref sig .tc := ⟨.hbm, 96, rfl⟩
abbrev main_v72_3 : Ref sig .tc := ⟨.hbm, 97, rfl⟩
abbrev main_v72_4 : Ref sig .tc := ⟨.hbm, 98, rfl⟩
abbrev main_v72_5 : Ref sig .tc := ⟨.hbm, 99, rfl⟩
abbrev main_v72_6 : Ref sig .tc := ⟨.hbm, 100, rfl⟩
abbrev main_v72_7 : Ref sig .tc := ⟨.hbm, 101, rfl⟩
abbrev main_while0c_c_31 : Ref sig .tc := ⟨.hbm, 102, rfl⟩
abbrev main_while0c_v155 : Ref sig .tc := ⟨.hbm, 103, rfl⟩
abbrev main_while0b_call1_c : Ref sig .tc := ⟨.hbm, 104, rfl⟩
abbrev main_while0b_call1_c_0 : Ref sig .tc := ⟨.hbm, 105, rfl⟩
abbrev main_while0b_call1_c_1 : Ref sig .tc := ⟨.hbm, 106, rfl⟩
abbrev main_while0b_call1_c_2 : Ref sig .tc := ⟨.hbm, 107, rfl⟩
abbrev main_while0b_call1_v0 : Ref sig .tc := ⟨.hbm, 108, rfl⟩
abbrev main_while0b_v155 : Ref sig .tc := ⟨.hbm, 109, rfl⟩
abbrev main_while0b_call2_c : Ref sig .tc := ⟨.hbm, 110, rfl⟩
abbrev main_while0b_call2_c_0 : Ref sig .tc := ⟨.hbm, 111, rfl⟩
abbrev main_while0b_call2_c_1 : Ref sig .tc := ⟨.hbm, 112, rfl⟩
abbrev main_while0b_call2_c_2 : Ref sig .tc := ⟨.hbm, 113, rfl⟩
abbrev main_while0b_call2_v0 : Ref sig .tc := ⟨.hbm, 114, rfl⟩
abbrev main_while0b_v156 : Ref sig .tc := ⟨.hbm, 115, rfl⟩
abbrev main_while0b_call3_c : Ref sig .tc := ⟨.hbm, 116, rfl⟩
abbrev main_while0b_call3_c_0 : Ref sig .tc := ⟨.hbm, 117, rfl⟩
abbrev main_while0b_call3_c_1 : Ref sig .tc := ⟨.hbm, 118, rfl⟩
abbrev main_while0b_call3_c_2 : Ref sig .tc := ⟨.hbm, 119, rfl⟩
abbrev main_while0b_call3_v0 : Ref sig .tc := ⟨.hbm, 120, rfl⟩
abbrev main_while0b_v157 : Ref sig .tc := ⟨.hbm, 121, rfl⟩
abbrev main_while0b_v158 : Ref sig .tc := ⟨.hbm, 122, rfl⟩
abbrev main_while0b_v159 : Ref sig .tc := ⟨.hbm, 123, rfl⟩
abbrev main_while0b_v160 : Ref sig .tc := ⟨.hbm, 124, rfl⟩
abbrev main_while0b_v161 : Ref sig .tc := ⟨.hbm, 125, rfl⟩
abbrev main_while0b_v162 : Ref sig .tc := ⟨.hbm, 126, rfl⟩
abbrev main_while0b_v163 : Ref sig .tc := ⟨.hbm, 127, rfl⟩
abbrev main_while0b_call4_v0 : Ref sig .tc := ⟨.hbm, 128, rfl⟩
abbrev main_while0b_call4_c : Ref sig .tc := ⟨.hbm, 129, rfl⟩
abbrev main_while0b_call4_c_0 : Ref sig .tc := ⟨.hbm, 130, rfl⟩
abbrev main_while0b_call4_c_1 : Ref sig .tc := ⟨.hbm, 131, rfl⟩
abbrev main_while0b_call4_c_2 : Ref sig .tc := ⟨.hbm, 132, rfl⟩
abbrev main_while0b_v164 : Ref sig .tc := ⟨.hbm, 133, rfl⟩
abbrev main_while0b_call5_v0 : Ref sig .tc := ⟨.hbm, 134, rfl⟩
abbrev main_while0b_call5_c : Ref sig .tc := ⟨.hbm, 135, rfl⟩
abbrev main_while0b_call5_c_0 : Ref sig .tc := ⟨.hbm, 136, rfl⟩
abbrev main_while0b_call5_c_1 : Ref sig .tc := ⟨.hbm, 137, rfl⟩
abbrev main_while0b_call5_c_2 : Ref sig .tc := ⟨.hbm, 138, rfl⟩
abbrev main_while0b_v165 : Ref sig .tc := ⟨.hbm, 139, rfl⟩
abbrev main_while0b_c_31 : Ref sig .tc := ⟨.hbm, 140, rfl⟩
abbrev main_while0b_v166 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_cst_12 : Ref sig .tc := ⟨.hbm, 150, rfl⟩
abbrev main_v81 : Ref sig .tc := ⟨.hbm, 151, rfl⟩
abbrev main_v82 : Ref sig .tc := ⟨.hbm, 152, rfl⟩
abbrev main_cst_13 : Ref sig .tc := ⟨.hbm, 153, rfl⟩
abbrev main_v83 : Ref sig .tc := ⟨.hbm, 154, rfl⟩
abbrev main_v84 : Ref sig .tc := ⟨.hbm, 155, rfl⟩
abbrev main_v85 : Ref sig .tc := ⟨.hbm, 156, rfl⟩
abbrev main_v86 : Ref sig .tc := ⟨.hbm, 157, rfl⟩
abbrev main_v87 : Ref sig .tc := ⟨.hbm, 158, rfl⟩
abbrev main_cst_14 : Ref sig .tc := ⟨.hbm, 159, rfl⟩
abbrev main_v88 : Ref sig .tc := ⟨.hbm, 160, rfl⟩
abbrev main_v89 : Ref sig .tc := ⟨.hbm, 161, rfl⟩
abbrev main_cst_15 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_cst_16 : Ref sig .tc := ⟨.hbm, 167, rfl⟩
abbrev main_v94 : Ref sig .tc := ⟨.hbm, 168, rfl⟩
abbrev main_v95 : Ref sig .tc := ⟨.hbm, 169, rfl⟩
abbrev main_v96 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_call6_v0 : Ref sig .tc := ⟨.hbm, 182, rfl⟩
abbrev main_call6_v1 : Ref sig .tc := ⟨.hbm, 183, rfl⟩
abbrev main_call6_cst : Ref sig .tc := ⟨.hbm, 184, rfl⟩
abbrev main_call6_v2 : Ref sig .tc := ⟨.hbm, 185, rfl⟩
abbrev main_call6_v3 : Ref sig .tc := ⟨.hbm, 186, rfl⟩
abbrev main_call6_cst_0 : Ref sig .tc := ⟨.hbm, 187, rfl⟩
abbrev main_call6_v4 : Ref sig .tc := ⟨.hbm, 188, rfl⟩
abbrev main_call6_v5 : Ref sig .tc := ⟨.hbm, 189, rfl⟩
abbrev main_v108 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_v112 : Ref sig .tc := ⟨.hbm, 194, rfl⟩
abbrev main_cst_17 : Ref sig .tc := ⟨.hbm, 195, rfl⟩
abbrev main_v113 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_cst_18 : Ref sig .tc := ⟨.hbm, 201, rfl⟩
abbrev main_v118 : Ref sig .tc := ⟨.hbm, 202, rfl⟩
abbrev main_cst_19 : Ref sig .tc := ⟨.hbm, 203, rfl⟩
abbrev main_v119 : Ref sig .tc := ⟨.hbm, 204, rfl⟩
abbrev main_cst_20 : Ref sig .tc := ⟨.hbm, 205, rfl⟩
abbrev main_v120 : Ref sig .tc := ⟨.hbm, 206, rfl⟩
abbrev main_cst_21 : Ref sig .tc := ⟨.hbm, 207, rfl⟩
abbrev main_v121 : Ref sig .tc := ⟨.hbm, 208, rfl⟩
abbrev main_c_22 : Ref sig .tc := ⟨.hbm, 209, rfl⟩
abbrev main_v122_0 : Ref sig .tc := ⟨.hbm, 210, rfl⟩
abbrev main_v122_1 : Ref sig .tc := ⟨.hbm, 211, rfl⟩
abbrev main_v122_2 : Ref sig .tc := ⟨.hbm, 212, rfl⟩
abbrev main_v122_3 : Ref sig .tc := ⟨.hbm, 213, rfl⟩
abbrev main_v122_4 : Ref sig .tc := ⟨.hbm, 214, rfl⟩
abbrev main_v122_5 : Ref sig .tc := ⟨.hbm, 215, rfl⟩
abbrev main_v122_6 : Ref sig .tc := ⟨.hbm, 216, rfl⟩
abbrev main_v122_7 : Ref sig .tc := ⟨.hbm, 217, rfl⟩
abbrev main_v122_8 : Ref sig .tc := ⟨.hbm, 218, rfl⟩
abbrev main_v122_9 : Ref sig .tc := ⟨.hbm, 219, rfl⟩
abbrev main_v122_10 : Ref sig .tc := ⟨.hbm, 220, rfl⟩
abbrev main_while1c_c_34 : Ref sig .tc := ⟨.hbm, 221, rfl⟩
abbrev main_while1c_v155 : Ref sig .tc := ⟨.hbm, 222, rfl⟩
abbrev main_while1b_c_34 : Ref sig .tc := ⟨.hbm, 223, rfl⟩
abbrev main_while1b_v155 : Ref sig .tc := ⟨.hbm, 224, rfl⟩
abbrev main_while1b_c_35 : Ref sig .tc := ⟨.hbm, 225, rfl⟩
abbrev main_while1b_v156 : Ref sig .tc := ⟨.hbm, 226, rfl⟩
abbrev main_while1b_call7_c : Ref sig .tc := ⟨.hbm, 227, rfl⟩
abbrev main_while1b_call7_c_0 : Ref sig .tc := ⟨.hbm, 228, rfl⟩
abbrev main_while1b_call7_c_1 : Ref sig .tc := ⟨.hbm, 229, rfl⟩
abbrev main_while1b_call7_c_2 : Ref sig .tc := ⟨.hbm, 230, rfl⟩
abbrev main_while1b_call7_v0 : Ref sig .tc := ⟨.hbm, 231, rfl⟩
abbrev main_while1b_v157 : Ref sig .tc := ⟨.hbm, 232, rfl⟩
abbrev main_while1b_call8_c : Ref sig .tc := ⟨.hbm, 233, rfl⟩
abbrev main_while1b_call8_c_0 : Ref sig .tc := ⟨.hbm, 234, rfl⟩
abbrev main_while1b_call8_c_1 : Ref sig .tc := ⟨.hbm, 235, rfl⟩
abbrev main_while1b_call8_c_2 : Ref sig .tc := ⟨.hbm, 236, rfl⟩
abbrev main_while1b_call8_v0 : Ref sig .tc := ⟨.hbm, 237, rfl⟩
abbrev main_while1b_v158 : Ref sig .tc := ⟨.hbm, 238, rfl⟩
abbrev main_while1b_call9_c : Ref sig .tc := ⟨.hbm, 239, rfl⟩
abbrev main_while1b_call9_c_0 : Ref sig .tc := ⟨.hbm, 240, rfl⟩
abbrev main_while1b_call9_c_1 : Ref sig .tc := ⟨.hbm, 241, rfl⟩
abbrev main_while1b_call9_c_2 : Ref sig .tc := ⟨.hbm, 242, rfl⟩
abbrev main_while1b_call9_v0 : Ref sig .tc := ⟨.hbm, 243, rfl⟩
abbrev main_while1b_v159 : Ref sig .tc := ⟨.hbm, 244, rfl⟩
abbrev main_while1b_call10_c : Ref sig .tc := ⟨.hbm, 245, rfl⟩
abbrev main_while1b_call10_c_0 : Ref sig .tc := ⟨.hbm, 246, rfl⟩
abbrev main_while1b_call10_c_1 : Ref sig .tc := ⟨.hbm, 247, rfl⟩
abbrev main_while1b_call10_c_2 : Ref sig .tc := ⟨.hbm, 248, rfl⟩
abbrev main_while1b_call10_v0 : Ref sig .tc := ⟨.hbm, 249, rfl⟩
abbrev main_while1b_v160 : Ref sig .tc := ⟨.hbm, 250, rfl⟩
abbrev main_while1b_call11_c : Ref sig .tc := ⟨.hbm, 251, rfl⟩
abbrev main_while1b_call11_c_0 : Ref sig .tc := ⟨.hbm, 252, rfl⟩
abbrev main_while1b_call11_c_1 : Ref sig .tc := ⟨.hbm, 253, rfl⟩
abbrev main_while1b_call11_c_2 : Ref sig .tc := ⟨.hbm, 254, rfl⟩
abbrev main_while1b_call11_v0 : Ref sig .tc := ⟨.hbm, 255, rfl⟩
abbrev main_while1b_v161 : Ref sig .tc := ⟨.hbm, 256, rfl⟩
abbrev main_while1b_v162 : Ref sig .tc := ⟨.hbm, 257, rfl⟩
abbrev main_while1b_v163 : Ref sig .tc := ⟨.hbm, 258, rfl⟩
abbrev main_while1b_v164 : Ref sig .tc := ⟨.hbm, 259, rfl⟩
abbrev main_while1b_v165 : Ref sig .tc := ⟨.hbm, 260, rfl⟩
abbrev main_while1b_v166 : Ref sig .tc := ⟨.hbm, 261, rfl⟩
abbrev main_while1b_v167 : Ref sig .tc := ⟨.hbm, 262, rfl⟩
abbrev main_while1b_v168 : Ref sig .tc := ⟨.hbm, 263, rfl⟩
abbrev main_while1b_v169 : Ref sig .tc := ⟨.hbm, 264, rfl⟩
abbrev main_while1b_v170 : Ref sig .tc := ⟨.hbm, 265, rfl⟩
abbrev main_while1b_v171 : Ref sig .tc := ⟨.hbm, 266, rfl⟩
abbrev main_while1b_v172 : Ref sig .tc := ⟨.hbm, 267, rfl⟩
abbrev main_while1b_v173 : Ref sig .tc := ⟨.hbm, 268, rfl⟩
abbrev main_while1b_call12_v0 : Ref sig .tc := ⟨.hbm, 269, rfl⟩
abbrev main_while1b_call12_c : Ref sig .tc := ⟨.hbm, 270, rfl⟩
abbrev main_while1b_call12_c_0 : Ref sig .tc := ⟨.hbm, 271, rfl⟩
abbrev main_while1b_call12_c_1 : Ref sig .tc := ⟨.hbm, 272, rfl⟩
abbrev main_while1b_call12_c_2 : Ref sig .tc := ⟨.hbm, 273, rfl⟩
abbrev main_while1b_v174 : Ref sig .tc := ⟨.hbm, 274, rfl⟩
abbrev main_while1b_call13_v0 : Ref sig .tc := ⟨.hbm, 275, rfl⟩
abbrev main_while1b_call13_c : Ref sig .tc := ⟨.hbm, 276, rfl⟩
abbrev main_while1b_call13_c_0 : Ref sig .tc := ⟨.hbm, 277, rfl⟩
abbrev main_while1b_call13_c_1 : Ref sig .tc := ⟨.hbm, 278, rfl⟩
abbrev main_while1b_call13_c_2 : Ref sig .tc := ⟨.hbm, 279, rfl⟩
abbrev main_while1b_v175 : Ref sig .tc := ⟨.hbm, 280, rfl⟩
abbrev main_while1b_call14_v0 : Ref sig .tc := ⟨.hbm, 281, rfl⟩
abbrev main_while1b_call14_c : Ref sig .tc := ⟨.hbm, 282, rfl⟩
abbrev main_while1b_call14_c_0 : Ref sig .tc := ⟨.hbm, 283, rfl⟩
abbrev main_while1b_call14_c_1 : Ref sig .tc := ⟨.hbm, 284, rfl⟩
abbrev main_while1b_call14_c_2 : Ref sig .tc := ⟨.hbm, 285, rfl⟩
abbrev main_while1b_v176 : Ref sig .tc := ⟨.hbm, 286, rfl⟩
abbrev main_while1b_c_36 : Ref sig .tc := ⟨.hbm, 287, rfl⟩
abbrev main_while1b_v177 : Ref sig .tc := ⟨.hbm, 288, rfl⟩
abbrev main_v123 : Ref sig .tc := ⟨.hbm, 289, rfl⟩
abbrev main_v124 : Ref sig .tc := ⟨.hbm, 290, rfl⟩
abbrev main_v125 : Ref sig .tc := ⟨.hbm, 291, rfl⟩
abbrev main_v126 : Ref sig .tc := ⟨.hbm, 292, rfl⟩
abbrev main_v127 : Ref sig .tc := ⟨.hbm, 293, rfl⟩
abbrev main_v128 : Ref sig .tc := ⟨.hbm, 294, rfl⟩
abbrev main_v129 : Ref sig .tc := ⟨.hbm, 295, rfl⟩
abbrev main_v130 : Ref sig .tc := ⟨.hbm, 296, rfl⟩
abbrev main_v131 : Ref sig .tc := ⟨.hbm, 297, rfl⟩
abbrev main_v132 : Ref sig .tc := ⟨.hbm, 298, rfl⟩
abbrev main_v133 : Ref sig .tc := ⟨.hbm, 299, rfl⟩
abbrev main_v134 : Ref sig .tc := ⟨.hbm, 300, rfl⟩
abbrev main_v135 : Ref sig .tc := ⟨.hbm, 301, rfl⟩
abbrev main_v136 : Ref sig .tc := ⟨.hbm, 302, rfl⟩
abbrev main_v137 : Ref sig .tc := ⟨.hbm, 303, rfl⟩
abbrev main_v138 : Ref sig .tc := ⟨.hbm, 304, rfl⟩
abbrev main_v139 : Ref sig .tc := ⟨.hbm, 305, rfl⟩
abbrev main_v140 : Ref sig .tc := ⟨.hbm, 306, rfl⟩
abbrev main_v141 : Ref sig .tc := ⟨.hbm, 307, rfl⟩
abbrev main_v142 : Ref sig .tc := ⟨.hbm, 308, rfl⟩
abbrev main_cst_23 : Ref sig .tc := ⟨.hbm, 309, rfl⟩
abbrev main_v143 : Ref sig .tc := ⟨.hbm, 310, rfl⟩
abbrev main_v144 : Ref sig .tc := ⟨.hbm, 311, rfl⟩
abbrev main_v145 : Ref sig .tc := ⟨.hbm, 312, rfl⟩
abbrev main_v146 : Ref sig .tc := ⟨.hbm, 313, rfl⟩
abbrev main_v147 : Ref sig .tc := ⟨.hbm, 314, rfl⟩
abbrev main_v148 : Ref sig .tc := ⟨.hbm, 315, rfl⟩
abbrev main_v149 : Ref sig .tc := ⟨.hbm, 316, rfl⟩
abbrev main_v150 : Ref sig .tc := ⟨.hbm, 317, rfl⟩
abbrev main_v151 : Ref sig .tc := ⟨.hbm, 318, rfl⟩
abbrev main_v152 : Ref sig .tc := ⟨.hbm, 319, rfl⟩
abbrev main_v153 : Ref sig .tc := ⟨.hbm, 320, rfl⟩
abbrev main_v154 : Ref sig .tc := ⟨.hbm, 321, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== GradDown.lean ====
abbrev S8192x4096 : Shape := ⟨2, ![8192, 4096]⟩
abbrev S8192x1024 : Shape := ⟨2, ![8192, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradDownReferenceIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S8192x1024, .f32⟩
  | .hbm, ⟨6, _⟩ => ⟨S8192x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradUp.lean ====
abbrev S8192x1024 : Shape := ⟨2, ![8192, 1024]⟩
abbrev S8192x4096 : Shape := ⟨2, ![8192, 4096]⟩
abbrev S8x1024x512 : Shape := ⟨3, ![8, 1024, 512]⟩
abbrev S4096x1024 : Shape := ⟨2, ![4096, 1024]⟩
abbrev S4096x512 : Shape := ⟨2, ![4096, 512]⟩
abbrev S1x1024x512 : Shape := ⟨3, ![1, 1024, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8x1024x512, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== GradUpReferenceIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== GradIn.lean ====
abbrev S8192x1024 : Shape := ⟨2, ![8192, 1024]⟩
abbrev S8192x8192 : Shape := ⟨2, ![8192, 8192]⟩
abbrev S1024x8192 : Shape := ⟨2, ![1024, 8192]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x8192, .bf16⟩
  | .hbm, ⟨2, _⟩ => ⟨S1024x8192, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradInReferenceIdeal.lean ====
abbrev S8192x1024 : Shape := ⟨2, ![8192, 1024]⟩
abbrev S8192x8192 : Shape := ⟨2, ![8192, 8192]⟩
abbrev S_ : Shape := ⟨0, ![]⟩
abbrev S1024x8192 : Shape := ⟨2, ![1024, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x8192, .bf16⟩
  | .hbm, ⟨2, _⟩ => ⟨S_, .f32⟩
  | .hbm, ⟨3, _⟩ => ⟨S1024x8192, .f32⟩
  | .hbm, ⟨4, _⟩ => ⟨S8192x1024, .f32⟩
  | .hbm, ⟨5, _⟩ => ⟨S8192x8192, .f32⟩
  | .hbm, ⟨6, _⟩ => ⟨S8192x8192, .f32⟩
  | .hbm, ⟨7, _⟩ => ⟨S8192x1024, .f32⟩
  | .hbm, ⟨8, _⟩ => ⟨S1024x8192, .f32⟩
  | .hbm, ⟨9, _⟩ => ⟨S1024x8192, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradAtt.lean ====
abbrev S8192x1024 : Shape := ⟨2, ![8192, 1024]⟩
abbrev S8192x4608 : Shape := ⟨2, ![8192, 4608]⟩
abbrev S1024x4608 : Shape := ⟨2, ![1024, 4608]⟩
abbrev S2048x1024 : Shape := ⟨2, ![2048, 1024]⟩
abbrev S2048x1536 : Shape := ⟨2, ![2048, 1536]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4608, .bf16⟩
  | .hbm, ⟨2, _⟩ => ⟨S1024x4608, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .bf16⟩
  | .local _ .vmem, ⟨5, _⟩ => ⟨S1024x1536, .bf16⟩
  | .local _ .vmem, ⟨6, _⟩ => ⟨S1024x1536, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradAttReferenceIdeal.lean ====
abbrev S8192x1024 : Shape := ⟨2, ![8192, 1024]⟩
abbrev S8192x4608 : Shape := ⟨2, ![8192, 4608]⟩
abbrev S_ : Shape := ⟨0, ![]⟩
abbrev S1024x4608 : Shape := ⟨2, ![1024, 4608]⟩
abbrev S4608x1024 : Shape := ⟨2, ![4608, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4608, .bf16⟩
  | .hbm, ⟨2, _⟩ => ⟨S_, .f32⟩
  | .hbm, ⟨3, _⟩ => ⟨S1024x4608, .f32⟩
  | .hbm, ⟨4, _⟩ => ⟨S8192x1024, .f32⟩
  | .hbm, ⟨5, _⟩ => ⟨S8192x4608, .f32⟩
  | .hbm, ⟨6, _⟩ => ⟨S8192x4608, .f32⟩
  | .hbm, ⟨7, _⟩ => ⟨S4608x1024, .f32⟩
  | .hbm, ⟨8, _⟩ => ⟨S1024x4608, .f32⟩
  | .hbm, ⟨9, _⟩ => ⟨S1024x4608, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradBranch.lean ====
abbrev S8192x2048 : Shape := ⟨2, ![8192, 2048]⟩
abbrev S8192x1024 : Shape := ⟨2, ![8192, 1024]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradBranchReferenceIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S_, .f32⟩
  | .hbm, ⟨3, _⟩ => ⟨S2048x1024, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InAtt.lean ====
abbrev S8192x1024 : Shape := ⟨2, ![8192, 1024]⟩
abbrev S1024x4608 : Shape := ⟨2, ![1024, 4608]⟩
abbrev S8192x4608 : Shape := ⟨2, ![8192, 4608]⟩
abbrev S512x1024 : Shape := ⟨2, ![512, 1024]⟩
abbrev S512x4608 : Shape := ⟨2, ![512, 4608]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x4608, .bf16⟩
  | .hbm, ⟨2, _⟩ => ⟨S8192x4608, .f32⟩
  | .local _ .vmem, ⟨0, _⟩ => ⟨S512x1024, .bf16⟩
  | .local _ .vmem, ⟨1, _⟩ => ⟨S512x1024, .bf16⟩
  | .local _ .vmem, ⟨2, _⟩ => ⟨S1024x4608, .bf16⟩
  | .local _ .vmem, ⟨3, _⟩ => ⟨S512x4608, .f32⟩
  | .local _ .vmem, ⟨4, _⟩ => ⟨S512x4608, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x4608 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InAttReferenceIdeal.lean ====
abbrev S8192x1024 : Shape := ⟨2, ![8192, 1024]⟩
abbrev S1024x4608 : Shape := ⟨2, ![1024, 4608]⟩
abbrev S8192x4608 : Shape := ⟨2, ![8192, 4608]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4608, .bf16⟩
  | .hbm, ⟨2, _⟩ => ⟨S8192x1024, .f32⟩
  | .hbm, ⟨3, _⟩ => ⟨S1024x4608, .f32⟩
  | .hbm, ⟨4, _⟩ => ⟨S8192x4608, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== InRest.lean ====
abbrev S8192x1024 : Shape := ⟨2, ![8192, 1024]⟩
abbrev S1024x8192 : Shape := ⟨2, ![1024, 8192]⟩
abbrev S8192x8192 : Shape := ⟨2, ![8192, 8192]⟩
abbrev S512x1024 : Shape := ⟨2, ![512, 1024]⟩
abbrev S512x8192 : Shape := ⟨2, ![512, 8192]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x8192, .bf16⟩
  | .hbm, ⟨2, _⟩ => ⟨S8192x8192, .bf16⟩
  | .local _ .vmem, ⟨0, _⟩ => ⟨S512x1024, .bf16⟩
  | .local _ .vmem, ⟨1, _⟩ => ⟨S512x1024, .bf16⟩
  | .local _ .vmem, ⟨2, _⟩ => ⟨S1024x8192, .bf16⟩
  | .local _ .vmem, ⟨3, _⟩ => ⟨S512x8192, .bf16⟩
  | .local _ .vmem, ⟨4, _⟩ => ⟨S512x8192, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRestReferenceIdeal.lean ====
abbrev S8192x1024 : Shape := ⟨2, ![8192, 1024]⟩
abbrev S1024x8192 : Shape := ⟨2, ![1024, 8192]⟩
abbrev S8192x8192 : Shape := ⟨2, ![8192, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x8192, .bf16⟩
  | .hbm, ⟨2, _⟩ => ⟨S8192x1024, .f32⟩
  | .hbm, ⟨3, _⟩ => ⟨S1024x8192, .f32⟩
  | .hbm, ⟨4, _⟩ => ⟨S8192x8192, .f32⟩
  | .hbm, ⟨5, _⟩ => ⟨S8192x8192, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BackAtt.lean ====
abbrev S8192x4608 : Shape := ⟨2, ![8192, 4608]⟩
abbrev S1024x4608 : Shape := ⟨2, ![1024, 4608]⟩
abbrev S4608x1024 : Shape := ⟨2, ![4608, 1024]⟩
abbrev S8192x1024 : Shape := ⟨2, ![8192, 1024]⟩
abbrev S512x4608 : Shape := ⟨2, ![512, 4608]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8192x4608, .bf16⟩
  | .hbm, ⟨1, _⟩ => ⟨S1024x4608, .bf16⟩
  | .hbm, ⟨2, _⟩ => ⟨S4608x1024, .bf16⟩
  | .hbm, ⟨3, _⟩ => ⟨S8192x1024, .f32⟩
  | .local _ .vmem, ⟨0, _⟩ => ⟨S512x4608, .bf16⟩
  | .local _ .vmem, ⟨1, _⟩ => ⟨S512x4608, .bf16⟩
  | .local _ .vmem, ⟨2, _⟩ => ⟨S4608x1024, .bf16⟩
  | .local _ .vmem, ⟨3, _⟩ => ⟨S512x1024, .f32⟩
  | .local _ .vmem, ⟨4, _⟩ => ⟨S512x1024, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4608x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BackAttReferenceIdeal.lean ====
abbrev S8192x4608 : Shape := ⟨2, ![8192, 4608]⟩
abbrev S1024x4608 : Shape := ⟨2, ![1024, 4608]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S1024x4608, .bf16⟩
  | .hbm, ⟨2, _⟩ => ⟨S_, .f32⟩
  | .hbm, ⟨3, _⟩ => ⟨S8192x1024, .f32⟩
  | .hbm, ⟨4, _⟩ => ⟨S1024x4608, .f32⟩
  | .hbm, ⟨5, _⟩ => ⟨S8192x4608, .f32⟩
  | .hbm, ⟨6, _⟩ => ⟨S8192x4608, .f32⟩
  | .hbm, ⟨7, _⟩ => ⟨S8192x1024, .f32⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Mlp.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S512x1024 : Shape := ⟨2, ![512, 1024]⟩
abbrev S512x4096 : Shape := ⟨2, ![512, 4096]⟩
abbrev S128x128 : Shape := ⟨2, ![128, 128]⟩
abbrev S8x128 : Shape := ⟨2, ![8, 128]⟩
abbrev S1x512x1024 : Shape := ⟨3, ![1, 512, 1024]⟩
abbrev S1 : Shape := ⟨1, ![1]⟩
abbrev S1x1x1 : Shape := ⟨3, ![1, 1, 1]⟩
abbrev S_ : Shape := ⟨0, ![]⟩

abbrev nBuf : Space → Nat
  | .hbm => 16
  | .vmem => 27
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S1024x4096, .bf16⟩
  | .hbm, ⟨4, _⟩ => ⟨S4096x1024, .bf16⟩
  | .hbm, ⟨5, _⟩ => ⟨S8192x4096, .bf16⟩
  | .hbm, ⟨6, _⟩ => ⟨S8192x4096, .bf16⟩
  | .hbm, ⟨7, _⟩ => ⟨S8192x1024, .f32⟩
  | .hbm, ⟨8, _⟩ => ⟨S128x128, .f32⟩
  | .hbm, ⟨9, _⟩ => ⟨S8192x1024, .bf16⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1024x4096, .bf16⟩
  | .hbm, ⟨15, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1024x4096, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | .local _ .vmem, ⟨7, _⟩ => ⟨S512x4096, .bf16⟩
  | .local _ .vmem, ⟨8, _⟩ => ⟨S512x4096, .bf16⟩
  | .local _ .vmem, ⟨9, _⟩ => ⟨S4096x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S8x128, .f32⟩
  | .local _ .vmem, ⟨17, _⟩ => ⟨S8x128, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S1024x4096, .bf16⟩
  | .local _ .vmem, ⟨23, _⟩ => ⟨S512x4096, .bf16⟩
  | .local _ .vmem, ⟨24, _⟩ => ⟨S512x4096, .bf16⟩
  | .local _ .vmem, ⟨25, _⟩ => ⟨S512x4096, .bf16⟩
  | .local _ .vmem, ⟨26, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc2_sem3_0 : DmaSem sig := 25
abbrev cc2_sem3_1 : DmaSem sig := 26

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![16, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false, false]

abbrev stage1_6 : Fin 2 → Memref sig .tc .vmem S512x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev grid2 : Pipeline.Grid := ⟨3, ![16, 1, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 1 → Memref sig .tc .vmem S1024x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true, true]

abbrev stage2_2 : Fin 2 → Memref sig .tc .vmem S512x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S512x4096 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]
-- ==== MlpReferenceIdeal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩
abbrev S8192 : Shape := ⟨1, ![8192]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S1024x4096, .bf16⟩
  | .hbm, ⟨4, _⟩ => ⟨S4096x1024, .bf16⟩
  | .hbm, ⟨5, _⟩ => ⟨S8192x1024, .f32⟩
  | .hbm, ⟨6, _⟩ => ⟨S1024x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .i1⟩
  | .hbm, ⟨14, _⟩ => ⟨S_, .f32⟩
  | .hbm, ⟨15, _⟩ => ⟨S8192x4096, .f32⟩
  | .hbm, ⟨16, _⟩ => ⟨S8192x4096, .f32⟩
  | .hbm, ⟨17, _⟩ => ⟨S_, .f32⟩
  | .hbm, ⟨18, _⟩ => ⟨S8192x4096, .f32⟩
  | .hbm, ⟨19, _⟩ => ⟨S8192x4096, .f32⟩
  | .hbm, ⟨20, _⟩ => ⟨S4096x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x4096, .f32⟩
  | .hbm, ⟨47, _⟩ => ⟨S8192x4096, .f32⟩
  | .hbm, ⟨48, _⟩ => ⟨S_, .f32⟩
  | .hbm, ⟨49, _⟩ => ⟨S8192x4096, .f32⟩
  | .hbm, ⟨50, _⟩ => ⟨S8192x4096, .f32⟩
  | .hbm, ⟨51, _⟩ => ⟨S_, .f32⟩
  | .hbm, ⟨52, _⟩ => ⟨S8192x4096, .f32⟩
  | .hbm, ⟨53, _⟩ => ⟨S8192x4096, .f32⟩
  | .hbm, ⟨54, _⟩ => ⟨S8192x4096, .f32⟩
  | .hbm, ⟨55, _⟩ => ⟨S8192x4096, .bf16⟩
  | .hbm, ⟨56, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_cst : Ref sig .tc := ⟨.hbm, 8, rfl⟩
abbrev main_call0_v0 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_cst_7 : Ref sig .tc := ⟨.hbm, 37, rfl⟩
abbrev main_cst_8 : Ref sig .tc := ⟨.hbm, 38, rfl⟩
abbrev main_v22 : Ref sig .tc := ⟨.hbm, 39, rfl⟩
abbrev main_v23 : Ref sig .tc := ⟨.hbm, 40, rfl⟩
abbrev main_cst_9 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_10 : Ref sig .tc := ⟨.hbm, 48, rfl⟩
abbrev main_v30 : Ref sig .tc := ⟨.hbm, 49, rfl⟩
abbrev main_v31 : Ref sig .tc := ⟨.hbm, 50, rfl⟩
abbrev main_call1_cst : Ref sig .tc := ⟨.hbm, 51, rfl⟩
abbrev main_call1_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== UpBack.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S4096x1024 : Shape := ⟨2, ![4096, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S4096x1024, .bf16⟩
  | .hbm, ⟨6, _⟩ => ⟨S8192x1024, .f32⟩
  | .hbm, ⟨7, _⟩ => ⟨S1x1024, .f32⟩
  | .hbm, ⟨8, _⟩ => ⟨S8192x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_17 : BitVec 32 := 0#32
  let v36 : BitVec 1 := Scalar.cmpi .ne v35 c0_i32_17
  v36

def k0_cond2 (i : grid0.Coords) : BitVec 1 :=
  let arg0 : BitVec 32 := BitVec.ofNat 32 (i 0).val
  let c0_i32 : BitVec 32 := 0#32
  let v34 : BitVec 1 := Scalar.cmpi .eq arg0 c0_i32
  let v_true : BitVec 1 := 1#1
  let v37 : BitVec 1 := Scalar.xori v34 v_true
  let v38 : BitVec 32 := Scalar.extui v37
  let c0_i32_18 : BitVec 32 := 0#32
  let v39 : BitVec 1 := Scalar.cmpi .ne v38 c0_i32_18
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== UpBackReferenceIdeal.lean ====
abbrev S8192x4096 : Shape := ⟨2, ![8192, 4096]⟩
abbrev S1024x4096 : Shape := ⟨2, ![1024, 4096]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 58
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1024x4096, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1024x4096, .f32⟩
  | .hbm, ⟨27, _⟩ => ⟨S8192x4096, .f32⟩
  | .hbm, ⟨28, _⟩ => ⟨S8192x4096, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | .hbm, ⟨57, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== RestBack.lean ====
abbrev S8192x8192 : Shape := ⟨2, ![8192, 8192]⟩
abbrev S1024x8192 : Shape := ⟨2, ![1024, 8192]⟩
abbrev S8192x1024 : Shape := ⟨2, ![8192, 1024]⟩
abbrev S1x1024 : Shape := ⟨2, ![1, 1024]⟩
abbrev S256x8192 : Shape := ⟨2, ![256, 8192]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S8192x8192, .bf16⟩
  | .hbm, ⟨1, _⟩ => ⟨S1024x8192, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x1024, .bf16⟩
  | .hbm, ⟨7, _⟩ => ⟨S8192x1024, .f32⟩
  | .hbm, ⟨8, _⟩ => ⟨S1x1024, .f32⟩
  | .local _ .vmem, ⟨0, _⟩ => ⟨S256x8192, .bf16⟩
  | .local _ .vmem, ⟨1, _⟩ => ⟨S256x8192, .bf16⟩
  | .local _ .vmem, ⟨2, _⟩ => ⟨S8192x1024, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨3, ![32, 1, 1], ![false, false, false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v37 : BitVec 32 := Scalar.extui v36
  let c0_i32_19 : BitVec 32 := 0#32
  let v38 : BitVec 1 := Scalar.cmpi .ne v37 c0_i32_19
  v38

def k0_cond2 (i : grid0.Coords) : BitVec 1 :=
  let arg0 : BitVec 32 := BitVec.ofNat 32 (i 0).val
  let c0_i32 : BitVec 32 := 0#32
  let v36 : BitVec 1 := Scalar.cmpi .eq arg0 c0_i32
  let v_true : BitVec 1 := 1#1
  let v39 : BitVec 1 := Scalar.xori v36 v_true
  let v40 : BitVec 32 := Scalar.extui v39
  let c0_i32_20 : BitVec 32 := 0#32
  let v41 : BitVec 1 := Scalar.cmpi .ne v40 c0_i32_20
  v41

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]
-- ==== RestBackReferenceIdeal.lean ====
abbrev S8192x8192 : Shape := ⟨2, ![8192, 8192]⟩
abbrev S1024x8192 : Shape := ⟨2, ![1024, 8192]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 59
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S1024x8192, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S1024x8192, .f32⟩
  | .hbm, ⟨28, _⟩ => ⟨S8192x8192, .f32⟩
  | .hbm, ⟨29, _⟩ => ⟨S8192x8192, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S1x1024, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Merge.lean ====
abbrev S8192x512 : Shape := ⟨2, ![8192, 512]⟩
abbrev S8192x2048 : Shape := ⟨2, ![8192, 2048]⟩
abbrev S8192x8192 : Shape := ⟨2, ![8192, 8192]⟩
abbrev S8192x1024 : Shape := ⟨2, ![8192, 1024]⟩
abbrev S512x1024 : Shape := ⟨2, ![512, 1024]⟩
abbrev S2048x1024 : Shape := ⟨2, ![2048, 1024]⟩
abbrev S1024x1024 : Shape := ⟨2, ![1024, 1024]⟩
abbrev S1x1024 : Shape := ⟨2, ![1, 1024]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 13
  | .vmem => 24
  | .smem => 0
  | _ => 0

abbrev bufTy : (tb : Table) → Fin (tcTables nBuf tb) → BufTy
  | .hbm, ⟨0, _⟩ => ⟨S8192x512, .f32⟩
  | .hbm, ⟨1, _⟩ => ⟨S8192x2048, .bf16⟩
  | .hbm, ⟨2, _⟩ => ⟨S8192x8192, .bf16⟩
  | .hbm, ⟨3, _⟩ => ⟨S8192x1024, .f32⟩
  | .hbm, ⟨4, _⟩ => ⟨S512x1024, .bf16⟩
  | .hbm, ⟨5, _⟩ => ⟨S2048x1024, .bf16⟩
  | .hbm, ⟨6, _⟩ => ⟨S1024x1024, .bf16⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x2048, .bf16⟩
  | .local _ .vmem, ⟨3, _⟩ => ⟨S512x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S2048x1024, .bf16⟩
  | .local _ .vmem, ⟨12, _⟩ => ⟨S1024x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeReferenceIdeal.lean ====
abbrev S8192x512 : Shape := ⟨2, ![8192, 512]⟩
abbrev S8192x2048 : Shape := ⟨2, ![8192, 2048]⟩
abbrev S8192x8192 : Shape := ⟨2, ![8192, 8192]⟩
abbrev S8192x1024 : Shape := ⟨2, ![8192, 1024]⟩
abbrev S512x1024 : Shape := ⟨2, ![512, 1024]⟩
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩
abbrev S8192 : Shape := ⟨1, ![8192]⟩
abbrev S8192x1 : Shape := ⟨2, ![8192, 1]⟩

abbrev nBuf : Space → Nat
  | .hbm => 60
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x2048, .bf16⟩
  | .hbm, ⟨2, _⟩ => ⟨S8192x8192, .bf16⟩
  | .hbm, ⟨3, _⟩ => ⟨S8192x1024, .f32⟩
  | .hbm, ⟨4, _⟩ => ⟨S512x1024, .bf16⟩
  | .hbm, ⟨5, _⟩ => ⟨S2048x1024, .bf16⟩
  | .hbm, ⟨6, _⟩ => ⟨S1024x1024, .bf16⟩
  | .hbm, ⟨7, _⟩ => ⟨S1x1024, .f32⟩
  | .hbm, ⟨8, _⟩ => ⟨S8192x1024, .bf16⟩
  | .hbm, ⟨9, _⟩ => ⟨S8192x1024, .f32⟩
  | .hbm, ⟨10, _⟩ => ⟨S8192x1024, .bf16⟩
  | .hbm, ⟨11, _⟩ => ⟨S8192x1024, .f32⟩
  | .hbm, ⟨12, _⟩ => ⟨S512x1024, .f32⟩
  | .hbm, ⟨13, _⟩ => ⟨S8192x1024, .f32⟩
  | .hbm, ⟨14, _⟩ => ⟨S8192x2048, .f32⟩
  | .hbm, ⟨15, _⟩ => ⟨S2048x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S1024x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | .hbm, ⟨40, _⟩ => ⟨S8192x1024, .bf16⟩
  | .hbm, ⟨41, _⟩ => ⟨S8192x1024, .bf16⟩
  | .hbm, ⟨42, _⟩ => ⟨S1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S8192x1024, .f32⟩
  | .hbm, ⟨55, _⟩ => ⟨S8192x1024, .f32⟩
  | .hbm, ⟨56, _⟩ => ⟨S1x1024, .f32⟩
  | .hbm, ⟨57, _⟩ => ⟨S8192x1024, .f32⟩
  | .hbm, ⟨58, _⟩ => ⟨S8192x1024, .f32⟩
  | .hbm, ⟨59, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== GradOut.lean ====
abbrev S8192x1024 : Shape := ⟨2, ![8192, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradOutReferenceIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GradMix.lean ====
abbrev S8192x512 : Shape := ⟨2, ![8192, 512]⟩
abbrev S8192x1024 : Shape := ⟨2, ![8192, 1024]⟩
abbrev S512x1024 : Shape := ⟨2, ![512, 1024]⟩
abbrev S2048x512 : Shape := ⟨2, ![2048, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S512x1024, .bf16⟩
  | .local _ .vmem, ⟨0, _⟩ => ⟨S2048x512, .f32⟩
  | .local _ .vmem, ⟨1, _⟩ => ⟨S2048x512, .f32⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GradMixReferenceIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S8192x1024, .f32⟩
  | .hbm, ⟨6, _⟩ => ⟨S1024x512, .f32⟩
  | .hbm, ⟨7, _⟩ => ⟨S512x1024, .f32⟩
  | .hbm, ⟨8, _⟩ => ⟨S512x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixBack.lean ====
abbrev S8192x1024 : Shape := ⟨2, ![8192, 1024]⟩
abbrev S1024x1024 : Shape := ⟨2, ![1024, 1024]⟩
abbrev S8192x8192 : Shape := ⟨2, ![8192, 8192]⟩
abbrev S512x1024 : Shape := ⟨2, ![512, 1024]⟩
abbrev S512x2048 : Shape := ⟨2, ![512, 2048]⟩

abbrev nBuf : Space → Nat
  | .hbm => 11
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x8192, .bf16⟩
  | .hbm, ⟨3, _⟩ => ⟨S8192x1024, .bf16⟩
  | .hbm, ⟨4, _⟩ => ⟨S8192x1024, .bf16⟩
  | .hbm, ⟨5, _⟩ => ⟨S1024x1024, .bf16⟩
  | .hbm, ⟨6, _⟩ => ⟨S8192x1024, .bf16⟩
  | .hbm, ⟨7, _⟩ => ⟨S8192x1024, .bf16⟩
  | .hbm, ⟨8, _⟩ => ⟨S8192x8192, .bf16⟩
  | .hbm, ⟨9, _⟩ => ⟨S8192x1024, .bf16⟩
  | .hbm, ⟨10, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![arg0.toNat, c3_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== MixBackReferenceIdeal.lean ====
abbrev S8192x1024 : Shape := ⟨2, ![8192, 1024]⟩
abbrev S1024x1024 : Shape := ⟨2, ![1024, 1024]⟩
abbrev S8192x8192 : Shape := ⟨2, ![8192, 8192]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x8192, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S1024x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .bf16⟩
  | .hbm, ⟨49, _⟩ => ⟨S8192x1024, .bf16⟩
  | .hbm, ⟨50, _⟩ => ⟨S8192x1024, .bf16⟩
  | .hbm, ⟨51, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== HeadBack.lean ====
abbrev S8192x1024 : Shape := ⟨2, ![8192, 1024]⟩
abbrev S512x1024 : Shape := ⟨2, ![512, 1024]⟩
abbrev S8192x512 : Shape := ⟨2, ![8192, 512]⟩
abbrev S1024x512 : Shape := ⟨2, ![1024, 512]⟩
abbrev S512x512 : Shape := ⟨2, ![512, 512]⟩
abbrev S512x128 : Shape := ⟨2, ![512, 128]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .f32⟩
  | .hbm, ⟨3, _⟩ => ⟨S8192x512, .f32⟩
  | .hbm, ⟨4, _⟩ => ⟨S1024x512, .bf16⟩
  | .hbm, ⟨5, _⟩ => ⟨S8192x512, .f32⟩
  | .hbm, ⟨6, _⟩ => ⟨S8192x512, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== HeadBackReferenceIdeal.lean ====
abbrev S8192x1024 : Shape := ⟨2, ![8192, 1024]⟩
abbrev S512x1024 : Shape := ⟨2, ![512, 1024]⟩
abbrev S8192x512 : Shape := ⟨2, ![8192, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S512x1024, .bf16⟩
  | .hbm, ⟨2, _⟩ => ⟨S8192x512, .f32⟩
  | .hbm, ⟨3, _⟩ => ⟨S8192x512, .f32⟩
  | .hbm, ⟨4, _⟩ => ⟨S512x1024, .f32⟩
  | .hbm, ⟨5, _⟩ => ⟨S8192x1024, .f32⟩
  | .hbm, ⟨6, _⟩ => ⟨S8192x1024, .f32⟩
  | .hbm, ⟨7, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Proof.FwdBody.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.VecWindow

@[expose] public section

set_option maxRecDepth 16384

/-! # One grid point of the forward retention kernel -/

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The kernel's test for the first grid point. -/
abbrev first (i : grid0.Coords) : Prop :=
  (Scalar.cmpi .ne (Scalar.extui (Scalar.cmpi .eq (BitVec.ofNat 32 (i 0).val) 0#32)) 0#32) = 1#1

/-- It holds at point 0 and nowhere else. -/
theorem first_iff : ∀ t : Fin cfg0.N, first (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    have e : t.val = 0 ↔ t.val % 16 = 0 := by omega
    rw [e]
    simp only [first, e0]
    word_cmp
   : ∀ t : Fin grid0.N, first (grid0.coords t) ↔ t.val = 0)

/-- What the carried state is when a point's work begins: zeros at the first point, else what the point before left. -/
def start (i : grid0.Coords) (s : Vec F S4x256x512 .f32) : Vec F S4x256x512 .f32 :=
  if first i then k0_pay2 (F := F) else s

/-- The kernel's opening statement: at the first point it stores zeros over the carried state. Then `J` follows. -/
def resetThen {α : Type} (i : grid0.Coords) (a : Memref sig .tc .vmem S4x256x512 .f32)
    (J : Unit → Prog (TpuEff nD τ sig (Elt F) Λ₀ .tc) α) : Prog (TpuEff nD τ sig (Elt F) Λ₀ .tc) α :=
  if k0_h1 : (Scalar.cmpi .ne (Scalar.extui (Scalar.cmpi .eq (BitVec.ofNat 32 (i 0).val) 0#32)) 0#32) = 1#1 then do
    let _ ← Prog.lift (.load a (Rect.unit (s := S4x256x512) ![0, 0, 0] S4x256x512.size inb_S4x256x512_S4x256x512_0_0_0).toLoadRect (View.loadsAt_vmem h_S4x256x512))
    Prog.lift (.store a (Rect.unit (s := S4x256x512) ![0, 0, 0] S4x256x512.size inb_S4x256x512_S4x256x512_0_0_0) (k0_pay2 (F := F)) Finset.univ (View.stores_vmem_bits_univ h_S4x256x512 rfl) (.inl rfl))
    J ⟨⟩
  else J ⟨⟩

set_option maxHeartbeats 1600000 in
/-- The opening statement leaves the carried state at `start`, and what follows runs from there. -/
theorem reset_wp {α : Type} (c : Dev nD) (i : grid0.Coords) {a : Memref sig .tc .vmem S4x256x512 .f32} (ha : a.IsWhole)
    (s : Vec F S4x256x512 .f32) (E : Set ℕ) (J : Unit → Prog (TpuEff nD τ sig (Elt F) Λ₀ .tc) α) (K : α → sProp 𝕄) :
    iprop(owns (c : Thread nD τ) a fullShare s
        ∗ (owns (c : Thread nD τ) a fullShare (start i s) -∗ wp frame (wpE (defs₀ (F := F)) Variants.none c none) E (J ⟨⟩) K))
      ⊢ wp frame (wpE (defs₀ (F := F)) Variants.none c none) E (resetThen i a J) K := by
  by_cases h : first i
  · unfold owns resetThen
    iintro ⟨⟨%f, %hf, H⟩, Hk⟩
    obtain rfl := ha.eq_unread hf
    sl_exec (disch := first | sl_exact h)
    iapply Hk
    iexists _; isplitr
    swap; · iexact H
    ipureintro
    rw [start, if_pos h]
    exact View.read_writes_full _ _ _ _ _
  · rw [start, if_neg h]; unfold resetThen
    iintro ⟨H, Hk⟩
    sl_exec (disch := first | sl_exact h)
    iapply Hk; iexact H

variable {arg1 : Memref sig .tc .vmem S512x1024 .bf16} (harg1 : arg1.IsWhole)
  {arg2 : Memref sig .tc .vmem S512x1024 .bf16} (harg2 : arg2.IsWhole)
  {arg3 : Memref sig .tc .vmem S512x2048 .bf16} (harg3 : arg3.IsWhole)
  {arg4 : Memref sig .tc .vmem S512x2048 .bf16} (harg4 : arg4.IsWhole)
  {arg5 : Memref sig .tc .vmem S1x2048 .f32} (harg5 : arg5.IsWhole)
  {arg6 : Memref sig .tc .vmem S1x2048 .f32} (harg6 : arg6.IsWhole)
  {arg7 : Memref sig .tc .vmem S512x2048 .bf16} (harg7 : arg7.IsWhole)
  {arg8 : Memref sig .tc .vmem S512x2048 .f32} (harg8 : arg8.IsWhole)
  {arg9 : Memref sig .tc .vmem S4x4x256x512 .bf16} (harg9 : arg9.IsWhole)
  {arg10 : Memref sig .tc .vmem S4x256x512 .f32} (harg10 : arg10.IsWhole)
  (x0 : Vec F S512x1024 .bf16) (x1 : Vec F S512x1024 .bf16) (x2 : Vec F S512x2048 .bf16) (x3 : Vec F S512x2048 .bf16)
  (x4 : Vec F S1x2048 .f32) (x5 : Vec F S1x2048 .f32)

/-- The first stretch of the body: the opening statement, then the first loads. -/
theorem part1_eq (i : grid0.Coords) :
    k0_part1_skel (F := F) i arg1 harg1 arg2 harg2 arg3 harg3 arg4 harg4 arg5 harg5 arg6 harg6 arg7 harg7 arg8 harg8 arg9 harg9 arg10 harg10
      = resetThen i arg10 (fun _ => do
          let v30 : Vec F S128x256 .bf16 ← Prog.lift (.load arg1 (Rect.unit (s := S512x1024) ![0, 0] S128x256.size inb_S512x1024_S128x256_0_0).toLoadRect (View.loadsAt_vmem h_S128x256))
          let v31 : Vec F S128x256 .bf16 ← Prog.lift (.load arg2 (Rect.unit (s := S512x1024) ![0, 0] S128x256.size inb_S512x1024_S128x256_0_0).toLoadRect (View.loadsAt_vmem h_S128x256))
          let v36 : Vec F S128x512 .bf16 ← Prog.lift (.load arg3 (Rect.unit (s := S512x2048) ![0, 0] S128x512.size inb_S512x2048_S128x512_0_0).toLoadRect (View.loadsAt_vmem h_S128x512))
          pure ⟨k0_pay3 (F := F), k0_pay5 (F := F), k0_pay6 (F := F), k0_pay7 (F := F), v30, k0_pay8 v31, k0_pay9 v31, v36⟩) := rfl

/-- The six operand blocks of a point, held at their contents. -/
def operands (c : Dev nD) (arg1 : Memref sig .tc .vmem S512x1024 .bf16) (arg2 : Memref sig .tc .vmem S512x1024 .bf16)
    (arg3 : Memref sig .tc .vmem S512x2048 .bf16) (arg4 : Memref sig .tc .vmem S512x2048 .bf16)
    (arg5 : Memref sig .tc .vmem S1x2048 .f32) (arg6 : Memref sig .tc .vmem S1x2048 .f32) : sProp 𝕄 :=
  iprop(owns (c : Thread nD τ) arg1 fullShare x0 ∗ owns (c : Thread nD τ) arg2 fullShare x1
    ∗ owns (c : Thread nD τ) arg3 fullShare x2 ∗ owns (c : Thread nD τ) arg4 fullShare x3
    ∗ owns (c : Thread nD τ) arg5 fullShare x4 ∗ owns (c : Thread nD τ) arg6 fullShare x5)

/-- A buffer held whole with the pieces `L` written into it. -/
def written (c : Dev nD) {s : Shape} {e : EltTy} (a : Memref sig .tc .vmem s e) (L : List (View.Piece (Elt F) s e)) : sProp 𝕄 :=
  iprop(∃ f, a.view.loc (c : Thread nD τ) ↦[a.view.set]{fullShare} a.view.writes (Elt F) f L)

set_option maxHeartbeats 3200000 in
/-- The kernel body from a carried state `s`: the pieces each of the three results and the carried state end with, found by running
    the body, and the proof that it runs. -/
def run (c : Dev nD) (i : grid0.Coords) (s : Vec F S4x256x512 .f32) :
    Σ' (L6 : List (View.Piece (Elt F) S512x2048 .bf16)) (L7 : List (View.Piece (Elt F) S512x2048 .f32)) (L8 : List (View.Piece (Elt F) S4x4x256x512 .bf16)),
      { LS : List (View.Piece (Elt F) S4x256x512 .f32) //
        ∀ (s0 : Vec F S4x256x512 .f32), start i s0 = s → ∀ (E : Set ℕ) (K : PUnit → sProp 𝕄),
          iprop(operands x0 x1 x2 x3 x4 x5 c arg1 arg2 arg3 arg4 arg5 arg6
              ∗ (∃ d, owns (c : Thread nD τ) arg7 fullShare d) ∗ (∃ d, owns (c : Thread nD τ) arg8 fullShare d)
              ∗ (∃ d, owns (c : Thread nD τ) arg9 fullShare d) ∗ owns (c : Thread nD τ) arg10 fullShare s0
              ∗ (iprop(operands x0 x1 x2 x3 x4 x5 c arg1 arg2 arg3 arg4 arg5 arg6
                  ∗ written c arg7 L6 ∗ written c arg8 L7 ∗ written c arg9 L8 ∗ written c arg10 LS) -∗ K ⟨⟩))
            ⊢ wp frame (wpE (defs₀ (F := F)) Variants.none c none) E
                (cc0_ret_fwd i arg1 harg1 arg2 harg2 arg3 harg3 arg4 harg4 arg5 harg5 arg6 harg6 arg7 harg7 arg8 harg8 arg9 harg9 arg10 harg10) K } := by
  refine ⟨?_, ?_, ?_, ?_, fun s0 hs E K => ?run⟩
  case run =>
    simp only [cc0_ret_fwd_eq_skeleton]; unfold cc0_ret_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    rw [part1_eq, wp_bind]
    unfold operands written
    iintro ⟨⟨H0, H1, H2, H3, H4, H5⟩, H6, H7, H8, HS0, Hk⟩
    iapply reset_wp c i harg10 s0
    isplitl [HS0]; · iexact HS0
    rw [hs]
    unfold owns
    iintro ⟨%fs0, %hfs0, HS0⟩
    icases H0 with ⟨%f0, %hf0, H0⟩; icases H1 with ⟨%f1, %hf1, H1⟩; icases H2 with ⟨%f2, %hf2, H2⟩
    icases H3 with ⟨%f3, %hf3, H3⟩; icases H4 with ⟨%f4, %hf4, H4⟩; icases H5 with ⟨%f5, %hf5, H5⟩
    icases H6 with ⟨%d6, %f6, -, H6⟩; icases H7 with ⟨%d7, %f7, -, H7⟩; icases H8 with ⟨%d8, %f8, -, H8⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg10.eq_unread hfs0
    sl_exec
    sl_step
    iapply Hk
    isplitl [H0 H1 H2 H3 H4 H5]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      isplitl [H4]
      · iexists _; isplitr; · ipureintro; exact harg5.read_unread _
        iexact H4
      iexists _; isplitr; · ipureintro; exact harg6.read_unread _
      iexact H5
    isplitl [H6]; · iexists _; iexact H6
    isplitl [H7]; · iexists _; iexact H7
    isplitl [H8]; · iexists _; iexact H8
    iexists _; iexact HS0

end Cert.KernelIdeal.Fwd

end
-- ==== Proof.BwdBody.lean ====
module

public import proofs.«01_k».proof.Proof.FwdBody

@[expose] public section

set_option maxRecDepth 16384

/-! # One grid point of the backward retention kernel -/

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The kernel's test for the first grid point. -/
abbrev first (i : grid1.Coords) : Prop :=
  (Scalar.cmpi .ne (Scalar.extui (Scalar.cmpi .eq (BitVec.ofNat 32 (i 0).val) 0#32)) 0#32) = 1#1

/-- It holds at point 0 and nowhere else. -/
theorem first_iff : ∀ t : Fin cfg1.N, first (grid1.coords t) ↔ t.val = 0 :=
  (fun t => by
    have ht : t.val < 16 := Nat.lt_of_lt_of_eq t.isLt N_1
    have e0 : (grid1.coords t 0).val = t.val / 1 % 16 := Pipeline.Grid.coords_val t 0 (by decide) rfl
    have e : t.val = 0 ↔ t.val % 16 = 0 := by omega
    rw [e]
    simp only [first, e0]
    word_cmp
   : ∀ t : Fin grid1.N, first (grid1.coords t) ↔ t.val = 0)

/-- What the carried gradient is when a point's work begins: zeros at the first point, else what the point before left. -/
def start (i : grid1.Coords) (s : Vec F S4x256x512 .f32) : Vec F S4x256x512 .f32 :=
  if first i then k1_pay2 (F := F) else s

/-- The kernel's opening statement: at the first point it stores zeros over the carried gradient. Then `J` follows. -/
def resetThen {α : Type} (i : grid1.Coords) (a : Memref sig .tc .vmem S4x256x512 .f32)
    (J : Unit → Prog (TpuEff nD τ sig (Elt F) Λ₀ .tc) α) : Prog (TpuEff nD τ sig (Elt F) Λ₀ .tc) α :=
  if k1_h1 : (Scalar.cmpi .ne (Scalar.extui (Scalar.cmpi .eq (BitVec.ofNat 32 (i 0).val) 0#32)) 0#32) = 1#1 then do
    let _ ← Prog.lift (.load a (Rect.unit (s := S4x256x512) ![0, 0, 0] S4x256x512.size inb_S4x256x512_S4x256x512_0_0_0).toLoadRect (View.loadsAt_vmem h_S4x256x512))
    Prog.lift (.store a (Rect.unit (s := S4x256x512) ![0, 0, 0] S4x256x512.size inb_S4x256x512_S4x256x512_0_0_0) (k1_pay2 (F := F)) Finset.univ (View.stores_vmem_bits_univ h_S4x256x512 rfl) (.inl rfl))
    J ⟨⟩
  else J ⟨⟩

set_option maxHeartbeats 1600000 in
/-- The opening statement leaves the carried gradient at `start`, and what follows runs from there. -/
theorem reset_wp {α : Type} (c : Dev nD) (i : grid1.Coords) {a : Memref sig .tc .vmem S4x256x512 .f32} (ha : a.IsWhole)
    (s : Vec F S4x256x512 .f32) (E : Set ℕ) (J : Unit → Prog (TpuEff nD τ sig (Elt F) Λ₀ .tc) α) (K : α → sProp 𝕄) :
    iprop(owns (c : Thread nD τ) a fullShare s
        ∗ (owns (c : Thread nD τ) a fullShare (start i s) -∗ wp frame (wpE (defs₀ (F := F)) Variants.none c none) E (J ⟨⟩) K))
      ⊢ wp frame (wpE (defs₀ (F := F)) Variants.none c none) E (resetThen i a J) K := by
  by_cases h : first i
  · unfold owns resetThen
    iintro ⟨⟨%f, %hf, H⟩, Hk⟩
    obtain rfl := ha.eq_unread hf
    sl_exec (disch := first | sl_exact h)
    iapply Hk
    iexists _; isplitr
    swap; · iexact H
    ipureintro
    rw [start, if_pos h]
    exact View.read_writes_full _ _ _ _ _
  · rw [start, if_neg h]; unfold resetThen
    iintro ⟨H, Hk⟩
    sl_exec (disch := first | sl_exact h)
    iapply Hk; iexact H

variable {arg1 : Memref sig .tc .vmem S512x2048 .bf16} (harg1 : arg1.IsWhole)
  {arg2 : Memref sig .tc .vmem S4x4x256x512 .bf16} (harg2 : arg2.IsWhole)
  {arg3 : Memref sig .tc .vmem S512x1024 .bf16} (harg3 : arg3.IsWhole)
  {arg4 : Memref sig .tc .vmem S512x1024 .bf16} (harg4 : arg4.IsWhole)
  {arg5 : Memref sig .tc .vmem S512x2048 .bf16} (harg5 : arg5.IsWhole)
  {arg6 : Memref sig .tc .hbm S8192x8192 .bf16} (harg6 : arg6.IsWhole)
  {arg7 : Memref sig .tc .vmem S512x4096 .bf16} (harg7 : arg7.IsWhole)
  {arg8 : Memref sig .tc .vmem S4x256x512 .f32} (harg8 : arg8.IsWhole)
  (x0 : Vec F S512x2048 .bf16) (x1 : Vec F S4x4x256x512 .bf16) (x2 : Vec F S512x1024 .bf16) (x3 : Vec F S512x1024 .bf16) (x4 : Vec F S512x2048 .bf16)

/-- The first stretch of the body: the opening statement, then the first loads. -/
theorem part1_eq (i : grid1.Coords) :
    k1_part1_skel (F := F) i arg1 harg1 arg2 harg2 arg3 harg3 arg4 harg4 arg5 harg5 arg6 harg6 arg7 harg7 arg8 harg8
      = resetThen i arg8 (fun _ => do
          let v30 : Vec F S128x256 .bf16 ← Prog.lift (.load arg3 (Rect.unit (s := S512x1024) ![384, 0] S128x256.size inb_S512x1024_S128x256_384_0).toLoadRect (View.loadsAt_vmem h_S128x256))
          let v31 : Vec F S128x256 .bf16 ← Prog.lift (.load arg4 (Rect.unit (s := S512x1024) ![384, 0] S128x256.size inb_S512x1024_S128x256_384_0).toLoadRect (View.loadsAt_vmem h_S128x256))
          let v36 : Vec F S128x512 .bf16 ← Prog.lift (.load arg5 (Rect.unit (s := S512x2048) ![384, 0] S128x512.size inb_S512x2048_S128x512_384_0).toLoadRect (View.loadsAt_vmem h_S128x512))
          let v37 : Vec F S128x512 .bf16 ← Prog.lift (.load arg1 (Rect.unit (s := S512x2048) ![384, 0] S128x512.size inb_S512x2048_S128x512_384_0).toLoadRect (View.loadsAt_vmem h_S128x512))
          pure ⟨k1_pay3 (F := F), k1_pay5 (F := F), k1_pay6 (F := F), k1_pay7 (F := F), v30, k1_pay8 v31, k1_pay9 v31, v36, v37⟩) := rfl

/-- The five operand blocks of a point, held at their contents. -/
def operands (c : Dev nD) (arg1 : Memref sig .tc .vmem S512x2048 .bf16) (arg2 : Memref sig .tc .vmem S4x4x256x512 .bf16) (arg3 : Memref sig .tc .vmem S512x1024 .bf16) (arg4 : Memref sig .tc .vmem S512x1024 .bf16) (arg5 : Memref sig .tc .vmem S512x2048 .bf16) : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4)

set_option maxHeartbeats 3200000 in
/-- The kernel body from a carried gradient `s`: the pieces the result and the carried gradient end with, found by running the body,
    and the proof that it runs. -/
def run (c : Dev nD) (i : grid1.Coords) (s : Vec F S4x256x512 .f32) :
    Σ' (L5 : List (View.Piece (Elt F) S512x4096 .bf16)),
      { LS : List (View.Piece (Elt F) S4x256x512 .f32) //
        ∀ (s0 : Vec F S4x256x512 .f32), start i s0 = s → ∀ (E : Set ℕ) (K : PUnit → sProp 𝕄),
          iprop(operands x0 x1 x2 x3 x4 c arg1 arg2 arg3 arg4 arg5
              ∗ (∃ d, owns (c : Thread nD τ) arg7 fullShare d) ∗ owns (c : Thread nD τ) arg8 fullShare s0
              ∗ (iprop(operands x0 x1 x2 x3 x4 c arg1 arg2 arg3 arg4 arg5
                  ∗ Fwd.written c arg7 L5 ∗ Fwd.written c arg8 LS) -∗ K ⟨⟩))
            ⊢ wp frame (wpE (defs₀ (F := F)) Variants.none c none) E
                (cc1_ret_bwd i arg1 harg1 arg2 harg2 arg3 harg3 arg4 harg4 arg5 harg5 arg6 harg6 arg7 harg7 arg8 harg8) K } := by
  refine ⟨?_, ?_, fun s0 hs E K => ?run⟩
  case run =>
    simp only [cc1_ret_bwd_eq_skeleton]; unfold cc1_ret_bwd_skel
    simp only [k1_part34_eq_skeleton]; unfold k1_part34_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton, k1_part32_eq_skeleton, k1_part33_eq_skeleton]
    rw [part1_eq, wp_bind, wp_bind]
    unfold operands Fwd.written
    iintro ⟨⟨H0, H1, H2, H3, H4⟩, H5, HS0, Hk⟩
    iapply reset_wp c i harg8 s0
    isplitl [HS0]; · iexact HS0
    rw [hs]
    unfold owns
    iintro ⟨%fs0, %hfs0, HS0⟩
    icases H0 with ⟨%f0, %hf0, H0⟩; icases H1 with ⟨%f1, %hf1, H1⟩; icases H2 with ⟨%f2, %hf2, H2⟩
    icases H3 with ⟨%f3, %hf3, H3⟩; icases H4 with ⟨%f4, %hf4, H4⟩; icases H5 with ⟨%d5, %f5, -, H5⟩
    obtain rfl := harg1.eq_unread hf0; obtain rfl := harg2.eq_unread hf1; obtain rfl := harg3.eq_unread hf2
    obtain rfl := harg4.eq_unread hf3; obtain rfl := harg5.eq_unread hf4
    obtain rfl := harg8.eq_unread hfs0
    sl_exec
    sl_step
    iapply Hk
    isplitl [H0 H1 H2 H3 H4]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      iexists _; isplitr; · ipureintro; exact harg5.read_unread _
      iexact H4
    isplitl [H5]; · iexists _; iexact H5
    iexists _; iexact HS0

end Cert.KernelIdeal.Bwd

end
-- ==== Proof.FwdRegion.lean ====
module

public import proofs.«01_k».proof.Proof.FwdBody

@[expose] public section

set_option maxRecDepth 16384

/-! # The forward retention kernel over its grid, from any contents of the arrays -/

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The staging buffer window `w` uses at point `t` is a whole buffer. -/
theorem whole (w : Fin cfg0.W) (t : Fin cfg0.N) : ((cfg0.win w).stage (cfg0.slots t w)).IsWhole := by
  fin_cases w
  · exact hstage0_0 ((cfg0.slots t 0).cast nbuf0_0)
  · exact hstage0_1 ((cfg0.slots t 1).cast nbuf0_1)
  · exact hstage0_2 ((cfg0.slots t 2).cast nbuf0_2)
  · exact hstage0_3 ((cfg0.slots t 3).cast nbuf0_3)
  · exact hstage0_4 ((cfg0.slots t 4).cast nbuf0_4)
  · exact hstage0_5 ((cfg0.slots t 5).cast nbuf0_5)
  · exact hstage0_6 ((cfg0.slots t 6).cast nbuf0_6)
  · exact hstage0_7 ((cfg0.slots t 7).cast nbuf0_7)
  · exact hstage0_8 ((cfg0.slots t 8).cast nbuf0_8)

/-- The carried state's buffer. -/
abbrev stateM : Memref sig .tc .vmem S4x256x512 .f32 := Memref.whole cc0_scratch0

/-- Buffers of the results' shapes, through which their contents are stated. -/
abbrev view6 : View sig .tc .vmem S512x2048 .bf16 := (Memref.whole cc0_stg6_0 : Memref sig .tc .vmem S512x2048 .bf16).view
abbrev view7 : View sig .tc .vmem S512x2048 .f32 := (Memref.whole cc0_stg7_0 : Memref sig .tc .vmem S512x2048 .f32).view
abbrev view8 : View sig .tc .vmem S4x4x256x512 .bf16 := (Memref.whole cc0_stg8_0 : Memref sig .tc .vmem S4x4x256x512 .bf16).view

/-- The run of point `t` from a carried state `s`, at the point's own buffers and blocks. -/
abbrev pt (c : Dev nD) (t : Fin cfg0.N) (s : Vec F S4x256x512 .f32) :=
  run (F := F) (whole 0 t) (whole 1 t) (whole 2 t) (whole 3 t) (whole 4 t) (whole 5 t) (whole 6 t) (whole 7 t) (whole 8 t)
    (Memref.isWhole_whole cc0_scratch0) (blk V c 0 t) (blk V c 1 t) (blk V c 2 t) (blk V c 3 t) (blk V c 4 t) (blk V c 5 t) c (grid0.coords t) s

/-- What point `t` leaves in the result windows and in the carried state. -/
def out6 (c : Dev nD) (t : Fin cfg0.N) (s : Vec F S4x256x512 .f32) : Vec F S512x2048 .bf16 :=
  view6.read (Elt F) (view6.writes (Elt F) view6.junk (pt V c t s).1)
def out7 (c : Dev nD) (t : Fin cfg0.N) (s : Vec F S4x256x512 .f32) : Vec F S512x2048 .f32 :=
  view7.read (Elt F) (view7.writes (Elt F) view7.junk (pt V c t s).2.1)
def out8 (c : Dev nD) (t : Fin cfg0.N) (s : Vec F S4x256x512 .f32) : Vec F S4x4x256x512 .bf16 :=
  view8.read (Elt F) (view8.writes (Elt F) view8.junk (pt V c t s).2.2.1)
def outS (c : Dev nD) (t : Fin cfg0.N) (s : Vec F S4x256x512 .f32) : Vec F S4x256x512 .f32 :=
  stateM.view.read (Elt F) (stateM.view.writes (Elt F) stateM.view.junk (pt V c t s).2.2.2.1)

/-- The pieces tile the three results and the carried state. -/
theorem cover6 (c : Dev nD) (t : Fin cfg0.N) (s : Vec F S4x256x512 .f32) (y : S512x2048.Idx) :
    ∃ p ∈ (pt V c t s).1, y ∈ p.1.set := View.cover_of_tiledL (pt V c t s).1 S128x512.size (by sl_kernel_rfl) y
theorem cover7 (c : Dev nD) (t : Fin cfg0.N) (s : Vec F S4x256x512 .f32) (y : S512x2048.Idx) :
    ∃ p ∈ (pt V c t s).2.1, y ∈ p.1.set := View.cover_of_tiledL (pt V c t s).2.1 S128x512.size (by sl_kernel_rfl) y
theorem cover8 (c : Dev nD) (t : Fin cfg0.N) (s : Vec F S4x256x512 .f32) (y : S4x4x256x512.Idx) :
    ∃ p ∈ (pt V c t s).2.2.1, y ∈ p.1.set := View.cover_of_tiledL (pt V c t s).2.2.1 S1x1x256x512.size (by sl_kernel_rfl) y
theorem coverS (c : Dev nD) (t : Fin cfg0.N) (s : Vec F S4x256x512 .f32) (y : S4x256x512.Idx) :
    ∃ p ∈ (pt V c t s).2.2.2.1, y ∈ p.1.set := View.cover_of_tiledL (pt V c t s).2.2.2.1 S1x256x512.size (by sl_kernel_rfl) y

/-- The carried state before point `n`: zeros, then what the points before it made of it. -/
def entry (c : Dev nD) : ℕ → Vec F S4x256x512 .f32
  | 0 => k0_pay2 (F := F)
  | n + 1 => if h : n < cfg0.N then outS V c ⟨n, h⟩ (entry c n) else entry c n

theorem entry_succ (c : Dev nD) (t : Fin cfg0.N) : entry V c (t.val + 1) = outS V c t (entry V c t.val) := by
  rw [entry, dif_pos t.isLt]

/-- The scoped buffers the kernel does not touch, at any contents. -/
def rest (c : Dev nD) : sProp 𝕄 :=
  bigSepL [cc1_stg0_0, cc1_stg0_1, cc1_stg1_0, cc1_stg1_1, cc1_stg2_0, cc1_stg2_1, cc1_stg3_0, cc1_stg3_1, cc1_stg4_0, cc1_stg4_1, cc1_stg5_0, cc1_stg5_1, cc1_scratch0]
    fun b => iprop(∃ f : Buf (Elt F) ((c : Thread nD τ).loc b), ((c : Thread nD τ).loc b) ↦{fullShare} f)

/-- What the launch hands over beside the windows: the carried state's buffer at some contents, the untouched buffers, the
    generator register. -/
theorem launch_eq (c : Dev nD) :
    (Pipeline.ΦA spec0 c : sProp 𝕄) = iprop(((∃ d, owns (c : Thread nD τ) stateM fullShare d) ∗ rest c) ∗ (∃ r, prngReg c r)) := by
  unfold Pipeline.ΦA; rw [scopedRest0_eq]; simp only [owns_whole]; rfl

/-- The invariant before point `n`: the carried state at `entry` from the second point on. -/
def inv (c : Dev nD) (n : ℕ) : sProp 𝕄 :=
  iprop(((∃ s : Vec F S4x256x512 .f32, ⌜n ≠ 0 → s = entry V c n⌝ ∗ owns (c : Thread nD τ) stateM fullShare s) ∗ rest c) ∗ (∃ r, prngReg c r))

/-- The region's proof data. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => out6 V c t (entry V c t.val)
    | ⟨7, _⟩ => out7 V c t (entry V c t.val)
    | ⟨8, _⟩ => out8 V c t (entry V c t.val)
  Φ t := inv V c t.val
  q w := Pipeline.shareOf spec0 w
  owed _ := 0

theorem A_eq (c : Dev nD) (w : Fin cfg0.W) : (dat V c).A w = V c (Pipeline.arrRef spec0 w) := by dsimp only [dat]

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = blk V c 3 t := by dsimp only [dat]
theorem after4 (c : Dev nD) (t : Fin cfg0.N) : (dat V c).after 4 t = blk V c 4 t := by dsimp only [dat]
theorem after5 (c : Dev nD) (t : Fin cfg0.N) : (dat V c).after 5 t = blk V c 5 t := by dsimp only [dat]
theorem after6 (c : Dev nD) (t : Fin cfg0.N) : (dat V c).after 6 t = out6 V c t (entry V c t.val) := by dsimp only [dat]
theorem after7 (c : Dev nD) (t : Fin cfg0.N) : (dat V c).after 7 t = out7 V c t (entry V c t.val) := by dsimp only [dat]
theorem after8 (c : Dev nD) (t : Fin cfg0.N) : (dat V c).after 8 t = out8 V c t (entry V c t.val) := by dsimp only [dat]

/-- Each operand's staging buffer holds its block whenever the body runs. -/
theorem before0 (c : Dev nD) (t : Fin cfg0.N) (d) : (dat V c).before 0 t d = blk V c 0 t :=
  ((dat V c).before_in_eq_fetched 0 rfl (fun _ => rfl) (fun _ _ _ => rfl) (fun t => by rw [after0]; unfold Dat.blockOf blk; rw [A_eq]; try rfl) t d).trans
    (by unfold Dat.fetched Dat.blockOf blk; rw [A_eq]; try rfl)
theorem before1 (c : Dev nD) (t : Fin cfg0.N) (d) : (dat V c).before 1 t d = blk V c 1 t :=
  ((dat V c).before_in_eq_fetched 1 rfl (fun _ => rfl) (fun _ _ _ => rfl) (fun t => by rw [after1]; unfold Dat.blockOf blk; rw [A_eq]; try rfl) t d).trans
    (by unfold Dat.fetched Dat.blockOf blk; rw [A_eq]; try rfl)
theorem before2 (c : Dev nD) (t : Fin cfg0.N) (d) : (dat V c).before 2 t d = blk V c 2 t :=
  ((dat V c).before_in_eq_fetched 2 rfl (fun _ => rfl) (fun _ _ _ => rfl) (fun t => by rw [after2]; unfold Dat.blockOf blk; rw [A_eq]; try rfl) t d).trans
    (by unfold Dat.fetched Dat.blockOf blk; rw [A_eq]; try rfl)
theorem before3 (c : Dev nD) (t : Fin cfg0.N) (d) : (dat V c).before 3 t d = blk V c 3 t :=
  ((dat V c).before_in_eq_fetched 3 rfl (fun _ => rfl) (fun _ _ _ => rfl) (fun t => by rw [after3]; unfold Dat.blockOf blk; rw [A_eq]; try rfl) t d).trans
    (by unfold Dat.fetched Dat.blockOf blk; rw [A_eq]; try rfl)
theorem before4 (c : Dev nD) (t : Fin cfg0.N) (d) : (dat V c).before 4 t d = blk V c 4 t :=
  ((dat V c).before_in_eq_fetched 4 rfl (fun _ => rfl) (fun _ _ _ => rfl) (fun t => by rw [after4]; unfold Dat.blockOf blk; rw [A_eq]; try rfl) t d).trans
    (by unfold Dat.fetched Dat.blockOf blk; rw [A_eq]; try rfl)
theorem before5 (c : Dev nD) (t : Fin cfg0.N) (d) : (dat V c).before 5 t d = blk V c 5 t :=
  ((dat V c).before_in_eq_fetched 5 rfl (fun _ => rfl) (fun _ _ _ => rfl) (fun t => by rw [after5]; unfold Dat.blockOf blk; rw [A_eq]; try rfl) t d).trans
    (by unfold Dat.fetched Dat.blockOf blk; rw [A_eq]; try rfl)

/-- The launch's hand-over is the invariant before the first point, -/
theorem inv_in (c : Dev nD) : Pipeline.ΦA spec0 c ⊢ (dat V c).Φ 0 := by
  rw [show (dat V c).Φ 0 = inv V c 0 from rfl, launch_eq]; unfold inv
  iintro ⟨⟨⟨%d, H⟩, Hr⟩, Hg⟩
  isplitl [H Hr]
  · isplitl [H]
    · iexists d; isplitr
      · ipureintro; exact fun h => absurd rfl h
      iexact H
    iexact Hr
  iexact Hg

/-- and the invariant gives it back after the last. -/
theorem inv_out (c : Dev nD) : (dat V c).Φ (Fin.last cfg0.N) ⊢ Pipeline.ΦA spec0 c := by
  rw [show (dat V c).Φ (Fin.last cfg0.N) = inv V c cfg0.N from rfl, launch_eq]; unfold inv
  iintro ⟨⟨⟨%d, -, H⟩, Hr⟩, Hg⟩
  isplitl [H Hr]
  · isplitl [H]
    · iexists d; iexact H
    iexact Hr
  iexact Hg

/-- What the body starts from, read off the invariant's state. -/
theorem start_eq (c : Dev nD) (t : Fin cfg0.N) (s : Vec F S4x256x512 .f32) (h : t.val ≠ 0 → s = entry V c t.val) :
    start (grid0.coords t) s = entry V c t.val := by
  unfold start
  by_cases h0 : t.val = 0
  · rw [if_pos ((first_iff t).mpr h0), h0, entry]
  · rw [if_neg (fun hf => h0 ((first_iff t).mp hf)), h h0]

/-- What the body holds before point `t`, and after. -/
def pre (c : Dev nD) (t : Fin cfg0.N) : sProp 𝕄 :=
  iprop((dat V c).Φ t.castSucc ∗ (dat V c).owesAt () t.castSucc
    ∗ (∃ d, owns (c : Thread nD τ) ((cfg0.win 0).stage (cfg0.slots t 0)) fullShare ((dat V c).before 0 t d))
    ∗ (∃ d, owns (c : Thread nD τ) ((cfg0.win 1).stage (cfg0.slots t 1)) fullShare ((dat V c).before 1 t d))
    ∗ (∃ d, owns (c : Thread nD τ) ((cfg0.win 2).stage (cfg0.slots t 2)) fullShare ((dat V c).before 2 t d))
    ∗ (∃ d, owns (c : Thread nD τ) ((cfg0.win 3).stage (cfg0.slots t 3)) fullShare ((dat V c).before 3 t d))
    ∗ (∃ d, owns (c : Thread nD τ) ((cfg0.win 4).stage (cfg0.slots t 4)) fullShare ((dat V c).before 4 t d))
    ∗ (∃ d, owns (c : Thread nD τ) ((cfg0.win 5).stage (cfg0.slots t 5)) fullShare ((dat V c).before 5 t d))
    ∗ (∃ d, owns (c : Thread nD τ) ((cfg0.win 6).stage (cfg0.slots t 6)) fullShare ((dat V c).before 6 t d))
    ∗ (∃ d, owns (c : Thread nD τ) ((cfg0.win 7).stage (cfg0.slots t 7)) fullShare ((dat V c).before 7 t d))
    ∗ (∃ d, owns (c : Thread nD τ) ((cfg0.win 8).stage (cfg0.slots t 8)) fullShare ((dat V c).before 8 t d)))
def post (c : Dev nD) (t : Fin cfg0.N) : sProp 𝕄 :=
  iprop((dat V c).Φ t.succ ∗ (dat V c).owesAt () t.succ
    ∗ owns (c : Thread nD τ) ((cfg0.win 0).stage (cfg0.slots t 0)) fullShare ((dat V c).after 0 t)
    ∗ owns (c : Thread nD τ) ((cfg0.win 1).stage (cfg0.slots t 1)) fullShare ((dat V c).after 1 t)
    ∗ owns (c : Thread nD τ) ((cfg0.win 2).stage (cfg0.slots t 2)) fullShare ((dat V c).after 2 t)
    ∗ owns (c : Thread nD τ) ((cfg0.win 3).stage (cfg0.slots t 3)) fullShare ((dat V c).after 3 t)
    ∗ owns (c : Thread nD τ) ((cfg0.win 4).stage (cfg0.slots t 4)) fullShare ((dat V c).after 4 t)
    ∗ owns (c : Thread nD τ) ((cfg0.win 5).stage (cfg0.slots t 5)) fullShare ((dat V c).after 5 t)
    ∗ owns (c : Thread nD τ) ((cfg0.win 6).stage (cfg0.slots t 6)) fullShare ((dat V c).after 6 t)
    ∗ owns (c : Thread nD τ) ((cfg0.win 7).stage (cfg0.slots t 7)) fullShare ((dat V c).after 7 t)
    ∗ owns (c : Thread nD τ) ((cfg0.win 8).stage (cfg0.slots t 8)) fullShare ((dat V c).after 8 t))

set_option maxHeartbeats 1600000 in
/-- The body at any point takes the one to the other. -/
theorem sound (c : Dev nD) (t : Fin cfg0.N) :
    pre V c t ⊢ wp frame (wpE (defs₀ (F := F)) Variants.none c none) Set.univ (bodyAt0 t) (fun _ => post V c t) := by
  unfold pre post bodyAt0
  simp only [before0, before1, before2, before3, before4, before5]
  rw [show (dat V c).Φ t.succ = inv V c (t.val + 1) from rfl, show (dat V c).Φ t.castSucc = inv V c t.val from rfl,
    show (dat V c).owesAt () t.succ = (dat V c).owesAt () t.castSucc from rfl,
    after0, after1, after2, after3, after4, after5, after6, after7, after8]
  unfold inv
  iintro ⟨⟨⟨⟨%s0, %hs0, HS⟩, Hr⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((pt V c t (entry V c t.val)).2.2.2.2 s0 (start_eq V c t s0 hs0) Set.univ _)
  unfold operands
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexists _; iexact H6
  isplitl [H7]; · iexists _; iexact H7
  isplitl [H8]; · iexists _; iexact H8
  isplitl [HS]; · iexact HS
  unfold written
  iintro ⟨⟨H0, H1, H2, H3, H4, H5⟩, ⟨%e6, H6⟩, ⟨%e7, H7⟩, ⟨%e8, H8⟩, ⟨%e, HS⟩⟩
  isplitl [HS Hr Hg]
  · isplitl [HS Hr]
    · isplitl [HS]
      · iexists (outS V c t (entry V c t.val)); isplitr
        · ipureintro; exact fun _ => (entry_succ V c t).symm
        unfold owns; iexists _; isplitr
        swap; · iexact HS
        ipureintro; exact View.read_writes_of_cover _ _ _ _ _ (coverS V c t _)
      iexact Hr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover6 V c t _)
  isplitl [H7]
  · unfold owns; iexists _; isplitr
    swap; · iexact H7
    ipureintro; exact View.read_writes_of_cover _ _ _ _ _ (cover7 V c t _)
  unfold owns; iexists _; isplitr
  swap; · iexact H8
  ipureintro; exact View.read_writes_of_cover _ _ _ _ _ (cover8 V c t _)

theorem row (t : Fin cfg0.N) : defs₀ (F := F) .tc cfg0.body (cfg0.bodyArgs t (cfg0.slots t)) = bodyAt0 t := by
  unfold defs₀; rw [Defs.onTc_tc]

/-- The pipeline's obligation on its body. -/
theorem obligation (c : Dev nD) : BodyObligation (dat (F := F) V c) (defs₀ (F := F)) Variants.none () Set.univ := fun t => by
  rw [bigSep_W0, bigSep_W0, row]
  exact triple_restated (sound V c t) rfl .rfl fun _ => .rfl

end Cert.KernelIdeal.Fwd

end
-- ==== Proof.BwdRegion.lean ====
module

public import proofs.«01_k».proof.Proof.BwdBody
public import proofs.«01_k».proof.Proof.FwdRegion

@[expose] public section

set_option maxRecDepth 16384

/-! # The backward retention kernel over its grid, from any contents of the arrays -/

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The staging buffer window `w` uses at point `t` is a whole buffer. -/
theorem whole (w : Fin cfg1.W) (t : Fin cfg1.N) : ((cfg1.win w).stage (cfg1.slots t w)).IsWhole := by
  fin_cases w
  · exact hstage1_0 ((cfg1.slots t 0).cast nbuf1_0)
  · exact hstage1_1 ((cfg1.slots t 1).cast nbuf1_1)
  · exact hstage1_2 ((cfg1.slots t 2).cast nbuf1_2)
  · exact hstage1_3 ((cfg1.slots t 3).cast nbuf1_3)
  · exact hstage1_4 ((cfg1.slots t 4).cast nbuf1_4)
  · exact hstage1_5 ((cfg1.slots t 5).cast nbuf1_5)

/-- The carried gradient's buffer. -/
abbrev gradM : Memref sig .tc .vmem S4x256x512 .f32 := Memref.whole cc1_scratch0

/-- A buffer of the result's shape, through which its contents are stated. -/
abbrev view5 : View sig .tc .vmem S512x4096 .bf16 := (Memref.whole cc1_stg5_0 : Memref sig .tc .vmem S512x4096 .bf16).view

/-- The run of point `t` from a carried gradient `s`, at the point's own buffers and blocks. -/
abbrev pt (c : Dev nD) (t : Fin cfg1.N) (s : Vec F S4x256x512 .f32) :=
  run (F := F) (whole 0 t) (whole 1 t) (whole 2 t) (whole 3 t) (whole 4 t) (Memref.isWhole_whole main_arg4) (whole 5 t)
    (Memref.isWhole_whole cc1_scratch0) (blk V c 0 t) (blk V c 1 t) (blk V c 2 t) (blk V c 3 t) (blk V c 4 t) c (grid1.coords t) s

/-- What point `t` leaves in the result window and in the carried gradient. -/
def out5 (c : Dev nD) (t : Fin cfg1.N) (s : Vec F S4x256x512 .f32) : Vec F S512x4096 .bf16 :=
  view5.read (Elt F) (view5.writes (Elt F) view5.junk (pt V c t s).1)
def outS (c : Dev nD) (t : Fin cfg1.N) (s : Vec F S4x256x512 .f32) : Vec F S4x256x512 .f32 :=
  gradM.view.read (Elt F) (gradM.view.writes (Elt F) gradM.view.junk (pt V c t s).2.1)

/-- The pieces tile the result and the carried gradient. -/
theorem cover5 (c : Dev nD) (t : Fin cfg1.N) (s : Vec F S4x256x512 .f32) (y : S512x4096.Idx) :
    ∃ p ∈ (pt V c t s).1, y ∈ p.1.set := View.cover_of_tiledBy (pt V c t s).1 ![128, 256] (by sl_kernel_rfl) y
theorem coverS (c : Dev nD) (t : Fin cfg1.N) (s : Vec F S4x256x512 .f32) (y : S4x256x512.Idx) :
    ∃ p ∈ (pt V c t s).2.1, y ∈ p.1.set := View.cover_of_tiledL (pt V c t s).2.1 S1x256x512.size (by sl_kernel_rfl) y

/-- The carried gradient before point `n`: zeros, then what the points before it made of it. -/
def entry (c : Dev nD) : ℕ → Vec F S4x256x512 .f32
  | 0 => k1_pay2 (F := F)
  | n + 1 => if h : n < cfg1.N then outS V c ⟨n, h⟩ (entry c n) else entry c n

theorem entry_succ (c : Dev nD) (t : Fin cfg1.N) : entry V c (t.val + 1) = outS V c t (entry V c t.val) := by
  rw [entry, dif_pos t.isLt]

/-- The scoped buffers the kernel does not touch, at any contents. -/
def rest (c : Dev nD) : sProp 𝕄 :=
  bigSepL [cc0_stg0_0, cc0_stg0_1, cc0_stg1_0, cc0_stg1_1, cc0_stg2_0, cc0_stg2_1, cc0_stg3_0, cc0_stg3_1, cc0_stg4_0, cc0_stg5_0, cc0_stg6_0, cc0_stg6_1, cc0_stg7_0, cc0_stg7_1, cc0_stg8_0, cc0_stg8_1, cc0_scratch0]
    fun b => iprop(∃ f : Buf (Elt F) ((c : Thread nD τ).loc b), ((c : Thread nD τ).loc b) ↦{fullShare} f)

/-- What the launch hands over beside the windows: the carried gradient's buffer at some contents, the untouched buffers, the
    generator register. -/
theorem launch_eq (c : Dev nD) :
    (Pipeline.ΦA spec1 c : sProp 𝕄) = iprop(((∃ d, owns (c : Thread nD τ) gradM fullShare d) ∗ rest c) ∗ (∃ r, prngReg c r)) := by
  unfold Pipeline.ΦA; rw [Pipeline.scopedRest_eq_of_list spec1 c [cc1_scratch0, cc0_stg0_0, cc0_stg0_1, cc0_stg1_0, cc0_stg1_1, cc0_stg2_0, cc0_stg2_1, cc0_stg3_0, cc0_stg3_1, cc0_stg4_0, cc0_stg5_0, cc0_stg6_0, cc0_stg6_1, cc0_stg7_0, cc0_stg7_1, cc0_stg8_0, cc0_stg8_1, cc0_scratch0] (by decide) (by decide)]; simp only [owns_whole]; rfl

/-- The invariant before point `n`: the carried gradient at `entry` from the second point on. -/
def inv (c : Dev nD) (n : ℕ) : sProp 𝕄 :=
  iprop(((∃ s : Vec F S4x256x512 .f32, ⌜n ≠ 0 → s = entry V c n⌝ ∗ owns (c : Thread nD τ) gradM fullShare s) ∗ rest c) ∗ (∃ r, prngReg c r))

/-- The region's proof data. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => out5 V c t (entry V c t.val)
  Φ t := inv V c t.val
  q w := Pipeline.shareOf spec1 w
  owed _ := 0

theorem A_eq (c : Dev nD) (w : Fin cfg1.W) : (dat V c).A w = V c (Pipeline.arrRef spec1 w) := by dsimp only [dat]

theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) : (dat V c).after 5 t = out5 V c t (entry V c t.val) := by dsimp only [dat]

/-- Each operand's staging buffer holds its block whenever the body runs. -/
theorem before0 (c : Dev nD) (t : Fin cfg1.N) (d) : (dat V c).before 0 t d = blk V c 0 t :=
  ((dat V c).before_in_eq_fetched 0 rfl (fun _ => rfl) (fun _ _ _ => rfl) (fun t => by rw [after0]; unfold Dat.blockOf blk; rw [A_eq]; try rfl) t d).trans
    (by unfold Dat.fetched Dat.blockOf blk; rw [A_eq]; try rfl)
theorem before1 (c : Dev nD) (t : Fin cfg1.N) (d) : (dat V c).before 1 t d = blk V c 1 t :=
  ((dat V c).before_in_eq_fetched 1 rfl (fun _ => rfl) (fun _ _ _ => rfl) (fun t => by rw [after1]; unfold Dat.blockOf blk; rw [A_eq]; try rfl) t d).trans
    (by unfold Dat.fetched Dat.blockOf blk; rw [A_eq]; try rfl)
theorem before2 (c : Dev nD) (t : Fin cfg1.N) (d) : (dat V c).before 2 t d = blk V c 2 t :=
  ((dat V c).before_in_eq_fetched 2 rfl (fun _ => rfl) (fun _ _ _ => rfl) (fun t => by rw [after2]; unfold Dat.blockOf blk; rw [A_eq]; try rfl) t d).trans
    (by unfold Dat.fetched Dat.blockOf blk; rw [A_eq]; try rfl)
theorem before3 (c : Dev nD) (t : Fin cfg1.N) (d) : (dat V c).before 3 t d = blk V c 3 t :=
  ((dat V c).before_in_eq_fetched 3 rfl (fun _ => rfl) (fun _ _ _ => rfl) (fun t => by rw [after3]; unfold Dat.blockOf blk; rw [A_eq]; try rfl) t d).trans
    (by unfold Dat.fetched Dat.blockOf blk; rw [A_eq]; try rfl)
theorem before4 (c : Dev nD) (t : Fin cfg1.N) (d) : (dat V c).before 4 t d = blk V c 4 t :=
  ((dat V c).before_in_eq_fetched 4 rfl (fun _ => rfl) (fun _ _ _ => rfl) (fun t => by rw [after4]; unfold Dat.blockOf blk; rw [A_eq]; try rfl) t d).trans
    (by unfold Dat.fetched Dat.blockOf blk; rw [A_eq]; try rfl)

/-- The launch's hand-over is the invariant before the first point, -/
theorem inv_in (c : Dev nD) : Pipeline.ΦA spec1 c ⊢ (dat V c).Φ 0 := by
  rw [show (dat V c).Φ 0 = inv V c 0 from rfl, launch_eq]; unfold inv
  iintro ⟨⟨⟨%d, H⟩, Hr⟩, Hg⟩
  isplitl [H Hr]
  · isplitl [H]
    · iexists d; isplitr
      · ipureintro; exact fun h => absurd rfl h
      iexact H
    iexact Hr
  iexact Hg

/-- and the invariant gives it back after the last. -/
theorem inv_out (c : Dev nD) : (dat V c).Φ (Fin.last cfg1.N) ⊢ Pipeline.ΦA spec1 c := by
  rw [show (dat V c).Φ (Fin.last cfg1.N) = inv V c cfg1.N from rfl, launch_eq]; unfold inv
  iintro ⟨⟨⟨%d, -, H⟩, Hr⟩, Hg⟩
  isplitl [H Hr]
  · isplitl [H]
    · iexists d; iexact H
    iexact Hr
  iexact Hg

/-- What the body starts from, read off the invariant's state. -/
theorem start_eq (c : Dev nD) (t : Fin cfg1.N) (s : Vec F S4x256x512 .f32) (h : t.val ≠ 0 → s = entry V c t.val) :
    start (grid1.coords t) s = entry V c t.val := by
  unfold start
  by_cases h0 : t.val = 0
  · rw [if_pos ((first_iff t).mpr h0), h0, entry]
  · rw [if_neg (fun hf => h0 ((first_iff t).mp hf)), h h0]

/-- What the body holds before point `t`, and after. -/
def pre (c : Dev nD) (t : Fin cfg1.N) : sProp 𝕄 :=
  iprop((dat V c).Φ t.castSucc ∗ (dat V c).owesAt () t.castSucc
    ∗ (∃ d, owns (c : Thread nD τ) ((cfg1.win 0).stage (cfg1.slots t 0)) fullShare ((dat V c).before 0 t d))
    ∗ (∃ d, owns (c : Thread nD τ) ((cfg1.win 1).stage (cfg1.slots t 1)) fullShare ((dat V c).before 1 t d))
    ∗ (∃ d, owns (c : Thread nD τ) ((cfg1.win 2).stage (cfg1.slots t 2)) fullShare ((dat V c).before 2 t d))
    ∗ (∃ d, owns (c : Thread nD τ) ((cfg1.win 3).stage (cfg1.slots t 3)) fullShare ((dat V c).before 3 t d))
    ∗ (∃ d, owns (c : Thread nD τ) ((cfg1.win 4).stage (cfg1.slots t 4)) fullShare ((dat V c).before 4 t d))
    ∗ (∃ d, owns (c : Thread nD τ) ((cfg1.win 5).stage (cfg1.slots t 5)) fullShare ((dat V c).before 5 t d)))
def post (c : Dev nD) (t : Fin cfg1.N) : sProp 𝕄 :=
  iprop((dat V c).Φ t.succ ∗ (dat V c).owesAt () t.succ
    ∗ owns (c : Thread nD τ) ((cfg1.win 0).stage (cfg1.slots t 0)) fullShare ((dat V c).after 0 t)
    ∗ owns (c : Thread nD τ) ((cfg1.win 1).stage (cfg1.slots t 1)) fullShare ((dat V c).after 1 t)
    ∗ owns (c : Thread nD τ) ((cfg1.win 2).stage (cfg1.slots t 2)) fullShare ((dat V c).after 2 t)
    ∗ owns (c : Thread nD τ) ((cfg1.win 3).stage (cfg1.slots t 3)) fullShare ((dat V c).after 3 t)
    ∗ owns (c : Thread nD τ) ((cfg1.win 4).stage (cfg1.slots t 4)) fullShare ((dat V c).after 4 t)
    ∗ owns (c : Thread nD τ) ((cfg1.win 5).stage (cfg1.slots t 5)) fullShare ((dat V c).after 5 t))

set_option maxHeartbeats 1600000 in
/-- The body at any point takes the one to the other. -/
theorem sound (c : Dev nD) (t : Fin cfg1.N) :
    pre V c t ⊢ wp frame (wpE (defs₀ (F := F)) Variants.none c none) Set.univ (bodyAt1 t) (fun _ => post V c t) := by
  unfold pre post bodyAt1
  simp only [before0, before1, before2, before3, before4]
  rw [show (dat V c).Φ t.succ = inv V c (t.val + 1) from rfl, show (dat V c).Φ t.castSucc = inv V c t.val from rfl,
    show (dat V c).owesAt () t.succ = (dat V c).owesAt () t.castSucc from rfl,
    after0, after1, after2, after3, after4, after5]
  unfold inv
  iintro ⟨⟨⟨⟨%s0, %hs0, HS⟩, Hr⟩, Hg⟩, Ho, ⟨%d0, H0⟩, ⟨%d1, H1⟩, ⟨%d2, H2⟩, ⟨%d3, H3⟩, ⟨%d4, H4⟩, ⟨%d5, H5⟩⟩
  iapply ((pt V c t (entry V c t.val)).2.2 s0 (start_eq V c t s0 hs0) Set.univ _)
  unfold operands
  isplitl [H0 H1 H2 H3 H4]
  · isplitl [H0]; · iexact H0
    isplitl [H1]; · iexact H1
    isplitl [H2]; · iexact H2
    isplitl [H3]; · iexact H3
    iexact H4
  isplitl [H5]; · iexists _; iexact H5
  isplitl [HS]; · iexact HS
  unfold Fwd.written
  iintro ⟨⟨H0, H1, H2, H3, H4⟩, ⟨%e5, H5⟩, ⟨%e, HS⟩⟩
  isplitl [HS Hr Hg]
  · isplitl [HS Hr]
    · isplitl [HS]
      · iexists (outS V c t (entry V c t.val)); isplitr
        · ipureintro; exact fun _ => (entry_succ V c t).symm
        unfold owns; iexists _; isplitr
        swap; · iexact HS
        ipureintro; exact View.read_writes_of_cover _ _ _ _ _ (coverS V c t _)
      iexact Hr
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover5 V c t _)

theorem row (t : Fin cfg1.N) : defs₀ (F := F) .tc cfg1.body (cfg1.bodyArgs t (cfg1.slots t)) = bodyAt1 t := by
  unfold defs₀; rw [Defs.onTc_tc]

/-- The pipeline's obligation on its body. -/
theorem obligation (c : Dev nD) : BodyObligation (dat (F := F) V c) (defs₀ (F := F)) Variants.none () Set.univ := fun t => by
  rw [bigSep_W1, bigSep_W1, row]
  exact triple_restated (sound V c t) rfl .rfl fun _ => .rfl

end Cert.KernelIdeal.Bwd

end
-- ==== Proof.KernelRun.lean ====
module

public import proofs.«01_k».proof.Proof.BwdRegion
public import Idealize.ShloMosaic.Lib.Ring

@[expose] public section

set_option maxRecDepth 16384

/-! # The two kernels one after the other, from the launch to the return -/

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The program's arguments. -/
abbrev args : List (Ref sig .tc) := [main_arg0, main_arg1, main_arg2, main_arg3, main_arg4]

/-- Between the kernels the host copies the array the second one writes into; it allocates nothing. -/
theorem host_fresh : (hostOps1 : List (HloOp τ sig (Elt F))).Forall fun op => op.fresh = ∅ := by
  simp only [List.Forall]; repeat' constructor
theorem host_writes : (hostOps1 : List (HloOp τ sig (Elt F))).Forall fun op => op.writes ⊆ (([main_v1] : List (Ref sig .tc)).map (Proc.devRef (τ := τ) .tc)).toFinset :=
  StableHlo.forall_writes_sub_of_map rfl

/-- The buffers of a core at launch, -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

/-- after the forward kernel, -/
def W1 (c : Dev nD) : Valuation τ sig (Elt F) :=
  Pipeline.withArrays spec0 c (W0 m ρ c) fun w => (Fwd.dat (V0 m ρ) c).arrAt w cfg0.N
abbrev V1 : (c : Dev nD) → (b : Ref sig .tc) → Buf (Elt F) ((c : Thread nD τ).loc b) := fun c b => W1 m ρ c b

/-- after the host's copy, -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b

/-- after the backward kernel. -/
def W3 (c : Dev nD) : Valuation τ sig (Elt F) :=
  Pipeline.withArrays spec1 c (W2 m ρ c) fun w => (Bwd.dat (V2 m ρ) c).arrAt w cfg1.N
abbrev V3 : (c : Dev nD) → (b : Ref sig .tc) → Buf (Elt F) ((c : Thread nD τ).loc b) := fun c b => W3 m ρ c b

/-- What the forward kernel does to a buffer: its arrays end as its write-backs leave them; a buffer it does not write back stays. -/
theorem W1_arr (c : Dev nD) (w : Fin cfg0.W) :
    W1 m ρ c (Proc.devRef .tc (Pipeline.arrRef spec0 w)) = (Fwd.dat (V0 m ρ) c).arrAt w cfg0.N := by
  unfold W1; exact (Fwd.dat (V0 m ρ) c).withArrays_arrAt launch₀0.sharedIn _ (Fwd.A_eq (V0 m ρ) c) w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((Fwd.dat (V0 m ρ) c).arrAt_in w (h w rfl) _).trans (Fwd.A_eq (V0 m ρ) c w))
  · exact W1_of_ne m ρ c r fun w e => hw ⟨w, e⟩
theorem W1_rest (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
theorem args0 : ∀ a ∈ args, ∀ w : Fin cfg0.W, Pipeline.arrRef spec0 w = a → (cfg0.win w).isOut = false :=
  ListAll.forall_mem_of_all_decide (by decide +kernel)

/-- What the backward kernel does to a buffer: its arrays end as its write-backs leave them; a buffer it does not write back stays. -/
theorem W3_arr (c : Dev nD) (w : Fin cfg1.W) :
    W3 m ρ c (Proc.devRef .tc (Pipeline.arrRef spec1 w)) = (Bwd.dat (V2 m ρ) c).arrAt w cfg1.N := by
  unfold W3; exact (Bwd.dat (V2 m ρ) c).withArrays_arrAt launch₀1.sharedIn _ (Bwd.A_eq (V2 m ρ) c) w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((Bwd.dat (V2 m ρ) c).arrAt_in w (h w rfl) _).trans (Bwd.A_eq (V2 m ρ) c w))
  · exact W3_of_ne m ρ c r fun w e => hw ⟨w, e⟩
theorem W3_rest (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)
theorem args1 : ∀ a ∈ args, ∀ w : Fin cfg1.W, Pipeline.arrRef spec1 w = a → (cfg1.win w).isOut = false :=
  ListAll.forall_mem_of_all_decide (by decide +kernel)

/-- The host's copy writes one array. -/
theorem W2_of (c : Dev nD) (r : Ref sig .tc) (h : r ∉ ([main_v1] : List (Ref sig .tc))) : W2 m ρ c (Proc.devRef .tc r) = W1 m ρ c (Proc.devRef .tc r) :=
  StableHlo.after_of_writes_sub hostOps1 _ host_writes h
theorem args_host : ∀ a ∈ args, a ∉ ([main_v1] : List (Ref sig .tc)) := ListAll.forall_mem_of_all_decide (by decide +kernel)

/-- The arguments are as launched before the backward kernel, and at the end. -/
theorem W2_args (c : Dev nD) : ∀ a ∈ args, W2 m ρ c (Proc.devRef .tc a) = m ((c : Thread nD τ).loc a) :=
  fun a ha => (W2_of m ρ c a (args_host a ha)).trans (W1_of m ρ c a (args0 a ha))
theorem W3_args (c : Dev nD) : ∀ a ∈ args, W3 m ρ c (Proc.devRef .tc a) = m ((c : Thread nD τ).loc a) :=
  fun a ha => (W3_of m ρ c a (args1 a ha)).trans (W2_args m ρ c a ha)

/-! ## The segments -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => Fwd.dat (V0 m ρ) c
  | ⟨1, _⟩ => fun c => Bwd.dat (V2 m ρ) c
abbrev 𝒱₀ : Variants := Variants.none
abbrev L : GSem nD τ sig → Finset Unit := fun _ => ∅
abbrev lv : GSem nD τ sig → Unit → ℕ := fun _ _ => 0

/-- What rides beside the buffers: the generator register, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state: every buffer at the last contents. -/
abbrev Tₙ (c : Dev nD) : sProp 𝕄 := iprop(StableHlo.held (c : Thread nD τ) (Pipeline.ucRefs τ sig) (W3 m ρ c) ∗ ∃ r, prngReg c r)

set_option backward.isDefEq.respectTransparency.types false in
/-- The forward kernel as a segment. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (Fwd.obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V0 m ρ c) (Fwd.A_eq (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Fwd.inv_in (V0 m ρ) c
    unfold Pipeline.ΦA at h
    rw [show (pdats m ρ 0 c).Φ 0 = (Fwd.dat (V0 m ρ) c).Φ 0 from rfl]
    iintro ⟨Hp, -, Hr⟩
    iapply h
    isplitl [Hr]; · iexact Hr
    iexact Hp
  hout c := by
    have h := Fwd.inv_out (V0 m ρ) c
    unfold Pipeline.ΦA at h
    rw [Pipeline.ownSems0_none, show (pdats m ρ 0 c).Φ (Fin.last _) = (Fwd.dat (V0 m ρ) c).Φ (Fin.last cfg0.N) from rfl]
    iintro H
    ihave H := h $$ H
    icases H with ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V0 m ρ c) (V1 m ρ c) ((pdats m ρ 0 c).arrAt · cfg0.N) (fun w => (W1_arr m ρ c w).symm) (W1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The backward kernel as a segment. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (Bwd.obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V2 m ρ c) (Bwd.A_eq (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Bwd.inv_in (V2 m ρ) c
    unfold Pipeline.ΦA at h
    rw [show (pdats m ρ 1 c).Φ 0 = (Bwd.dat (V2 m ρ) c).Φ 0 from rfl]
    iintro ⟨Hp, -, Hr⟩
    iapply h
    isplitl [Hr]; · iexact Hr
    iexact Hp
  hout c := by
    have h := Bwd.inv_out (V2 m ρ) c
    unfold Pipeline.ΦA at h
    rw [Pipeline.ownSems0_none, show (pdats m ρ 1 c).Φ (Fin.last _) = (Bwd.dat (V2 m ρ) c).Φ (Fin.last cfg1.N) from rfl]
    iintro H
    ihave H := h $$ H
    icases H with ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V2 m ρ c) (V3 m ρ c) ((pdats m ρ 1 c).arrAt · cfg1.N) (fun w => (W3_arr m ρ c w).symm) (W3_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ),
    .host (hseg hostOps1 hostOps1_sub host_fresh (W1 m ρ)),
    .region (reg1 m ρ) ]
theorem main_run (c : Dev nD) : main (F := F) c = Pipeline.Seg.run (segs m ρ) := (main_chain c).trans (by chain_rfl)
theorem no_unscoped : ∀ sm : SemLoc sig, sm.isScoped .tc = true := by decide

set_option backward.isDefEq.respectTransparency.types false in
/-- Every run of the program ends, with every buffer at `W3` and every counter at zero. -/
theorem whole : θ_run defs (onTc (τ := τ) (main (F := F))) ⟨m, fun _ => 0, ρ⟩
    (fun r => (∀ c : Dev nD, ∀ b ∈ Pipeline.ucRefs τ sig, r.2.mem (c, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨fun c => h c, funext fun g => hz g (.inr (no_unscoped g.2))⟩)

/-- The arguments end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => by
    have k : ∀ (c : Dev nD) (a : Ref sig .tc), a ∈ args → ¬ (Proc.devRef .tc a : DevRef τ sig).isScoped →
        r.2.mem ((c.tc : Thread nD τ).loc a) = m ((c.tc : Thread nD τ).loc a) :=
      fun c a ha hs => (h.1 c _ (mem_uc a hs)).trans (W3_args m ρ c a ha)
    exact ⟨fun c => ⟨k c main_arg0 (by decide) (by decide), k c main_arg1 (by decide) (by decide), k c main_arg2 (by decide) (by decide),
      k c main_arg3 (by decide) (by decide), k c main_arg4 (by decide) (by decide)⟩, h.2⟩) (whole m ρ)

end Cert.KernelIdeal.Run

end
-- ==== Proof.RefOps.lean ====
/-
The reference's host operations, stretch by stretch, and its main program and the two loop bodies as chains of those
stretches. The reference is a host program: stretches of operations before, between and after two counted loops.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

-- a long stretch's list recurses past the default depth
set_option maxRecDepth 4000

noncomputable section

namespace Cert.ReferenceIdeal.Ref

open Cert.ReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem

variable {F : FTy → Type} [FloatOps F]

/-- 37 host operations of @main (its part 0), in order. -/
abbrev main_part0_ops0 : List (HloOp τ sig (Elt F)) :=
  ( unary main_arg0 main_v0 ((extf .f32 · bitsLt_bf16_f32) : (⟨S8192x8192, .bf16⟩ : BufTy).Contents (Elt F) → (⟨S8192x8192, .f32⟩ : BufTy).Contents (Elt F))
  :: unary main_v0 main_v1 ((extractStridedSlice S8192x1024 ![0, 0] · slices_S8192x8192_S8192x1024_0_0) : (⟨S8192x8192, .f32⟩ : BufTy).Contents (Elt F) → (⟨S8192x1024, .f32⟩ : BufTy).Contents (Elt F))
  :: unary main_v0 main_v2 ((extractStridedSlice S8192x1024 ![0, 1024] · slices_S8192x8192_S8192x1024_0_1024) : (⟨S8192x8192, .f32⟩ : BufTy).Contents (Elt F) → (⟨S8192x1024, .f32⟩ : BufTy).Contents (Elt F))
  :: unary main_v0 main_v3 ((extractStridedSlice S8192x2048 ![0, 2048] · slices_S8192x8192_S8192x2048_0_2048) : (⟨S8192x8192, .f32⟩ : BufTy).Contents (Elt F) → (⟨S8192x2048, .f32⟩ : BufTy).Contents (Elt F))
  :: reshape main_v1 main_v4 (rfl : (.f32 : EltTy) = .f32) shapeCasts_S8192x1024_S1x8192x4x256
  :: reshape main_v2 main_v5 (rfl : (.f32 : EltTy) = .f32) shapeCasts_S8192x1024_S1x8192x4x256
  :: reshape main_v3 main_v6 (rfl : (.f32 : EltTy) = .f32) shapeCasts_S8192x2048_S1x8192x4x512
  :: nullary main_v7 (sitofp .f32 (iotaInDim S4 32 0))
  :: nullary main_cst (constant S_ .f32 0xC0A00000#32)
  :: unary main_cst main_v8 (broadcastInDim S4 ![] bcast_S_S4 : (⟨S_, .f32⟩ : BufTy).Contents (Elt F) → (⟨S4, .f32⟩ : BufTy).Contents (Elt F))
  :: binary main_v8 main_v7 main_v9 (subf : (⟨S4, .f32⟩ : BufTy).Contents (Elt F) → (⟨S4, .f32⟩ : BufTy).Contents (Elt F) → (⟨S4, .f32⟩ : BufTy).Contents (Elt F))
  :: nullary main_cst_0 (constant S_ .f32 0x40000000#32)
  :: unary main_cst_0 main_v10 (broadcastInDim S4 ![] bcast_S_S4 : (⟨S_, .f32⟩ : BufTy).Contents (Elt F) → (⟨S4, .f32⟩ : BufTy).Contents (Elt F))
  :: binary main_v10 main_v9 main_v11 (Host.powf : (⟨S4, .f32⟩ : BufTy).Contents (Elt F) → (⟨S4, .f32⟩ : BufTy).Contents (Elt F) → (⟨S4, .f32⟩ : BufTy).Contents (Elt F))
  :: nullary main_cst_1 (constant S_ .f32 0x3F800000#32)
  :: unary main_cst_1 main_v12 (broadcastInDim S4 ![] bcast_S_S4 : (⟨S_, .f32⟩ : BufTy).Contents (Elt F) → (⟨S4, .f32⟩ : BufTy).Contents (Elt F))
  :: binary main_v12 main_v11 main_v13 (subf : (⟨S4, .f32⟩ : BufTy).Contents (Elt F) → (⟨S4, .f32⟩ : BufTy).Contents (Elt F) → (⟨S4, .f32⟩ : BufTy).Contents (Elt F))
  :: unary main_v13 main_v14 (Host.log : (⟨S4, .f32⟩ : BufTy).Contents (Elt F) → (⟨S4, .f32⟩ : BufTy).Contents (Elt F))
  :: nullary main_v15 (sitofp .f32 (iotaInDim S128 32 0))
  :: unary main_v15 main_v16 (broadcastInDim S128x1 ![0] bcast_S128_S128x1_0 : (⟨S128, .f32⟩ : BufTy).Contents (Elt F) → (⟨S128x1, .f32⟩ : BufTy).Contents (Elt F))
  :: unary main_v15 main_v17 (broadcastInDim S1x128 ![1] bcast_S128_S1x128_1 : (⟨S128, .f32⟩ : BufTy).Contents (Elt F) → (⟨S1x128, .f32⟩ : BufTy).Contents (Elt F))
  :: unary main_v16 main_v18 (broadcastInDim S128x128 ![0, 1] bcast_S128x1_S128x128_0_1 : (⟨S128x1, .f32⟩ : BufTy).Contents (Elt F) → (⟨S128x128, .f32⟩ : BufTy).Contents (Elt F))
  :: unary main_v17 main_v19 (broadcastInDim S128x128 ![0, 1] bcast_S1x128_S128x128_0_1 : (⟨S1x128, .f32⟩ : BufTy).Contents (Elt F) → (⟨S128x128, .f32⟩ : BufTy).Contents (Elt F))
  :: binary main_v18 main_v19 main_v20 (subf : (⟨S128x128, .f32⟩ : BufTy).Contents (Elt F) → (⟨S128x128, .f32⟩ : BufTy).Contents (Elt F) → (⟨S128x128, .f32⟩ : BufTy).Contents (Elt F))
  :: nullary main_cst_2 (constant S_ .f32 0x00000000#32)
  :: unary main_cst_2 main_v21 (broadcastInDim S128x128 ![] bcast_S_S128x128 : (⟨S_, .f32⟩ : BufTy).Contents (Elt F) → (⟨S128x128, .f32⟩ : BufTy).Contents (Elt F))
  :: binary main_v20 main_v21 main_v22 (cmpf .oge : (⟨S128x128, .f32⟩ : BufTy).Contents (Elt F) → (⟨S128x128, .f32⟩ : BufTy).Contents (Elt F) → (⟨S128x128, .i1⟩ : BufTy).Contents (Elt F))
  :: unary main_v14 main_v23 (broadcastInDim S4x1x1 ![0] bcast_S4_S4x1x1_0 : (⟨S4, .f32⟩ : BufTy).Contents (Elt F) → (⟨S4x1x1, .f32⟩ : BufTy).Contents (Elt F))
  :: nullary main_cst_3 (constant S_ .f32 0x00000000#32)
  :: unary main_cst_3 main_v24 (broadcastInDim S128x128 ![] bcast_S_S128x128 : (⟨S_, .f32⟩ : BufTy).Contents (Elt F) → (⟨S128x128, .f32⟩ : BufTy).Contents (Elt F))
  :: binary main_v20 main_v24 main_v25 (maximumf : (⟨S128x128, .f32⟩ : BufTy).Contents (Elt F) → (⟨S128x128, .f32⟩ : BufTy).Contents (Elt F) → (⟨S128x128, .f32⟩ : BufTy).Contents (Elt F))
  :: unary main_v25 main_v26 (broadcastInDim S1x128x128 ![1, 2] bcast_S128x128_S1x128x128_1_2 : (⟨S128x128, .f32⟩ : BufTy).Contents (Elt F) → (⟨S1x128x128, .f32⟩ : BufTy).Contents (Elt F))
  :: unary main_v23 main_v27 (broadcastInDim S4x128x128 ![0, 1, 2] bcast_S4x1x1_S4x128x128_0_1_2 : (⟨S4x1x1, .f32⟩ : BufTy).Contents (Elt F) → (⟨S4x128x128, .f32⟩ : BufTy).Contents (Elt F))
  :: unary main_v26 main_v28 (broadcastInDim S4x128x128 ![0, 1, 2] bcast_S1x128x128_S4x128x128_0_1_2 : (⟨S1x128x128, .f32⟩ : BufTy).Contents (Elt F) → (⟨S4x128x128, .f32⟩ : BufTy).Contents (Elt F))
  :: binary main_v27 main_v28 main_v29 (mulf : (⟨S4x128x128, .f32⟩ : BufTy).Contents (Elt F) → (⟨S4x128x128, .f32⟩ : BufTy).Contents (Elt F) → (⟨S4x128x128, .f32⟩ : BufTy).Contents (Elt F))
  :: unary main_v29 main_v30 (Host.exp : (⟨S4x128x128, .f32⟩ : BufTy).Contents (Elt F) → (⟨S4x128x128, .f32⟩ : BufTy).Contents (Elt F))
  :: nullary main_cst_4 (constant S_ .f32 0x00000000#32)
  :: [] )
/-- Each of these operations touches TensorCore references only. -/
theorem main_part0_ops0_sub : (main_part0_ops0 : List (HloOp τ sig (Elt F))).Forall fun op => op.bufs ⊆ tcRefs τ sig :=
  ⟨unary_bufs_sub .., unary_bufs_sub .., unary_bufs_sub .., unary_bufs_sub .., reshape_bufs_sub .., reshape_bufs_sub .., reshape_bufs_sub .., nullary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., unary_bufs_sub .., unary_bufs_sub .., unary_bufs_sub .., binary_bufs_sub .., nullary_bufs_sub .., unary_bufs_sub .., binary_bufs_sub .., unary_bufs_sub .., nullary_bufs_sub .., unary_bufs_sub .., binary_bufs_sub .., unary_bufs_sub .., unary_bufs_sub .., unary_bufs_sub .., binary_bufs_sub .., unary_bufs_sub .., nullary_bufs_sub ..⟩
/-- 4 host operations of @_where (main_call0) (its part 0), in order. -/
abbrev main_part0_ops1 : List (HloOp τ sig (Elt F)) :=
  [ TRef.unary (.of main_cst_4 : TRef sig ⟨S_, .f32⟩) (.of main_call0_v0 : TRef sig ⟨S_, .f32⟩) id,
    TRef.unary (.of main_v22 : TRef sig ⟨S128x128, .i1⟩) (.of main_call0_v1 : TRef sig ⟨S4x128x128, .i1⟩) (broadcastInDim S4x128x128 ![1, 2] bcast_S128x128_S4x128x128_1_2),
    TRef.unary (.of main_call0_v0 : TRef sig ⟨S_, .f32⟩) (.of main_call0_v2 : TRef sig ⟨S4x128x128, .f32⟩) (broadcastInDim S4x128x128 ![] bcast_S_S4x128x128),
    TRef.ternary (.of main_call0_v1 : TRef sig ⟨S4x128x128, .i1⟩) (.of main_v30 : TRef sig ⟨S4x128x128, .f32⟩) (.of main_call0_v2 : TRef sig ⟨S4x128x128, .f32⟩) (.of main_v31 : TRef sig ⟨S4x128x128, .f32⟩) select ]
/-- Each of these operations touches TensorCore references only. -/
theorem main_part0_ops1_sub : (main_part0_ops1 : List (HloOp τ sig (Elt F))).Forall fun op => op.bufs ⊆ tcRefs τ sig :=
  ⟨unary_bufs_sub .., unary_bufs_sub .., unary_bufs_sub .., ternary_bufs_sub ..⟩
/-- 22 host operations of @main (its part 0), in order. -/
abbrev main_part0_ops2 : List (HloOp τ sig (Elt F)) :=
  [ unary main_v14 main_v32 (broadcastInDim S1x4 ![1] bcast_S4_S1x4_1 : (⟨S4, .f32⟩ : BufTy).Contents (Elt F) → (⟨S1x4, .f32⟩ : BufTy).Contents (Elt F)),
    unary main_v15 main_v33 (broadcastInDim S128x1 ![0] bcast_S128_S128x1_0 : (⟨S128, .f32⟩ : BufTy).Contents (Elt F) → (⟨S128x1, .f32⟩ : BufTy).Contents (Elt F)),
    nullary main_cst_5 (constant S_ .f32 0x3F800000#32),
    unary main_cst_5 main_v34 (broadcastInDim S128x1 ![] bcast_S_S128x1 : (⟨S_, .f32⟩ : BufTy).Contents (Elt F) → (⟨S128x1, .f32⟩ : BufTy).Contents (Elt F)),
    binary main_v33 main_v34 main_v35 (addf : (⟨S128x1, .f32⟩ : BufTy).Contents (Elt F) → (⟨S128x1, .f32⟩ : BufTy).Contents (Elt F) → (⟨S128x1, .f32⟩ : BufTy).Contents (Elt F)),
    unary main_v32 main_v36 (broadcastInDim S128x4 ![0, 1] bcast_S1x4_S128x4_0_1 : (⟨S1x4, .f32⟩ : BufTy).Contents (Elt F) → (⟨S128x4, .f32⟩ : BufTy).Contents (Elt F)),
    unary main_v35 main_v37 (broadcastInDim S128x4 ![0, 1] bcast_S128x1_S128x4_0_1 : (⟨S128x1, .f32⟩ : BufTy).Contents (Elt F) → (⟨S128x4, .f32⟩ : BufTy).Contents (Elt F)),
    binary main_v36 main_v37 main_v38 (mulf : (⟨S128x4, .f32⟩ : BufTy).Contents (Elt F) → (⟨S128x4, .f32⟩ : BufTy).Contents (Elt F) → (⟨S128x4, .f32⟩ : BufTy).Contents (Elt F)),
    unary main_v38 main_v39 (Host.exp : (⟨S128x4, .f32⟩ : BufTy).Contents (Elt F) → (⟨S128x4, .f32⟩ : BufTy).Contents (Elt F)),
    unary main_v14 main_v40 (broadcastInDim S1x4 ![1] bcast_S4_S1x4_1 : (⟨S4, .f32⟩ : BufTy).Contents (Elt F) → (⟨S1x4, .f32⟩ : BufTy).Contents (Elt F)),
    unary main_v15 main_v41 (broadcastInDim S128x1 ![0] bcast_S128_S128x1_0 : (⟨S128, .f32⟩ : BufTy).Contents (Elt F) → (⟨S128x1, .f32⟩ : BufTy).Contents (Elt F)),
    nullary main_cst_6 (constant S_ .f32 0x42FE0000#32),
    unary main_cst_6 main_v42 (broadcastInDim S128x1 ![] bcast_S_S128x1 : (⟨S_, .f32⟩ : BufTy).Contents (Elt F) → (⟨S128x1, .f32⟩ : BufTy).Contents (Elt F)),
    binary main_v42 main_v41 main_v43 (subf : (⟨S128x1, .f32⟩ : BufTy).Contents (Elt F) → (⟨S128x1, .f32⟩ : BufTy).Contents (Elt F) → (⟨S128x1, .f32⟩ : BufTy).Contents (Elt F)),
    unary main_v40 main_v44 (broadcastInDim S128x4 ![0, 1] bcast_S1x4_S128x4_0_1 : (⟨S1x4, .f32⟩ : BufTy).Contents (Elt F) → (⟨S128x4, .f32⟩ : BufTy).Contents (Elt F)),
    unary main_v43 main_v45 (broadcastInDim S128x4 ![0, 1] bcast_S128x1_S128x4_0_1 : (⟨S128x1, .f32⟩ : BufTy).Contents (Elt F) → (⟨S128x4, .f32⟩ : BufTy).Contents (Elt F)),
    binary main_v44 main_v45 main_v46 (mulf : (⟨S128x4, .f32⟩ : BufTy).Contents (Elt F) → (⟨S128x4, .f32⟩ : BufTy).Contents (Elt F) → (⟨S128x4, .f32⟩ : BufTy).Contents (Elt F)),
    unary main_v46 main_v47 (Host.exp : (⟨S128x4, .f32⟩ : BufTy).Contents (Elt F) → (⟨S128x4, .f32⟩ : BufTy).Contents (Elt F)),
    nullary main_cst_7 (constant S_ .f32 0x43000000#32),
    unary main_cst_7 main_v48 (broadcastInDim S4 ![] bcast_S_S4 : (⟨S_, .f32⟩ : BufTy).Contents (Elt F) → (⟨S4, .f32⟩ : BufTy).Contents (Elt F)),
    binary main_v14 main_v48 main_v49 (mulf : (⟨S4, .f32⟩ : BufTy).Contents (Elt F) → (⟨S4, .f32⟩ : BufTy).Contents (Elt F) → (⟨S4, .f32⟩ : BufTy).Contents (Elt F)),
    unary main_v49 main_v50 (Host.exp : (⟨S4, .f32⟩ : BufTy).Contents (Elt F) → (⟨S4, .f32⟩ : BufTy).Contents (Elt F)) ]
/-- Each of these operations touches TensorCore references only. -/
theorem main_part0_ops2_sub : (main_part0_ops2 : List (HloOp τ sig (Elt F))).Forall fun op => op.bufs ⊆ tcRefs τ sig :=
  ⟨unary_bufs_sub .., unary_bufs_sub .., nullary_bufs_sub .., unary_bufs_sub .., binary_bufs_sub .., unary_bufs_sub .., unary_bufs_sub .., binary_bufs_sub .., unary_bufs_sub .., unary_bufs_sub .., unary_bufs_sub .., nullary_bufs_sub .., unary_bufs_sub .., binary_bufs_sub .., unary_bufs_sub .., unary_bufs_sub .., binary_bufs_sub .., unary_bufs_sub .., nullary_bufs_sub .., unary_bufs_sub .., binary_bufs_sub .., unary_bufs_sub ..⟩
/-- Part 0 of `main` is the chain of its stretches. -/
theorem main_part0_chain (c : Dev nD) : main_part0 (F := F) c = (Pipeline.chainK
  [ seq main_part0_ops0,
    seq main_part0_ops1 ]
  (seq main_part0_ops2) : Prog (TpuEff nD τ sig (Elt F) (HostLoop.Sig (Pipeline.Sig Λ₀ (Fin 0) fun p => (pcfgs (F := F) p).Adm) 2) .tc) PUnit) := by
  rewrite [chainK_seq_cons, Pipeline.chainK_cons]
  chain_rfl

/-- 34 host operations of @main (its part 1), in order. -/
abbrev main_part1_ops0 : List (HloOp τ sig (Elt F)) :=
  ( reshape main_v4 main_v51 (rfl : (.f32 : EltTy) = .f32) shapeCasts_S1x8192x4x256_S1x64x128x4x256
  :: nullary main_cst_8 (constant S_ .f32 0x3D800000#32)
  :: unary main_cst_8 main_v52 (broadcastInDim S1x8192x4x256 ![] bcast_S_S1x8192x4x256 : (⟨S_, .f32⟩ : BufTy).Contents (Elt F) → (⟨S1x8192x4x256, .f32⟩ : BufTy).Contents (Elt F))
  :: binary main_v5 main_v52 main_v53 (mulf : (⟨S1x8192x4x256, .f32⟩ : BufTy).Contents (Elt F) → (⟨S1x8192x4x256, .f32⟩ : BufTy).Contents (Elt F) → (⟨S1x8192x4x256, .f32⟩ : BufTy).Contents (Elt F))
  :: reshape main_v53 main_v54 (rfl : (.f32 : EltTy) = .f32) shapeCasts_S1x8192x4x256_S1x64x128x4x256
  :: reshape main_v6 main_v55 (rfl : (.f32 : EltTy) = .f32) shapeCasts_S1x8192x4x512_S1x64x128x4x512
  :: binary main_v51 main_v54 main_v56 ((fun l r => Host.dotGeneral dot_S1x64x128x4x256_S1x64x128x4x256_S1x64x4x128x128_4_4_2_2_013_013 none l r) : (⟨S1x64x128x4x256, .f32⟩ : BufTy).Contents (Elt F) → (⟨S1x64x128x4x256, .f32⟩ : BufTy).Contents (Elt F) → (⟨S1x64x4x128x128, .f32⟩ : BufTy).Contents (Elt F))
  :: unary main_v31 main_v57 (broadcastInDim S1x1x4x128x128 ![2, 3, 4] bcast_S4x128x128_S1x1x4x128x128_2_3_4 : (⟨S4x128x128, .f32⟩ : BufTy).Contents (Elt F) → (⟨S1x1x4x128x128, .f32⟩ : BufTy).Contents (Elt F))
  :: unary main_v57 main_v58 (broadcastInDim S1x64x4x128x128 ![0, 1, 2, 3, 4] bcast_S1x1x4x128x128_S1x64x4x128x128_0_1_2_3_4 : (⟨S1x1x4x128x128, .f32⟩ : BufTy).Contents (Elt F) → (⟨S1x64x4x128x128, .f32⟩ : BufTy).Contents (Elt F))
  :: binary main_v56 main_v58 main_v59 (mulf : (⟨S1x64x4x128x128, .f32⟩ : BufTy).Contents (Elt F) → (⟨S1x64x4x128x128, .f32⟩ : BufTy).Contents (Elt F) → (⟨S1x64x4x128x128, .f32⟩ : BufTy).Contents (Elt F))
  :: binary main_v55 main_v59 main_v60 ((fun l r => Host.dotGeneral dot_S1x64x128x4x512_S1x64x4x128x128_S1x64x4x512x128_2_4_4_3_013_012 none l r) : (⟨S1x64x128x4x512, .f32⟩ : BufTy).Contents (Elt F) → (⟨S1x64x4x128x128, .f32⟩ : BufTy).Contents (Elt F) → (⟨S1x64x4x512x128, .f32⟩ : BufTy).Contents (Elt F))
  :: unary main_v60 main_v61 ((transpose S1x64x128x4x512 [0, 1, 4, 2, 3] · transposes_S1x64x4x512x128_S1x64x128x4x512_0_1_4_2_3) : (⟨S1x64x4x512x128, .f32⟩ : BufTy).Contents (Elt F) → (⟨S1x64x128x4x512, .f32⟩ : BufTy).Contents (Elt F))
  :: unary main_v47 main_v62 (broadcastInDim S1x1x128x4x1 ![2, 3] bcast_S128x4_S1x1x128x4x1_2_3 : (⟨S128x4, .f32⟩ : BufTy).Contents (Elt F) → (⟨S1x1x128x4x1, .f32⟩ : BufTy).Contents (Elt F))
  :: unary main_v62 main_v63 (broadcastInDim S1x64x128x4x256 ![0, 1, 2, 3, 4] bcast_S1x1x128x4x1_S1x64x128x4x256_0_1_2_3_4 : (⟨S1x1x128x4x1, .f32⟩ : BufTy).Contents (Elt F) → (⟨S1x64x128x4x256, .f32⟩ : BufTy).Contents (Elt F))
  :: binary main_v54 main_v63 main_v64 (mulf : (⟨S1x64x128x4x256, .f32⟩ : BufTy).Contents (Elt F) → (⟨S1x64x128x4x256, .f32⟩ : BufTy).Contents (Elt F) → (⟨S1x64x128x4x256, .f32⟩ : BufTy).Contents (Elt F))
  :: nullary main_cst_9 (constant S_ .f32 0x00000000#32)
  :: unary main_cst_9 main_v65 (broadcastInDim S1x4x256x512 ![] bcast_S_S1x4x256x512 : (⟨S_, .f32⟩ : BufTy).Contents (Elt F) → (⟨S1x4x256x512, .f32⟩ : BufTy).Contents (Elt F))
  :: unary main_v51 main_v66 ((transpose S64x1x128x4x256 [1, 0, 2, 3, 4] · transposes_S1x64x128x4x256_S64x1x128x4x256_1_0_2_3_4) : (⟨S1x64x128x4x256, .f32⟩ : BufTy).Contents (Elt F) → (⟨S64x1x128x4x256, .f32⟩ : BufTy).Contents (Elt F))
  :: unary main_v64 main_v67 ((transpose S64x1x128x4x256 [1, 0, 2, 3, 4] · transposes_S1x64x128x4x256_S64x1x128x4x256_1_0_2_3_4) : (⟨S1x64x128x4x256, .f32⟩ : BufTy).Contents (Elt F) → (⟨S64x1x128x4x256, .f32⟩ : BufTy).Contents (Elt F))
  :: unary main_v55 main_v68 ((transpose S64x1x128x4x512 [1, 0, 2, 3, 4] · transposes_S1x64x128x4x512_S64x1x128x4x512_1_0_2_3_4) : (⟨S1x64x128x4x512, .f32⟩ : BufTy).Contents (Elt F) → (⟨S64x1x128x4x512, .f32⟩ : BufTy).Contents (Elt F))
  :: unary main_v50 main_v69 (broadcastInDim S1x4x1x1 ![1] bcast_S4_S1x4x1x1_1 : (⟨S4, .f32⟩ : BufTy).Contents (Elt F) → (⟨S1x4x1x1, .f32⟩ : BufTy).Contents (Elt F))
  :: nullary main_cst_10 (constant S_ .f32 0x00000000#32)
  :: unary main_cst_10 main_v70 (broadcastInDim S64x1x128x4x512 ![] bcast_S_S64x1x128x4x512 : (⟨S_, .f32⟩ : BufTy).Contents (Elt F) → (⟨S64x1x128x4x512, .f32⟩ : BufTy).Contents (Elt F))
  :: nullary main_cst_11 (constant S_ .f32 0x00000000#32)
  :: unary main_cst_11 main_v71 (broadcastInDim S64x1x4x256x512 ![] bcast_S_S64x1x4x256x512 : (⟨S_, .f32⟩ : BufTy).Contents (Elt F) → (⟨S64x1x4x256x512, .f32⟩ : BufTy).Contents (Elt F))
  :: nullary main_c (constantI S_ 32 0#32)
  :: unary main_v66 main_v72_0 id
  :: unary main_v67 main_v72_1 id
  :: unary main_v68 main_v72_2 id
  :: unary main_v69 main_v72_3 id
  :: unary main_c main_v72_4 id
  :: unary main_v65 main_v72_5 id
  :: unary main_v70 main_v72_6 id
  :: unary main_v71 main_v72_7 id
  :: [] )
/-- Each of these operations touches TensorCore references only. -/
theorem main_part1_ops0_sub : (main_part1_ops0 : List (HloOp τ sig (Elt F))).Forall fun op => op.bufs ⊆ tcRefs τ sig :=
  ⟨reshape_bufs_sub .., nullary_bufs_sub .., unary_bufs_sub .., binary_bufs_sub .., reshape_bufs_sub .., reshape_bufs_sub .., binary_bufs_sub .., unary_bufs_sub .., unary_bufs_sub .., binary_bufs_sub .., binary_bufs_sub .., unary_bufs_sub .., unary_bufs_sub .., unary_bufs_sub .., binary_bufs_sub .., nullary_bufs_sub .., unary_bufs_sub .., unary_bufs_sub .., unary_bufs_sub .., unary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub ..⟩
/-- 25 host operations of @main (its part 1), in order. -/
abbrev main_part1_ops1 : List (HloOp τ sig (Elt F)) :=
  [ unary main_v72_6 main_v73 ((transpose S1x64x128x4x512 [1, 0, 2, 3, 4] · transposes_S64x1x128x4x512_S1x64x128x4x512_1_0_2_3_4) : (⟨S64x1x128x4x512, .f32⟩ : BufTy).Contents (Elt F) → (⟨S1x64x128x4x512, .f32⟩ : BufTy).Contents (Elt F)),
    unary main_v39 main_v74 (broadcastInDim S1x1x128x4x1 ![2, 3] bcast_S128x4_S1x1x128x4x1_2_3 : (⟨S128x4, .f32⟩ : BufTy).Contents (Elt F) → (⟨S1x1x128x4x1, .f32⟩ : BufTy).Contents (Elt F)),
    unary main_v74 main_v75 (broadcastInDim S1x64x128x4x512 ![0, 1, 2, 3, 4] bcast_S1x1x128x4x1_S1x64x128x4x512_0_1_2_3_4 : (⟨S1x1x128x4x1, .f32⟩ : BufTy).Contents (Elt F) → (⟨S1x64x128x4x512, .f32⟩ : BufTy).Contents (Elt F)),
    binary main_v73 main_v75 main_v76 (mulf : (⟨S1x64x128x4x512, .f32⟩ : BufTy).Contents (Elt F) → (⟨S1x64x128x4x512, .f32⟩ : BufTy).Contents (Elt F) → (⟨S1x64x128x4x512, .f32⟩ : BufTy).Contents (Elt F)),
    binary main_v61 main_v76 main_v77 (addf : (⟨S1x64x128x4x512, .f32⟩ : BufTy).Contents (Elt F) → (⟨S1x64x128x4x512, .f32⟩ : BufTy).Contents (Elt F) → (⟨S1x64x128x4x512, .f32⟩ : BufTy).Contents (Elt F)),
    reshape main_v77 main_v78 (rfl : (.f32 : EltTy) = .f32) shapeCasts_S1x64x128x4x512_S1x8192x4x512,
    reshape main_arg1 main_v79 (rfl : (.f32 : EltTy) = .f32) shapeCasts_S1x2048_S2048,
    reshape main_arg2 main_v80 (rfl : (.f32 : EltTy) = .f32) shapeCasts_S1x2048_S2048,
    nullary main_cst_12 (constant S_ .f32 0x00000000#32),
    binary main_v78 main_cst_12 main_v81 ((fun x v => Host.reduceAdd x v reducesTo_S1x8192x4x512_S1x8192x4_d3 h_S_) : (⟨S1x8192x4x512, .f32⟩ : BufTy).Contents (Elt F) → (⟨S_, .f32⟩ : BufTy).Contents (Elt F) → (⟨S1x8192x4, .f32⟩ : BufTy).Contents (Elt F)),
    unary main_v81 main_v82 (broadcastInDim S1x8192x4x1 ![0, 1, 2] bcast_S1x8192x4_S1x8192x4x1_0_1_2 : (⟨S1x8192x4, .f32⟩ : BufTy).Contents (Elt F) → (⟨S1x8192x4x1, .f32⟩ : BufTy).Contents (Elt F)),
    nullary main_cst_13 (constant S_ .f32 0x44000000#32),
    unary main_cst_13 main_v83 (broadcastInDim S1x8192x4x1 ![] bcast_S_S1x8192x4x1 : (⟨S_, .f32⟩ : BufTy).Contents (Elt F) → (⟨S1x8192x4x1, .f32⟩ : BufTy).Contents (Elt F)),
    binary main_v82 main_v83 main_v84 (Host.divf : (⟨S1x8192x4x1, .f32⟩ : BufTy).Contents (Elt F) → (⟨S1x8192x4x1, .f32⟩ : BufTy).Contents (Elt F) → (⟨S1x8192x4x1, .f32⟩ : BufTy).Contents (Elt F)),
    unary main_v84 main_v85 (broadcastInDim S1x8192x4x512 ![0, 1, 2, 3] bcast_S1x8192x4x1_S1x8192x4x512_0_1_2_3 : (⟨S1x8192x4x1, .f32⟩ : BufTy).Contents (Elt F) → (⟨S1x8192x4x512, .f32⟩ : BufTy).Contents (Elt F)),
    binary main_v78 main_v85 main_v86 (subf : (⟨S1x8192x4x512, .f32⟩ : BufTy).Contents (Elt F) → (⟨S1x8192x4x512, .f32⟩ : BufTy).Contents (Elt F) → (⟨S1x8192x4x512, .f32⟩ : BufTy).Contents (Elt F)),
    binary main_v86 main_v86 main_v87 (mulf : (⟨S1x8192x4x512, .f32⟩ : BufTy).Contents (Elt F) → (⟨S1x8192x4x512, .f32⟩ : BufTy).Contents (Elt F) → (⟨S1x8192x4x512, .f32⟩ : BufTy).Contents (Elt F)),
    nullary main_cst_14 (constant S_ .f32 0x00000000#32),
    binary main_v87 main_cst_14 main_v88 ((fun x v => Host.reduceAdd x v reducesTo_S1x8192x4x512_S1x8192x4_d3 h_S_) : (⟨S1x8192x4x512, .f32⟩ : BufTy).Contents (Elt F) → (⟨S_, .f32⟩ : BufTy).Contents (Elt F) → (⟨S1x8192x4, .f32⟩ : BufTy).Contents (Elt F)),
    unary main_v88 main_v89 (broadcastInDim S1x8192x4x1 ![0, 1, 2] bcast_S1x8192x4_S1x8192x4x1_0_1_2 : (⟨S1x8192x4, .f32⟩ : BufTy).Contents (Elt F) → (⟨S1x8192x4x1, .f32⟩ : BufTy).Contents (Elt F)),
    nullary main_cst_15 (constant S_ .f32 0x44000000#32),
    unary main_cst_15 main_v90 (broadcastInDim S1x8192x4x1 ![] bcast_S_S1x8192x4x1 : (⟨S_, .f32⟩ : BufTy).Contents (Elt F) → (⟨S1x8192x4x1, .f32⟩ : BufTy).Contents (Elt F)),
    binary main_v89 main_v90 main_v91 (Host.divf : (⟨S1x8192x4x1, .f32⟩ : BufTy).Contents (Elt F) → (⟨S1x8192x4x1, .f32⟩ : BufTy).Contents (Elt F) → (⟨S1x8192x4x1, .f32⟩ : BufTy).Contents (Elt F)),
    unary main_v84 main_v92 (broadcastInDim S1x8192x4x512 ![0, 1, 2, 3] bcast_S1x8192x4x1_S1x8192x4x512_0_1_2_3 : (⟨S1x8192x4x1, .f32⟩ : BufTy).Contents (Elt F) → (⟨S1x8192x4x512, .f32⟩ : BufTy).Contents (Elt F)),
    binary main_v78 main_v92 main_v93 (subf : (⟨S1x8192x4x512, .f32⟩ : BufTy).Contents (Elt F) → (⟨S1x8192x4x512, .f32⟩ : BufTy).Contents (Elt F) → (⟨S1x8192x4x512, .f32⟩ : BufTy).Contents (Elt F)) ]
/-- Each of these operations touches TensorCore references only. -/
theorem main_part1_ops1_sub : (main_part1_ops1 : List (HloOp τ sig (Elt F))).Forall fun op => op.bufs ⊆ tcRefs τ sig :=
  ⟨unary_bufs_sub .., unary_bufs_sub .., unary_bufs_sub .., binary_bufs_sub .., binary_bufs_sub .., reshape_bufs_sub .., reshape_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub ..⟩
/-- Part 1 of `main` is the chain of its stretches. -/
theorem main_part1_chain (c : Dev nD) : main_part1 (F := F) c = (Pipeline.chainK
  [ seq main_part1_ops0,
    HostLoop.enter 0 ]
  (seq main_part1_ops1) : Prog (TpuEff nD τ sig (Elt F) (HostLoop.Sig (Pipeline.Sig Λ₀ (Fin 0) fun p => (pcfgs (F := F) p).Adm) 2) .tc) PUnit) := by
  rewrite [chainK_seq_cons, Pipeline.chainK_cons]
  chain_rfl

/-- 15 host operations of @main (its part 2), in order. -/
abbrev main_part2_ops0 : List (HloOp τ sig (Elt F)) :=
  [ nullary main_cst_16 (constant S_ .f32 0x358637BD#32),
    unary main_cst_16 main_v94 (broadcastInDim S1x8192x4x1 ![] bcast_S_S1x8192x4x1 : (⟨S_, .f32⟩ : BufTy).Contents (Elt F) → (⟨S1x8192x4x1, .f32⟩ : BufTy).Contents (Elt F)),
    binary main_v91 main_v94 main_v95 (addf : (⟨S1x8192x4x1, .f32⟩ : BufTy).Contents (Elt F) → (⟨S1x8192x4x1, .f32⟩ : BufTy).Contents (Elt F) → (⟨S1x8192x4x1, .f32⟩ : BufTy).Contents (Elt F)),
    unary main_v95 main_v96 (Host.rsqrt : (⟨S1x8192x4x1, .f32⟩ : BufTy).Contents (Elt F) → (⟨S1x8192x4x1, .f32⟩ : BufTy).Contents (Elt F)),
    unary main_v96 main_v97 (broadcastInDim S1x8192x4x512 ![0, 1, 2, 3] bcast_S1x8192x4x1_S1x8192x4x512_0_1_2_3 : (⟨S1x8192x4x1, .f32⟩ : BufTy).Contents (Elt F) → (⟨S1x8192x4x512, .f32⟩ : BufTy).Contents (Elt F)),
    binary main_v93 main_v97 main_v98 (mulf : (⟨S1x8192x4x512, .f32⟩ : BufTy).Contents (Elt F) → (⟨S1x8192x4x512, .f32⟩ : BufTy).Contents (Elt F) → (⟨S1x8192x4x512, .f32⟩ : BufTy).Contents (Elt F)),
    reshape main_v98 main_v99 (rfl : (.f32 : EltTy) = .f32) shapeCasts_S1x8192x4x512_S1x8192x2048,
    unary main_v79 main_v100 (broadcastInDim S1x1x2048 ![2] bcast_S2048_S1x1x2048_2 : (⟨S2048, .f32⟩ : BufTy).Contents (Elt F) → (⟨S1x1x2048, .f32⟩ : BufTy).Contents (Elt F)),
    unary main_v100 main_v101 (broadcastInDim S1x8192x2048 ![0, 1, 2] bcast_S1x1x2048_S1x8192x2048_0_1_2 : (⟨S1x1x2048, .f32⟩ : BufTy).Contents (Elt F) → (⟨S1x8192x2048, .f32⟩ : BufTy).Contents (Elt F)),
    binary main_v99 main_v101 main_v102 (mulf : (⟨S1x8192x2048, .f32⟩ : BufTy).Contents (Elt F) → (⟨S1x8192x2048, .f32⟩ : BufTy).Contents (Elt F) → (⟨S1x8192x2048, .f32⟩ : BufTy).Contents (Elt F)),
    unary main_v80 main_v103 (broadcastInDim S1x1x2048 ![2] bcast_S2048_S1x1x2048_2 : (⟨S2048, .f32⟩ : BufTy).Contents (Elt F) → (⟨S1x1x2048, .f32⟩ : BufTy).Contents (Elt F)),
    unary main_v103 main_v104 (broadcastInDim S1x8192x2048 ![0, 1, 2] bcast_S1x1x2048_S1x8192x2048_0_1_2 : (⟨S1x1x2048, .f32⟩ : BufTy).Contents (Elt F) → (⟨S1x8192x2048, .f32⟩ : BufTy).Contents (Elt F)),
    binary main_v102 main_v104 main_v105 (addf : (⟨S1x8192x2048, .f32⟩ : BufTy).Contents (Elt F) → (⟨S1x8192x2048, .f32⟩ : BufTy).Contents (Elt F) → (⟨S1x8192x2048, .f32⟩ : BufTy).Contents (Elt F)),
    unary main_v0 main_v106 ((extractStridedSlice S8192x2048 ![0, 4096] · slices_S8192x8192_S8192x2048_0_4096) : (⟨S8192x8192, .f32⟩ : BufTy).Contents (Elt F) → (⟨S8192x2048, .f32⟩ : BufTy).Contents (Elt F)),
    unary main_v106 main_v107 (broadcastInDim S1x8192x2048 ![1, 2] bcast_S8192x2048_S1x8192x2048_1_2 : (⟨S8192x2048, .f32⟩ : BufTy).Contents (Elt F) → (⟨S1x8192x2048, .f32⟩ : BufTy).Contents (Elt F)) ]
/-- Each of these operations touches TensorCore references only. -/
theorem main_part2_ops0_sub : (main_part2_ops0 : List (HloOp τ sig (Elt F))).Forall fun op => op.bufs ⊆ tcRefs τ sig :=
  ⟨nullary_bufs_sub .., unary_bufs_sub .., binary_bufs_sub .., unary_bufs_sub .., unary_bufs_sub .., binary_bufs_sub .., reshape_bufs_sub .., unary_bufs_sub .., unary_bufs_sub .., binary_bufs_sub .., unary_bufs_sub .., unary_bufs_sub .., binary_bufs_sub .., unary_bufs_sub .., unary_bufs_sub ..⟩
/-- 9 host operations of @silu (main_call6) (its part 2), in order. -/
abbrev main_part2_ops1 : List (HloOp τ sig (Elt F)) :=
  [ TRef.unary (.of main_v107 : TRef sig ⟨S1x8192x2048, .f32⟩) (.of main_call6_v0 : TRef sig ⟨S1x8192x2048, .f32⟩) Host.negf,
    TRef.unary (.of main_call6_v0 : TRef sig ⟨S1x8192x2048, .f32⟩) (.of main_call6_v1 : TRef sig ⟨S1x8192x2048, .f32⟩) Host.exp,
    TRef.nullary (.of main_call6_cst : TRef sig ⟨S_, .f32⟩) (constant S_ .f32 0x3F800000#32),
    TRef.unary (.of main_call6_cst : TRef sig ⟨S_, .f32⟩) (.of main_call6_v2 : TRef sig ⟨S1x8192x2048, .f32⟩) (broadcastInDim S1x8192x2048 ![] bcast_S_S1x8192x2048),
    TRef.binary (.of main_call6_v2 : TRef sig ⟨S1x8192x2048, .f32⟩) (.of main_call6_v1 : TRef sig ⟨S1x8192x2048, .f32⟩) (.of main_call6_v3 : TRef sig ⟨S1x8192x2048, .f32⟩) addf,
    TRef.nullary (.of main_call6_cst_0 : TRef sig ⟨S_, .f32⟩) (constant S_ .f32 0x3F800000#32),
    TRef.unary (.of main_call6_cst_0 : TRef sig ⟨S_, .f32⟩) (.of main_call6_v4 : TRef sig ⟨S1x8192x2048, .f32⟩) (broadcastInDim S1x8192x2048 ![] bcast_S_S1x8192x2048),
    TRef.binary (.of main_call6_v4 : TRef sig ⟨S1x8192x2048, .f32⟩) (.of main_call6_v3 : TRef sig ⟨S1x8192x2048, .f32⟩) (.of main_call6_v5 : TRef sig ⟨S1x8192x2048, .f32⟩) Host.divf,
    TRef.binary (.of main_v107 : TRef sig ⟨S1x8192x2048, .f32⟩) (.of main_call6_v5 : TRef sig ⟨S1x8192x2048, .f32⟩) (.of main_v108 : TRef sig ⟨S1x8192x2048, .f32⟩) mulf ]
/-- Each of these operations touches TensorCore references only. -/
theorem main_part2_ops1_sub : (main_part2_ops1 : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub ..⟩
/-- 30 host operations of @main (its part 2), in order. -/
abbrev main_part2_ops2 : List (HloOp τ sig (Elt F)) :=
  [ binary main_v105 main_v108 main_v109 (mulf : (⟨S1x8192x2048, .f32⟩ : BufTy).Contents (Elt F) → (⟨S1x8192x2048, .f32⟩ : BufTy).Contents (Elt F) → (⟨S1x8192x2048, .f32⟩ : BufTy).Contents (Elt F)),
    unary main_v109 main_v110 ((truncf .bf16 · bitsLt_bf16_f32) : (⟨S1x8192x2048, .f32⟩ : BufTy).Contents (Elt F) → (⟨S1x8192x2048, .bf16⟩ : BufTy).Contents (Elt F)),
    unary main_arg3 main_v111 ((extf .f32 · bitsLt_bf16_f32) : (⟨S8192x2048, .bf16⟩ : BufTy).Contents (Elt F) → (⟨S8192x2048, .f32⟩ : BufTy).Contents (Elt F)),
    reshape main_v111 main_v112 (rfl : (.f32 : EltTy) = .f32) shapeCasts_S8192x2048_S1x8192x4x512,
    nullary main_cst_17 (constant S_ .f32 0x00000000#32),
    unary main_cst_17 main_v113 (broadcastInDim S1x4x256x512 ![] bcast_S_S1x4x256x512 : (⟨S_, .f32⟩ : BufTy).Contents (Elt F) → (⟨S1x4x256x512, .f32⟩ : BufTy).Contents (Elt F)),
    reshape main_v112 main_v114 (rfl : (.f32 : EltTy) = .f32) shapeCasts_S1x8192x4x512_S1x64x128x4x512,
    unary main_v74 main_v115 (broadcastInDim S1x64x128x4x512 ![0, 1, 2, 3, 4] bcast_S1x1x128x4x1_S1x64x128x4x512_0_1_2_3_4 : (⟨S1x1x128x4x1, .f32⟩ : BufTy).Contents (Elt F) → (⟨S1x64x128x4x512, .f32⟩ : BufTy).Contents (Elt F)),
    binary main_v114 main_v115 main_v116 (mulf : (⟨S1x64x128x4x512, .f32⟩ : BufTy).Contents (Elt F) → (⟨S1x64x128x4x512, .f32⟩ : BufTy).Contents (Elt F) → (⟨S1x64x128x4x512, .f32⟩ : BufTy).Contents (Elt F)),
    unary main_v116 main_v117 ((transpose S64x1x128x4x512 [1, 0, 2, 3, 4] · transposes_S1x64x128x4x512_S64x1x128x4x512_1_0_2_3_4) : (⟨S1x64x128x4x512, .f32⟩ : BufTy).Contents (Elt F) → (⟨S64x1x128x4x512, .f32⟩ : BufTy).Contents (Elt F)),
    nullary main_cst_18 (constant S_ .f32 0x00000000#32),
    unary main_cst_18 main_v118 (broadcastInDim S1x4x256x512 ![] bcast_S_S1x4x256x512 : (⟨S_, .f32⟩ : BufTy).Contents (Elt F) → (⟨S1x4x256x512, .f32⟩ : BufTy).Contents (Elt F)),
    nullary main_cst_19 (constant S_ .f32 0x00000000#32),
    unary main_cst_19 main_v119 (broadcastInDim S64x1x128x4x256 ![] bcast_S_S64x1x128x4x256 : (⟨S_, .f32⟩ : BufTy).Contents (Elt F) → (⟨S64x1x128x4x256, .f32⟩ : BufTy).Contents (Elt F)),
    nullary main_cst_20 (constant S_ .f32 0x00000000#32),
    unary main_cst_20 main_v120 (broadcastInDim S64x1x128x4x256 ![] bcast_S_S64x1x128x4x256 : (⟨S_, .f32⟩ : BufTy).Contents (Elt F) → (⟨S64x1x128x4x256, .f32⟩ : BufTy).Contents (Elt F)),
    nullary main_cst_21 (constant S_ .f32 0x00000000#32),
    unary main_cst_21 main_v121 (broadcastInDim S64x1x128x4x512 ![] bcast_S_S64x1x128x4x512 : (⟨S_, .f32⟩ : BufTy).Contents (Elt F) → (⟨S64x1x128x4x512, .f32⟩ : BufTy).Contents (Elt F)),
    nullary main_c_22 (constantI S_ 32 0#32),
    unary main_v117 main_v122_0 id,
    unary main_v66 main_v122_1 id,
    unary main_v72_7 main_v122_2 id,
    unary main_v68 main_v122_3 id,
    unary main_v67 main_v122_4 id,
    unary main_v69 main_v122_5 id,
    unary main_c_22 main_v122_6 id,
    unary main_v118 main_v122_7 id,
    unary main_v119 main_v122_8 id,
    unary main_v120 main_v122_9 id,
    unary main_v121 main_v122_10 id ]
/-- Each of these operations touches TensorCore references only. -/
theorem main_part2_ops2_sub : (main_part2_ops2 : List (HloOp τ sig (Elt F))).Forall fun op => op.bufs ⊆ tcRefs τ sig :=
  ⟨binary_bufs_sub .., unary_bufs_sub .., unary_bufs_sub .., reshape_bufs_sub .., nullary_bufs_sub .., unary_bufs_sub .., reshape_bufs_sub .., unary_bufs_sub .., binary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
/-- 13 host operations of @main (its part 2), in order. -/
abbrev main_part2_ops3 : List (HloOp τ sig (Elt F)) :=
  [ unary main_v122_10 main_v123 ((transpose S1x64x128x4x512 [1, 0, 2, 3, 4] · transposes_S64x1x128x4x512_S1x64x128x4x512_1_0_2_3_4) : (⟨S64x1x128x4x512, .f32⟩ : BufTy).Contents (Elt F) → (⟨S1x64x128x4x512, .f32⟩ : BufTy).Contents (Elt F)),
    unary main_v122_9 main_v124 ((transpose S1x64x128x4x256 [1, 0, 2, 3, 4] · transposes_S64x1x128x4x256_S1x64x128x4x256_1_0_2_3_4) : (⟨S64x1x128x4x256, .f32⟩ : BufTy).Contents (Elt F) → (⟨S1x64x128x4x256, .f32⟩ : BufTy).Contents (Elt F)),
    unary main_v122_8 main_v125 ((transpose S1x64x128x4x256 [1, 0, 2, 3, 4] · transposes_S64x1x128x4x256_S1x64x128x4x256_1_0_2_3_4) : (⟨S64x1x128x4x256, .f32⟩ : BufTy).Contents (Elt F) → (⟨S1x64x128x4x256, .f32⟩ : BufTy).Contents (Elt F)),
    unary main_v62 main_v126 (broadcastInDim S1x64x128x4x256 ![0, 1, 2, 3, 4] bcast_S1x1x128x4x1_S1x64x128x4x256_0_1_2_3_4 : (⟨S1x1x128x4x1, .f32⟩ : BufTy).Contents (Elt F) → (⟨S1x64x128x4x256, .f32⟩ : BufTy).Contents (Elt F)),
    binary main_v124 main_v126 main_v127 (mulf : (⟨S1x64x128x4x256, .f32⟩ : BufTy).Contents (Elt F) → (⟨S1x64x128x4x256, .f32⟩ : BufTy).Contents (Elt F) → (⟨S1x64x128x4x256, .f32⟩ : BufTy).Contents (Elt F)),
    unary main_v114 main_v128 ((transpose S1x64x4x512x128 [0, 1, 3, 4, 2] · transposes_S1x64x128x4x512_S1x64x4x512x128_0_1_3_4_2) : (⟨S1x64x128x4x512, .f32⟩ : BufTy).Contents (Elt F) → (⟨S1x64x4x512x128, .f32⟩ : BufTy).Contents (Elt F)),
    binary main_v128 main_v55 main_v129 ((fun l r => Host.dotGeneral dot_S1x64x4x512x128_S1x64x128x4x512_S1x64x4x128x128_3_4_4_2_012_013 none l r) : (⟨S1x64x4x512x128, .f32⟩ : BufTy).Contents (Elt F) → (⟨S1x64x128x4x512, .f32⟩ : BufTy).Contents (Elt F) → (⟨S1x64x4x128x128, .f32⟩ : BufTy).Contents (Elt F)),
    binary main_v128 main_v59 main_v130 ((fun l r => Host.dotGeneral dot_S1x64x4x512x128_S1x64x4x128x128_S1x64x4x512x128_4_3_3_4_012_012 none l r) : (⟨S1x64x4x512x128, .f32⟩ : BufTy).Contents (Elt F) → (⟨S1x64x4x128x128, .f32⟩ : BufTy).Contents (Elt F) → (⟨S1x64x4x512x128, .f32⟩ : BufTy).Contents (Elt F)),
    unary main_v130 main_v131 ((transpose S1x64x128x4x512 [0, 1, 4, 2, 3] · transposes_S1x64x4x512x128_S1x64x128x4x512_0_1_4_2_3) : (⟨S1x64x4x512x128, .f32⟩ : BufTy).Contents (Elt F) → (⟨S1x64x128x4x512, .f32⟩ : BufTy).Contents (Elt F)),
    binary main_v123 main_v131 main_v132 (addf : (⟨S1x64x128x4x512, .f32⟩ : BufTy).Contents (Elt F) → (⟨S1x64x128x4x512, .f32⟩ : BufTy).Contents (Elt F) → (⟨S1x64x128x4x512, .f32⟩ : BufTy).Contents (Elt F)),
    unary main_v57 main_v133 (broadcastInDim S1x64x4x128x128 ![0, 1, 2, 3, 4] bcast_S1x1x4x128x128_S1x64x4x128x128_0_1_2_3_4 : (⟨S1x1x4x128x128, .f32⟩ : BufTy).Contents (Elt F) → (⟨S1x64x4x128x128, .f32⟩ : BufTy).Contents (Elt F)),
    binary main_v129 main_v133 main_v134 (mulf : (⟨S1x64x4x128x128, .f32⟩ : BufTy).Contents (Elt F) → (⟨S1x64x4x128x128, .f32⟩ : BufTy).Contents (Elt F) → (⟨S1x64x4x128x128, .f32⟩ : BufTy).Contents (Elt F)),
    binary main_v134 main_v51 main_v135 ((fun l r => Host.dotGeneral dot_S1x64x4x128x128_S1x64x128x4x256_S1x64x4x128x256_3_2_4_4_012_013 none l r) : (⟨S1x64x4x128x128, .f32⟩ : BufTy).Contents (Elt F) → (⟨S1x64x128x4x256, .f32⟩ : BufTy).Contents (Elt F) → (⟨S1x64x4x128x256, .f32⟩ : BufTy).Contents (Elt F)) ]
/-- Each of these operations touches TensorCore references only. -/
theorem main_part2_ops3_sub : (main_part2_ops3 : List (HloOp τ sig (Elt F))).Forall fun op => op.bufs ⊆ tcRefs τ sig :=
  ⟨unary_bufs_sub .., unary_bufs_sub .., unary_bufs_sub .., unary_bufs_sub .., binary_bufs_sub .., unary_bufs_sub .., binary_bufs_sub .., binary_bufs_sub .., unary_bufs_sub .., binary_bufs_sub .., unary_bufs_sub .., binary_bufs_sub .., binary_bufs_sub ..⟩
/-- Part 2 of `main` is the chain of its stretches. -/
theorem main_part2_chain (c : Dev nD) : main_part2 (F := F) c = (Pipeline.chainK
  [ seq main_part2_ops0,
    seq main_part2_ops1,
    seq main_part2_ops2,
    HostLoop.enter 1 ]
  (seq main_part2_ops3) : Prog (TpuEff nD τ sig (Elt F) (HostLoop.Sig (Pipeline.Sig Λ₀ (Fin 0) fun p => (pcfgs (F := F) p).Adm) 2) .tc) PUnit) := by
  rewrite [chainK_seq_cons, Pipeline.chainK_cons, chainK_seq_cons, Pipeline.chainK_cons]
  chain_rfl

/-- 20 host operations of @main (its part 3), in order. -/
abbrev main_part3_ops0 : List (HloOp τ sig (Elt F)) :=
  [ unary main_v135 main_v136 ((transpose S1x64x128x4x256 [0, 1, 3, 2, 4] · transposes_S1x64x4x128x256_S1x64x128x4x256_0_1_3_2_4) : (⟨S1x64x4x128x256, .f32⟩ : BufTy).Contents (Elt F) → (⟨S1x64x128x4x256, .f32⟩ : BufTy).Contents (Elt F)),
    binary main_v127 main_v136 main_v137 (addf : (⟨S1x64x128x4x256, .f32⟩ : BufTy).Contents (Elt F) → (⟨S1x64x128x4x256, .f32⟩ : BufTy).Contents (Elt F) → (⟨S1x64x128x4x256, .f32⟩ : BufTy).Contents (Elt F)),
    binary main_v134 main_v54 main_v138 ((fun l r => Host.dotGeneral dot_S1x64x4x128x128_S1x64x128x4x256_S1x64x4x128x256_4_2_3_4_012_013 none l r) : (⟨S1x64x4x128x128, .f32⟩ : BufTy).Contents (Elt F) → (⟨S1x64x128x4x256, .f32⟩ : BufTy).Contents (Elt F) → (⟨S1x64x4x128x256, .f32⟩ : BufTy).Contents (Elt F)),
    unary main_v138 main_v139 ((transpose S1x64x128x4x256 [0, 1, 3, 2, 4] · transposes_S1x64x4x128x256_S1x64x128x4x256_0_1_3_2_4) : (⟨S1x64x4x128x256, .f32⟩ : BufTy).Contents (Elt F) → (⟨S1x64x128x4x256, .f32⟩ : BufTy).Contents (Elt F)),
    binary main_v125 main_v139 main_v140 (addf : (⟨S1x64x128x4x256, .f32⟩ : BufTy).Contents (Elt F) → (⟨S1x64x128x4x256, .f32⟩ : BufTy).Contents (Elt F) → (⟨S1x64x128x4x256, .f32⟩ : BufTy).Contents (Elt F)),
    reshape main_v132 main_v141 (rfl : (.f32 : EltTy) = .f32) shapeCasts_S1x64x128x4x512_S1x8192x4x512,
    reshape main_v137 main_v142 (rfl : (.f32 : EltTy) = .f32) shapeCasts_S1x64x128x4x256_S1x8192x4x256,
    nullary main_cst_23 (constant S_ .f32 0x3D800000#32),
    unary main_cst_23 main_v143 (broadcastInDim S1x8192x4x256 ![] bcast_S_S1x8192x4x256 : (⟨S_, .f32⟩ : BufTy).Contents (Elt F) → (⟨S1x8192x4x256, .f32⟩ : BufTy).Contents (Elt F)),
    binary main_v142 main_v143 main_v144 (mulf : (⟨S1x8192x4x256, .f32⟩ : BufTy).Contents (Elt F) → (⟨S1x8192x4x256, .f32⟩ : BufTy).Contents (Elt F) → (⟨S1x8192x4x256, .f32⟩ : BufTy).Contents (Elt F)),
    reshape main_v140 main_v145 (rfl : (.f32 : EltTy) = .f32) shapeCasts_S1x64x128x4x256_S1x8192x4x256,
    reshape main_v141 main_v146 (rfl : (.f32 : EltTy) = .f32) shapeCasts_S1x8192x4x512_S8192x2048,
    reshape main_v144 main_v147 (rfl : (.f32 : EltTy) = .f32) shapeCasts_S1x8192x4x256_S8192x1024,
    reshape main_v145 main_v148 (rfl : (.f32 : EltTy) = .f32) shapeCasts_S1x8192x4x256_S8192x1024,
    unary main_arg4 main_v149 ((extractStridedSlice S8192x4096 ![0, 4096] · slices_S8192x8192_S8192x4096_0_4096) : (⟨S8192x8192, .bf16⟩ : BufTy).Contents (Elt F) → (⟨S8192x4096, .bf16⟩ : BufTy).Contents (Elt F)),
    unary main_v149 main_v150 ((extf .f32 · bitsLt_bf16_f32) : (⟨S8192x4096, .bf16⟩ : BufTy).Contents (Elt F) → (⟨S8192x4096, .f32⟩ : BufTy).Contents (Elt F)),
    nary ![main_v148, main_v147, main_v146, main_v150] main_v151 (fun u => (concatenate S8192x8192 1 [⟨S8192x1024, (u 0 : (⟨S8192x1024, .f32⟩ : BufTy).Contents (Elt F))⟩, ⟨S8192x1024, (u 1 : (⟨S8192x1024, .f32⟩ : BufTy).Contents (Elt F))⟩, ⟨S8192x2048, (u 2 : (⟨S8192x2048, .f32⟩ : BufTy).Contents (Elt F))⟩, ⟨S8192x4096, (u 3 : (⟨S8192x4096, .f32⟩ : BufTy).Contents (Elt F))⟩] concatenates_S8192x1024_S8192x1024_S8192x2048_S8192x4096_S8192x8192_d1 : (⟨S8192x8192, .f32⟩ : BufTy).Contents (Elt F))),
    unary main_v151 main_v152 ((truncf .bf16 · bitsLt_bf16_f32) : (⟨S8192x8192, .f32⟩ : BufTy).Contents (Elt F) → (⟨S8192x8192, .bf16⟩ : BufTy).Contents (Elt F)),
    reshape main_v110 main_v153 (rfl : (.bf16 : EltTy) = .bf16) shapeCasts_S1x8192x2048_S8192x2048,
    reshape main_v78 main_v154 (rfl : (.f32 : EltTy) = .f32) shapeCasts_S1x8192x4x512_S8192x2048 ]
/-- Each of these operations touches TensorCore references only. -/
theorem main_part3_ops0_sub : (main_part3_ops0 : List (HloOp τ sig (Elt F))).Forall fun op => op.bufs ⊆ tcRefs τ sig :=
  ⟨unary_bufs_sub .., binary_bufs_sub .., binary_bufs_sub .., unary_bufs_sub .., binary_bufs_sub .., reshape_bufs_sub .., reshape_bufs_sub .., nullary_bufs_sub .., unary_bufs_sub .., binary_bufs_sub .., reshape_bufs_sub .., reshape_bufs_sub .., reshape_bufs_sub .., reshape_bufs_sub .., unary_bufs_sub .., unary_bufs_sub .., nary_bufs_sub .., unary_bufs_sub .., reshape_bufs_sub .., reshape_bufs_sub ..⟩
/-- The last part of `main` is one stretch. -/
theorem main_part3_chain (c : Dev nD) : main_part3 (F := F) c = (Pipeline.chain
  [ seq main_part3_ops0 ] : Prog (TpuEff nD τ sig (Elt F) (HostLoop.Sig (Pipeline.Sig Λ₀ (Fin 0) fun p => (pcfgs (F := F) p).Adm) 2) .tc) PUnit) := by
  rewrite [chain_seq_cons]
  chain_rfl

/-- `main` is the chain of its stretches and its two loops. -/
theorem main_chain (c : Dev nD) : main (F := F) c = (Pipeline.chain
  [ seq main_part0_ops0,
    seq main_part0_ops1,
    seq main_part0_ops2,
    seq main_part1_ops0,
    HostLoop.enter 0,
    seq main_part1_ops1,
    seq main_part2_ops0,
    seq main_part2_ops1,
    seq main_part2_ops2,
    HostLoop.enter 1,
    seq main_part2_ops3,
    seq main_part3_ops0 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c >>= fun _ => main_part2 (F := F) c >>= fun _ => main_part3 (F := F) c) = _
  rewrite [main_part3_chain, main_part2_chain, Pipeline.chainK_bind_chain, main_part1_chain, Pipeline.chainK_bind_chain, main_part0_chain, Pipeline.chainK_bind_chain]
  chain_rfl

/-- 6 host operations of @dynamic_index_in_dim (main_while0b_call1), in order. -/
abbrev while0Ops0 : List (HloOp τ sig (Elt F)) :=
  [ TRef.nullary (.of main_while0b_call1_c : TRef sig ⟨S_, .i32⟩) (constantI S_ 32 0#32),
    TRef.nullary (.of main_while0b_call1_c_0 : TRef sig ⟨S_, .i32⟩) (constantI S_ 32 0#32),
    TRef.nullary (.of main_while0b_call1_c_1 : TRef sig ⟨S_, .i32⟩) (constantI S_ 32 0#32),
    TRef.nullary (.of main_while0b_call1_c_2 : TRef sig ⟨S_, .i32⟩) (constantI S_ 32 0#32),
    TRef.unaryIndexed (.of main_v72_0 : TRef sig ⟨S64x1x128x4x256, .f32⟩) ![(.of main_v72_4 : TRef sig ⟨S_, .i32⟩), (.of main_while0b_call1_c : TRef sig ⟨S_, .i32⟩), (.of main_while0b_call1_c_0 : TRef sig ⟨S_, .i32⟩), (.of main_while0b_call1_c_1 : TRef sig ⟨S_, .i32⟩), (.of main_while0b_call1_c_2 : TRef sig ⟨S_, .i32⟩)] (.of main_while0b_call1_v0 : TRef sig ⟨S1x1x128x4x256, .f32⟩) (fun x i => Host.dynamicSlice S1x1x128x4x256 x (fun k => (i k (Shape.Idx.first h_S_)).toInt) sliceFits_S64x1x128x4x256_S1x1x128x4x256),
    TRef.reshape (.of main_while0b_call1_v0 : TRef sig ⟨S1x1x128x4x256, .f32⟩) (.of main_while0b_v155 : TRef sig ⟨S1x128x4x256, .f32⟩) (rfl : (.f32 : EltTy) = .f32) shapeCasts_S1x1x128x4x256_S1x128x4x256 ]
/-- Each of these operations touches TensorCore references only. -/
theorem while0Ops0_sub : (while0Ops0 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
/-- 6 host operations of @dynamic_index_in_dim (main_while0b_call2), in order. -/
abbrev while0Ops0_1 : List (HloOp τ sig (Elt F)) :=
  [ TRef.nullary (.of main_while0b_call2_c : TRef sig ⟨S_, .i32⟩) (constantI S_ 32 0#32),
    TRef.nullary (.of main_while0b_call2_c_0 : TRef sig ⟨S_, .i32⟩) (constantI S_ 32 0#32),
    TRef.nullary (.of main_while0b_call2_c_1 : TRef sig ⟨S_, .i32⟩) (constantI S_ 32 0#32),
    TRef.nullary (.of main_while0b_call2_c_2 : TRef sig ⟨S_, .i32⟩) (constantI S_ 32 0#32),
    TRef.unaryIndexed (.of main_v72_1 : TRef sig ⟨S64x1x128x4x256, .f32⟩) ![(.of main_v72_4 : TRef sig ⟨S_, .i32⟩), (.of main_while0b_call2_c : TRef sig ⟨S_, .i32⟩), (.of main_while0b_call2_c_0 : TRef sig ⟨S_, .i32⟩), (.of main_while0b_call2_c_1 : TRef sig ⟨S_, .i32⟩), (.of main_while0b_call2_c_2 : TRef sig ⟨S_, .i32⟩)] (.of main_while0b_call2_v0 : TRef sig ⟨S1x1x128x4x256, .f32⟩) (fun x i => Host.dynamicSlice S1x1x128x4x256 x (fun k => (i k (Shape.Idx.first h_S_)).toInt) sliceFits_S64x1x128x4x256_S1x1x128x4x256),
    TRef.reshape (.of main_while0b_call2_v0 : TRef sig ⟨S1x1x128x4x256, .f32⟩) (.of main_while0b_v156 : TRef sig ⟨S1x128x4x256, .f32⟩) (rfl : (.f32 : EltTy) = .f32) shapeCasts_S1x1x128x4x256_S1x128x4x256 ]
/-- Each of these operations touches TensorCore references only. -/
theorem while0Ops0_1_sub : (while0Ops0_1 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
/-- 6 host operations of @dynamic_index_in_dim_0 (main_while0b_call3), in order. -/
abbrev while0Ops0_2 : List (HloOp τ sig (Elt F)) :=
  [ TRef.nullary (.of main_while0b_call3_c : TRef sig ⟨S_, .i32⟩) (constantI S_ 32 0#32),
    TRef.nullary (.of main_while0b_call3_c_0 : TRef sig ⟨S_, .i32⟩) (constantI S_ 32 0#32),
    TRef.nullary (.of main_while0b_call3_c_1 : TRef sig ⟨S_, .i32⟩) (constantI S_ 32 0#32),
    TRef.nullary (.of main_while0b_call3_c_2 : TRef sig ⟨S_, .i32⟩) (constantI S_ 32 0#32),
    TRef.unaryIndexed (.of main_v72_2 : TRef sig ⟨S64x1x128x4x512, .f32⟩) ![(.of main_v72_4 : TRef sig ⟨S_, .i32⟩), (.of main_while0b_call3_c : TRef sig ⟨S_, .i32⟩), (.of main_while0b_call3_c_0 : TRef sig ⟨S_, .i32⟩), (.of main_while0b_call3_c_1 : TRef sig ⟨S_, .i32⟩), (.of main_while0b_call3_c_2 : TRef sig ⟨S_, .i32⟩)] (.of main_while0b_call3_v0 : TRef sig ⟨S1x1x128x4x512, .f32⟩) (fun x i => Host.dynamicSlice S1x1x128x4x512 x (fun k => (i k (Shape.Idx.first h_S_)).toInt) sliceFits_S64x1x128x4x512_S1x1x128x4x512),
    TRef.reshape (.of main_while0b_call3_v0 : TRef sig ⟨S1x1x128x4x512, .f32⟩) (.of main_while0b_v157 : TRef sig ⟨S1x128x4x512, .f32⟩) (rfl : (.f32 : EltTy) = .f32) shapeCasts_S1x1x128x4x512_S1x128x4x512 ]
/-- Each of these operations touches TensorCore references only. -/
theorem while0Ops0_2_sub : (while0Ops0_2 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
/-- 6 host operations of host loop 0's body region, in order. -/
abbrev while0Ops0_3 : List (HloOp τ sig (Elt F)) :=
  [ binary main_v72_5 main_while0b_v155 main_while0b_v158 ((fun l r => Host.dotGeneral dot_S1x4x256x512_S1x128x4x256_S1x4x512x128_2_3_3_1_01_02 none l r) : (⟨S1x4x256x512, .f32⟩ : BufTy).Contents (Elt F) → (⟨S1x128x4x256, .f32⟩ : BufTy).Contents (Elt F) → (⟨S1x4x512x128, .f32⟩ : BufTy).Contents (Elt F)),
    unary main_while0b_v158 main_while0b_v159 ((transpose S1x128x4x512 [0, 3, 1, 2] · transposes_S1x4x512x128_S1x128x4x512_0_3_1_2) : (⟨S1x4x512x128, .f32⟩ : BufTy).Contents (Elt F) → (⟨S1x128x4x512, .f32⟩ : BufTy).Contents (Elt F)),
    unary main_v72_3 main_while0b_v160 (broadcastInDim S1x4x256x512 ![0, 1, 2, 3] bcast_S1x4x1x1_S1x4x256x512_0_1_2_3 : (⟨S1x4x1x1, .f32⟩ : BufTy).Contents (Elt F) → (⟨S1x4x256x512, .f32⟩ : BufTy).Contents (Elt F)),
    binary main_v72_5 main_while0b_v160 main_while0b_v161 (mulf : (⟨S1x4x256x512, .f32⟩ : BufTy).Contents (Elt F) → (⟨S1x4x256x512, .f32⟩ : BufTy).Contents (Elt F) → (⟨S1x4x256x512, .f32⟩ : BufTy).Contents (Elt F)),
    binary main_while0b_v156 main_while0b_v157 main_while0b_v162 ((fun l r => Host.dotGeneral dot_S1x128x4x256_S1x128x4x512_S1x4x256x512_1_1_3_3_02_02 none l r) : (⟨S1x128x4x256, .f32⟩ : BufTy).Contents (Elt F) → (⟨S1x128x4x512, .f32⟩ : BufTy).Contents (Elt F) → (⟨S1x4x256x512, .f32⟩ : BufTy).Contents (Elt F)),
    binary main_while0b_v161 main_while0b_v162 main_while0b_v163 (addf : (⟨S1x4x256x512, .f32⟩ : BufTy).Contents (Elt F) → (⟨S1x4x256x512, .f32⟩ : BufTy).Contents (Elt F) → (⟨S1x4x256x512, .f32⟩ : BufTy).Contents (Elt F)) ]
/-- Each of these operations touches TensorCore references only. -/
theorem while0Ops0_3_sub : (while0Ops0_3 : List (HloOp τ sig (Elt F))).Forall fun op => op.bufs ⊆ tcRefs τ sig :=
  ⟨binary_bufs_sub .., unary_bufs_sub .., unary_bufs_sub .., binary_bufs_sub .., binary_bufs_sub .., binary_bufs_sub ..⟩
/-- 6 host operations of @dynamic_update_index_in_dim (main_while0b_call4), in order. -/
abbrev while0Ops0_4 : List (HloOp τ sig (Elt F)) :=
  [ TRef.unary (.of main_while0b_v159 : TRef sig ⟨S1x128x4x512, .f32⟩) (.of main_while0b_call4_v0 : TRef sig ⟨S1x1x128x4x512, .f32⟩) (broadcastInDim S1x1x128x4x512 ![1, 2, 3, 4] bcast_S1x128x4x512_S1x1x128x4x512_1_2_3_4),
    TRef.nullary (.of main_while0b_call4_c : TRef sig ⟨S_, .i32⟩) (constantI S_ 32 0#32),
    TRef.nullary (.of main_while0b_call4_c_0 : TRef sig ⟨S_, .i32⟩) (constantI S_ 32 0#32),
    TRef.nullary (.of main_while0b_call4_c_1 : TRef sig ⟨S_, .i32⟩) (constantI S_ 32 0#32),
    TRef.nullary (.of main_while0b_call4_c_2 : TRef sig ⟨S_, .i32⟩) (constantI S_ 32 0#32),
    TRef.binaryIndexed (.of main_v72_6 : TRef sig ⟨S64x1x128x4x512, .f32⟩) (.of main_while0b_call4_v0 : TRef sig ⟨S1x1x128x4x512, .f32⟩) ![(.of main_v72_4 : TRef sig ⟨S_, .i32⟩), (.of main_while0b_call4_c : TRef sig ⟨S_, .i32⟩), (.of main_while0b_call4_c_0 : TRef sig ⟨S_, .i32⟩), (.of main_while0b_call4_c_1 : TRef sig ⟨S_, .i32⟩), (.of main_while0b_call4_c_2 : TRef sig ⟨S_, .i32⟩)] (.of main_while0b_v164 : TRef sig ⟨S64x1x128x4x512, .f32⟩) (fun x u i => Host.dynamicUpdateSlice x u (fun k => (i k (Shape.Idx.first h_S_)).toInt) updateFits_S64x1x128x4x512_S1x1x128x4x512) ]
/-- Each of these operations touches TensorCore references only. -/
theorem while0Ops0_4_sub : (while0Ops0_4 : List (HloOp τ sig (Elt F))).Forall fun op => op.bufs ⊆ tcRefs τ sig :=
  ⟨unary_bufs_sub .., nullary_bufs_sub .., nullary_bufs_sub .., nullary_bufs_sub .., nullary_bufs_sub .., binaryIndexed_bufs_sub ..⟩
/-- 6 host operations of @dynamic_update_index_in_dim_1 (main_while0b_call5), in order. -/
abbrev while0Ops0_5 : List (HloOp τ sig (Elt F)) :=
  [ TRef.unary (.of main_v72_5 : TRef sig ⟨S1x4x256x512, .f32⟩) (.of main_while0b_call5_v0 : TRef sig ⟨S1x1x4x256x512, .f32⟩) (broadcastInDim S1x1x4x256x512 ![1, 2, 3, 4] bcast_S1x4x256x512_S1x1x4x256x512_1_2_3_4),
    TRef.nullary (.of main_while0b_call5_c : TRef sig ⟨S_, .i32⟩) (constantI S_ 32 0#32),
    TRef.nullary (.of main_while0b_call5_c_0 : TRef sig ⟨S_, .i32⟩) (constantI S_ 32 0#32),
    TRef.nullary (.of main_while0b_call5_c_1 : TRef sig ⟨S_, .i32⟩) (constantI S_ 32 0#32),
    TRef.nullary (.of main_while0b_call5_c_2 : TRef sig ⟨S_, .i32⟩) (constantI S_ 32 0#32),
    TRef.binaryIndexed (.of main_v72_7 : TRef sig ⟨S64x1x4x256x512, .f32⟩) (.of main_while0b_call5_v0 : TRef sig ⟨S1x1x4x256x512, .f32⟩) ![(.of main_v72_4 : TRef sig ⟨S_, .i32⟩), (.of main_while0b_call5_c : TRef sig ⟨S_, .i32⟩), (.of main_while0b_call5_c_0 : TRef sig ⟨S_, .i32⟩), (.of main_while0b_call5_c_1 : TRef sig ⟨S_, .i32⟩), (.of main_while0b_call5_c_2 : TRef sig ⟨S_, .i32⟩)] (.of main_while0b_v165 : TRef sig ⟨S64x1x4x256x512, .f32⟩) (fun x u i => Host.dynamicUpdateSlice x u (fun k => (i k (Shape.Idx.first h_S_)).toInt) updateFits_S64x1x4x256x512_S1x1x4x256x512) ]
/-- Each of these operations touches TensorCore references only. -/
theorem while0Ops0_5_sub : (while0Ops0_5 : List (HloOp τ sig (Elt F))).Forall fun op => op.bufs ⊆ tcRefs τ sig :=
  ⟨unary_bufs_sub .., nullary_bufs_sub .., nullary_bufs_sub .., nullary_bufs_sub .., nullary_bufs_sub .., binaryIndexed_bufs_sub ..⟩
/-- 6 host operations of host loop 0's body region, in order. -/
abbrev while0Ops0_6 : List (HloOp τ sig (Elt F)) :=
  [ nullary main_while0b_c_31 (constantI S_ 32 1#32),
    binary main_v72_4 main_while0b_c_31 main_while0b_v166 (addi : (⟨S_, .i32⟩ : BufTy).Contents (Elt F) → (⟨S_, .i32⟩ : BufTy).Contents (Elt F) → (⟨S_, .i32⟩ : BufTy).Contents (Elt F)),
    unary main_while0b_v166 main_v72_4 id,
    unary main_while0b_v163 main_v72_5 id,
    unary main_while0b_v164 main_v72_6 id,
    unary main_while0b_v165 main_v72_7 id ]
/-- Each of these operations touches TensorCore references only. -/
theorem while0Ops0_6_sub : (while0Ops0_6 : List (HloOp τ sig (Elt F))).Forall fun op => op.bufs ⊆ tcRefs τ sig :=
  ⟨nullary_bufs_sub .., binary_bufs_sub .., unary_bufs_sub .., unary_bufs_sub .., unary_bufs_sub .., unary_bufs_sub ..⟩
/-- The body of loop 0 is the chain of its stretches. -/
theorem while0_body_chain : main_while0_body (F := F) = (Pipeline.chain
  [ seq while0Ops0,
    seq while0Ops0_1,
    seq while0Ops0_2,
    seq while0Ops0_3,
    seq while0Ops0_4,
    seq while0Ops0_5,
    seq while0Ops0_6 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, chain_seq_cons, Pipeline.chain_cons, Pipeline.chain_cons, chain_seq_cons]
  chain_rfl

/-- 4 host operations of host loop 1's body region, in order. -/
abbrev while1Ops0 : List (HloOp τ sig (Elt F)) :=
  [ nullary main_while1b_c_34 (constantI S_ 32 64#32),
    binary main_while1b_c_34 main_v122_6 main_while1b_v155 (subi : (⟨S_, .i32⟩ : BufTy).Contents (Elt F) → (⟨S_, .i32⟩ : BufTy).Contents (Elt F) → (⟨S_, .i32⟩ : BufTy).Contents (Elt F)),
    nullary main_while1b_c_35 (constantI S_ 32 1#32),
    binary main_while1b_v155 main_while1b_c_35 main_while1b_v156 (subi : (⟨S_, .i32⟩ : BufTy).Contents (Elt F) → (⟨S_, .i32⟩ : BufTy).Contents (Elt F) → (⟨S_, .i32⟩ : BufTy).Contents (Elt F)) ]
/-- Each of these operations touches TensorCore references only. -/
theorem while1Ops0_sub : (while1Ops0 : List (HloOp τ sig (Elt F))).Forall fun op => op.bufs ⊆ tcRefs τ sig :=
  ⟨nullary_bufs_sub .., binary_bufs_sub .., nullary_bufs_sub .., binary_bufs_sub ..⟩
/-- 6 host operations of @dynamic_index_in_dim_0 (main_while1b_call7), in order. -/
abbrev while1Ops0_1 : List (HloOp τ sig (Elt F)) :=
  [ TRef.nullary (.of main_while1b_call7_c : TRef sig ⟨S_, .i32⟩) (constantI S_ 32 0#32),
    TRef.nullary (.of main_while1b_call7_c_0 : TRef sig ⟨S_, .i32⟩) (constantI S_ 32 0#32),
    TRef.nullary (.of main_while1b_call7_c_1 : TRef sig ⟨S_, .i32⟩) (constantI S_ 32 0#32),
    TRef.nullary (.of main_while1b_call7_c_2 : TRef sig ⟨S_, .i32⟩) (constantI S_ 32 0#32),
    TRef.unaryIndexed (.of main_v122_0 : TRef sig ⟨S64x1x128x4x512, .f32⟩) ![(.of main_while1b_v156 : TRef sig ⟨S_, .i32⟩), (.of main_while1b_call7_c : TRef sig ⟨S_, .i32⟩), (.of main_while1b_call7_c_0 : TRef sig ⟨S_, .i32⟩), (.of main_while1b_call7_c_1 : TRef sig ⟨S_, .i32⟩), (.of main_while1b_call7_c_2 : TRef sig ⟨S_, .i32⟩)] (.of main_while1b_call7_v0 : TRef sig ⟨S1x1x128x4x512, .f32⟩) (fun x i => Host.dynamicSlice S1x1x128x4x512 x (fun k => (i k (Shape.Idx.first h_S_)).toInt) sliceFits_S64x1x128x4x512_S1x1x128x4x512),
    TRef.reshape (.of main_while1b_call7_v0 : TRef sig ⟨S1x1x128x4x512, .f32⟩) (.of main_while1b_v157 : TRef sig ⟨S1x128x4x512, .f32⟩) (rfl : (.f32 : EltTy) = .f32) shapeCasts_S1x1x128x4x512_S1x128x4x512 ]
/-- Each of these operations touches TensorCore references only. -/
theorem while1Ops0_1_sub : (while1Ops0_1 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
/-- 6 host operations of @dynamic_index_in_dim (main_while1b_call8), in order. -/
abbrev while1Ops0_2 : List (HloOp τ sig (Elt F)) :=
  [ TRef.nullary (.of main_while1b_call8_c : TRef sig ⟨S_, .i32⟩) (constantI S_ 32 0#32),
    TRef.nullary (.of main_while1b_call8_c_0 : TRef sig ⟨S_, .i32⟩) (constantI S_ 32 0#32),
    TRef.nullary (.of main_while1b_call8_c_1 : TRef sig ⟨S_, .i32⟩) (constantI S_ 32 0#32),
    TRef.nullary (.of main_while1b_call8_c_2 : TRef sig ⟨S_, .i32⟩) (constantI S_ 32 0#32),
    TRef.unaryIndexed (.of main_v122_1 : TRef sig ⟨S64x1x128x4x256, .f32⟩) ![(.of main_while1b_v156 : TRef sig ⟨S_, .i32⟩), (.of main_while1b_call8_c : TRef sig ⟨S_, .i32⟩), (.of main_while1b_call8_c_0 : TRef sig ⟨S_, .i32⟩), (.of main_while1b_call8_c_1 : TRef sig ⟨S_, .i32⟩), (.of main_while1b_call8_c_2 : TRef sig ⟨S_, .i32⟩)] (.of main_while1b_call8_v0 : TRef sig ⟨S1x1x128x4x256, .f32⟩) (fun x i => Host.dynamicSlice S1x1x128x4x256 x (fun k => (i k (Shape.Idx.first h_S_)).toInt) sliceFits_S64x1x128x4x256_S1x1x128x4x256),
    TRef.reshape (.of main_while1b_call8_v0 : TRef sig ⟨S1x1x128x4x256, .f32⟩) (.of main_while1b_v158 : TRef sig ⟨S1x128x4x256, .f32⟩) (rfl : (.f32 : EltTy) = .f32) shapeCasts_S1x1x128x4x256_S1x128x4x256 ]
/-- Each of these operations touches TensorCore references only. -/
theorem while1Ops0_2_sub : (while1Ops0_2 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
/-- 6 host operations of @dynamic_index_in_dim_2 (main_while1b_call9), in order. -/
abbrev while1Ops0_3 : List (HloOp τ sig (Elt F)) :=
  [ TRef.nullary (.of main_while1b_call9_c : TRef sig ⟨S_, .i32⟩) (constantI S_ 32 0#32),
    TRef.nullary (.of main_while1b_call9_c_0 : TRef sig ⟨S_, .i32⟩) (constantI S_ 32 0#32),
    TRef.nullary (.of main_while1b_call9_c_1 : TRef sig ⟨S_, .i32⟩) (constantI S_ 32 0#32),
    TRef.nullary (.of main_while1b_call9_c_2 : TRef sig ⟨S_, .i32⟩) (constantI S_ 32 0#32),
    TRef.unaryIndexed (.of main_v122_2 : TRef sig ⟨S64x1x4x256x512, .f32⟩) ![(.of main_while1b_v156 : TRef sig ⟨S_, .i32⟩), (.of main_while1b_call9_c : TRef sig ⟨S_, .i32⟩), (.of main_while1b_call9_c_0 : TRef sig ⟨S_, .i32⟩), (.of main_while1b_call9_c_1 : TRef sig ⟨S_, .i32⟩), (.of main_while1b_call9_c_2 : TRef sig ⟨S_, .i32⟩)] (.of main_while1b_call9_v0 : TRef sig ⟨S1x1x4x256x512, .f32⟩) (fun x i => Host.dynamicSlice S1x1x4x256x512 x (fun k => (i k (Shape.Idx.first h_S_)).toInt) sliceFits_S64x1x4x256x512_S1x1x4x256x512),
    TRef.reshape (.of main_while1b_call9_v0 : TRef sig ⟨S1x1x4x256x512, .f32⟩) (.of main_while1b_v159 : TRef sig ⟨S1x4x256x512, .f32⟩) (rfl : (.f32 : EltTy) = .f32) shapeCasts_S1x1x4x256x512_S1x4x256x512 ]
/-- Each of these operations touches TensorCore references only. -/
theorem while1Ops0_3_sub : (while1Ops0_3 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
/-- 6 host operations of @dynamic_index_in_dim_0 (main_while1b_call10), in order. -/
abbrev while1Ops0_4 : List (HloOp τ sig (Elt F)) :=
  [ TRef.nullary (.of main_while1b_call10_c : TRef sig ⟨S_, .i32⟩) (constantI S_ 32 0#32),
    TRef.nullary (.of main_while1b_call10_c_0 : TRef sig ⟨S_, .i32⟩) (constantI S_ 32 0#32),
    TRef.nullary (.of main_while1b_call10_c_1 : TRef sig ⟨S_, .i32⟩) (constantI S_ 32 0#32),
    TRef.nullary (.of main_while1b_call10_c_2 : TRef sig ⟨S_, .i32⟩) (constantI S_ 32 0#32),
    TRef.unaryIndexed (.of main_v122_3 : TRef sig ⟨S64x1x128x4x512, .f32⟩) ![(.of main_while1b_v156 : TRef sig ⟨S_, .i32⟩), (.of main_while1b_call10_c : TRef sig ⟨S_, .i32⟩), (.of main_while1b_call10_c_0 : TRef sig ⟨S_, .i32⟩), (.of main_while1b_call10_c_1 : TRef sig ⟨S_, .i32⟩), (.of main_while1b_call10_c_2 : TRef sig ⟨S_, .i32⟩)] (.of main_while1b_call10_v0 : TRef sig ⟨S1x1x128x4x512, .f32⟩) (fun x i => Host.dynamicSlice S1x1x128x4x512 x (fun k => (i k (Shape.Idx.first h_S_)).toInt) sliceFits_S64x1x128x4x512_S1x1x128x4x512),
    TRef.reshape (.of main_while1b_call10_v0 : TRef sig ⟨S1x1x128x4x512, .f32⟩) (.of main_while1b_v160 : TRef sig ⟨S1x128x4x512, .f32⟩) (rfl : (.f32 : EltTy) = .f32) shapeCasts_S1x1x128x4x512_S1x128x4x512 ]
/-- Each of these operations touches TensorCore references only. -/
theorem while1Ops0_4_sub : (while1Ops0_4 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
/-- 6 host operations of @dynamic_index_in_dim (main_while1b_call11), in order. -/
abbrev while1Ops0_5 : List (HloOp τ sig (Elt F)) :=
  [ TRef.nullary (.of main_while1b_call11_c : TRef sig ⟨S_, .i32⟩) (constantI S_ 32 0#32),
    TRef.nullary (.of main_while1b_call11_c_0 : TRef sig ⟨S_, .i32⟩) (constantI S_ 32 0#32),
    TRef.nullary (.of main_while1b_call11_c_1 : TRef sig ⟨S_, .i32⟩) (constantI S_ 32 0#32),
    TRef.nullary (.of main_while1b_call11_c_2 : TRef sig ⟨S_, .i32⟩) (constantI S_ 32 0#32),
    TRef.unaryIndexed (.of main_v122_4 : TRef sig ⟨S64x1x128x4x256, .f32⟩) ![(.of main_while1b_v156 : TRef sig ⟨S_, .i32⟩), (.of main_while1b_call11_c : TRef sig ⟨S_, .i32⟩), (.of main_while1b_call11_c_0 : TRef sig ⟨S_, .i32⟩), (.of main_while1b_call11_c_1 : TRef sig ⟨S_, .i32⟩), (.of main_while1b_call11_c_2 : TRef sig ⟨S_, .i32⟩)] (.of main_while1b_call11_v0 : TRef sig ⟨S1x1x128x4x256, .f32⟩) (fun x i => Host.dynamicSlice S1x1x128x4x256 x (fun k => (i k (Shape.Idx.first h_S_)).toInt) sliceFits_S64x1x128x4x256_S1x1x128x4x256),
    TRef.reshape (.of main_while1b_call11_v0 : TRef sig ⟨S1x1x128x4x256, .f32⟩) (.of main_while1b_v161 : TRef sig ⟨S1x128x4x256, .f32⟩) (rfl : (.f32 : EltTy) = .f32) shapeCasts_S1x1x128x4x256_S1x128x4x256 ]
/-- Each of these operations touches TensorCore references only. -/
theorem while1Ops0_5_sub : (while1Ops0_5 : List (HloOp τ sig (Elt F))).Forall fun op => op.bufs ⊆ tcRefs τ sig :=
  ⟨nullary_bufs_sub .., nullary_bufs_sub .., nullary_bufs_sub .., nullary_bufs_sub .., unaryIndexed_bufs_sub .., reshape_bufs_sub ..⟩
/-- 12 host operations of host loop 1's body region, in order. -/
abbrev while1Ops0_6 : List (HloOp τ sig (Elt F)) :=
  [ binary main_v122_7 main_while1b_v161 main_while1b_v162 ((fun l r => Host.dotGeneral dot_S1x4x256x512_S1x128x4x256_S1x4x512x128_2_3_3_1_01_02 none l r) : (⟨S1x4x256x512, .f32⟩ : BufTy).Contents (Elt F) → (⟨S1x128x4x256, .f32⟩ : BufTy).Contents (Elt F) → (⟨S1x4x512x128, .f32⟩ : BufTy).Contents (Elt F)),
    unary main_while1b_v162 main_while1b_v163 ((transpose S1x128x4x512 [0, 3, 1, 2] · transposes_S1x4x512x128_S1x128x4x512_0_3_1_2) : (⟨S1x4x512x128, .f32⟩ : BufTy).Contents (Elt F) → (⟨S1x128x4x512, .f32⟩ : BufTy).Contents (Elt F)),
    binary main_v122_7 main_while1b_v160 main_while1b_v164 ((fun l r => Host.dotGeneral dot_S1x4x256x512_S1x128x4x512_S1x4x256x128_3_3_2_1_01_02 none l r) : (⟨S1x4x256x512, .f32⟩ : BufTy).Contents (Elt F) → (⟨S1x128x4x512, .f32⟩ : BufTy).Contents (Elt F) → (⟨S1x4x256x128, .f32⟩ : BufTy).Contents (Elt F)),
    unary main_while1b_v164 main_while1b_v165 ((transpose S1x128x4x256 [0, 3, 1, 2] · transposes_S1x4x256x128_S1x128x4x256_0_3_1_2) : (⟨S1x4x256x128, .f32⟩ : BufTy).Contents (Elt F) → (⟨S1x128x4x256, .f32⟩ : BufTy).Contents (Elt F)),
    unary main_v122_5 main_while1b_v166 (broadcastInDim S1x4x256x512 ![0, 1, 2, 3] bcast_S1x4x1x1_S1x4x256x512_0_1_2_3 : (⟨S1x4x1x1, .f32⟩ : BufTy).Contents (Elt F) → (⟨S1x4x256x512, .f32⟩ : BufTy).Contents (Elt F)),
    binary main_v122_7 main_while1b_v166 main_while1b_v167 (mulf : (⟨S1x4x256x512, .f32⟩ : BufTy).Contents (Elt F) → (⟨S1x4x256x512, .f32⟩ : BufTy).Contents (Elt F) → (⟨S1x4x256x512, .f32⟩ : BufTy).Contents (Elt F)),
    unary main_while1b_v157 main_while1b_v168 ((transpose S1x4x512x128 [0, 2, 3, 1] · transposes_S1x128x4x512_S1x4x512x128_0_2_3_1) : (⟨S1x128x4x512, .f32⟩ : BufTy).Contents (Elt F) → (⟨S1x4x512x128, .f32⟩ : BufTy).Contents (Elt F)),
    binary main_while1b_v168 main_while1b_v159 main_while1b_v169 ((fun l r => Host.dotGeneral dot_S1x4x512x128_S1x4x256x512_S1x4x128x256_2_3_3_2_01_01 none l r) : (⟨S1x4x512x128, .f32⟩ : BufTy).Contents (Elt F) → (⟨S1x4x256x512, .f32⟩ : BufTy).Contents (Elt F) → (⟨S1x4x128x256, .f32⟩ : BufTy).Contents (Elt F)),
    unary main_while1b_v169 main_while1b_v170 ((transpose S1x128x4x256 [0, 2, 1, 3] · transposes_S1x4x128x256_S1x128x4x256_0_2_1_3) : (⟨S1x4x128x256, .f32⟩ : BufTy).Contents (Elt F) → (⟨S1x128x4x256, .f32⟩ : BufTy).Contents (Elt F)),
    binary main_while1b_v168 main_while1b_v158 main_while1b_v171 ((fun l r => Host.dotGeneral dot_S1x4x512x128_S1x128x4x256_S1x4x512x256_3_1_2_3_01_02 none l r) : (⟨S1x4x512x128, .f32⟩ : BufTy).Contents (Elt F) → (⟨S1x128x4x256, .f32⟩ : BufTy).Contents (Elt F) → (⟨S1x4x512x256, .f32⟩ : BufTy).Contents (Elt F)),
    unary main_while1b_v171 main_while1b_v172 ((transpose S1x4x256x512 [0, 1, 3, 2] · transposes_S1x4x512x256_S1x4x256x512_0_1_3_2) : (⟨S1x4x512x256, .f32⟩ : BufTy).Contents (Elt F) → (⟨S1x4x256x512, .f32⟩ : BufTy).Contents (Elt F)),
    binary main_while1b_v167 main_while1b_v172 main_while1b_v173 (addf : (⟨S1x4x256x512, .f32⟩ : BufTy).Contents (Elt F) → (⟨S1x4x256x512, .f32⟩ : BufTy).Contents (Elt F) → (⟨S1x4x256x512, .f32⟩ : BufTy).Contents (Elt F)) ]
/-- Each of these operations touches TensorCore references only. -/
theorem while1Ops0_6_sub : (while1Ops0_6 : List (HloOp τ sig (Elt F))).Forall fun op => op.bufs ⊆ tcRefs τ sig :=
  ⟨binary_bufs_sub .., unary_bufs_sub .., binary_bufs_sub .., unary_bufs_sub .., unary_bufs_sub .., binary_bufs_sub .., unary_bufs_sub .., binary_bufs_sub .., unary_bufs_sub .., binary_bufs_sub .., unary_bufs_sub .., binary_bufs_sub ..⟩
/-- 6 host operations of @dynamic_update_index_in_dim_3 (main_while1b_call12), in order. -/
abbrev while1Ops0_7 : List (HloOp τ sig (Elt F)) :=
  [ TRef.unary (.of main_while1b_v170 : TRef sig ⟨S1x128x4x256, .f32⟩) (.of main_while1b_call12_v0 : TRef sig ⟨S1x1x128x4x256, .f32⟩) (broadcastInDim S1x1x128x4x256 ![1, 2, 3, 4] bcast_S1x128x4x256_S1x1x128x4x256_1_2_3_4),
    TRef.nullary (.of main_while1b_call12_c : TRef sig ⟨S_, .i32⟩) (constantI S_ 32 0#32),
    TRef.nullary (.of main_while1b_call12_c_0 : TRef sig ⟨S_, .i32⟩) (constantI S_ 32 0#32),
    TRef.nullary (.of main_while1b_call12_c_1 : TRef sig ⟨S_, .i32⟩) (constantI S_ 32 0#32),
    TRef.nullary (.of main_while1b_call12_c_2 : TRef sig ⟨S_, .i32⟩) (constantI S_ 32 0#32),
    TRef.binaryIndexed (.of main_v122_8 : TRef sig ⟨S64x1x128x4x256, .f32⟩) (.of main_while1b_call12_v0 : TRef sig ⟨S1x1x128x4x256, .f32⟩) ![(.of main_while1b_v156 : TRef sig ⟨S_, .i32⟩), (.of main_while1b_call12_c : TRef sig ⟨S_, .i32⟩), (.of main_while1b_call12_c_0 : TRef sig ⟨S_, .i32⟩), (.of main_while1b_call12_c_1 : TRef sig ⟨S_, .i32⟩), (.of main_while1b_call12_c_2 : TRef sig ⟨S_, .i32⟩)] (.of main_while1b_v174 : TRef sig ⟨S64x1x128x4x256, .f32⟩) (fun x u i => Host.dynamicUpdateSlice x u (fun k => (i k (Shape.Idx.first h_S_)).toInt) updateFits_S64x1x128x4x256_S1x1x128x4x256) ]
/-- Each of these operations touches TensorCore references only. -/
theorem while1Ops0_7_sub : (while1Ops0_7 : List (HloOp τ sig (Elt F))).Forall fun op => op.bufs ⊆ tcRefs τ sig :=
  ⟨unary_bufs_sub .., nullary_bufs_sub .., nullary_bufs_sub .., nullary_bufs_sub .., nullary_bufs_sub .., binaryIndexed_bufs_sub ..⟩
/-- 6 host operations of @dynamic_update_index_in_dim_3 (main_while1b_call13), in order. -/
abbrev while1Ops0_8 : List (HloOp τ sig (Elt F)) :=
  [ TRef.unary (.of main_while1b_v165 : TRef sig ⟨S1x128x4x256, .f32⟩) (.of main_while1b_call13_v0 : TRef sig ⟨S1x1x128x4x256, .f32⟩) (broadcastInDim S1x1x128x4x256 ![1, 2, 3, 4] bcast_S1x128x4x256_S1x1x128x4x256_1_2_3_4),
    TRef.nullary (.of main_while1b_call13_c : TRef sig ⟨S_, .i32⟩) (constantI S_ 32 0#32),
    TRef.nullary (.of main_while1b_call13_c_0 : TRef sig ⟨S_, .i32⟩) (constantI S_ 32 0#32),
    TRef.nullary (.of main_while1b_call13_c_1 : TRef sig ⟨S_, .i32⟩) (constantI S_ 32 0#32),
    TRef.nullary (.of main_while1b_call13_c_2 : TRef sig ⟨S_, .i32⟩) (constantI S_ 32 0#32),
    TRef.binaryIndexed (.of main_v122_9 : TRef sig ⟨S64x1x128x4x256, .f32⟩) (.of main_while1b_call13_v0 : TRef sig ⟨S1x1x128x4x256, .f32⟩) ![(.of main_while1b_v156 : TRef sig ⟨S_, .i32⟩), (.of main_while1b_call13_c : TRef sig ⟨S_, .i32⟩), (.of main_while1b_call13_c_0 : TRef sig ⟨S_, .i32⟩), (.of main_while1b_call13_c_1 : TRef sig ⟨S_, .i32⟩), (.of main_while1b_call13_c_2 : TRef sig ⟨S_, .i32⟩)] (.of main_while1b_v175 : TRef sig ⟨S64x1x128x4x256, .f32⟩) (fun x u i => Host.dynamicUpdateSlice x u (fun k => (i k (Shape.Idx.first h_S_)).toInt) updateFits_S64x1x128x4x256_S1x1x128x4x256) ]
/-- Each of these operations touches TensorCore references only. -/
theorem while1Ops0_8_sub : (while1Ops0_8 : List (HloOp τ sig (Elt F))).Forall fun op => op.bufs ⊆ tcRefs τ sig :=
  ⟨unary_bufs_sub .., nullary_bufs_sub .., nullary_bufs_sub .., nullary_bufs_sub .., nullary_bufs_sub .., binaryIndexed_bufs_sub ..⟩
/-- 6 host operations of @dynamic_update_index_in_dim (main_while1b_call14), in order. -/
abbrev while1Ops0_9 : List (HloOp τ sig (Elt F)) :=
  [ TRef.unary (.of main_while1b_v163 : TRef sig ⟨S1x128x4x512, .f32⟩) (.of main_while1b_call14_v0 : TRef sig ⟨S1x1x128x4x512, .f32⟩) (broadcastInDim S1x1x128x4x512 ![1, 2, 3, 4] bcast_S1x128x4x512_S1x1x128x4x512_1_2_3_4),
    TRef.nullary (.of main_while1b_call14_c : TRef sig ⟨S_, .i32⟩) (constantI S_ 32 0#32),
    TRef.nullary (.of main_while1b_call14_c_0 : TRef sig ⟨S_, .i32⟩) (constantI S_ 32 0#32),
    TRef.nullary (.of main_while1b_call14_c_1 : TRef sig ⟨S_, .i32⟩) (constantI S_ 32 0#32),
    TRef.nullary (.of main_while1b_call14_c_2 : TRef sig ⟨S_, .i32⟩) (constantI S_ 32 0#32),
    TRef.binaryIndexed (.of main_v122_10 : TRef sig ⟨S64x1x128x4x512, .f32⟩) (.of main_while1b_call14_v0 : TRef sig ⟨S1x1x128x4x512, .f32⟩) ![(.of main_while1b_v156 : TRef sig ⟨S_, .i32⟩), (.of main_while1b_call14_c : TRef sig ⟨S_, .i32⟩), (.of main_while1b_call14_c_0 : TRef sig ⟨S_, .i32⟩), (.of main_while1b_call14_c_1 : TRef sig ⟨S_, .i32⟩), (.of main_while1b_call14_c_2 : TRef sig ⟨S_, .i32⟩)] (.of main_while1b_v176 : TRef sig ⟨S64x1x128x4x512, .f32⟩) (fun x u i => Host.dynamicUpdateSlice x u (fun k => (i k (Shape.Idx.first h_S_)).toInt) updateFits_S64x1x128x4x512_S1x1x128x4x512) ]
/-- Each of these operations touches TensorCore references only. -/
theorem while1Ops0_9_sub : (while1Ops0_9 : List (HloOp τ sig (Elt F))).Forall fun op => op.bufs ⊆ tcRefs τ sig :=
  ⟨unary_bufs_sub .., nullary_bufs_sub .., nullary_bufs_sub .., nullary_bufs_sub .., nullary_bufs_sub .., binaryIndexed_bufs_sub ..⟩
/-- 7 host operations of host loop 1's body region, in order. -/
abbrev while1Ops0_10 : List (HloOp τ sig (Elt F)) :=
  [ nullary main_while1b_c_36 (constantI S_ 32 1#32),
    binary main_v122_6 main_while1b_c_36 main_while1b_v177 (addi : (⟨S_, .i32⟩ : BufTy).Contents (Elt F) → (⟨S_, .i32⟩ : BufTy).Contents (Elt F) → (⟨S_, .i32⟩ : BufTy).Contents (Elt F)),
    unary main_while1b_v177 main_v122_6 id,
    unary main_while1b_v173 main_v122_7 id,
    unary main_while1b_v174 main_v122_8 id,
    unary main_while1b_v175 main_v122_9 id,
    unary main_while1b_v176 main_v122_10 id ]
/-- Each of these operations touches TensorCore references only. -/
theorem while1Ops0_10_sub : (while1Ops0_10 : List (HloOp τ sig (Elt F))).Forall fun op => op.bufs ⊆ tcRefs τ sig :=
  ⟨nullary_bufs_sub .., binary_bufs_sub .., unary_bufs_sub .., unary_bufs_sub .., unary_bufs_sub .., unary_bufs_sub .., unary_bufs_sub ..⟩
/-- The body of loop 1 is the chain of its stretches. -/
theorem while1_body_chain : main_while1_body (F := F) = (Pipeline.chain
  [ seq while1Ops0,
    seq while1Ops0_1,
    seq while1Ops0_2,
    seq while1Ops0_3,
    seq while1Ops0_4,
    seq while1Ops0_5,
    seq while1Ops0_6,
    seq while1Ops0_7,
    seq while1Ops0_8,
    seq while1Ops0_9,
    seq while1Ops0_10 ] : Prog (TpuEff nD τ sig (Elt F) (HostLoop.Sig (Pipeline.Sig Λ₀ (Fin 0) fun p => (pcfgs (F := F) p).Adm) 2) .tc) PUnit) := by
  rewrite [chain_seq_cons, Pipeline.chain_cons, Pipeline.chain_cons, Pipeline.chain_cons, Pipeline.chain_cons, Pipeline.chain_cons, chain_seq_cons, Pipeline.chain_cons, Pipeline.chain_cons, Pipeline.chain_cons, chain_seq_cons]
  chain_rfl

end Cert.ReferenceIdeal.Ref
-- ==== Proof.RefWrites.lean ====
/-
What each stretch of the reference's operations writes; a buffer a stretch does not write keeps its contents through it.
-/
module

public import proofs.«01_k».proof.Proof.RefOps

@[expose] public section

-- a long stretch's list recurses past the default depth
set_option maxRecDepth 4000

noncomputable section

namespace Cert.ReferenceIdeal.Ref

open Cert.ReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The buffers `main_part0_ops0` writes. -/
abbrev main_part0_ops0_W : List (Ref sig .tc) :=
  [main_v0, main_v1, main_v2, main_v3, main_v4, main_v5, main_v6, main_v7, main_cst, main_v8, main_v9, main_cst_0, main_v10, main_v11, main_cst_1, main_v12, main_v13, main_v14, main_v15, main_v16, main_v17, main_v18, main_v19, main_v20, main_cst_2, main_v21, main_v22, main_v23, main_cst_3, main_v24, main_v25, main_v26, main_v27, main_v28, main_v29, main_v30, main_cst_4]
theorem main_part0_ops0_writes : (main_part0_ops0 : List (HloOp τ sig (Elt F))).Forall fun op => op.writes ⊆ (main_part0_ops0_W.map (Proc.devRef (τ := τ) .tc)).toFinset :=
  forall_writes_sub_of_map rfl
/-- No operation of `main_part0_ops0` allocates a buffer. -/
theorem main_part0_ops0_fresh : (main_part0_ops0 : List (HloOp τ sig (Elt F))).Forall fun op => op.fresh = ∅ :=
  forall_fresh_of_map rfl

/-- The buffers `main_part0_ops1` writes. -/
abbrev main_part0_ops1_W : List (Ref sig .tc) :=
  [main_call0_v0, main_call0_v1, main_call0_v2, main_v31]
theorem main_part0_ops1_writes : (main_part0_ops1 : List (HloOp τ sig (Elt F))).Forall fun op => op.writes ⊆ (main_part0_ops1_W.map (Proc.devRef (τ := τ) .tc)).toFinset :=
  forall_writes_sub_of_map rfl
/-- No operation of `main_part0_ops1` allocates a buffer. -/
theorem main_part0_ops1_fresh : (main_part0_ops1 : List (HloOp τ sig (Elt F))).Forall fun op => op.fresh = ∅ :=
  forall_fresh_of_map rfl

/-- The buffers `main_part0_ops2` writes. -/
abbrev main_part0_ops2_W : List (Ref sig .tc) :=
  [main_v32, main_v33, main_cst_5, main_v34, main_v35, main_v36, main_v37, main_v38, main_v39, main_v40, main_v41, main_cst_6, main_v42, main_v43, main_v44, main_v45, main_v46, main_v47, main_cst_7, main_v48, main_v49, main_v50]
theorem main_part0_ops2_writes : (main_part0_ops2 : List (HloOp τ sig (Elt F))).Forall fun op => op.writes ⊆ (main_part0_ops2_W.map (Proc.devRef (τ := τ) .tc)).toFinset :=
  forall_writes_sub_of_map rfl
/-- No operation of `main_part0_ops2` allocates a buffer. -/
theorem main_part0_ops2_fresh : (main_part0_ops2 : List (HloOp τ sig (Elt F))).Forall fun op => op.fresh = ∅ :=
  forall_fresh_of_map rfl

/-- The buffers `main_part1_ops0` writes. -/
abbrev main_part1_ops0_W : List (Ref sig .tc) :=
  [main_v51, main_cst_8, main_v52, main_v53, main_v54, main_v55, main_v56, main_v57, main_v58, main_v59, main_v60, main_v61, main_v62, main_v63, main_v64, main_cst_9, main_v65, main_v66, main_v67, main_v68, main_v69, main_cst_10, main_v70, main_cst_11, main_v71, main_c, main_v72_0, main_v72_1, main_v72_2, main_v72_3, main_v72_4, main_v72_5, main_v72_6, main_v72_7]
theorem main_part1_ops0_writes : (main_part1_ops0 : List (HloOp τ sig (Elt F))).Forall fun op => op.writes ⊆ (main_part1_ops0_W.map (Proc.devRef (τ := τ) .tc)).toFinset :=
  forall_writes_sub_of_map rfl
/-- No operation of `main_part1_ops0` allocates a buffer. -/
theorem main_part1_ops0_fresh : (main_part1_ops0 : List (HloOp τ sig (Elt F))).Forall fun op => op.fresh = ∅ :=
  forall_fresh_of_map rfl

/-- The buffers `main_part1_ops1` writes. -/
abbrev main_part1_ops1_W : List (Ref sig .tc) :=
  [main_v73, main_v74, main_v75, main_v76, main_v77, main_v78, main_v79, main_v80, main_cst_12, main_v81, main_v82, main_cst_13, main_v83, main_v84, main_v85, main_v86, main_v87, main_cst_14, main_v88, main_v89, main_cst_15, main_v90, main_v91, main_v92, main_v93]
theorem main_part1_ops1_writes : (main_part1_ops1 : List (HloOp τ sig (Elt F))).Forall fun op => op.writes ⊆ (main_part1_ops1_W.map (Proc.devRef (τ := τ) .tc)).toFinset :=
  forall_writes_sub_of_map rfl
/-- No operation of `main_part1_ops1` allocates a buffer. -/
theorem main_part1_ops1_fresh : (main_part1_ops1 : List (HloOp τ sig (Elt F))).Forall fun op => op.fresh = ∅ :=
  forall_fresh_of_map rfl

/-- The buffers `main_part2_ops0` writes. -/
abbrev main_part2_ops0_W : List (Ref sig .tc) :=
  [main_cst_16, main_v94, main_v95, main_v96, main_v97, main_v98, main_v99, main_v100, main_v101, main_v102, main_v103, main_v104, main_v105, main_v106, main_v107]
theorem main_part2_ops0_writes : (main_part2_ops0 : List (HloOp τ sig (Elt F))).Forall fun op => op.writes ⊆ (main_part2_ops0_W.map (Proc.devRef (τ := τ) .tc)).toFinset :=
  forall_writes_sub_of_map rfl
/-- No operation of `main_part2_ops0` allocates a buffer. -/
theorem main_part2_ops0_fresh : (main_part2_ops0 : List (HloOp τ sig (Elt F))).Forall fun op => op.fresh = ∅ :=
  forall_fresh_of_map rfl

/-- The buffers `main_part2_ops1` writes. -/
abbrev main_part2_ops1_W : List (Ref sig .tc) :=
  [main_call6_v0, main_call6_v1, main_call6_cst, main_call6_v2, main_call6_v3, main_call6_cst_0, main_call6_v4, main_call6_v5, main_v108]
theorem main_part2_ops1_writes : (main_part2_ops1 : List (HloOp τ sig (Elt F))).Forall fun op => op.writes ⊆ (main_part2_ops1_W.map (Proc.devRef (τ := τ) .tc)).toFinset :=
  forall_writes_sub_of_map rfl
/-- No operation of `main_part2_ops1` allocates a buffer. -/
theorem main_part2_ops1_fresh : (main_part2_ops1 : List (HloOp τ sig (Elt F))).Forall fun op => op.fresh = ∅ :=
  forall_fresh_of_map rfl

/-- The buffers `main_part2_ops2` writes. -/
abbrev main_part2_ops2_W : List (Ref sig .tc) :=
  [main_v109, main_v110, main_v111, main_v112, main_cst_17, main_v113, main_v114, main_v115, main_v116, main_v117, main_cst_18, main_v118, main_cst_19, main_v119, main_cst_20, main_v120, main_cst_21, main_v121, main_c_22, main_v122_0, main_v122_1, main_v122_2, main_v122_3, main_v122_4, main_v122_5, main_v122_6, main_v122_7, main_v122_8, main_v122_9, main_v122_10]
theorem main_part2_ops2_writes : (main_part2_ops2 : List (HloOp τ sig (Elt F))).Forall fun op => op.writes ⊆ (main_part2_ops2_W.map (Proc.devRef (τ := τ) .tc)).toFinset :=
  forall_writes_sub_of_map rfl
/-- No operation of `main_part2_ops2` allocates a buffer. -/
theorem main_part2_ops2_fresh : (main_part2_ops2 : List (HloOp τ sig (Elt F))).Forall fun op => op.fresh = ∅ :=
  forall_fresh_of_map rfl

/-- The buffers `main_part2_ops3` writes. -/
abbrev main_part2_ops3_W : List (Ref sig .tc) :=
  [main_v123, main_v124, main_v125, main_v126, main_v127, main_v128, main_v129, main_v130, main_v131, main_v132, main_v133, main_v134, main_v135]
theorem main_part2_ops3_writes : (main_part2_ops3 : List (HloOp τ sig (Elt F))).Forall fun op => op.writes ⊆ (main_part2_ops3_W.map (Proc.devRef (τ := τ) .tc)).toFinset :=
  forall_writes_sub_of_map rfl
/-- No operation of `main_part2_ops3` allocates a buffer. -/
theorem main_part2_ops3_fresh : (main_part2_ops3 : List (HloOp τ sig (Elt F))).Forall fun op => op.fresh = ∅ :=
  forall_fresh_of_map rfl

/-- The buffers `main_part3_ops0` writes. -/
abbrev main_part3_ops0_W : List (Ref sig .tc) :=
  [main_v136, main_v137, main_v138, main_v139, main_v140, main_v141, main_v142, main_cst_23, main_v143, main_v144, main_v145, main_v146, main_v147, main_v148, main_v149, main_v150, main_v151, main_v152, main_v153, main_v154]
theorem main_part3_ops0_writes : (main_part3_ops0 : List (HloOp τ sig (Elt F))).Forall fun op => op.writes ⊆ (main_part3_ops0_W.map (Proc.devRef (τ := τ) .tc)).toFinset :=
  forall_writes_sub_of_map rfl
/-- No operation of `main_part3_ops0` allocates a buffer. -/
theorem main_part3_ops0_fresh : (main_part3_ops0 : List (HloOp τ sig (Elt F))).Forall fun op => op.fresh = ∅ :=
  forall_fresh_of_map rfl

/-- The buffers `while0Ops0` writes. -/
abbrev while0Ops0_W : List (Ref sig .tc) :=
  [main_while0b_call1_c, main_while0b_call1_c_0, main_while0b_call1_c_1, main_while0b_call1_c_2, main_while0b_call1_v0, main_while0b_v155]
theorem while0Ops0_writes : (while0Ops0 : List (HloOp τ sig (Elt F))).Forall fun op => op.writes ⊆ (while0Ops0_W.map (Proc.devRef (τ := τ) .tc)).toFinset :=
  forall_writes_sub_of_map rfl
/-- No operation of `while0Ops0` allocates a buffer. -/
theorem while0Ops0_fresh : (while0Ops0 : List (HloOp τ sig (Elt F))).Forall fun op => op.fresh = ∅ :=
  forall_fresh_of_map rfl

/-- The buffers `while0Ops0_1` writes. -/
abbrev while0Ops0_1_W : List (Ref sig .tc) :=
  [main_while0b_call2_c, main_while0b_call2_c_0, main_while0b_call2_c_1, main_while0b_call2_c_2, main_while0b_call2_v0, main_while0b_v156]
theorem while0Ops0_1_writes : (while0Ops0_1 : List (HloOp τ sig (Elt F))).Forall fun op => op.writes ⊆ (while0Ops0_1_W.map (Proc.devRef (τ := τ) .tc)).toFinset :=
  forall_writes_sub_of_map rfl
/-- No operation of `while0Ops0_1` allocates a buffer. -/
theorem while0Ops0_1_fresh : (while0Ops0_1 : List (HloOp τ sig (Elt F))).Forall fun op => op.fresh = ∅ :=
  forall_fresh_of_map rfl

/-- The buffers `while0Ops0_2` writes. -/
abbrev while0Ops0_2_W : List (Ref sig .tc) :=
  [main_while0b_call3_c, main_while0b_call3_c_0, main_while0b_call3_c_1, main_while0b_call3_c_2, main_while0b_call3_v0, main_while0b_v157]
theorem while0Ops0_2_writes : (while0Ops0_2 : List (HloOp τ sig (Elt F))).Forall fun op => op.writes ⊆ (while0Ops0_2_W.map (Proc.devRef (τ := τ) .tc)).toFinset :=
  forall_writes_sub_of_map rfl
/-- No operation of `while0Ops0_2` allocates a buffer. -/
theorem while0Ops0_2_fresh : (while0Ops0_2 : List (HloOp τ sig (Elt F))).Forall fun op => op.fresh = ∅ :=
  forall_fresh_of_map rfl

/-- The buffers `while0Ops0_3` writes. -/
abbrev while0Ops0_3_W : List (Ref sig .tc) :=
  [main_while0b_v158, main_while0b_v159, main_while0b_v160, main_while0b_v161, main_while0b_v162, main_while0b_v163]
theorem while0Ops0_3_writes : (while0Ops0_3 : List (HloOp τ sig (Elt F))).Forall fun op => op.writes ⊆ (while0Ops0_3_W.map (Proc.devRef (τ := τ) .tc)).toFinset :=
  forall_writes_sub_of_map rfl
/-- No operation of `while0Ops0_3` allocates a buffer. -/
theorem while0Ops0_3_fresh : (while0Ops0_3 : List (HloOp τ sig (Elt F))).Forall fun op => op.fresh = ∅ :=
  forall_fresh_of_map rfl

/-- The buffers `while0Ops0_4` writes. -/
abbrev while0Ops0_4_W : List (Ref sig .tc) :=
  [main_while0b_call4_v0, main_while0b_call4_c, main_while0b_call4_c_0, main_while0b_call4_c_1, main_while0b_call4_c_2, main_while0b_v164]
theorem while0Ops0_4_writes : (while0Ops0_4 : List (HloOp τ sig (Elt F))).Forall fun op => op.writes ⊆ (while0Ops0_4_W.map (Proc.devRef (τ := τ) .tc)).toFinset :=
  forall_writes_sub_of_map rfl
/-- No operation of `while0Ops0_4` allocates a buffer. -/
theorem while0Ops0_4_fresh : (while0Ops0_4 : List (HloOp τ sig (Elt F))).Forall fun op => op.fresh = ∅ :=
  forall_fresh_of_map rfl

/-- The buffers `while0Ops0_5` writes. -/
abbrev while0Ops0_5_W : List (Ref sig .tc) :=
  [main_while0b_call5_v0, main_while0b_call5_c, main_while0b_call5_c_0, main_while0b_call5_c_1, main_while0b_call5_c_2, main_while0b_v165]
theorem while0Ops0_5_writes : (while0Ops0_5 : List (HloOp τ sig (Elt F))).Forall fun op => op.writes ⊆ (while0Ops0_5_W.map (Proc.devRef (τ := τ) .tc)).toFinset :=
  forall_writes_sub_of_map rfl
/-- No operation of `while0Ops0_5` allocates a buffer. -/
theorem while0Ops0_5_fresh : (while0Ops0_5 : List (HloOp τ sig (Elt F))).Forall fun op => op.fresh = ∅ :=
  forall_fresh_of_map rfl

/-- The buffers `while0Ops0_6` writes. -/
abbrev while0Ops0_6_W : List (Ref sig .tc) :=
  [main_while0b_c_31, main_while0b_v166, main_v72_4, main_v72_5, main_v72_6, main_v72_7]
theorem while0Ops0_6_writes : (while0Ops0_6 : List (HloOp τ sig (Elt F))).Forall fun op => op.writes ⊆ (while0Ops0_6_W.map (Proc.devRef (τ := τ) .tc)).toFinset :=
  forall_writes_sub_of_map rfl
/-- No operation of `while0Ops0_6` allocates a buffer. -/
theorem while0Ops0_6_fresh : (while0Ops0_6 : List (HloOp τ sig (Elt F))).Forall fun op => op.fresh = ∅ :=
  forall_fresh_of_map rfl

/-- The buffers `while1Ops0` writes. -/
abbrev while1Ops0_W : List (Ref sig .tc) :=
  [main_while1b_c_34, main_while1b_v155, main_while1b_c_35, main_while1b_v156]
theorem while1Ops0_writes : (while1Ops0 : List (HloOp τ sig (Elt F))).Forall fun op => op.writes ⊆ (while1Ops0_W.map (Proc.devRef (τ := τ) .tc)).toFinset :=
  forall_writes_sub_of_map rfl
/-- No operation of `while1Ops0` allocates a buffer. -/
theorem while1Ops0_fresh : (while1Ops0 : List (HloOp τ sig (Elt F))).Forall fun op => op.fresh = ∅ :=
  forall_fresh_of_map rfl

/-- The buffers `while1Ops0_1` writes. -/
abbrev while1Ops0_1_W : List (Ref sig .tc) :=
  [main_while1b_call7_c, main_while1b_call7_c_0, main_while1b_call7_c_1, main_while1b_call7_c_2, main_while1b_call7_v0, main_while1b_v157]
theorem while1Ops0_1_writes : (while1Ops0_1 : List (HloOp τ sig (Elt F))).Forall fun op => op.writes ⊆ (while1Ops0_1_W.map (Proc.devRef (τ := τ) .tc)).toFinset :=
  forall_writes_sub_of_map rfl
/-- No operation of `while1Ops0_1` allocates a buffer. -/
theorem while1Ops0_1_fresh : (while1Ops0_1 : List (HloOp τ sig (Elt F))).Forall fun op => op.fresh = ∅ :=
  forall_fresh_of_map rfl

/-- The buffers `while1Ops0_2` writes. -/
abbrev while1Ops0_2_W : List (Ref sig .tc) :=
  [main_while1b_call8_c, main_while1b_call8_c_0, main_while1b_call8_c_1, main_while1b_call8_c_2, main_while1b_call8_v0, main_while1b_v158]
theorem while1Ops0_2_writes : (while1Ops0_2 : List (HloOp τ sig (Elt F))).Forall fun op => op.writes ⊆ (while1Ops0_2_W.map (Proc.devRef (τ := τ) .tc)).toFinset :=
  forall_writes_sub_of_map rfl
/-- No operation of `while1Ops0_2` allocates a buffer. -/
theorem while1Ops0_2_fresh : (while1Ops0_2 : List (HloOp τ sig (Elt F))).Forall fun op => op.fresh = ∅ :=
  forall_fresh_of_map rfl

/-- The buffers `while1Ops0_3` writes. -/
abbrev while1Ops0_3_W : List (Ref sig .tc) :=
  [main_while1b_call9_c, main_while1b_call9_c_0, main_while1b_call9_c_1, main_while1b_call9_c_2, main_while1b_call9_v0, main_while1b_v159]
theorem while1Ops0_3_writes : (while1Ops0_3 : List (HloOp τ sig (Elt F))).Forall fun op => op.writes ⊆ (while1Ops0_3_W.map (Proc.devRef (τ := τ) .tc)).toFinset :=
  forall_writes_sub_of_map rfl
/-- No operation of `while1Ops0_3` allocates a buffer. -/
theorem while1Ops0_3_fresh : (while1Ops0_3 : List (HloOp τ sig (Elt F))).Forall fun op => op.fresh = ∅ :=
  forall_fresh_of_map rfl

/-- The buffers `while1Ops0_4` writes. -/
abbrev while1Ops0_4_W : List (Ref sig .tc) :=
  [main_while1b_call10_c, main_while1b_call10_c_0, main_while1b_call10_c_1, main_while1b_call10_c_2, main_while1b_call10_v0, main_while1b_v160]
theorem while1Ops0_4_writes : (while1Ops0_4 : List (HloOp τ sig (Elt F))).Forall fun op => op.writes ⊆ (while1Ops0_4_W.map (Proc.devRef (τ := τ) .tc)).toFinset :=
  forall_writes_sub_of_map rfl
/-- No operation of `while1Ops0_4` allocates a buffer. -/
theorem while1Ops0_4_fresh : (while1Ops0_4 : List (HloOp τ sig (Elt F))).Forall fun op => op.fresh = ∅ :=
  forall_fresh_of_map rfl

/-- The buffers `while1Ops0_5` writes. -/
abbrev while1Ops0_5_W : List (Ref sig .tc) :=
  [main_while1b_call11_c, main_while1b_call11_c_0, main_while1b_call11_c_1, main_while1b_call11_c_2, main_while1b_call11_v0, main_while1b_v161]
theorem while1Ops0_5_writes : (while1Ops0_5 : List (HloOp τ sig (Elt F))).Forall fun op => op.writes ⊆ (while1Ops0_5_W.map (Proc.devRef (τ := τ) .tc)).toFinset :=
  forall_writes_sub_of_map rfl
/-- No operation of `while1Ops0_5` allocates a buffer. -/
theorem while1Ops0_5_fresh : (while1Ops0_5 : List (HloOp τ sig (Elt F))).Forall fun op => op.fresh = ∅ :=
  forall_fresh_of_map rfl

/-- The buffers `while1Ops0_6` writes. -/
abbrev while1Ops0_6_W : List (Ref sig .tc) :=
  [main_while1b_v162, main_while1b_v163, main_while1b_v164, main_while1b_v165, main_while1b_v166, main_while1b_v167, main_while1b_v168, main_while1b_v169, main_while1b_v170, main_while1b_v171, main_while1b_v172, main_while1b_v173]
theorem while1Ops0_6_writes : (while1Ops0_6 : List (HloOp τ sig (Elt F))).Forall fun op => op.writes ⊆ (while1Ops0_6_W.map (Proc.devRef (τ := τ) .tc)).toFinset :=
  forall_writes_sub_of_map rfl
/-- No operation of `while1Ops0_6` allocates a buffer. -/
theorem while1Ops0_6_fresh : (while1Ops0_6 : List (HloOp τ sig (Elt F))).Forall fun op => op.fresh = ∅ :=
  forall_fresh_of_map rfl

/-- The buffers `while1Ops0_7` writes. -/
abbrev while1Ops0_7_W : List (Ref sig .tc) :=
  [main_while1b_call12_v0, main_while1b_call12_c, main_while1b_call12_c_0, main_while1b_call12_c_1, main_while1b_call12_c_2, main_while1b_v174]
theorem while1Ops0_7_writes : (while1Ops0_7 : List (HloOp τ sig (Elt F))).Forall fun op => op.writes ⊆ (while1Ops0_7_W.map (Proc.devRef (τ := τ) .tc)).toFinset :=
  forall_writes_sub_of_map rfl
/-- No operation of `while1Ops0_7` allocates a buffer. -/
theorem while1Ops0_7_fresh : (while1Ops0_7 : List (HloOp τ sig (Elt F))).Forall fun op => op.fresh = ∅ :=
  forall_fresh_of_map rfl

/-- The buffers `while1Ops0_8` writes. -/
abbrev while1Ops0_8_W : List (Ref sig .tc) :=
  [main_while1b_call13_v0, main_while1b_call13_c, main_while1b_call13_c_0, main_while1b_call13_c_1, main_while1b_call13_c_2, main_while1b_v175]
theorem while1Ops0_8_writes : (while1Ops0_8 : List (HloOp τ sig (Elt F))).Forall fun op => op.writes ⊆ (while1Ops0_8_W.map (Proc.devRef (τ := τ) .tc)).toFinset :=
  forall_writes_sub_of_map rfl
/-- No operation of `while1Ops0_8` allocates a buffer. -/
theorem while1Ops0_8_fresh : (while1Ops0_8 : List (HloOp τ sig (Elt F))).Forall fun op => op.fresh = ∅ :=
  forall_fresh_of_map rfl

/-- The buffers `while1Ops0_9` writes. -/
abbrev while1Ops0_9_W : List (Ref sig .tc) :=
  [main_while1b_call14_v0, main_while1b_call14_c, main_while1b_call14_c_0, main_while1b_call14_c_1, main_while1b_call14_c_2, main_while1b_v176]
theorem while1Ops0_9_writes : (while1Ops0_9 : List (HloOp τ sig (Elt F))).Forall fun op => op.writes ⊆ (while1Ops0_9_W.map (Proc.devRef (τ := τ) .tc)).toFinset :=
  forall_writes_sub_of_map rfl
/-- No operation of `while1Ops0_9` allocates a buffer. -/
theorem while1Ops0_9_fresh : (while1Ops0_9 : List (HloOp τ sig (Elt F))).Forall fun op => op.fresh = ∅ :=
  forall_fresh_of_map rfl

/-- The buffers `while1Ops0_10` writes. -/
abbrev while1Ops0_10_W : List (Ref sig .tc) :=
  [main_while1b_c_36, main_while1b_v177, main_v122_6, main_v122_7, main_v122_8, main_v122_9, main_v122_10]
theorem while1Ops0_10_writes : (while1Ops0_10 : List (HloOp τ sig (Elt F))).Forall fun op => op.writes ⊆ (while1Ops0_10_W.map (Proc.devRef (τ := τ) .tc)).toFinset :=
  forall_writes_sub_of_map rfl
/-- No operation of `while1Ops0_10` allocates a buffer. -/
theorem while1Ops0_10_fresh : (while1Ops0_10 : List (HloOp τ sig (Elt F))).Forall fun op => op.fresh = ∅ :=
  forall_fresh_of_map rfl

end Cert.ReferenceIdeal.Ref
-- ==== Proof.RefRun.lean ====
/-
The reference's run: two counted loops of 64 trips, between stretches of host operations. Every weakly fair execution
terminates with every tensor buffer at the fold of the program's operations (`final`).
-/
module

public import proofs.«01_k».proof.Proof.RefWrites

@[expose] public section

-- a long stretch's list recurses past the default depth
set_option maxRecDepth 4000

noncomputable section

namespace Cert.ReferenceIdeal.Ref

open Cert.ReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What a list of stretches keeps -/

/-- Every stretch of the list keeps every buffer outside `W`. -/
def Keeps (W : List (Ref sig .tc)) (items : List (List (HloOp τ sig (Elt F)))) : Prop :=
  ∀ ops ∈ items, ∀ (Y : Valuation τ sig (Elt F)) (r : Ref sig .tc), r ∉ W → after ops Y (Proc.devRef .tc r) = Y (Proc.devRef .tc r)

theorem Keeps.nil : Keeps (F := F) [] [] := fun _ h => nomatch h

/-- A stretch before a list: what either writes may change. -/
theorem Keeps.cons {W' W : List (Ref sig .tc)} {ops : List (HloOp τ sig (Elt F))} {rest : List (List (HloOp τ sig (Elt F)))}
    (hw : ops.Forall fun op => op.writes ⊆ (W'.map (Proc.devRef (τ := τ) .tc)).toFinset) (h : Keeps W rest) : Keeps (W' ++ W) (ops :: rest) := by
  intro o ho Y r hr
  rw [List.mem_append, not_or] at hr
  rcases List.mem_cons.mp ho with rfl | ho
  · exact after_of_writes_sub _ Y hw hr.1
  · exact h o ho Y r hr.2

/-- A buffer outside `W` keeps its contents through the list. -/
theorem Keeps.afterL {W : List (Ref sig .tc)} {r : Ref sig .tc} (hr : r ∉ W) : ∀ {items : List (List (HloOp τ sig (Elt F)))}, Keeps W items →
    ∀ X : Valuation τ sig (Elt F), afterL items X (Proc.devRef .tc r) = X (Proc.devRef .tc r)
  | [], _, _ => rfl
  | ops :: _, h, X => (Keeps.afterL hr (fun o ho => h o (List.mem_cons_of_mem _ ho)) (after ops X)).trans (h ops List.mem_cons_self X r hr)

/-- A buffer outside what a loop's condition and body write keeps its contents through the trips. -/
theorem Keeps.atTrip {W : List (Ref sig .tc)} {r : Ref sig .tc} {condOps : List (HloOp τ sig (Elt F))} {bodyI : List (List (HloOp τ sig (Elt F)))}
    (h : Keeps W (condOps :: bodyI)) (hr : r ∉ W) (W₀ : Dev nD → Valuation τ sig (Elt F)) (c : Dev nD) :
    ∀ k, atTrip condOps bodyI W₀ k c (Proc.devRef .tc r) = W₀ c (Proc.devRef .tc r)
  | 0 => rfl
  | k + 1 => (Keeps.afterL hr h (StableHlo.atTrip condOps bodyI W₀ k c)).trans (Keeps.atTrip h hr W₀ c k)

/-- The stretches before loop 0. -/
abbrev pre : List (List (HloOp τ sig (Elt F))) := [main_part0_ops0, main_part0_ops1, main_part0_ops2, main_part1_ops0]
theorem pre_plain : Plain (pre (F := F)) := .cons main_part0_ops0_sub (hf := List.forall_iff_forall_mem.mp main_part0_ops0_fresh) (.cons main_part0_ops1_sub (hf := List.forall_iff_forall_mem.mp main_part0_ops1_fresh) (.cons main_part0_ops2_sub (hf := List.forall_iff_forall_mem.mp main_part0_ops2_fresh) (.cons main_part1_ops0_sub (hf := List.forall_iff_forall_mem.mp main_part1_ops0_fresh) (.nil))))
abbrev pre_W : List (Ref sig .tc) := main_part0_ops0_W ++ (main_part0_ops1_W ++ (main_part0_ops2_W ++ (main_part1_ops0_W ++ [])))
theorem pre_keeps : Keeps (F := F) pre_W pre := .cons main_part0_ops0_writes (.cons main_part0_ops1_writes (.cons main_part0_ops2_writes (.cons main_part1_ops0_writes (.nil))))
/-- The stretches between the loops. -/
abbrev mid : List (List (HloOp τ sig (Elt F))) := [main_part1_ops1, main_part2_ops0, main_part2_ops1, main_part2_ops2]
theorem mid_plain : Plain (mid (F := F)) := .cons main_part1_ops1_sub (hf := List.forall_iff_forall_mem.mp main_part1_ops1_fresh) (.cons main_part2_ops0_sub (hf := List.forall_iff_forall_mem.mp main_part2_ops0_fresh) (.cons main_part2_ops1_sub (hf := List.forall_iff_forall_mem.mp main_part2_ops1_fresh) (.cons main_part2_ops2_sub (hf := List.forall_iff_forall_mem.mp main_part2_ops2_fresh) (.nil))))
abbrev mid_W : List (Ref sig .tc) := main_part1_ops1_W ++ (main_part2_ops0_W ++ (main_part2_ops1_W ++ (main_part2_ops2_W ++ [])))
theorem mid_keeps : Keeps (F := F) mid_W mid := .cons main_part1_ops1_writes (.cons main_part2_ops0_writes (.cons main_part2_ops1_writes (.cons main_part2_ops2_writes (.nil))))
/-- The stretches after loop 1. -/
abbrev post : List (List (HloOp τ sig (Elt F))) := [main_part2_ops3, main_part3_ops0]
theorem post_plain : Plain (post (F := F)) := .cons main_part2_ops3_sub (hf := List.forall_iff_forall_mem.mp main_part2_ops3_fresh) (.cons main_part3_ops0_sub (hf := List.forall_iff_forall_mem.mp main_part3_ops0_fresh) (.nil))
abbrev post_W : List (Ref sig .tc) := main_part2_ops3_W ++ (main_part3_ops0_W ++ [])
theorem post_keeps : Keeps (F := F) post_W post := .cons main_part2_ops3_writes (.cons main_part3_ops0_writes (.nil))

/-! ## Loop 0 -/

/-- The operations of loop 0's condition: the bound, and the trip counter compared with it. -/
abbrev cond0 : List (HloOp τ sig (Elt F)) :=
  [ nullary main_while0c_c_31 (constantI S_ 32 64#32),
    binary main_v72_4 main_while0c_c_31 main_while0c_v155 (cmpi .slt) ]
theorem cond0_writes : (cond0 : List (HloOp τ sig (Elt F))).Forall fun op => op.writes ⊆ (([main_while0c_c_31, main_while0c_v155] : List (Ref sig .tc)).map (Proc.devRef (τ := τ) .tc)).toFinset :=
  forall_writes_sub_of_map rfl

/-- Loop 0's body, stretch by stretch. -/
abbrev body0 : List (List (HloOp τ sig (Elt F))) := [while0Ops0, while0Ops0_1, while0Ops0_2, while0Ops0_3, while0Ops0_4, while0Ops0_5, while0Ops0_6]
theorem body0_plain : Plain (body0 (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.nil)))))))

/-- What loop 0's condition and body write. -/
abbrev loop0_W : List (Ref sig .tc) := [main_while0c_c_31, main_while0c_v155] ++ (while0Ops0_W ++ (while0Ops0_1_W ++ (while0Ops0_2_W ++ (while0Ops0_3_W ++ (while0Ops0_4_W ++ (while0Ops0_5_W ++ (while0Ops0_6_W ++ [])))))))
theorem loop0_keeps : Keeps (F := F) loop0_W (cond0 :: body0) := .cons cond0_writes (.cons while0Ops0_writes (.cons while0Ops0_1_writes (.cons while0Ops0_2_writes (.cons while0Ops0_3_writes (.cons while0Ops0_4_writes (.cons while0Ops0_5_writes (.cons while0Ops0_6_writes (.nil))))))))

/-- The buffers at loop 0's entry. -/
abbrev entry0 (m : (ℓ : Loc nD τ sig) → Buf (Elt F) ℓ) (c : Dev nD) : Valuation τ sig (Elt F) := afterL pre (launchContents m c)
/-- The buffers before the `k`-th run of loop 0's condition. -/
abbrev trip0 (m : (ℓ : Loc nD τ sig) → Buf (Elt F) ℓ) (k : ℕ) (c : Dev nD) : Valuation τ sig (Elt F) := atTrip cond0 body0 (entry0 m) k c

set_option maxRecDepth 100000 in
/-- The body moves the counter one step on. -/
theorem ctr0_step (X : Valuation τ sig (Elt F)) :
    after while0Ops0_6 X (Proc.devRef .tc main_v72_4) = addi (X (Proc.devRef .tc main_v72_4)) (constantI S_ 32 1#32) := by
  after_results
  rfl

/-- The counter is zero at loop 0's entry. -/
theorem ctr0_entry (m : (ℓ : Loc nD τ sig) → Buf (Elt F) ℓ) (c : Dev nD) : entry0 m c (Proc.devRef .tc main_v72_4) = fun _ => (0#32 : BitVec 32) := by
  simp only [entry0, afterL_cons, afterL_nil]
  after_reads_simp
  rfl

/-- Before the `k`-th condition the counter is `k`. -/
theorem trip0_ctr (m : (ℓ : Loc nD τ sig) → Buf (Elt F) ℓ) (c : Dev nD) : ∀ k, trip0 m k c (Proc.devRef .tc main_v72_4) = fun _ => Scf.iv 0#32 1#32 k
  | 0 => by rw [show trip0 m 0 c = entry0 m c from rfl, ctr0_entry, Scf.iv_zero]
  | k + 1 => by
    rw [show trip0 m (k + 1) c = afterL body0 (after cond0 (trip0 m k c)) from rfl]
    simp only [afterL_cons, afterL_nil]
    rw [ctr0_step, after_of_writes_sub while0Ops0_5 _ while0Ops0_5_writes (by decide +kernel), after_of_writes_sub while0Ops0_4 _ while0Ops0_4_writes (by decide +kernel), after_of_writes_sub while0Ops0_3 _ while0Ops0_3_writes (by decide +kernel), after_of_writes_sub while0Ops0_2 _ while0Ops0_2_writes (by decide +kernel), after_of_writes_sub while0Ops0_1 _ while0Ops0_1_writes (by decide +kernel), after_of_writes_sub while0Ops0 _ while0Ops0_writes (by decide +kernel), after_of_writes_sub cond0 _ cond0_writes (by decide +kernel), trip0_ctr m c k, Scf.iv_succ]
    rfl

set_option backward.isDefEq.respectTransparency.types false in
/-- The condition of loop 0, run for the `k`-th time, is true exactly when `k < 64`. -/
theorem cond0_spec (m : (ℓ : Loc nD τ sig) → Buf (Elt F) ℓ) : CondSpec (pcfgs (F := F)) defs₀ loops (main_while0_cond (F := F)) cond0 body0 (entry0 m) 64 := by
  intro k hk c bd
  have hctr := trip0_ctr m c k
  unfold main_while0_cond
  rw [wp_bind]
  iintro ⟨Hb, Hh⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (trip0 m k c) main_v72_4 HostLoop.idx0)
        (HloOp.result _ (trip0 m k c) main_while0c_c_31 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  rw [after_cons, after_cons, after_nil]; iexact Hh

/-! ## Loop 1 -/

/-- The operations of loop 1's condition: the bound, and the trip counter compared with it. -/
abbrev cond1 : List (HloOp τ sig (Elt F)) :=
  [ nullary main_while1c_c_34 (constantI S_ 32 64#32),
    binary main_v122_6 main_while1c_c_34 main_while1c_v155 (cmpi .slt) ]
theorem cond1_writes : (cond1 : List (HloOp τ sig (Elt F))).Forall fun op => op.writes ⊆ (([main_while1c_c_34, main_while1c_v155] : List (Ref sig .tc)).map (Proc.devRef (τ := τ) .tc)).toFinset :=
  forall_writes_sub_of_map rfl

/-- Loop 1's body, stretch by stretch. -/
abbrev body1 : List (List (HloOp τ sig (Elt F))) := [while1Ops0, while1Ops0_1, while1Ops0_2, while1Ops0_3, while1Ops0_4, while1Ops0_5, while1Ops0_6, while1Ops0_7, while1Ops0_8, while1Ops0_9, while1Ops0_10]
theorem body1_plain : Plain (body1 (F := F)) := .cons while1Ops0_sub (hf := List.forall_iff_forall_mem.mp while1Ops0_fresh) (.cons while1Ops0_1_sub (hf := List.forall_iff_forall_mem.mp while1Ops0_1_fresh) (.cons while1Ops0_2_sub (hf := List.forall_iff_forall_mem.mp while1Ops0_2_fresh) (.cons while1Ops0_3_sub (hf := List.forall_iff_forall_mem.mp while1Ops0_3_fresh) (.cons while1Ops0_4_sub (hf := List.forall_iff_forall_mem.mp while1Ops0_4_fresh) (.cons while1Ops0_5_sub (hf := List.forall_iff_forall_mem.mp while1Ops0_5_fresh) (.cons while1Ops0_6_sub (hf := List.forall_iff_forall_mem.mp while1Ops0_6_fresh) (.cons while1Ops0_7_sub (hf := List.forall_iff_forall_mem.mp while1Ops0_7_fresh) (.cons while1Ops0_8_sub (hf := List.forall_iff_forall_mem.mp while1Ops0_8_fresh) (.cons while1Ops0_9_sub (hf := List.forall_iff_forall_mem.mp while1Ops0_9_fresh) (.cons while1Ops0_10_sub (hf := List.forall_iff_forall_mem.mp while1Ops0_10_fresh) (.nil)))))))))))

/-- What loop 1's condition and body write. -/
abbrev loop1_W : List (Ref sig .tc) := [main_while1c_c_34, main_while1c_v155] ++ (while1Ops0_W ++ (while1Ops0_1_W ++ (while1Ops0_2_W ++ (while1Ops0_3_W ++ (while1Ops0_4_W ++ (while1Ops0_5_W ++ (while1Ops0_6_W ++ (while1Ops0_7_W ++ (while1Ops0_8_W ++ (while1Ops0_9_W ++ (while1Ops0_10_W ++ [])))))))))))
theorem loop1_keeps : Keeps (F := F) loop1_W (cond1 :: body1) := .cons cond1_writes (.cons while1Ops0_writes (.cons while1Ops0_1_writes (.cons while1Ops0_2_writes (.cons while1Ops0_3_writes (.cons while1Ops0_4_writes (.cons while1Ops0_5_writes (.cons while1Ops0_6_writes (.cons while1Ops0_7_writes (.cons while1Ops0_8_writes (.cons while1Ops0_9_writes (.cons while1Ops0_10_writes (.nil))))))))))))

/-- The buffers at loop 1's entry. -/
abbrev entry1 (m : (ℓ : Loc nD τ sig) → Buf (Elt F) ℓ) (c : Dev nD) : Valuation τ sig (Elt F) := afterL mid (after cond0 (trip0 m 64 c))
/-- The buffers before the `k`-th run of loop 1's condition. -/
abbrev trip1 (m : (ℓ : Loc nD τ sig) → Buf (Elt F) ℓ) (k : ℕ) (c : Dev nD) : Valuation τ sig (Elt F) := atTrip cond1 body1 (entry1 m) k c

set_option maxRecDepth 100000 in
/-- The body moves the counter one step on. -/
theorem ctr1_step (X : Valuation τ sig (Elt F)) :
    after while1Ops0_10 X (Proc.devRef .tc main_v122_6) = addi (X (Proc.devRef .tc main_v122_6)) (constantI S_ 32 1#32) := by
  after_results
  rfl

/-- The counter is zero at loop 1's entry. -/
theorem ctr1_entry (m : (ℓ : Loc nD τ sig) → Buf (Elt F) ℓ) (c : Dev nD) : entry1 m c (Proc.devRef .tc main_v122_6) = fun _ => (0#32 : BitVec 32) := by
  simp only [entry1, afterL_cons, afterL_nil]
  after_reads_simp
  rfl

/-- Before the `k`-th condition the counter is `k`. -/
theorem trip1_ctr (m : (ℓ : Loc nD τ sig) → Buf (Elt F) ℓ) (c : Dev nD) : ∀ k, trip1 m k c (Proc.devRef .tc main_v122_6) = fun _ => Scf.iv 0#32 1#32 k
  | 0 => by rw [show trip1 m 0 c = entry1 m c from rfl, ctr1_entry, Scf.iv_zero]
  | k + 1 => by
    rw [show trip1 m (k + 1) c = afterL body1 (after cond1 (trip1 m k c)) from rfl]
    simp only [afterL_cons, afterL_nil]
    rw [ctr1_step, after_of_writes_sub while1Ops0_9 _ while1Ops0_9_writes (by decide +kernel), after_of_writes_sub while1Ops0_8 _ while1Ops0_8_writes (by decide +kernel), after_of_writes_sub while1Ops0_7 _ while1Ops0_7_writes (by decide +kernel), after_of_writes_sub while1Ops0_6 _ while1Ops0_6_writes (by decide +kernel), after_of_writes_sub while1Ops0_5 _ while1Ops0_5_writes (by decide +kernel), after_of_writes_sub while1Ops0_4 _ while1Ops0_4_writes (by decide +kernel), after_of_writes_sub while1Ops0_3 _ while1Ops0_3_writes (by decide +kernel), after_of_writes_sub while1Ops0_2 _ while1Ops0_2_writes (by decide +kernel), after_of_writes_sub while1Ops0_1 _ while1Ops0_1_writes (by decide +kernel), after_of_writes_sub while1Ops0 _ while1Ops0_writes (by decide +kernel), after_of_writes_sub cond1 _ cond1_writes (by decide +kernel), trip1_ctr m c k, Scf.iv_succ]
    rfl

set_option backward.isDefEq.respectTransparency.types false in
/-- The condition of loop 1, run for the `k`-th time, is true exactly when `k < 64`. -/
theorem cond1_spec (m : (ℓ : Loc nD τ sig) → Buf (Elt F) ℓ) : CondSpec (pcfgs (F := F)) defs₀ loops (main_while1_cond (F := F)) cond1 body1 (entry1 m) 64 := by
  intro k hk c bd
  have hctr := trip1_ctr m c k
  unfold main_while1_cond
  rw [wp_bind]
  iintro ⟨Hb, Hh⟩
  iapply (wp_hlo_within (Variants.lift Variants.none) (c : Thread nD τ) bd Set.univ (Pipeline.sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (Pipeline.sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (trip1 m k c) main_v122_6 HostLoop.idx0)
        (HloOp.result _ (trip1 m k c) main_while1c_c_34 HostLoop.idx0) = 1#1) (k < 64)
    rw [nullary_result_ne _ _ _ _ (by decide), nullary_result, hctr]
    exact Scf.cmpi_slt_iv_ub_iff (lb := 0#32) (ub := 64#32) (st := 1#32) (by decide) (show k ≤ Scf.trips 0#32 64#32 1#32 from hk)
  isplitl [Hb]; · iexact Hb
  rw [after_cons, after_cons, after_nil]; iexact Hh

/-! ## The run -/

/-- The buffers at the end of the program. -/
abbrev final (m : (ℓ : Loc nD τ sig) → Buf (Elt F) ℓ) (c : Dev nD) : Valuation τ sig (Elt F) :=
  afterL post (after cond1 (trip1 m 64 c))

local notation "𝕄" => MT nD τ sig Unit (Elt F) ℕ (Option PUnit) ℕ

/-- The program has no kernel, so no pipeline is admitted. -/
abbrev adm : (p : Fin 0) → (pcfgs (F := F) p).Adm := fun p => p.elim0
/-- No ticket is held. -/
abbrev tk : Fin 0 → Pipeline.Ticket (Ix := Unit) (Name := ℕ) (U := Option PUnit) (Lvl := ℕ) (nD := nD) (τ := τ) (pcfgs (F := F)) adm := fun j => j.elim0
/-- No semaphore has a level. -/
abbrev L : GSem nD τ sig → Finset Unit := fun _ => ∅
abbrev lv : GSem nD τ sig → Unit → ℕ := fun _ _ => 0
/-- What rides along beside the buffers. -/
abbrev Rw (c : Dev nD) : sProp 𝕄 := iprop(∃ W, owes (c : Thread nD τ) (0 : CellTallies nD τ sig Unit) W)

/-- A condition's specification with what rides along framed through it. -/
theorem framed {cond : Prog (TpuEff nD τ sig (Elt F) (HostLoop.Sig (Pipeline.Sig Λ₀ (Fin 0) fun p => (pcfgs (F := F) p).Adm) 2) .tc) (Elt F .i1)}
    {condOps : List (HloOp τ sig (Elt F))} {bodyI : List (List (HloOp τ sig (Elt F)))} {W₀ : Dev nD → Valuation τ sig (Elt F)} {n : ℕ}
    (hcond : CondSpec (pcfgs (F := F)) defs₀ loops cond condOps bodyI W₀ n) :
    LoopCond (Ix := Unit) (Name := ℕ) (U := Option PUnit) (Lvl := ℕ) (pcfgs (F := F)) defs₀ Variants.none loops Rw cond condOps bodyI W₀ n := fun k hk c bd => by
  have hc := hcond k hk c bd
  have hpost : ∀ v : Elt F .i1,
      iprop(iprop(⌜v = 1#1 ↔ k < n⌝ ∗ boundary (c : Thread nD τ) ∗ held (c : Thread nD τ) (Pipeline.ucRefs τ sig) (after condOps (atTrip condOps bodyI W₀ k c))) ∗ Rw c)
        ⊢ (iprop(⌜v = 1#1 ↔ k < n⌝ ∗ boundary (c : Thread nD τ) ∗ held (c : Thread nD τ) (Pipeline.ucRefs τ sig) (after condOps (atTrip condOps bodyI W₀ k c)) ∗ Rw c) : sProp 𝕄) := fun v => by
    iintro ⟨⟨%hv, Hb, Hh⟩, HR⟩
    isplitr; · ipureintro; exact hv
    isplitl [Hb]; · iexact Hb
    isplitl [Hh] <;> iassumption
  refine BIBase.Entails.trans ?_ (((sep_mono_left hc).trans (wp_frame_r _ _ _)).trans (wp_mono _ _ _ hpost))
  iintro ⟨Hb, Hh, HR⟩
  isplitl [Hb Hh]; · isplitl [Hb] <;> iassumption
  iexact HR

/-- The program as segments: stretches, loop 0, stretches, loop 1, stretches. -/
def segs (m : (ℓ : Loc nD τ sig) → Buf (Elt F) ℓ) : List (Pipeline.CSeg (pcfgs (F := F)) adm defs₀ Variants.none L lv loops tk) :=
  segsOf _ _ _ _ _ _ _ _ Rw pre pre_plain (launchContents m)
    ++ loopSeg _ _ _ _ _ _ _ _ 0 main_while0_cond main_while0_body rfl cond0 body0 body0_plain while0_body_chain 64 (entry0 m) Rw (framed (cond0_spec m))
      :: (segsOf _ _ _ _ _ _ _ _ Rw mid mid_plain (fun c => after cond0 (trip0 m 64 c))
        ++ loopSeg _ _ _ _ _ _ _ _ 1 main_while1_cond main_while1_body rfl cond1 body1 body1_plain while1_body_chain 64 (entry1 m) Rw (framed (cond1_spec m))
          :: segsOf _ _ _ _ _ _ _ _ Rw post post_plain (fun c => after cond1 (trip1 m 64 c)))

/-- The segments' fragments are the program's items. -/
theorem segs_prog (m : (ℓ : Loc nD τ sig) → Buf (Elt F) ℓ) : (segs m).map Pipeline.CSeg.prog
    = (pre.map fun ops => (seq ops : Prog _ PUnit)) ++ HostLoop.enter 0 :: ((mid.map fun ops => (seq ops : Prog _ PUnit))
      ++ HostLoop.enter 1 :: post.map fun ops => (seq ops : Prog _ PUnit)) := by
  unfold segs
  rw [List.map_append, List.map_cons, List.map_append, List.map_cons, segsOf_prog, segsOf_prog, segsOf_prog]
  rfl

/-- The segments chain from the launch to `final`. -/
theorem segs_chains (m : (ℓ : Loc nD τ sig) → Buf (Elt F) ℓ) :
    Pipeline.CSeg.Chains (fun c => iprop(held (c : Thread nD τ) (Pipeline.ucRefs τ sig) (launchContents m c) ∗ Rw c)) (segs m)
      (fun c => iprop(iprop(held (c : Thread nD τ) (Pipeline.ucRefs τ sig) (final m c)) ∗ ∃ W, owes (c : Thread nD τ) (0 : CellTallies nD τ sig Unit) W)) := by
  unfold segs
  exact Pipeline.CSeg.Chains.append (segsOf_chains _ _ _ _ _ _ _ _ Rw pre pre_plain _) ⟨fun _ => .rfl,
    Pipeline.CSeg.Chains.append (segsOf_chains _ _ _ _ _ _ _ _ Rw mid mid_plain _) ⟨fun _ => .rfl, segsOf_chains _ _ _ _ _ _ _ _ Rw post post_plain _⟩⟩

variable (m : (ℓ : Loc nD τ sig) → Buf (Elt F) ℓ) (ρ : Dev nD → PrngReg)

set_option maxRecDepth 100000 in
/-- THE RUN: from any memory with zero counters every weakly fair execution terminates with every tensor buffer at `final`. -/
theorem whole : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = final m c (Proc.devRef .tc b)) :=
  Pipeline.θ_run_regions_loop_kit (Ix := Unit) (Name := ℕ) (U := Option PUnit) (Lvl := ℕ) (J := Fin 0) (P := Fin 0) (Val := Elt F)
    (pcfgs (F := F)) adm (fun k => k.1.elim0) defs₀ Variants.none L lv loops tk m ρ main (segs m)
    (fun c Q => by
      rw [main_chain c]
      show wp _ _ _ (Pipeline.chain ((pre.map fun ops => (seq ops : Prog _ PUnit)) ++ HostLoop.enter 0 :: ((mid.map fun ops => (seq ops : Prog _ PUnit))
        ++ HostLoop.enter 1 :: post.map fun ops => (seq ops : Prog _ PUnit)))) Q ⊢ wp _ _ _ (Pipeline.chain ((segs m).map Pipeline.CSeg.prog)) Q
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (Pipeline.ucRefs τ sig) (launchContents m c) ∗ Rw c))
    (Tₙ := fun c => iprop(held (c : Thread nD τ) (Pipeline.ucRefs τ sig) (final m c)))
    (hch := segs_chains m)
    (hinit := by
      refine Pipeline.initEach L lv fun c => ?_
      rw [show unscopedBufs c (fun b => m ((c : Thread nD τ).loc b)) = held (c : Thread nD τ) (Pipeline.ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ Pipeline.ucRefs τ sig, s.mem ((c : Dev nD), b) = final m c b)
    (hfin := fun c s' => by
      unfold held
      iintro ⟨Hh, HSI⟩
      ihave Hr := (pointsTo_read_all (Pipeline.ucRefs τ sig) (fun b => ((c : Dev nD), b)) (fun b => final m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

set_option maxRecDepth 100000 in
/-- A buffer that nothing writes ends as launched. -/
theorem final_keep (c : Dev nD) (r : Ref sig .tc) (h : r ∉ pre_W) (h0 : r ∉ loop0_W) (h1 : r ∉ mid_W) (h2 : r ∉ loop1_W) (h3 : r ∉ post_W) :
    final m c (Proc.devRef .tc r) = launchContents m c (Proc.devRef .tc r) :=
  (post_keeps.afterL h3 _).trans <| (loop1_keeps cond1 List.mem_cons_self _ r h2).trans <| (loop1_keeps.atTrip h2 _ c 64).trans <|
    (mid_keeps.afterL h1 _).trans <| (loop0_keeps cond0 List.mem_cons_self _ r h0).trans <| (loop0_keeps.atTrip h0 _ c 64).trans (pre_keeps.afterL h _)

set_option maxRecDepth 100000 in
/-- The arguments end as launched and every counter at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => by
    have k : ∀ (c : Dev nD) (a : Ref sig .tc), (Proc.devRef .tc a : DevRef τ sig).isScoped = false → a ∉ pre_W → a ∉ loop0_W → a ∉ mid_W → a ∉ loop1_W → a ∉ post_W →
        r.2.mem ((c.tc : Thread nD τ).loc a) = m ((c.tc : Thread nD τ).loc a) :=
      fun c a hs h0 h1 h2 h3 h4 => (h c a hs).trans (final_keep m c a h0 h1 h2 h3 h4)
    refine ⟨fun c => ⟨?_, ?_, ?_, ?_, ?_⟩, sem_eq_zero_of_no_sems rfl r.2⟩
      <;> exact k c _ rfl (by decide +kernel) (by decide +kernel) (by decide +kernel) (by decide +kernel) (by decide +kernel)) (whole m ρ)

end Cert.ReferenceIdeal.Ref
-- ==== Proof.Units.lean ====
module

public import proofs.«01_k».proof.Proof.Gen.KernelIdeal.Skeleton

@[expose] public section

/-! # What the two kernels do for one chunk of one head

Each kernel body is sixteen copies of one calculation: four chunks of 128 tokens, four heads in each. Here the calculation is
written once, for a head `h`, over the blocks of the chunk that it reads. -/

noncomputable section

namespace Cert.KernelIdeal.Units

open Cert.KernelIdeal.Gen Idealize.ShloMosaic

variable {F : FTy → Type} [FloatOps F] [Named F]

/-- The logarithm of head `h`'s decay per token. -/
def lg : ℕ → F .f32
  | 0 => Named.named κ "lg0" 0xBD020AEC#32
  | 1 => Named.named κ "lg1" 0xBC8102B3#32
  | 2 => Named.named κ "lg2" 0xBC0080AC#32
  | _ => Named.named κ "lg3" 0xBB80402B#32

/-- Head `h`'s decay over a whole chunk, at every entry of a state. -/
def gch : ℕ → FVec F S256x512 .f32
  | 0 => broadcastTo S256x512 (exp (broadcast S1x1 (Named.named κ "lgc0" 0xC0820AEC#32))) broadcasts_S1x1_S256x512
  | 1 => broadcast S256x512 (Named.named κ "gch1" 0x3E08698E#32)
  | 2 => broadcast S256x512 (Named.named κ "gch2" 0x3EBB9DB9#32)
  | _ => broadcast S256x512 (Named.named κ "gch3" 0x3F1B1EB1#32)

/-- The decay between two tokens of a chunk: nothing flows backwards in time. -/
def decay (h : ℕ) : FVec F S128x128 .f32 :=
  let diff : FVec F S128x128 .f32 :=
    sitofp .f32 (subi (iota .tc S128x128 32 [0] iota_S128x128_d0_w32) (iota .tc S128x128 32 [1] iota_S128x128_d1_w32))
  let zero : FVec F S128x128 .f32 := broadcast S128x128 (Scalar.ofBits .f32 0x00000000#32)
  select (cmpf .oge diff zero) (exp (mulf (broadcast S128x128 (lg h)) (maximumf diff zero))) zero

/-- The position of a token in its chunk. -/
def pos : FVec F S128x1 .f32 := sitofp .f32 (iota .tc S128x1 32 [0] iota_S128x1_d0_w32)

/-- The decay from the chunk's start up to and with each token. -/
def xi (h : ℕ) : FVec F S128x1 .f32 :=
  exp (mulf (broadcast S128x1 (lg h)) (addf pos (broadcast S128x1 (Scalar.ofBits .f32 0x3F800000#32))))

/-- The decay from each token to the chunk's end. -/
def zeta (h : ℕ) : FVec F S128x1 .f32 :=
  exp (mulf (broadcast S128x1 (lg h)) (subf (broadcast S128x1 (Scalar.ofBits .f32 0x42FE0000#32)) pos))

/-- A block of keys, scaled by one over the square root of their width. -/
def keys (k : Vec F S128x256 .bf16) : FVec F S128x256 .f32 :=
  mulf (extf .f32 k bitsLt_bf16_f32) (broadcast S128x256 (Scalar.ofBits .f32 0x3D800000#32))

/-- The scaled keys, rounded to bfloat16. -/
def keysR (k : Vec F S128x256 .bf16) : FVec F S128x256 .bf16 := truncf .bf16 (keys k) bitsLt_bf16_f32

/-- A state as a matrix, and rounded. -/
def mat (s : Vec F S1x256x512 .f32) : FVec F S256x512 .f32 := shapeCast S256x512 s shapeCasts_S1x256x512_S256x512
def matR (s : Vec F S1x256x512 .f32) : FVec F S256x512 .bf16 := truncf .bf16 (mat s) bitsLt_bf16_f32

/-- The attention scores inside a chunk, with the decay. -/
def scores (h : ℕ) (q : Vec F S128x256 .bf16) (k : Vec F S128x256 .bf16) : FVec F S128x128 .bf16 :=
  truncf .bf16 (mulf (matmul dot_S128x256_S128x256_S128x128_1_1_0_0_n_n none q (keysR k) (constant S128x128 .f32 0x00000000#32)) (decay h))
    bitsLt_bf16_f32

/-- The keys weighted by their decay to the chunk's end. -/
def keysZ (h : ℕ) (k : Vec F S128x256 .bf16) : FVec F S128x256 .bf16 :=
  truncf .bf16 (mulf (keys k) (broadcastTo S128x256 (zeta h) broadcasts_S128x1_S128x256)) bitsLt_bf16_f32

/-- The retention's result for a chunk: what its own tokens give, and what the state before it gives. -/
def ret (h : ℕ) (q k : Vec F S128x256 .bf16) (v : Vec F S128x512 .bf16) (s : Vec F S1x256x512 .f32) : FVec F S128x512 .f32 :=
  addf (matmul dot_S128x128_S128x512_S128x512_1_0_0_1_n_n none (scores h q k) v (constant S128x512 .f32 0x00000000#32))
    (mulf (matmul dot_S128x256_S256x512_S128x512_1_0_0_1_n_n none q (matR s) (constant S128x512 .f32 0x00000000#32))
      (broadcastTo S128x512 (xi h) broadcasts_S128x1_S128x512))

/-- The state after the chunk. -/
def next (h : ℕ) (k : Vec F S128x256 .bf16) (v : Vec F S128x512 .bf16) (s : Vec F S1x256x512 .f32) : FVec F S1x256x512 .f32 :=
  shapeCast S1x256x512
    (addf (mulf (mat s) (gch h))
      (matmul dot_S128x256_S128x512_S256x512_0_0_1_1_n_n none (keysZ h k) v (constant S256x512 .f32 0x00000000#32)))
    shapeCasts_S256x512_S1x256x512

/-- The state before the chunk, as the backward pass reads it. -/
def kept (s : Vec F S1x256x512 .f32) : FVec F S1x1x256x512 .bf16 := shapeCast S1x1x256x512 (matR s) shapeCasts_S256x512_S1x1x256x512

/-- The mean along a row. -/
def mean (x : FVec F S128x512 .f32) : FVec F S128x1 .f32 :=
  divf (shapeCast S128x1 (multiReduction .add [1] S128 x 0x00000000#32 reduces_S128x512_S128 (.inl rfl) rfl) shapeCasts_S128_S128x1)
    (broadcast S128x1 (Scalar.ofBits .f32 0x44000000#32))

/-- A row less its mean. -/
def centred (x : FVec F S128x512 .f32) : FVec F S128x512 .f32 := subf x (broadcastTo S128x512 (mean x) broadcasts_S128x1_S128x512)

/-- A row normalised to mean 0 and variance 1. -/
def normed (x : FVec F S128x512 .f32) : FVec F S128x512 .f32 :=
  mulf (centred x)
    (broadcastTo S128x512
      (rsqrt (addf (mean (mulf (centred x) (centred x))) (broadcast S128x1 (Scalar.ofBits .f32 0x358637BD#32)))) broadcasts_S128x1_S128x512)

/-- The head's normalised and gated result. -/
def gated (o : FVec F S128x512 .f32) (r : Vec F S128x512 .bf16) (g b : Vec F S1x512 .f32) : FVec F S128x512 .bf16 :=
  truncf .bf16
    (mulf (addf (mulf (normed o) (broadcastTo S128x512 g broadcasts_S1x512_S128x512)) (broadcastTo S128x512 b broadcasts_S1x512_S128x512))
      (mulf (extf .f32 r bitsLt_bf16_f32) (logistic (extf .f32 r bitsLt_bf16_f32))))
    bitsLt_bf16_f32

/-- The gradient of the scores inside a chunk. -/
def dscores (h : ℕ) (v d : Vec F S128x512 .bf16) : FVec F S128x128 .bf16 :=
  truncf .bf16 (mulf (matmul dot_S128x512_S128x512_S128x128_1_1_0_0_n_n none d v (constant S128x128 .f32 0x00000000#32)) (decay h)) bitsLt_bf16_f32

/-- The result's gradient, weighted by the decay from the chunk's start. -/
def dcross (h : ℕ) (d : Vec F S128x512 .bf16) : FVec F S128x512 .bf16 :=
  truncf .bf16 (mulf (extf .f32 d bitsLt_bf16_f32) (broadcastTo S128x512 (xi h) broadcasts_S128x1_S128x512)) bitsLt_bf16_f32

/-- The gradient of the queries. -/
def dq (h : ℕ) (k : Vec F S128x256 .bf16) (v d : Vec F S128x512 .bf16) (st : Vec F S1x1x256x512 .bf16) : FVec F S128x256 .bf16 :=
  truncf .bf16
    (addf (matmul dot_S128x128_S128x256_S128x256_1_0_0_1_n_n none (dscores h v d) (keysR k) (constant S128x256 .f32 0x00000000#32))
      (matmul dot_S128x512_S256x512_S128x256_1_1_0_0_n_n none (dcross h d) (shapeCast S256x512 st shapeCasts_S1x1x256x512_S256x512)
        (constant S128x256 .f32 0x00000000#32)))
    bitsLt_bf16_f32

/-- The gradient of the keys. -/
def dk (h : ℕ) (q : Vec F S128x256 .bf16) (v d : Vec F S128x512 .bf16) (g : Vec F S1x256x512 .f32) : FVec F S128x256 .bf16 :=
  truncf .bf16
    (mulf
      (addf (matmul dot_S128x128_S128x256_S128x256_0_0_1_1_n_n none (dscores h v d) q (constant S128x256 .f32 0x00000000#32))
        (mulf (matmul dot_S128x512_S256x512_S128x256_1_1_0_0_n_n none v (matR g) (constant S128x256 .f32 0x00000000#32))
          (broadcastTo S128x256 (zeta h) broadcasts_S128x1_S128x256)))
      (broadcast S128x256 (Scalar.ofBits .f32 0x3D800000#32)))
    bitsLt_bf16_f32

/-- The gradient of the values. -/
def dv (h : ℕ) (q k : Vec F S128x256 .bf16) (d : Vec F S128x512 .bf16) (g : Vec F S1x256x512 .f32) : FVec F S128x512 .bf16 :=
  truncf .bf16
    (addf (matmul dot_S128x128_S128x512_S128x512_0_0_1_1_n_n none (scores h q k) d (constant S128x512 .f32 0x00000000#32))
      (matmul dot_S128x256_S256x512_S128x512_1_0_0_1_n_n none (keysZ h k) (matR g) (constant S128x512 .f32 0x00000000#32)))
    bitsLt_bf16_f32

/-- The gradient of the state before the chunk. -/
def dstate (h : ℕ) (q : Vec F S128x256 .bf16) (d : Vec F S128x512 .bf16) (g : Vec F S1x256x512 .f32) : FVec F S1x256x512 .f32 :=
  shapeCast S1x256x512
    (addf (mulf (mat g) (gch h))
      (matmul dot_S128x256_S128x512_S256x512_0_0_1_1_n_n none q (dcross h d) (constant S256x512 .f32 0x00000000#32)))
    shapeCasts_S256x512_S1x256x512

end Cert.KernelIdeal.Units

end
-- ==== Proof.Carried.lean ====
module

public import proofs.«01_k».proof.Proof.Gen.KernelIdeal.Skeleton
public import Idealize.ShloMosaic.Lib.Pipeline.ReadBack

@[expose] public section

set_option maxRecDepth 16384

/-! # A state carried through sixteen units of work

Both kernels carry one matrix per head through their chunks: at each chunk they load a head's matrix, compute the next one and store
it. The stores pile up in one list; here each load from that list is shown to be the matrix of the plain recursion over the chunks. -/

noncomputable section

namespace Cert.KernelIdeal.Carried

open Cert.KernelIdeal.Gen
open Idealize.ShloMosaic

variable {F : FTy → Type} [FloatOps F] [Named F]

/-- The rectangle of head `h` in the carried state. -/
def boxS (h : ℕ) : Rect S4x256x512 := Rect.unit ![h % 4, 0, 0] S1x256x512.size (by
  have := Nat.mod_lt h (show 0 < 4 by decide)
  intro a; fin_cases a <;> simp <;> omega)

/-- A family over chunks and heads, last first. -/
def listed {α : Type} (f : ℕ → ℕ → α) : List α :=
  [f 3 3, f 3 2, f 3 1, f 3 0, f 2 3, f 2 2, f 2 1, f 2 0, f 1 3, f 1 2, f 1 1, f 1 0, f 0 3, f 0 2, f 0 1, f 0 0]

/-- Two families agree where they agree on four chunks and four heads. -/
theorem listed_congr {α : Type} {f g : ℕ → ℕ → α} (h : ∀ n < 4, ∀ k < 4, f n k = g n k) : listed f = listed g := by
  have e (n k : ℕ) (hn : n < 4 := by decide) (hk : k < 4 := by decide) : f n k = g n k := h n hn k hk
  simp only [listed, e 0 0, e 0 1, e 0 2, e 0 3, e 1 0, e 1 1, e 1 2, e 1 3, e 2 0, e 2 1, e 2 2, e 2 3, e 3 0, e 3 1, e 3 2, e 3 3]

/-- A member of such a family is the value at some chunk and head. -/
theorem mem_listed {α : Type} {f : ℕ → ℕ → α} {p : α} (h : p ∈ listed f) : ∃ n < 4, ∃ k < 4, p = f n k := by
  simp only [listed, List.mem_cons, List.not_mem_nil, or_false] at h
  rcases h with h | h | h | h | h | h | h | h | h | h | h | h | h | h | h | h <;> exact ⟨_, by decide, _, by decide, h⟩

variable {arg : Memref sig .tc .vmem S4x256x512 .f32}
  (next : ℕ → ℕ → Vec F S1x256x512 .f32 → Vec F S1x256x512 .f32) (s : ℕ → Vec F S1x256x512 .f32)

/-- Head `h`'s matrix before step `n`: `next h n` takes it to the next. -/
def st (h : ℕ) : ℕ → Vec F S1x256x512 .f32
  | 0 => s h
  | n + 1 => next h n (st h n)

/-- The store of step `n`, head `h`. -/
def pieceS (n h : ℕ) : View.Piece (Elt F) S4x256x512 .f32 := ⟨boxS h, st next s h (n + 1)⟩

/-- A load of one head's matrix after a store of the same head's reads that store; a store of another head's does not matter. -/
theorem load_hit (h : ℕ) (w : (boxS h).shape.Idx → Elt F .f32) (L : List (View.Piece (Elt F) S4x256x512 .f32)) :
    arg.view.readCov (⟨boxS h, w⟩ :: L) (boxS h).toLoadRect = w := View.readCov_cons_toLoadRect _ _ _ _
theorem load_skip (n g h : ℕ) (hgh : LoadRect.disj (boxS g) (boxS h).toLoadRect = true) (L : List (View.Piece (Elt F) S4x256x512 .f32)) :
    arg.view.readCov (pieceS next s n g :: L) (boxS h).toLoadRect = arg.view.readCov L (boxS h).toLoadRect := View.readCov_skip _ _ _ _ _ hgh

/-- The four loads of a chunk after the stores of the chunk before. -/
theorem load0 (n : ℕ) (L : List (View.Piece (Elt F) S4x256x512 .f32)) :
    arg.view.readCov (pieceS next s n 3 :: pieceS next s n 2 :: pieceS next s n 1 :: pieceS next s n 0 :: L) (boxS 0).toLoadRect = st next s 0 (n + 1) := by
  rw [load_skip _ _ _ _ _ (by rfl), load_skip _ _ _ _ _ (by rfl), load_skip _ _ _ _ _ (by rfl)]
  exact load_hit _ _ _
theorem load1 (n m : ℕ) (L : List (View.Piece (Elt F) S4x256x512 .f32)) :
    arg.view.readCov (pieceS next s m 0 :: pieceS next s n 3 :: pieceS next s n 2 :: pieceS next s n 1 :: L) (boxS 1).toLoadRect = st next s 1 (n + 1) := by
  rw [load_skip _ _ _ _ _ (by rfl), load_skip _ _ _ _ _ (by rfl), load_skip _ _ _ _ _ (by rfl)]
  exact load_hit _ _ _
theorem load2 (n m : ℕ) (L : List (View.Piece (Elt F) S4x256x512 .f32)) :
    arg.view.readCov (pieceS next s m 1 :: pieceS next s m 0 :: pieceS next s n 3 :: pieceS next s n 2 :: L) (boxS 2).toLoadRect = st next s 2 (n + 1) := by
  rw [load_skip _ _ _ _ _ (by rfl), load_skip _ _ _ _ _ (by rfl), load_skip _ _ _ _ _ (by rfl)]
  exact load_hit _ _ _
theorem load3 (n m : ℕ) (L : List (View.Piece (Elt F) S4x256x512 .f32)) :
    arg.view.readCov (pieceS next s m 2 :: pieceS next s m 1 :: pieceS next s m 0 :: pieceS next s n 3 :: L) (boxS 3).toLoadRect = st next s 3 (n + 1) := by
  rw [load_skip _ _ _ _ _ (by rfl), load_skip _ _ _ _ _ (by rfl), load_skip _ _ _ _ _ (by rfl)]
  exact load_hit _ _ _

/-- What a run says of its stores: `stores k` is the list up to the one before step `k / 4 + 1`, head `k % 4`; it begins with the
    first step's four and grows by one store at a time, each computed from the matrix loaded from the list before it. -/
structure Stores (arg : Memref sig .tc .vmem S4x256x512 .f32) (stores : ℕ → List (View.Piece (Elt F) S4x256x512 .f32)) : Prop where
  zero : stores 0 = [pieceS next s 0 3, pieceS next s 0 2, pieceS next s 0 1, pieceS next s 0 0]
  succ : ∀ k < 12, stores (k + 1)
    = ⟨boxS (k % 4), next (k % 4) (k / 4 + 1) (arg.view.readCov (stores k) (boxS (k % 4)).toLoadRect)⟩ :: stores k

variable {next s} {stores : ℕ → List (View.Piece (Elt F) S4x256x512 .f32)} (H : Stores next s arg stores)
include H

/-- If the load gives the matrix of the recursion then the store is the recursion's. -/
theorem step (k : ℕ) (hk : k < 12) (h : arg.view.readCov (stores k) (boxS (k % 4)).toLoadRect = st next s (k % 4) (k / 4 + 1)) :
    stores (k + 1) = pieceS next s (k / 4 + 1) (k % 4) :: stores k := by
  rw [H.succ k hk, h]; rfl

/-- One whole chunk's stores. -/
theorem chunk (n : ℕ) (hn : n < 3) (L : List (View.Piece (Elt F) S4x256x512 .f32))
    (h : stores (4 * n) = pieceS next s n 3 :: pieceS next s n 2 :: pieceS next s n 1 :: pieceS next s n 0 :: L) :
    stores (4 * n + 1) = pieceS next s (n + 1) 0 :: stores (4 * n) ∧ stores (4 * n + 2) = pieceS next s (n + 1) 1 :: stores (4 * n + 1)
      ∧ stores (4 * n + 3) = pieceS next s (n + 1) 2 :: stores (4 * n + 2) ∧ stores (4 * n + 4) = pieceS next s (n + 1) 3 :: stores (4 * n + 3) := by
  have go (r : ℕ) (hr : r < 4) (e : arg.view.readCov (stores (4 * n + r)) (boxS r).toLoadRect = st next s r (n + 1)) :
      stores (4 * n + r + 1) = pieceS next s (n + 1) r :: stores (4 * n + r) := by
    have := step H (4 * n + r) (by omega)
    rw [show (4 * n + r) % 4 = r by omega, show (4 * n + r) / 4 = n by omega] at this
    exact this e
  have a : stores (4 * n + 1) = pieceS next s (n + 1) 0 :: stores (4 * n) := go 0 (by omega) (by rw [Nat.add_zero, h]; exact load0 ..)
  have b : stores (4 * n + 2) = pieceS next s (n + 1) 1 :: stores (4 * n + 1) := go 1 (by omega) (by rw [a, h]; exact load1 ..)
  have d : stores (4 * n + 3) = pieceS next s (n + 1) 2 :: stores (4 * n + 2) := go 2 (by omega) (by rw [b, a, h]; exact load2 ..)
  exact ⟨a, b, d, go 3 (by omega) (by rw [d, b, a, h]; exact load3 ..)⟩

/-- The last four stores of every chunk's list are that chunk's. -/
theorem head : ∀ n < 4, ∃ L, stores (4 * n) = pieceS next s n 3 :: pieceS next s n 2 :: pieceS next s n 1 :: pieceS next s n 0 :: L
  | 0, _ => ⟨[], H.zero⟩
  | n + 1, hn => by
    obtain ⟨L, h⟩ := head n (by omega)
    obtain ⟨a, b, d, e⟩ := chunk H n (by omega) L h
    exact ⟨stores (4 * n), by rw [show 4 * (n + 1) = 4 * n + 4 by omega, e, d, b, a]⟩

/-- A load at a later chunk gives the matrix of the recursion. -/
theorem load_eq (n : ℕ) (hn : n < 3) (h : ℕ) (hh : h < 4) :
    arg.view.readCov (stores (4 * n + h)) (boxS h).toLoadRect = st next s h (n + 1) := by
  obtain ⟨L, e0⟩ := head H n (by omega)
  obtain ⟨e1, e2, e3, -⟩ := chunk H n (by omega) L e0
  interval_cases h
  · rw [Nat.add_zero, e0]; exact load0 ..
  · rw [e1, e0]; exact load1 ..
  · rw [e2, e1, e0]; exact load2 ..
  · rw [e3, e2, e1, e0]; exact load3 ..

/-- At the end each head's matrix is the one after four chunks. -/
theorem final_eq (h : ℕ) (hh : h < 4) : arg.view.readCov (stores 12) (boxS h).toLoadRect = st next s h 4 := by
  obtain ⟨L, e⟩ := head H 3 (by omega)
  rw [show 12 = 4 * 3 from rfl, e]
  interval_cases h
  · exact load0 ..
  · rw [load_skip _ _ _ _ _ (by rfl), load_skip _ _ _ _ _ (by rfl)]; exact load_hit _ _ _
  · rw [load_skip _ _ _ _ _ (by rfl)]; exact load_hit _ _ _
  · exact load_hit _ _ _

end Cert.KernelIdeal.Carried

end
-- ==== Proof.FwdPieces.lean ====
module

public import proofs.«01_k».proof.Proof.FwdBody
public import proofs.«01_k».proof.Proof.Units
public import proofs.«01_k».proof.Proof.Carried
public import Idealize.ShloMosaic.Lib.Pipeline.ReadBack

@[expose] public section

set_option maxRecDepth 16384

/-! # The forward kernel's pieces, chunk by chunk and head by head

The run of one grid point leaves lists of pieces. Each list is one family over the point's four chunks and four heads. -/

noncomputable section

namespace Cert.KernelIdeal.Fwd

open Cert.KernelIdeal.Gen
open Cert.KernelIdeal.Carried (boxS listed listed_congr)
open Idealize.ShloMosaic

variable {F : FTy → Type} [FloatOps F] [Named F]

/-- The rectangle of chunk `n`, head `h` in a block of queries or keys, -/
def boxQ (n h : ℕ) : Rect S512x1024 := Rect.unit ![128 * (n % 4), 256 * (h % 4)] S128x256.size (by
  have := Nat.mod_lt n (show 0 < 4 by decide); have := Nat.mod_lt h (show 0 < 4 by decide)
  intro a; fin_cases a <;> simp <;> omega)
/-- in a block as wide as the values, -/
def boxV (n h : ℕ) : Rect S512x2048 := Rect.unit ![128 * (n % 4), 512 * (h % 4)] S128x512.size (by
  have := Nat.mod_lt n (show 0 < 4 by decide); have := Nat.mod_lt h (show 0 < 4 by decide)
  intro a; fin_cases a <;> simp <;> omega)
/-- of head `h` in a row of parameters, -/
def boxP (h : ℕ) : Rect S1x2048 := Rect.unit ![0, 512 * (h % 4)] S1x512.size (by
  have := Nat.mod_lt h (show 0 < 4 by decide)
  intro a; fin_cases a <;> simp <;> omega)
/-- and of chunk `n`, head `h` in the block of kept states. -/
def boxK (n h : ℕ) : Rect S4x4x256x512 := Rect.unit ![h % 4, n % 4, 0, 0] S1x1x256x512.size (by
  have := Nat.mod_lt n (show 0 < 4 by decide); have := Nat.mod_lt h (show 0 < 4 by decide)
  intro a; fin_cases a <;> simp <;> omega)

variable {arg1 : Memref sig .tc .vmem S512x1024 .bf16} (harg1 : arg1.IsWhole)
  {arg2 : Memref sig .tc .vmem S512x1024 .bf16} (harg2 : arg2.IsWhole)
  {arg3 : Memref sig .tc .vmem S512x2048 .bf16} (harg3 : arg3.IsWhole)
  {arg4 : Memref sig .tc .vmem S512x2048 .bf16} (harg4 : arg4.IsWhole)
  {arg5 : Memref sig .tc .vmem S1x2048 .f32} (harg5 : arg5.IsWhole)
  {arg6 : Memref sig .tc .vmem S1x2048 .f32} (harg6 : arg6.IsWhole)
  {arg7 : Memref sig .tc .vmem S512x2048 .bf16} (harg7 : arg7.IsWhole)
  {arg8 : Memref sig .tc .vmem S512x2048 .f32} (harg8 : arg8.IsWhole)
  {arg9 : Memref sig .tc .vmem S4x4x256x512 .bf16} (harg9 : arg9.IsWhole)
  {arg10 : Memref sig .tc .vmem S4x256x512 .f32} (harg10 : arg10.IsWhole)
  (x0 : Vec F S512x1024 .bf16) (x1 : Vec F S512x1024 .bf16) (x2 : Vec F S512x2048 .bf16) (x3 : Vec F S512x2048 .bf16)
  (x4 : Vec F S1x2048 .f32) (x5 : Vec F S1x2048 .f32) (c : Dev nD) (i : grid0.Coords) (s : Vec F S4x256x512 .f32)

/-- A chunk's queries or keys of one head, as loaded; its values or gate; a head's parameters. -/
def ldQ {m : Memref sig .tc .vmem S512x1024 .bf16} (hm : m.IsWhole) (x : Vec F S512x1024 .bf16) (n h : ℕ) : Vec F S128x256 .bf16 :=
  View.readAt (Elt F) m.view (boxQ n h).toLoadRect (hm.unread x)
def ldV {m : Memref sig .tc .vmem S512x2048 .bf16} (hm : m.IsWhole) (x : Vec F S512x2048 .bf16) (n h : ℕ) : Vec F S128x512 .bf16 :=
  View.readAt (Elt F) m.view (boxV n h).toLoadRect (hm.unread x)
def ldP {m : Memref sig .tc .vmem S1x2048 .f32} (hm : m.IsWhole) (x : Vec F S1x2048 .f32) (h : ℕ) : Vec F S1x512 .f32 :=
  View.readAt (Elt F) m.view (boxP h).toLoadRect (hm.unread x)

/-- Head `h`'s state before the point's chunk `n`. -/
abbrev st : ℕ → ℕ → Vec F S1x256x512 .f32 :=
  Carried.st (fun h n => Units.next h (ldQ harg2 x1 n h) (ldV harg3 x2 n h))
    (fun h => View.readAt (Elt F) arg10.view (boxS h).toLoadRect (harg10.unread s))

/-- What is stored for chunk `n`, head `h` into the kept states, -/
def pieceK (n h : ℕ) : View.Piece (Elt F) S4x4x256x512 .bf16 := ⟨boxK n h, Units.kept (st harg2 harg3 harg10 x1 x2 s h n)⟩
/-- into the retention's result, -/
def pieceO (n h : ℕ) : View.Piece (Elt F) S512x2048 .f32 :=
  ⟨boxV n h, Units.ret h (ldQ harg1 x0 n h) (ldQ harg2 x1 n h) (ldV harg3 x2 n h) (st harg2 harg3 harg10 x1 x2 s h n)⟩
/-- and into the gated result. -/
def pieceR (n h : ℕ) : View.Piece (Elt F) S512x2048 .bf16 :=
  ⟨boxV n h, Units.gated (Units.ret h (ldQ harg1 x0 n h) (ldQ harg2 x1 n h) (ldV harg3 x2 n h) (st harg2 harg3 harg10 x1 x2 s h n))
    (ldV harg4 x3 n h) (ldP harg5 x4 h) (ldP harg6 x5 h)⟩

/-- The stores into the carried state up to the one before chunk `k / 4 + 1`, head `k % 4`, as the run lists them. -/
def stores : ℕ → List (View.Piece (Elt F) S4x256x512 .f32)
  | 0 => run.sl.HS0_4 harg2 harg3 harg10 x1 x2 c s
  | 1 => run.sl.HS0_5 harg2 harg3 harg10 x1 x2 c s
  | 2 => run.sl.HS0_6 harg2 harg3 harg10 x1 x2 c s
  | 3 => run.sl.HS0_7 harg2 harg3 harg10 x1 x2 c s
  | 4 => run.sl.HS0_8 harg2 harg3 harg10 x1 x2 c s
  | 5 => run.sl.HS0_9 harg2 harg3 harg10 x1 x2 c s
  | 6 => run.sl.HS0_10 harg2 harg3 harg10 x1 x2 c s
  | 7 => run.sl.HS0_11 harg2 harg3 harg10 x1 x2 c s
  | 8 => run.sl.HS0_12 harg2 harg3 harg10 x1 x2 c s
  | 9 => run.sl.HS0_13 harg2 harg3 harg10 x1 x2 c s
  | 10 => run.sl.HS0_14 harg2 harg3 harg10 x1 x2 c s
  | 11 => run.sl.HS0_15 harg2 harg3 harg10 x1 x2 c s
  | _ => (run harg1 harg2 harg3 harg4 harg5 harg6 harg7 harg8 harg9 harg10 x0 x1 x2 x3 x4 x5 c i s).2.2.2.1

/-- Each list adds the store of one chunk and head, computed from the state it loads. -/
theorem stores_ok : Carried.Stores (fun h n => Units.next h (ldQ harg2 x1 n h) (ldV harg3 x2 n h))
    (fun h => View.readAt (Elt F) arg10.view (boxS h).toLoadRect (harg10.unread s)) arg10 (stores harg1 harg2 harg3 harg4 harg5 harg6 harg7 harg8 harg9 harg10 x0 x1 x2 x3 x4 x5 c i s) where
  zero := rfl
  succ := fun
    | 0, _ => rfl | 1, _ => rfl | 2, _ => rfl | 3, _ => rfl | 4, _ => rfl | 5, _ => rfl
    | 6, _ => rfl | 7, _ => rfl | 8, _ => rfl | 9, _ => rfl | 10, _ => rfl | 11, _ => rfl
    | k + 12, h => absurd h (by omega)

/-- The state that the run loads for chunk `n`, head `h`. -/
def loaded (h : ℕ) : ℕ → Vec F S1x256x512 .f32
  | 0 => View.readAt (Elt F) arg10.view (boxS h).toLoadRect (harg10.unread s)
  | n + 1 => arg10.view.readCov ((stores harg1 harg2 harg3 harg4 harg5 harg6 harg7 harg8 harg9 harg10 x0 x1 x2 x3 x4 x5 c i s) (4 * n + h)) (boxS h).toLoadRect

/-- It is the state of the recursion over the chunks. -/
theorem loaded_eq : ∀ n < 4, ∀ h < 4, (loaded harg1 harg2 harg3 harg4 harg5 harg6 harg7 harg8 harg9 harg10 x0 x1 x2 x3 x4 x5 c i s) h n = st harg2 harg3 harg10 x1 x2 s h n
  | 0, _, h, _ => rfl
  | n + 1, hn, h, hh => Carried.load_eq (stores_ok harg1 harg2 harg3 harg4 harg5 harg6 harg7 harg8 harg9 harg10 x0 x1 x2 x3 x4 x5 c i s)
      n (by omega) h hh

/-- At the point's end each head's state is the one after four chunks. -/
theorem final_state (h : ℕ) (hh : h < 4) :
    arg10.view.readCov (run harg1 harg2 harg3 harg4 harg5 harg6 harg7 harg8 harg9 harg10 x0 x1 x2 x3 x4 x5 c i s).2.2.2.1 (boxS h).toLoadRect = st harg2 harg3 harg10 x1 x2 s h 4 :=
  Carried.final_eq (stores_ok harg1 harg2 harg3 harg4 harg5 harg6 harg7 harg8 harg9 harg10 x0 x1 x2 x3 x4 x5 c i s) h hh

/-- What the run stores into the kept states, -/
theorem run_kept : (run harg1 harg2 harg3 harg4 harg5 harg6 harg7 harg8 harg9 harg10 x0 x1 x2 x3 x4 x5 c i s).2.2.1 = listed (pieceK harg2 harg3 harg10 x1 x2 s) := by
  refine Eq.trans (b := listed fun n h => ⟨boxK n h, Units.kept ((loaded harg1 harg2 harg3 harg4 harg5 harg6 harg7 harg8 harg9 harg10 x0 x1 x2 x3 x4 x5 c i s) h n)⟩) rfl (listed_congr fun n hn h hh => ?_)
  rw [loaded_eq _ _ _ _ _ _ _ _ _ _ _ _ _ _ _ _ _ _ _ n hn h hh]; rfl

/-- into the retention's result, -/
theorem run_ret : (run harg1 harg2 harg3 harg4 harg5 harg6 harg7 harg8 harg9 harg10 x0 x1 x2 x3 x4 x5 c i s).2.1 = listed (pieceO harg1 harg2 harg3 harg10 x0 x1 x2 s) := by
  refine Eq.trans (b := listed fun n h => ⟨boxV n h, Units.ret h (ldQ harg1 x0 n h) (ldQ harg2 x1 n h) (ldV harg3 x2 n h) ((loaded harg1 harg2 harg3 harg4 harg5 harg6 harg7 harg8 harg9 harg10 x0 x1 x2 x3 x4 x5 c i s) h n)⟩) rfl (listed_congr fun n hn h hh => ?_)
  rw [loaded_eq _ _ _ _ _ _ _ _ _ _ _ _ _ _ _ _ _ _ _ n hn h hh]; rfl

/-- and into the gated result. -/
theorem run_gated : (run harg1 harg2 harg3 harg4 harg5 harg6 harg7 harg8 harg9 harg10 x0 x1 x2 x3 x4 x5 c i s).1 = listed (pieceR harg1 harg2 harg3 harg4 harg5 harg6 harg10 x0 x1 x2 x3 x4 x5 s) := by
  refine Eq.trans (b := listed fun n h => ⟨boxV n h, Units.gated (Units.ret h (ldQ harg1 x0 n h) (ldQ harg2 x1 n h) (ldV harg3 x2 n h) ((loaded harg1 harg2 harg3 harg4 harg5 harg6 harg7 harg8 harg9 harg10 x0 x1 x2 x3 x4 x5 c i s) h n))
      (ldV harg4 x3 n h) (ldP harg5 x4 h) (ldP harg6 x5 h)⟩) rfl (listed_congr fun n hn h hh => ?_)
  rw [loaded_eq _ _ _ _ _ _ _ _ _ _ _ _ _ _ _ _ _ _ _ n hn h hh]; rfl

end Cert.KernelIdeal.Fwd

end
-- ==== Proof.Spec.lean ====
module

public import Idealize.ShloMosaic.Lib.Pointwise

@[expose] public section

/-! # The retention layer and its gradients as plain formulas

The arguments are functions of a row and a column: `z` the input projection (queries in columns 0–1023, keys 1024–2047, values
2048–4095, gate 4096–6143), `d` the gradient of the retention's result, `g` and `b` the group norm's scale and shift. A row is
`128 * c + i` for chunk `c` and position `i`; heads are `h = 0..3`. -/

noncomputable section

namespace Cert.Ret

open Idealize.ShloMosaic

/-- An array's entries by row and column, as a total function. -/
def cells {M N : ℕ} (X : (⟨2, ![M, N]⟩ : Shape).Idx → EReal) (R C : ℕ) : EReal :=
  if h : R < M ∧ C < N then X (ix2 ⟨R, h.1⟩ ⟨C, h.2⟩) else 0

theorem cells_at {M N : ℕ} (X : (⟨2, ![M, N]⟩ : Shape).Idx → EReal) (R : Fin M) (C : Fin N) : cells X R C = X (ix2 R C) := by
  rw [cells, dif_pos ⟨R.isLt, C.isLt⟩]

/-- The logarithm of a head's decay rate, which is `1 - 2 ^ (-5 - h)`. -/
def lg (h : ℕ) : ℝ := Real.log ((2 ^ (5 + h) - 1) / 2 ^ (5 + h))

/-- The decay between two positions of a chunk, -/
def decay (h i j : ℕ) : EReal := if j ≤ i then ((Real.exp (lg h * ((i : ℝ) - j)) : ℝ) : EReal) else 0
/-- from the chunk's beginning through a position, -/
def xi (h i : ℕ) : EReal := ((Real.exp (lg h * ((i : ℝ) + 1)) : ℝ) : EReal)
/-- from a position to the chunk's end -/
def zeta (h i : ℕ) : EReal := ((Real.exp (lg h * (127 - (i : ℝ))) : ℝ) : EReal)
/-- and across a chunk. -/
def gch (h : ℕ) : EReal := ((Real.exp (lg h * 128) : ℝ) : EReal)

/-- The keys' scale, 1/16. -/
def scale : EReal := Ideal.ofBits .f32 0x3D800000#32

variable (z d : ℕ → ℕ → EReal) (g b : ℕ → EReal)

/-- Queries, keys, values, gate and incoming gradient by chunk, head, position and feature. -/
def q (c h i a : ℕ) : EReal := z (128 * c + i) (256 * h + a)
def k (c h i a : ℕ) : EReal := z (128 * c + i) (1024 + 256 * h + a) * scale
def v (c h i e : ℕ) : EReal := z (128 * c + i) (2048 + 512 * h + e)
def r (c h i e : ℕ) : EReal := z (128 * c + i) (4096 + 512 * h + e)
def dd (c h i e : ℕ) : EReal := d (128 * c + i) (512 * h + e)

/-- The state before chunk `c`. -/
def st (h : ℕ) : ℕ → ℕ → ℕ → EReal
  | 0, _, _ => 0
  | c + 1, a, e => st h c a e * gch h + ∑ i : Fin 128, (k z c h i a * zeta h i) * v z c h i e

/-- The decayed scores of a chunk. -/
def scores (c h i j : ℕ) : EReal := (∑ a : Fin 256, q z c h i a * k z c h j a) * decay h i j

/-- The retention's result. -/
def o (c h i e : ℕ) : EReal :=
  (∑ j : Fin 128, scores z c h i j * v z c h j e) + (∑ a : Fin 256, q z c h i a * st z h c a e) * xi h i

/-- A mean over a head's features, -/
def mean (x : ℕ → EReal) : EReal := Ideal.div (∑ e : Fin 512, x e) (Ideal.ofBits .f32 0x44000000#32)
/-- a head's features about their mean, -/
def centred (x : ℕ → EReal) (e : ℕ) : EReal := x e - mean x
/-- divided by the root of their variance. -/
def normed (x : ℕ → EReal) (e : ℕ) : EReal :=
  centred x e * Ideal.rsqrt (mean (fun e => centred x e * centred x e) + Ideal.ofBits .f32 0x358637BD#32)

/-- The gated result. -/
def gated (c h i e : ℕ) : EReal :=
  (normed (o z c h i) e * g (512 * h + e) + b (512 * h + e)) * (r z c h i e * Ideal.logistic (r z c h i e))

/-- The gradient of the scores. -/
def dscores (c h i j : ℕ) : EReal := (∑ e : Fin 512, dd d c h i e * v z c h j e) * decay h i j
/-- The gradient of what the state contributes. -/
def dcross (c h i e : ℕ) : EReal := dd d c h i e * xi h i
/-- The gradient of the state after the chunk that is `n` from the last. -/
def dst (h : ℕ) : ℕ → ℕ → ℕ → EReal
  | 0, _, _ => 0
  | n + 1, a, e => dst h n a e * gch h + ∑ i : Fin 128, q z (63 - n) h i a * dcross d (63 - n) h i e

/-- The gradients of the queries, -/
def dq (c h i a : ℕ) : EReal :=
  (∑ j : Fin 128, dscores z d c h i j * k z c h j a) + ∑ e : Fin 512, dcross d c h i e * st z h c a e
/-- of the keys -/
def dk (c h j a : ℕ) : EReal :=
  ((∑ i : Fin 128, dscores z d c h i j * q z c h i a) + (∑ e : Fin 512, v z c h j e * dst z d h (63 - c) a e) * zeta h j) * scale
/-- and of the values. -/
def dv (c h j e : ℕ) : EReal :=
  (∑ i : Fin 128, scores z c h i j * dd d c h i e) + ∑ a : Fin 256, (k z c h j a * zeta h j) * dst z d h (63 - c) a e

/-- The retention's result, the gated result and the gradient of the projection by row and column. -/
def oAt (R C : ℕ) : EReal := o z (R / 128) (C / 512) (R % 128) (C % 512)
def gatedAt (R C : ℕ) : EReal := gated z g b (R / 128) (C / 512) (R % 128) (C % 512)
def dzAt (R C : ℕ) : EReal :=
  if C < 1024 then dq z d (R / 128) (C / 256) (R % 128) (C % 256)
  else if C < 2048 then dk z d (R / 128) ((C - 1024) / 256) (R % 128) ((C - 1024) % 256)
  else dv z d (R / 128) ((C - 2048) / 512) (R % 128) ((C - 2048) % 512)

/-! ## Constants and counters as real numbers -/

/-- A small counter as a real number. -/
theorem sitofp_nat (n : ℕ) (hn : n < 128) : FloatOps.sitofp (F := Ideal) .f32 (BitVec.ofNat 32 n) = ((n : ℝ) : EReal) := by
  have e : (BitVec.ofNat 32 n).toInt = (n : ℤ) := by
    rw [BitVec.toInt_eq_toNat_of_lt (by simp; omega)]; simp; omega
  show (((BitVec.ofNat 32 n).toInt : ℝ) : EReal) = _
  rw [e]; simp

/-- The last position of a chunk. -/
theorem last_eq : Ideal.ofBits .f32 0x42FE0000#32 = ((127 : ℝ) : EReal) := by
  simp [Ideal.ofBits, Ideal.ieee, -EReal.coe_mul]; norm_num

end Cert.Ret

end
-- ==== Proof.UnitValues.lean ====
module

public import proofs.«01_k».proof.Proof.Units
public import proofs.«01_k».proof.Proof.Spec
public import Idealize.ShloMosaic.Lib.Pointwise

@[expose] public section

set_option maxRecDepth 16384

/-! # The units of work as plain formulas -/

noncomputable section

namespace Cert.KernelIdeal.Units

open Cert.KernelIdeal.Gen
open Idealize.ShloMosaic

variable (h : ℕ) (q k : Vec Ideal S128x256 .bf16) (v d r : Vec Ideal S128x512 .bf16) (s : Vec Ideal S1x256x512 .f32)
  (t : Vec Ideal S1x1x256x512 .bf16)

theorem scores_at (i j : Fin 128) : scores (F := Ideal) h q k (ix2 i j)
    = (∑ a : Fin 256, q (ix2 i a) * (k (ix2 j a) * Ret.scale)) * decay (F := Ideal) h (ix2 i j) := by
  pointwise [scores, keysR, keys, Ret.scale]

theorem ret_at (i : Fin 128) (e : Fin 512) : ret (F := Ideal) h q k v s (ix2 i e)
    = (∑ j : Fin 128, scores (F := Ideal) h q k (ix2 i j) * v (ix2 j e))
      + (∑ a : Fin 256, q (ix2 i a) * s (ix3 0 a e)) * xi (F := Ideal) h (ix2 i 0) := by
  pointwise [ret, matR, mat]

theorem next_at (a : Fin 256) (e : Fin 512) : next (F := Ideal) h k v s (ix3 0 a e)
    = s (ix3 0 a e) * gch (F := Ideal) h (ix2 a e)
      + ∑ i : Fin 128, (k (ix2 i a) * Ret.scale * zeta (F := Ideal) h (ix2 i 0)) * v (ix2 i e) := by
  pointwise [next, mat, keysZ, keys, Ret.scale]

theorem kept_at (a : Fin 256) (e : Fin 512) : kept (F := Ideal) s (ix4 0 0 a e) = s (ix3 0 a e) := by
  pointwise [kept, matR, mat]

theorem mean_at (x : FVec Ideal S128x512 .f32) (i : Fin 128) : mean (F := Ideal) x (ix2 i 0)
    = Ideal.div (∑ e : Fin 512, x (ix2 i e)) (Ideal.ofBits .f32 0x44000000#32) := by
  pointwise [mean]

theorem centred_at (x : FVec Ideal S128x512 .f32) (i : Fin 128) (e : Fin 512) :
    centred (F := Ideal) x (ix2 i e) = x (ix2 i e) - mean (F := Ideal) x (ix2 i 0) := by
  pointwise [centred]

theorem normed_at (x : FVec Ideal S128x512 .f32) (i : Fin 128) (e : Fin 512) : normed (F := Ideal) x (ix2 i e)
    = centred (F := Ideal) x (ix2 i e)
      * Ideal.rsqrt (mean (F := Ideal) (mulf (centred (F := Ideal) x) (centred (F := Ideal) x)) (ix2 i 0) + Ideal.ofBits .f32 0x358637BD#32) := by
  pointwise [normed]

theorem gated_at (x : FVec Ideal S128x512 .f32) (g b : Vec Ideal S1x512 .f32) (i : Fin 128) (e : Fin 512) :
    gated (F := Ideal) x r g b (ix2 i e)
      = (normed (F := Ideal) x (ix2 i e) * g (ix2 0 e) + b (ix2 0 e)) * (r (ix2 i e) * Ideal.logistic (r (ix2 i e))) := by
  pointwise [gated]

theorem dscores_at (i j : Fin 128) : dscores (F := Ideal) h v d (ix2 i j)
    = (∑ e : Fin 512, d (ix2 i e) * v (ix2 j e)) * decay (F := Ideal) h (ix2 i j) := by
  pointwise [dscores]

theorem dcross_at (i : Fin 128) (e : Fin 512) :
    dcross (F := Ideal) h d (ix2 i e) = d (ix2 i e) * xi (F := Ideal) h (ix2 i 0) := by
  pointwise [dcross]

theorem dq_at (i : Fin 128) (a : Fin 256) : dq (F := Ideal) h k v d t (ix2 i a)
    = (∑ j : Fin 128, dscores (F := Ideal) h v d (ix2 i j) * (k (ix2 j a) * Ret.scale))
      + ∑ e : Fin 512, dcross (F := Ideal) h d (ix2 i e) * t (ix4 0 0 a e) := by
  pointwise [dq, keysR, keys, Ret.scale]

theorem dk_at (j : Fin 128) (a : Fin 256) : dk (F := Ideal) h q v d s (ix2 j a)
    = ((∑ i : Fin 128, dscores (F := Ideal) h v d (ix2 i j) * q (ix2 i a))
      + (∑ e : Fin 512, v (ix2 j e) * s (ix3 0 a e)) * zeta (F := Ideal) h (ix2 j 0)) * Ret.scale := by
  pointwise [dk, matR, mat, Ret.scale]

theorem dv_at (j : Fin 128) (e : Fin 512) : dv (F := Ideal) h q k d s (ix2 j e)
    = (∑ i : Fin 128, scores (F := Ideal) h q k (ix2 i j) * d (ix2 i e))
      + ∑ a : Fin 256, (k (ix2 j a) * Ret.scale * zeta (F := Ideal) h (ix2 j 0)) * s (ix3 0 a e) := by
  pointwise [dv, matR, mat, keysZ, keys, Ret.scale]

theorem dstate_at (a : Fin 256) (e : Fin 512) : dstate (F := Ideal) h q d s (ix3 0 a e)
    = s (ix3 0 a e) * gch (F := Ideal) h (ix2 a e) + ∑ i : Fin 128, q (ix2 i a) * dcross (F := Ideal) h d (ix2 i e) := by
  pointwise [dstate, mat]

end Cert.KernelIdeal.Units

end
-- ==== Proof.UnitTables.lean ====
module

public import proofs.«01_k».proof.Proof.Units
public import proofs.«01_k».proof.Proof.Spec
public import Idealize.ShloMosaic.Lib.Pointwise

@[expose] public section

set_option maxRecDepth 16384

/-! # The decay tables of the kernels as plain formulas -/

noncomputable section

namespace Cert.KernelIdeal.Units

open Cert.KernelIdeal.Gen
open Idealize.ShloMosaic

/-- The kernel's logarithms of the decay rates. -/
theorem lg_eq : ∀ h < 4, lg (F := Ideal) h = ((Ret.lg h : ℝ) : EReal)
  | 0, _ => (IdealRules.named_const.ideal_named_scalar _ _ _ _ rfl).trans (by norm_num [Ret.lg])
  | 1, _ => (IdealRules.named_const.ideal_named_scalar _ _ _ _ rfl).trans (by norm_num [Ret.lg])
  | 2, _ => (IdealRules.named_const.ideal_named_scalar _ _ _ _ rfl).trans (by norm_num [Ret.lg])
  | 3, _ => (IdealRules.named_const.ideal_named_scalar _ _ _ _ rfl).trans (by norm_num [Ret.lg])

/-- The difference of two small counters as a real number. -/
theorem sitofp_sub (m n : ℕ) (hm : m < 128) (hn : n < 128) :
    FloatOps.sitofp (F := Ideal) .f32 (IntOp.subi (BitVec.ofNat 32 m) (BitVec.ofNat 32 n)) = (((m : ℝ) - n : ℝ) : EReal) := by
  have e : (IntOp.subi (BitVec.ofNat 32 m) (BitVec.ofNat 32 n)).toInt = (m : ℤ) - n := by
    show (BitVec.ofNat 32 m - BitVec.ofNat 32 n).toInt = _
    rw [BitVec.toInt_sub, BitVec.toInt_eq_toNat_of_lt (by simp; omega), BitVec.toInt_eq_toNat_of_lt (by simp; omega)]
    simp only [BitVec.toNat_ofNat]
    rw [Nat.mod_eq_of_lt (by omega), Nat.mod_eq_of_lt (by omega), Int.bmod_def]
    split <;> omega
  show (((IntOp.subi (BitVec.ofNat 32 m) (BitVec.ofNat 32 n)).toInt : ℝ) : EReal) = _
  rw [e]; push_cast; rfl

theorem xi_eq (h : ℕ) (hh : h < 4) (i : Fin 128) : xi (F := Ideal) h (ix2 i 0) = Ret.xi h i := by
  pointwise [xi, pos, Ret.xi, lg_eq h hh, Ret.sitofp_nat i.val i.isLt]
  rw [← EReal.coe_one, ← EReal.coe_add, ← EReal.coe_mul]; rfl

theorem zeta_eq (h : ℕ) (hh : h < 4) (i : Fin 128) : zeta (F := Ideal) h (ix2 i 0) = Ret.zeta h i := by
  pointwise [zeta, pos, Ret.zeta, lg_eq h hh, Ret.sitofp_nat i.val i.isLt, Ret.last_eq]
  rw [← EReal.coe_sub, ← EReal.coe_mul]; rfl

theorem decay_eq (h : ℕ) (hh : h < 4) (i j : Fin 128) : decay (F := Ideal) h (ix2 i j) = Ret.decay h i j := by
  pointwise [decay, Ret.decay, lg_eq h hh, sitofp_sub i.val j.val i.isLt j.isLt]
  have e : (0 : EReal) ≤ (((i.val : ℝ) - j.val : ℝ) : EReal) ↔ j.val ≤ i.val := by
    rw [← EReal.coe_zero, EReal.coe_le_coe_iff, sub_nonneg, Nat.cast_le]
  by_cases h' : j.val ≤ i.val
  · rw [if_pos h', if_pos (e.2 h'), max_eq_left (e.2 h'), ← EReal.coe_mul]; rfl
  · rw [if_neg h', if_neg (fun k => h' (e.1 k))]

/-- Across a chunk a head's decay is the 128th power of its rate. -/
theorem pow_eq (h : ℕ) : Real.exp (Ret.lg h * 128) = ((2 ^ (5 + h) - 1) / 2 ^ (5 + h) : ℝ) ^ 128 := by
  have p : (1 : ℝ) < 2 ^ (5 + h) := one_lt_pow₀ (by norm_num) (by omega)
  rw [Ret.lg, mul_comm, show (128 : ℝ) = ((128 : ℕ) : ℝ) by norm_num, Real.exp_nat_mul,
    Real.exp_log (div_pos (by linarith) (by linarith))]

theorem gch_eq : ∀ h < 4, ∀ (a : Fin 256) (e : Fin 512), gch (F := Ideal) h (ix2 a e) = Ret.gch h
  | 0, _, a, e => by
    pointwise [gch, Ret.gch]
    rw [IdealRules.named_const.ideal_named_scalar κ "lgc0" _ _ rfl, Ret.lg, mul_comm]
    show ((Real.exp _ : ℝ) : EReal) = _
    norm_num
  | 1, _, a, e => by
    pointwise [gch, Ret.gch]
    rw [IdealRules.named_const.ideal_named_scalar κ "gch1" _ _ rfl, pow_eq]
    norm_num
  | 2, _, a, e => by
    pointwise [gch, Ret.gch]
    rw [IdealRules.named_const.ideal_named_scalar κ "gch2" _ _ rfl, pow_eq]
    norm_num
  | 3, _, a, e => by
    pointwise [gch, Ret.gch]
    rw [IdealRules.named_const.ideal_named_scalar κ "gch3" _ _ rfl, pow_eq]
    norm_num

end Cert.KernelIdeal.Units

end
-- ==== Proof.FwdPoint.lean ====
module

public import proofs.«01_k».proof.Proof.FwdPieces
public import proofs.«01_k».proof.Proof.UnitValues
public import proofs.«01_k».proof.Proof.UnitTables
public import Idealize.ShloMosaic.Lib.Pipeline.ValueKit

@[expose] public section

set_option maxRecDepth 16384

/-! # One grid point of the forward kernel, in formulas

The operand blocks are given as rows `512 * t` onward of the projection `z`; the carried state as the state before chunk `4 * t`. -/

noncomputable section

namespace Cert.KernelIdeal.Fwd

open Cert.KernelIdeal.Gen
open Cert.KernelIdeal.Carried (boxS listed listed_congr)
open Idealize.ShloMosaic

/-- A load of a chunk's queries or keys, of its values, of a head's parameters, of a head's state, of a kept state. -/
theorem ldQ_at {m : Memref sig .tc .vmem S512x1024 .bf16} (hm : m.IsWhole) (x : Vec Ideal S512x1024 .bf16) (n h : ℕ) (hn : n < 4)
    (hh : h < 4) (i : Fin 128) (a : Fin 256) :
    ldQ (F := Ideal) hm x n h (ix2 i a) = x (ix2 ⟨128 * n + i, by omega⟩ ⟨256 * h + a, by omega⟩) := by
  rw [ldQ, View.readAt_eq_ld, hm.read_unread]
  refine View.ld_unit_apply_of _ _ _ _ _ _ fun b => ?_
  fin_cases b <;> simp [Nat.mod_eq_of_lt hn, Nat.mod_eq_of_lt hh]

theorem ldV_at {m : Memref sig .tc .vmem S512x2048 .bf16} (hm : m.IsWhole) (x : Vec Ideal S512x2048 .bf16) (n h : ℕ) (hn : n < 4)
    (hh : h < 4) (i : Fin 128) (e : Fin 512) :
    ldV (F := Ideal) hm x n h (ix2 i e) = x (ix2 ⟨128 * n + i, by omega⟩ ⟨512 * h + e, by omega⟩) := by
  rw [ldV, View.readAt_eq_ld, hm.read_unread]
  refine View.ld_unit_apply_of _ _ _ _ _ _ fun b => ?_
  fin_cases b <;> simp [Nat.mod_eq_of_lt hn, Nat.mod_eq_of_lt hh]

theorem ldP_at {m : Memref sig .tc .vmem S1x2048 .f32} (hm : m.IsWhole) (x : Vec Ideal S1x2048 .f32) (h : ℕ)
    (hh : h < 4) (e : Fin 512) :
    ldP (F := Ideal) hm x h (ix2 0 e) = x (ix2 0 ⟨512 * h + e, by omega⟩) := by
  rw [ldP, View.readAt_eq_ld, hm.read_unread]
  refine View.ld_unit_apply_of _ _ _ _ _ _ fun b => ?_
  fin_cases b <;> simp [Nat.mod_eq_of_lt hh]

theorem ldS_at {m : Memref sig .tc .vmem S4x256x512 .f32} (hm : m.IsWhole) (s : Vec Ideal S4x256x512 .f32) (h : ℕ)
    (hh : h < 4) (a : Fin 256) (e : Fin 512) :
    View.readAt (Elt Ideal) m.view (boxS h).toLoadRect (hm.unread s) (ix3 0 a e) = s (ix3 ⟨h, hh⟩ a e) := by
  rw [View.readAt_eq_ld, hm.read_unread]
  refine View.ld_unit_apply_of _ _ _ _ _ _ fun b => ?_
  fin_cases b <;> simp [Nat.mod_eq_of_lt hh]

variable {arg1 : Memref sig .tc .vmem S512x1024 .bf16} (harg1 : arg1.IsWhole)
  {arg2 : Memref sig .tc .vmem S512x1024 .bf16} (harg2 : arg2.IsWhole)
  {arg3 : Memref sig .tc .vmem S512x2048 .bf16} (harg3 : arg3.IsWhole)
  {arg4 : Memref sig .tc .vmem S512x2048 .bf16} (harg4 : arg4.IsWhole)
  {arg5 : Memref sig .tc .vmem S1x2048 .f32} (harg5 : arg5.IsWhole)
  {arg6 : Memref sig .tc .vmem S1x2048 .f32} (harg6 : arg6.IsWhole)
  {arg10 : Memref sig .tc .vmem S4x256x512 .f32} (harg10 : arg10.IsWhole)
  {x0 : Vec Ideal S512x1024 .bf16} {x1 : Vec Ideal S512x1024 .bf16} {x2 : Vec Ideal S512x2048 .bf16} {x3 : Vec Ideal S512x2048 .bf16}
  {x4 : Vec Ideal S1x2048 .f32} {x5 : Vec Ideal S1x2048 .f32} {s : Vec Ideal S4x256x512 .f32}
  {z : ℕ → ℕ → EReal} {g b : ℕ → EReal} {t : ℕ}

/-- The formulas' queries, keys, values and gate are what the blocks hold. -/
structure Blocks (z : ℕ → ℕ → EReal) (g b : ℕ → EReal) (t : ℕ) (x0 : Vec Ideal S512x1024 .bf16) (x1 : Vec Ideal S512x1024 .bf16)
    (x2 : Vec Ideal S512x2048 .bf16) (x3 : Vec Ideal S512x2048 .bf16) (x4 : Vec Ideal S1x2048 .f32) (x5 : Vec Ideal S1x2048 .f32)
    (s : Vec Ideal S4x256x512 .f32) : Prop where
  q : ∀ (r : Fin 512) (a : Fin 1024), x0 (ix2 r a) = z (512 * t + r) a
  k : ∀ (r : Fin 512) (a : Fin 1024), x1 (ix2 r a) = z (512 * t + r) (1024 + a)
  v : ∀ (r : Fin 512) (e : Fin 2048), x2 (ix2 r e) = z (512 * t + r) (2048 + e)
  r : ∀ (r : Fin 512) (e : Fin 2048), x3 (ix2 r e) = z (512 * t + r) (4096 + e)
  g : ∀ e : Fin 2048, x4 (ix2 0 e) = g e
  b : ∀ e : Fin 2048, x5 (ix2 0 e) = b e
  s : ∀ (h : Fin 4) (a : Fin 256) (e : Fin 512), s (ix3 h a e) = Ret.st z h (4 * t) a e

variable (B : Blocks z g b t x0 x1 x2 x3 x4 x5 s)
include B

theorem q_at (n h : ℕ) (hn : n < 4) (hh : h < 4) (i : Fin 128) (a : Fin 256) :
    ldQ (F := Ideal) harg1 x0 n h (ix2 i a) = Ret.q z (4 * t + n) h i a := by
  rw [ldQ_at harg1 x0 n h hn hh, B.q, Ret.q]; congr 1; dsimp only; omega

theorem k_at (n h : ℕ) (hn : n < 4) (hh : h < 4) (i : Fin 128) (a : Fin 256) :
    ldQ (F := Ideal) harg2 x1 n h (ix2 i a) * Ret.scale = Ret.k z (4 * t + n) h i a := by
  rw [ldQ_at harg2 x1 n h hn hh, B.k, Ret.k]; congr 2 <;> dsimp only <;> omega

theorem v_at (n h : ℕ) (hn : n < 4) (hh : h < 4) (i : Fin 128) (e : Fin 512) :
    ldV (F := Ideal) harg3 x2 n h (ix2 i e) = Ret.v z (4 * t + n) h i e := by
  rw [ldV_at harg3 x2 n h hn hh, B.v, Ret.v]; congr 1 <;> dsimp only <;> omega

theorem r_at (n h : ℕ) (hn : n < 4) (hh : h < 4) (i : Fin 128) (e : Fin 512) :
    ldV (F := Ideal) harg4 x3 n h (ix2 i e) = Ret.r z (4 * t + n) h i e := by
  rw [ldV_at harg4 x3 n h hn hh, B.r, Ret.r]; congr 1 <;> dsimp only <;> omega

/-- The state before each of the point's chunks. -/
theorem st_at (h : ℕ) (hh : h < 4) : ∀ n ≤ 4, ∀ (a : Fin 256) (e : Fin 512),
    st harg2 harg3 harg10 x1 x2 s h n (ix3 0 a e) = Ret.st z h (4 * t + n) a e
  | 0, _, a, e => (ldS_at harg10 s h hh a e).trans (B.s ⟨h, hh⟩ a e)
  | n + 1, hn, a, e => by
    have ih := st_at h hh n (by omega)
    show Units.next (F := Ideal) h _ _ (st harg2 harg3 harg10 x1 x2 s h n) (ix3 0 a e) = _
    rw [Units.next_at, Units.gch_eq h hh, ih]
    show _ = Ret.st z h (4 * t + n) a e * Ret.gch h + _
    refine congrArg _ (Finset.sum_congr rfl fun i _ => ?_)
    rw [Units.zeta_eq h hh, k_at harg2 B n h (by omega) hh, v_at harg3 B n h (by omega) hh]
    rfl

theorem scores_at (n h : ℕ) (hn : n < 4) (hh : h < 4) (i j : Fin 128) :
    Units.scores (F := Ideal) h (ldQ harg1 x0 n h) (ldQ harg2 x1 n h) (ix2 i j) = Ret.scores z (4 * t + n) h i j := by
  rw [Units.scores_at, Units.decay_eq h hh, Ret.scores]
  refine congrArg (· * _) (Finset.sum_congr rfl fun a _ => ?_)
  rw [q_at harg1 B n h hn hh, k_at harg2 B n h hn hh]

/-- The retention's result for each chunk and head, -/
theorem o_at (n h : ℕ) (hn : n < 4) (hh : h < 4) (i : Fin 128) (e : Fin 512) :
    Units.ret (F := Ideal) h (ldQ harg1 x0 n h) (ldQ harg2 x1 n h) (ldV harg3 x2 n h) (st harg2 harg3 harg10 x1 x2 s h n) (ix2 i e)
      = Ret.o z (4 * t + n) h i e := by
  rw [Units.ret_at, Units.xi_eq h hh, Ret.o]
  refine congrArg₂ (· + ·) (Finset.sum_congr rfl fun j _ => ?_) (congrArg (· * _) (Finset.sum_congr rfl fun a _ => ?_))
  · rw [scores_at harg1 harg2 B n h hn hh, v_at harg3 B n h hn hh]
  · rw [q_at harg1 B n h hn hh, st_at harg2 harg3 harg10 B h hh n (by omega)]

/-- and the gated result. -/
theorem gated_at (n h : ℕ) (hn : n < 4) (hh : h < 4) (i : Fin 128) (e : Fin 512) :
    Units.gated (F := Ideal) (Units.ret h (ldQ harg1 x0 n h) (ldQ harg2 x1 n h) (ldV harg3 x2 n h) (st harg2 harg3 harg10 x1 x2 s h n))
      (ldV harg4 x3 n h) (ldP harg5 x4 h) (ldP harg6 x5 h) (ix2 i e) = Ret.gated z g b (4 * t + n) h i e := by
  have m : Units.mean (F := Ideal) (Units.ret h (ldQ harg1 x0 n h) (ldQ harg2 x1 n h) (ldV harg3 x2 n h) (st harg2 harg3 harg10 x1 x2 s h n)) (ix2 i 0)
      = Ret.mean (Ret.o z (4 * t + n) h i) := by
    rw [Units.mean_at, Ret.mean]
    exact congrArg (Ideal.div · _) (Finset.sum_congr rfl fun e _ => o_at harg1 harg2 harg3 harg10 B n h hn hh i e)
  have k (e : Fin 512) : Units.centred (F := Ideal) (Units.ret h (ldQ harg1 x0 n h) (ldQ harg2 x1 n h) (ldV harg3 x2 n h) (st harg2 harg3 harg10 x1 x2 s h n)) (ix2 i e)
      = Ret.centred (Ret.o z (4 * t + n) h i) e := by
    rw [Units.centred_at, m, o_at harg1 harg2 harg3 harg10 B n h hn hh, Ret.centred]
  rw [Units.gated_at, r_at harg4 B n h hn hh, ldP_at harg5 x4 h hh, ldP_at harg6 x5 h hh, B.g, B.b, Ret.gated, Units.normed_at, k,
    Units.mean_at, Ret.normed, Ret.mean]
  have w : (∑ e : Fin 512, mulf (Units.centred (F := Ideal) (Units.ret h (ldQ harg1 x0 n h) (ldQ harg2 x1 n h) (ldV harg3 x2 n h) (st harg2 harg3 harg10 x1 x2 s h n)))
      (Units.centred (F := Ideal) (Units.ret h (ldQ harg1 x0 n h) (ldQ harg2 x1 n h) (ldV harg3 x2 n h) (st harg2 harg3 harg10 x1 x2 s h n))) (ix2 i e))
      = ∑ e : Fin 512, Ret.centred (Ret.o z (4 * t + n) h i) e * Ret.centred (Ret.o z (4 * t + n) h i) e :=
    Finset.sum_congr rfl fun e _ => by
      show Units.centred (F := Ideal) _ (ix2 i e) * Units.centred (F := Ideal) _ (ix2 i e) = _
      rw [k]
  rw [w]

end Cert.KernelIdeal.Fwd

end
-- ==== Proof.FwdArrays.lean ====
module

public import proofs.«01_k».proof.Proof.FwdPoint
public import proofs.«01_k».proof.Proof.FwdRegion
public import Idealize.ShloMosaic.Lib.Pipeline.ValueKit

@[expose] public section

set_option maxRecDepth 16384

/-! # The arrays the forward kernel leaves, in formulas -/

noncomputable section

namespace Cert.KernelIdeal.Fwd

open Cert.KernelIdeal.Gen
open Cert.KernelIdeal.Carried (boxS listed listed_congr)
open Idealize.ShloMosaic Idealize.ShloMosaic.TcCoe

variable (V : (c : Dev nD) → (b : Ref sig .tc) → Buf (Elt Ideal) ((c : Thread nD τ).loc b))
  (c : Dev nD) {z : ℕ → ℕ → EReal} {g b : ℕ → EReal}

/-- The arrays the kernel reads, as the formulas' arguments. -/
structure Inputs (z : ℕ → ℕ → EReal) (g b : ℕ → EReal) : Prop where
  z : ∀ R C : Fin 8192, V c main_arg0 (ix2 R C) = z R C
  g : ∀ C : Fin 2048, V c main_arg1 (ix2 0 C) = g C
  b : ∀ C : Fin 2048, V c main_arg2 (ix2 0 C) = b C

theorem lt16 (t : Fin cfg0.N) : t.val < 16 := Nat.lt_of_lt_of_eq t.isLt N_0

/-- Where each window's block stands at point `t`. -/
theorem index0 : ∀ t : Fin cfg0.N, win0_0.index t 0 = t.val ∧ win0_0.index t 1 = 0 := by decide +kernel
theorem index1 : ∀ t : Fin cfg0.N, win0_1.index t 0 = t.val ∧ win0_1.index t 1 = 1 := by decide +kernel
theorem index2 : ∀ t : Fin cfg0.N, win0_2.index t 0 = t.val ∧ win0_2.index t 1 = 1 := by decide +kernel
theorem index3 : ∀ t : Fin cfg0.N, win0_3.index t 0 = t.val ∧ win0_3.index t 1 = 2 := by decide +kernel
theorem index4 : ∀ t : Fin cfg0.N, win0_4.index t 0 = 0 ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = t.val ∧ win0_6.index t 1 = 0 := by decide +kernel
theorem index7 : ∀ t : Fin cfg0.N, win0_7.index t 0 = t.val ∧ win0_7.index t 1 = 0 := by decide +kernel
theorem index8 : ∀ t : Fin cfg0.N, win0_8.index t 0 = 0 ∧ win0_8.index t 1 = t.val ∧ win0_8.index t 2 = 0 ∧ win0_8.index t 3 = 0 := by
  decide +kernel

/-- The operand blocks of point `t`. -/
theorem blk0_at (t : Fin cfg0.N) (r : Fin 512) (a : Fin 1024) : blk (F := Ideal) V c 0 t (ix2 r a)
    = V c main_arg0 (ix2 ⟨512 * t + r, by have := lt16 t; omega⟩ ⟨a, by omega⟩) := by
  blk_simp [blk]; blk_ext <;> simp only [index0] <;> omega
theorem blk1_at (t : Fin cfg0.N) (r : Fin 512) (a : Fin 1024) : blk (F := Ideal) V c 1 t (ix2 r a)
    = V c main_arg0 (ix2 ⟨512 * t + r, by have := lt16 t; omega⟩ ⟨1024 + a, by omega⟩) := by
  blk_simp [blk]; blk_ext <;> simp only [index1] <;> omega
theorem blk2_at (t : Fin cfg0.N) (r : Fin 512) (a : Fin 2048) : blk (F := Ideal) V c 2 t (ix2 r a)
    = V c main_arg0 (ix2 ⟨512 * t + r, by have := lt16 t; omega⟩ ⟨2048 + a, by omega⟩) := by
  blk_simp [blk]; blk_ext <;> simp only [index2] <;> omega
theorem blk3_at (t : Fin cfg0.N) (r : Fin 512) (a : Fin 2048) : blk (F := Ideal) V c 3 t (ix2 r a)
    = V c main_arg0 (ix2 ⟨512 * t + r, by have := lt16 t; omega⟩ ⟨4096 + a, by omega⟩) := by
  blk_simp [blk]; blk_ext <;> simp only [index3] <;> omega
theorem blk4_at (t : Fin cfg0.N) (a : Fin 2048) : blk (F := Ideal) V c 4 t (ix2 0 a) = V c main_arg1 (ix2 0 a) := by
  blk_simp [blk]; blk_ext <;> simp only [index4] <;> omega
theorem blk5_at (t : Fin cfg0.N) (a : Fin 2048) : blk (F := Ideal) V c 5 t (ix2 0 a) = V c main_arg2 (ix2 0 a) := by
  blk_simp [blk]; blk_ext <;> simp only [index5] <;> omega

variable (I : Inputs V c z g b)
include I

/-- A point's blocks are the formulas' if its carried state is. -/
theorem blocks (t : Fin cfg0.N) (s : Vec Ideal S4x256x512 .f32)
    (hs : ∀ (h : Fin 4) (a : Fin 256) (e : Fin 512), s (ix3 h a e) = Ret.st z h (4 * t) a e) :
    Blocks z g b t (blk V c 0 t) (blk V c 1 t) (blk V c 2 t) (blk V c 3 t) (blk V c 4 t) (blk V c 5 t) s where
  q r a := (blk0_at V c t r a).trans (I.z _ _)
  k r a := (blk1_at V c t r a).trans (I.z _ _)
  v r a := (blk2_at V c t r a).trans (I.z _ _)
  r r a := (blk3_at V c t r a).trans (I.z _ _)
  g a := (blk4_at V c t a).trans (I.g _)
  b a := (blk5_at V c t a).trans (I.b _)
  s := hs

omit I in
/-- The whole carried state from its heads. -/
theorem outS_at (t : Fin cfg0.N) (s : Vec Ideal S4x256x512 .f32) (h : Fin 4) (a : Fin 256) (e : Fin 512) :
    outS V c t s (ix3 h a e) = stateM.view.readCov (pt V c t s).2.2.2.1 (boxS h).toLoadRect (ix3 0 a e) := by
  rw [View.readCov_eq_canon']
  unfold outS
  rw [View.read_writes_eq_canon _ _ _ (coverS V c t s)]
  refine congrArg _ (funext fun k => Fin.ext ?_)
  fin_cases k <;> simp [Nat.mod_eq_of_lt h.isLt, boxS]

/-- The carried state before every point. -/
theorem entry_at : ∀ n ≤ 16, ∀ (h : Fin 4) (a : Fin 256) (e : Fin 512), entry V c n (ix3 h a e) = Ret.st z h (4 * n) a e
  | 0, _, h, a, e => by
    show k0_pay2 (F := Ideal) (ix3 h a e) = 0
    pointwise [k0_pay2]
  | n + 1, hn, h, a, e => by
    have hN : n < cfg0.N := Nat.lt_of_lt_of_eq (by omega) N_0.symm
    have ih := entry_at n (by omega)
    rw [entry_succ V c ⟨n, hN⟩, outS_at V c ⟨n, hN⟩, final_state _ _ _ _ _ _ _ _ _ _ _ _ _ _ _ _ _ _ _ h.val h.isLt,
      st_at _ _ _ (blocks V c I ⟨n, hN⟩ _ ih) h h.isLt 4 (by omega)]
    rfl

omit I in
/-- Where a place of a chunk's and head's rectangle lies in the block. -/
theorem boxV_row (n h : ℕ) (hn : n < 4) (i : Fin 128) (e : Fin 512) : ((boxV n h).emb (ix2 i e) 0).val = 128 * n + i := by
  show 128 * (n % 4) + 1 * i.val = _; omega
omit I in
theorem boxV_col (n h : ℕ) (hh : h < 4) (i : Fin 128) (e : Fin 512) : ((boxV n h).emb (ix2 i e) 1).val = 512 * h + e := by
  show 512 * (h % 4) + 1 * e.val = _; omega

/-- What each point leaves in the result windows: the retention's result, -/
theorem out7_at (t : Fin cfg0.N) (y : S512x2048.Idx) :
    out7 V c t (entry V c t.val) y = Ret.oAt z (512 * t + (y 0).val) (y 1).val := by
  have B := blocks V c I t (entry V c t.val) (entry_at V c I t.val (by have := lt16 t; omega))
  unfold out7
  rw [View.read_writes_eq_canon _ _ _ (cover7 V c t _)]
  refine View.canon_apply_of_pieces (fun y => Ret.oAt z (512 * t + (y 0).val) (y 1).val) _ (fun p hp x => ?_) y (cover7 V c t _ y)
  rw [run_ret] at hp
  obtain ⟨n, hn, h, hh, rfl⟩ := Carried.mem_listed hp
  obtain ⟨i, e, rfl⟩ : ∃ (i : Fin 128) (e : Fin 512), x = ix2 i e := ⟨x 0, x 1, eq_ix2 x⟩
  refine (o_at _ _ _ _ B n h hn hh i e).trans ?_
  show _ = Ret.oAt z (512 * t + ((boxV n h).emb (ix2 i e) 0).val) ((boxV n h).emb (ix2 i e) 1).val
  rw [boxV_row n h hn, boxV_col n h hh, Ret.oAt]
  congr 1 <;> omega

/-- the gated result -/
theorem out6_at (t : Fin cfg0.N) (y : S512x2048.Idx) :
    out6 V c t (entry V c t.val) y = Ret.gatedAt z g b (512 * t + (y 0).val) (y 1).val := by
  have B := blocks V c I t (entry V c t.val) (entry_at V c I t.val (by have := lt16 t; omega))
  unfold out6
  rw [View.read_writes_eq_canon _ _ _ (cover6 V c t _)]
  refine View.canon_apply_of_pieces (fun y => Ret.gatedAt z g b (512 * t + (y 0).val) (y 1).val) _ (fun p hp x => ?_) y (cover6 V c t _ y)
  rw [run_gated] at hp
  obtain ⟨n, hn, h, hh, rfl⟩ := Carried.mem_listed hp
  obtain ⟨i, e, rfl⟩ : ∃ (i : Fin 128) (e : Fin 512), x = ix2 i e := ⟨x 0, x 1, eq_ix2 x⟩
  refine (gated_at _ _ _ _ _ _ _ B n h hn hh i e).trans ?_
  show _ = Ret.gatedAt z g b (512 * t + ((boxV n h).emb (ix2 i e) 0).val) ((boxV n h).emb (ix2 i e) 1).val
  rw [boxV_row n h hn, boxV_col n h hh, Ret.gatedAt]
  congr 1 <;> omega

/-- and the kept states. -/
theorem out8_at (t : Fin cfg0.N) (y : S4x4x256x512.Idx) :
    out8 V c t (entry V c t.val) y = Ret.st z (y 0).val (4 * t + (y 1).val) (y 2).val (y 3).val := by
  have B := blocks V c I t (entry V c t.val) (entry_at V c I t.val (by have := lt16 t; omega))
  unfold out8
  rw [View.read_writes_eq_canon _ _ _ (cover8 V c t _)]
  refine View.canon_apply_of_pieces (fun y => Ret.st z (y 0).val (4 * t + (y 1).val) (y 2).val (y 3).val) _ (fun p hp x => ?_) y (cover8 V c t _ y)
  rw [run_kept] at hp
  obtain ⟨n, hn, h, hh, rfl⟩ := Carried.mem_listed hp
  obtain ⟨u, w, a, e, rfl⟩ : ∃ (u w : Fin 1) (a : Fin 256) (e : Fin 512), x = ix4 u w a e := ⟨x 0, x 1, x 2, x 3, eq_ix4 x⟩
  obtain rfl := Subsingleton.elim u 0
  obtain rfl := Subsingleton.elim w 0
  refine ((Units.kept_at _ a e).trans (st_at _ _ _ B h hh n (by omega) a e)).trans ?_
  show _ = Ret.st z (h % 4 + 1 * 0) (4 * t + (n % 4 + 1 * 0)) (0 + 1 * a.val) (0 + 1 * e.val)
  congr 1 <;> omega

/-- The retention's result, -/
theorem o_array : (dat V c).arrAt 7 cfg0.N = fun i : S8192x2048.Idx => Ret.oAt z (i 0).val (i 1).val := by
  refine (dat V c).arrAt_eq_of_covers 7 _ (by decide +kernel) fun t hf y => ?_
  blk_simp
  rw [after7, out7_at V c I]
  congr 1 <;> simp only [index7] <;> omega

/-- the gated result -/
theorem gated_array : (dat V c).arrAt 6 cfg0.N = fun i : S8192x2048.Idx => Ret.gatedAt z g b (i 0).val (i 1).val := by
  refine (dat V c).arrAt_eq_of_covers 6 _ (by decide +kernel) fun t hf y => ?_
  blk_simp
  rw [after6, out6_at V c I]
  congr 1 <;> simp only [index6] <;> omega

/-- and the states before each chunk, as the kernel leaves them. -/
theorem states_array : (dat V c).arrAt 8 cfg0.N
    = fun i : S4x64x256x512.Idx => Ret.st z (i 0).val (i 1).val (i 2).val (i 3).val := by
  refine (dat V c).arrAt_eq_of_covers 8 _ (by decide +kernel) fun t hf y => ?_
  blk_simp
  rw [after8, out8_at V c I]
  congr 1 <;> simp only [index8] <;> omega

end Cert.KernelIdeal.Fwd

end
-- ==== Proof.BwdPieces.lean ====
module

public import proofs.«01_k».proof.Proof.BwdBody
public import proofs.«01_k».proof.Proof.FwdPieces
public import Idealize.ShloMosaic.Lib.Pipeline.ReadBack

@[expose] public section

set_option maxRecDepth 16384

/-! # The backward kernel's pieces, chunk by chunk and head by head

The backward kernel visits a point's chunks from the last to the first: its step `m` works on chunk `3 - m`. -/

noncomputable section

namespace Cert.KernelIdeal.Bwd

open Cert.KernelIdeal.Gen
open Cert.KernelIdeal.Carried (boxS listed listed_congr)
open Cert.KernelIdeal.Fwd (boxQ boxV boxK ldQ ldV)
open Idealize.ShloMosaic

variable {F : FTy → Type} [FloatOps F] [Named F]

/-- The rectangle of chunk `n`, head `h` among the gradients of the queries, -/
def boxDq (n h : ℕ) : Rect S512x4096 := Rect.unit ![128 * (n % 4), 256 * (h % 4)] S128x256.size (by
  have := Nat.mod_lt n (show 0 < 4 by decide); have := Nat.mod_lt h (show 0 < 4 by decide)
  intro a; fin_cases a <;> simp <;> omega)
/-- of the keys -/
def boxDk (n h : ℕ) : Rect S512x4096 := Rect.unit ![128 * (n % 4), 1024 + 256 * (h % 4)] S128x256.size (by
  have := Nat.mod_lt n (show 0 < 4 by decide); have := Nat.mod_lt h (show 0 < 4 by decide)
  intro a; fin_cases a <;> simp <;> omega)
/-- and of the values. -/
def boxDv (n h : ℕ) : Rect S512x4096 := Rect.unit ![128 * (n % 4), 2048 + 512 * (h % 4)] S128x512.size (by
  have := Nat.mod_lt n (show 0 < 4 by decide); have := Nat.mod_lt h (show 0 < 4 by decide)
  intro a; fin_cases a <;> simp <;> omega)

variable {arg1 : Memref sig .tc .vmem S512x2048 .bf16} (harg1 : arg1.IsWhole)
  {arg2 : Memref sig .tc .vmem S4x4x256x512 .bf16} (harg2 : arg2.IsWhole)
  {arg3 : Memref sig .tc .vmem S512x1024 .bf16} (harg3 : arg3.IsWhole)
  {arg4 : Memref sig .tc .vmem S512x1024 .bf16} (harg4 : arg4.IsWhole)
  {arg5 : Memref sig .tc .vmem S512x2048 .bf16} (harg5 : arg5.IsWhole)
  {arg6 : Memref sig .tc .hbm S8192x8192 .bf16} (harg6 : arg6.IsWhole)
  {arg7 : Memref sig .tc .vmem S512x4096 .bf16} (harg7 : arg7.IsWhole)
  {arg8 : Memref sig .tc .vmem S4x256x512 .f32} (harg8 : arg8.IsWhole)
  (x0 : Vec F S512x2048 .bf16) (x1 : Vec F S4x4x256x512 .bf16) (x2 : Vec F S512x1024 .bf16) (x3 : Vec F S512x1024 .bf16)
  (x4 : Vec F S512x2048 .bf16) (c : Dev nD) (i : grid1.Coords) (s : Vec F S4x256x512 .f32)

/-- The state kept for a chunk and head, as loaded. -/
def ldK {m : Memref sig .tc .vmem S4x4x256x512 .bf16} (hm : m.IsWhole) (x : Vec F S4x4x256x512 .bf16) (n h : ℕ) : Vec F S1x1x256x512 .bf16 :=
  View.readAt (Elt F) m.view (boxK n h).toLoadRect (hm.unread x)

/-- The gradient of head `h`'s state before the point's step `m`. -/
abbrev st : ℕ → ℕ → Vec F S1x256x512 .f32 :=
  Carried.st (fun h m => Units.dstate h (ldQ harg3 x2 (3 - m) h) (ldV harg1 x0 (3 - m) h))
    (fun h => View.readAt (Elt F) arg8.view (boxS h).toLoadRect (harg8.unread s))

/-- What a unit of work stores, from a gradient `g` of the state: the gradient of its values, -/
def pieceV (g : Vec F S1x256x512 .f32) (n h : ℕ) : View.Piece (Elt F) S512x4096 .bf16 :=
  ⟨boxDv n h, Units.dv h (ldQ harg3 x2 n h) (ldQ harg4 x3 n h) (ldV harg1 x0 n h) g⟩
/-- of its keys -/
def pieceK (g : Vec F S1x256x512 .f32) (n h : ℕ) : View.Piece (Elt F) S512x4096 .bf16 :=
  ⟨boxDk n h, Units.dk h (ldQ harg3 x2 n h) (ldV harg5 x4 n h) (ldV harg1 x0 n h) g⟩
/-- and of its queries. -/
def pieceQ (n h : ℕ) : View.Piece (Elt F) S512x4096 .bf16 :=
  ⟨boxDq n h, Units.dq h (ldQ harg4 x3 n h) (ldV harg5 x4 n h) (ldV harg1 x0 n h) (ldK harg2 x1 n h)⟩

/-- The unit's three stores, last first. -/
def unit (g : Vec F S1x256x512 .f32) (n h : ℕ) : List (View.Piece (Elt F) S512x4096 .bf16) :=
  [pieceV harg1 harg3 harg4 x0 x2 x3 g n h, pieceK harg1 harg3 harg5 x0 x2 x4 g n h, pieceQ harg1 harg2 harg4 harg5 x0 x1 x3 x4 n h]

/-- The stores into the carried gradient up to the one before step `k / 4 + 1`, head `k % 4`, as the run lists them. -/
def stores : ℕ → List (View.Piece (Elt F) S4x256x512 .f32)
  | 0 => run.sl.HS0_4 harg1 harg3 harg8 x0 x2 c s
  | 1 => run.sl.HS0_5 harg1 harg3 harg8 x0 x2 c s
  | 2 => run.sl.HS0_6 harg1 harg3 harg8 x0 x2 c s
  | 3 => run.sl.HS0_7 harg1 harg3 harg8 x0 x2 c s
  | 4 => run.sl.HS0_8 harg1 harg3 harg8 x0 x2 c s
  | 5 => run.sl.HS0_9 harg1 harg3 harg8 x0 x2 c s
  | 6 => run.sl.HS0_10 harg1 harg3 harg8 x0 x2 c s
  | 7 => run.sl.HS0_11 harg1 harg3 harg8 x0 x2 c s
  | 8 => run.sl.HS0_12 harg1 harg3 harg8 x0 x2 c s
  | 9 => run.sl.HS0_13 harg1 harg3 harg8 x0 x2 c s
  | 10 => run.sl.HS0_14 harg1 harg3 harg8 x0 x2 c s
  | 11 => run.sl.HS0_15 harg1 harg3 harg8 x0 x2 c s
  | _ => (run harg1 harg2 harg3 harg4 harg5 harg6 harg7 harg8 x0 x1 x2 x3 x4 c i s).2.1

/-- Each list adds the store of one step and head, computed from the gradient it loads. -/
theorem stores_ok : Carried.Stores (fun h m => Units.dstate h (ldQ harg3 x2 (3 - m) h) (ldV harg1 x0 (3 - m) h))
    (fun h => View.readAt (Elt F) arg8.view (boxS h).toLoadRect (harg8.unread s)) arg8 (stores harg1 harg2 harg3 harg4 harg5 harg6 harg7 harg8 x0 x1 x2 x3 x4 c i s) where
  zero := rfl
  succ := fun
    | 0, _ => rfl | 1, _ => rfl | 2, _ => rfl | 3, _ => rfl | 4, _ => rfl | 5, _ => rfl
    | 6, _ => rfl | 7, _ => rfl | 8, _ => rfl | 9, _ => rfl | 10, _ => rfl | 11, _ => rfl
    | k + 12, h => absurd h (by omega)

/-- The gradient that the run loads at step `m`, head `h`. -/
def loaded (h : ℕ) : ℕ → Vec F S1x256x512 .f32
  | 0 => View.readAt (Elt F) arg8.view (boxS h).toLoadRect (harg8.unread s)
  | m + 1 => arg8.view.readCov ((stores harg1 harg2 harg3 harg4 harg5 harg6 harg7 harg8 x0 x1 x2 x3 x4 c i s) (4 * m + h)) (boxS h).toLoadRect

/-- It is the gradient of the recursion over the steps. -/
theorem loaded_eq : ∀ m < 4, ∀ h < 4, (loaded harg1 harg2 harg3 harg4 harg5 harg6 harg7 harg8 x0 x1 x2 x3 x4 c i s) h m = st harg1 harg3 harg8 x0 x2 s h m
  | 0, _, h, _ => rfl
  | m + 1, hm, h, hh => Carried.load_eq (stores_ok harg1 harg2 harg3 harg4 harg5 harg6 harg7 harg8 x0 x1 x2 x3 x4 c i s) m (by omega) h hh

/-- At the point's end each head's gradient is the one after four steps. -/
theorem final_state (h : ℕ) (hh : h < 4) :
    arg8.view.readCov (run harg1 harg2 harg3 harg4 harg5 harg6 harg7 harg8 x0 x1 x2 x3 x4 c i s).2.1 (boxS h).toLoadRect = st harg1 harg3 harg8 x0 x2 s h 4 :=
  Carried.final_eq (stores_ok harg1 harg2 harg3 harg4 harg5 harg6 harg7 harg8 x0 x1 x2 x3 x4 c i s) h hh

/-- What the run stores into the result. -/
theorem run_grads : (run harg1 harg2 harg3 harg4 harg5 harg6 harg7 harg8 x0 x1 x2 x3 x4 c i s).1 = (listed fun m h =>
    unit harg1 harg2 harg3 harg4 harg5 x0 x1 x2 x3 x4 (st harg1 harg3 harg8 x0 x2 s h m) (3 - m) h).flatten := by
  refine Eq.trans (b := (listed fun m h => unit harg1 harg2 harg3 harg4 harg5 x0 x1 x2 x3 x4 ((loaded harg1 harg2 harg3 harg4 harg5 harg6 harg7 harg8 x0 x1 x2 x3 x4 c i s) h m) (3 - m) h).flatten) rfl
    (congrArg List.flatten (listed_congr fun m hm h hh => ?_))
  rw [loaded_eq _ _ _ _ _ _ _ _ _ _ _ _ _ _ _ _ m hm h hh]

end Cert.KernelIdeal.Bwd

end
-- ==== Proof.BwdPoint.lean ====
module

public import proofs.«01_k».proof.Proof.BwdPieces
public import proofs.«01_k».proof.Proof.FwdPoint
public import Idealize.ShloMosaic.Lib.Pipeline.ValueKit

@[expose] public section

set_option maxRecDepth 16384

/-! # One grid point of the backward kernel, in formulas

Point `T` works on the rows from `512 * (15 - T)` onward; its step `m` on chunk `3 - m` of them, which is chunk `63 - (4 * T + m)` of
the whole. The carried gradient is the one that is `4 * T` chunks from the last. -/

noncomputable section

namespace Cert.KernelIdeal.Bwd

open Cert.KernelIdeal.Gen
open Cert.KernelIdeal.Carried (boxS listed listed_congr)
open Cert.KernelIdeal.Fwd (boxQ boxV boxK ldQ ldV ldQ_at ldV_at ldS_at)
open Idealize.ShloMosaic

/-- A load of a kept state. -/
theorem ldK_at {m : Memref sig .tc .vmem S4x4x256x512 .bf16} (hm : m.IsWhole) (x : Vec Ideal S4x4x256x512 .bf16) (n h : ℕ) (hn : n < 4)
    (hh : h < 4) (a : Fin 256) (e : Fin 512) :
    ldK (F := Ideal) hm x n h (ix4 0 0 a e) = x (ix4 ⟨h, hh⟩ ⟨n, hn⟩ a e) := by
  rw [ldK, View.readAt_eq_ld, hm.read_unread]
  refine View.ld_unit_apply_of _ _ _ _ _ _ fun b => ?_
  fin_cases b <;> simp [Nat.mod_eq_of_lt hn, Nat.mod_eq_of_lt hh]

variable {arg1 : Memref sig .tc .vmem S512x2048 .bf16} (harg1 : arg1.IsWhole)
  {arg2 : Memref sig .tc .vmem S4x4x256x512 .bf16} (harg2 : arg2.IsWhole)
  {arg3 : Memref sig .tc .vmem S512x1024 .bf16} (harg3 : arg3.IsWhole)
  {arg4 : Memref sig .tc .vmem S512x1024 .bf16} (harg4 : arg4.IsWhole)
  {arg5 : Memref sig .tc .vmem S512x2048 .bf16} (harg5 : arg5.IsWhole)
  {arg8 : Memref sig .tc .vmem S4x256x512 .f32} (harg8 : arg8.IsWhole)
  {x0 : Vec Ideal S512x2048 .bf16} {x1 : Vec Ideal S4x4x256x512 .bf16} {x2 : Vec Ideal S512x1024 .bf16} {x3 : Vec Ideal S512x1024 .bf16}
  {x4 : Vec Ideal S512x2048 .bf16} {s : Vec Ideal S4x256x512 .f32} {z d : ℕ → ℕ → EReal} {T : ℕ}

/-- The formulas' gradient, states, queries, keys and values are what the blocks hold. -/
structure Blocks (z d : ℕ → ℕ → EReal) (T : ℕ) (x0 : Vec Ideal S512x2048 .bf16) (x1 : Vec Ideal S4x4x256x512 .bf16)
    (x2 : Vec Ideal S512x1024 .bf16) (x3 : Vec Ideal S512x1024 .bf16) (x4 : Vec Ideal S512x2048 .bf16) (s : Vec Ideal S4x256x512 .f32) :
    Prop where
  lt : T < 16
  dO : ∀ (r : Fin 512) (e : Fin 2048), x0 (ix2 r e) = d (512 * (15 - T) + r) e
  st : ∀ (h n : Fin 4) (a : Fin 256) (e : Fin 512), x1 (ix4 h n a e) = Ret.st z h (4 * (15 - T) + n) a e
  q : ∀ (r : Fin 512) (a : Fin 1024), x2 (ix2 r a) = z (512 * (15 - T) + r) a
  k : ∀ (r : Fin 512) (a : Fin 1024), x3 (ix2 r a) = z (512 * (15 - T) + r) (1024 + a)
  v : ∀ (r : Fin 512) (e : Fin 2048), x4 (ix2 r e) = z (512 * (15 - T) + r) (2048 + e)
  s : ∀ (h : Fin 4) (a : Fin 256) (e : Fin 512), s (ix3 h a e) = Ret.dst z d h (4 * T) a e

variable (B : Blocks z d T x0 x1 x2 x3 x4 s)
include B

theorem d_at (n h : ℕ) (hn : n < 4) (hh : h < 4) (i : Fin 128) (e : Fin 512) :
    ldV (F := Ideal) harg1 x0 n h (ix2 i e) = Ret.dd d (4 * (15 - T) + n) h i e := by
  rw [ldV_at harg1 x0 n h hn hh, B.dO, Ret.dd]; congr 1; dsimp only; omega

theorem q_at (n h : ℕ) (hn : n < 4) (hh : h < 4) (i : Fin 128) (a : Fin 256) :
    ldQ (F := Ideal) harg3 x2 n h (ix2 i a) = Ret.q z (4 * (15 - T) + n) h i a := by
  rw [ldQ_at harg3 x2 n h hn hh, B.q, Ret.q]; congr 1; dsimp only; omega

theorem k_at (n h : ℕ) (hn : n < 4) (hh : h < 4) (i : Fin 128) (a : Fin 256) :
    ldQ (F := Ideal) harg4 x3 n h (ix2 i a) * Ret.scale = Ret.k z (4 * (15 - T) + n) h i a := by
  rw [ldQ_at harg4 x3 n h hn hh, B.k, Ret.k]; congr 2 <;> dsimp only <;> omega

theorem v_at (n h : ℕ) (hn : n < 4) (hh : h < 4) (i : Fin 128) (e : Fin 512) :
    ldV (F := Ideal) harg5 x4 n h (ix2 i e) = Ret.v z (4 * (15 - T) + n) h i e := by
  rw [ldV_at harg5 x4 n h hn hh, B.v, Ret.v]; congr 1 <;> dsimp only <;> omega

theorem dcross_at (n h : ℕ) (hn : n < 4) (hh : h < 4) (i : Fin 128) (e : Fin 512) :
    Units.dcross (F := Ideal) h (ldV harg1 x0 n h) (ix2 i e) = Ret.dcross d (4 * (15 - T) + n) h i e := by
  rw [Units.dcross_at, Units.xi_eq h hh, d_at harg1 B n h hn hh, Ret.dcross]

/-- The gradient of the state before each of the point's steps. -/
theorem st_at (h : ℕ) (hh : h < 4) : ∀ m ≤ 4, ∀ (a : Fin 256) (e : Fin 512),
    st harg1 harg3 harg8 x0 x2 s h m (ix3 0 a e) = Ret.dst z d h (4 * T + m) a e
  | 0, _, a, e => (ldS_at harg8 s h hh a e).trans (B.s ⟨h, hh⟩ a e)
  | m + 1, hm, a, e => by
    have ih := st_at h hh m (by omega)
    have c : 63 - (4 * T + m) = 4 * (15 - T) + (3 - m) := by have := B.lt; omega
    show Units.dstate (F := Ideal) h (ldQ harg3 x2 (3 - m) h) (ldV harg1 x0 (3 - m) h) (st harg1 harg3 harg8 x0 x2 s h m) (ix3 0 a e) = _
    rw [Units.dstate_at, Units.gch_eq h hh, ih]
    show _ = Ret.dst z d h (4 * T + m) a e * Ret.gch h
      + ∑ i : Fin 128, Ret.q z (63 - (4 * T + m)) h i a * Ret.dcross d (63 - (4 * T + m)) h i e
    refine congrArg _ (Finset.sum_congr rfl fun i _ => ?_)
    rw [c, q_at harg3 B _ h (by omega) hh, dcross_at harg1 B _ h (by omega) hh]

theorem scores_at (n h : ℕ) (hn : n < 4) (hh : h < 4) (i j : Fin 128) :
    Units.scores (F := Ideal) h (ldQ harg3 x2 n h) (ldQ harg4 x3 n h) (ix2 i j) = Ret.scores z (4 * (15 - T) + n) h i j := by
  rw [Units.scores_at, Units.decay_eq h hh, Ret.scores]
  refine congrArg (· * _) (Finset.sum_congr rfl fun a _ => ?_)
  rw [q_at harg3 B n h hn hh, k_at harg4 B n h hn hh]

theorem dscores_at (n h : ℕ) (hn : n < 4) (hh : h < 4) (i j : Fin 128) :
    Units.dscores (F := Ideal) h (ldV harg5 x4 n h) (ldV harg1 x0 n h) (ix2 i j) = Ret.dscores z d (4 * (15 - T) + n) h i j := by
  rw [Units.dscores_at, Units.decay_eq h hh, Ret.dscores]
  refine congrArg (· * _) (Finset.sum_congr rfl fun e _ => ?_)
  rw [d_at harg1 B n h hn hh, v_at harg5 B n h hn hh]

/-- The gradients of each chunk's and head's queries, -/
theorem dq_at (n h : ℕ) (hn : n < 4) (hh : h < 4) (i : Fin 128) (a : Fin 256) :
    Units.dq (F := Ideal) h (ldQ harg4 x3 n h) (ldV harg5 x4 n h) (ldV harg1 x0 n h) (ldK harg2 x1 n h) (ix2 i a)
      = Ret.dq z d (4 * (15 - T) + n) h i a := by
  rw [Units.dq_at, Ret.dq]
  refine congrArg₂ (· + ·) (Finset.sum_congr rfl fun j _ => ?_) (Finset.sum_congr rfl fun e _ => ?_)
  · rw [dscores_at harg1 harg5 B n h hn hh, k_at harg4 B n h hn hh]
  · rw [dcross_at harg1 B n h hn hh, ldK_at harg2 x1 n h hn hh, B.st]

/-- of its keys -/
theorem dk_at (m h : ℕ) (hm : m < 4) (hh : h < 4) (j : Fin 128) (a : Fin 256) :
    Units.dk (F := Ideal) h (ldQ harg3 x2 (3 - m) h) (ldV harg5 x4 (3 - m) h) (ldV harg1 x0 (3 - m) h) (st harg1 harg3 harg8 x0 x2 s h m) (ix2 j a)
      = Ret.dk z d (4 * (15 - T) + (3 - m)) h j a := by
  have c : 63 - (4 * (15 - T) + (3 - m)) = 4 * T + m := by have := B.lt; omega
  rw [Units.dk_at, Units.zeta_eq h hh, Ret.dk, c]
  refine congrArg (· * _) (congrArg₂ (· + ·) (Finset.sum_congr rfl fun i _ => ?_) (congrArg (· * _) (Finset.sum_congr rfl fun e _ => ?_)))
  · rw [dscores_at harg1 harg5 B _ h (by omega) hh, q_at harg3 B _ h (by omega) hh]
  · rw [v_at harg5 B _ h (by omega) hh, st_at harg1 harg3 harg8 B h hh m (by omega)]

/-- and of its values. -/
theorem dv_at (m h : ℕ) (hm : m < 4) (hh : h < 4) (j : Fin 128) (e : Fin 512) :
    Units.dv (F := Ideal) h (ldQ harg3 x2 (3 - m) h) (ldQ harg4 x3 (3 - m) h) (ldV harg1 x0 (3 - m) h) (st harg1 harg3 harg8 x0 x2 s h m) (ix2 j e)
      = Ret.dv z d (4 * (15 - T) + (3 - m)) h j e := by
  have c : 63 - (4 * (15 - T) + (3 - m)) = 4 * T + m := by have := B.lt; omega
  rw [Units.dv_at, Units.zeta_eq h hh, Ret.dv, c]
  refine congrArg₂ (· + ·) (Finset.sum_congr rfl fun i _ => ?_) (Finset.sum_congr rfl fun a _ => ?_)
  · rw [scores_at harg3 harg4 B _ h (by omega) hh, d_at harg1 B _ h (by omega) hh]
  · rw [k_at harg4 B _ h (by omega) hh, st_at harg1 harg3 harg8 B h hh m (by omega)]

end Cert.KernelIdeal.Bwd

end
-- ==== Proof.BwdArrays.lean ====
module

public import proofs.«01_k».proof.Proof.BwdPoint
public import proofs.«01_k».proof.Proof.BwdRegion
public import Idealize.ShloMosaic.Lib.Pipeline.ValueKit

@[expose] public section

set_option maxRecDepth 16384

/-! # The array the backward kernel leaves, in formulas -/

noncomputable section

namespace Cert.KernelIdeal.Bwd

open Cert.KernelIdeal.Gen
open Cert.KernelIdeal.Carried (boxS listed listed_congr)
open Idealize.ShloMosaic Idealize.ShloMosaic.TcCoe

variable (V : (c : Dev nD) → (b : Ref sig .tc) → Buf (Elt Ideal) ((c : Thread nD τ).loc b))
  (c : Dev nD) {z d : ℕ → ℕ → EReal}

/-- The arrays the kernel reads, as the formulas' arguments, with the states the forward kernel kept. -/
structure Inputs (z d : ℕ → ℕ → EReal) : Prop where
  proj : ∀ R C : Fin 8192, V c main_arg0 (ix2 R C) = z R C
  dO : ∀ (R : Fin 8192) (C : Fin 2048), V c main_arg3 (ix2 R C) = d R C
  st : ∀ (h : Fin 4) (n : Fin 64) (a : Fin 256) (e : Fin 512), V c main_v0_2 (ix4 h n a e) = Ret.st z h n a e

theorem lt16 (t : Fin cfg1.N) : t.val < 16 := Nat.lt_of_lt_of_eq t.isLt N_1

/-- Where each window's block stands at point `t`. -/
theorem index0 : ∀ t : Fin cfg1.N, win1_0.index t 0 = 15 - t.val ∧ win1_0.index t 1 = 0 := by decide +kernel
theorem index1 : ∀ t : Fin cfg1.N, win1_1.index t 0 = 0 ∧ win1_1.index t 1 = 15 - t.val ∧ win1_1.index t 2 = 0 ∧ win1_1.index t 3 = 0 := by
  decide +kernel
theorem index2 : ∀ t : Fin cfg1.N, win1_2.index t 0 = 15 - t.val ∧ win1_2.index t 1 = 0 := by decide +kernel
theorem index3 : ∀ t : Fin cfg1.N, win1_3.index t 0 = 15 - t.val ∧ win1_3.index t 1 = 1 := by decide +kernel
theorem index4 : ∀ t : Fin cfg1.N, win1_4.index t 0 = 15 - t.val ∧ win1_4.index t 1 = 1 := by decide +kernel
theorem index5 : ∀ t : Fin cfg1.N, win1_5.index t 0 = 15 - t.val ∧ win1_5.index t 1 = 0 := by decide +kernel

/-- The operand blocks of point `t`. -/
theorem blk0_at (t : Fin cfg1.N) (r : Fin 512) (a : Fin 2048) : blk (F := Ideal) V c 0 t (ix2 r a)
    = V c main_arg3 (ix2 ⟨512 * (15 - t) + r, by omega⟩ ⟨a, by omega⟩) := by
  blk_simp [blk]; blk_ext <;> simp only [index0] <;> omega
theorem blk1_at (t : Fin cfg1.N) (h n : Fin 4) (a : Fin 256) (e : Fin 512) : blk (F := Ideal) V c 1 t (ix4 h n a e)
    = V c main_v0_2 (ix4 h ⟨4 * (15 - t) + n, by omega⟩ a e) := by
  blk_simp [blk]; blk_ext <;> simp only [index1] <;> omega
theorem blk2_at (t : Fin cfg1.N) (r : Fin 512) (a : Fin 1024) : blk (F := Ideal) V c 2 t (ix2 r a)
    = V c main_arg0 (ix2 ⟨512 * (15 - t) + r, by omega⟩ ⟨a, by omega⟩) := by
  blk_simp [blk]; blk_ext <;> simp only [index2] <;> omega
theorem blk3_at (t : Fin cfg1.N) (r : Fin 512) (a : Fin 1024) : blk (F := Ideal) V c 3 t (ix2 r a)
    = V c main_arg0 (ix2 ⟨512 * (15 - t) + r, by omega⟩ ⟨1024 + a, by omega⟩) := by
  blk_simp [blk]; blk_ext <;> simp only [index3] <;> omega
theorem blk4_at (t : Fin cfg1.N) (r : Fin 512) (a : Fin 2048) : blk (F := Ideal) V c 4 t (ix2 r a)
    = V c main_arg0 (ix2 ⟨512 * (15 - t) + r, by omega⟩ ⟨2048 + a, by omega⟩) := by
  blk_simp [blk]; blk_ext <;> simp only [index4] <;> omega

variable (I : Inputs V c z d)
include I

/-- A point's blocks are the formulas' if its carried gradient is. -/
theorem blocks (t : Fin cfg1.N) (s : Vec Ideal S4x256x512 .f32)
    (hs : ∀ (h : Fin 4) (a : Fin 256) (e : Fin 512), s (ix3 h a e) = Ret.dst z d h (4 * t) a e) :
    Blocks z d t (blk V c 0 t) (blk V c 1 t) (blk V c 2 t) (blk V c 3 t) (blk V c 4 t) s where
  lt := lt16 t
  dO r a := (blk0_at V c t r a).trans (I.dO _ _)
  st h n a e := (blk1_at V c t h n a e).trans (I.st _ _ _ _)
  q r a := (blk2_at V c t r a).trans (I.proj _ _)
  k r a := (blk3_at V c t r a).trans (I.proj _ _)
  v r a := (blk4_at V c t r a).trans (I.proj _ _)
  s := hs

omit I in
/-- The whole carried gradient from its heads. -/
theorem outS_at (t : Fin cfg1.N) (s : Vec Ideal S4x256x512 .f32) (h : Fin 4) (a : Fin 256) (e : Fin 512) :
    outS V c t s (ix3 h a e) = gradM.view.readCov (pt V c t s).2.1 (boxS h).toLoadRect (ix3 0 a e) := by
  rw [View.readCov_eq_canon']
  unfold outS
  rw [View.read_writes_eq_canon _ _ _ (coverS V c t s)]
  refine congrArg _ (funext fun k => Fin.ext ?_)
  fin_cases k <;> simp [Nat.mod_eq_of_lt h.isLt, boxS]

/-- The carried gradient before every point. -/
theorem entry_at : ∀ n ≤ 16, ∀ (h : Fin 4) (a : Fin 256) (e : Fin 512), entry V c n (ix3 h a e) = Ret.dst z d h (4 * n) a e
  | 0, _, h, a, e => by
    show k1_pay2 (F := Ideal) (ix3 h a e) = 0
    pointwise [k1_pay2]
  | n + 1, hn, h, a, e => by
    have hN : n < cfg1.N := Nat.lt_of_lt_of_eq (by omega) N_1.symm
    have ih := entry_at n (by omega)
    rw [entry_succ V c ⟨n, hN⟩, outS_at V c ⟨n, hN⟩, final_state _ _ _ _ _ _ _ _ _ _ _ _ _ _ _ _ h.val h.isLt,
      st_at _ _ _ (blocks V c I ⟨n, hN⟩ _ ih) h h.isLt 4 (by omega)]
    rfl

/-- What each point leaves in the result window. -/
theorem out5_at (t : Fin cfg1.N) (y : S512x4096.Idx) :
    out5 V c t (entry V c t.val) y = Ret.dzAt z d (512 * (15 - t) + (y 0).val) (y 1).val := by
  have B := blocks V c I t (entry V c t.val) (entry_at V c I t.val (by have := lt16 t; omega))
  unfold out5
  rw [View.read_writes_eq_canon _ _ _ (cover5 V c t _)]
  refine View.canon_apply_of_pieces (fun y => Ret.dzAt z d (512 * (15 - t) + (y 0).val) (y 1).val) _ (fun p hp x => ?_) y (cover5 V c t _ y)
  rw [run_grads] at hp
  obtain ⟨l, hl, hp⟩ := List.mem_flatten.1 hp
  obtain ⟨m, hm, h, hh, rfl⟩ := Carried.mem_listed hl
  simp only [unit, List.mem_cons, List.not_mem_nil, or_false] at hp
  rcases hp with rfl | rfl | rfl
  · obtain ⟨i, e, rfl⟩ : ∃ (i : Fin 128) (e : Fin 512), x = ix2 i e := ⟨x 0, x 1, eq_ix2 x⟩
    refine (dv_at _ _ _ _ B m h hm hh i e).trans ?_
    show _ = Ret.dzAt z d (512 * (15 - t) + (128 * ((3 - m) % 4) + 1 * i.val)) (2048 + 512 * (h % 4) + 1 * e.val)
    rw [Ret.dzAt, if_neg (by omega), if_neg (by omega)]
    congr 1 <;> omega
  · obtain ⟨i, a, rfl⟩ : ∃ (i : Fin 128) (a : Fin 256), x = ix2 i a := ⟨x 0, x 1, eq_ix2 x⟩
    refine (dk_at _ _ _ _ B m h hm hh i a).trans ?_
    show _ = Ret.dzAt z d (512 * (15 - t) + (128 * ((3 - m) % 4) + 1 * i.val)) (1024 + 256 * (h % 4) + 1 * a.val)
    rw [Ret.dzAt, if_neg (by omega), if_pos (by omega)]
    congr 1 <;> omega
  · obtain ⟨i, a, rfl⟩ : ∃ (i : Fin 128) (a : Fin 256), x = ix2 i a := ⟨x 0, x 1, eq_ix2 x⟩
    refine (dq_at _ _ _ _ B (3 - m) h (by omega) hh i a).trans ?_
    show _ = Ret.dzAt z d (512 * (15 - t) + (128 * ((3 - m) % 4) + 1 * i.val)) (256 * (h % 4) + 1 * a.val)
    rw [Ret.dzAt, if_pos (by omega)]
    congr 1 <;> omega

/-- The gradient of the projection: its first 4096 columns are the kernel's, the others stay as they were. -/
theorem dz_array : (dat V c).arrAt 5 cfg1.N
    = fun i : S8192x8192.Idx => if (i 1).val < 4096 then Ret.dzAt z d (i 0).val (i 1).val else V c main_v1 i := by
  refine (dat V c).arrAt_eq_of_coversWhere 5 (fun i : S8192x8192.Idx => Ret.dzAt z d (i 0).val (i 1).val)
    (P := fun i : S8192x8192.Idx => (i 1).val < 4096) (fun β => β (1 : Fin 2) = 0) (by decide +kernel) (fun t hf y => ?_)
    (fun j => ?_)
  · blk_simp
    rw [after5, out5_at V c I]
    congr 1 <;> simp only [index5] <;> omega
  · show (j 1).val < 4096 ↔ (j 1).val / 4096 = 0
    omega

end Cert.KernelIdeal.Bwd

end
-- ==== Proof.KernelValues.lean ====
module

public import proofs.«01_k».proof.Proof.KernelRun
public import proofs.«01_k».proof.Proof.FwdArrays
public import proofs.«01_k».proof.Proof.BwdArrays

@[expose] public section

set_option maxRecDepth 16384

/-! # What the two kernels return, in formulas of the arguments -/

noncomputable section

namespace Cert.KernelIdeal.Run

open Cert.KernelIdeal.Gen
open Idealize.ShloMosaic Idealize.ShloMosaic.TcCoe

variable (m : (ℓ : Loc nD τ sig) → Buf (Elt Ideal) ℓ) (ρ : Dev nD → PrngReg) (c : Dev nD)

/-- The arguments by row and column: the projection, the norm's scale and shift, the incoming gradient. -/
abbrev z : ℕ → ℕ → EReal := Ret.cells (M := 8192) (N := 8192) (m ((c : Thread nD τ).loc main_arg0))
abbrev g : ℕ → EReal := Ret.cells (M := 1) (N := 2048) (m ((c : Thread nD τ).loc main_arg1)) 0
abbrev b : ℕ → EReal := Ret.cells (M := 1) (N := 2048) (m ((c : Thread nD τ).loc main_arg2)) 0
abbrev d : ℕ → ℕ → EReal := Ret.cells (M := 8192) (N := 2048) (m ((c : Thread nD τ).loc main_arg3))

theorem fwd_inputs : Fwd.Inputs (V0 m ρ) c (z m c) (g m c) (b m c) where
  z R C := (Ret.cells_at (M := 8192) (N := 8192) _ R C).symm
  g C := (Ret.cells_at (M := 1) (N := 2048) _ 0 C).symm
  b C := (Ret.cells_at (M := 1) (N := 2048) _ 0 C).symm

theorem bwd_inputs : Bwd.Inputs (V2 m ρ) c (z m c) (d m c) where
  proj R C := (congrFun (W2_args m ρ c main_arg0 (by decide)) _).trans (Ret.cells_at (M := 8192) (N := 8192) _ R C).symm
  dO R C := (congrFun (W2_args m ρ c main_arg3 (by decide)) _).trans (Ret.cells_at (M := 8192) (N := 2048) _ R C).symm
  st h n a e := by
    have e1 : V2 m ρ c main_v0_2 = (Fwd.dat (V0 m ρ) c).arrAt 8 cfg0.N :=
      (W2_of m ρ c main_v0_2 (by decide)).trans (W1_arr m ρ c 8)
    rw [e1, Fwd.states_array (V0 m ρ) c (fwd_inputs m ρ c)]; rfl

/-- The gated result, -/
theorem gated_end : W3 m ρ c (Proc.devRef .tc main_v0_0) = fun i : S8192x2048.Idx => Ret.gatedAt (z m c) (g m c) (b m c) (i 0).val (i 1).val :=
  (W3_of_ne m ρ c main_v0_0 (by decide +kernel)).trans ((W2_of m ρ c main_v0_0 (by decide)).trans
    ((W1_arr m ρ c 6).trans (Fwd.gated_array (V0 m ρ) c (fwd_inputs m ρ c))))

/-- the retention's result -/
theorem o_end : W3 m ρ c (Proc.devRef .tc main_v0_1) = fun i : S8192x2048.Idx => Ret.oAt (z m c) (i 0).val (i 1).val :=
  (W3_of_ne m ρ c main_v0_1 (by decide +kernel)).trans ((W2_of m ρ c main_v0_1 (by decide)).trans
    ((W1_arr m ρ c 7).trans (Fwd.o_array (V0 m ρ) c (fwd_inputs m ρ c))))

/-- The host's copy is the fifth argument. -/
theorem copy_eq : V2 m ρ c main_v1 = m ((c : Thread nD τ).loc main_arg4) := by
  refine Eq.trans ?_ (W1_of m ρ c main_arg4 (args0 main_arg4 (by decide)))
  show StableHlo.after hostOps1 (W1 m ρ c) (Proc.devRef .tc main_v1) = W1 m ρ c (Proc.devRef .tc main_arg4)
  after_results
  rfl

/-- and the gradient of the projection, whose last columns are the fifth argument's. -/
theorem dz_end : W3 m ρ c (Proc.devRef .tc main_v1) = fun i : S8192x8192.Idx =>
    if (i 1).val < 4096 then Ret.dzAt (z m c) (d m c) (i 0).val (i 1).val else m ((c : Thread nD τ).loc main_arg4) i := by
  refine (W3_arr m ρ c 5).trans ((Bwd.dz_array (V2 m ρ) c (bwd_inputs m ρ c)).trans ?_)
  rw [copy_eq]

end Cert.KernelIdeal.Run

end
-- ==== Proof.RefPre.lean ====
module

public import proofs.«01_k».proof.Proof.RefRun
public import proofs.«01_k».proof.Proof.Spec
public import Idealize.ShloMosaic.Lib.StableHlo.ReadAt

@[expose] public section

set_option maxRecDepth 16384

/-! # The reference before its first loop, in formulas

`zc X` is the projection held at launch by row and column. Each theorem names one buffer of the stretches before loop 0 and says
what stands at each of its positions. -/

noncomputable section

namespace Cert.ReferenceIdeal.Ref

open Cert.ReferenceIdeal.Gen
open Idealize.ShloMosaic Idealize.ShloMosaic.TcCoe Idealize.ShloMosaic.StableHlo

variable (X : Valuation τ sig (Elt Ideal))

/-- The projection by row and column. -/
abbrev zc : ℕ → ℕ → EReal := Ret.cells (X (Proc.devRef .tc main_arg0) : S8192x8192.Idx → EReal)

/-- An entry of an array, by any expressions of its row and column. -/
theorem at_cell {M N : ℕ} (A : (⟨2, ![M, N]⟩ : Shape).Idx → EReal) {R C : ℕ} (hR : R < M) (hC : C < N) (R' C' : ℕ) (eR : R = R') (eC : C = C') :
    A (ix2 ⟨R, hR⟩ ⟨C, hC⟩) = Ret.cells A R' C' := by
  subst eR eC; exact (Ret.cells_at A ⟨R, hR⟩ ⟨C, hC⟩).symm

/-! ## The decay tables -/

theorem two_eq : Ideal.ofBits .f32 1073741824#32 = ((2 : ℝ) : EReal) := by
  simp [Ideal.ofBits, Ideal.ieee, -EReal.coe_mul]; norm_num
theorem five_eq : Ideal.ofBits .f32 3231711232#32 = ((-5 : ℝ) : EReal) := by
  simp [Ideal.ofBits, Ideal.ieee, -EReal.coe_mul]; norm_num
theorem chunk_eq : Ideal.ofBits .f32 1124073472#32 = ((128 : ℝ) : EReal) := by
  simp [Ideal.ofBits, Ideal.ieee, -EReal.coe_mul]; norm_num

/-- A head's decay rate is `1 - 2 ^ (-5 - h)`; this is its logarithm. -/
theorem rate_eq (h : Fin 4) : Ideal.log (1 - Ideal.pow (Ideal.ofBits .f32 1073741824#32)
      (Ideal.ofBits .f32 3231711232#32 - FloatOps.sitofp (F := Ideal) .f32 (BitVec.ofNat 32 h.val))) = ((Ret.lg h : ℝ) : EReal) := by
  have p : (1 : ℝ) < 2 ^ (5 + h.val) := one_lt_pow₀ (by norm_num) (by omega)
  have e : (1 : ℝ) - Real.rpow 2 (-5 - (h.val : ℝ)) = (2 ^ (5 + h.val) - 1) / 2 ^ (5 + h.val) := by
    rw [show (-5 - (h.val : ℝ)) = -((5 + h.val : ℕ) : ℝ) by push_cast; ring]
    show 1 - (2 : ℝ) ^ (-((5 + h.val : ℕ) : ℝ)) = _
    rw [Real.rpow_neg (by norm_num), Real.rpow_natCast, sub_div, div_self (by linarith), one_div]
  rw [Ret.sitofp_nat h.val (by omega), five_eq, two_eq, ← EReal.coe_sub, Ideal.pow_coe_coe, ← EReal.coe_one, ← EReal.coe_sub, e,
    Ideal.log_coe, if_neg (not_le.mpr (div_pos (by linarith) (by linarith))), Ret.lg]

theorem v31_at (h : Fin 4) (i j : Fin 128) : afterL pre X (Proc.devRef .tc main_v31) (ix3 h i j) = Ret.decay h i j := by
  simp only [pre, afterL_cons, afterL_nil]
  after_reads_at
  have z0 : (id (constant (F := Ideal) S_ .f32 0#32) ix0 : EReal) = 0 := by simp only [id_eq]; pointwise
  have e : (0 : EReal) ≤ (((i.val : ℝ) - j.val : ℝ) : EReal) ↔ j.val ≤ i.val := by
    rw [← EReal.coe_zero, EReal.coe_le_coe_iff, sub_nonneg, Nat.cast_le]
  rw [z0, rate_eq, Ret.sitofp_nat i.val (by omega), Ret.sitofp_nat j.val (by omega), ← EReal.coe_sub, Ret.decay]
  by_cases h' : j.val ≤ i.val
  · rw [if_pos h', if_pos (e.2 h'), max_eq_left (e.2 h'), ← EReal.coe_mul]; rfl
  · rw [if_neg h', if_neg (fun k => h' (e.1 k))]

theorem v39_at (h : Fin 4) (i : Fin 128) : afterL pre X (Proc.devRef .tc main_v39) (ix2 i h) = Ret.xi h i := by
  simp only [pre, afterL_cons, afterL_nil]
  after_reads_at
  rw [rate_eq, Ret.sitofp_nat i.val (by omega), ← EReal.coe_one, ← EReal.coe_add, ← EReal.coe_mul]; rfl

theorem v47_at (h : Fin 4) (i : Fin 128) : afterL pre X (Proc.devRef .tc main_v47) (ix2 i h) = Ret.zeta h i := by
  simp only [pre, afterL_cons, afterL_nil]
  after_reads_at
  rw [rate_eq, Ret.sitofp_nat i.val (by omega), Ret.last_eq, ← EReal.coe_sub, ← EReal.coe_mul]; rfl

theorem v50_at (h : Fin 4) : afterL pre X (Proc.devRef .tc main_v50) (ix1 h) = Ret.gch h := by
  simp only [pre, afterL_cons, afterL_nil]
  after_reads_at
  rw [rate_eq, chunk_eq, ← EReal.coe_mul]; rfl

/-- The tables as they meet the chunks. -/
theorem v57_at (h : Fin 4) (i j : Fin 128) : afterL pre X (Proc.devRef .tc main_v57) (ix5 0 0 h i j) = Ret.decay h i j := by
  rw [← v31_at X]
  simp only [pre, afterL_cons, afterL_nil]
  after_reads_at

theorem v62_at (h : Fin 4) (i : Fin 128) : afterL pre X (Proc.devRef .tc main_v62) (ix5 0 0 i h 0) = Ret.zeta h i := by
  rw [← v47_at X]
  simp only [pre, afterL_cons, afterL_nil]
  after_reads_at

/-! ## Queries, keys, values and scores by chunk -/

theorem v51_at (c : Fin 64) (h : Fin 4) (i : Fin 128) (a : Fin 256) :
    afterL pre X (Proc.devRef .tc main_v51) (ix5 0 c i h a) = Ret.q (zc X) c h i a := by
  simp only [pre, afterL_cons, afterL_nil]
  after_reads_at
  exact at_cell _ _ _ _ _ (by omega) (by omega)

theorem v54_at (c : Fin 64) (h : Fin 4) (i : Fin 128) (a : Fin 256) :
    afterL pre X (Proc.devRef .tc main_v54) (ix5 0 c i h a) = Ret.k (zc X) c h i a := by
  simp only [pre, afterL_cons, afterL_nil]
  after_reads_at
  exact congrArg (· * Ret.scale) (at_cell _ _ _ _ _ (by omega) (by omega))

theorem v55_at (c : Fin 64) (h : Fin 4) (i : Fin 128) (e : Fin 512) :
    afterL pre X (Proc.devRef .tc main_v55) (ix5 0 c i h e) = Ret.v (zc X) c h i e := by
  simp only [pre, afterL_cons, afterL_nil]
  after_reads_at
  exact at_cell _ _ _ _ _ (by omega) (by omega)

abbrev b31 : S4x128x128.Idx → EReal := X (Proc.devRef .tc main_v31)
abbrev b51 : S1x64x128x4x256.Idx → EReal := X (Proc.devRef .tc main_v51)
abbrev b54 : S1x64x128x4x256.Idx → EReal := X (Proc.devRef .tc main_v54)
abbrev b55 : S1x64x128x4x512.Idx → EReal := X (Proc.devRef .tc main_v55)
abbrev b61 : S1x64x128x4x512.Idx → EReal := X (Proc.devRef .tc main_v61)
abbrev b59 : S1x64x4x128x128.Idx → EReal := X (Proc.devRef .tc main_v59)

theorem v59_at (c : Fin 64) (h : Fin 4) (i j : Fin 128) :
    afterL pre X (Proc.devRef .tc main_v59) (ix5 0 c h i j) = Ret.scores (zc X) c h i j := by
  have e : afterL pre X (Proc.devRef .tc main_v59) (ix5 0 c h i j)
      = (∑ a : Fin 256, b51 (afterL pre X) (ix5 0 c i h a) * b54 (afterL pre X) (ix5 0 c j h a)) * b31 (afterL pre X) (ix3 h i j) := by
    simp only [b31, b51, b54, pre, afterL_cons, afterL_nil]
    after_reads_at
  rw [e, b31, b51, b54, v31_at, Ret.scores]
  exact congrArg (· * _) (Finset.sum_congr rfl fun a _ => by rw [v51_at, v54_at])

theorem v61_at (c : Fin 64) (h : Fin 4) (i : Fin 128) (e : Fin 512) :
    afterL pre X (Proc.devRef .tc main_v61) (ix5 0 c i h e) = ∑ j : Fin 128, Ret.scores (zc X) c h i j * Ret.v (zc X) c h j e := by
  have E : b61 (afterL pre X) (ix5 0 c i h e)
      = (∑ j : Fin 128, b55 (afterL pre X) (ix5 0 c j h e) * b59 (afterL pre X) (ix5 0 c h i j) : EReal) := by
    simp only [b61, b55, b59, pre, afterL_cons, afterL_nil]
    after_reads_at
  refine E.trans ?_
  exact Finset.sum_congr rfl fun j _ => by rw [b55, b59, v55_at, v59_at, mul_comm]

theorem v0_in (R C : Fin 8192) : (afterL pre X (Proc.devRef .tc main_v0) : S8192x8192.Idx → EReal) (ix2 R C) = zc X R C := by
  rw [zc, Ret.cells_at]
  simp only [pre, afterL_cons, afterL_nil]
  after_reads_at

/-! ## What loop 0 starts from -/

/-- The loop's copies of what it reads. -/
theorem copies_in : afterL pre X (Proc.devRef .tc main_v72_0) = afterL pre X (Proc.devRef .tc main_v66)
    ∧ afterL pre X (Proc.devRef .tc main_v72_1) = afterL pre X (Proc.devRef .tc main_v67)
    ∧ afterL pre X (Proc.devRef .tc main_v72_2) = afterL pre X (Proc.devRef .tc main_v68)
    ∧ afterL pre X (Proc.devRef .tc main_v72_3) = afterL pre X (Proc.devRef .tc main_v69) := by
  simp only [pre, afterL_cons, afterL_nil]
  refine ⟨?_, ?_, ?_, ?_⟩ <;> after_reads_simp <;> rfl

theorem q0_at (c : Fin 64) (h : Fin 4) (i : Fin 128) (a : Fin 256) :
    afterL pre X (Proc.devRef .tc main_v72_0) (ix5 c 0 i h a) = Ret.q (zc X) c h i a := by
  rw [← v51_at]
  simp only [pre, afterL_cons, afterL_nil]
  after_reads_simp
  simp only [id_eq]
  clean_types
  pointwise

theorem kz0_at (c : Fin 64) (h : Fin 4) (i : Fin 128) (a : Fin 256) :
    afterL pre X (Proc.devRef .tc main_v72_1) (ix5 c 0 i h a) = Ret.k (zc X) c h i a * Ret.zeta h i := by
  rw [← v54_at, ← v47_at X]
  simp only [pre, afterL_cons, afterL_nil]
  after_reads_simp
  simp only [id_eq]
  clean_types
  pointwise

theorem v0_at (c : Fin 64) (h : Fin 4) (i : Fin 128) (e : Fin 512) :
    afterL pre X (Proc.devRef .tc main_v72_2) (ix5 c 0 i h e) = Ret.v (zc X) c h i e := by
  rw [← v55_at]
  simp only [pre, afterL_cons, afterL_nil]
  after_reads_simp
  simp only [id_eq]
  clean_types
  pointwise

theorem g0_at (h : Fin 4) : afterL pre X (Proc.devRef .tc main_v72_3) (ix4 0 h 0 0) = Ret.gch h := by
  rw [← v50_at X]
  simp only [pre, afterL_cons, afterL_nil]
  after_reads_simp
  simp only [id_eq]
  clean_types
  pointwise

theorem st0_at (h : Fin 4) (a : Fin 256) (e : Fin 512) : afterL pre X (Proc.devRef .tc main_v72_5) (ix4 0 h a e) = (0 : EReal) := by
  simp only [pre, afterL_cons, afterL_nil]
  after_reads_simp
  simp only [id_eq]
  clean_types
  pointwise

end Cert.ReferenceIdeal.Ref

end
-- ==== Proof.RunningIndex.lean ====
module

public import Idealize.ShloMosaic.Lib.Pointwise
public import Idealize.ShloMosaic.Lib.Scf

@[expose] public section

/-! # A loop's running index into the first of five axes -/

noncomputable section

namespace Cert.Ret

open Idealize.ShloMosaic

/-- One entry along the first of five axes, read at a running index. -/
theorem slice_at {α : Type} {n A B C D : ℕ} (x : (⟨5, ![n, A, B, C, D]⟩ : Shape).Idx → α) (start : Fin 5 → Int)
    (hS : (⟨5, ![n, A, B, C, D]⟩ : Shape).Slices (fun _ => 0) ⟨5, ![1, A, B, C, D]⟩) (k : Fin n)
    (h0 : start 0 = k.val) (h1 : start 1 = 0) (h2 : start 2 = 0) (h3 : start 3 = 0) (h4 : start 4 = 0)
    (a : Fin A) (b : Fin B) (c : Fin C) (d : Fin D) :
    Host.dynamicSlice ⟨5, ![1, A, B, C, D]⟩ x start hS (ix5 0 a b c d) = x (ix5 k a b c d) := by
  have e0 : Host.clampedStart ⟨5, ![n, A, B, C, D]⟩ ⟨5, ![1, A, B, C, D]⟩ hS.1 start 0 = k.val := Host.clampedStart_of_le _ _ _ _ h0 k.isLt
  have e1 : Host.clampedStart ⟨5, ![n, A, B, C, D]⟩ ⟨5, ![1, A, B, C, D]⟩ hS.1 start 1 = 0 := Host.clampedStart_of_le _ _ _ _ h1 (Nat.zero_add _).le
  have e2 : Host.clampedStart ⟨5, ![n, A, B, C, D]⟩ ⟨5, ![1, A, B, C, D]⟩ hS.1 start 2 = 0 := Host.clampedStart_of_le _ _ _ _ h2 (Nat.zero_add _).le
  have e3 : Host.clampedStart ⟨5, ![n, A, B, C, D]⟩ ⟨5, ![1, A, B, C, D]⟩ hS.1 start 3 = 0 := Host.clampedStart_of_le _ _ _ _ h3 (Nat.zero_add _).le
  have e4 : Host.clampedStart ⟨5, ![n, A, B, C, D]⟩ ⟨5, ![1, A, B, C, D]⟩ hS.1 start 4 = 0 := Host.clampedStart_of_le _ _ _ _ h4 (Nat.zero_add _).le
  show x _ = x _
  refine congrArg x (funext fun β => Fin.ext ?_)
  fin_cases β
  · exact congrArg (· + 0) e0
  · exact (congrArg (· + a.val) e1).trans (Nat.zero_add _)
  · exact (congrArg (· + b.val) e2).trans (Nat.zero_add _)
  · exact (congrArg (· + c.val) e3).trans (Nat.zero_add _)
  · exact (congrArg (· + d.val) e4).trans (Nat.zero_add _)

/-- The same entry with the axis dropped. -/
theorem slice4_at {α : Type} {n A B C D : ℕ} (x : (⟨5, ![n, A, B, C, D]⟩ : Shape).Idx → α) (start : Fin 5 → Int)
    (hS : (⟨5, ![n, A, B, C, D]⟩ : Shape).Slices (fun _ => 0) ⟨5, ![1, A, B, C, D]⟩)
    (hc : (⟨5, ![1, A, B, C, D]⟩ : Shape).ShapeCasts ⟨4, ![A, B, C, D]⟩) (k : Fin n)
    (h0 : start 0 = k.val) (h1 : start 1 = 0) (h2 : start 2 = 0) (h3 : start 3 = 0) (h4 : start 4 = 0)
    (a : Fin A) (b : Fin B) (c : Fin C) (d : Fin D) :
    shapeCast ⟨4, ![A, B, C, D]⟩ (Host.dynamicSlice ⟨5, ![1, A, B, C, D]⟩ x start hS) hc (ix4 a b c d) = x (ix5 k a b c d) := by
  refine Eq.trans ?_ (slice_at x start hS k h0 h1 h2 h3 h4 a b c d)
  refine congrArg _ (Shape.reshapeEquiv_eq_of_rowMajor hc ?_)
  rw [Shape.rowMajor_val_five, Shape.rowMajor_val_four]
  show ((((0 * A + a.val) * B + b.val) * C + c.val) * D + d.val) = ((a.val * B + b.val) * C + c.val) * D + d.val
  rw [Nat.zero_mul, Nat.zero_add]

/-- One entry along the first of five axes replaced at a running index. -/
theorem update_at {α : Type} {n A B C D : ℕ} (x : (⟨5, ![n, A, B, C, D]⟩ : Shape).Idx → α) (u : (⟨5, ![1, A, B, C, D]⟩ : Shape).Idx → α) (start : Fin 5 → Int)
    (hS : (⟨5, ![n, A, B, C, D]⟩ : Shape).Slices (fun _ => 0) ⟨5, ![1, A, B, C, D]⟩) (k : Fin n)
    (h0 : start 0 = k.val) (h1 : start 1 = 0) (h2 : start 2 = 0) (h3 : start 3 = 0) (h4 : start 4 = 0)
    (j : Fin n) (a : Fin A) (b : Fin B) (c : Fin C) (d : Fin D) :
    Host.dynamicUpdateSlice x u start hS (ix5 j a b c d) = if j.val = k.val then u (ix5 0 a b c d) else x (ix5 j a b c d) := by
  have e0 : Host.clampedStart ⟨5, ![n, A, B, C, D]⟩ ⟨5, ![1, A, B, C, D]⟩ hS.1 start 0 = k.val := Host.clampedStart_of_le _ _ _ _ h0 k.isLt
  have e1 : Host.clampedStart ⟨5, ![n, A, B, C, D]⟩ ⟨5, ![1, A, B, C, D]⟩ hS.1 start 1 = 0 := Host.clampedStart_of_le _ _ _ _ h1 (Nat.zero_add _).le
  have e2 : Host.clampedStart ⟨5, ![n, A, B, C, D]⟩ ⟨5, ![1, A, B, C, D]⟩ hS.1 start 2 = 0 := Host.clampedStart_of_le _ _ _ _ h2 (Nat.zero_add _).le
  have e3 : Host.clampedStart ⟨5, ![n, A, B, C, D]⟩ ⟨5, ![1, A, B, C, D]⟩ hS.1 start 3 = 0 := Host.clampedStart_of_le _ _ _ _ h3 (Nat.zero_add _).le
  have e4 : Host.clampedStart ⟨5, ![n, A, B, C, D]⟩ ⟨5, ![1, A, B, C, D]⟩ hS.1 start 4 = 0 := Host.clampedStart_of_le _ _ _ _ h4 (Nat.zero_add _).le
  have le_lt : ∀ {s t p q : ℕ}, s = t → t ≤ p → p < t + q → s ≤ p ∧ p < s + q := fun e h h' => by omega
  rw [Host.dynamicUpdateSlice_apply]
  by_cases h : j.val = k.val
  · rw [if_pos h, dif_pos]
    · refine congrArg u (funext fun β => Fin.ext ?_)
      fin_cases β
      · exact (congrArg (j.val - ·) e0).trans (by simp [h])
      · exact congrArg (a.val - ·) e1
      · exact congrArg (b.val - ·) e2
      · exact congrArg (c.val - ·) e3
      · exact congrArg (d.val - ·) e4
    · intro β
      fin_cases β
      · exact le_lt e0 h.ge (by show j.val < k.val + 1; omega)
      · exact le_lt e1 (Nat.zero_le a.val) (by show a.val < 0 + A; omega)
      · exact le_lt e2 (Nat.zero_le b.val) (by show b.val < 0 + B; omega)
      · exact le_lt e3 (Nat.zero_le c.val) (by show c.val < 0 + C; omega)
      · exact le_lt e4 (Nat.zero_le d.val) (by show d.val < 0 + D; omega)
  · rw [if_neg h, dif_neg]
    intro hin
    have h0 : Host.clampedStart ⟨5, ![n, A, B, C, D]⟩ ⟨5, ![1, A, B, C, D]⟩ hS.1 start 0 ≤ j.val
      ∧ j.val < Host.clampedStart ⟨5, ![n, A, B, C, D]⟩ ⟨5, ![1, A, B, C, D]⟩ hS.1 start 0 + 1 := hin 0
    rw [e0] at h0
    omega

/-- A trip number as a signed word. -/
theorem trip_toInt {n : ℕ} (k : Fin n) (hn : n ≤ 64) : (Scf.iv (0#32 : BitVec 32) 1#32 k.val).toInt = k.val := by
  have e := Scf.toInt_iv (lb := (0#32 : BitVec 32)) (ub := 64#32) (st := 1#32) (by decide) (k := k.val) (by
    have : Scf.trips (0#32 : BitVec 32) 64#32 1#32 = 64 := by decide
    omega)
  rw [e]; simp

/-- A trip number counted back from the last of 64. -/
theorem back_toInt (n : ℕ) (hn : n < 64) : ((64#32 : BitVec 32) - Scf.iv 0#32 1#32 n - 1#32).toInt = ((63 - n : ℕ) : ℤ) := by
  have h : ∀ n : Fin 64, ((64#32 : BitVec 32) - Scf.iv 0#32 1#32 n.val - 1#32).toInt = ((63 - n.val : ℕ) : ℤ) := by decide +kernel
  exact h ⟨n, hn⟩

end Cert.Ret

end
-- ==== Proof.RefLoop0.lean ====
module

public import proofs.«01_k».proof.Proof.RefPre
public import proofs.«01_k».proof.Proof.RunningIndex

@[expose] public section

set_option maxRecDepth 16384

/-! # One trip of the reference's first loop, in formulas

The loop carries the queries, the scaled and decayed keys, the values, the decay across a chunk, the trip's number, the state, and
two stacks: what the state contributes to each chunk's result, and the states themselves. -/

noncomputable section

namespace Cert.ReferenceIdeal.Ref

open Cert.ReferenceIdeal.Gen
open Idealize.ShloMosaic Idealize.ShloMosaic.TcCoe Idealize.ShloMosaic.StableHlo

variable (X : Valuation τ sig (Elt Ideal))

/-- The buffers loop 0 carries. -/
abbrev Q0 : S64x1x128x4x256.Idx → EReal := X (Proc.devRef .tc main_v72_0)
abbrev KZ0 : S64x1x128x4x256.Idx → EReal := X (Proc.devRef .tc main_v72_1)
abbrev V0 : S64x1x128x4x512.Idx → EReal := X (Proc.devRef .tc main_v72_2)
abbrev G0 : S1x4x1x1.Idx → EReal := X (Proc.devRef .tc main_v72_3)
abbrev N0 : S_.Idx → BitVec 32 := X (Proc.devRef .tc main_v72_4)
abbrev S0 : S1x4x256x512.Idx → EReal := X (Proc.devRef .tc main_v72_5)
abbrev C0 : S64x1x128x4x512.Idx → EReal := X (Proc.devRef .tc main_v72_6)
abbrev H0 : S64x1x4x256x512.Idx → EReal := X (Proc.devRef .tc main_v72_7)
/-- A trip's queries, keys and values, what the state contributes, and the next state. -/
abbrev q0 : S1x128x4x256.Idx → EReal := X (Proc.devRef .tc main_while0b_v155)
abbrev kz0 : S1x128x4x256.Idx → EReal := X (Proc.devRef .tc main_while0b_v156)
abbrev v0 : S1x128x4x512.Idx → EReal := X (Proc.devRef .tc main_while0b_v157)
abbrev c0 : S1x128x4x512.Idx → EReal := X (Proc.devRef .tc main_while0b_v159)
abbrev s0 : S1x4x256x512.Idx → EReal := X (Proc.devRef .tc main_while0b_v163)

/-! ## The stretches of a trip -/

theorem q0_slice (k : Fin 64) (hk : N0 X = fun _ => Scf.iv 0#32 1#32 k) (i : Fin 128) (h : Fin 4) (a : Fin 256) :
    q0 (after while0Ops0 X) (ix4 0 i h a) = Q0 X (ix5 k 0 i h a) := by
  simp only [q0]
  after_reads_simp
  simp -implicitDefEqProofs only [StableHlo.TRef.toBuf, StableHlo.TRef.ofBuf, cast_cast, cast_eq]
  refine Ret.slice4_at (Q0 X) _ _ _ k ?_ ?_ ?_ ?_ ?_ 0 i h a
  all_goals
    dsimp only [Matrix.cons_val, cast_eq, TRef.of]
    after_reads_simp
  · exact (congrArg (fun w : S_.Idx → BitVec 32 => (w (Shape.Idx.first h_S_)).toInt) hk).trans (Ret.trip_toInt k le_rfl)
  all_goals rfl

theorem kz0_slice (k : Fin 64) (hk : N0 X = fun _ => Scf.iv 0#32 1#32 k) (i : Fin 128) (h : Fin 4) (a : Fin 256) :
    kz0 (after while0Ops0_1 X) (ix4 0 i h a) = KZ0 X (ix5 k 0 i h a) := by
  simp only [kz0]
  after_reads_simp
  simp -implicitDefEqProofs only [StableHlo.TRef.toBuf, StableHlo.TRef.ofBuf, cast_cast, cast_eq]
  refine Ret.slice4_at (KZ0 X) _ _ _ k ?_ ?_ ?_ ?_ ?_ 0 i h a
  all_goals
    dsimp only [Matrix.cons_val, cast_eq, TRef.of]
    after_reads_simp
  · exact (congrArg (fun w : S_.Idx → BitVec 32 => (w (Shape.Idx.first h_S_)).toInt) hk).trans (Ret.trip_toInt k le_rfl)
  all_goals rfl

theorem v0_slice (k : Fin 64) (hk : N0 X = fun _ => Scf.iv 0#32 1#32 k) (i : Fin 128) (h : Fin 4) (e : Fin 512) :
    v0 (after while0Ops0_2 X) (ix4 0 i h e) = V0 X (ix5 k 0 i h e) := by
  simp only [v0]
  after_reads_simp
  simp -implicitDefEqProofs only [StableHlo.TRef.toBuf, StableHlo.TRef.ofBuf, cast_cast, cast_eq]
  refine Ret.slice4_at (V0 X) _ _ _ k ?_ ?_ ?_ ?_ ?_ 0 i h e
  all_goals
    dsimp only [Matrix.cons_val, cast_eq, TRef.of]
    after_reads_simp
  · exact (congrArg (fun w : S_.Idx → BitVec 32 => (w (Shape.Idx.first h_S_)).toInt) hk).trans (Ret.trip_toInt k le_rfl)
  all_goals rfl

/-- What the state contributes to a chunk. -/
theorem c0_at (i : Fin 128) (h : Fin 4) (e : Fin 512) :
    c0 (after while0Ops0_3 X) (ix4 0 i h e) = ∑ a : Fin 256, q0 X (ix4 0 i h a) * S0 X (ix4 0 h a e) := by
  simp only [c0, q0, S0]
  after_reads_at
  exact Finset.sum_congr rfl fun a _ => mul_comm _ _

/-- The next state. -/
theorem s0_at (h : Fin 4) (a : Fin 256) (e : Fin 512) :
    s0 (after while0Ops0_3 X) (ix4 0 h a e)
      = S0 X (ix4 0 h a e) * G0 X (ix4 0 h 0 0) + ∑ i : Fin 128, kz0 X (ix4 0 i h a) * v0 X (ix4 0 i h e) := by
  simp only [s0, S0, G0, kz0, v0]
  after_reads_at

theorem C0_at (k : Fin 64) (hk : N0 X = fun _ => Scf.iv 0#32 1#32 k) (j : Fin 64) (i : Fin 128) (h : Fin 4) (e : Fin 512) :
    (after while0Ops0_4 X (Proc.devRef .tc main_while0b_v164) : S64x1x128x4x512.Idx → EReal) (ix5 j 0 i h e)
      = if j.val = k.val then c0 X (ix4 0 i h e) else C0 X (ix5 j 0 i h e) := by
  after_reads_simp
  simp -implicitDefEqProofs only [StableHlo.TRef.toBuf, StableHlo.TRef.ofBuf, cast_cast, cast_eq]
  refine (Ret.update_at (C0 X) _ _ _ k ?_ ?_ ?_ ?_ ?_ j 0 i h e).trans ?_
  rotate_right
  · clean_types
    pointwise
  all_goals
    dsimp only [Matrix.cons_val, cast_eq, TRef.of]
    after_reads_simp
  · exact (congrArg (fun w : S_.Idx → BitVec 32 => (w (Shape.Idx.first h_S_)).toInt) hk).trans (Ret.trip_toInt k le_rfl)
  all_goals rfl

theorem H0_at (k : Fin 64) (hk : N0 X = fun _ => Scf.iv 0#32 1#32 k) (j : Fin 64) (h : Fin 4) (a : Fin 256) (e : Fin 512) :
    (after while0Ops0_5 X (Proc.devRef .tc main_while0b_v165) : S64x1x4x256x512.Idx → EReal) (ix5 j 0 h a e)
      = if j.val = k.val then S0 X (ix4 0 h a e) else H0 X (ix5 j 0 h a e) := by
  after_reads_simp
  simp -implicitDefEqProofs only [StableHlo.TRef.toBuf, StableHlo.TRef.ofBuf, cast_cast, cast_eq]
  refine (Ret.update_at (H0 X) _ _ _ k ?_ ?_ ?_ ?_ ?_ j 0 h a e).trans ?_
  rotate_right
  · clean_types
    pointwise
  all_goals
    dsimp only [Matrix.cons_val, cast_eq, TRef.of]
    after_reads_simp
  · exact (congrArg (fun w : S_.Idx → BitVec 32 => (w (Shape.Idx.first h_S_)).toInt) hk).trans (Ret.trip_toInt k le_rfl)
  all_goals rfl

/-- The trip's end: the carried buffers take the new values. -/
theorem copies0 : S0 (after while0Ops0_6 X) = s0 X
    ∧ C0 (after while0Ops0_6 X) = X (Proc.devRef .tc main_while0b_v164)
    ∧ H0 (after while0Ops0_6 X) = X (Proc.devRef .tc main_while0b_v165) := by
  refine ⟨?_, ?_, ?_⟩ <;> simp only [S0, C0, H0, s0] <;> after_reads_simp <;> rfl

end Cert.ReferenceIdeal.Ref

end
-- ==== Proof.RefTrips0.lean ====
module

public import proofs.«01_k».proof.Proof.RefLoop0

@[expose] public section

set_option maxRecDepth 16384

/-! # The reference's first loop: what it leaves -/

noncomputable section

namespace Cert.ReferenceIdeal.Ref

open Cert.ReferenceIdeal.Gen
open Idealize.ShloMosaic Idealize.ShloMosaic.TcCoe Idealize.ShloMosaic.StableHlo

/-! ## A whole trip -/

section
variable (X : Valuation τ sig (Elt Ideal)) (k : Fin 64) (hk : N0 X = fun _ => Scf.iv 0#32 1#32 k)

/-- The stretches of a trip, one after another. -/
abbrev t0 : Valuation τ sig (Elt Ideal) := after cond0 X
abbrev t1 : Valuation τ sig (Elt Ideal) := after while0Ops0 (t0 X)
abbrev t2 : Valuation τ sig (Elt Ideal) := after while0Ops0_1 (t1 X)
abbrev t3 : Valuation τ sig (Elt Ideal) := after while0Ops0_2 (t2 X)
abbrev t4 : Valuation τ sig (Elt Ideal) := after while0Ops0_3 (t3 X)
abbrev t5 : Valuation τ sig (Elt Ideal) := after while0Ops0_4 (t4 X)
abbrev t6 : Valuation τ sig (Elt Ideal) := after while0Ops0_5 (t5 X)
abbrev t7 : Valuation τ sig (Elt Ideal) := after while0Ops0_6 (t6 X)

theorem body0_eq : afterL body0 (after cond0 X) = t7 X := rfl

/-- A buffer outside what a stretch writes, seven times. -/
theorem t0_keep (r : Ref sig .tc) (h : r ∉ loop0_W) : t0 X (Proc.devRef .tc r) = X (Proc.devRef .tc r) := loop0_keeps _ (by simp) X r h
theorem t1_keep (r : Ref sig .tc) (h : r ∉ while0Ops0_W) : t1 X (Proc.devRef .tc r) = t0 X (Proc.devRef .tc r) := after_of_writes_sub while0Ops0 _ while0Ops0_writes h
theorem t2_keep (r : Ref sig .tc) (h : r ∉ while0Ops0_1_W) : t2 X (Proc.devRef .tc r) = t1 X (Proc.devRef .tc r) := after_of_writes_sub while0Ops0_1 _ while0Ops0_1_writes h
theorem t3_keep (r : Ref sig .tc) (h : r ∉ while0Ops0_2_W) : t3 X (Proc.devRef .tc r) = t2 X (Proc.devRef .tc r) := after_of_writes_sub while0Ops0_2 _ while0Ops0_2_writes h
theorem t4_keep (r : Ref sig .tc) (h : r ∉ while0Ops0_3_W) : t4 X (Proc.devRef .tc r) = t3 X (Proc.devRef .tc r) := after_of_writes_sub while0Ops0_3 _ while0Ops0_3_writes h
theorem t5_keep (r : Ref sig .tc) (h : r ∉ while0Ops0_4_W) : t5 X (Proc.devRef .tc r) = t4 X (Proc.devRef .tc r) := after_of_writes_sub while0Ops0_4 _ while0Ops0_4_writes h
theorem t6_keep (r : Ref sig .tc) (h : r ∉ while0Ops0_5_W) : t6 X (Proc.devRef .tc r) = t5 X (Proc.devRef .tc r) := after_of_writes_sub while0Ops0_5 _ while0Ops0_5_writes h

/-- A buffer of the loop's that no stretch before the last writes. -/
theorem early_keep (r : Ref sig .tc) (h : r ∉ [main_while0c_c_31, main_while0c_v155]) (h0 : r ∉ while0Ops0_W) (h1 : r ∉ while0Ops0_1_W) (h2 : r ∉ while0Ops0_2_W) :
    t0 X (Proc.devRef .tc r) = X (Proc.devRef .tc r) ∧ t1 X (Proc.devRef .tc r) = X (Proc.devRef .tc r)
      ∧ t2 X (Proc.devRef .tc r) = X (Proc.devRef .tc r) ∧ t3 X (Proc.devRef .tc r) = X (Proc.devRef .tc r) := by
  have e0 : t0 X (Proc.devRef .tc r) = X (Proc.devRef .tc r) := after_of_writes_sub cond0 _ cond0_writes h
  exact ⟨e0, (t1_keep X r h0).trans e0, (t2_keep X r h1).trans ((t1_keep X r h0).trans e0),
    (t3_keep X r h2).trans ((t2_keep X r h1).trans ((t1_keep X r h0).trans e0))⟩

include hk

theorem q_trip (i : Fin 128) (h : Fin 4) (a : Fin 256) : q0 (t3 X) (ix4 0 i h a) = Q0 X (ix5 k 0 i h a) := by
  have e := early_keep X main_v72_4 (by decide +kernel) (by decide +kernel) (by decide +kernel) (by decide +kernel)
  have e' := early_keep X main_v72_0 (by decide +kernel) (by decide +kernel) (by decide +kernel) (by decide +kernel)
  have c := (t3_keep X main_while0b_v155 (by decide +kernel)).trans (t2_keep X main_while0b_v155 (by decide +kernel))
  exact (congrFun c _).trans ((q0_slice (t0 X) k (e.1.trans hk) i h a).trans (congrFun e'.1 _))

theorem kz_trip (i : Fin 128) (h : Fin 4) (a : Fin 256) : kz0 (t3 X) (ix4 0 i h a) = KZ0 X (ix5 k 0 i h a) := by
  have e := early_keep X main_v72_4 (by decide +kernel) (by decide +kernel) (by decide +kernel) (by decide +kernel)
  have e' := early_keep X main_v72_1 (by decide +kernel) (by decide +kernel) (by decide +kernel) (by decide +kernel)
  have c := t3_keep X main_while0b_v156 (by decide +kernel)
  exact (congrFun c _).trans ((kz0_slice (t1 X) k (e.2.1.trans hk) i h a).trans (congrFun e'.2.1 _))

theorem v_trip (i : Fin 128) (h : Fin 4) (a : Fin 512) : v0 (t3 X) (ix4 0 i h a) = V0 X (ix5 k 0 i h a) := by
  have e := early_keep X main_v72_4 (by decide +kernel) (by decide +kernel) (by decide +kernel) (by decide +kernel)
  have e' := early_keep X main_v72_2 (by decide +kernel) (by decide +kernel) (by decide +kernel) (by decide +kernel)
  exact (v0_slice (t2 X) k (e.2.2.1.trans hk) i h a).trans (congrFun e'.2.2.1 _)

/-- A trip's new state. -/
theorem S_trip (h : Fin 4) (a : Fin 256) (e : Fin 512) : S0 (t7 X) (ix4 0 h a e)
    = S0 X (ix4 0 h a e) * G0 X (ix4 0 h 0 0) + ∑ i : Fin 128, KZ0 X (ix5 k 0 i h a) * V0 X (ix5 k 0 i h e) := by
  have eS := early_keep X main_v72_5 (by decide +kernel) (by decide +kernel) (by decide +kernel) (by decide +kernel)
  have eG := early_keep X main_v72_3 (by decide +kernel) (by decide +kernel) (by decide +kernel) (by decide +kernel)
  have c := (t6_keep X main_while0b_v163 (by decide +kernel)).trans (t5_keep X main_while0b_v163 (by decide +kernel))
  refine (congrFun (copies0 (t6 X)).1 _).trans ((congrFun c _).trans ((s0_at (t3 X) h a e).trans ?_))
  exact congrArg₂ (· + ·) (congrArg₂ (· * ·) (congrFun eS.2.2.2 _) (congrFun eG.2.2.2 _))
    (Finset.sum_congr rfl fun i _ => congrArg₂ (· * ·) (kz_trip X k hk i h a) (v_trip X k hk i h e))

/-- The stack of what the state contributes. -/
theorem C_trip (j : Fin 64) (i : Fin 128) (h : Fin 4) (e : Fin 512) : C0 (t7 X) (ix5 j 0 i h e)
    = if j.val = k.val then ∑ a : Fin 256, Q0 X (ix5 k 0 i h a) * S0 X (ix4 0 h a e) else C0 X (ix5 j 0 i h e) := by
  have eN := early_keep X main_v72_4 (by decide +kernel) (by decide +kernel) (by decide +kernel) (by decide +kernel)
  have eS := early_keep X main_v72_5 (by decide +kernel) (by decide +kernel) (by decide +kernel) (by decide +kernel)
  have eC := early_keep X main_v72_6 (by decide +kernel) (by decide +kernel) (by decide +kernel) (by decide +kernel)
  have n4 := (t4_keep X main_v72_4 (by decide +kernel)).trans (eN.2.2.2.trans hk)
  have c4 := (t4_keep X main_v72_6 (by decide +kernel)).trans eC.2.2.2
  have c := t6_keep X main_while0b_v164 (by decide +kernel)
  refine (congrFun (copies0 (t6 X)).2.1 _).trans ((congrFun c _).trans ((C0_at (t4 X) k n4 j i h e).trans ?_))
  refine if_congr Iff.rfl ?_ (congrFun c4 _)
  exact (c0_at (t3 X) i h e).trans (Finset.sum_congr rfl fun a _ => congrArg₂ (· * ·) (q_trip X k hk i h a) (congrFun eS.2.2.2 _))

/-- The stack of states. -/
theorem H_trip (j : Fin 64) (h : Fin 4) (a : Fin 256) (e : Fin 512) : H0 (t7 X) (ix5 j 0 h a e)
    = if j.val = k.val then S0 X (ix4 0 h a e) else H0 X (ix5 j 0 h a e) := by
  have eN := early_keep X main_v72_4 (by decide +kernel) (by decide +kernel) (by decide +kernel) (by decide +kernel)
  have eS := early_keep X main_v72_5 (by decide +kernel) (by decide +kernel) (by decide +kernel) (by decide +kernel)
  have eH := early_keep X main_v72_7 (by decide +kernel) (by decide +kernel) (by decide +kernel) (by decide +kernel)
  have n5 := (t5_keep X main_v72_4 (by decide +kernel)).trans ((t4_keep X main_v72_4 (by decide +kernel)).trans (eN.2.2.2.trans hk))
  have s5 := (t5_keep X main_v72_5 (by decide +kernel)).trans ((t4_keep X main_v72_5 (by decide +kernel)).trans eS.2.2.2)
  have h5 := (t5_keep X main_v72_7 (by decide +kernel)).trans ((t4_keep X main_v72_7 (by decide +kernel)).trans eH.2.2.2)
  refine (congrFun (copies0 (t6 X)).2.2 _).trans ((H0_at (t5 X) k n5 j h a e).trans ?_)
  exact if_congr Iff.rfl (congrFun s5 _) (congrFun h5 _)

end

/-! ## All trips -/

variable (m : (ℓ : Loc nD τ sig) → Buf (Elt Ideal) ℓ) (c : Dev nD)

/-- The projection at launch by row and column. -/
abbrev zm : ℕ → ℕ → EReal := zc (launchContents m c)

/-- A buffer the loop only reads keeps what it held at the loop's entry. -/
theorem trip0_keep (k : ℕ) (r : Ref sig .tc) (h : r ∉ loop0_W) : trip0 m k c (Proc.devRef .tc r) = afterL pre (launchContents m c) (Proc.devRef .tc r) :=
  loop0_keeps.atTrip h _ c k

/-- Before trip `k` the state is that of chunk `k`, and the stacks hold the chunks before. -/
theorem trip0_holds : ∀ k ≤ 64,
    (∀ (h : Fin 4) (a : Fin 256) (e : Fin 512), S0 (trip0 m k c) (ix4 0 h a e) = Ret.st (zm m c) h k a e)
    ∧ (∀ (j : Fin 64) (i : Fin 128) (h : Fin 4) (e : Fin 512), j.val < k →
        C0 (trip0 m k c) (ix5 j 0 i h e) = ∑ a : Fin 256, Ret.q (zm m c) j h i a * Ret.st (zm m c) h j a e)
    ∧ ∀ (j : Fin 64) (h : Fin 4) (a : Fin 256) (e : Fin 512), j.val < k → H0 (trip0 m k c) (ix5 j 0 h a e) = Ret.st (zm m c) h j a e
  | 0, _ => ⟨fun h a e => st0_at _ h a e, fun j _ _ _ hj => absurd hj (Nat.not_lt_zero _), fun j _ _ _ hj => absurd hj (Nat.not_lt_zero _)⟩
  | k + 1, hk => by
    obtain ⟨hS, hC, hH⟩ := trip0_holds k (by omega)
    have n : N0 (trip0 m k c) = fun _ => Scf.iv 0#32 1#32 (⟨k, hk⟩ : Fin 64).val := trip0_ctr m c k
    have kQ := trip0_keep m c k main_v72_0 (by decide +kernel)
    have kK := trip0_keep m c k main_v72_1 (by decide +kernel)
    have kV := trip0_keep m c k main_v72_2 (by decide +kernel)
    have kG := trip0_keep m c k main_v72_3 (by decide +kernel)
    refine ⟨fun h a e => (S_trip _ ⟨k, hk⟩ n h a e).trans ?_, fun j i h e hj => (C_trip _ ⟨k, hk⟩ n j i h e).trans ?_,
      fun j h a e hj => (H_trip _ ⟨k, hk⟩ n j h a e).trans ?_⟩
    · exact congrArg₂ (· + ·) (congrArg₂ (· * ·) (hS h a e) ((congrFun kG _).trans (g0_at _ h)))
        (Finset.sum_congr rfl fun i _ => congrArg₂ (· * ·) ((congrFun kK _).trans (kz0_at _ _ h i a)) ((congrFun kV _).trans (v0_at _ _ h i e)))
    · split
      · rename_i e'
        have e' : j.val = k := e'
        rw [e']
        exact Finset.sum_congr rfl fun a _ => congrArg₂ (· * ·) ((congrFun kQ _).trans (q0_at _ _ h i a)) (hS h a e)
      · rename_i e'
        exact hC j i h e (by have : j.val ≠ k := e'; omega)
    · split
      · rename_i e'
        have e' : j.val = k := e'
        rw [e']
        exact hS h a e
      · rename_i e'
        exact hH j h a e (by have : j.val ≠ k := e'; omega)

end Cert.ReferenceIdeal.Ref

end
-- ==== Proof.RefLoop1.lean ====
module

public import proofs.«01_k».proof.Proof.RefPre
public import proofs.«01_k».proof.Proof.RunningIndex

@[expose] public section

set_option maxRecDepth 16384

/-! # One trip of the reference's second loop, in formulas

The loop runs over the chunks from the last to the first. It carries the gradients of what the state contributes, the queries, the
states, the values, the scaled and decayed keys, the decay across a chunk, the trip's number, the gradient of the state, and three
stacks: the state's part of the gradients of the queries, of the decayed keys and of the values. -/

noncomputable section

namespace Cert.ReferenceIdeal.Ref

open Cert.ReferenceIdeal.Gen
open Idealize.ShloMosaic Idealize.ShloMosaic.TcCoe Idealize.ShloMosaic.StableHlo

variable (X : Valuation τ sig (Elt Ideal))

/-- The buffers loop 1 carries. -/
abbrev D1 : S64x1x128x4x512.Idx → EReal := X (Proc.devRef .tc main_v122_0)
abbrev Q1 : S64x1x128x4x256.Idx → EReal := X (Proc.devRef .tc main_v122_1)
abbrev H1 : S64x1x4x256x512.Idx → EReal := X (Proc.devRef .tc main_v122_2)
abbrev V1 : S64x1x128x4x512.Idx → EReal := X (Proc.devRef .tc main_v122_3)
abbrev KZ1 : S64x1x128x4x256.Idx → EReal := X (Proc.devRef .tc main_v122_4)
abbrev G1 : S1x4x1x1.Idx → EReal := X (Proc.devRef .tc main_v122_5)
abbrev N1 : S_.Idx → BitVec 32 := X (Proc.devRef .tc main_v122_6)
abbrev A1 : S1x4x256x512.Idx → EReal := X (Proc.devRef .tc main_v122_7)
abbrev dQ1 : S64x1x128x4x256.Idx → EReal := X (Proc.devRef .tc main_v122_8)
abbrev dKZ1 : S64x1x128x4x256.Idx → EReal := X (Proc.devRef .tc main_v122_9)
abbrev dV1 : S64x1x128x4x512.Idx → EReal := X (Proc.devRef .tc main_v122_10)
/-- A trip's chunk, -/
abbrev I1 : S_.Idx → BitVec 32 := X (Proc.devRef .tc main_while1b_v156)
/-- its slices of what the loop reads, -/
abbrev d1 : S1x128x4x512.Idx → EReal := X (Proc.devRef .tc main_while1b_v157)
abbrev q1 : S1x128x4x256.Idx → EReal := X (Proc.devRef .tc main_while1b_v158)
abbrev h1 : S1x4x256x512.Idx → EReal := X (Proc.devRef .tc main_while1b_v159)
abbrev v1 : S1x128x4x512.Idx → EReal := X (Proc.devRef .tc main_while1b_v160)
abbrev kz1 : S1x128x4x256.Idx → EReal := X (Proc.devRef .tc main_while1b_v161)
/-- its gradients, and the gradient of the state before the chunk. -/
abbrev dv1 : S1x128x4x512.Idx → EReal := X (Proc.devRef .tc main_while1b_v163)
abbrev dkz1 : S1x128x4x256.Idx → EReal := X (Proc.devRef .tc main_while1b_v165)
abbrev dq1 : S1x128x4x256.Idx → EReal := X (Proc.devRef .tc main_while1b_v170)
abbrev a1 : S1x4x256x512.Idx → EReal := X (Proc.devRef .tc main_while1b_v173)

/-! ## The chunk's number -/

/-- Trip `n` is of chunk `63 - n`. -/
theorem I1_at (n : ℕ) (hn : n < 64) (hk : N1 X = fun _ => Scf.iv 0#32 1#32 n) (i : S_.Idx) :
    (I1 (after while1Ops0 X) i).toInt = ((63 - n : ℕ) : ℤ) := by
  have e : I1 (after while1Ops0 X) i = 64#32 - N1 X i - 1#32 := by
    simp only [I1, N1]
    after_reads_simp
    rfl
  rw [e, hk]
  exact Ret.back_toInt n hn

/-! ## The stretches of a trip -/

theorem d1_slice (k : Fin 64) (hk : ∀ i, (I1 X i).toInt = (k.val : ℤ)) (i : Fin 128) (h : Fin 4) (e : Fin 512) :
    d1 (after while1Ops0_1 X) (ix4 0 i h e) = D1 X (ix5 k 0 i h e) := by
  simp only [d1]
  after_reads_simp
  simp -implicitDefEqProofs only [StableHlo.TRef.toBuf, StableHlo.TRef.ofBuf, cast_cast, cast_eq]
  refine Ret.slice4_at (D1 X) _ _ _ k ?_ ?_ ?_ ?_ ?_ 0 i h e
  all_goals
    dsimp only [Matrix.cons_val, cast_eq, TRef.of]
    after_reads_simp
  · exact hk _
  all_goals rfl

theorem q1_slice (k : Fin 64) (hk : ∀ i, (I1 X i).toInt = (k.val : ℤ)) (i : Fin 128) (h : Fin 4) (a : Fin 256) :
    q1 (after while1Ops0_2 X) (ix4 0 i h a) = Q1 X (ix5 k 0 i h a) := by
  simp only [q1]
  after_reads_simp
  simp -implicitDefEqProofs only [StableHlo.TRef.toBuf, StableHlo.TRef.ofBuf, cast_cast, cast_eq]
  refine Ret.slice4_at (Q1 X) _ _ _ k ?_ ?_ ?_ ?_ ?_ 0 i h a
  all_goals
    dsimp only [Matrix.cons_val, cast_eq, TRef.of]
    after_reads_simp
  · exact hk _
  all_goals rfl

theorem h1_slice (k : Fin 64) (hk : ∀ i, (I1 X i).toInt = (k.val : ℤ)) (h : Fin 4) (a : Fin 256) (e : Fin 512) :
    h1 (after while1Ops0_3 X) (ix4 0 h a e) = H1 X (ix5 k 0 h a e) := by
  simp only [h1]
  after_reads_simp
  simp -implicitDefEqProofs only [StableHlo.TRef.toBuf, StableHlo.TRef.ofBuf, cast_cast, cast_eq]
  refine Ret.slice4_at (H1 X) _ _ _ k ?_ ?_ ?_ ?_ ?_ 0 h a e
  all_goals
    dsimp only [Matrix.cons_val, cast_eq, TRef.of]
    after_reads_simp
  · exact hk _
  all_goals rfl

theorem v1_slice (k : Fin 64) (hk : ∀ i, (I1 X i).toInt = (k.val : ℤ)) (i : Fin 128) (h : Fin 4) (e : Fin 512) :
    v1 (after while1Ops0_4 X) (ix4 0 i h e) = V1 X (ix5 k 0 i h e) := by
  simp only [v1]
  after_reads_simp
  simp -implicitDefEqProofs only [StableHlo.TRef.toBuf, StableHlo.TRef.ofBuf, cast_cast, cast_eq]
  refine Ret.slice4_at (V1 X) _ _ _ k ?_ ?_ ?_ ?_ ?_ 0 i h e
  all_goals
    dsimp only [Matrix.cons_val, cast_eq, TRef.of]
    after_reads_simp
  · exact hk _
  all_goals rfl

theorem kz1_slice (k : Fin 64) (hk : ∀ i, (I1 X i).toInt = (k.val : ℤ)) (i : Fin 128) (h : Fin 4) (a : Fin 256) :
    kz1 (after while1Ops0_5 X) (ix4 0 i h a) = KZ1 X (ix5 k 0 i h a) := by
  simp only [kz1]
  after_reads_simp
  simp -implicitDefEqProofs only [StableHlo.TRef.toBuf, StableHlo.TRef.ofBuf, cast_cast, cast_eq]
  refine Ret.slice4_at (KZ1 X) _ _ _ k ?_ ?_ ?_ ?_ ?_ 0 i h a
  all_goals
    dsimp only [Matrix.cons_val, cast_eq, TRef.of]
    after_reads_simp
  · exact hk _
  all_goals rfl

/-- What the state's gradient sends to the values, -/
theorem dv1_at (i : Fin 128) (h : Fin 4) (e : Fin 512) :
    dv1 (after while1Ops0_6 X) (ix4 0 i h e) = ∑ a : Fin 256, kz1 X (ix4 0 i h a) * A1 X (ix4 0 h a e) := by
  simp only [dv1, kz1, A1]
  after_reads_at
  exact Finset.sum_congr rfl fun a _ => mul_comm _ _

/-- to the decayed keys -/
theorem dkz1_at (i : Fin 128) (h : Fin 4) (a : Fin 256) :
    dkz1 (after while1Ops0_6 X) (ix4 0 i h a) = ∑ e : Fin 512, v1 X (ix4 0 i h e) * A1 X (ix4 0 h a e) := by
  simp only [dkz1, v1, A1]
  after_reads_at
  exact Finset.sum_congr rfl fun a _ => mul_comm _ _

/-- and the state to the queries. -/
theorem dq1_at (i : Fin 128) (h : Fin 4) (a : Fin 256) :
    dq1 (after while1Ops0_6 X) (ix4 0 i h a) = ∑ e : Fin 512, d1 X (ix4 0 i h e) * h1 X (ix4 0 h a e) := by
  simp only [dq1, d1, h1]
  after_reads_at

/-- The gradient of the state before the chunk. -/
theorem a1_at (h : Fin 4) (a : Fin 256) (e : Fin 512) :
    a1 (after while1Ops0_6 X) (ix4 0 h a e)
      = A1 X (ix4 0 h a e) * G1 X (ix4 0 h 0 0) + ∑ i : Fin 128, q1 X (ix4 0 i h a) * d1 X (ix4 0 i h e) := by
  simp only [a1, A1, G1, q1, d1]
  after_reads_at
  exact congrArg (_ + ·) (Finset.sum_congr rfl fun i _ => mul_comm _ _)

theorem dQ1_at (k : Fin 64) (hk : ∀ i, (I1 X i).toInt = (k.val : ℤ)) (j : Fin 64) (i : Fin 128) (h : Fin 4) (a : Fin 256) :
    (after while1Ops0_7 X (Proc.devRef .tc main_while1b_v174) : S64x1x128x4x256.Idx → EReal) (ix5 j 0 i h a)
      = if j.val = k.val then dq1 X (ix4 0 i h a) else dQ1 X (ix5 j 0 i h a) := by
  after_reads_simp
  simp -implicitDefEqProofs only [StableHlo.TRef.toBuf, StableHlo.TRef.ofBuf, cast_cast, cast_eq]
  refine (Ret.update_at (dQ1 X) _ _ _ k ?_ ?_ ?_ ?_ ?_ j 0 i h a).trans ?_
  rotate_right
  · clean_types
    pointwise
  all_goals
    dsimp only [Matrix.cons_val, cast_eq, TRef.of]
    after_reads_simp
  · exact hk _
  all_goals rfl

theorem dKZ1_at (k : Fin 64) (hk : ∀ i, (I1 X i).toInt = (k.val : ℤ)) (j : Fin 64) (i : Fin 128) (h : Fin 4) (a : Fin 256) :
    (after while1Ops0_8 X (Proc.devRef .tc main_while1b_v175) : S64x1x128x4x256.Idx → EReal) (ix5 j 0 i h a)
      = if j.val = k.val then dkz1 X (ix4 0 i h a) else dKZ1 X (ix5 j 0 i h a) := by
  after_reads_simp
  simp -implicitDefEqProofs only [StableHlo.TRef.toBuf, StableHlo.TRef.ofBuf, cast_cast, cast_eq]
  refine (Ret.update_at (dKZ1 X) _ _ _ k ?_ ?_ ?_ ?_ ?_ j 0 i h a).trans ?_
  rotate_right
  · clean_types
    pointwise
  all_goals
    dsimp only [Matrix.cons_val, cast_eq, TRef.of]
    after_reads_simp
  · exact hk _
  all_goals rfl

theorem dV1_at (k : Fin 64) (hk : ∀ i, (I1 X i).toInt = (k.val : ℤ)) (j : Fin 64) (i : Fin 128) (h : Fin 4) (e : Fin 512) :
    (after while1Ops0_9 X (Proc.devRef .tc main_while1b_v176) : S64x1x128x4x512.Idx → EReal) (ix5 j 0 i h e)
      = if j.val = k.val then dv1 X (ix4 0 i h e) else dV1 X (ix5 j 0 i h e) := by
  after_reads_simp
  simp -implicitDefEqProofs only [StableHlo.TRef.toBuf, StableHlo.TRef.ofBuf, cast_cast, cast_eq]
  refine (Ret.update_at (dV1 X) _ _ _ k ?_ ?_ ?_ ?_ ?_ j 0 i h e).trans ?_
  rotate_right
  · clean_types
    pointwise
  all_goals
    dsimp only [Matrix.cons_val, cast_eq, TRef.of]
    after_reads_simp
  · exact hk _
  all_goals rfl

/-- The trip's end: the carried buffers take the new values. -/
theorem copies1 : A1 (after while1Ops0_10 X) = a1 X
    ∧ dQ1 (after while1Ops0_10 X) = X (Proc.devRef .tc main_while1b_v174)
    ∧ dKZ1 (after while1Ops0_10 X) = X (Proc.devRef .tc main_while1b_v175)
    ∧ dV1 (after while1Ops0_10 X) = X (Proc.devRef .tc main_while1b_v176) := by
  refine ⟨?_, ?_, ?_, ?_⟩ <;> simp only [A1, dQ1, dKZ1, dV1, a1] <;> after_reads_simp <;> rfl

end Cert.ReferenceIdeal.Ref

end
-- ==== Proof.RefMid.lean ====
module

public import proofs.«01_k».proof.Proof.RefTrips0
public import proofs.«01_k».proof.Proof.RefLoop1

@[expose] public section

set_option maxRecDepth 16384

/-! # The reference between its loops, in formulas -/

noncomputable section

namespace Cert.ReferenceIdeal.Ref

open Cert.ReferenceIdeal.Gen
open Idealize.ShloMosaic Idealize.ShloMosaic.TcCoe Idealize.ShloMosaic.StableHlo

/-! ## From the buffers after loop 0 -/

section
variable (Y : Valuation τ sig (Elt Ideal))

/-- The retention's result, the gated result, the incoming gradient by chunk, and the decay from a chunk's beginning. -/
abbrev b78 : S1x8192x4x512.Idx → EReal := Y (Proc.devRef .tc main_v78)
abbrev b110 : S1x8192x2048.Idx → EReal := Y (Proc.devRef .tc main_v110)
abbrev b114 : S1x64x128x4x512.Idx → EReal := Y (Proc.devRef .tc main_v114)
abbrev b39 : S128x4.Idx → EReal := Y (Proc.devRef .tc main_v39)
/-- The arguments, and the projection after its widening. -/
abbrev a1' : S1x2048.Idx → EReal := Y (Proc.devRef .tc main_arg1)
abbrev a2' : S1x2048.Idx → EReal := Y (Proc.devRef .tc main_arg2)
abbrev a3' : S8192x2048.Idx → EReal := Y (Proc.devRef .tc main_arg3)
abbrev b0 : S8192x8192.Idx → EReal := Y (Proc.devRef .tc main_v0)

theorem v78_at (R : Fin 8192) (h : Fin 4) (e : Fin 512) : b78 (afterL mid Y) (ix4 0 R h e)
    = b61 Y (ix5 0 ⟨R / 128, by omega⟩ ⟨R % 128, by omega⟩ h e)
      + C0 Y (ix5 ⟨R / 128, by omega⟩ 0 ⟨R % 128, by omega⟩ h e) * b39 Y (ix2 ⟨R % 128, by omega⟩ h) := by
  simp only [b78, b61, C0, b39, mid, afterL_cons, afterL_nil]
  after_reads_at

/-- The group norm and the gate over the retention's result. -/
theorem v110_at (R : Fin 8192) (C : Fin 2048) : b110 (afterL mid Y) (ix3 0 R C)
    = (Ret.normed (fun e => if he : e < 512 then b78 (afterL mid Y) (ix4 0 R ⟨C / 512, by omega⟩ ⟨e, he⟩) else 0) (C % 512) * a1' Y (ix2 0 C) + a2' Y (ix2 0 C))
      * (b0 Y (ix2 R ⟨4096 + C, by omega⟩) * Ideal.logistic (b0 Y (ix2 R ⟨4096 + C, by omega⟩))) := by
  have hC : C.val % 512 < 512 := by omega
  simp only [Ret.normed, Ret.centred, Ret.mean, v78_at, dif_pos hC, Fin.is_lt, dite_true]
  simp only [b110, b61, C0, b39, a1', a2', b0, mid, afterL_cons, afterL_nil]
  after_reads_at
  rfl

theorem v114_at (c : Fin 64) (i : Fin 128) (h : Fin 4) (e : Fin 512) : b114 (afterL mid Y) (ix5 0 c i h e) = Ret.dd (Ret.cells (a3' Y)) c h i e := by
  refine Eq.trans (b := a3' Y (ix2 ⟨128 * c + i, by omega⟩ ⟨512 * h + e, by omega⟩)) ?_ (at_cell _ _ _ _ _ rfl rfl)
  simp only [b114, a3', mid, afterL_cons, afterL_nil]
  after_reads_at
  congr 3 <;> omega

theorem D1_in (c : Fin 64) (i : Fin 128) (h : Fin 4) (e : Fin 512) :
    D1 (afterL mid Y) (ix5 c 0 i h e) = b114 (afterL mid Y) (ix5 0 c i h e) * b39 Y (ix2 i h) := by
  simp only [D1, b114, b39, mid, afterL_cons, afterL_nil]
  after_reads_simp
  simp only [id_eq]
  clean_types
  pointwise

theorem A1_in (h : Fin 4) (a : Fin 256) (e : Fin 512) : A1 (afterL mid Y) (ix4 0 h a e) = 0 := by
  simp only [A1, mid, afterL_cons, afterL_nil]
  after_reads_simp
  simp only [id_eq]
  clean_types
  pointwise

/-- The loop's copies of what it reads. -/
theorem copies_mid : afterL mid Y (Proc.devRef .tc main_v122_1) = Y (Proc.devRef .tc main_v66)
    ∧ afterL mid Y (Proc.devRef .tc main_v122_2) = Y (Proc.devRef .tc main_v72_7)
    ∧ afterL mid Y (Proc.devRef .tc main_v122_3) = Y (Proc.devRef .tc main_v68)
    ∧ afterL mid Y (Proc.devRef .tc main_v122_4) = Y (Proc.devRef .tc main_v67)
    ∧ afterL mid Y (Proc.devRef .tc main_v122_5) = Y (Proc.devRef .tc main_v69) := by
  simp only [mid, afterL_cons, afterL_nil]
  refine ⟨?_, ?_, ?_, ?_, ?_⟩ <;> after_reads_simp <;> rfl

end

/-! ## From the launch -/

variable (m : (ℓ : Loc nD τ sig) → Buf (Elt Ideal) ℓ) (c : Dev nD)

/-- The other arguments at launch by row and column. -/
abbrev gm : ℕ → EReal := Ret.cells (M := 1) (N := 2048) (launchContents m c (Proc.devRef .tc main_arg1)) 0
abbrev bm : ℕ → EReal := Ret.cells (M := 1) (N := 2048) (launchContents m c (Proc.devRef .tc main_arg2)) 0
abbrev dm : ℕ → ℕ → EReal := Ret.cells (M := 8192) (N := 2048) (launchContents m c (Proc.devRef .tc main_arg3))

/-- The buffers when loop 0 has ended. -/
abbrev out0 : Valuation τ sig (Elt Ideal) := after cond0 (trip0 m 64 c)

/-- A buffer loop 0 does not write. -/
theorem out0_keep (r : Ref sig .tc) (h : r ∉ loop0_W) : out0 m c (Proc.devRef .tc r) = afterL pre (launchContents m c) (Proc.devRef .tc r) :=
  (loop0_keeps cond0 List.mem_cons_self _ r h).trans (trip0_keep m c 64 r h)

/-- An argument, which nothing before loop 1 writes. -/
theorem out0_arg (r : Ref sig .tc) (h : r ∉ loop0_W) (h' : r ∉ pre_W) : out0 m c (Proc.devRef .tc r) = launchContents m c (Proc.devRef .tc r) :=
  (out0_keep m c r h).trans (pre_keeps.afterL h' _)

theorem out0_C (j : Fin 64) (i : Fin 128) (h : Fin 4) (e : Fin 512) :
    C0 (out0 m c) (ix5 j 0 i h e) = ∑ a : Fin 256, Ret.q (zm m c) j h i a * Ret.st (zm m c) h j a e :=
  (congrFun (after_of_writes_sub cond0 _ cond0_writes (by decide +kernel) : out0 m c (Proc.devRef .tc main_v72_6) = _) _).trans
    ((trip0_holds m c 64 le_rfl).2.1 j i h e j.isLt)

theorem out0_H (j : Fin 64) (h : Fin 4) (a : Fin 256) (e : Fin 512) : H0 (out0 m c) (ix5 j 0 h a e) = Ret.st (zm m c) h j a e :=
  (congrFun (after_of_writes_sub cond0 _ cond0_writes (by decide +kernel) : out0 m c (Proc.devRef .tc main_v72_7) = _) _).trans
    ((trip0_holds m c 64 le_rfl).2.2 j h a e j.isLt)

/-- The retention's result. -/
theorem o_mid (R : Fin 8192) (h : Fin 4) (e : Fin 512) : b78 (entry1 m c) (ix4 0 R h e) = Ret.o (zm m c) (R / 128) h (R % 128) e := by
  refine (v78_at _ R h e).trans (congrArg₂ (· + ·) ?_ (congrArg₂ (· * ·) (out0_C m c _ _ h e) ?_))
  · exact (congrFun (out0_keep m c main_v61 (by decide +kernel)) _).trans (v61_at _ ⟨R / 128, by omega⟩ h ⟨R % 128, by omega⟩ e)
  · exact (congrFun (out0_keep m c main_v39 (by decide +kernel)) _).trans (v39_at _ h ⟨R % 128, by omega⟩)

/-- The norm looks at a head's features only. -/
theorem normed_congr (x y : ℕ → EReal) (h : ∀ e < 512, x e = y e) (e : ℕ) (he : e < 512) : Ret.normed x e = Ret.normed y e := by
  have s : (∑ e : Fin 512, x e) = ∑ e : Fin 512, y e := Finset.sum_congr rfl fun e _ => h e e.isLt
  have c : ∀ e < 512, Ret.centred x e = Ret.centred y e := fun e he => by rw [Ret.centred, Ret.centred, Ret.mean, Ret.mean, s, h e he]
  have v : (∑ e : Fin 512, Ret.centred x e * Ret.centred x e) = ∑ e : Fin 512, Ret.centred y e * Ret.centred y e :=
    Finset.sum_congr rfl fun e _ => by rw [c e e.isLt]
  rw [Ret.normed, Ret.normed, c e he, Ret.mean, Ret.mean, v]

/-- The gated result. -/
theorem gated_mid (R : Fin 8192) (C : Fin 2048) : b110 (entry1 m c) (ix3 0 R C) = Ret.gatedAt (zm m c) (gm m c) (bm m c) R C := by
  refine (v110_at _ R C).trans ?_
  have e0 : b0 (out0 m c) (ix2 R ⟨4096 + C, by omega⟩) = Ret.r (zm m c) (R / 128) (C / 512) (R % 128) (C % 512) := by
    refine (congrFun (out0_keep m c main_v0 (by decide +kernel)) _).trans ((v0_in _ R ⟨4096 + C, by omega⟩).trans ?_)
    exact congrArg₂ (zm m c) (by omega) (by show 4096 + C.val = 4096 + 512 * (C / 512) + C % 512; omega)
  have e1 : a1' (out0 m c) (ix2 0 C) = gm m c (512 * (C / 512) + C % 512) :=
    (congrFun (out0_arg m c main_arg1 (by decide +kernel) (by decide +kernel)) _).trans (at_cell _ Nat.zero_lt_one C.isLt _ _ rfl (by omega))
  have e2 : a2' (out0 m c) (ix2 0 C) = bm m c (512 * (C / 512) + C % 512) :=
    (congrFun (out0_arg m c main_arg2 (by decide +kernel) (by decide +kernel)) _).trans (at_cell _ Nat.zero_lt_one C.isLt _ _ rfl (by omega))
  rw [e0, e1, e2, normed_congr _ (Ret.o (zm m c) (R / 128) (C / 512) (R % 128)) (fun e he => by rw [dif_pos he]; exact o_mid m c R _ _) _ (by omega)]
  rfl

/-- The incoming gradient by chunk. -/
theorem dd_mid (j : Fin 64) (i : Fin 128) (h : Fin 4) (e : Fin 512) : b114 (entry1 m c) (ix5 0 j i h e) = Ret.dd (dm m c) j h i e := by
  refine (v114_at _ j i h e).trans ?_
  rw [show a3' (out0 m c) = _ from out0_arg m c main_arg3 (by decide +kernel) (by decide +kernel)]

/-! ## What loop 1 starts from -/

theorem D1_mid (j : Fin 64) (i : Fin 128) (h : Fin 4) (e : Fin 512) : D1 (entry1 m c) (ix5 j 0 i h e) = Ret.dcross (dm m c) j h i e :=
  (D1_in _ j i h e).trans (congrArg₂ (· * ·) (dd_mid m c j i h e)
    ((congrFun (out0_keep m c main_v39 (by decide +kernel)) _).trans (v39_at _ h i)))

theorem Q1_mid (j : Fin 64) (i : Fin 128) (h : Fin 4) (a : Fin 256) : Q1 (entry1 m c) (ix5 j 0 i h a) = Ret.q (zm m c) j h i a :=
  (congrFun ((copies_mid _).1.trans ((out0_keep m c main_v66 (by decide +kernel)).trans (copies_in _).1.symm)) _).trans (q0_at _ j h i a)

theorem H1_mid (j : Fin 64) (h : Fin 4) (a : Fin 256) (e : Fin 512) : H1 (entry1 m c) (ix5 j 0 h a e) = Ret.st (zm m c) h j a e :=
  (congrFun (copies_mid _).2.1 _).trans (out0_H m c j h a e)

theorem V1_mid (j : Fin 64) (i : Fin 128) (h : Fin 4) (e : Fin 512) : V1 (entry1 m c) (ix5 j 0 i h e) = Ret.v (zm m c) j h i e :=
  (congrFun ((copies_mid _).2.2.1.trans ((out0_keep m c main_v68 (by decide +kernel)).trans (copies_in _).2.2.1.symm)) _).trans (v0_at _ j h i e)

theorem KZ1_mid (j : Fin 64) (i : Fin 128) (h : Fin 4) (a : Fin 256) : KZ1 (entry1 m c) (ix5 j 0 i h a) = Ret.k (zm m c) j h i a * Ret.zeta h i :=
  (congrFun ((copies_mid _).2.2.2.1.trans ((out0_keep m c main_v67 (by decide +kernel)).trans (copies_in _).2.1.symm)) _).trans (kz0_at _ j h i a)

theorem G1_mid (h : Fin 4) : G1 (entry1 m c) (ix4 0 h 0 0) = Ret.gch h :=
  (congrFun ((copies_mid _).2.2.2.2.trans ((out0_keep m c main_v69 (by decide +kernel)).trans (copies_in _).2.2.2.symm)) _).trans (g0_at _ h)

theorem A1_mid (h : Fin 4) (a : Fin 256) (e : Fin 512) : A1 (entry1 m c) (ix4 0 h a e) = 0 := A1_in _ h a e

end Cert.ReferenceIdeal.Ref

end
-- ==== Proof.RefTrips1.lean ====
module

public import proofs.«01_k».proof.Proof.RefMid

@[expose] public section

set_option maxRecDepth 16384

/-! # The reference's second loop: what it leaves -/

noncomputable section

namespace Cert.ReferenceIdeal.Ref

open Cert.ReferenceIdeal.Gen
open Idealize.ShloMosaic Idealize.ShloMosaic.TcCoe Idealize.ShloMosaic.StableHlo

/-! ## A whole trip -/

section
variable (X : Valuation τ sig (Elt Ideal)) (n : ℕ) (hn : n < 64) (hk : N1 X = fun _ => Scf.iv 0#32 1#32 n)

/-- The stretches of a trip, one after another. -/
abbrev u0 : Valuation τ sig (Elt Ideal) := after cond1 X
abbrev u1 : Valuation τ sig (Elt Ideal) := after while1Ops0 (u0 X)
abbrev u2 : Valuation τ sig (Elt Ideal) := after while1Ops0_1 (u1 X)
abbrev u3 : Valuation τ sig (Elt Ideal) := after while1Ops0_2 (u2 X)
abbrev u4 : Valuation τ sig (Elt Ideal) := after while1Ops0_3 (u3 X)
abbrev u5 : Valuation τ sig (Elt Ideal) := after while1Ops0_4 (u4 X)
abbrev u6 : Valuation τ sig (Elt Ideal) := after while1Ops0_5 (u5 X)
abbrev u7 : Valuation τ sig (Elt Ideal) := after while1Ops0_6 (u6 X)
abbrev u8 : Valuation τ sig (Elt Ideal) := after while1Ops0_7 (u7 X)
abbrev u9 : Valuation τ sig (Elt Ideal) := after while1Ops0_8 (u8 X)
abbrev u10 : Valuation τ sig (Elt Ideal) := after while1Ops0_9 (u9 X)
abbrev u11 : Valuation τ sig (Elt Ideal) := after while1Ops0_10 (u10 X)

theorem body1_eq : afterL body1 (after cond1 X) = u11 X := rfl

/-- A buffer outside what a stretch writes. -/
theorem u0_keep (r : Ref sig .tc) (h : r ∉ [main_while1c_c_34, main_while1c_v155]) : u0 X (Proc.devRef .tc r) = X (Proc.devRef .tc r) :=
  after_of_writes_sub cond1 _ cond1_writes h
theorem u1_keep (r : Ref sig .tc) (h : r ∉ while1Ops0_W) : u1 X (Proc.devRef .tc r) = u0 X (Proc.devRef .tc r) := after_of_writes_sub while1Ops0 _ while1Ops0_writes h
theorem u2_keep (r : Ref sig .tc) (h : r ∉ while1Ops0_1_W) : u2 X (Proc.devRef .tc r) = u1 X (Proc.devRef .tc r) := after_of_writes_sub while1Ops0_1 _ while1Ops0_1_writes h
theorem u3_keep (r : Ref sig .tc) (h : r ∉ while1Ops0_2_W) : u3 X (Proc.devRef .tc r) = u2 X (Proc.devRef .tc r) := after_of_writes_sub while1Ops0_2 _ while1Ops0_2_writes h
theorem u4_keep (r : Ref sig .tc) (h : r ∉ while1Ops0_3_W) : u4 X (Proc.devRef .tc r) = u3 X (Proc.devRef .tc r) := after_of_writes_sub while1Ops0_3 _ while1Ops0_3_writes h
theorem u5_keep (r : Ref sig .tc) (h : r ∉ while1Ops0_4_W) : u5 X (Proc.devRef .tc r) = u4 X (Proc.devRef .tc r) := after_of_writes_sub while1Ops0_4 _ while1Ops0_4_writes h
theorem u6_keep (r : Ref sig .tc) (h : r ∉ while1Ops0_5_W) : u6 X (Proc.devRef .tc r) = u5 X (Proc.devRef .tc r) := after_of_writes_sub while1Ops0_5 _ while1Ops0_5_writes h
theorem u7_keep (r : Ref sig .tc) (h : r ∉ while1Ops0_6_W) : u7 X (Proc.devRef .tc r) = u6 X (Proc.devRef .tc r) := after_of_writes_sub while1Ops0_6 _ while1Ops0_6_writes h
theorem u8_keep (r : Ref sig .tc) (h : r ∉ while1Ops0_7_W) : u8 X (Proc.devRef .tc r) = u7 X (Proc.devRef .tc r) := after_of_writes_sub while1Ops0_7 _ while1Ops0_7_writes h
theorem u9_keep (r : Ref sig .tc) (h : r ∉ while1Ops0_8_W) : u9 X (Proc.devRef .tc r) = u8 X (Proc.devRef .tc r) := after_of_writes_sub while1Ops0_8 _ while1Ops0_8_writes h
theorem u10_keep (r : Ref sig .tc) (h : r ∉ while1Ops0_9_W) : u10 X (Proc.devRef .tc r) = u9 X (Proc.devRef .tc r) := after_of_writes_sub while1Ops0_9 _ while1Ops0_9_writes h

/-- What the stretches through the last slice write. -/
abbrev early1_W : List (Ref sig .tc) :=
  [main_while1c_c_34, main_while1c_v155] ++ (while1Ops0_W ++ (while1Ops0_1_W ++ (while1Ops0_2_W ++ (while1Ops0_3_W ++ (while1Ops0_4_W ++ while1Ops0_5_W)))))

/-- A buffer none of them writes, at each of them. -/
theorem early1_keep (r : Ref sig .tc) (h : r ∉ early1_W) :
    u0 X (Proc.devRef .tc r) = X (Proc.devRef .tc r) ∧ u1 X (Proc.devRef .tc r) = X (Proc.devRef .tc r) ∧ u2 X (Proc.devRef .tc r) = X (Proc.devRef .tc r)
      ∧ u3 X (Proc.devRef .tc r) = X (Proc.devRef .tc r) ∧ u4 X (Proc.devRef .tc r) = X (Proc.devRef .tc r) ∧ u5 X (Proc.devRef .tc r) = X (Proc.devRef .tc r)
      ∧ u6 X (Proc.devRef .tc r) = X (Proc.devRef .tc r) := by
  simp only [early1_W, List.mem_append, not_or] at h
  obtain ⟨h0, h1, h2, h3, h4, h5, h6⟩ := h
  have e0 := u0_keep X r h0
  have e1 := (u1_keep X r h1).trans e0
  have e2 := (u2_keep X r h2).trans e1
  have e3 := (u3_keep X r h3).trans e2
  have e4 := (u4_keep X r h4).trans e3
  have e5 := (u5_keep X r h5).trans e4
  exact ⟨e0, e1, e2, e3, e4, e5, (u6_keep X r h6).trans e5⟩

include hn hk

/-- The trip's chunk, at each stretch that reads it. -/
theorem I_trip : (∀ i, (I1 (u1 X) i).toInt = ((⟨63 - n, by omega⟩ : Fin 64).val : ℤ)) ∧ (I1 (u2 X) = I1 (u1 X)) ∧ (I1 (u3 X) = I1 (u1 X)) ∧ (I1 (u4 X) = I1 (u1 X))
    ∧ (I1 (u5 X) = I1 (u1 X)) ∧ (I1 (u7 X) = I1 (u1 X)) ∧ (I1 (u8 X) = I1 (u1 X)) ∧ (I1 (u9 X) = I1 (u1 X)) := by
  have e2 := u2_keep X main_while1b_v156 (by decide +kernel)
  have e3 := (u3_keep X main_while1b_v156 (by decide +kernel)).trans e2
  have e4 := (u4_keep X main_while1b_v156 (by decide +kernel)).trans e3
  have e5 := (u5_keep X main_while1b_v156 (by decide +kernel)).trans e4
  have e7 := (u7_keep X main_while1b_v156 (by decide +kernel)).trans ((u6_keep X main_while1b_v156 (by decide +kernel)).trans e5)
  have e8 := (u8_keep X main_while1b_v156 (by decide +kernel)).trans e7
  have e9 := (u9_keep X main_while1b_v156 (by decide +kernel)).trans e8
  exact ⟨I1_at (u0 X) n hn ((early1_keep X main_v122_6 (by decide +kernel)).1.trans hk), e2, e3, e4, e5, e7, e8, e9⟩

/-! The trip's slices. -/

theorem d_trip (i : Fin 128) (h : Fin 4) (e : Fin 512) : d1 (u6 X) (ix4 0 i h e) = D1 X (ix5 ⟨63 - n, by omega⟩ 0 i h e) := by
  have c := (u6_keep X main_while1b_v157 (by decide +kernel)).trans ((u5_keep X main_while1b_v157 (by decide +kernel)).trans
    ((u4_keep X main_while1b_v157 (by decide +kernel)).trans (u3_keep X main_while1b_v157 (by decide +kernel))))
  exact (congrFun c _).trans ((d1_slice (u1 X) _ (I_trip X n hn hk).1 i h e).trans (congrFun (early1_keep X main_v122_0 (by decide +kernel)).2.1 _))

theorem q_trip1 (i : Fin 128) (h : Fin 4) (a : Fin 256) : q1 (u6 X) (ix4 0 i h a) = Q1 X (ix5 ⟨63 - n, by omega⟩ 0 i h a) := by
  obtain ⟨hI, e2, e3, e4, e5, e7, e8, e9⟩ := I_trip X n hn hk
  have c := (u6_keep X main_while1b_v158 (by decide +kernel)).trans ((u5_keep X main_while1b_v158 (by decide +kernel)).trans (u4_keep X main_while1b_v158 (by decide +kernel)))
  exact (congrFun c _).trans ((q1_slice (u2 X) _ (by rw [e2]; exact hI) i h a).trans (congrFun (early1_keep X main_v122_1 (by decide +kernel)).2.2.1 _))

theorem h_trip (h : Fin 4) (a : Fin 256) (e : Fin 512) : h1 (u6 X) (ix4 0 h a e) = H1 X (ix5 ⟨63 - n, by omega⟩ 0 h a e) := by
  obtain ⟨hI, e2, e3, e4, e5, e7, e8, e9⟩ := I_trip X n hn hk
  have c := (u6_keep X main_while1b_v159 (by decide +kernel)).trans (u5_keep X main_while1b_v159 (by decide +kernel))
  exact (congrFun c _).trans ((h1_slice (u3 X) _ (by rw [e3]; exact hI) h a e).trans (congrFun (early1_keep X main_v122_2 (by decide +kernel)).2.2.2.1 _))

theorem v_trip1 (i : Fin 128) (h : Fin 4) (e : Fin 512) : v1 (u6 X) (ix4 0 i h e) = V1 X (ix5 ⟨63 - n, by omega⟩ 0 i h e) := by
  obtain ⟨hI, e2, e3, e4, e5, e7, e8, e9⟩ := I_trip X n hn hk
  have c := u6_keep X main_while1b_v160 (by decide +kernel)
  exact (congrFun c _).trans ((v1_slice (u4 X) _ (by rw [e4]; exact hI) i h e).trans (congrFun (early1_keep X main_v122_3 (by decide +kernel)).2.2.2.2.1 _))

theorem kz_trip1 (i : Fin 128) (h : Fin 4) (a : Fin 256) : kz1 (u6 X) (ix4 0 i h a) = KZ1 X (ix5 ⟨63 - n, by omega⟩ 0 i h a) := by
  obtain ⟨hI, e2, e3, e4, e5, e7, e8, e9⟩ := I_trip X n hn hk
  exact (kz1_slice (u5 X) _ (by rw [e5]; exact hI) i h a).trans (congrFun (early1_keep X main_v122_4 (by decide +kernel)).2.2.2.2.2.1 _)

/-- The gradient of the state before the trip's chunk. -/
theorem A_trip (h : Fin 4) (a : Fin 256) (e : Fin 512) : A1 (u11 X) (ix4 0 h a e)
    = A1 X (ix4 0 h a e) * G1 X (ix4 0 h 0 0) + ∑ i : Fin 128, Q1 X (ix5 ⟨63 - n, by omega⟩ 0 i h a) * D1 X (ix5 ⟨63 - n, by omega⟩ 0 i h e) := by
  have c := (u10_keep X main_while1b_v173 (by decide +kernel)).trans ((u9_keep X main_while1b_v173 (by decide +kernel)).trans (u8_keep X main_while1b_v173 (by decide +kernel)))
  refine (congrFun (copies1 (u10 X)).1 _).trans ((congrFun c _).trans ((a1_at (u6 X) h a e).trans ?_))
  exact congrArg₂ (· + ·) (congrArg₂ (· * ·) (congrFun (early1_keep X main_v122_7 (by decide +kernel)).2.2.2.2.2.2 _)
      (congrFun (early1_keep X main_v122_5 (by decide +kernel)).2.2.2.2.2.2 _))
    (Finset.sum_congr rfl fun i _ => congrArg₂ (· * ·) (q_trip1 X n hn hk i h a) (d_trip X n hn hk i h e))

/-! The trip's gradients, put on their stacks. -/

theorem dQ_trip (j : Fin 64) (i : Fin 128) (h : Fin 4) (a : Fin 256) : dQ1 (u11 X) (ix5 j 0 i h a)
    = if j.val = 63 - n then ∑ e : Fin 512, D1 X (ix5 ⟨63 - n, by omega⟩ 0 i h e) * H1 X (ix5 ⟨63 - n, by omega⟩ 0 h a e) else dQ1 X (ix5 j 0 i h a) := by
  obtain ⟨hI, e2, e3, e4, e5, e7, e8, e9⟩ := I_trip X n hn hk
  have c := (u10_keep X main_while1b_v174 (by decide +kernel)).trans (u9_keep X main_while1b_v174 (by decide +kernel))
  have s := (u7_keep X main_v122_8 (by decide +kernel)).trans (early1_keep X main_v122_8 (by decide +kernel)).2.2.2.2.2.2
  refine (congrFun (copies1 (u10 X)).2.1 _).trans ((congrFun c _).trans ((dQ1_at (u7 X) ⟨63 - n, by omega⟩ (by rw [e7]; exact hI) j i h a).trans ?_))
  exact if_congr Iff.rfl ((dq1_at (u6 X) i h a).trans (Finset.sum_congr rfl fun e _ => congrArg₂ (· * ·) (d_trip X n hn hk i h e) (h_trip X n hn hk h a e)))
    (congrFun s _)

theorem dKZ_trip (j : Fin 64) (i : Fin 128) (h : Fin 4) (a : Fin 256) : dKZ1 (u11 X) (ix5 j 0 i h a)
    = if j.val = 63 - n then ∑ e : Fin 512, V1 X (ix5 ⟨63 - n, by omega⟩ 0 i h e) * A1 X (ix4 0 h a e) else dKZ1 X (ix5 j 0 i h a) := by
  obtain ⟨hI, e2, e3, e4, e5, e7, e8, e9⟩ := I_trip X n hn hk
  have c := u10_keep X main_while1b_v175 (by decide +kernel)
  have s := (u8_keep X main_v122_9 (by decide +kernel)).trans ((u7_keep X main_v122_9 (by decide +kernel)).trans (early1_keep X main_v122_9 (by decide +kernel)).2.2.2.2.2.2)
  have p := u8_keep X main_while1b_v165 (by decide +kernel)
  refine (congrFun (copies1 (u10 X)).2.2.1 _).trans ((congrFun c _).trans ((dKZ1_at (u8 X) ⟨63 - n, by omega⟩ (by rw [e8]; exact hI) j i h a).trans ?_))
  exact if_congr Iff.rfl ((congrFun p _).trans ((dkz1_at (u6 X) i h a).trans (Finset.sum_congr rfl fun e _ => congrArg₂ (· * ·) (v_trip1 X n hn hk i h e)
    (congrFun (early1_keep X main_v122_7 (by decide +kernel)).2.2.2.2.2.2 _)))) (congrFun s _)

theorem dV_trip (j : Fin 64) (i : Fin 128) (h : Fin 4) (e : Fin 512) : dV1 (u11 X) (ix5 j 0 i h e)
    = if j.val = 63 - n then ∑ a : Fin 256, KZ1 X (ix5 ⟨63 - n, by omega⟩ 0 i h a) * A1 X (ix4 0 h a e) else dV1 X (ix5 j 0 i h e) := by
  obtain ⟨hI, e2, e3, e4, e5, e7, e8, e9⟩ := I_trip X n hn hk
  have s := (u9_keep X main_v122_10 (by decide +kernel)).trans ((u8_keep X main_v122_10 (by decide +kernel)).trans
    ((u7_keep X main_v122_10 (by decide +kernel)).trans (early1_keep X main_v122_10 (by decide +kernel)).2.2.2.2.2.2))
  have p := (u9_keep X main_while1b_v163 (by decide +kernel)).trans (u8_keep X main_while1b_v163 (by decide +kernel))
  refine (congrFun (copies1 (u10 X)).2.2.2 _).trans ((dV1_at (u9 X) ⟨63 - n, by omega⟩ (by rw [e9]; exact hI) j i h e).trans ?_)
  exact if_congr Iff.rfl ((congrFun p _).trans ((dv1_at (u6 X) i h e).trans (Finset.sum_congr rfl fun a _ => congrArg₂ (· * ·) (kz_trip1 X n hn hk i h a)
    (congrFun (early1_keep X main_v122_7 (by decide +kernel)).2.2.2.2.2.2 _)))) (congrFun s _)

end

/-! ## All trips -/

variable (m : (ℓ : Loc nD τ sig) → Buf (Elt Ideal) ℓ) (c : Dev nD)

/-- A buffer loop 1 only reads keeps what it held at the loop's entry. -/
theorem trip1_keep (k : ℕ) (r : Ref sig .tc) (h : r ∉ loop1_W) : trip1 m k c (Proc.devRef .tc r) = entry1 m c (Proc.devRef .tc r) :=
  loop1_keeps.atTrip h _ c k

/-- The state's parts of the gradients of a chunk's queries, decayed keys and values. -/
def dqS (j h i a : ℕ) : EReal := ∑ e : Fin 512, Ret.dcross (dm m c) j h i e * Ret.st (zm m c) h j a e
def dkS (j h i a : ℕ) : EReal := ∑ e : Fin 512, Ret.v (zm m c) j h i e * Ret.dst (zm m c) (dm m c) h (63 - j) a e
def dvS (j h i e : ℕ) : EReal := ∑ a : Fin 256, (Ret.k (zm m c) j h i a * Ret.zeta h i) * Ret.dst (zm m c) (dm m c) h (63 - j) a e

/-- Before trip `n` the gradient of the state is that after chunk `63 - n`, and the stacks hold the chunks after it. -/
theorem trip1_holds : ∀ n ≤ 64,
    (∀ (h : Fin 4) (a : Fin 256) (e : Fin 512), A1 (trip1 m n c) (ix4 0 h a e) = Ret.dst (zm m c) (dm m c) h n a e)
    ∧ (∀ (j : Fin 64) (i : Fin 128) (h : Fin 4) (a : Fin 256), 64 - n ≤ j.val → dQ1 (trip1 m n c) (ix5 j 0 i h a) = dqS m c j h i a)
    ∧ (∀ (j : Fin 64) (i : Fin 128) (h : Fin 4) (a : Fin 256), 64 - n ≤ j.val → dKZ1 (trip1 m n c) (ix5 j 0 i h a) = dkS m c j h i a)
    ∧ ∀ (j : Fin 64) (i : Fin 128) (h : Fin 4) (e : Fin 512), 64 - n ≤ j.val → dV1 (trip1 m n c) (ix5 j 0 i h e) = dvS m c j h i e
  | 0, _ => ⟨fun h a e => A1_mid m c h a e, fun j _ _ _ hj => absurd hj (by omega), fun j _ _ _ hj => absurd hj (by omega),
      fun j _ _ _ hj => absurd hj (by omega)⟩
  | n + 1, hn => by
    obtain ⟨hA, hQ, hK, hV⟩ := trip1_holds n (by omega)
    have N := trip1_ctr m c n
    have cD := trip1_keep m c n main_v122_0 (by decide +kernel)
    have cQ := trip1_keep m c n main_v122_1 (by decide +kernel)
    have cH := trip1_keep m c n main_v122_2 (by decide +kernel)
    have cV := trip1_keep m c n main_v122_3 (by decide +kernel)
    have cK := trip1_keep m c n main_v122_4 (by decide +kernel)
    have cG := trip1_keep m c n main_v122_5 (by decide +kernel)
    refine ⟨fun h a e => (A_trip _ n hn N h a e).trans ?_, fun j i h a hj => (dQ_trip _ n hn N j i h a).trans ?_,
      fun j i h a hj => (dKZ_trip _ n hn N j i h a).trans ?_, fun j i h e hj => (dV_trip _ n hn N j i h e).trans ?_⟩
    · exact congrArg₂ (· + ·) (congrArg₂ (· * ·) (hA h a e) ((congrFun cG _).trans (G1_mid m c h)))
        (Finset.sum_congr rfl fun i _ => congrArg₂ (· * ·) ((congrFun cQ _).trans (Q1_mid m c _ i h a)) ((congrFun cD _).trans (D1_mid m c _ i h e)))
    · split
      · rename_i e'
        rw [e', dqS]
        exact Finset.sum_congr rfl fun e _ => congrArg₂ (· * ·) ((congrFun cD _).trans (D1_mid m c _ i h e)) ((congrFun cH _).trans (H1_mid m c _ h a e))
      · exact hQ j i h a (by omega)
    · split
      · rename_i e'
        rw [e', dkS, show 63 - (63 - n) = n by omega]
        exact Finset.sum_congr rfl fun e _ => congrArg₂ (· * ·) ((congrFun cV _).trans (V1_mid m c _ i h e)) (hA h a e)
      · exact hK j i h a (by omega)
    · split
      · rename_i e'
        rw [e', dvS, show 63 - (63 - n) = n by omega]
        exact Finset.sum_congr rfl fun a _ => congrArg₂ (· * ·) ((congrFun cK _).trans (KZ1_mid m c _ i h a)) (hA h a e)
      · exact hV j i h e (by omega)

end Cert.ReferenceIdeal.Ref

end
-- ==== Proof.RefPost.lean ====
module

public import proofs.«01_k».proof.Proof.RefTrips1

@[expose] public section

set_option maxRecDepth 16384

/-! # The reference's results, in formulas -/

noncomputable section

namespace Cert.ReferenceIdeal.Ref

open Cert.ReferenceIdeal.Gen
open Idealize.ShloMosaic Idealize.ShloMosaic.TcCoe Idealize.ShloMosaic.StableHlo

section
variable (Y : Valuation τ sig (Elt Ideal))

/-- The tables of decay and of decay to a chunk's end, as they meet the chunks. -/
abbrev b57 : S1x1x4x128x128.Idx → EReal := Y (Proc.devRef .tc main_v57)
abbrev b62 : S1x1x128x4x1.Idx → EReal := Y (Proc.devRef .tc main_v62)
/-- The gradients of the scores, the values, the scaled keys and the queries, and the results. -/
abbrev b134 : S1x64x4x128x128.Idx → EReal := Y (Proc.devRef .tc main_v134)
abbrev b132 : S1x64x128x4x512.Idx → EReal := Y (Proc.devRef .tc main_v132)
abbrev b137 : S1x64x128x4x256.Idx → EReal := Y (Proc.devRef .tc main_v137)
abbrev b140 : S1x64x128x4x256.Idx → EReal := Y (Proc.devRef .tc main_v140)
abbrev b152 : S8192x8192.Idx → EReal := Y (Proc.devRef .tc main_v152)
abbrev b153 : S8192x2048.Idx → EReal := Y (Proc.devRef .tc main_v153)
abbrev b154 : S8192x2048.Idx → EReal := Y (Proc.devRef .tc main_v154)
abbrev a4' : S8192x8192.Idx → EReal := Y (Proc.devRef .tc main_arg4)

theorem v134_at (c : Fin 64) (h : Fin 4) (i j : Fin 128) : b134 (afterL post Y) (ix5 0 c h i j)
    = (∑ e : Fin 512, b114 Y (ix5 0 c i h e) * b55 Y (ix5 0 c j h e)) * b57 Y (ix5 0 0 h i j) := by
  simp only [b134, b114, b55, b57, post, afterL_cons, afterL_nil]
  after_reads_at

theorem v132_at (c : Fin 64) (i : Fin 128) (h : Fin 4) (e : Fin 512) : b132 (afterL post Y) (ix5 0 c i h e)
    = dV1 Y (ix5 c 0 i h e) + ∑ j : Fin 128, b114 Y (ix5 0 c j h e) * b59 Y (ix5 0 c h j i) := by
  simp only [b132, dV1, b114, b59, post, afterL_cons, afterL_nil]
  after_reads_at

theorem v137_at (c : Fin 64) (i : Fin 128) (h : Fin 4) (a : Fin 256) : b137 (afterL post Y) (ix5 0 c i h a)
    = dKZ1 Y (ix5 c 0 i h a) * b62 Y (ix5 0 0 i h 0) + ∑ j : Fin 128, b134 (afterL post Y) (ix5 0 c h j i) * b51 Y (ix5 0 c j h a) := by
  simp only [b137, b134, dKZ1, b62, b114, b55, b57, b51, post, afterL_cons, afterL_nil]
  after_reads_at

theorem v140_at (c : Fin 64) (i : Fin 128) (h : Fin 4) (a : Fin 256) : b140 (afterL post Y) (ix5 0 c i h a)
    = dQ1 Y (ix5 c 0 i h a) + ∑ j : Fin 128, b134 (afterL post Y) (ix5 0 c h i j) * b54 Y (ix5 0 c j h a) := by
  simp only [b140, b134, dQ1, b114, b55, b57, b54, post, afterL_cons, afterL_nil]
  after_reads_at

theorem v153_at (R : Fin 8192) (C : Fin 2048) : b153 (afterL post Y) (ix2 R C) = b110 Y (ix3 0 R C) := by
  simp only [b153, b110, post, afterL_cons, afterL_nil]
  after_reads_at

theorem v154_at (R : Fin 8192) (C : Fin 2048) : b154 (afterL post Y) (ix2 R C) = b78 Y (ix4 0 R ⟨C / 512, by omega⟩ ⟨C % 512, by omega⟩) := by
  simp only [b154, b78, post, afterL_cons, afterL_nil]
  after_reads_at

/-- The projection's gradient: the queries' columns, the keys', the values' and the rest. -/
theorem v152_at (R C : Fin 8192) : b152 (afterL post Y) (ix2 R C)
    = if h : C.val < 1024 then b140 (afterL post Y) (ix5 0 ⟨R / 128, by omega⟩ ⟨R % 128, by omega⟩ ⟨C / 256, by omega⟩ ⟨C % 256, by omega⟩)
      else if h' : C.val - 1024 < 1024 then
        b137 (afterL post Y) (ix5 0 ⟨R / 128, by omega⟩ ⟨R % 128, by omega⟩ ⟨(C - 1024) / 256, by omega⟩ ⟨(C - 1024) % 256, by omega⟩) * Ret.scale
      else if h'' : C.val - 1024 - 1024 < 2048 then
        b132 (afterL post Y) (ix5 0 ⟨R / 128, by omega⟩ ⟨R % 128, by omega⟩ ⟨(C - 1024 - 1024) / 512, by omega⟩ ⟨(C - 1024 - 1024) % 512, by omega⟩)
      else a4' Y (ix2 R C) := by
  simp only [b152, b137, b140, b132, a4', Ret.scale, post, afterL_cons, afterL_nil]
  after_reads_at
  split
  · after_reads_at
  split
  · after_reads_at
  split
  · after_reads_at
  · after_reads_at
    exact congrArg (fun x => a4' Y (ix2 R x)) (Fin.ext (by dsimp only; omega))

end

end Cert.ReferenceIdeal.Ref

end
-- ==== Proof.RefEnd.lean ====
module

public import proofs.«01_k».proof.Proof.RefPost

@[expose] public section

set_option maxRecDepth 16384

/-! # What the reference ends with

The operations after the second loop read the gradients the loop stacked and what the operations before it left; with those known,
each result is the specification's formula, up to the order of two terms of a sum or two factors of a product. -/

noncomputable section

namespace Cert.ReferenceIdeal.Ref

open Cert.ReferenceIdeal.Gen
open Idealize.ShloMosaic Idealize.ShloMosaic.TcCoe Idealize.ShloMosaic.StableHlo

variable (m : (ℓ : Loc nD τ sig) → Buf (Elt Ideal) ℓ) (c : Dev nD)

/-- The buffers when loop 1 has ended. -/
abbrev out1 : Valuation τ sig (Elt Ideal) := after cond1 (trip1 m 64 c)

/-- What loop 1 does not write is as it was at its entry, -/
theorem out1_keep (r : Ref sig .tc) (h : r ∉ loop1_W) : out1 m c (Proc.devRef .tc r) = entry1 m c (Proc.devRef .tc r) :=
  (loop1_keeps cond1 List.mem_cons_self _ r h).trans (trip1_keep m c 64 r h)

/-- and what nothing wrote since loop 0's entry as it was there. -/
theorem out1_pre (r : Ref sig .tc) (h : r ∉ loop1_W) (h1 : r ∉ mid_W) (h0 : r ∉ loop0_W) :
    out1 m c (Proc.devRef .tc r) = afterL pre (launchContents m c) (Proc.devRef .tc r) :=
  (out1_keep m c r h).trans ((mid_keeps.afterL h1 _).trans (out0_keep m c r h0))

/-- A stack of loop 1 is what the last trip left. -/
theorem out1_stack (r : Ref sig .tc) (h : r ∉ [main_while1c_c_34, main_while1c_v155]) :
    out1 m c (Proc.devRef .tc r) = trip1 m 64 c (Proc.devRef .tc r) :=
  after_of_writes_sub cond1 _ cond1_writes (by simpa using h)

/-! ## What the last operations read -/

theorem q_out (j : Fin 64) (i : Fin 128) (h : Fin 4) (a : Fin 256) : b51 (out1 m c) (ix5 0 j i h a) = Ret.q (zm m c) j h i a :=
  (congrFun (out1_pre m c main_v51 (by decide +kernel) (by decide +kernel) (by decide +kernel)) _).trans (v51_at _ j h i a)
theorem k_out (j : Fin 64) (i : Fin 128) (h : Fin 4) (a : Fin 256) : b54 (out1 m c) (ix5 0 j i h a) = Ret.k (zm m c) j h i a :=
  (congrFun (out1_pre m c main_v54 (by decide +kernel) (by decide +kernel) (by decide +kernel)) _).trans (v54_at _ j h i a)
theorem v_out (j : Fin 64) (i : Fin 128) (h : Fin 4) (e : Fin 512) : b55 (out1 m c) (ix5 0 j i h e) = Ret.v (zm m c) j h i e :=
  (congrFun (out1_pre m c main_v55 (by decide +kernel) (by decide +kernel) (by decide +kernel)) _).trans (v55_at _ j h i e)
theorem decay_out (h : Fin 4) (i i' : Fin 128) : b57 (out1 m c) (ix5 0 0 h i i') = Ret.decay h i i' :=
  (congrFun (out1_pre m c main_v57 (by decide +kernel) (by decide +kernel) (by decide +kernel)) _).trans (v57_at _ h i i')
theorem scores_out (j : Fin 64) (h : Fin 4) (i i' : Fin 128) : b59 (out1 m c) (ix5 0 j h i i') = Ret.scores (zm m c) j h i i' :=
  (congrFun (out1_pre m c main_v59 (by decide +kernel) (by decide +kernel) (by decide +kernel)) _).trans (v59_at _ j h i i')
theorem zeta_out (h : Fin 4) (i : Fin 128) : b62 (out1 m c) (ix5 0 0 i h 0) = Ret.zeta h i :=
  (congrFun (out1_pre m c main_v62 (by decide +kernel) (by decide +kernel) (by decide +kernel)) _).trans (v62_at _ h i)
theorem d_out (j : Fin 64) (i : Fin 128) (h : Fin 4) (e : Fin 512) : b114 (out1 m c) (ix5 0 j i h e) = Ret.dd (dm m c) j h i e :=
  (congrFun (out1_keep m c main_v114 (by decide +kernel)) _).trans (dd_mid m c j i h e)
theorem dqS_out (j : Fin 64) (i : Fin 128) (h : Fin 4) (a : Fin 256) : dQ1 (out1 m c) (ix5 j 0 i h a) = dqS m c j h i a :=
  (congrFun (out1_stack m c main_v122_8 (by decide +kernel)) _).trans ((trip1_holds m c 64 le_rfl).2.1 j i h a (by omega))
theorem dkS_out (j : Fin 64) (i : Fin 128) (h : Fin 4) (a : Fin 256) : dKZ1 (out1 m c) (ix5 j 0 i h a) = dkS m c j h i a :=
  (congrFun (out1_stack m c main_v122_9 (by decide +kernel)) _).trans ((trip1_holds m c 64 le_rfl).2.2.1 j i h a (by omega))
theorem dvS_out (j : Fin 64) (i : Fin 128) (h : Fin 4) (e : Fin 512) : dV1 (out1 m c) (ix5 j 0 i h e) = dvS m c j h i e :=
  (congrFun (out1_stack m c main_v122_10 (by decide +kernel)) _).trans ((trip1_holds m c 64 le_rfl).2.2.2 j i h e (by omega))

/-! ## The gradients -/

/-- The gradients of the scores, -/
theorem dscores_end (j : Fin 64) (h : Fin 4) (i i' : Fin 128) :
    b134 (final m c) (ix5 0 j h i i') = Ret.dscores (zm m c) (dm m c) j h i i' := by
  refine (v134_at (out1 m c) j h i i').trans ?_
  rw [decay_out]
  refine congrArg (· * Ret.decay h i i') (Finset.sum_congr rfl fun e _ => ?_)
  rw [d_out, v_out]

/-- of the queries, -/
theorem dq_end (j : Fin 64) (h : Fin 4) (i : Fin 128) (a : Fin 256) :
    b140 (final m c) (ix5 0 j i h a) = Ret.dq (zm m c) (dm m c) j h i a := by
  refine (v140_at (out1 m c) j i h a).trans ?_
  rw [dqS_out, add_comm]
  refine congrArg (· + dqS m c j h i a) (Finset.sum_congr rfl fun x _ => ?_)
  rw [k_out]
  exact congrArg (· * Ret.k (zm m c) j h x a) (dscores_end m c j h i x)

/-- of the keys, before their scale, -/
theorem dk_end (j : Fin 64) (h : Fin 4) (i : Fin 128) (a : Fin 256) :
    b137 (final m c) (ix5 0 j i h a) * Ret.scale = Ret.dk (zm m c) (dm m c) j h i a := by
  refine congrArg (· * Ret.scale) ((v137_at (out1 m c) j i h a).trans ?_)
  rw [dkS_out, zeta_out, add_comm]
  refine congrArg (· + dkS m c j h i a * Ret.zeta h i) (Finset.sum_congr rfl fun x _ => ?_)
  rw [q_out]
  exact congrArg (· * Ret.q (zm m c) j h x a) (dscores_end m c j h x i)

/-- and of the values. -/
theorem dv_end (j : Fin 64) (h : Fin 4) (i : Fin 128) (e : Fin 512) :
    b132 (final m c) (ix5 0 j i h e) = Ret.dv (zm m c) (dm m c) j h i e := by
  refine (v132_at (out1 m c) j i h e).trans ?_
  rw [dvS_out, add_comm]
  refine congrArg (· + dvS m c j h i e) (Finset.sum_congr rfl fun x _ => ?_)
  rw [d_out, scores_out, mul_comm]

/-! ## The results -/

/-- The reference's results: the gated result, -/
theorem gated_end : final m c (Proc.devRef .tc main_v153) = fun i : S8192x2048.Idx => Ret.gatedAt (zm m c) (gm m c) (bm m c) (i 0).val (i 1).val := by
  funext i
  obtain ⟨R, C, rfl⟩ : ∃ (R : Fin 8192) (C : Fin 2048), i = ix2 R C := ⟨i 0, i 1, eq_ix2 i⟩
  exact (v153_at _ R C).trans ((congrFun (out1_keep m c main_v110 (by decide +kernel)) _).trans (gated_mid m c R C))

/-- the retention's result -/
theorem o_end : final m c (Proc.devRef .tc main_v154) = fun i : S8192x2048.Idx => Ret.oAt (zm m c) (i 0).val (i 1).val := by
  funext i
  obtain ⟨R, C, rfl⟩ : ∃ (R : Fin 8192) (C : Fin 2048), i = ix2 R C := ⟨i 0, i 1, eq_ix2 i⟩
  exact (v154_at _ R C).trans ((congrFun (out1_keep m c main_v78 (by decide +kernel)) _).trans
    (o_mid m c R ⟨C / 512, by omega⟩ ⟨C % 512, by omega⟩))

/-- and the projection's gradient. -/
theorem dz_end : final m c (Proc.devRef .tc main_v152) = fun i : S8192x8192.Idx =>
    if (i 1).val < 4096 then Ret.dzAt (zm m c) (dm m c) (i 0).val (i 1).val else m ((c : Thread nD τ).loc main_arg4) i := by
  funext i
  obtain ⟨R, C, rfl⟩ : ∃ (R C : Fin 8192), i = ix2 R C := ⟨i 0, i 1, eq_ix2 i⟩
  refine (v152_at _ R C).trans ?_
  show _ = if C.val < 4096 then Ret.dzAt (zm m c) (dm m c) R.val C.val else a4' (launchContents m c) (ix2 R C)
  by_cases h1 : C.val < 1024
  · rw [dif_pos h1, if_pos (by omega), Ret.dzAt, if_pos h1]
    exact dq_end m c _ ⟨C / 256, by omega⟩ _ _
  rw [dif_neg h1]
  by_cases h2 : C.val - 1024 < 1024
  · rw [dif_pos h2, if_pos (by omega), Ret.dzAt, if_neg h1, if_pos (by omega)]
    exact dk_end m c _ ⟨(C - 1024) / 256, by omega⟩ _ _
  rw [dif_neg h2]
  by_cases h3 : C.val - 1024 - 1024 < 2048
  · rw [dif_pos h3, if_pos (by omega), Ret.dzAt, if_neg h1, if_neg (by omega)]
    refine (dv_end m c _ ⟨(C - 1024 - 1024) / 512, by omega⟩ _ _).trans ?_
    show Ret.dv _ _ _ ((C.val - 1024 - 1024) / 512) _ ((C.val - 1024 - 1024) % 512) = _
    rw [show C.val - 1024 - 1024 = C.val - 2048 by omega]
  rw [dif_neg h3, if_neg (by omega)]
  exact congrFun ((out1_pre m c main_arg4 (by decide +kernel) (by decide +kernel) (by decide +kernel)).trans (pre_keeps.afterL (by decide +kernel) _)) _

end Cert.ReferenceIdeal.Ref

end
-- ==== Proof.Algebraic.lean ====
module

public import proofs.«01_k».proof.Defs
public import proofs.«01_k».proof.Proof.KernelValues
public import proofs.«01_k».proof.Proof.RefEnd

@[expose] public section

/-! # The kernel and the reference end with equal results -/

noncomputable section

namespace Cert.Proof

open Idealize.ShloMosaic Idealize.SL.Sem

/-- Each program ends with the specification's arrays of its own arguments, and the arguments are equal. -/
theorem algebraic : Cert.algebraic_KernelIdeal_ReferenceIdeal := by
  intro m g m' g' _ hin
  refine ⟨fun c => fun i : (⟨2, ![8192, 2048]⟩ : Shape).Idx => Ret.gatedAt (Cert.KernelIdeal.Run.z m c) (Cert.KernelIdeal.Run.g m c) (Cert.KernelIdeal.Run.b m c) (i 0).val (i 1).val,
    fun c => fun i : (⟨2, ![8192, 2048]⟩ : Shape).Idx => Ret.oAt (Cert.KernelIdeal.Run.z m c) (i 0).val (i 1).val,
    fun c => fun i : (⟨2, ![8192, 8192]⟩ : Shape).Idx => if (i 1).val < 4096 then Ret.dzAt (Cert.KernelIdeal.Run.z m c) (Cert.KernelIdeal.Run.d m c) (i 0).val (i 1).val
      else m ((c.tc : Thread Cert.KernelIdeal.nD Cert.KernelIdeal.τ).loc Cert.KernelIdeal.main_arg4) i,
    (θ_run _ _ _).mono (fun r hr c => ?_) (Cert.KernelIdeal.Run.whole m g),
    (θ_run _ _ _).mono (fun r hr c => ?_) (Cert.ReferenceIdeal.Ref.whole m' g')⟩
  · have k : ∀ (a : Ref Cert.KernelIdeal.sig .tc), a ∈ Cert.KernelIdeal.Run.args → ¬ (Proc.devRef .tc a : DevRef Cert.KernelIdeal.τ Cert.KernelIdeal.sig).isScoped →
        r.2.mem ((c.tc : Thread Cert.KernelIdeal.nD Cert.KernelIdeal.τ).loc a) = m ((c.tc : Thread Cert.KernelIdeal.nD Cert.KernelIdeal.τ).loc a) :=
      fun a ha hs => (hr.1 c _ (Cert.KernelIdeal.Run.mem_uc a hs)).trans (Cert.KernelIdeal.Run.W3_args m g c a ha)
    exact ⟨(hr.1 c _ (Cert.KernelIdeal.Run.mem_uc _ (by decide))).trans (Cert.KernelIdeal.Run.gated_end m g c),
      (hr.1 c _ (Cert.KernelIdeal.Run.mem_uc _ (by decide))).trans (Cert.KernelIdeal.Run.o_end m g c),
      (hr.1 c _ (Cert.KernelIdeal.Run.mem_uc _ (by decide))).trans (Cert.KernelIdeal.Run.dz_end m g c),
      k _ (by decide) (by decide), k _ (by decide) (by decide), k _ (by decide) (by decide), k _ (by decide) (by decide), k _ (by decide) (by decide)⟩
  · obtain ⟨e0, e1, e2, e3, e4⟩ := hin c
    have ez : Cert.ReferenceIdeal.Ref.zm m' c = Cert.KernelIdeal.Run.z m c := congrArg (Ret.cells (M := 8192) (N := 8192)) e0
    have eg : Cert.ReferenceIdeal.Ref.gm m' c = Cert.KernelIdeal.Run.g m c := congrArg (fun X => Ret.cells (M := 1) (N := 2048) X 0) e1
    have eb : Cert.ReferenceIdeal.Ref.bm m' c = Cert.KernelIdeal.Run.b m c := congrArg (fun X => Ret.cells (M := 1) (N := 2048) X 0) e2
    have ed : Cert.ReferenceIdeal.Ref.dm m' c = Cert.KernelIdeal.Run.d m c := congrArg (Ret.cells (M := 8192) (N := 2048)) e3
    have k : ∀ (a : Ref Cert.ReferenceIdeal.sig .tc), (Proc.devRef .tc a : DevRef Cert.ReferenceIdeal.τ Cert.ReferenceIdeal.sig).isScoped = false →
        a ∉ Cert.ReferenceIdeal.Ref.pre_W → a ∉ Cert.ReferenceIdeal.Ref.loop0_W → a ∉ Cert.ReferenceIdeal.Ref.mid_W →
        a ∉ Cert.ReferenceIdeal.Ref.loop1_W → a ∉ Cert.ReferenceIdeal.Ref.post_W →
        r.2.mem ((c.tc : Thread Cert.ReferenceIdeal.nD Cert.ReferenceIdeal.τ).loc a) = m' ((c.tc : Thread Cert.ReferenceIdeal.nD Cert.ReferenceIdeal.τ).loc a) :=
      fun a hs h0 h1 h2 h3 h4 => (hr c a hs).trans (Cert.ReferenceIdeal.Ref.final_keep m' c a h0 h1 h2 h3 h4)
    refine ⟨(hr c _ rfl).trans ((Cert.ReferenceIdeal.Ref.gated_end m' c).trans ?_), (hr c _ rfl).trans ((Cert.ReferenceIdeal.Ref.o_end m' c).trans ?_),
      (hr c _ rfl).trans ((Cert.ReferenceIdeal.Ref.dz_end m' c).trans ?_), ?_, ?_, ?_, ?_, ?_⟩
    · rw [ez, eg, eb]
    · rw [ez]
    · rw [ez, ed, e4]
    all_goals exact k _ rfl (by decide +kernel) (by decide +kernel) (by decide +kernel) (by decide +kernel) (by decide +kernel)

end Cert.Proof

end
-- ==== Proof.Halves.lean ====
module

public import Idealize.ShloMosaic.Lib.Pointwise

@[expose] public section

/-! # Sums of products taken a piece at a time -/

noncomputable section

namespace Cert.Halves

/-- Two coordinates that read as no offset. -/
theorem zeros : (![0, 0] : Fin 2 → Nat) = fun _ => 0 := funext fun a => by fin_cases a <;> rfl

theorem zeros3 : (![0, 0, 0] : Fin 3 → Nat) = fun _ => 0 := funext fun a => by fin_cases a <;> rfl

/-- The sum over 8192 rows is the sum over the first 4096 and the sum over the others. -/
theorem sum_rows (f : Fin 8192 → EReal) :
    (∑ k : Fin 4096, f ⟨k, by omega⟩) + ∑ k : Fin 4096, f ⟨4096 + k, by omega⟩ = ∑ k : Fin 8192, f k :=
  (Fin.sum_univ_add (a := 4096) (b := 4096) f).symm

/-- The same in four pieces. -/
theorem sum_quarters (f : Fin 8192 → EReal) :
    (((∑ k : Fin 2048, f ⟨k, by omega⟩) + ∑ k : Fin 2048, f ⟨2048 + k, by omega⟩) + ∑ k : Fin 2048, f ⟨4096 + k, by omega⟩)
      + ∑ k : Fin 2048, f ⟨6144 + k, by omega⟩ = ∑ k : Fin 8192, f k := by
  rw [← sum_rows, add_assoc]
  congr 1
  · exact (Fin.sum_univ_add (a := 2048) (b := 2048) fun k => f ⟨k.val, by omega⟩).symm
  · refine Eq.trans ?_ (Fin.sum_univ_add (a := 2048) (b := 2048) fun k => f ⟨4096 + k.val, by omega⟩).symm
    refine congrArg _ (Finset.sum_congr rfl fun k _ => congrArg f (Fin.ext ?_))
    show 6144 + k.val = 4096 + (2048 + k.val)
    omega

end Cert.Halves

end
-- ==== Proof.GradDownValue.lean ====
module

public import proofs.«01_k».proof.Defs
public import proofs.«01_k».proof.Proof.Gen.GradDownIdeal.Value
public import proofs.«01_k».proof.Proof.Gen.GradDownReferenceIdeal.Run
public import proofs.«01_k».proof.Proof.Halves
public import Idealize.ShloMosaic.Lib.Pointwise

@[expose] public section

set_option maxRecDepth 16384

/-! # The gradient of the MLP's second weight -/

noncomputable section

namespace Cert.GradDownIdeal.Val

open Cert.GradDownIdeal Cert.GradDownIdeal.Gen Cert.GradDownIdeal.Value
open Idealize.ShloMosaic Idealize.ShloMosaic.TcCoe Idealize.SL.Sem
open Cert.Halves

variable (m : (ℓ : Loc nD τ sig) → Buf (Elt Ideal) ℓ) (c : Dev nD)

/-- The product of one block of rows. -/
theorem part_at (v0 v1 : Vec Ideal S4096x1024 .bf16) (a b : Fin 1024) :
    k0_pay1 (F := Ideal) v0 v1 (ix2 a b) = ∑ k : Fin 4096, v1 (ix2 k a) * v0 (ix2 k b) := by
  pointwise [k0_pay1]

section
variable (i : grid0.Coords) (a3 : Memref sig .tc .vmem S4096x1024 .bf16) (h3 : a3.IsWhole)
  (a4 : Memref sig .tc .vmem S4096x1024 .bf16) (h4 : a4.IsWhole) (a5 : Memref sig .tc .vmem S1024x1024 .bf16) (h5 : a5.IsWhole)
  (a6 : Memref sig .tc .vmem S1024x1024 .f32) (h6 : a6.IsWhole) (x0 x1 : Vec Ideal S4096x1024 .bf16) (s : Vec Ideal S1024x1024 .f32)

/-- The first block of rows leaves its product in the scratch. -/
theorem first (p0 : cond0_0 i) (p1 : ¬cond0_1 i) (p2 : ¬cond0_2 i) :
    sout0_A_0 (F := Ideal) c i a3 h3 a4 h4 a5 h5 a6 h6 p0 p1 p2 x0 x1 = k0_pay1 (F := Ideal) x1 x0 := by
  unfold sout0_A_0
  rw [View.read_writes_eq_canon _ _ _ (scover0_A_0 c i a3 h3 a4 h4 a5 h5 a6 h6 p0 p1 p2 x0 x1)]
  unfold kernelRun0_A
  dsimp only
  rw [View.canon_unit_zero zeros]
  unfold k0_pay2
  simp only [View.readAt_eq_ld, h3.read_unread, h4.read_unread, View.ld_unit_zero (S := S4096x1024) zeros, shapeCast_self]

/-- The second adds its own and writes the sum. -/
theorem second (p0 : ¬cond0_0 i) (p1 : cond0_1 i) (p2 : cond0_2 i) :
    out0_B_2 (F := Ideal) c i a3 h3 a4 h4 a5 h5 a6 h6 p0 p1 p2 x0 x1 s
      = truncf .bf16 (addf s (k0_pay1 (F := Ideal) x1 x0)) bitsLt_bf16_f32 := by
  unfold out0_B_2
  rw [View.read_writes_eq_canon _ _ _ (cover0_B_2 c i a3 h3 a4 h4 a5 h5 a6 h6 p0 p1 p2 x0 x1 s)]
  unfold kernelRun0_B
  dsimp only
  sl_unfold_words
  rw [View.canon_unit_zero zeros, View.readCov_unit_zero (S := S1024x1024) _ zeros]
  unfold k0_pay3 k0_pay4
  simp only [View.readAt_eq_ld, h3.read_unread, h4.read_unread, h6.read_unread, View.ld_unit_zero (S := S4096x1024) zeros, View.ld_unit_zero (S := S1024x1024) zeros, shapeCast_self]

end

/-- The two operands, -/
abbrev X : S8192x4096.Idx → EReal := m ((c.tc : Thread nD τ).loc main_arg0)
abbrev Y : S8192x1024.Idx → EReal := m ((c.tc : Thread nD τ).loc main_arg1)

/-- and their blocks. -/
theorem places (t : Fin cfg0.N) : win0_0.index t 0 = t.val % 2 ∧ win0_0.index t 1 = t.val / 2 ∧ win0_1.index t 0 = t.val % 2 ∧ win0_1.index t 1 = 0 :=
  (by decide +kernel : ∀ t : Fin grid0.N, win0_0.index t 0 = t.val % 2 ∧ win0_0.index t 1 = t.val / 2 ∧ win0_1.index t 0 = t.val % 2 ∧ win0_1.index t 1 = 0) t

theorem block0 (t : Fin cfg0.N) (k : Fin 4096) (a : Fin 1024) :
    (iblk m c 0 t : Vec Ideal S4096x1024 .bf16) (ix2 k a)
      = X m c (ix2 ⟨4096 * (t.val % 2) + k, by omega⟩ ⟨1024 * (t.val / 2) + a, by have := lt_of_lt_of_eq t.isLt (show cfg0.N = 8 from N_0); omega⟩) := by
  obtain ⟨h0, h1, -, -⟩ := places t
  unfold iblk
  rw [View.read_apply]
  show V m c main_arg0 _ = m (c.tc.loc main_arg0) _
  unfold V
  congr 1
  funext d
  apply Fin.ext
  match d with
  | ⟨0, _⟩ => show win0_0.index t 0 * 4096 + 1 * k.val = 4096 * (t.val % 2) + k.val; rw [h0]; omega
  | ⟨1, _⟩ => show win0_0.index t 1 * 1024 + 1 * a.val = 1024 * (t.val / 2) + a.val; rw [h1]; omega

theorem block1 (t : Fin cfg0.N) (k : Fin 4096) (b : Fin 1024) :
    (iblk m c 1 t : Vec Ideal S4096x1024 .bf16) (ix2 k b) = Y m c (ix2 ⟨4096 * (t.val % 2) + k, by omega⟩ b) := by
  obtain ⟨-, -, h0, h1⟩ := places t
  unfold iblk
  rw [View.read_apply]
  show V m c main_arg1 _ = m (c.tc.loc main_arg1) _
  unfold V
  congr 1
  funext d
  apply Fin.ext
  match d with
  | ⟨0, _⟩ => show win0_1.index t 0 * 4096 + 1 * k.val = 4096 * (t.val % 2) + k.val; rw [h0]; omega
  | ⟨1, _⟩ => show win0_1.index t 1 * 1024 + 1 * b.val = b.val; rw [h1]; omega

/-- The gradient: the product over all the rows. -/
def grad : S4096x1024.Idx → EReal := fun i => ∑ k : Fin 8192, X m c (ix2 k (i 0)) * Y m c (ix2 k (i 1))

/-- Two grid points make one block of it, -/
theorem block (n : ℕ) (hn : 2 * n + 1 < cfg0.N) (a b : Fin 1024) : (outsAt0 m c (2 * n + 1) hn).1 (ix2 a b)
    = grad m c (ix2 ⟨1024 * n + a, by have := lt_of_lt_of_eq hn (show cfg0.N = 8 from N_0); omega⟩ b) := by
  have hN : 2 * n + 1 < 8 := lt_of_lt_of_eq hn (show cfg0.N = 8 from N_0)
  rw [outsAt0_B m c ⟨2 * n + 1, hn⟩ (by dsimp only; omega) (by dsimp only; omega) (by dsimp only; omega)]
  dsimp only
  rw [second]
  show (outsAt0 m c (2 * n) _).2 (ix2 a b) + k0_pay1 (F := Ideal) _ _ (ix2 a b) = _
  rw [outsAt0_A m c ⟨2 * n, by omega⟩ (by dsimp only; omega) (by dsimp only; omega) (by dsimp only; omega)]
  dsimp only
  rw [first, part_at, part_at, grad, ← sum_rows]
  congr 1 <;> refine Finset.sum_congr rfl fun k _ => ?_
  · rw [block0, block1]
    congr 2 <;> congr 1 <;> apply Fin.ext <;> dsimp only [ix2_0, ix2_1] <;> omega
  · rw [block0, block1]
    congr 2 <;> congr 1 <;> apply Fin.ext <;> dsimp only [ix2_0, ix2_1] <;> omega

/-- and the eight make it whole. -/
theorem result : G2 m c = grad m c := by
  funext i
  have h0 : (i 0).val < 4096 := (i 0).isLt
  have h1 : (i 1).val < 1024 := (i 1).isLt
  have hp : pt2Of i = 2 * ((i 0).val / 1024) + 1 := by simp only [pt2Of, run2Of]; omega
  have hn : 2 * ((i 0).val / 1024) + 1 < cfg0.N := lt_of_lt_of_eq (by omega) (show cfg0.N = 8 from N_0).symm
  unfold G2
  rw [dif_pos (hp ▸ hn), fold0_congr m c _ _ _ (by omega) hp, ← outsAt0_sweep m c _ hn]
  have hl : loc2Of i = ix2 ⟨(i 0).val % 1024, by omega⟩ ⟨(i 1).val % 1024, by omega⟩ := by
    funext d; match d with | ⟨0, _⟩ => rfl | ⟨1, _⟩ => rfl
  rw [hl, block]
  congr 1
  conv_rhs => rw [eq_ix2 i]
  congr 1 <;> apply Fin.ext <;> dsimp only <;> omega

/-- The same product, as the other program states it. -/
theorem reference (x : S8192x4096.Idx → EReal) (y : S8192x1024.Idx → EReal) (i : S4096x1024.Idx) :
    (truncf .bf16 (transpose Cert.GradDownReferenceIdeal.S4096x1024 [1, 0] (Host.dotGeneral (F := Ideal) Cert.GradDownReferenceIdeal.dot_S8192x1024_S8192x4096_S1024x4096_0_0_1_1_n_n none
      (extf (φ := .bf16) .f32 y Cert.GradDownReferenceIdeal.Gen.bitsLt_bf16_f32) (extf (φ := .bf16) .f32 x Cert.GradDownReferenceIdeal.Gen.bitsLt_bf16_f32)) Cert.GradDownReferenceIdeal.Gen.transposes_S1024x4096_S4096x1024_1_0)
      Cert.GradDownReferenceIdeal.Gen.bitsLt_bf16_f32 : FVec Ideal Cert.GradDownReferenceIdeal.S4096x1024 .bf16) i
      = ∑ k : Fin 8192, x (ix2 k (i 0)) * y (ix2 k (i 1)) := by
  rw [eq_ix2 i]
  refine Eq.trans (b := ∑ k : Fin 8192, y (ix2 k (i 1)) * x (ix2 k (i 0))) ?_ (Finset.sum_congr rfl fun k _ => mul_comm _ _)
  pointwise

end Cert.GradDownIdeal.Val

namespace Cert.GradDownIdeal

open Idealize.ShloMosaic Idealize.SL.Sem

/-- From equal arguments the two programs end with the same gradient. -/
theorem algebraic : Cert.algebraic_GradDownIdeal_GradDownReferenceIdeal := by
  intro m g m' g' _ hin
  refine ⟨fun c => Val.grad m c, (θ_run _ _ _).mono (fun r hr c => ?_) (Value.run m g),
    (θ_run _ _ _).mono (fun r hr c => ?_) (Cert.GradDownReferenceIdeal.Value.run m' g')⟩
  · exact ⟨(hr c).1.trans (Val.result m c), (hr c).2⟩
  · refine ⟨(hr c).1.trans ?_, (hr c).2⟩
    rw [(hin c).1, (hin c).2]
    exact funext fun i => Val.reference (Val.X m c) (Val.Y m c) i

end Cert.GradDownIdeal

end
-- ==== Proof.GradUpValue.lean ====
module

public import proofs.«01_k».proof.Defs
public import proofs.«01_k».proof.Proof.Gen.GradUpIdeal.Value
public import proofs.«01_k».proof.Proof.Gen.GradUpReferenceIdeal.Run
public import proofs.«01_k».proof.Proof.Halves
public import Idealize.ShloMosaic.Lib.Pointwise

@[expose] public section

set_option maxRecDepth 16384

/-! # The gradient of the MLP's first weight, as eight column blocks -/

noncomputable section

namespace Cert.GradUpIdeal.Val

open Cert.GradUpIdeal Cert.GradUpIdeal.Gen Cert.GradUpIdeal.Value
open Idealize.ShloMosaic Idealize.ShloMosaic.TcCoe Idealize.SL.Sem
open Cert.Halves

variable (m : (ℓ : Loc nD τ sig) → Buf (Elt Ideal) ℓ) (c : Dev nD)

/-- The product of one block of rows. -/
theorem part_at (v0 : Vec Ideal S4096x512 .bf16) (v1 : Vec Ideal S4096x1024 .bf16) (a : Fin 1024) (b : Fin 512) :
    k0_pay1 (F := Ideal) v0 v1 (ix2 a b) = ∑ k : Fin 4096, v1 (ix2 k a) * v0 (ix2 k b) := by
  pointwise [k0_pay1]

/-- A sum is written as it stands. -/
theorem written_at (v : FVec Ideal S1024x512 .f32) (a : Fin 1024) (b : Fin 512) :
    k0_pay4 (F := Ideal) v (ix3 0 a b) = v (ix2 a b) := by
  pointwise [k0_pay4]

section
variable (i : grid0.Coords) (a3 : Memref sig .tc .vmem S4096x1024 .bf16) (h3 : a3.IsWhole)
  (a4 : Memref sig .tc .vmem S4096x512 .bf16) (h4 : a4.IsWhole) (a5 : Memref sig .tc .vmem S1x1024x512 .bf16) (h5 : a5.IsWhole)
  (a6 : Memref sig .tc .vmem S1024x512 .f32) (h6 : a6.IsWhole) (x0 : Vec Ideal S4096x1024 .bf16) (x1 : Vec Ideal S4096x512 .bf16)
  (s : Vec Ideal S1024x512 .f32)

/-- The first block of rows leaves its product in the scratch. -/
theorem first (p0 : cond0_0 i) (p1 : ¬cond0_1 i) (p2 : ¬cond0_2 i) :
    sout0_A_0 (F := Ideal) c i a3 h3 a4 h4 a5 h5 a6 h6 p0 p1 p2 x0 x1 = k0_pay1 (F := Ideal) x1 x0 := by
  unfold sout0_A_0
  rw [View.read_writes_eq_canon _ _ _ (scover0_A_0 c i a3 h3 a4 h4 a5 h5 a6 h6 p0 p1 p2 x0 x1)]
  unfold kernelRun0_A
  dsimp only
  rw [View.canon_unit_zero zeros]
  unfold k0_pay2
  simp only [View.readAt_eq_ld, h3.read_unread, h4.read_unread, View.ld_unit_zero (S := S4096x1024) zeros, View.ld_unit_zero (S := S4096x512) zeros, shapeCast_self]

/-- The second adds its own and writes the sum. -/
theorem second (p0 : ¬cond0_0 i) (p1 : cond0_1 i) (p2 : cond0_2 i) :
    out0_B_2 (F := Ideal) c i a3 h3 a4 h4 a5 h5 a6 h6 p0 p1 p2 x0 x1 s
      = k0_pay4 (F := Ideal) (addf s (k0_pay1 (F := Ideal) x1 x0)) := by
  unfold out0_B_2
  rw [View.read_writes_eq_canon _ _ _ (cover0_B_2 c i a3 h3 a4 h4 a5 h5 a6 h6 p0 p1 p2 x0 x1 s)]
  unfold kernelRun0_B
  dsimp only
  sl_unfold_words
  rw [View.canon_unit_zero zeros3, View.readCov_unit_zero (S := S1024x512) _ zeros]
  unfold k0_pay3
  simp only [View.readAt_eq_ld, h3.read_unread, h4.read_unread, h6.read_unread, View.ld_unit_zero (S := S4096x1024) zeros, View.ld_unit_zero (S := S4096x512) zeros, View.ld_unit_zero (S := S1024x512) zeros, shapeCast_self]

end

/-- The two operands, -/
abbrev X : S8192x1024.Idx → EReal := m ((c.tc : Thread nD τ).loc main_arg0)
abbrev Y : S8192x4096.Idx → EReal := m ((c.tc : Thread nD τ).loc main_arg1)

/-- and their blocks. -/
theorem places (t : Fin cfg0.N) : win0_0.index t 0 = t.val % 2 ∧ win0_0.index t 1 = 0 ∧ win0_1.index t 0 = t.val % 2 ∧ win0_1.index t 1 = t.val / 2 :=
  (by decide +kernel : ∀ t : Fin grid0.N, win0_0.index t 0 = t.val % 2 ∧ win0_0.index t 1 = 0 ∧ win0_1.index t 0 = t.val % 2 ∧ win0_1.index t 1 = t.val / 2) t

theorem block0 (t : Fin cfg0.N) (k : Fin 4096) (a : Fin 1024) :
    (iblk m c 0 t : Vec Ideal S4096x1024 .bf16) (ix2 k a)
      = X m c (ix2 ⟨4096 * (t.val % 2) + k, by omega⟩ a) := by
  obtain ⟨h0, h1, -, -⟩ := places t
  unfold iblk
  rw [View.read_apply]
  show V m c main_arg0 _ = m (c.tc.loc main_arg0) _
  unfold V
  congr 1
  funext d
  apply Fin.ext
  match d with
  | ⟨0, _⟩ => show win0_0.index t 0 * 4096 + 1 * k.val = 4096 * (t.val % 2) + k.val; rw [h0]; omega
  | ⟨1, _⟩ => show win0_0.index t 1 * 1024 + 1 * a.val = a.val; rw [h1]; omega

theorem block1 (t : Fin cfg0.N) (k : Fin 4096) (b : Fin 512) :
    (iblk m c 1 t : Vec Ideal S4096x512 .bf16) (ix2 k b)
      = Y m c (ix2 ⟨4096 * (t.val % 2) + k, by omega⟩ ⟨512 * (t.val / 2) + b, by have := lt_of_lt_of_eq t.isLt (show cfg0.N = 16 from N_0); omega⟩) := by
  obtain ⟨-, -, h0, h1⟩ := places t
  unfold iblk
  rw [View.read_apply]
  show V m c main_arg1 _ = m (c.tc.loc main_arg1) _
  unfold V
  congr 1
  funext d
  apply Fin.ext
  match d with
  | ⟨0, _⟩ => show win0_1.index t 0 * 4096 + 1 * k.val = 4096 * (t.val % 2) + k.val; rw [h0]; omega
  | ⟨1, _⟩ => show win0_1.index t 1 * 512 + 1 * b.val = 512 * (t.val / 2) + b.val; rw [h1]; omega

/-- A column of the whole gradient, from its block and its place there. -/
abbrev at8 (p : Fin 8) (q : Fin 512) : Fin 4096 := ⟨p * 512 + q, by omega⟩

/-- The gradient: the product over all the rows. -/
def grad : S8x1024x512.Idx → EReal := fun i =>
  ∑ k : Fin 8192, X m c (ix2 k (i 1)) * Y m c (ix2 k (at8 (i 0) (i 2)))

/-- Two grid points make one block of it, -/
theorem block (n : ℕ) (hn : 2 * n + 1 < cfg0.N) (a : Fin 1024) (b : Fin 512) : (outsAt0 m c (2 * n + 1) hn).1 (ix3 0 a b)
    = grad m c (ix3 ⟨n, by have := lt_of_lt_of_eq hn (show cfg0.N = 16 from N_0); omega⟩ a b) := by
  have hN : 2 * n + 1 < 16 := lt_of_lt_of_eq hn (show cfg0.N = 16 from N_0)
  rw [outsAt0_B m c ⟨2 * n + 1, hn⟩ (by dsimp only; omega) (by dsimp only; omega) (by dsimp only; omega)]
  dsimp only
  rw [second, written_at]
  show (outsAt0 m c (2 * n) _).2 (ix2 a b) + k0_pay1 (F := Ideal) _ _ (ix2 a b) = _
  rw [outsAt0_A m c ⟨2 * n, by omega⟩ (by dsimp only; omega) (by dsimp only; omega) (by dsimp only; omega)]
  dsimp only
  rw [first, part_at, part_at, grad, ← sum_rows]
  congr 1 <;> refine Finset.sum_congr rfl fun k _ => ?_
  · rw [block0, block1]
    congr 2 <;> congr 1 <;> apply Fin.ext <;> dsimp only [ix3_0, ix3_1, ix3_2] <;> omega
  · rw [block0, block1]
    congr 2 <;> congr 1 <;> apply Fin.ext <;> dsimp only [ix3_0, ix3_1, ix3_2] <;> omega

/-- and the sixteen make it whole. -/
theorem result : G2 m c = grad m c := by
  funext i
  have h0 : (i 0).val < 8 := (i 0).isLt
  have h1 : (i 1).val < 1024 := (i 1).isLt
  have h2 : (i 2).val < 512 := (i 2).isLt
  have hp : pt2Of i = 2 * ((i 0).val) + 1 := by simp only [pt2Of, run2Of]; omega
  have hn : 2 * ((i 0).val) + 1 < cfg0.N := lt_of_lt_of_eq (by omega) (show cfg0.N = 16 from N_0).symm
  unfold G2
  rw [dif_pos (hp ▸ hn), fold0_congr m c _ _ _ (by omega) hp, ← outsAt0_sweep m c _ hn]
  have hl : loc2Of i = ix3 0 ⟨(i 1).val % 1024, by omega⟩ ⟨(i 2).val % 512, by omega⟩ := by
    funext d; match d with | ⟨0, _⟩ => exact Fin.ext (Nat.mod_one _) | ⟨1, _⟩ => rfl | ⟨2, _⟩ => rfl
  rw [hl, block]
  congr 1
  conv_rhs => rw [eq_ix3 i]
  congr 1 <;> apply Fin.ext <;> dsimp only <;> omega

/-- The same product, as the other program states it. -/
theorem reference (x : S8192x1024.Idx → EReal) (y : S8192x4096.Idx → EReal) (i : S8x1024x512.Idx) :
    (truncf .bf16 (transpose Cert.GradUpReferenceIdeal.S8x1024x512 [1, 0, 2] (shapeCast Cert.GradUpReferenceIdeal.S1024x8x512
      (transpose Cert.GradUpReferenceIdeal.S1024x4096 [1, 0] (Host.dotGeneral (F := Ideal) Cert.GradUpReferenceIdeal.dot_S8192x4096_S8192x1024_S4096x1024_0_0_1_1_n_n none
      (extf (φ := .bf16) .f32 y Cert.GradUpReferenceIdeal.Gen.bitsLt_bf16_f32) (extf (φ := .bf16) .f32 x Cert.GradUpReferenceIdeal.Gen.bitsLt_bf16_f32)) Cert.GradUpReferenceIdeal.Gen.transposes_S4096x1024_S1024x4096_1_0)
      Cert.GradUpReferenceIdeal.Gen.shapeCasts_S1024x4096_S1024x8x512) Cert.GradUpReferenceIdeal.Gen.transposes_S1024x8x512_S8x1024x512_1_0_2)
      Cert.GradUpReferenceIdeal.Gen.bitsLt_bf16_f32 : FVec Ideal Cert.GradUpReferenceIdeal.S8x1024x512 .bf16) i
      = ∑ k : Fin 8192, x (ix2 k (i 1)) * y (ix2 k (at8 (i 0) (i 2))) := by
  obtain ⟨p, a, b, rfl⟩ : ∃ p a b, i = ix3 p a b := ⟨_, _, _, eq_ix3 i⟩
  refine Eq.trans (b := ∑ k : Fin 8192, y (ix2 k (at8 p b)) * x (ix2 k a)) ?_ (Finset.sum_congr rfl fun k _ => mul_comm _ _)
  pointwise

end Cert.GradUpIdeal.Val

namespace Cert.GradUpIdeal

open Idealize.ShloMosaic Idealize.SL.Sem

/-- From equal arguments the two programs end with the same gradient. -/
theorem algebraic : Cert.algebraic_GradUpIdeal_GradUpReferenceIdeal := by
  intro m g m' g' _ hin
  refine ⟨fun c => Val.grad m c, (θ_run _ _ _).mono (fun r hr c => ?_) (Value.run m g),
    (θ_run _ _ _).mono (fun r hr c => ?_) (Cert.GradUpReferenceIdeal.Value.run m' g')⟩
  · exact ⟨(hr c).1.trans (Val.result m c), (hr c).2⟩
  · refine ⟨(hr c).1.trans ?_, (hr c).2⟩
    rw [(hin c).1, (hin c).2]
    exact funext fun i => Val.reference (Val.X m c) (Val.Y m c) i

end Cert.GradUpIdeal

end
-- ==== Proof.GradInValue.lean ====
module

public import proofs.«01_k».proof.Defs
public import proofs.«01_k».proof.Proof.Gen.GradInIdeal.Value
public import proofs.«01_k».proof.Proof.Gen.GradInReferenceIdeal.Run
public import proofs.«01_k».proof.Proof.Halves
public import Idealize.ShloMosaic.Lib.Pointwise

@[expose] public section

set_option maxRecDepth 16384

/-! # The gradient of the input projection's weight, beside the attention's columns -/

noncomputable section

namespace Cert.GradInIdeal.Val

open Cert.GradInIdeal Cert.GradInIdeal.Gen Cert.GradInIdeal.Value
open Idealize.ShloMosaic Idealize.ShloMosaic.TcCoe Idealize.SL.Sem
open Cert.Halves

variable (m : (ℓ : Loc nD τ sig) → Buf (Elt Ideal) ℓ) (c : Dev nD)

/-- The product of one block of rows. -/
theorem part_at (v0 v1 : Vec Ideal S4096x1024 .bf16) (a b : Fin 1024) :
    k0_pay1 (F := Ideal) v0 v1 (ix2 a b) = ∑ k : Fin 4096, v1 (ix2 k a) * v0 (ix2 k b) := by
  pointwise [k0_pay1]

section
variable (i : grid0.Coords) (a3 : Memref sig .tc .vmem S4096x1024 .bf16) (h3 : a3.IsWhole)
  (a4 : Memref sig .tc .vmem S4096x1024 .bf16) (h4 : a4.IsWhole) (a5 : Memref sig .tc .vmem S1024x1024 .bf16) (h5 : a5.IsWhole)
  (a6 : Memref sig .tc .vmem S1024x1024 .f32) (h6 : a6.IsWhole) (x0 x1 : Vec Ideal S4096x1024 .bf16) (s : Vec Ideal S1024x1024 .f32)

/-- The first block of rows leaves its product in the scratch. -/
theorem first (p0 : cond0_0 i) (p1 : ¬cond0_1 i) (p2 : ¬cond0_2 i) :
    sout0_A_0 (F := Ideal) c i a3 h3 a4 h4 a5 h5 a6 h6 p0 p1 p2 x0 x1 = k0_pay1 (F := Ideal) x1 x0 := by
  unfold sout0_A_0
  rw [View.read_writes_eq_canon _ _ _ (scover0_A_0 c i a3 h3 a4 h4 a5 h5 a6 h6 p0 p1 p2 x0 x1)]
  unfold kernelRun0_A
  dsimp only
  rw [View.canon_unit_zero zeros]
  unfold k0_pay2
  simp only [View.readAt_eq_ld, h3.read_unread, h4.read_unread, View.ld_unit_zero (S := S4096x1024) zeros, shapeCast_self]

/-- The second adds its own and writes the sum. -/
theorem second (p0 : ¬cond0_0 i) (p1 : cond0_1 i) (p2 : cond0_2 i) :
    out0_B_2 (F := Ideal) c i a3 h3 a4 h4 a5 h5 a6 h6 p0 p1 p2 x0 x1 s
      = truncf .bf16 (addf s (k0_pay1 (F := Ideal) x1 x0)) bitsLt_bf16_f32 := by
  unfold out0_B_2
  rw [View.read_writes_eq_canon _ _ _ (cover0_B_2 c i a3 h3 a4 h4 a5 h5 a6 h6 p0 p1 p2 x0 x1 s)]
  unfold kernelRun0_B
  dsimp only
  sl_unfold_words
  rw [View.canon_unit_zero zeros, View.readCov_unit_zero (S := S1024x1024) _ zeros]
  unfold k0_pay3 k0_pay4
  simp only [View.readAt_eq_ld, h3.read_unread, h4.read_unread, h6.read_unread, View.ld_unit_zero (S := S4096x1024) zeros, View.ld_unit_zero (S := S1024x1024) zeros, shapeCast_self]

end

/-- The two operands, -/
abbrev X : S8192x1024.Idx → EReal := m ((c.tc : Thread nD τ).loc main_arg0)
abbrev Y : S8192x8192.Idx → EReal := m ((c.tc : Thread nD τ).loc main_arg1)

/-- and their blocks. -/
theorem places (t : Fin cfg0.N) : win0_0.index t 0 = t.val % 2 ∧ win0_0.index t 1 = 0 ∧ win0_1.index t 0 = t.val % 2 ∧ win0_1.index t 1 = t.val / 2 :=
  (by decide +kernel : ∀ t : Fin grid0.N, win0_0.index t 0 = t.val % 2 ∧ win0_0.index t 1 = 0 ∧ win0_1.index t 0 = t.val % 2 ∧ win0_1.index t 1 = t.val / 2) t

theorem block0 (t : Fin cfg0.N) (k : Fin 4096) (a : Fin 1024) :
    (iblk m c 0 t : Vec Ideal S4096x1024 .bf16) (ix2 k a)
      = X m c (ix2 ⟨4096 * (t.val % 2) + k, by omega⟩ a) := by
  obtain ⟨h0, h1, -, -⟩ := places t
  unfold iblk
  rw [View.read_apply]
  show V m c main_arg0 _ = m (c.tc.loc main_arg0) _
  unfold V
  congr 1
  funext d
  apply Fin.ext
  match d with
  | ⟨0, _⟩ => show win0_0.index t 0 * 4096 + 1 * k.val = 4096 * (t.val % 2) + k.val; rw [h0]; omega
  | ⟨1, _⟩ => show win0_0.index t 1 * 1024 + 1 * a.val = a.val; rw [h1]; omega

theorem block1 (t : Fin cfg0.N) (k : Fin 4096) (b : Fin 1024) :
    (iblk m c 1 t : Vec Ideal S4096x1024 .bf16) (ix2 k b)
      = Y m c (ix2 ⟨4096 * (t.val % 2) + k, by omega⟩ ⟨1024 * (t.val / 2) + b, by have := lt_of_lt_of_eq t.isLt (show cfg0.N = 16 from N_0); omega⟩) := by
  obtain ⟨-, -, h0, h1⟩ := places t
  unfold iblk
  rw [View.read_apply]
  show V m c main_arg1 _ = m (c.tc.loc main_arg1) _
  unfold V
  congr 1
  funext d
  apply Fin.ext
  match d with
  | ⟨0, _⟩ => show win0_1.index t 0 * 4096 + 1 * k.val = 4096 * (t.val % 2) + k.val; rw [h0]; omega
  | ⟨1, _⟩ => show win0_1.index t 1 * 1024 + 1 * b.val = 1024 * (t.val / 2) + b.val; rw [h1]; omega

/-- The gradient: the product over all the rows. -/
def grad : S1024x8192.Idx → EReal := fun i => ∑ k : Fin 8192, X m c (ix2 k (i 0)) * Y m c (ix2 k (i 1))

/-- Two grid points make one block of it, -/
theorem block (n : ℕ) (hn : 2 * n + 1 < cfg0.N) (a b : Fin 1024) : (outsAt0 m c (2 * n + 1) hn).1 (ix2 a b)
    = grad m c (ix2 a ⟨1024 * n + b, by have := lt_of_lt_of_eq hn (show cfg0.N = 16 from N_0); omega⟩) := by
  have hN : 2 * n + 1 < 16 := lt_of_lt_of_eq hn (show cfg0.N = 16 from N_0)
  rw [outsAt0_B m c ⟨2 * n + 1, hn⟩ (by dsimp only; omega) (by dsimp only; omega) (by dsimp only; omega)]
  dsimp only
  rw [second]
  show (outsAt0 m c (2 * n) _).2 (ix2 a b) + k0_pay1 (F := Ideal) _ _ (ix2 a b) = _
  rw [outsAt0_A m c ⟨2 * n, by omega⟩ (by dsimp only; omega) (by dsimp only; omega) (by dsimp only; omega)]
  dsimp only
  rw [first, part_at, part_at, grad, ← sum_rows]
  congr 1 <;> refine Finset.sum_congr rfl fun k _ => ?_
  · rw [block0, block1]
    congr 2 <;> congr 1 <;> apply Fin.ext <;> dsimp only [ix2_0, ix2_1] <;> omega
  · rw [block0, block1]
    congr 2 <;> congr 1 <;> apply Fin.ext <;> dsimp only [ix2_0, ix2_1] <;> omega

/-- and the sixteen make it whole. -/
theorem result : G2 m c = grad m c := by
  funext i
  have h0 : (i 0).val < 1024 := (i 0).isLt
  have h1 : (i 1).val < 8192 := (i 1).isLt
  have hp : pt2Of i = 2 * ((i 1).val / 1024) + 1 := by simp only [pt2Of, run2Of]; omega
  have hn : 2 * ((i 1).val / 1024) + 1 < cfg0.N := lt_of_lt_of_eq (by omega) (show cfg0.N = 16 from N_0).symm
  unfold G2
  rw [dif_pos (hp ▸ hn), fold0_congr m c _ _ _ (by omega) hp, ← outsAt0_sweep m c _ hn]
  have hl : loc2Of i = ix2 ⟨(i 0).val % 1024, by omega⟩ ⟨(i 1).val % 1024, by omega⟩ := by
    funext d; match d with | ⟨0, _⟩ => rfl | ⟨1, _⟩ => rfl
  rw [hl, block]
  congr 1
  conv_rhs => rw [eq_ix2 i]
  congr 1 <;> apply Fin.ext <;> dsimp only <;> omega

/-- The same product, as the other program states it. -/
theorem reference (x : S8192x1024.Idx → EReal) (y : S8192x8192.Idx → EReal) (i : S1024x8192.Idx) :
    (truncf .bf16 (transpose Cert.GradInReferenceIdeal.S1024x8192 [1, 0] (Host.dotGeneral (F := Ideal) Cert.GradInReferenceIdeal.dot_S8192x8192_S8192x1024_S8192x1024_0_0_1_1_n_n none
      (extf (φ := .bf16) .f32 y Cert.GradInReferenceIdeal.Gen.bitsLt_bf16_f32) (extf (φ := .bf16) .f32 x Cert.GradInReferenceIdeal.Gen.bitsLt_bf16_f32)) Cert.GradInReferenceIdeal.Gen.transposes_S8192x1024_S1024x8192_1_0)
      Cert.GradInReferenceIdeal.Gen.bitsLt_bf16_f32 : FVec Ideal Cert.GradInReferenceIdeal.S1024x8192 .bf16) i
      = ∑ k : Fin 8192, x (ix2 k (i 0)) * y (ix2 k (i 1)) := by
  rw [eq_ix2 i]
  refine Eq.trans (b := ∑ k : Fin 8192, y (ix2 k (i 1)) * x (ix2 k (i 0))) ?_ (Finset.sum_congr rfl fun k _ => mul_comm _ _)
  pointwise

end Cert.GradInIdeal.Val

namespace Cert.GradInIdeal

open Idealize.ShloMosaic Idealize.SL.Sem

/-- From equal arguments the two programs end with the same gradient. -/
theorem algebraic : Cert.algebraic_GradInIdeal_GradInReferenceIdeal := by
  intro m g m' g' _ hin
  refine ⟨fun c => Val.grad m c, (θ_run _ _ _).mono (fun r hr c => ?_) (Value.run m g),
    (θ_run _ _ _).mono (fun r hr c => ?_) (Cert.GradInReferenceIdeal.Value.run m' g')⟩
  · exact ⟨(hr c).1.trans (Val.result m c), (hr c).2⟩
  · refine ⟨(hr c).1.trans ?_, (hr c).2⟩
    rw [(hin c).1, (hin c).2]
    exact funext fun i => Val.reference (Val.X m c) (Val.Y m c) i

end Cert.GradInIdeal

end
-- ==== Proof.GradAttValue.lean ====
module

public import proofs.«01_k».proof.Defs
public import proofs.«01_k».proof.Proof.Gen.GradAttIdeal.Value
public import proofs.«01_k».proof.Proof.Gen.GradAttReferenceIdeal.Run
public import proofs.«01_k».proof.Proof.Halves
public import Idealize.ShloMosaic.Lib.Pointwise

@[expose] public section

set_option maxRecDepth 16384

/-! # The gradient of the input projection's weight, the attention's columns -/

noncomputable section

namespace Cert.GradAttIdeal.Val

open Cert.GradAttIdeal Cert.GradAttIdeal.Gen Cert.GradAttIdeal.Value
open Idealize.ShloMosaic Idealize.ShloMosaic.TcCoe Idealize.SL.Sem
open Cert.Halves

variable (m : (ℓ : Loc nD τ sig) → Buf (Elt Ideal) ℓ) (c : Dev nD)

/-- The product of one block of rows. -/
theorem part_at (v0 : Vec Ideal S2048x1536 .bf16) (v1 : Vec Ideal S2048x1024 .bf16) (a : Fin 1024) (b : Fin 1536) :
    k0_pay1 (F := Ideal) v0 v1 (ix2 a b) = ∑ k : Fin 2048, v1 (ix2 k a) * v0 (ix2 k b) := by
  pointwise [k0_pay1]

section
variable (i : grid0.Coords) (a3 : Memref sig .tc .vmem S2048x1024 .bf16) (h3 : a3.IsWhole)
  (a4 : Memref sig .tc .vmem S2048x1536 .bf16) (h4 : a4.IsWhole) (a5 : Memref sig .tc .vmem S1024x1536 .bf16) (h5 : a5.IsWhole)
  (a6 : Memref sig .tc .vmem S1024x1536 .f32) (h6 : a6.IsWhole) (x0 : Vec Ideal S2048x1024 .bf16) (x1 : Vec Ideal S2048x1536 .bf16)
  (s : Vec Ideal S1024x1536 .f32)

/-- The first block of rows leaves its product in the scratch. -/
theorem first (p0 : cond0_0 i) (p1 : ¬cond0_1 i) (p2 : ¬cond0_2 i) :
    sout0_A_0 (F := Ideal) c i a3 h3 a4 h4 a5 h5 a6 h6 p0 p1 p2 x0 x1 = k0_pay1 (F := Ideal) x1 x0 := by
  unfold sout0_A_0
  rw [View.read_writes_eq_canon _ _ _ (scover0_A_0 c i a3 h3 a4 h4 a5 h5 a6 h6 p0 p1 p2 x0 x1)]
  unfold kernelRun0_A
  dsimp only
  rw [View.canon_unit_zero zeros]
  unfold k0_pay2
  simp only [View.readAt_eq_ld, h3.read_unread, h4.read_unread, View.ld_unit_zero (S := S2048x1024) zeros, View.ld_unit_zero (S := S2048x1536) zeros, shapeCast_self]

/-- Each further block adds its own to the scratch. -/
theorem next (p0 : ¬cond0_0 i) (p1 : cond0_1 i) (p2 : ¬cond0_2 i) :
    sout0_B_0 (F := Ideal) c i a3 h3 a4 h4 a5 h5 a6 h6 p0 p1 p2 x0 x1 s
      = addf s (k0_pay1 (F := Ideal) x1 x0) := by
  unfold sout0_B_0
  rw [View.read_writes_eq_canon _ _ _ (scover0_B_0 c i a3 h3 a4 h4 a5 h5 a6 h6 p0 p1 p2 x0 x1 s)]
  unfold kernelRun0_B
  dsimp only
  rw [View.canon_unit_zero zeros]
  unfold k0_pay3
  simp only [View.readAt_eq_ld, h3.read_unread, h4.read_unread, h6.read_unread, View.ld_unit_zero (S := S2048x1024) zeros, View.ld_unit_zero (S := S2048x1536) zeros, View.ld_unit_zero (S := S1024x1536) zeros, shapeCast_self]

/-- The last writes the sum too. -/
theorem last (p0 : ¬cond0_0 i) (p1 : cond0_1 i) (p2 : cond0_2 i) :
    out0_C_2 (F := Ideal) c i a3 h3 a4 h4 a5 h5 a6 h6 p0 p1 p2 x0 x1 s
      = truncf .bf16 (addf s (k0_pay1 (F := Ideal) x1 x0)) bitsLt_bf16_f32 := by
  unfold out0_C_2
  rw [View.read_writes_eq_canon _ _ _ (cover0_C_2 c i a3 h3 a4 h4 a5 h5 a6 h6 p0 p1 p2 x0 x1 s)]
  unfold kernelRun0_C
  dsimp only
  sl_unfold_words
  rw [View.canon_unit_zero zeros, View.readCov_unit_zero (S := S1024x1536) _ zeros]
  unfold k0_pay3 k0_pay4
  simp only [View.readAt_eq_ld, h3.read_unread, h4.read_unread, h6.read_unread, View.ld_unit_zero (S := S2048x1024) zeros, View.ld_unit_zero (S := S2048x1536) zeros, View.ld_unit_zero (S := S1024x1536) zeros, shapeCast_self]

end

/-- The two operands, -/
abbrev X : S8192x1024.Idx → EReal := m ((c.tc : Thread nD τ).loc main_arg0)
abbrev Y : S8192x4608.Idx → EReal := m ((c.tc : Thread nD τ).loc main_arg1)

/-- and their blocks. -/
theorem places (t : Fin cfg0.N) : win0_0.index t 0 = t.val % 4 ∧ win0_0.index t 1 = 0 ∧ win0_1.index t 0 = t.val % 4 ∧ win0_1.index t 1 = t.val / 4 :=
  (by decide +kernel : ∀ t : Fin grid0.N, win0_0.index t 0 = t.val % 4 ∧ win0_0.index t 1 = 0 ∧ win0_1.index t 0 = t.val % 4 ∧ win0_1.index t 1 = t.val / 4) t

theorem block0 (t : Fin cfg0.N) (k : Fin 2048) (a : Fin 1024) :
    (iblk m c 0 t : Vec Ideal S2048x1024 .bf16) (ix2 k a)
      = X m c (ix2 ⟨2048 * (t.val % 4) + k, by omega⟩ a) := by
  obtain ⟨h0, h1, -, -⟩ := places t
  unfold iblk
  rw [View.read_apply]
  show V m c main_arg0 _ = m (c.tc.loc main_arg0) _
  unfold V
  congr 1
  funext d
  apply Fin.ext
  match d with
  | ⟨0, _⟩ => show win0_0.index t 0 * 2048 + 1 * k.val = 2048 * (t.val % 4) + k.val; rw [h0]; omega
  | ⟨1, _⟩ => show win0_0.index t 1 * 1024 + 1 * a.val = a.val; rw [h1]; omega

theorem block1 (t : Fin cfg0.N) (k : Fin 2048) (b : Fin 1536) :
    (iblk m c 1 t : Vec Ideal S2048x1536 .bf16) (ix2 k b)
      = Y m c (ix2 ⟨2048 * (t.val % 4) + k, by omega⟩ ⟨1536 * (t.val / 4) + b, by have := lt_of_lt_of_eq t.isLt (show cfg0.N = 12 from N_0); omega⟩) := by
  obtain ⟨-, -, h0, h1⟩ := places t
  unfold iblk
  rw [View.read_apply]
  show V m c main_arg1 _ = m (c.tc.loc main_arg1) _
  unfold V
  congr 1
  funext d
  apply Fin.ext
  match d with
  | ⟨0, _⟩ => show win0_1.index t 0 * 2048 + 1 * k.val = 2048 * (t.val % 4) + k.val; rw [h0]; omega
  | ⟨1, _⟩ => show win0_1.index t 1 * 1536 + 1 * b.val = 1536 * (t.val / 4) + b.val; rw [h1]; omega

/-- The gradient: the product over all the rows. -/
def grad : S1024x4608.Idx → EReal := fun i => ∑ k : Fin 8192, X m c (ix2 k (i 0)) * Y m c (ix2 k (i 1))

/-- What the scratch holds after the first block of a run, -/
theorem scratch0 (n : ℕ) (hn : n < cfg0.N) (h : n % 4 = 0) :
    (outsAt0 m c n hn).2 = k0_pay1 (F := Ideal) (iblk m c 1 ⟨n, hn⟩) (iblk m c 0 ⟨n, hn⟩) := by
  rw [outsAt0_A m c ⟨n, hn⟩ h (by dsimp only; omega) (by dsimp only; omega)]
  dsimp only
  rw [first]

/-- and after a further one. -/
theorem scratch1 (n : ℕ) (hn : n + 1 < cfg0.N) (h : (n + 1) % 4 ≠ 0) (h' : (n + 1) % 4 ≠ 3) :
    (outsAt0 m c (n + 1) hn).2 = addf (outsAt0 m c n (Nat.lt_of_succ_lt hn)).2
      (k0_pay1 (F := Ideal) (iblk m c 1 ⟨n + 1, hn⟩) (iblk m c 0 ⟨n + 1, hn⟩)) := by
  rw [outsAt0_B m c ⟨n + 1, hn⟩ (by dsimp only; omega) (by dsimp only; omega) (by dsimp only; omega)]
  dsimp only
  rw [next]
  rfl

/-- One block's product as rows of the arguments. -/
theorem piece (n p r : ℕ) (hp : p < cfg0.N) (hr : r < 4) (e : p = 4 * n + r) (a : Fin 1024) (b : Fin 1536) :
    k0_pay1 (F := Ideal) (iblk m c 1 ⟨p, hp⟩) (iblk m c 0 ⟨p, hp⟩) (ix2 a b)
      = ∑ k : Fin 2048, X m c (ix2 ⟨2048 * r + k, by omega⟩ a)
        * Y m c (ix2 ⟨2048 * r + k, by omega⟩ ⟨1536 * n + b, by have := lt_of_lt_of_eq hp (show cfg0.N = 12 from N_0); omega⟩) := by
  rw [part_at]
  refine Finset.sum_congr rfl fun k _ => ?_
  rw [block0, block1]
  congr 2 <;> congr 1 <;> apply Fin.ext <;> dsimp only <;> omega

/-- Four grid points make one block of it, -/
theorem block (n : ℕ) (hn : 4 * n + 3 < cfg0.N) (a : Fin 1024) (b : Fin 1536) : (outsAt0 m c (4 * n + 3) hn).1 (ix2 a b)
    = grad m c (ix2 a ⟨1536 * n + b, by have := lt_of_lt_of_eq hn (show cfg0.N = 12 from N_0); omega⟩) := by
  rw [outsAt0_C m c ⟨4 * n + 3, hn⟩ (by dsimp only; omega) (by dsimp only; omega) (by dsimp only; omega)]
  dsimp only
  rw [last]
  show (outsAt0 m c (4 * n + 2) _).2 (ix2 a b) + k0_pay1 (F := Ideal) _ _ (ix2 a b) = _
  rw [scratch1 m c (4 * n + 1) (by omega) (by omega) (by omega), scratch1 m c (4 * n) (by omega) (by omega) (by omega),
    scratch0 m c (4 * n) (by omega) (by omega)]
  show ((k0_pay1 (F := Ideal) _ _ (ix2 a b) + k0_pay1 (F := Ideal) _ _ (ix2 a b)) + k0_pay1 (F := Ideal) _ _ (ix2 a b)) + _ = _
  rw [piece m c n (4 * n) 0 _ (by omega) rfl, piece m c n (4 * n + 1) 1 _ (by omega) rfl, piece m c n (4 * n + 1 + 1) 2 _ (by omega) rfl,
    piece m c n (4 * n + 3) 3 _ (by omega) rfl, grad, ← sum_quarters]
  simp only [Nat.mul_zero, Nat.mul_one, Nat.zero_add]
  rfl

/-- and the three make it whole. -/
theorem result : G2 m c = grad m c := by
  funext i
  have h0 : (i 0).val < 1024 := (i 0).isLt
  have h1 : (i 1).val < 4608 := (i 1).isLt
  have hp : pt2Of i = 4 * ((i 1).val / 1536) + 3 := by simp only [pt2Of, run2Of]; omega
  have hn : 4 * ((i 1).val / 1536) + 3 < cfg0.N := lt_of_lt_of_eq (by omega) (show cfg0.N = 12 from N_0).symm
  unfold G2
  rw [dif_pos (hp ▸ hn), fold0_congr m c _ _ _ (by omega) hp, ← outsAt0_sweep m c _ hn]
  have hl : loc2Of i = ix2 ⟨(i 0).val % 1024, by omega⟩ ⟨(i 1).val % 1536, by omega⟩ := by
    funext d; match d with | ⟨0, _⟩ => rfl | ⟨1, _⟩ => rfl
  rw [hl, block]
  congr 1
  conv_rhs => rw [eq_ix2 i]
  congr 1 <;> apply Fin.ext <;> dsimp only <;> omega

/-- The same product, as the other program states it. -/
theorem reference (x : S8192x1024.Idx → EReal) (y : S8192x4608.Idx → EReal) (i : S1024x4608.Idx) :
    (truncf .bf16 (transpose Cert.GradAttReferenceIdeal.S1024x4608 [1, 0] (Host.dotGeneral (F := Ideal) Cert.GradAttReferenceIdeal.dot_S8192x4608_S8192x1024_S4608x1024_0_0_1_1_n_n none
      (extf (φ := .bf16) .f32 y Cert.GradAttReferenceIdeal.Gen.bitsLt_bf16_f32) (extf (φ := .bf16) .f32 x Cert.GradAttReferenceIdeal.Gen.bitsLt_bf16_f32)) Cert.GradAttReferenceIdeal.Gen.transposes_S4608x1024_S1024x4608_1_0)
      Cert.GradAttReferenceIdeal.Gen.bitsLt_bf16_f32 : FVec Ideal Cert.GradAttReferenceIdeal.S1024x4608 .bf16) i
      = ∑ k : Fin 8192, x (ix2 k (i 0)) * y (ix2 k (i 1)) := by
  rw [eq_ix2 i]
  refine Eq.trans (b := ∑ k : Fin 8192, y (ix2 k (i 1)) * x (ix2 k (i 0))) ?_ (Finset.sum_congr rfl fun k _ => mul_comm _ _)
  pointwise

end Cert.GradAttIdeal.Val

namespace Cert.GradAttIdeal

open Idealize.ShloMosaic Idealize.SL.Sem

/-- From equal arguments the two programs end with the same gradient. -/
theorem algebraic : Cert.algebraic_GradAttIdeal_GradAttReferenceIdeal := by
  intro m g m' g' _ hin
  refine ⟨fun c => Val.grad m c, (θ_run _ _ _).mono (fun r hr c => ?_) (Value.run m g),
    (θ_run _ _ _).mono (fun r hr c => ?_) (Cert.GradAttReferenceIdeal.Value.run m' g')⟩
  · exact ⟨(hr c).1.trans (Val.result m c), (hr c).2⟩
  · refine ⟨(hr c).1.trans ?_, (hr c).2⟩
    rw [(hin c).1, (hin c).2]
    exact funext fun i => Val.reference (Val.X m c) (Val.Y m c) i

end Cert.GradAttIdeal

end
-- ==== Proof.GradBranchValue.lean ====
module

public import proofs.«01_k».proof.Defs
public import proofs.«01_k».proof.Proof.Gen.GradBranchIdeal.Value
public import proofs.«01_k».proof.Proof.Gen.GradBranchReferenceIdeal.Run
public import proofs.«01_k».proof.Proof.Halves
public import Idealize.ShloMosaic.Lib.Pointwise

@[expose] public section

set_option maxRecDepth 16384

/-! # The gradient of the retention branch's projection -/

noncomputable section

namespace Cert.GradBranchIdeal.Val

open Cert.GradBranchIdeal Cert.GradBranchIdeal.Gen Cert.GradBranchIdeal.Value
open Idealize.ShloMosaic Idealize.ShloMosaic.TcCoe Idealize.SL.Sem
open Cert.Halves

variable (m : (ℓ : Loc nD τ sig) → Buf (Elt Ideal) ℓ) (c : Dev nD)

/-- The product of one block of rows. -/
theorem part_at (v0 v1 : Vec Ideal S4096x1024 .bf16) (a b : Fin 1024) :
    k0_pay1 (F := Ideal) v0 v1 (ix2 a b) = ∑ k : Fin 4096, v1 (ix2 k a) * v0 (ix2 k b) := by
  pointwise [k0_pay1]

section
variable (i : grid0.Coords) (a3 : Memref sig .tc .vmem S4096x1024 .bf16) (h3 : a3.IsWhole)
  (a4 : Memref sig .tc .vmem S4096x1024 .bf16) (h4 : a4.IsWhole) (a5 : Memref sig .tc .vmem S1024x1024 .bf16) (h5 : a5.IsWhole)
  (a6 : Memref sig .tc .vmem S1024x1024 .f32) (h6 : a6.IsWhole) (x0 x1 : Vec Ideal S4096x1024 .bf16) (s : Vec Ideal S1024x1024 .f32)

/-- The first block of rows leaves its product in the scratch. -/
theorem first (p0 : cond0_0 i) (p1 : ¬cond0_1 i) (p2 : ¬cond0_2 i) :
    sout0_A_0 (F := Ideal) c i a3 h3 a4 h4 a5 h5 a6 h6 p0 p1 p2 x0 x1 = k0_pay1 (F := Ideal) x1 x0 := by
  unfold sout0_A_0
  rw [View.read_writes_eq_canon _ _ _ (scover0_A_0 c i a3 h3 a4 h4 a5 h5 a6 h6 p0 p1 p2 x0 x1)]
  unfold kernelRun0_A
  dsimp only
  rw [View.canon_unit_zero zeros]
  unfold k0_pay2
  simp only [View.readAt_eq_ld, h3.read_unread, h4.read_unread, View.ld_unit_zero (S := S4096x1024) zeros, shapeCast_self]

/-- The second adds its own and writes the sum. -/
theorem second (p0 : ¬cond0_0 i) (p1 : cond0_1 i) (p2 : cond0_2 i) :
    out0_B_2 (F := Ideal) c i a3 h3 a4 h4 a5 h5 a6 h6 p0 p1 p2 x0 x1 s
      = truncf .bf16 (addf s (k0_pay1 (F := Ideal) x1 x0)) bitsLt_bf16_f32 := by
  unfold out0_B_2
  rw [View.read_writes_eq_canon _ _ _ (cover0_B_2 c i a3 h3 a4 h4 a5 h5 a6 h6 p0 p1 p2 x0 x1 s)]
  unfold kernelRun0_B
  dsimp only
  sl_unfold_words
  rw [View.canon_unit_zero zeros, View.readCov_unit_zero (S := S1024x1024) _ zeros]
  unfold k0_pay3 k0_pay4
  simp only [View.readAt_eq_ld, h3.read_unread, h4.read_unread, h6.read_unread, View.ld_unit_zero (S := S4096x1024) zeros, View.ld_unit_zero (S := S1024x1024) zeros, shapeCast_self]

end

/-- The two operands, -/
abbrev X : S8192x2048.Idx → EReal := m ((c.tc : Thread nD τ).loc main_arg0)
abbrev Y : S8192x1024.Idx → EReal := m ((c.tc : Thread nD τ).loc main_arg1)

/-- and their blocks. -/
theorem places (t : Fin cfg0.N) : win0_0.index t 0 = t.val % 2 ∧ win0_0.index t 1 = t.val / 2 ∧ win0_1.index t 0 = t.val % 2 ∧ win0_1.index t 1 = 0 :=
  (by decide +kernel : ∀ t : Fin grid0.N, win0_0.index t 0 = t.val % 2 ∧ win0_0.index t 1 = t.val / 2 ∧ win0_1.index t 0 = t.val % 2 ∧ win0_1.index t 1 = 0) t

theorem block0 (t : Fin cfg0.N) (k : Fin 4096) (a : Fin 1024) :
    (iblk m c 0 t : Vec Ideal S4096x1024 .bf16) (ix2 k a)
      = X m c (ix2 ⟨4096 * (t.val % 2) + k, by omega⟩ ⟨1024 * (t.val / 2) + a, by have := lt_of_lt_of_eq t.isLt (show cfg0.N = 4 from N_0); omega⟩) := by
  obtain ⟨h0, h1, -, -⟩ := places t
  unfold iblk
  rw [View.read_apply]
  show V m c main_arg0 _ = m (c.tc.loc main_arg0) _
  unfold V
  congr 1
  funext d
  apply Fin.ext
  match d with
  | ⟨0, _⟩ => show win0_0.index t 0 * 4096 + 1 * k.val = 4096 * (t.val % 2) + k.val; rw [h0]; omega
  | ⟨1, _⟩ => show win0_0.index t 1 * 1024 + 1 * a.val = 1024 * (t.val / 2) + a.val; rw [h1]; omega

theorem block1 (t : Fin cfg0.N) (k : Fin 4096) (b : Fin 1024) :
    (iblk m c 1 t : Vec Ideal S4096x1024 .bf16) (ix2 k b) = Y m c (ix2 ⟨4096 * (t.val % 2) + k, by omega⟩ b) := by
  obtain ⟨-, -, h0, h1⟩ := places t
  unfold iblk
  rw [View.read_apply]
  show V m c main_arg1 _ = m (c.tc.loc main_arg1) _
  unfold V
  congr 1
  funext d
  apply Fin.ext
  match d with
  | ⟨0, _⟩ => show win0_1.index t 0 * 4096 + 1 * k.val = 4096 * (t.val % 2) + k.val; rw [h0]; omega
  | ⟨1, _⟩ => show win0_1.index t 1 * 1024 + 1 * b.val = b.val; rw [h1]; omega

/-- The gradient: the product over all the rows. -/
def grad : S2048x1024.Idx → EReal := fun i => ∑ k : Fin 8192, X m c (ix2 k (i 0)) * Y m c (ix2 k (i 1))

/-- Two grid points make one block of it, -/
theorem block (n : ℕ) (hn : 2 * n + 1 < cfg0.N) (a b : Fin 1024) : (outsAt0 m c (2 * n + 1) hn).1 (ix2 a b)
    = grad m c (ix2 ⟨1024 * n + a, by have := lt_of_lt_of_eq hn (show cfg0.N = 4 from N_0); omega⟩ b) := by
  have hN : 2 * n + 1 < 4 := lt_of_lt_of_eq hn (show cfg0.N = 4 from N_0)
  rw [outsAt0_B m c ⟨2 * n + 1, hn⟩ (by dsimp only; omega) (by dsimp only; omega) (by dsimp only; omega)]
  dsimp only
  rw [second]
  show (outsAt0 m c (2 * n) _).2 (ix2 a b) + k0_pay1 (F := Ideal) _ _ (ix2 a b) = _
  rw [outsAt0_A m c ⟨2 * n, by omega⟩ (by dsimp only; omega) (by dsimp only; omega) (by dsimp only; omega)]
  dsimp only
  rw [first, part_at, part_at, grad, ← sum_rows]
  congr 1 <;> refine Finset.sum_congr rfl fun k _ => ?_
  · rw [block0, block1]
    congr 2 <;> congr 1 <;> apply Fin.ext <;> dsimp only [ix2_0, ix2_1] <;> omega
  · rw [block0, block1]
    congr 2 <;> congr 1 <;> apply Fin.ext <;> dsimp only [ix2_0, ix2_1] <;> omega

/-- and the four make it whole. -/
theorem result : G2 m c = grad m c := by
  funext i
  have h0 : (i 0).val < 2048 := (i 0).isLt
  have h1 : (i 1).val < 1024 := (i 1).isLt
  have hp : pt2Of i = 2 * ((i 0).val / 1024) + 1 := by simp only [pt2Of, run2Of]; omega
  have hn : 2 * ((i 0).val / 1024) + 1 < cfg0.N := lt_of_lt_of_eq (by omega) (show cfg0.N = 4 from N_0).symm
  unfold G2
  rw [dif_pos (hp ▸ hn), fold0_congr m c _ _ _ (by omega) hp, ← outsAt0_sweep m c _ hn]
  have hl : loc2Of i = ix2 ⟨(i 0).val % 1024, by omega⟩ ⟨(i 1).val % 1024, by omega⟩ := by
    funext d; match d with | ⟨0, _⟩ => rfl | ⟨1, _⟩ => rfl
  rw [hl, block]
  congr 1
  conv_rhs => rw [eq_ix2 i]
  congr 1 <;> apply Fin.ext <;> dsimp only <;> omega

/-- The same product, as the other program states it. -/
theorem reference (x : S8192x2048.Idx → EReal) (y : S8192x1024.Idx → EReal) (i : S2048x1024.Idx) :
    (truncf .bf16 (transpose Cert.GradBranchReferenceIdeal.S2048x1024 [1, 0] (Host.dotGeneral (F := Ideal) Cert.GradBranchReferenceIdeal.dot_S8192x1024_S8192x2048_S1024x2048_0_0_1_1_n_n none
      (extf (φ := .bf16) .f32 y Cert.GradBranchReferenceIdeal.Gen.bitsLt_bf16_f32) (extf (φ := .bf16) .f32 x Cert.GradBranchReferenceIdeal.Gen.bitsLt_bf16_f32)) Cert.GradBranchReferenceIdeal.Gen.transposes_S1024x2048_S2048x1024_1_0)
      Cert.GradBranchReferenceIdeal.Gen.bitsLt_bf16_f32 : FVec Ideal Cert.GradBranchReferenceIdeal.S2048x1024 .bf16) i
      = ∑ k : Fin 8192, x (ix2 k (i 0)) * y (ix2 k (i 1)) := by
  rw [eq_ix2 i]
  refine Eq.trans (b := ∑ k : Fin 8192, y (ix2 k (i 1)) * x (ix2 k (i 0))) ?_ (Finset.sum_congr rfl fun k _ => mul_comm _ _)
  pointwise

end Cert.GradBranchIdeal.Val

namespace Cert.GradBranchIdeal

open Idealize.ShloMosaic Idealize.SL.Sem

/-- From equal arguments the two programs end with the same gradient. -/
theorem algebraic : Cert.algebraic_GradBranchIdeal_GradBranchReferenceIdeal := by
  intro m g m' g' _ hin
  refine ⟨fun c => Val.grad m c, (θ_run _ _ _).mono (fun r hr c => ?_) (Value.run m g),
    (θ_run _ _ _).mono (fun r hr c => ?_) (Cert.GradBranchReferenceIdeal.Value.run m' g')⟩
  · exact ⟨(hr c).1.trans (Val.result m c), (hr c).2⟩
  · refine ⟨(hr c).1.trans ?_, (hr c).2⟩
    rw [(hin c).1, (hin c).2]
    exact funext fun i => Val.reference (Val.X m c) (Val.Y m c) i

end Cert.GradBranchIdeal

end
-- ==== Proof.InAttValue.lean ====
module

public import proofs.«01_k».proof.Defs
public import proofs.«01_k».proof.Proof.Gen.InAttIdeal.Value
public import proofs.«01_k».proof.Proof.Gen.InAttReferenceIdeal.Run
public import proofs.«01_k».proof.Proof.Halves
public import Idealize.ShloMosaic.Lib.Pointwise
public import Idealize.ShloMosaic.Lib.Pipeline.ValueKit

@[expose] public section

set_option maxRecDepth 16384

/-! # The input projection, the attention's columns -/

noncomputable section

namespace Cert.InAttIdeal.Val

open Cert.InAttIdeal Cert.InAttIdeal.Gen Cert.InAttIdeal.Value
open Idealize.ShloMosaic Idealize.ShloMosaic.TcCoe Idealize.SL.Sem
open Cert.Halves

variable (m : (ℓ : Loc nD τ sig) → Buf (Elt Ideal) ℓ) (c : Dev nD)

/-- The product of one block of rows. -/
theorem part_at (v0 : Vec Ideal S1024x4608 .bf16) (v1 : Vec Ideal S512x1024 .bf16) (a : Fin 512) (b : Fin 4608) :
    k0_pay1 (F := Ideal) v0 v1 (ix2 a b) = ∑ k : Fin 1024, v1 (ix2 a k) * v0 (ix2 k b) := by
  pointwise [k0_pay1]

/-- A point writes the product of its two blocks. -/
theorem out_at (x0 : Vec Ideal S512x1024 .bf16) (x1 : Vec Ideal S1024x4608 .bf16) (a : Fin 512) (b : Fin 4608) :
    out0_2 (F := Ideal) x0 x1 (ix2 a b) = ∑ k : Fin 1024, x0 (ix2 a k) * x1 (ix2 k b) := by
  unfold out0_2
  rw [View.canon_unit_zero zeros, part_at, View.ld_unit_zero (S := S512x1024) zeros, View.ld_unit_zero (S := S1024x4608) zeros]

/-- The two operands, -/
abbrev X : S8192x1024.Idx → EReal := m ((c.tc : Thread nD τ).loc main_arg0)
abbrev W : S1024x4608.Idx → EReal := m ((c.tc : Thread nD τ).loc main_arg1)

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel

/-- and their blocks. -/
theorem block0 (t : Fin cfg0.N) (a : Fin 512) (k : Fin 1024) : (iblk m c 0 t : Vec Ideal S512x1024 .bf16) (ix2 a k)
    = X m c (ix2 ⟨512 * t + a, by have := lt_of_lt_of_eq t.isLt (show cfg0.N = 16 from N_0); omega⟩ k) := by
  blk_simp [iblk]; blk_ext <;> simp only [index0] <;> omega
theorem block1 (t : Fin cfg0.N) (k : Fin 1024) (b : Fin 4608) : (iblk m c 1 t : Vec Ideal S1024x4608 .bf16) (ix2 k b) = W m c (ix2 k b) := by
  blk_simp [iblk]; blk_ext <;> simp only [index1] <;> omega

/-- The projection. -/
def proj : S8192x4608.Idx → EReal := fun i => ∑ k : Fin 1024, X m c (ix2 (i 0) k) * W m c (ix2 k (i 1))

theorem block (t : Fin cfg0.N) (a : Fin 512) (b : Fin 4608) : out0_2 (F := Ideal) (iblk m c 0 t) (iblk m c 1 t) (ix2 a b)
    = proj m c (ix2 ⟨512 * t + a, by have := lt_of_lt_of_eq t.isLt (show cfg0.N = 16 from N_0); omega⟩ b) := by
  rw [out_at, proj]
  exact Finset.sum_congr rfl fun k _ => by rw [block0, block1]; rfl

/-- The sixteen blocks make it whole. -/
theorem result : (dats m 0 c).arrAt 2 cfg0.N = proj m c := by
  refine (dats m 0 c).arrAt_eq_of_covers 2 _ (by decide +kernel) fun t hf y => ?_
  obtain ⟨a, b, rfl⟩ : ∃ (a : Fin 512) (b : Fin 4608), y = ix2 a b := ⟨y 0, y 1, eq_ix2 y⟩
  blk_simp
  rw [after0_2, block]
  congr 1
  blk_ext <;> simp only [index2] <;> omega

/-- The same product, as the other program states it. -/
theorem reference (x : S8192x1024.Idx → EReal) (w : S1024x4608.Idx → EReal) (i : S8192x4608.Idx) :
    (Host.dotGeneral (F := Ideal) Cert.InAttReferenceIdeal.dot_S8192x1024_S1024x4608_S8192x4608_1_0_0_1_n_n none
      (extf (φ := .bf16) .f32 x Cert.InAttReferenceIdeal.Gen.bitsLt_bf16_f32) (extf (φ := .bf16) .f32 w Cert.InAttReferenceIdeal.Gen.bitsLt_bf16_f32)
      : FVec Ideal Cert.InAttReferenceIdeal.S8192x4608 .f32) i
      = ∑ k : Fin 1024, x (ix2 (i 0) k) * w (ix2 k (i 1)) := by
  rw [eq_ix2 i]
  pointwise

end Cert.InAttIdeal.Val

namespace Cert.InAttIdeal

open Idealize.ShloMosaic Idealize.SL.Sem

/-- From equal arguments the two programs end with the same projection. -/
theorem algebraic : Cert.algebraic_InAttIdeal_InAttReferenceIdeal := by
  intro m g m' g' _ hin
  refine ⟨fun c => Val.proj m c, (θ_run _ _ _).mono (fun r hr c => ?_) (Value.run_blocks m g),
    (θ_run _ _ _).mono (fun r hr c => ?_) (Cert.InAttReferenceIdeal.Value.run m' g')⟩
  · exact ⟨(hr c).1.trans (Val.result m c), (hr c).2⟩
  · refine ⟨(hr c).1.trans ?_, (hr c).2⟩
    rw [(hin c).1, (hin c).2]
    exact funext fun i => Val.reference (Val.X m c) (Val.W m c) i

end Cert.InAttIdeal

end
-- ==== Proof.InRestValue.lean ====
module

public import proofs.«01_k».proof.Defs
public import proofs.«01_k».proof.Proof.Gen.InRestIdeal.Value
public import proofs.«01_k».proof.Proof.Gen.InRestReferenceIdeal.Run
public import proofs.«01_k».proof.Proof.Halves
public import Idealize.ShloMosaic.Lib.Pointwise
public import Idealize.ShloMosaic.Lib.Pipeline.ValueKit

@[expose] public section

set_option maxRecDepth 16384

/-! # The input projection, beside the attention's columns -/

noncomputable section

namespace Cert.InRestIdeal.Val

open Cert.InRestIdeal Cert.InRestIdeal.Gen Cert.InRestIdeal.Value
open Idealize.ShloMosaic Idealize.ShloMosaic.TcCoe Idealize.SL.Sem
open Cert.Halves

variable (m : (ℓ : Loc nD τ sig) → Buf (Elt Ideal) ℓ) (c : Dev nD)

/-- The product of one block of rows. -/
theorem part_at (v0 : Vec Ideal S1024x8192 .bf16) (v1 : Vec Ideal S512x1024 .bf16) (a : Fin 512) (b : Fin 8192) :
    k0_pay1 (F := Ideal) v0 v1 (ix2 a b) = ∑ k : Fin 1024, v1 (ix2 a k) * v0 (ix2 k b) := by
  pointwise [k0_pay1]

/-- A point writes the product of its two blocks. -/
theorem out_at (x0 : Vec Ideal S512x1024 .bf16) (x1 : Vec Ideal S1024x8192 .bf16) (a : Fin 512) (b : Fin 8192) :
    out0_2 (F := Ideal) x0 x1 (ix2 a b) = ∑ k : Fin 1024, x0 (ix2 a k) * x1 (ix2 k b) := by
  unfold out0_2
  rw [View.canon_unit_zero zeros, part_at, View.ld_unit_zero (S := S512x1024) zeros, View.ld_unit_zero (S := S1024x8192) zeros]

/-- The two operands, -/
abbrev X : S8192x1024.Idx → EReal := m ((c.tc : Thread nD τ).loc main_arg0)
abbrev W : S1024x8192.Idx → EReal := m ((c.tc : Thread nD τ).loc main_arg1)

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel

/-- and their blocks. -/
theorem block0 (t : Fin cfg0.N) (a : Fin 512) (k : Fin 1024) : (iblk m c 0 t : Vec Ideal S512x1024 .bf16) (ix2 a k)
    = X m c (ix2 ⟨512 * t + a, by have := lt_of_lt_of_eq t.isLt (show cfg0.N = 16 from N_0); omega⟩ k) := by
  blk_simp [iblk]; blk_ext <;> simp only [index0] <;> omega
theorem block1 (t : Fin cfg0.N) (k : Fin 1024) (b : Fin 8192) : (iblk m c 1 t : Vec Ideal S1024x8192 .bf16) (ix2 k b) = W m c (ix2 k b) := by
  blk_simp [iblk]; blk_ext <;> simp only [index1] <;> omega

/-- The projection. -/
def proj : S8192x8192.Idx → EReal := fun i => ∑ k : Fin 1024, X m c (ix2 (i 0) k) * W m c (ix2 k (i 1))

theorem block (t : Fin cfg0.N) (a : Fin 512) (b : Fin 8192) : out0_2 (F := Ideal) (iblk m c 0 t) (iblk m c 1 t) (ix2 a b)
    = proj m c (ix2 ⟨512 * t + a, by have := lt_of_lt_of_eq t.isLt (show cfg0.N = 16 from N_0); omega⟩ b) := by
  rw [out_at, proj]
  exact Finset.sum_congr rfl fun k _ => by rw [block0, block1]; rfl

/-- The sixteen blocks make it whole. -/
theorem result : (dats m 0 c).arrAt 2 cfg0.N = proj m c := by
  refine (dats m 0 c).arrAt_eq_of_covers 2 _ (by decide +kernel) fun t hf y => ?_
  obtain ⟨a, b, rfl⟩ : ∃ (a : Fin 512) (b : Fin 8192), y = ix2 a b := ⟨y 0, y 1, eq_ix2 y⟩
  blk_simp
  rw [after0_2, block]
  congr 1
  blk_ext <;> simp only [index2] <;> omega

/-- The same product, as the other program states it. -/
theorem reference (x : S8192x1024.Idx → EReal) (w : S1024x8192.Idx → EReal) (i : S8192x8192.Idx) :
    (truncf .bf16 (Host.dotGeneral (F := Ideal) Cert.InRestReferenceIdeal.dot_S8192x1024_S1024x8192_S8192x8192_1_0_0_1_n_n none
      (extf (φ := .bf16) .f32 x Cert.InRestReferenceIdeal.Gen.bitsLt_bf16_f32) (extf (φ := .bf16) .f32 w Cert.InRestReferenceIdeal.Gen.bitsLt_bf16_f32))
      Cert.InRestReferenceIdeal.Gen.bitsLt_bf16_f32 : FVec Ideal Cert.InRestReferenceIdeal.S8192x8192 .bf16) i
      = ∑ k : Fin 1024, x (ix2 (i 0) k) * w (ix2 k (i 1)) := by
  rw [eq_ix2 i]
  pointwise

end Cert.InRestIdeal.Val

namespace Cert.InRestIdeal

open Idealize.ShloMosaic Idealize.SL.Sem

/-- From equal arguments the two programs end with the same projection. -/
theorem algebraic : Cert.algebraic_InRestIdeal_InRestReferenceIdeal := by
  intro m g m' g' _ hin
  refine ⟨fun c => Val.proj m c, (θ_run _ _ _).mono (fun r hr c => ?_) (Value.run_blocks m g),
    (θ_run _ _ _).mono (fun r hr c => ?_) (Cert.InRestReferenceIdeal.Value.run m' g')⟩
  · exact ⟨(hr c).1.trans (Val.result m c), (hr c).2⟩
  · refine ⟨(hr c).1.trans ?_, (hr c).2⟩
    rw [(hin c).1, (hin c).2]
    exact funext fun i => Val.reference (Val.X m c) (Val.W m c) i

end Cert.InRestIdeal

end
-- ==== Proof.BackAttValue.lean ====
module

public import proofs.«01_k».proof.Defs
public import proofs.«01_k».proof.Proof.Gen.BackAttIdeal.Value
public import proofs.«01_k».proof.Proof.Gen.BackAttReferenceIdeal.Run
public import proofs.«01_k».proof.Proof.Halves
public import Idealize.ShloMosaic.Lib.Pointwise
public import Idealize.ShloMosaic.Lib.StableHlo.ReadAt
public import Idealize.ShloMosaic.Lib.Pipeline.ValueKit

@[expose] public section

set_option maxRecDepth 16384

/-! # The attention's columns of the projection, back to the normed input -/

noncomputable section

namespace Cert.BackAttIdeal.Val

open Cert.BackAttIdeal Cert.BackAttIdeal.Gen Cert.BackAttIdeal.Value
open Idealize.ShloMosaic Idealize.ShloMosaic.TcCoe Idealize.SL.Sem
open Cert.Halves

variable (m : (ℓ : Loc nD τ sig) → Buf (Elt Ideal) ℓ) (c : Dev nD)

/-- The product of one block of rows. -/
theorem part_at (v0 : Vec Ideal S4608x1024 .bf16) (v1 : Vec Ideal S512x4608 .bf16) (a : Fin 512) (b : Fin 1024) :
    k0_pay1 (F := Ideal) v0 v1 (ix2 a b) = ∑ k : Fin 4608, v1 (ix2 a k) * v0 (ix2 k b) := by
  pointwise [k0_pay1]

/-- A point writes the product of its two blocks. -/
theorem out_at (x0 : Vec Ideal S512x4608 .bf16) (x1 : Vec Ideal S4608x1024 .bf16) (a : Fin 512) (b : Fin 1024) :
    out0_2 (F := Ideal) x0 x1 (ix2 a b) = ∑ k : Fin 4608, x0 (ix2 a k) * x1 (ix2 k b) := by
  unfold out0_2
  rw [View.canon_unit_zero zeros, part_at, View.ld_unit_zero (S := S512x4608) zeros, View.ld_unit_zero (S := S4608x1024) zeros]

/-- The two operands, -/
abbrev X : S8192x4608.Idx → EReal := m ((c.tc : Thread nD τ).loc main_arg0)
abbrev W : S1024x4608.Idx → EReal := m ((c.tc : Thread nD τ).loc main_arg1)

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel

/-- and their blocks. -/
theorem block0 (t : Fin cfg0.N) (a : Fin 512) (k : Fin 4608) : (iblk m c 0 t : Vec Ideal S512x4608 .bf16) (ix2 a k)
    = X m c (ix2 ⟨512 * t + a, by have := lt_of_lt_of_eq t.isLt (show cfg0.N = 16 from N_0); omega⟩ k) := by
  rw [X, ← V_main_arg0 m c]
  blk_simp [iblk]; blk_ext <;> simp only [index0] <;> omega
/-- The second operand is turned before the kernel reads it. -/
theorem turned (k : Fin 4608) (b : Fin 1024) : V m c main_v0 (ix2 k b) = W m c (ix2 b k) := by
  have e : (V m c main_v0 : FVec Ideal S4608x1024 .bf16) = transpose S4608x1024 [1, 0] (W m c) transposes_S1024x4608_S4608x1024_1_0 := by
    simp only [V, hostOps0]; after_reads_at
  rw [e]
  pointwise
theorem block1 (t : Fin cfg0.N) (k : Fin 4608) (b : Fin 1024) : (iblk m c 1 t : Vec Ideal S4608x1024 .bf16) (ix2 k b) = W m c (ix2 b k) := by
  refine Eq.trans ?_ (turned m c k b)
  blk_simp [iblk]; blk_ext <;> simp only [index1] <;> omega

/-- The gradient of the normed input through these columns. -/
def proj : S8192x1024.Idx → EReal := fun i => ∑ k : Fin 4608, X m c (ix2 (i 0) k) * W m c (ix2 (i 1) k)

theorem block (t : Fin cfg0.N) (a : Fin 512) (b : Fin 1024) : out0_2 (F := Ideal) (iblk m c 0 t) (iblk m c 1 t) (ix2 a b)
    = proj m c (ix2 ⟨512 * t + a, by have := lt_of_lt_of_eq t.isLt (show cfg0.N = 16 from N_0); omega⟩ b) := by
  rw [out_at, proj]
  exact Finset.sum_congr rfl fun k _ => by rw [block0, block1]; rfl

/-- The sixteen blocks make it whole. -/
theorem result : (dats m 0 c).arrAt 2 cfg0.N = proj m c := by
  refine (dats m 0 c).arrAt_eq_of_covers 2 _ (by decide +kernel) fun t hf y => ?_
  obtain ⟨a, b, rfl⟩ : ∃ (a : Fin 512) (b : Fin 1024), y = ix2 a b := ⟨y 0, y 1, eq_ix2 y⟩
  blk_simp
  rw [after0_2, block]
  congr 1
  blk_ext <;> simp only [index2] <;> omega

/-- The same product, as the other program states it. -/
theorem reference (x : S8192x4608.Idx → EReal) (w : S1024x4608.Idx → EReal) (i : S8192x1024.Idx) :
    (Host.dotGeneral (F := Ideal) Cert.BackAttReferenceIdeal.dot_S8192x4608_S1024x4608_S8192x1024_1_1_0_0_n_n none
      (extf (φ := .bf16) .f32 x Cert.BackAttReferenceIdeal.Gen.bitsLt_bf16_f32) (extf (φ := .bf16) .f32 w Cert.BackAttReferenceIdeal.Gen.bitsLt_bf16_f32)
      : FVec Ideal Cert.BackAttReferenceIdeal.S8192x1024 .f32) i
      = ∑ k : Fin 4608, x (ix2 (i 0) k) * w (ix2 (i 1) k) := by
  rw [eq_ix2 i]
  pointwise

end Cert.BackAttIdeal.Val

namespace Cert.BackAttIdeal

open Idealize.ShloMosaic Idealize.SL.Sem

/-- From equal arguments the two programs end with the same gradient. -/
theorem algebraic : Cert.algebraic_BackAttIdeal_BackAttReferenceIdeal := by
  intro m g m' g' _ hin
  refine ⟨fun c => Val.proj m c, (θ_run _ _ _).mono (fun r hr c => ?_) (Value.run_blocks m g),
    (θ_run _ _ _).mono (fun r hr c => ?_) (Cert.BackAttReferenceIdeal.Value.run m' g')⟩
  · exact ⟨(hr c).1.trans (Val.result m c), (hr c).2⟩
  · refine ⟨(hr c).1.trans ?_, (hr c).2⟩
    rw [(hin c).1, (hin c).2]
    exact funext fun i => Val.reference (Val.X m c) (Val.W m c) i

end Cert.BackAttIdeal

end
-- ==== Proof.MlpRun.lean ====
module

public import proofs.«01_k».proof.Proof.Gen.MlpIdeal.Frame
public import Idealize.ShloMosaic.Lib.Ring

@[expose] public section

set_option maxRecDepth 16384

/-! # The three kernels of the MLP one after the other, from the launch to the return -/

noncomputable section

namespace Cert.MlpIdeal.Run

open Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every run of the program ends, with every buffer at what the third kernel leaves and every counter at zero. -/
theorem whole : θ_run defs (onTc (τ := τ) (main (F := F))) ⟨m, fun _ => 0, ρ⟩
    (fun r => (∀ c : Dev nD, ∀ b ∈ Pipeline.ucRefs τ sig, r.2.mem (c, b) = W4 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨fun c => h c, funext fun g => hz g (.inr (no_unscoped g.2))⟩)

end Cert.MlpIdeal.Run

end
-- ==== Proof.MlpSpec.lean ====
module

public import proofs.«01_k».proof.Proof.Gen.MlpIdeal.Frame
public import proofs.«01_k».proof.Proof.Halves
public import Idealize.ShloMosaic.Lib.Pointwise

@[expose] public section

set_option maxRecDepth 16384

/-! # What the MLP, its loss and the way back compute, in formulas of the arguments -/

noncomputable section

namespace Cert.MlpIdeal.Val

open Cert.MlpIdeal
open Idealize.ShloMosaic

/-- One 1024th, as the program writes it. -/
def share : EReal := Ideal.ofBits .f32 0x3A800000#32

variable (x : S8192x1024.Idx → EReal) (u : S1024x4096.Idx → EReal) (x1 t : S8192x1024.Idx → EReal) (d : S4096x1024.Idx → EReal)

/-- The rectified first product, -/
def relu : S8192x4096.Idx → EReal := fun i => max (∑ k : Fin 1024, x (ix2 (i 0) k) * u (ix2 k (i 1))) 0
/-- its square, -/
def hidden : S8192x4096.Idx → EReal := fun i => relu x u i * relu x u i
/-- how far the result is off the target, -/
def miss (h : S8192x4096.Idx → EReal) : S8192x1024.Idx → EReal :=
  fun i => (x1 i + ∑ k : Fin 4096, h (ix2 (i 0) k) * d (ix2 k (i 1))) - t i
/-- the gradient of the loss in the result, -/
def grad (h : S8192x4096.Idx → EReal) : S8192x1024.Idx → EReal := fun i => miss x1 t d h i * share
/-- the squares of one block of 512 rows, -/
def part (h : S8192x4096.Idx → EReal) (g : Fin 16) : EReal :=
  (∑ a : Fin 512, ∑ b : Fin 1024, miss x1 t d h (ix2 ⟨512 * g.val + a.val, by omega⟩ b) * miss x1 t d h (ix2 ⟨512 * g.val + a.val, by omega⟩ b)) * share
/-- written over a block of eight rows, -/
def parts (h : S8192x4096.Idx → EReal) : S128x128.Idx → EReal :=
  fun i => part x1 t d h ⟨(i 0).val / 8, by have h0 : (i 0).val < 128 := (i 0).isLt; omega⟩
/-- and the gradient in the first product, from the gradient of the result. -/
def back (dx : S8192x1024.Idx → EReal) (r : S8192x4096.Idx → EReal) : S8192x4096.Idx → EReal :=
  fun i => (∑ k : Fin 1024, dx (ix2 (i 0) k) * d (ix2 (i 1) k)) * (Ideal.ofBits .f32 0x40000000#32 * r i)

end Cert.MlpIdeal.Val

end
-- ==== Proof.MlpUp.lean ====
module

public import proofs.«01_k».proof.Proof.MlpSpec
public import Idealize.ShloMosaic.Lib.StableHlo.ReadAt
public import Idealize.ShloMosaic.Lib.Pipeline.ValueKit

@[expose] public section

set_option maxRecDepth 16384

/-! # The first product, rectified and squared -/

noncomputable section

namespace Cert.MlpIdeal.Val

open Cert.MlpIdeal Cert.MlpIdeal.Gen
open Idealize.ShloMosaic Idealize.ShloMosaic.TcCoe
open Cert.Halves

variable (V : (c : Dev nD) → (b : Ref sig .tc) → Buf (Elt Ideal) ((c : Thread nD τ).loc b)) (c : Dev nD)

/-- The product of one block of rows, rectified. -/
theorem up_part (v0 : Vec Ideal S1024x4096 .bf16) (v1 : Vec Ideal S512x1024 .bf16) (a : Fin 512) (b : Fin 4096) :
    k0_pay1 (F := Ideal) v0 v1 (ix2 a b) = max (∑ k : Fin 1024, v1 (ix2 a k) * v0 (ix2 k b)) 0 := by
  pointwise [k0_pay1]

/-- A point writes it, -/
theorem up_out3 (x0 : Vec Ideal S512x1024 .bf16) (x1 : Vec Ideal S1024x4096 .bf16) (a : Fin 512) (b : Fin 4096) :
    out0_3 (F := Ideal) x0 x1 (ix2 a b) = max (∑ k : Fin 1024, x0 (ix2 a k) * x1 (ix2 k b)) 0 := by
  unfold out0_3
  rw [View.canon_unit_zero zeros, View.ld_unit_zero (S := S512x1024) zeros, View.ld_unit_zero (S := S1024x4096) zeros, ← up_part]
  pointwise [k0_pay3]
/-- and its square. -/
theorem up_out2 (x0 : Vec Ideal S512x1024 .bf16) (x1 : Vec Ideal S1024x4096 .bf16) (a : Fin 512) (b : Fin 4096) :
    out0_2 (F := Ideal) x0 x1 (ix2 a b) = max (∑ k : Fin 1024, x0 (ix2 a k) * x1 (ix2 k b)) 0 * max (∑ k : Fin 1024, x0 (ix2 a k) * x1 (ix2 k b)) 0 := by
  unfold out0_2
  rw [View.canon_unit_zero zeros, View.ld_unit_zero (S := S512x1024) zeros, View.ld_unit_zero (S := S1024x4096) zeros, ← up_part]
  pointwise [k0_pay2]

/-- Where the blocks of each array lie. -/
theorem up_index0 : ∀ t : Fin cfg0.N, win0_0.index t 0 = t.val ∧ win0_0.index t 1 = 0 := by decide +kernel
theorem up_index1 : ∀ t : Fin cfg0.N, win0_1.index t 0 = 0 ∧ win0_1.index t 1 = 0 := by decide +kernel
theorem up_index2 : ∀ t : Fin cfg0.N, win0_2.index t 0 = t.val ∧ win0_2.index t 1 = 0 := by decide +kernel
theorem up_index3 : ∀ t : Fin cfg0.N, win0_3.index t 0 = t.val ∧ win0_3.index t 1 = 0 := by decide +kernel

/-- The blocks of the two operands. -/
theorem up_block0 (t : Fin cfg0.N) (a : Fin 512) (k : Fin 1024) :
    (iblk0 V c 0 t : Vec Ideal S512x1024 .bf16) (ix2 a k) = (V c main_arg0 : S8192x1024.Idx → EReal) (ix2 ⟨512 * t.val + a.val, by have := lt_of_lt_of_eq t.isLt (show cfg0.N = 16 from N_0); omega⟩ k) := by
  blk_simp [iblk0]; blk_ext <;> simp only [up_index0] <;> omega
theorem up_block1 (t : Fin cfg0.N) (k : Fin 1024) (b : Fin 4096) :
    (iblk0 V c 1 t : Vec Ideal S1024x4096 .bf16) (ix2 k b) = (V c main_arg3 : S1024x4096.Idx → EReal) (ix2 k b) := by
  blk_simp [iblk0]; blk_ext <;> simp only [up_index1] <;> omega

/-- The rectified product of a block is the block of the rectified product. -/
theorem up_rect (t : Fin cfg0.N) (a : Fin 512) (b : Fin 4096) :
    out0_3 (F := Ideal) (iblk0 V c 0 t) (iblk0 V c 1 t) (ix2 a b) = relu (V c main_arg0) (V c main_arg3) (ix2 ⟨512 * t.val + a.val, by have := lt_of_lt_of_eq t.isLt (show cfg0.N = 16 from N_0); omega⟩ b) := by
  rw [up_out3, relu]
  exact congrArg (max · 0) (Finset.sum_congr rfl fun k _ => by rw [up_block0, up_block1]; rfl)
theorem up_square (t : Fin cfg0.N) (a : Fin 512) (b : Fin 4096) :
    out0_2 (F := Ideal) (iblk0 V c 0 t) (iblk0 V c 1 t) (ix2 a b) = hidden (V c main_arg0) (V c main_arg3) (ix2 ⟨512 * t.val + a.val, by have := lt_of_lt_of_eq t.isLt (show cfg0.N = 16 from N_0); omega⟩ b) := by
  rw [up_out2, hidden, ← up_rect, up_out3]

/-- The sixteen blocks make the two arrays whole. -/
theorem relu_array : (dat0 V c).arrAt 3 cfg0.N = relu (V c main_arg0) (V c main_arg3) := by
  refine (dat0 V c).arrAt_eq_of_covers 3 _ (by decide +kernel) fun t hf y => ?_
  obtain ⟨a, b, rfl⟩ : ∃ (a : Fin 512) (b : Fin 4096), y = ix2 a b := ⟨y 0, y 1, eq_ix2 y⟩
  blk_simp
  rw [after0_3, up_rect]
  congr 1
  blk_ext <;> simp only [up_index3] <;> omega
theorem hidden_array : (dat0 V c).arrAt 2 cfg0.N = hidden (V c main_arg0) (V c main_arg3) := by
  refine (dat0 V c).arrAt_eq_of_covers 2 _ (by decide +kernel) fun t hf y => ?_
  obtain ⟨a, b, rfl⟩ : ∃ (a : Fin 512) (b : Fin 4096), y = ix2 a b := ⟨y 0, y 1, eq_ix2 y⟩
  blk_simp
  rw [after0_2, up_square]
  congr 1
  blk_ext <;> simp only [up_index2] <;> omega

end Cert.MlpIdeal.Val

end
-- ==== Proof.MlpDown.lean ====
module

public import proofs.«01_k».proof.Proof.MlpSpec
public import Idealize.ShloMosaic.Lib.StableHlo.ReadAt
public import Idealize.ShloMosaic.Lib.Pipeline.ValueKit

@[expose] public section

set_option maxRecDepth 16384

/-! # The second product, the loss and its gradient -/

noncomputable section

namespace Cert.MlpIdeal.Val

open Cert.MlpIdeal Cert.MlpIdeal.Gen
open Idealize.ShloMosaic Idealize.ShloMosaic.TcCoe
open Cert.Halves

variable (V : (c : Dev nD) → (b : Ref sig .tc) → Buf (Elt Ideal) ((c : Thread nD τ).loc b)) (c : Dev nD)

/-- How far one block of rows is off the target. -/
theorem down_part (v0 : Vec Ideal S4096x1024 .bf16) (v1 : Vec Ideal S512x4096 .bf16) (v4 v6 : Vec Ideal S512x1024 .f32) (a : Fin 512) (b : Fin 1024) :
    k1_pay1 (F := Ideal) v0 v1 v4 v6 (ix2 a b) = (v4 (ix2 a b) + ∑ k : Fin 4096, v1 (ix2 a k) * v0 (ix2 k b)) - v6 (ix2 a b) := by
  pointwise [k1_pay1]

/-- Where the blocks of each array lie. -/
theorem down_index0 : ∀ t : Fin cfg1.N, win1_0.index t 0 = t.val ∧ win1_0.index t 1 = 0 := by decide +kernel
theorem down_index1 : ∀ t : Fin cfg1.N, win1_1.index t 0 = 0 ∧ win1_1.index t 1 = 0 := by decide +kernel
theorem down_index2 : ∀ t : Fin cfg1.N, win1_2.index t 0 = t.val ∧ win1_2.index t 1 = 0 := by decide +kernel
theorem down_index3 : ∀ t : Fin cfg1.N, win1_3.index t 0 = t.val ∧ win1_3.index t 1 = 0 := by decide +kernel
theorem down_index4 : ∀ t : Fin cfg1.N, win1_4.index t 0 = t.val ∧ win1_4.index t 1 = 0 := by decide +kernel
theorem down_index5 : ∀ t : Fin cfg1.N, win1_5.index t 0 = t.val ∧ win1_5.index t 1 = 0 := by decide +kernel
theorem down_index6 : ∀ t : Fin cfg1.N, win1_6.index t 0 = t.val ∧ win1_6.index t 1 = 0 := by decide +kernel

/-- The blocks of the four operands. -/
theorem down_block0 (t : Fin cfg1.N) (a : Fin 512) (k : Fin 4096) :
    (iblk1 V c 0 t : Vec Ideal S512x4096 .bf16) (ix2 a k) = (V c main_v0_0 : S8192x4096.Idx → EReal) (ix2 ⟨512 * t.val + a.val, by have := lt_of_lt_of_eq t.isLt (show cfg1.N = 16 from N_1); omega⟩ k) := by
  blk_simp [iblk1]; blk_ext <;> simp only [down_index0] <;> omega
theorem down_block1 (t : Fin cfg1.N) (k : Fin 4096) (b : Fin 1024) :
    (iblk1 V c 1 t : Vec Ideal S4096x1024 .bf16) (ix2 k b) = (V c main_arg4 : S4096x1024.Idx → EReal) (ix2 k b) := by
  blk_simp [iblk1]; blk_ext <;> simp only [down_index1] <;> omega
theorem down_block2 (t : Fin cfg1.N) (a : Fin 512) (b : Fin 1024) :
    (iblk1 V c 2 t : Vec Ideal S512x1024 .f32) (ix2 a b) = (V c main_arg1 : S8192x1024.Idx → EReal) (ix2 ⟨512 * t.val + a.val, by have := lt_of_lt_of_eq t.isLt (show cfg1.N = 16 from N_1); omega⟩ b) := by
  blk_simp [iblk1]; blk_ext <;> simp only [down_index2] <;> omega
theorem down_block3 (t : Fin cfg1.N) (a : Fin 512) (b : Fin 1024) :
    (iblk1 V c 3 t : Vec Ideal S512x1024 .f32) (ix2 a b) = (V c main_arg2 : S8192x1024.Idx → EReal) (ix2 ⟨512 * t.val + a.val, by have := lt_of_lt_of_eq t.isLt (show cfg1.N = 16 from N_1); omega⟩ b) := by
  blk_simp [iblk1]; blk_ext <;> simp only [down_index3] <;> omega

/-- How far a block is off is the block of how far the whole is off. -/
theorem down_miss (t : Fin cfg1.N) (a : Fin 512) (b : Fin 1024) :
    k1_pay1 (F := Ideal) (iblk1 V c 1 t) (iblk1 V c 0 t) (iblk1 V c 2 t) (iblk1 V c 3 t) (ix2 a b)
      = miss (V c main_arg1) (V c main_arg2) (V c main_arg4) (V c main_v0_0) (ix2 ⟨512 * t.val + a.val, by have := lt_of_lt_of_eq t.isLt (show cfg1.N = 16 from N_1); omega⟩ b) := by
  rw [down_part, miss, down_block2, down_block3]
  exact congrArg (fun s : EReal => (_ + s - _ : EReal)) (Finset.sum_congr rfl fun k _ => by rw [down_block0, down_block1]; rfl)

/-- A point writes its share as the gradient, -/
theorem down_grad (t : Fin cfg1.N) (a : Fin 512) (b : Fin 1024) :
    out1_4 (F := Ideal) (iblk1 V c 0 t) (iblk1 V c 1 t) (iblk1 V c 2 t) (iblk1 V c 3 t) (ix2 a b)
      = grad (V c main_arg1) (V c main_arg2) (V c main_arg4) (V c main_v0_0) (ix2 ⟨512 * t.val + a.val, by have := lt_of_lt_of_eq t.isLt (show cfg1.N = 16 from N_1); omega⟩ b) := by
  unfold out1_4
  rw [View.canon_unit_zero zeros, View.ld_unit_zero (S := S512x4096) zeros, View.ld_unit_zero (S := S4096x1024) zeros,
    View.ld_unit_zero (S := S512x1024) zeros, View.ld_unit_zero (S := S512x1024) zeros, grad, ← down_miss, share]
  pointwise [k1_pay2]
/-- twice, -/
theorem down_grad_b (t : Fin cfg1.N) (a : Fin 512) (b : Fin 1024) :
    out1_6 (F := Ideal) (iblk1 V c 0 t) (iblk1 V c 1 t) (iblk1 V c 2 t) (iblk1 V c 3 t) (ix2 a b)
      = grad (V c main_arg1) (V c main_arg2) (V c main_arg4) (V c main_v0_0) (ix2 ⟨512 * t.val + a.val, by have := lt_of_lt_of_eq t.isLt (show cfg1.N = 16 from N_1); omega⟩ b) := by
  unfold out1_6
  rw [View.canon_unit_zero zeros, View.ld_unit_zero (S := S512x4096) zeros, View.ld_unit_zero (S := S4096x1024) zeros,
    View.ld_unit_zero (S := S512x1024) zeros, View.ld_unit_zero (S := S512x1024) zeros, grad, ← down_miss, share]
  pointwise [k1_pay4, k1_pay2]
/-- and the sum of the squares, over and over. -/
theorem down_sum (t : Fin cfg1.N) (a : Fin 8) (b : Fin 128) :
    out1_5 (F := Ideal) (iblk1 V c 0 t) (iblk1 V c 1 t) (iblk1 V c 2 t) (iblk1 V c 3 t) (ix2 a b)
      = part (V c main_arg1) (V c main_arg2) (V c main_arg4) (V c main_v0_0) ⟨t.val, lt_of_lt_of_eq t.isLt N_1⟩ := by
  unfold out1_5
  rw [View.canon_unit_zero zeros, View.ld_unit_zero (S := S512x4096) zeros, View.ld_unit_zero (S := S4096x1024) zeros,
    View.ld_unit_zero (S := S512x1024) zeros, View.ld_unit_zero (S := S512x1024) zeros, part, share]
  simp only [← down_miss]
  pointwise [k1_pay3]

/-- The eight rows of a block hold one number. -/
theorem parts_at (x1 t : S8192x1024.Idx → EReal) (d : S4096x1024.Idx → EReal) (h : S8192x4096.Idx → EReal) (g : Fin 16) (a : Fin 8) (b : Fin 128) :
    parts x1 t d h (ix2 ⟨8 * g.val + a.val, by omega⟩ b) = part x1 t d h g := by
  unfold parts
  congr 1
  apply Fin.ext
  show (8 * g.val + a.val) / 8 = g.val
  omega

/-- The sixteen blocks make the three arrays whole. -/
theorem grad_array : (dat1 V c).arrAt 4 cfg1.N = grad (V c main_arg1) (V c main_arg2) (V c main_arg4) (V c main_v0_0) := by
  refine (dat1 V c).arrAt_eq_of_covers 4 _ (by decide +kernel) fun t hf y => ?_
  obtain ⟨a, b, rfl⟩ : ∃ (a : Fin 512) (b : Fin 1024), y = ix2 a b := ⟨y 0, y 1, eq_ix2 y⟩
  blk_simp
  rw [after1_4, down_grad]
  congr 1
  blk_ext <;> simp only [down_index4] <;> omega
theorem grad_b_array : (dat1 V c).arrAt 6 cfg1.N = grad (V c main_arg1) (V c main_arg2) (V c main_arg4) (V c main_v0_0) := by
  refine (dat1 V c).arrAt_eq_of_covers 6 _ (by decide +kernel) fun t hf y => ?_
  obtain ⟨a, b, rfl⟩ : ∃ (a : Fin 512) (b : Fin 1024), y = ix2 a b := ⟨y 0, y 1, eq_ix2 y⟩
  blk_simp
  rw [after1_6, down_grad_b]
  congr 1
  blk_ext <;> simp only [down_index6] <;> omega
theorem parts_array : (dat1 V c).arrAt 5 cfg1.N = parts (V c main_arg1) (V c main_arg2) (V c main_arg4) (V c main_v0_0) := by
  refine (dat1 V c).arrAt_eq_of_covers 5 _ (by decide +kernel) fun t hf y => ?_
  obtain ⟨a, b, rfl⟩ : ∃ (a : Fin 8) (b : Fin 128), y = ix2 a b := ⟨y 0, y 1, eq_ix2 y⟩
  blk_simp
  rw [after1_5, down_sum, ← parts_at _ _ _ _ _ a b]
  congr 1
  blk_ext <;> simp only [down_index5] <;> omega

end Cert.MlpIdeal.Val

end
-- ==== Proof.MlpBack.lean ====
module

public import proofs.«01_k».proof.Proof.MlpSpec
public import Idealize.ShloMosaic.Lib.StableHlo.ReadAt
public import Idealize.ShloMosaic.Lib.Pipeline.ValueKit

@[expose] public section

set_option maxRecDepth 16384

/-! # The way back through the second product and the square -/

noncomputable section

namespace Cert.MlpIdeal.Val

open Cert.MlpIdeal Cert.MlpIdeal.Gen
open Idealize.ShloMosaic Idealize.ShloMosaic.TcCoe
open Cert.Halves

variable (V : (c : Dev nD) → (b : Ref sig .tc) → Buf (Elt Ideal) ((c : Thread nD τ).loc b)) (c : Dev nD)

/-- One block of rows on the way back. -/
theorem back_part (v0 : Vec Ideal S1024x4096 .bf16) (v2 : Vec Ideal S512x1024 .bf16) (v5 : Vec Ideal S512x4096 .bf16) (a : Fin 512) (b : Fin 4096) :
    k2_pay1 (F := Ideal) v0 v2 v5 (ix2 a b) = (∑ k : Fin 1024, v2 (ix2 a k) * v0 (ix2 k b)) * (Ideal.ofBits .f32 0x40000000#32 * v5 (ix2 a b)) := by
  pointwise [k2_pay1]

/-- Where the blocks of each array lie. -/
theorem back_index0 : ∀ t : Fin cfg2.N, win2_0.index t 0 = t.val ∧ win2_0.index t 1 = 0 := by decide +kernel
theorem back_index1 : ∀ t : Fin cfg2.N, win2_1.index t 0 = 0 ∧ win2_1.index t 1 = 0 := by decide +kernel
theorem back_index2 : ∀ t : Fin cfg2.N, win2_2.index t 0 = t.val ∧ win2_2.index t 1 = 0 := by decide +kernel
theorem back_index3 : ∀ t : Fin cfg2.N, win2_3.index t 0 = t.val ∧ win2_3.index t 1 = 0 := by decide +kernel

/-- The blocks of the three operands. -/
theorem back_block0 (t : Fin cfg2.N) (a : Fin 512) (k : Fin 1024) :
    (iblk2 V c 0 t : Vec Ideal S512x1024 .bf16) (ix2 a k) = (V c main_v1_2 : S8192x1024.Idx → EReal) (ix2 ⟨512 * t.val + a.val, by have := lt_of_lt_of_eq t.isLt (show cfg2.N = 16 from N_2); omega⟩ k) := by
  blk_simp [iblk2]; blk_ext <;> simp only [back_index0] <;> omega
theorem back_block1 (t : Fin cfg2.N) (k : Fin 1024) (b : Fin 4096) :
    (iblk2 V c 1 t : Vec Ideal S1024x4096 .bf16) (ix2 k b) = (V c main_v4 : S1024x4096.Idx → EReal) (ix2 k b) := by
  blk_simp [iblk2]; blk_ext <;> simp only [back_index1] <;> omega
theorem back_block2 (t : Fin cfg2.N) (a : Fin 512) (b : Fin 4096) :
    (iblk2 V c 2 t : Vec Ideal S512x4096 .bf16) (ix2 a b) = (V c main_v0_1 : S8192x4096.Idx → EReal) (ix2 ⟨512 * t.val + a.val, by have := lt_of_lt_of_eq t.isLt (show cfg2.N = 16 from N_2); omega⟩ b) := by
  blk_simp [iblk2]; blk_ext <;> simp only [back_index2] <;> omega

/-- A block of the gradient, when the turned weight is read as the weight `d`. -/
theorem back_block (d : S4096x1024.Idx → EReal) (hd : ∀ (k : Fin 1024) (b : Fin 4096), (V c main_v4 : S1024x4096.Idx → EReal) (ix2 k b) = d (ix2 b k))
    (t : Fin cfg2.N) (a : Fin 512) (b : Fin 4096) :
    out2_3 (F := Ideal) (iblk2 V c 0 t) (iblk2 V c 1 t) (iblk2 V c 2 t) (ix2 a b)
      = back d (V c main_v1_2) (V c main_v0_1) (ix2 ⟨512 * t.val + a.val, by have := lt_of_lt_of_eq t.isLt (show cfg2.N = 16 from N_2); omega⟩ b) := by
  unfold out2_3
  rw [View.canon_unit_zero zeros, back_part, View.ld_unit_zero (S := S512x1024) zeros, View.ld_unit_zero (S := S1024x4096) zeros,
    View.ld_unit_zero (S := S512x4096) zeros, back, back_block2]
  exact congrArg (· * _) (Finset.sum_congr rfl fun k _ => by rw [back_block0, back_block1, hd]; rfl)

/-- The sixteen blocks make it whole. -/
theorem back_array (d : S4096x1024.Idx → EReal) (hd : ∀ (k : Fin 1024) (b : Fin 4096), (V c main_v4 : S1024x4096.Idx → EReal) (ix2 k b) = d (ix2 b k)) :
    (dat2 V c).arrAt 3 cfg2.N = back d (V c main_v1_2) (V c main_v0_1) := by
  refine (dat2 V c).arrAt_eq_of_covers 3 _ (by decide +kernel) fun t hf y => ?_
  obtain ⟨a, b, rfl⟩ : ∃ (a : Fin 512) (b : Fin 4096), y = ix2 a b := ⟨y 0, y 1, eq_ix2 y⟩
  blk_simp
  rw [after2_3, back_block V c d hd]
  congr 1
  blk_ext <;> simp only [back_index3] <;> omega

end Cert.MlpIdeal.Val

end
-- ==== Proof.MlpEnd.lean ====
module

public import proofs.«01_k».proof.Proof.MlpRun
public import proofs.«01_k».proof.Proof.MlpUp
public import proofs.«01_k».proof.Proof.MlpDown
public import proofs.«01_k».proof.Proof.MlpBack

@[expose] public section

set_option maxRecDepth 16384

/-! # What the three kernels and the host between them return -/

noncomputable section

namespace Cert.MlpIdeal.Val

open Cert.MlpIdeal Cert.MlpIdeal.Gen
open Idealize.ShloMosaic Idealize.ShloMosaic.TcCoe

variable (m : (ℓ : Loc nD τ sig) → Buf (Elt Ideal) ℓ) (ρ : Dev nD → PrngReg) (c : Dev nD)

/-- The arguments: the normed input, the residual, the target and the two weights. -/
abbrev X : S8192x1024.Idx → EReal := m ((c.tc : Thread nD τ).loc main_arg0)
abbrev X1 : S8192x1024.Idx → EReal := m ((c.tc : Thread nD τ).loc main_arg1)
abbrev T : S8192x1024.Idx → EReal := m ((c.tc : Thread nD τ).loc main_arg2)
abbrev U : S1024x4096.Idx → EReal := m ((c.tc : Thread nD τ).loc main_arg3)
abbrev D : S4096x1024.Idx → EReal := m ((c.tc : Thread nD τ).loc main_arg4)

/-- What the first kernel hands on. -/
theorem hidden_mid : V1 m ρ c main_v0_0 = hidden (X m c) (U m c) := (W1_arr m ρ c 2).trans (hidden_array (V0 m ρ) c)
theorem relu_mid : V1 m ρ c main_v0_1 = relu (X m c) (U m c) := (W1_arr m ρ c 3).trans (relu_array (V0 m ρ) c)

/-- The second kernel reads three arguments and the square. -/
theorem down_reads {α : Type} (f : (S8192x1024.Idx → EReal) → (S8192x1024.Idx → EReal) → (S4096x1024.Idx → EReal) → (S8192x4096.Idx → EReal) → α) :
    f (V1 m ρ c main_arg1) (V1 m ρ c main_arg2) (V1 m ρ c main_arg4) (V1 m ρ c main_v0_0) = f (X1 m c) (T m c) (D m c) (hidden (X m c) (U m c)) := by
  rw [hidden_mid m ρ c, show V1 m ρ c main_arg1 = X1 m c from W1_args m ρ c main_arg1 (by decide),
    show V1 m ρ c main_arg2 = T m c from W1_args m ρ c main_arg2 (by decide), show V1 m ρ c main_arg4 = D m c from W1_args m ρ c main_arg4 (by decide)]

/-- The gradient of the loss, the two numbers it hands on, -/
theorem grad_mid : V2 m ρ c main_v1_0 = grad (X1 m c) (T m c) (D m c) (hidden (X m c) (U m c)) :=
  ((W2_arr m ρ c 4).trans (grad_array (V1 m ρ) c)).trans (down_reads m ρ c grad)
theorem grad_b_mid : V2 m ρ c main_v1_2 = grad (X1 m c) (T m c) (D m c) (hidden (X m c) (U m c)) :=
  ((W2_arr m ρ c 6).trans (grad_b_array (V1 m ρ) c)).trans (down_reads m ρ c grad)
theorem parts_mid : V2 m ρ c main_v1_1 = parts (X1 m c) (T m c) (D m c) (hidden (X m c) (U m c)) :=
  ((W2_arr m ρ c 5).trans (parts_array (V1 m ρ) c)).trans (down_reads m ρ c parts)

/-- The host turns the second weight, -/
theorem turned (k : Fin 1024) (b : Fin 4096) : (V3 m ρ c main_v4 : S1024x4096.Idx → EReal) (ix2 k b) = D m c (ix2 b k) := by
  have e : (V3 m ρ c main_v4 : FVec Ideal S1024x4096 .bf16) = transpose S1024x4096 [1, 0] (V2 m ρ c main_arg4 : FVec Ideal S4096x1024 .bf16) transposes_S4096x1024_S1024x4096_1_0 := by
    show StableHlo.after hostOps2 (W2 m ρ c) (Proc.devRef .tc main_v4) = _
    simp only [hostOps2]; after_reads_at
  rw [e, show V2 m ρ c main_arg4 = D m c from W2_args m ρ c main_arg4 (by decide)]
  pointwise
/-- and sums the numbers. -/
theorem summed (i : S_.Idx) : (V3 m ρ c main_v3 : S_.Idx → EReal) i
    = (∑ i : S128x128.Idx, parts (X1 m c) (T m c) (D m c) (hidden (X m c) (U m c)) i) * Ideal.ofBits .f32 0x3A000000#32 := by
  have e : (V3 m ρ c main_v3 : FVec Ideal S_ .f32) = mulf (Host.reduceAdd (V2 m ρ c main_v1_1 : FVec Ideal S128x128 .f32)
      (constant (F := Ideal) S_ .f32 0x00000000#32) reducesTo_S128x128_S_d0_1 h_S_) (constant S_ .f32 0x3A000000#32) := by
    show StableHlo.after hostOps2 (W2 m ρ c) (Proc.devRef .tc main_v3) = _
    simp only [hostOps2]; after_reads_at
  rw [e, parts_mid]
  show Ideal.hostReduceAdd _ _ _ _ * _ = _
  rw [Ideal.hostReduceAdd_total _ (fun b => b.elim0)]
  show (Ideal.ofBits .f32 0x00000000#32 + _) * _ = _
  rw [Ideal.ofBits_zero_f32, zero_add]
  rfl

/-- The four results. -/
theorem loss_end : W4 m ρ c (Proc.devRef .tc main_v3) = fun _ : S_.Idx =>
    (∑ i : S128x128.Idx, parts (X1 m c) (T m c) (D m c) (hidden (X m c) (U m c)) i) * Ideal.ofBits .f32 0x3A000000#32 :=
  (W4_of_ne m ρ c main_v3 (by decide +kernel)).trans (funext fun i => summed m ρ c i)
theorem grad_end : W4 m ρ c (Proc.devRef .tc main_v1_0) = grad (X1 m c) (T m c) (D m c) (hidden (X m c) (U m c)) :=
  (W4_of_ne m ρ c main_v1_0 (by decide +kernel)).trans ((W3_of m ρ c main_v1_0 (by decide)).trans (grad_mid m ρ c))
theorem hidden_end : W4 m ρ c (Proc.devRef .tc main_v0_0) = hidden (X m c) (U m c) :=
  (W4_of_ne m ρ c main_v0_0 (by decide +kernel)).trans ((W3_of m ρ c main_v0_0 (by decide)).trans
    ((W2_of m ρ c main_v0_0 (by decide +kernel)).trans (hidden_mid m ρ c)))
theorem back_end : W4 m ρ c (Proc.devRef .tc main_v5)
    = back (D m c) (grad (X1 m c) (T m c) (D m c) (hidden (X m c) (U m c))) (relu (X m c) (U m c)) := by
  refine (W4_arr m ρ c 3).trans ((back_array (V3 m ρ) c (D m c) (turned m ρ c)).trans ?_)
  rw [show V3 m ρ c main_v1_2 = _ from (W3_of m ρ c main_v1_2 (by decide)).trans (grad_b_mid m ρ c),
    show V3 m ρ c main_v0_1 = _ from (W3_of m ρ c main_v0_1 (by decide)).trans ((W2_of_ne m ρ c main_v0_1 (by decide +kernel)).trans (relu_mid m ρ c))]

end Cert.MlpIdeal.Val

end
-- ==== Proof.MlpLoss.lean ====
module

public import proofs.«01_k».proof.Proof.MlpSpec

@[expose] public section

set_option maxRecDepth 16384

/-! # The loss as the blocks give it is the loss as the mean gives it -/

noncomputable section

namespace Cert.MlpIdeal.Val

open Cert.MlpIdeal
open Idealize.ShloMosaic

/-- The constants the programs use. -/
theorem share_eq : share = ((1 / 1024 : ℝ) : EReal) := by
  simp [share, Ideal.ofBits, Ideal.ieee, -EReal.coe_mul]; norm_num
theorem half_share_eq : Ideal.ofBits .f32 0x3A000000#32 = ((1 / 2048 : ℝ) : EReal) := by
  simp [Ideal.ofBits, Ideal.ieee, -EReal.coe_mul]; norm_num
theorem half_eq : Ideal.ofBits .f32 0x3F000000#32 = ((1 / 2 : ℝ) : EReal) := by
  simp [Ideal.ofBits, Ideal.ieee, -EReal.coe_mul]; norm_num
theorem one_eq : Ideal.ofBits .f32 0x3F800000#32 = ((1 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem width_eq : Ideal.ofBits .f32 0x44800000#32 = ((1024 : ℝ) : EReal) := by
  simp [Ideal.ofBits, Ideal.ieee, -EReal.coe_mul]; norm_num

/-- A sum times a number is the sum of the products. -/
theorem sum_scaled {ι : Type} [Fintype ι] (f : ι → EReal) (r : ℝ) (hr : 0 ≤ r) : (∑ i, f i) * (r : EReal) = ∑ i, f i * (r : EReal) :=
  map_sum (⟨⟨(· * (r : EReal)), zero_mul _⟩, fun a b =>
    EReal.right_distrib_of_nonneg_of_ne_top (EReal.coe_nonneg.2 hr) (EReal.coe_ne_top r) a b⟩ : EReal →+ EReal) f Finset.univ

/-- A sum taken a block at a time. -/
theorem sum_blocks (p q : ℕ) (f : Fin (p * q) → EReal) :
    ∑ k, f k = ∑ g : Fin p, ∑ a : Fin q, f ⟨q * g.val + a.val, by
      have h1 := g.isLt; have h2 := a.isLt; nlinarith [Nat.mul_le_mul_left q (Nat.succ_le_of_lt h1)]⟩ := by
  rw [← finProdFinEquiv.sum_comp, Fintype.sum_prod_type]
  refine Finset.sum_congr rfl fun g _ => Finset.sum_congr rfl fun a _ => congrArg f (Fin.ext ?_)
  show a.val + q * g.val = q * g.val + a.val
  omega

variable (x1 t : S8192x1024.Idx → EReal) (d : S4096x1024.Idx → EReal) (h : S8192x4096.Idx → EReal)

/-- The squares of one row. -/
def rowSum (R : Fin 8192) : EReal := ∑ b : Fin 1024, miss x1 t d h (ix2 R b) * miss x1 t d h (ix2 R b)

/-- A block's number, written 1024 times and summed, is the sum of the block's squares. -/
theorem copies (g : Fin 16) : ∑ _a : Fin 8, ∑ _b : Fin 128, part x1 t d h g
    = ∑ a : Fin 512, rowSum x1 t d h ⟨512 * g.val + a.val, by omega⟩ := by
  have e : ∀ s : EReal, ∑ _a : Fin 8, ∑ _b : Fin 128, s * ((1 / 1024 : ℝ) : EReal) = s := fun s => by
    simp only [Finset.sum_const, Finset.card_univ, Fintype.card_fin, ← mul_nsmul]
    rw [EReal.nsmul_eq_mul, mul_left_comm, show (((128 * 8 : ℕ) : EReal)) = ((1024 : ℝ) : EReal) by norm_num; rfl, ← EReal.coe_mul]
    norm_num
  rw [part, share_eq, e]
  rfl

/-- The loss over the rows, and over the blocks. -/
theorem loss_eq : (∑ i : S128x128.Idx, parts x1 t d h i) * Ideal.ofBits .f32 0x3A000000#32
    = Ideal.ofBits .f32 0x3F000000#32 * ∑ R : Fin 8192, Ideal.div (rowSum x1 t d h R) (Ideal.ofBits .f32 0x44800000#32) := by
  have e1 : ∑ i : S128x128.Idx, parts x1 t d h i = ∑ R : Fin 8192, rowSum x1 t d h R := by
    rw [sum_idx2, sum_blocks 16 512 (rowSum x1 t d h), sum_blocks 16 8 fun k : Fin 128 => ∑ b : Fin 128, parts x1 t d h (ix2 k b)]
    refine Finset.sum_congr rfl fun g _ => (Eq.trans ?_ (copies x1 t d h g))
    refine Finset.sum_congr rfl fun a _ => Finset.sum_congr rfl fun b _ => ?_
    unfold parts
    congr 1
    apply Fin.ext
    show (8 * g.val + a.val) / 8 = g.val
    omega
  have e2 : ∀ R, Ideal.div (rowSum x1 t d h R) (Ideal.ofBits .f32 0x44800000#32) = rowSum x1 t d h R * ((1 / 1024 : ℝ) : EReal) :=
    fun R => by rw [width_eq, Ideal.div_coe (by norm_num)]
  rw [e1, Finset.sum_congr rfl fun R _ => e2 R, ← sum_scaled _ _ (by norm_num), half_share_eq, half_eq, mul_left_comm, ← EReal.coe_mul]
  norm_num

end Cert.MlpIdeal.Val

end
-- ==== Proof.MlpAlgebraic.lean ====
module

public import proofs.«01_k».proof.Defs
public import proofs.«01_k».proof.Proof.MlpEnd
public import proofs.«01_k».proof.Proof.MlpLoss
public import proofs.«01_k».proof.Proof.Gen.MlpReferenceIdeal.Run

@[expose] public section

set_option maxRecDepth 16384

/-! # The MLP, its loss and the way back equal the mathematics -/

noncomputable section

namespace Cert.MlpReferenceIdeal.Val

open Cert.MlpReferenceIdeal Cert.MlpReferenceIdeal.Gen
open Idealize.ShloMosaic
open Cert.MlpIdeal.Val (relu hidden miss grad back share share_eq half_eq one_eq two_eq width_eq rowSum)

variable (x x1 t : S8192x1024.Idx → EReal) (u : S1024x4096.Idx → EReal) (d : S4096x1024.Idx → EReal)

/-- The rectified first product, -/
theorem ref_relu : maximumf (Host.dotGeneral (F := Ideal) dot_S8192x1024_S1024x4096_S8192x4096_1_0_0_1_n_n none (extf (φ := .bf16) .f32 x bitsLt_bf16_f32)
      (extf (φ := .bf16) .f32 u bitsLt_bf16_f32)) (broadcastInDim S8192x4096 ![] bcast_S_S8192x4096 (constant S_ .f32 0x00000000#32)) = relu x u := by
  refine funext fun i => ?_
  rw [eq_ix2 i, relu]
  pointwise
/-- the same read at an index, -/
theorem ref_rect : (fun i => max ((Host.dotGeneral (F := Ideal) dot_S8192x1024_S1024x4096_S8192x4096_1_0_0_1_n_n none (extf (φ := .bf16) .f32 x bitsLt_bf16_f32)
      (extf (φ := .bf16) .f32 u bitsLt_bf16_f32) : FVec Ideal S8192x4096 .f32) i) 0) = relu x u := by
  refine funext fun i => ?_
  rw [eq_ix2 i, relu]
  pointwise
/-- how far the second is off the target, -/
theorem ref_miss (h : S8192x4096.Idx → EReal) : subf (F := Ideal) (φ := .f32) (addf x1 (Host.dotGeneral (F := Ideal) (φ₁ := .f32) dot_S8192x4096_S4096x1024_S8192x1024_1_0_0_1_n_n none
      h (extf (φ := .bf16) .f32 d bitsLt_bf16_f32))) t = miss x1 t d h := by
  refine funext fun i => ?_
  rw [eq_ix2 i, miss]
  pointwise
/-- the gradient in the result, -/
theorem ref_grad (e : S8192x1024.Idx → EReal) : mulf (F := Ideal) (φ := .f32) (broadcastInDim S8192x1024 ![0] bcast_S8192_S8192x1024_0 (Host.divf
      (broadcastInDim S8192 ![] bcast_S_S8192 (mulf (constant S_ .f32 0x3F000000#32) (constant S_ .f32 0x3F800000#32)))
      (broadcastInDim S8192 ![] bcast_S_S8192 (constant S_ .f32 0x44800000#32))))
      (mulf (broadcastInDim S8192x1024 ![] bcast_S_S8192x1024 (constant S_ .f32 0x40000000#32)) e) = fun i => e i * share := by
  refine funext fun i => ?_
  show Ideal.div (Ideal.ofBits .f32 0x3F000000#32 * Ideal.ofBits .f32 0x3F800000#32) (Ideal.ofBits .f32 0x44800000#32) * (Ideal.ofBits .f32 0x40000000#32 * e i) = _
  rw [half_eq, one_eq, two_eq, width_eq, Ideal.div_coe (by norm_num), share_eq, mul_left_comm, ← mul_assoc, mul_comm _ (e i), ← EReal.coe_mul, ← EReal.coe_mul,
    ← EReal.coe_mul]
  norm_num
/-- the way back: where the first product is not positive there is nothing to pass, and the square passes nothing either; -/
theorem ref_back (p : S8192x4096.Idx → EReal) (g : S8192x1024.Idx → EReal) :
    select (cmpf (F := Ideal) (φ := .f32) .ogt p (broadcastInDim S8192x4096 ![] bcast_S_S8192x4096 (constant S_ .f32 0x00000000#32)))
      (mulf (Host.dotGeneral (F := Ideal) (φ₁ := .f32) dot_S8192x1024_S4096x1024_S8192x4096_1_1_0_0_n_n none g (extf (φ := .bf16) .f32 d bitsLt_bf16_f32))
        (mulf (broadcastInDim S8192x4096 ![] bcast_S_S8192x4096 (constant S_ .f32 0x40000000#32))
          (maximumf p (broadcastInDim S8192x4096 ![] bcast_S_S8192x4096 (constant S_ .f32 0x00000000#32)))))
      (broadcastInDim S8192x4096 ![] bcast_S_S8192x4096 (constant S_ .f32 0x00000000#32)) = back d g fun i => max (p i) 0 := by
  refine funext fun i => ?_
  rw [eq_ix2 i, back]
  pointwise
  split_ifs with hp
  · rfl
  · rw [max_eq_right (not_lt.1 hp), mul_zero, mul_zero]

/-- The loss. -/
theorem ref_loss (e : S8192x1024.Idx → EReal) (i : S_.Idx) : mulf (F := Ideal) (φ := .f32) (constant S_ .f32 0x3F000000#32) (Host.reduceAdd (Host.divf (Host.reduceAdd (mulf (F := Ideal) (φ := .f32) e e)
      (constant S_ .f32 0x00000000#32) reducesTo_S8192x1024_S8192_d1 h_S_) (broadcastInDim S8192 ![] bcast_S_S8192 (constant S_ .f32 0x44800000#32)))
      (constant S_ .f32 0x00000000#32) reducesTo_S8192_S_d0 h_S_) i
      = Ideal.ofBits .f32 0x3F000000#32 * ∑ R : Fin 8192, Ideal.div (∑ b : Fin 1024, e (ix2 R b) * e (ix2 R b)) (Ideal.ofBits .f32 0x44800000#32) := by
  pointwise

end Cert.MlpReferenceIdeal.Val

namespace Cert.MlpIdeal

open Idealize.ShloMosaic Idealize.SL.Sem

/-- From equal arguments the two programs end with the same loss, gradient, square and gradient in the first product. -/
theorem algebraic : Cert.algebraic_MlpIdeal_MlpReferenceIdeal := by
  intro m g m' g' _ hin
  refine ⟨fun c => fun _ : S_.Idx => (∑ i : S128x128.Idx, Val.parts (Val.X1 m c) (Val.T m c) (Val.D m c) (Val.hidden (Val.X m c) (Val.U m c)) i) * Ideal.ofBits .f32 0x3A000000#32,
    fun c => Val.grad (Val.X1 m c) (Val.T m c) (Val.D m c) (Val.hidden (Val.X m c) (Val.U m c)),
    fun c => Val.hidden (Val.X m c) (Val.U m c),
    fun c => Val.back (Val.D m c) (Val.grad (Val.X1 m c) (Val.T m c) (Val.D m c) (Val.hidden (Val.X m c) (Val.U m c))) (Val.relu (Val.X m c) (Val.U m c)),
    (θ_run _ _ _).mono (fun r hr c => ?_) (Run.whole m g), (θ_run _ _ _).mono (fun r hr c => ?_) (Cert.MlpReferenceIdeal.Value.run m' g')⟩
  · have k : ∀ (a : Ref sig .tc), a ∈ Gen.argRefs → ¬ (Proc.devRef .tc a : DevRef τ sig).isScoped →
        r.2.mem ((c.tc : Thread nD τ).loc a) = m ((c.tc : Thread nD τ).loc a) :=
      fun a ha hs => (hr.1 c _ (Gen.mem_uc a hs)).trans (Gen.W4_args m g c a ha)
    exact ⟨(hr.1 c _ (Gen.mem_uc _ (by decide))).trans (Val.loss_end m g c), (hr.1 c _ (Gen.mem_uc _ (by decide))).trans (Val.grad_end m g c),
      (hr.1 c _ (Gen.mem_uc _ (by decide))).trans (Val.hidden_end m g c), (hr.1 c _ (Gen.mem_uc _ (by decide))).trans (Val.back_end m g c),
      k _ (by decide) (by decide), k _ (by decide) (by decide), k _ (by decide) (by decide), k _ (by decide) (by decide), k _ (by decide) (by decide)⟩
  · obtain ⟨e0, e1, e2, e3, e4⟩ := hin c
    obtain ⟨h0, h1, h2, h3, hr⟩ := hr c
    rw [e0, e1, e2, e3, e4] at h0 h1 h3
    rw [e0, e3] at h2
    refine ⟨h0.trans ?_, h1.trans ?_, h2.trans ?_, h3.trans ?_, hr⟩
    · rw [Cert.MlpReferenceIdeal.Val.ref_relu (Val.X m c) (Val.U m c)]
      rw [Cert.MlpReferenceIdeal.Val.ref_miss (Val.X1 m c) (Val.T m c) (Val.D m c)]
      exact funext fun i => (Cert.MlpReferenceIdeal.Val.ref_loss _ i).trans (Val.loss_eq _ _ _ _).symm
    · rw [Cert.MlpReferenceIdeal.Val.ref_relu (Val.X m c) (Val.U m c)]
      rw [Cert.MlpReferenceIdeal.Val.ref_miss (Val.X1 m c) (Val.T m c) (Val.D m c)]
      rw [Cert.MlpReferenceIdeal.Val.ref_grad]
      rfl
    · rw [Cert.MlpReferenceIdeal.Val.ref_relu (Val.X m c) (Val.U m c)]
      rfl
    · rw [Cert.MlpReferenceIdeal.Val.ref_back, Cert.MlpReferenceIdeal.Val.ref_relu (Val.X m c) (Val.U m c)]
      rw [Cert.MlpReferenceIdeal.Val.ref_miss (Val.X1 m c) (Val.T m c) (Val.D m c)]
      rw [Cert.MlpReferenceIdeal.Val.ref_grad, Cert.MlpReferenceIdeal.Val.ref_rect]
      rfl

end Cert.MlpIdeal

end
-- ==== Proof.RmsBack.lean ====
module

public import proofs.«01_k».proof.Proof.MlpLoss
public import proofs.«01_k».proof.UpBackIdeal

@[expose] public section

/-! # The way back through a norm, one row at a time

A row `x` is scaled by `s = 1 / √(mean of its squares + ε)` and by a gain. The way back multiplies by `s` once and takes off the part
along the row; the derivative of `s` gives the same with `s / (mean + ε)` in place of `s³`. The mean of the squares may be infinite: `s` is
then zero, and so are both. -/

noncomputable section

namespace Cert.RmsBack

open Idealize.ShloMosaic
open Cert.MlpIdeal.Val (width_eq sum_scaled)

/-- The mean of a row's squares and the small number added to it. -/
def spread (x : Fin 1024 → EReal) : EReal :=
  Ideal.div (∑ k, x k * x k) (Ideal.ofBits .f32 0x44800000#32) + Ideal.ofBits .f32 0x358637BD#32

/-- A row's scale. -/
def scale (x : Fin 1024 → EReal) : EReal := Ideal.rsqrt (spread x)

/-- The gradient in a row, from the gradient `d` in the normed row times its gain. -/
def back (x d : Fin 1024 → EReal) (j : Fin 1024) : EReal :=
  scale x * (d j - x j * scale x * Ideal.div (∑ k, d k * (x k * scale x)) (Ideal.ofBits .f32 0x44800000#32))

/-- The constants. -/
theorem eps_pos : (0 : EReal) < Ideal.ofBits .f32 0x358637BD#32 := by
  simp [Ideal.ofBits, Ideal.ieee, -EReal.coe_mul]
theorem minus_half : Ideal.ofBits .f32 0xBF000000#32 = ((-(1 / 2) : ℝ) : EReal) := by
  simp [Ideal.ofBits, Ideal.ieee, -EReal.coe_mul]; norm_num

/-- A square is not negative, -/
theorem sq_nonneg (a : EReal) : 0 ≤ a * a := by
  rcases le_total 0 a with h | h
  · exact EReal.mul_nonneg h h
  · rw [← neg_mul_neg]
    exact EReal.mul_nonneg (EReal.neg_nonneg.2 h) (EReal.neg_nonneg.2 h)

/-- so the mean with the small number is positive. -/
theorem spread_pos (x : Fin 1024 → EReal) : 0 < spread x := by
  have h : 0 ≤ Ideal.div (∑ k, x k * x k) (Ideal.ofBits .f32 0x44800000#32) := by
    rw [width_eq, Ideal.div_coe (by norm_num)]
    exact EReal.mul_nonneg (Finset.sum_nonneg fun k _ => sq_nonneg _) (EReal.coe_nonneg.2 (by norm_num))
  exact lt_of_lt_of_le eps_pos (le_add_of_nonneg_left h)

/-- The scale of a positive number is a number, and over that number its cube. -/
theorem rsqrt_cube (v : EReal) (hv : 0 < v) : ∃ r : ℝ, 0 ≤ r ∧ Ideal.rsqrt v = (r : EReal) ∧ Ideal.div (Ideal.rsqrt v) v = ((r * r * r : ℝ) : EReal) := by
  induction v using EReal.rec with
  | bot => exact absurd hv (by simp)
  | top => exact ⟨0, le_rfl, by simp, by simp [Ideal.div]⟩
  | coe y =>
    have hy : 0 < y := EReal.coe_pos.1 hv
    have hs : Ideal.rsqrt (y : EReal) = (((Real.sqrt y)⁻¹ : ℝ) : EReal) := by
      rw [Ideal.rsqrt_coe, if_neg (not_lt.2 hy.le), if_neg hy.ne']
    refine ⟨(Real.sqrt y)⁻¹, inv_nonneg.2 (Real.sqrt_nonneg y), hs, ?_⟩
    rw [hs, Ideal.div_coe hy.ne', ← EReal.coe_mul]
    congr 1
    rw [mul_assoc, ← mul_inv, Real.mul_self_sqrt hy.le, one_div]

/-- The gradient in a row by the derivative of the scale. -/
theorem back_eq (x d : Fin 1024 → EReal) (j : Fin 1024) : back x d j
    = d j * scale x + x j * Ideal.div ((∑ k, x k * d k) * (Ideal.ofBits .f32 0xBF000000#32 * Ideal.div (scale x) (spread x))) (Ideal.ofBits .f32 0x44800000#32)
      + Ideal.div ((∑ k, x k * d k) * (Ideal.ofBits .f32 0xBF000000#32 * Ideal.div (scale x) (spread x))) (Ideal.ofBits .f32 0x44800000#32) * x j := by
  obtain ⟨r, hr, e1, e2⟩ := rsqrt_cube (spread x) (spread_pos x)
  unfold back scale
  rw [e2, e1, width_eq, Ideal.div_coe (by norm_num), Ideal.div_coe (by norm_num), minus_half]
  have hs : ∑ k, d k * (x k * (r : EReal)) = (∑ k, x k * d k) * (r : EReal) := by
    rw [sum_scaled _ r hr]
    exact Finset.sum_congr rfl fun k _ => by rw [← mul_assoc, mul_comm (d k)]
  rw [hs]
  generalize (∑ k, x k * d k) = s
  have hq : 0 ≤ r * r * r * (1 / 2048) := by positivity
  have h1 : s * (((-(1 / 2) : ℝ) : EReal) * ((r * r * r : ℝ) : EReal)) * ((1 / 1024 : ℝ) : EReal) = -s * ((r * r * r * (1 / 2048) : ℝ) : EReal) := by
    rw [mul_assoc, ← EReal.coe_mul, ← EReal.coe_mul, neg_mul s, ← mul_neg s, ← EReal.coe_neg]
    congr 2
    ring
  have h2 : x j * (r : EReal) * (s * (r : EReal) * ((1 / 1024 : ℝ) : EReal)) = x j * s * ((r * r * (1 / 1024) : ℝ) : EReal) := by
    rw [EReal.coe_mul, EReal.coe_mul]
    ac_rfl
  rw [h1, h2, sub_eq_add_neg, EReal.left_distrib_of_nonneg_of_ne_top (EReal.coe_nonneg.2 hr) (EReal.coe_ne_top r), mul_comm (r : EReal) (d j), add_assoc]
  congr 1
  have h3 : -s * ((r * r * r * (1 / 2048) : ℝ) : EReal) * x j = x j * (-s * ((r * r * r * (1 / 2048) : ℝ) : EReal)) := mul_comm _ _
  rw [h3, ← mul_assoc, ← EReal.left_distrib_of_nonneg (EReal.coe_nonneg.2 hq) (EReal.coe_nonneg.2 hq), ← EReal.coe_add, mul_neg, mul_neg, neg_mul]
  congr 1
  rw [mul_comm, mul_assoc, ← EReal.coe_mul]
  congr 2
  ring

/-! ## All the rows -/

/-- A row of an array. -/
def row (x : Cert.MlpIdeal.S8192x1024.Idx → EReal) (R : Fin 8192) (k : Fin 1024) : EReal := x (ix2 R k)

/-- The gradient in the input, and what comes past the norm. -/
def input (x dy past : Cert.MlpIdeal.S8192x1024.Idx → EReal) (g : Cert.UpBackIdeal.S1x1024.Idx → EReal) : Cert.MlpIdeal.S8192x1024.Idx → EReal :=
  fun i => past i + back (row x (i 0)) (fun k => dy (ix2 (i 0) k) * g (ix2 0 k)) (i 1)

/-- The gradient in the gain. -/
def gain (x dy : Cert.MlpIdeal.S8192x1024.Idx → EReal) : Cert.UpBackIdeal.S1x1024.Idx → EReal :=
  fun i => ∑ R : Fin 8192, dy (ix2 R (i 1)) * (x (ix2 R (i 1)) * scale (row x R))

end Cert.RmsBack

end
-- ==== Proof.UpBackBlocks.lean ====
module

public import proofs.«01_k».proof.Proof.RmsBack
public import proofs.«01_k».proof.Proof.Gen.UpBackIdeal.Value
public import proofs.«01_k».proof.Proof.Halves
public import Idealize.ShloMosaic.Lib.Pointwise
public import Idealize.ShloMosaic.Lib.StableHlo.ReadAt
public import Idealize.ShloMosaic.Lib.Pipeline.ValueKit

@[expose] public section

set_option maxRecDepth 16384

/-! # The way back through the first MLP product and its norm: one block of rows -/

noncomputable section

namespace Cert.UpBackIdeal.Val

open Cert.UpBackIdeal Cert.UpBackIdeal.Gen Cert.UpBackIdeal.Value
open Idealize.ShloMosaic Idealize.ShloMosaic.TcCoe
open Cert.Halves

section
variable (w : Vec Ideal S4096x1024 .bf16) (du : Vec Ideal S512x4096 .bf16) (x past : Vec Ideal S512x1024 .f32) (g : Vec Ideal S1x1024 .f32)

/-- The product of a block, -/
theorem part_at (a : Fin 512) (b : Fin 1024) : k0_pay3 (F := Ideal) w du (ix2 a b) = ∑ k : Fin 4096, du (ix2 a k) * w (ix2 k b) := by
  pointwise [k0_pay3]
/-- the scale of each row, -/
theorem scale_at (a : Fin 512) : k0_pay4 (F := Ideal) x (ix2 a 0) = RmsBack.scale fun k => x (ix2 a k) := by
  unfold RmsBack.scale RmsBack.spread
  pointwise [k0_pay4]
/-- the scaled rows, -/
theorem scaled_at (a : Fin 512) (b : Fin 1024) : k0_pay5 (F := Ideal) x (ix2 a b) = x (ix2 a b) * RmsBack.scale fun k => x (ix2 a k) := by
  rw [← scale_at]
  unfold k0_pay5
  generalize k0_pay4 (F := Ideal) x = s
  pointwise
/-- the block's part of the gain's gradient -/
theorem gain_at (b : Fin 1024) : k0_pay6 (F := Ideal) w du x (ix2 0 b)
    = ∑ a : Fin 512, (∑ k : Fin 4096, du (ix2 a k) * w (ix2 k b)) * (x (ix2 a b) * RmsBack.scale fun k => x (ix2 a k)) := by
  refine Eq.trans ?_ (Finset.sum_congr rfl fun a _ => congrArg₂ (fun p q : EReal => p * q) (part_at w du a b) (scaled_at x a b))
  unfold k0_pay6
  generalize k0_pay3 (F := Ideal) w du = p
  generalize k0_pay5 (F := Ideal) x = s
  pointwise
/-- and the gradient in the input. -/
theorem input_at (a : Fin 512) (b : Fin 1024) : k0_pay7 (F := Ideal) w du x g past (ix2 a b)
    = past (ix2 a b) + RmsBack.back (fun k => x (ix2 a k)) (fun j => (∑ k : Fin 4096, du (ix2 a k) * w (ix2 k j)) * g (ix2 0 j)) b := by
  have e : k0_pay7 (F := Ideal) w du x g past (ix2 a b) = past (ix2 a b) + k0_pay4 (F := Ideal) x (ix2 a 0) * (k0_pay3 (F := Ideal) w du (ix2 a b) * g (ix2 0 b)
      - k0_pay5 (F := Ideal) x (ix2 a b) * Ideal.div (∑ j : Fin 1024, k0_pay3 (F := Ideal) w du (ix2 a j) * g (ix2 0 j) * k0_pay5 (F := Ideal) x (ix2 a j)) (Ideal.ofBits .f32 0x44800000#32)) := by
    unfold k0_pay7
    generalize k0_pay3 (F := Ideal) w du = p
    generalize k0_pay5 (F := Ideal) x = s
    generalize k0_pay4 (F := Ideal) x = r
    pointwise
  rw [e]
  simp only [part_at, scaled_at, scale_at]
  rfl

end

section
variable (c : Dev nD) (i : grid0.Coords) (a3 : Memref sig .tc .vmem S512x4096 .bf16) (h3 : a3.IsWhole) (a4 : Memref sig .tc .vmem S4096x1024 .bf16) (h4 : a4.IsWhole)
  (a5 : Memref sig .tc .vmem S512x1024 .f32) (h5 : a5.IsWhole) (a6 : Memref sig .tc .vmem S512x1024 .f32) (h6 : a6.IsWhole)
  (a7 : Memref sig .tc .vmem S1x1024 .f32) (h7 : a7.IsWhole) (a8 : Memref sig .tc .vmem S512x1024 .f32) (h8 : a8.IsWhole)
  (a9 : Memref sig .tc .vmem S1x1024 .f32) (h9 : a9.IsWhole) (a10 : Memref sig .tc .vmem S512x1024 .bf16) (h10 : a10.IsWhole)
  (x0 : Vec Ideal S512x4096 .bf16) (x1 : Vec Ideal S4096x1024 .bf16) (x2 x3 : Vec Ideal S512x1024 .f32) (x4 : Vec Ideal S1x1024 .f32) (o : Vec Ideal S1x1024 .f32)

/-- What the first block of rows writes: the gradient in the input, -/
theorem first5 (p0 : cond0_0 i) (p1 : ¬cond0_1 i) :
    out0_A_5 (F := Ideal) c i a3 h3 a4 h4 a5 h5 a6 h6 a7 h7 a8 h8 a9 h9 a10 h10 p0 p1 x0 x1 x2 x3 x4 = k0_pay7 (F := Ideal) x1 x0 x2 x4 x3 := by
  unfold out0_A_5
  rw [View.read_writes_eq_canon _ _ _ (cover0_A_5 c i a3 h3 a4 h4 a5 h5 a6 h6 a7 h7 a8 h8 a9 h9 a10 h10 p0 p1 x0 x1 x2 x3 x4)]
  unfold kernelRun0_A
  dsimp only
  sl_unfold_words
  rw [View.canon_unit_zero zeros]
  simp only [View.readAt_eq_ld, h3.read_unread, h4.read_unread, h5.read_unread, h6.read_unread, h7.read_unread, View.ld_unit_zero (S := S4096x1024) zeros,
    View.ld_unit_zero (S := S512x4096) zeros, View.ld_unit_zero (S := S512x1024) zeros, View.ld_unit_zero (S := S1x1024) zeros, shapeCast_self]
/-- its part of the gain's gradient, -/
theorem first6 (p0 : cond0_0 i) (p1 : ¬cond0_1 i) :
    out0_A_6 (F := Ideal) c i a3 h3 a4 h4 a5 h5 a6 h6 a7 h7 a8 h8 a9 h9 a10 h10 p0 p1 x0 x1 x2 x3 x4 = k0_pay6 (F := Ideal) x1 x0 x2 := by
  unfold out0_A_6
  rw [View.read_writes_eq_canon _ _ _ (cover0_A_6 c i a3 h3 a4 h4 a5 h5 a6 h6 a7 h7 a8 h8 a9 h9 a10 h10 p0 p1 x0 x1 x2 x3 x4)]
  unfold kernelRun0_A
  dsimp only
  sl_unfold_words
  rw [View.canon_unit_zero zeros]
  simp only [View.readAt_eq_ld, h3.read_unread, h4.read_unread, h5.read_unread, h6.read_unread, h7.read_unread, View.ld_unit_zero (S := S4096x1024) zeros,
    View.ld_unit_zero (S := S512x4096) zeros, View.ld_unit_zero (S := S512x1024) zeros, View.ld_unit_zero (S := S1x1024) zeros, shapeCast_self]
/-- and the gradient in the input once more, rounded. -/
theorem first7 (p0 : cond0_0 i) (p1 : ¬cond0_1 i) :
    out0_A_7 (F := Ideal) c i a3 h3 a4 h4 a5 h5 a6 h6 a7 h7 a8 h8 a9 h9 a10 h10 p0 p1 x0 x1 x2 x3 x4 = k0_pay2 (F := Ideal) (k0_pay7 (F := Ideal) x1 x0 x2 x4 x3) := by
  unfold out0_A_7
  rw [View.read_writes_eq_canon _ _ _ (cover0_A_7 c i a3 h3 a4 h4 a5 h5 a6 h6 a7 h7 a8 h8 a9 h9 a10 h10 p0 p1 x0 x1 x2 x3 x4)]
  unfold kernelRun0_A
  dsimp only
  sl_unfold_words
  rw [View.canon_unit_zero zeros]
  simp only [View.readAt_eq_ld, h3.read_unread, h4.read_unread, h5.read_unread, h6.read_unread, h7.read_unread, View.ld_unit_zero (S := S4096x1024) zeros,
    View.ld_unit_zero (S := S512x4096) zeros, View.ld_unit_zero (S := S512x1024) zeros, View.ld_unit_zero (S := S1x1024) zeros, shapeCast_self]
/-- The later blocks write the same of their own rows, -/
theorem later5 (p0 : ¬cond0_0 i) (p1 : cond0_1 i) :
    out0_B_5 (F := Ideal) c i a3 h3 a4 h4 a5 h5 a6 h6 a7 h7 a8 h8 a9 h9 a10 h10 p0 p1 x0 x1 x2 x3 x4 o = k0_pay7 (F := Ideal) x1 x0 x2 x4 x3 := by
  unfold out0_B_5
  rw [View.read_writes_eq_canon _ _ _ (cover0_B_5 c i a3 h3 a4 h4 a5 h5 a6 h6 a7 h7 a8 h8 a9 h9 a10 h10 p0 p1 x0 x1 x2 x3 x4 o)]
  unfold kernelRun0_B
  dsimp only
  sl_unfold_words
  rw [View.canon_unit_zero zeros]
  simp only [View.readAt_eq_ld, h3.read_unread, h4.read_unread, h5.read_unread, h6.read_unread, h7.read_unread, View.ld_unit_zero (S := S4096x1024) zeros,
    View.ld_unit_zero (S := S512x4096) zeros, View.ld_unit_zero (S := S512x1024) zeros, View.ld_unit_zero (S := S1x1024) zeros, shapeCast_self]
theorem later7 (p0 : ¬cond0_0 i) (p1 : cond0_1 i) :
    out0_B_7 (F := Ideal) c i a3 h3 a4 h4 a5 h5 a6 h6 a7 h7 a8 h8 a9 h9 a10 h10 p0 p1 x0 x1 x2 x3 x4 o = k0_pay2 (F := Ideal) (k0_pay7 (F := Ideal) x1 x0 x2 x4 x3) := by
  unfold out0_B_7
  rw [View.read_writes_eq_canon _ _ _ (cover0_B_7 c i a3 h3 a4 h4 a5 h5 a6 h6 a7 h7 a8 h8 a9 h9 a10 h10 p0 p1 x0 x1 x2 x3 x4 o)]
  unfold kernelRun0_B
  dsimp only
  sl_unfold_words
  rw [View.canon_unit_zero zeros]
  simp only [View.readAt_eq_ld, h3.read_unread, h4.read_unread, h5.read_unread, h6.read_unread, h7.read_unread, View.ld_unit_zero (S := S4096x1024) zeros,
    View.ld_unit_zero (S := S512x4096) zeros, View.ld_unit_zero (S := S512x1024) zeros, View.ld_unit_zero (S := S1x1024) zeros, shapeCast_self]
/-- and add their part of the gain's gradient to what is there. -/
theorem later6 (p0 : ¬cond0_0 i) (p1 : cond0_1 i) :
    out0_B_6 (F := Ideal) c i a3 h3 a4 h4 a5 h5 a6 h6 a7 h7 a8 h8 a9 h9 a10 h10 p0 p1 x0 x1 x2 x3 x4 o = addf o (k0_pay6 (F := Ideal) x1 x0 x2) := by
  unfold out0_B_6
  rw [View.read_writes_eq_canon _ _ _ (cover0_B_6 c i a3 h3 a4 h4 a5 h5 a6 h6 a7 h7 a8 h8 a9 h9 a10 h10 p0 p1 x0 x1 x2 x3 x4 o)]
  unfold kernelRun0_B
  dsimp only
  sl_unfold_words
  rw [View.canon_unit_zero zeros]
  unfold k0_pay1
  simp only [View.readAt_eq_ld, h3.read_unread, h4.read_unread, h5.read_unread, h6.read_unread, h7.read_unread, h9.read_unread, View.ld_unit_zero (S := S4096x1024) zeros,
    View.ld_unit_zero (S := S512x4096) zeros, View.ld_unit_zero (S := S512x1024) zeros, View.ld_unit_zero (S := S1x1024) zeros, shapeCast_self]

end

end Cert.UpBackIdeal.Val

end
-- ==== Proof.RmsReference.lean ====
module

public import proofs.«01_k».proof.Proof.RmsBack
public import proofs.«01_k».proof.Proof.Gen.UpBackReferenceIdeal
public import Idealize.ShloMosaic.Lib.Pointwise

@[expose] public section

set_option maxRecDepth 16384

/-! # The way back through a norm, by the derivative of the norm -/

noncomputable section

namespace Cert.RmsBack

open Cert.UpBackReferenceIdeal Cert.UpBackReferenceIdeal.Gen
open Idealize.ShloMosaic

variable (x dy past : FVec Ideal S8192x1024 .f32) (g : FVec Ideal S1x1024 .f32)

/-- The mean of each row's squares and the small number, -/
abbrev spreads : FVec Ideal S8192x1 .f32 :=
  addf (Host.divf (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))
/-- the gain on every row, -/
abbrev gains : FVec Ideal S8192x1024 .f32 :=
  broadcastInDim S8192x1024 ![0, 1] bcast_S1x1024_S8192x1024_0_1 (broadcastInDim S1x1024 ![1] bcast_S1024_S1x1024_1 (shapeCast _ g shapeCasts_S1x1024_S1024))
/-- and what each row's scale passes on to every entry of the row. -/
abbrev along (d : FVec Ideal S8192x1024 .f32) : FVec Ideal S8192x1024 .f32 :=
  broadcastInDim S8192x1024 ![0] bcast_S8192_S8192x1024_0 (Host.reduceAdd (Host.divf (mulf (shapeCast _ (Host.reduceAdd (mulf x d) (constant S_ .f32 0x00000000#32)
      reducesTo_S8192x1024_S8192_d1 h_S_) shapeCasts_S8192_S8192x1) (mulf (broadcastInDim S8192x1 ![] bcast_S_S8192x1 (constant S_ .f32 0xBF000000#32))
      (Host.divf (Host.rsqrt (spreads x)) (spreads x)))) (broadcastInDim S8192x1 ![] bcast_S_S8192x1 (constant S_ .f32 0x44800000#32)))
    (constant S_ .f32 0x00000000#32) reducesTo_S8192x1_S8192_d1 h_S_)

/-- At an index each is what its row says. -/
theorem spreads_at (R : Fin 8192) : spreads x (ix2 R 0) = spread (row x R) := by
  refine Eq.trans (b := Ideal.div (∑ k : Fin 1024, x (ix2 R k) * x (ix2 R k)) (Ideal.ofBits .f32 0x44800000#32) + Ideal.ofBits .f32 0x358637BD#32) ?_ rfl
  pointwise
theorem scales_at (R : Fin 8192) (b : Fin 1024) :
    broadcastInDim S8192x1024 ![0, 1] bcast_S8192x1_S8192x1024_0_1 (Host.rsqrt (spreads x)) (ix2 R b) = scale (row x R) := by
  rw [scale, ← spreads_at]
  generalize spreads x = s
  pointwise
theorem gains_at (R : Fin 8192) (b : Fin 1024) : gains g (ix2 R b) = g (ix2 0 b) := by
  pointwise
theorem along_at (d : FVec Ideal S8192x1024 .f32) (R : Fin 8192) (b : Fin 1024) : along x d (ix2 R b)
    = Ideal.div ((∑ k, row x R k * row d R k) * (Ideal.ofBits .f32 0xBF000000#32 * Ideal.div (scale (row x R)) (spread (row x R)))) (Ideal.ofBits .f32 0x44800000#32) := by
  unfold along
  rw [scale, ← spreads_at]
  generalize spreads x = s
  show _ = Ideal.div ((∑ k : Fin 1024, x (ix2 R k) * d (ix2 R k)) * _) _
  pointwise
  exact Fin.sum_univ_one _

/-- The gradient in the input. -/
theorem reference_input : addf past (addf (addf (mulf (mulf dy (gains g)) (broadcastInDim S8192x1024 ![0, 1] bcast_S8192x1_S8192x1024_0_1 (Host.rsqrt (spreads x))))
      (mulf x (along x (mulf dy (gains g))))) (mulf (along x (mulf dy (gains g))) x)) = input x dy past g := by
  funext i
  obtain ⟨R, b, rfl⟩ : ∃ (R : Fin 8192) (b : Fin 1024), i = ix2 R b := ⟨i 0, i 1, eq_ix2 i⟩
  have e : row (mulf dy (gains g)) R = fun k => dy (ix2 R k) * g (ix2 0 k) := funext fun k => congrArg (dy (ix2 R k) * ·) (gains_at g R k)
  show past (ix2 R b) + ((dy (ix2 R b) * gains g (ix2 R b) * broadcastInDim S8192x1024 ![0, 1] bcast_S8192x1_S8192x1024_0_1 (Host.rsqrt (spreads x)) (ix2 R b)
    + x (ix2 R b) * along x (mulf dy (gains g)) (ix2 R b)) + along x (mulf dy (gains g)) (ix2 R b) * x (ix2 R b)) = past (ix2 R b) + back (row x R) (fun k => dy (ix2 R k) * g (ix2 0 k)) b
  rw [scales_at, along_at, gains_at, e, back_eq]
  rfl

/-- The gradient in the gain. -/
theorem reference_gain : broadcastInDim S1x1024 ![1] bcast_S1024_S1x1024_1 (Host.reduceAdd (shapeCast _ (Host.reduceAdd (mulf (mulf x
      (broadcastInDim S8192x1024 ![0, 1] bcast_S8192x1_S8192x1024_0_1 (Host.rsqrt (spreads x)))) dy) (constant S_ .f32 0x00000000#32) reducesTo_S8192x1024_S1024_d0 h_S_)
      shapeCasts_S1024_S1x1024) (constant S_ .f32 0x00000000#32) reducesTo_S1x1024_S1024_d0 h_S_) = gain x dy := by
  funext i
  obtain ⟨b, rfl⟩ : ∃ b : Fin 1024, i = ix2 0 b := ⟨i 1, by rw [eq_ix2 i]; congr 1; exact Subsingleton.elim _ _⟩
  have e : ∀ R : Fin 8192, dy (ix2 R b) * (x (ix2 R b) * scale (row x R))
      = x (ix2 R b) * broadcastInDim S8192x1024 ![0, 1] bcast_S8192x1_S8192x1024_0_1 (Host.rsqrt (spreads x)) (ix2 R b) * dy (ix2 R b) :=
    fun R => by rw [scales_at, mul_comm]
  refine Eq.trans ?_ (Finset.sum_congr rfl fun R _ => (e R).symm)
  generalize broadcastInDim S8192x1024 ![0, 1] bcast_S8192x1_S8192x1024_0_1 (Host.rsqrt (spreads x)) = s
  pointwise
  exact Fin.sum_univ_one _

end Cert.RmsBack

end
-- ==== Proof.UpBackValue.lean ====
module

public import proofs.«01_k».proof.Defs
public import proofs.«01_k».proof.Proof.UpBackBlocks
public import proofs.«01_k».proof.Proof.RmsReference
public import proofs.«01_k».proof.Proof.Gen.UpBackReferenceIdeal.Run

@[expose] public section

set_option maxRecDepth 16384

/-! # The way back through the first MLP product and its norm -/

noncomputable section

namespace Cert.UpBackIdeal.Val

open Cert.UpBackIdeal Cert.UpBackIdeal.Gen Cert.UpBackIdeal.Value
open Idealize.ShloMosaic Idealize.ShloMosaic.TcCoe Idealize.SL.Sem
open Cert.Halves

variable (m : (ℓ : Loc nD τ sig) → Buf (Elt Ideal) ℓ) (c : Dev nD)

/-- The arguments: the gradient in the product, the weight, the norm's input, what comes past the norm, the gain. -/
abbrev U : S8192x4096.Idx → EReal := m ((c.tc : Thread nD τ).loc main_arg0)
abbrev W : S1024x4096.Idx → EReal := m ((c.tc : Thread nD τ).loc main_arg1)
abbrev X : S8192x1024.Idx → EReal := m ((c.tc : Thread nD τ).loc main_arg2)
abbrev P : S8192x1024.Idx → EReal := m ((c.tc : Thread nD τ).loc main_arg3)
abbrev G : S1x1024.Idx → EReal := m ((c.tc : Thread nD τ).loc main_arg4)

/-- The gradient in the normed rows. -/
def normed (u : S8192x4096.Idx → EReal) (w : S1024x4096.Idx → EReal) : S8192x1024.Idx → EReal := fun i => ∑ k : Fin 4096, u (ix2 (i 0) k) * w (ix2 (i 1) k)

/-- Where the blocks lie. -/
theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = t.val ∧ win0_3.index t 1 = 0 := by decide +kernel
theorem index4 : ∀ t : Fin cfg0.N, win0_4.index t 0 = 0 ∧ win0_4.index t 1 = 0 := by decide +kernel
theorem index5 : ∀ t : Fin cfg0.N, win0_5.index t 0 = t.val ∧ win0_5.index t 1 = 0 := by decide +kernel
theorem index6 : ∀ t : Fin cfg0.N, win0_6.index t 0 = 0 ∧ win0_6.index t 1 = 0 := by decide +kernel
theorem index7 : ∀ t : Fin cfg0.N, win0_7.index t 0 = t.val ∧ win0_7.index t 1 = 0 := by decide +kernel
theorem last6 : ∀ t : Fin cfg0.N, (cfg0.win 6).flush t = true → t.val = 15 := by decide +kernel

/-- The row of the whole that is row `a` of block `t`. -/
def at_ (t : Fin cfg0.N) (a : Fin 512) : Fin 8192 := ⟨512 * t.val + a.val, by have := lt_of_lt_of_eq t.isLt (show cfg0.N = 16 from N_0); omega⟩

theorem block0 (t : Fin cfg0.N) (a : Fin 512) (k : Fin 4096) : (iblk m c 0 t : Vec Ideal S512x4096 .bf16) (ix2 a k) = U m c (ix2 (at_ t a) k) := by
  rw [U, ← V_main_arg0 m c, at_]
  blk_simp [iblk]; blk_ext <;> simp only [index0] <;> omega
/-- The weight is turned before the kernel reads it. -/
theorem turned (k : Fin 4096) (b : Fin 1024) : V m c main_v0 (ix2 k b) = W m c (ix2 b k) := by
  have e : (V m c main_v0 : FVec Ideal S4096x1024 .bf16) = transpose S4096x1024 [1, 0] (W m c) transposes_S1024x4096_S4096x1024_1_0 := by
    simp only [V, hostOps0]; after_reads_at
  rw [e]
  pointwise
theorem block1 (t : Fin cfg0.N) (k : Fin 4096) (b : Fin 1024) : (iblk m c 1 t : Vec Ideal S4096x1024 .bf16) (ix2 k b) = W m c (ix2 b k) := by
  refine Eq.trans ?_ (turned m c k b)
  blk_simp [iblk]; blk_ext <;> simp only [index1] <;> omega
theorem block2 (t : Fin cfg0.N) (a : Fin 512) (b : Fin 1024) : (iblk m c 2 t : Vec Ideal S512x1024 .f32) (ix2 a b) = X m c (ix2 (at_ t a) b) := by
  rw [X, ← V_main_arg2 m c, at_]
  blk_simp [iblk]; blk_ext <;> simp only [index2] <;> omega
theorem block3 (t : Fin cfg0.N) (a : Fin 512) (b : Fin 1024) : (iblk m c 3 t : Vec Ideal S512x1024 .f32) (ix2 a b) = P m c (ix2 (at_ t a) b) := by
  rw [P, ← V_main_arg3 m c, at_]
  blk_simp [iblk]; blk_ext <;> simp only [index3] <;> omega
theorem block4 (t : Fin cfg0.N) (b : Fin 1024) : (iblk m c 4 t : Vec Ideal S1x1024 .f32) (ix2 0 b) = G m c (ix2 0 b) := by
  rw [G, ← V_main_arg4 m c]
  blk_simp [iblk]; blk_ext <;> simp only [index4] <;> omega

/-- A block's row of gradients in the normed rows, -/
theorem normed_at (t : Fin cfg0.N) (u : Vec Ideal S512x4096 .bf16) (w : Vec Ideal S4096x1024 .bf16) (hu : u = iblk m c 0 t) (hw : w = iblk m c 1 t) (a : Fin 512) (b : Fin 1024) :
    ∑ k : Fin 4096, u (ix2 a k) * w (ix2 k b) = normed (U m c) (W m c) (ix2 (at_ t a) b) := by
  subst hu hw
  exact Finset.sum_congr rfl fun k _ => congrArg₂ (fun p q : EReal => p * q) (block0 m c t a k) (block1 m c t k b)
/-- of inputs, -/
theorem row_at (t : Fin cfg0.N) (a : Fin 512) : (fun k => (iblk m c 2 t : Vec Ideal S512x1024 .f32) (ix2 a k)) = RmsBack.row (X m c) (at_ t a) :=
  funext fun k => block2 m c t a k

/-- of gradients in the input, -/
theorem input_block (t : Fin cfg0.N) (a : Fin 512) (b : Fin 1024) : k0_pay7 (F := Ideal) (iblk m c 1 t) (iblk m c 0 t) (iblk m c 2 t) (iblk m c 4 t) (iblk m c 3 t) (ix2 a b)
    = RmsBack.input (X m c) (normed (U m c) (W m c)) (P m c) (G m c) (ix2 (at_ t a) b) := by
  refine (input_at _ _ _ _ _ a b).trans ?_
  exact congrArg₂ (fun p q : EReal => p + q) (block3 m c t a b) (congrArg₂ (fun p q => RmsBack.back p q b) (row_at m c t a)
    (funext fun j => congrArg₂ (fun p q : EReal => p * q) (normed_at m c t _ _ rfl rfl a j) (block4 m c t j)))
/-- and its part of the gain's gradient. -/
def part (b : Fin 1024) (g : Fin 16) : EReal := ∑ a : Fin 512, normed (U m c) (W m c) (ix2 ⟨512 * g.val + a.val, by omega⟩ b)
  * (X m c (ix2 ⟨512 * g.val + a.val, by omega⟩ b) * RmsBack.scale (RmsBack.row (X m c) ⟨512 * g.val + a.val, by omega⟩))
theorem gain_block (t : Fin cfg0.N) (b : Fin 1024) : k0_pay6 (F := Ideal) (iblk m c 1 t) (iblk m c 0 t) (iblk m c 2 t) (ix2 0 b)
    = part m c b ⟨t.val, lt_of_lt_of_eq t.isLt (show cfg0.N = 16 from N_0)⟩ := by
  refine (gain_at _ _ _ b).trans ?_
  exact Finset.sum_congr rfl fun a _ => congrArg₂ (fun p q : EReal => p * q) (normed_at m c t _ _ rfl rfl a b)
    (congrArg₂ (fun p q : EReal => p * q) (block2 m c t a b) (congrArg RmsBack.scale (row_at m c t a)))

/-- Every point writes its rows of the gradient in the input, twice, -/
theorem outs5 (t : Fin cfg0.N) : (outsAt0 m c t.val t.isLt).1 = k0_pay7 (F := Ideal) (iblk m c 1 t) (iblk m c 0 t) (iblk m c 2 t) (iblk m c 4 t) (iblk m c 3 t) := by
  have hN : t.val < 16 := lt_of_lt_of_eq t.isLt (show cfg0.N = 16 from N_0)
  by_cases h : t.val = 0
  · rw [outsAt0_A m c t (by omega) (by omega)]; dsimp only; rw [first5]
  · rw [outsAt0_B m c t (by omega) (by omega)]; dsimp only; rw [later5]
theorem outs7 (t : Fin cfg0.N) : (outsAt0 m c t.val t.isLt).2.2 = k0_pay2 (F := Ideal) (k0_pay7 (F := Ideal) (iblk m c 1 t) (iblk m c 0 t) (iblk m c 2 t) (iblk m c 4 t) (iblk m c 3 t)) := by
  have hN : t.val < 16 := lt_of_lt_of_eq t.isLt (show cfg0.N = 16 from N_0)
  by_cases h : t.val = 0
  · rw [outsAt0_A m c t (by omega) (by omega)]; dsimp only; rw [first7]
  · rw [outsAt0_B m c t (by omega) (by omega)]; dsimp only; rw [later7]
/-- and leaves the sum of the parts so far. -/
theorem outs6 (n : ℕ) (hn : n < cfg0.N) (b : Fin 1024) : (outsAt0 m c n hn).2.1 (ix2 0 b)
    = ∑ g : Fin (n + 1), part m c b ⟨g.val, by have := lt_of_lt_of_eq hn (show cfg0.N = 16 from N_0); omega⟩ := by
  induction n with
  | zero =>
    rw [outsAt0_A m c ⟨0, hn⟩ (by dsimp only) (by dsimp only; omega)]
    dsimp only
    rw [first6, gain_block]
    exact (Fin.sum_univ_one fun g : Fin 1 => part m c b ⟨g.val, by omega⟩).symm
  | succ n ih =>
    have hN : n + 1 < 16 := lt_of_lt_of_eq hn (show cfg0.N = 16 from N_0)
    rw [outsAt0_B m c ⟨n + 1, hn⟩ (by dsimp only; omega) (by dsimp only; omega)]
    dsimp only
    rw [later6, Fin.sum_univ_castSucc]
    show (outsAt0 m c n _).2.1 (ix2 0 b) + k0_pay6 (F := Ideal) _ _ _ (ix2 0 b) = _
    rw [ih, gain_block]
    rfl

/-- The blocks make the results whole: the gradient in the input, -/
theorem result5 : (dats m 0 c).arrAt 5 cfg0.N = RmsBack.input (X m c) (normed (U m c) (W m c)) (P m c) (G m c) := by
  refine (dats m 0 c).arrAt_eq_of_covers 5 _ (by decide +kernel) fun t hf y => ?_
  obtain ⟨a, b, rfl⟩ : ∃ (a : Fin 512) (b : Fin 1024), y = ix2 a b := ⟨y 0, y 1, eq_ix2 y⟩
  blk_simp
  rw [after0_5, outs5, input_block, at_]
  congr 1
  blk_ext <;> simp only [index5] <;> omega
/-- its rounded copy, -/
theorem result7 : (dats m 0 c).arrAt 7 cfg0.N = RmsBack.input (X m c) (normed (U m c) (W m c)) (P m c) (G m c) := by
  refine (dats m 0 c).arrAt_eq_of_covers 7 _ (by decide +kernel) fun t hf y => ?_
  obtain ⟨a, b, rfl⟩ : ∃ (a : Fin 512) (b : Fin 1024), y = ix2 a b := ⟨y 0, y 1, eq_ix2 y⟩
  blk_simp
  rw [after0_7, outs7]
  refine (input_block m c t a b).trans ?_
  rw [at_]
  congr 1
  blk_ext <;> simp only [index7] <;> omega
/-- and, the last point's sum being over all the rows, the gain's gradient. -/
theorem result6 : (dats m 0 c).arrAt 6 cfg0.N = RmsBack.gain (X m c) (normed (U m c) (W m c)) := by
  refine (dats m 0 c).arrAt_eq_of_covers 6 _ (by decide +kernel) fun t hf y => ?_
  obtain ⟨b, rfl⟩ : ∃ b : Fin 1024, y = ix2 0 b := ⟨y 1, by rw [eq_ix2 y]; congr 1; exact Subsingleton.elim _ _⟩
  have e : ∀ (n : ℕ) (hn : n < cfg0.N), n = 15 → (outsAt0 m c n hn).2.1 (ix2 0 b) = RmsBack.gain (X m c) (normed (U m c) (W m c)) (ix2 0 b) := by
    rintro n hn rfl
    rw [outs6, RmsBack.gain, Cert.MlpIdeal.Val.sum_blocks 16 512]
    rfl
  have ht := last6 t hf
  blk_simp
  rw [after0_6, e _ _ ht]
  congr 1
  blk_ext <;> simp only [index6] <;> omega

/-- The gradient in the normed rows, as the other program states it. -/
theorem reference (u : S8192x4096.Idx → EReal) (w : S1024x4096.Idx → EReal) :
    (Host.dotGeneral (F := Ideal) Cert.UpBackReferenceIdeal.dot_S8192x4096_S1024x4096_S8192x1024_1_1_0_0_n_n none
      (extf (φ := .bf16) .f32 u Cert.UpBackReferenceIdeal.Gen.bitsLt_bf16_f32) (extf (φ := .bf16) .f32 w Cert.UpBackReferenceIdeal.Gen.bitsLt_bf16_f32)
      : FVec Ideal Cert.UpBackReferenceIdeal.S8192x1024 .f32) = normed u w := by
  funext i
  rw [eq_ix2 i]
  unfold normed
  pointwise

end Cert.UpBackIdeal.Val

namespace Cert.UpBackIdeal

open Idealize.ShloMosaic Idealize.SL.Sem

/-- From equal arguments the two programs end with the same gradients in the norm's input and in its gain. -/
theorem algebraic : Cert.algebraic_UpBackIdeal_UpBackReferenceIdeal := by
  intro m g m' g' _ hin
  refine ⟨fun c => RmsBack.input (Val.X m c) (Val.normed (Val.U m c) (Val.W m c)) (Val.P m c) (Val.G m c), fun c => RmsBack.gain (Val.X m c) (Val.normed (Val.U m c) (Val.W m c)),
    fun c => RmsBack.input (Val.X m c) (Val.normed (Val.U m c) (Val.W m c)) (Val.P m c) (Val.G m c),
    (θ_run _ _ _).mono (fun r hr c => ?_) (Value.run_blocks m g), (θ_run _ _ _).mono (fun r hr c => ?_) (Cert.UpBackReferenceIdeal.Value.run m' g')⟩
  · obtain ⟨h5, h6, h7, hr⟩ := hr c
    exact ⟨h5.trans (Val.result5 m c), h6.trans (Val.result6 m c), h7.trans (Val.result7 m c), hr⟩
  · obtain ⟨e0, e1, e2, e3, e4⟩ := hin c
    obtain ⟨h5, h6, h7, hr⟩ := hr c
    have k := RmsBack.reference_input (Val.X m c) (Val.normed (Val.U m c) (Val.W m c)) (Val.P m c) (Val.G m c)
    unfold Cert.UpBackReferenceIdeal.Value.res_main_v41 at h5
    unfold Cert.UpBackReferenceIdeal.Value.res_main_v43 at h7
    rw [e0, e1, e2, e3, e4, Val.reference (Val.U m c) (Val.W m c)] at h5 h7
    rw [e0, e1, e2, Val.reference (Val.U m c) (Val.W m c)] at h6
    exact ⟨h5.trans k, h6.trans (RmsBack.reference_gain (Val.X m c) (Val.normed (Val.U m c) (Val.W m c))), h7.trans k, hr⟩

end Cert.UpBackIdeal

end
-- ==== Proof.RestBackBlocks.lean ====
module

public import proofs.«01_k».proof.Proof.RmsBack
public import proofs.«01_k».proof.Proof.Gen.RestBackIdeal.Value
public import proofs.«01_k».proof.Proof.Halves
public import Idealize.ShloMosaic.Lib.Pointwise
public import Idealize.ShloMosaic.Lib.StableHlo.ReadAt
public import Idealize.ShloMosaic.Lib.Pipeline.ValueKit

@[expose] public section

set_option maxRecDepth 16384

/-! # The way back through the rest of the projection and the first norm: one block of rows -/

noncomputable section

namespace Cert.RestBackIdeal.Val

open Cert.RestBackIdeal Cert.RestBackIdeal.Gen Cert.RestBackIdeal.Value
open Idealize.ShloMosaic Idealize.ShloMosaic.TcCoe
open Cert.Halves

section
variable (w : Vec Ideal S8192x1024 .bf16) (dz : Vec Ideal S256x8192 .bf16) (att x past : Vec Ideal S256x1024 .f32) (g : Vec Ideal S1x1024 .f32)

/-- The product of a block, and what the attention's columns give, -/
theorem part_at (a : Fin 256) (b : Fin 1024) : k0_pay2 (F := Ideal) w dz att (ix2 a b) = (∑ k : Fin 8192, dz (ix2 a k) * w (ix2 k b)) + att (ix2 a b) := by
  pointwise [k0_pay2]
/-- the scale of each row, -/
theorem scale_at (a : Fin 256) : k0_pay3 (F := Ideal) x (ix2 a 0) = RmsBack.scale fun k => x (ix2 a k) := by
  unfold RmsBack.scale RmsBack.spread
  pointwise [k0_pay3]
/-- the scaled rows, -/
theorem scaled_at (a : Fin 256) (b : Fin 1024) : k0_pay4 (F := Ideal) x (ix2 a b) = x (ix2 a b) * RmsBack.scale fun k => x (ix2 a k) := by
  rw [← scale_at]
  unfold k0_pay4
  generalize k0_pay3 (F := Ideal) x = s
  pointwise
/-- the block's part of the gain's gradient -/
theorem gain_at (b : Fin 1024) : k0_pay5 (F := Ideal) w dz att x (ix2 0 b)
    = ∑ a : Fin 256, ((∑ k : Fin 8192, dz (ix2 a k) * w (ix2 k b)) + att (ix2 a b)) * (x (ix2 a b) * RmsBack.scale fun k => x (ix2 a k)) := by
  refine Eq.trans ?_ (Finset.sum_congr rfl fun a _ => congrArg₂ (fun p q : EReal => p * q) (part_at w dz att a b) (scaled_at x a b))
  unfold k0_pay5
  generalize k0_pay2 (F := Ideal) w dz att = p
  generalize k0_pay4 (F := Ideal) x = s
  pointwise
/-- and the gradient in the input. -/
theorem input_at (a : Fin 256) (b : Fin 1024) : k0_pay6 (F := Ideal) w dz att x g past (ix2 a b)
    = past (ix2 a b) + RmsBack.back (fun k => x (ix2 a k)) (fun j => ((∑ k : Fin 8192, dz (ix2 a k) * w (ix2 k j)) + att (ix2 a j)) * g (ix2 0 j)) b := by
  have e : k0_pay6 (F := Ideal) w dz att x g past (ix2 a b) = past (ix2 a b) + k0_pay3 (F := Ideal) x (ix2 a 0) * (k0_pay2 (F := Ideal) w dz att (ix2 a b) * g (ix2 0 b)
      - k0_pay4 (F := Ideal) x (ix2 a b) * Ideal.div (∑ j : Fin 1024, k0_pay2 (F := Ideal) w dz att (ix2 a j) * g (ix2 0 j) * k0_pay4 (F := Ideal) x (ix2 a j)) (Ideal.ofBits .f32 0x44800000#32)) := by
    unfold k0_pay6
    generalize k0_pay2 (F := Ideal) w dz att = p
    generalize k0_pay4 (F := Ideal) x = s
    generalize k0_pay3 (F := Ideal) x = r
    pointwise
  rw [e]
  simp only [part_at, scaled_at, scale_at]
  rfl

end

section
variable (c : Dev nD) (i : grid0.Coords) (a3 : Memref sig .tc .vmem S256x8192 .bf16) (h3 : a3.IsWhole) (a4 : Memref sig .tc .vmem S8192x1024 .bf16) (h4 : a4.IsWhole)
  (a5 : Memref sig .tc .vmem S256x1024 .f32) (h5 : a5.IsWhole) (a6 : Memref sig .tc .vmem S256x1024 .f32) (h6 : a6.IsWhole)
  (a7 : Memref sig .tc .vmem S256x1024 .f32) (h7 : a7.IsWhole) (a8 : Memref sig .tc .vmem S1x1024 .f32) (h8 : a8.IsWhole)
  (a9 : Memref sig .tc .vmem S256x1024 .f32) (h9 : a9.IsWhole) (a10 : Memref sig .tc .vmem S1x1024 .f32) (h10 : a10.IsWhole)
  (x0 : Vec Ideal S256x8192 .bf16) (x1 : Vec Ideal S8192x1024 .bf16) (x2 x3 x4 : Vec Ideal S256x1024 .f32) (x5 o : Vec Ideal S1x1024 .f32)

/-- What the first block of rows writes: the gradient in the input -/
theorem first6 (p0 : cond0_0 i) (p1 : ¬cond0_1 i) :
    out0_A_6 (F := Ideal) c i a3 h3 a4 h4 a5 h5 a6 h6 a7 h7 a8 h8 a9 h9 a10 h10 p0 p1 x0 x1 x2 x3 x4 x5 = k0_pay6 (F := Ideal) x1 x0 x2 x3 x5 x4 := by
  unfold out0_A_6
  rw [View.read_writes_eq_canon _ _ _ (cover0_A_6 c i a3 h3 a4 h4 a5 h5 a6 h6 a7 h7 a8 h8 a9 h9 a10 h10 p0 p1 x0 x1 x2 x3 x4 x5)]
  unfold kernelRun0_A
  dsimp only
  sl_unfold_words
  rw [View.canon_unit_zero zeros]
  simp only [View.readAt_eq_ld, h3.read_unread, h4.read_unread, h5.read_unread, h6.read_unread, h7.read_unread, h8.read_unread, View.ld_unit_zero (S := S8192x1024) zeros,
    View.ld_unit_zero (S := S256x8192) zeros, View.ld_unit_zero (S := S256x1024) zeros, View.ld_unit_zero (S := S1x1024) zeros, shapeCast_self]
/-- and its part of the gain's gradient. -/
theorem first7 (p0 : cond0_0 i) (p1 : ¬cond0_1 i) :
    out0_A_7 (F := Ideal) c i a3 h3 a4 h4 a5 h5 a6 h6 a7 h7 a8 h8 a9 h9 a10 h10 p0 p1 x0 x1 x2 x3 x4 x5 = k0_pay5 (F := Ideal) x1 x0 x2 x3 := by
  unfold out0_A_7
  rw [View.read_writes_eq_canon _ _ _ (cover0_A_7 c i a3 h3 a4 h4 a5 h5 a6 h6 a7 h7 a8 h8 a9 h9 a10 h10 p0 p1 x0 x1 x2 x3 x4 x5)]
  unfold kernelRun0_A
  dsimp only
  sl_unfold_words
  rw [View.canon_unit_zero zeros]
  simp only [View.readAt_eq_ld, h3.read_unread, h4.read_unread, h5.read_unread, h6.read_unread, View.ld_unit_zero (S := S8192x1024) zeros,
    View.ld_unit_zero (S := S256x8192) zeros, View.ld_unit_zero (S := S256x1024) zeros, shapeCast_self]
/-- The later blocks write the same of their own rows, -/
theorem later6 (p0 : ¬cond0_0 i) (p1 : cond0_1 i) :
    out0_B_6 (F := Ideal) c i a3 h3 a4 h4 a5 h5 a6 h6 a7 h7 a8 h8 a9 h9 a10 h10 p0 p1 x0 x1 x2 x3 x4 x5 o = k0_pay6 (F := Ideal) x1 x0 x2 x3 x5 x4 := by
  unfold out0_B_6
  rw [View.read_writes_eq_canon _ _ _ (cover0_B_6 c i a3 h3 a4 h4 a5 h5 a6 h6 a7 h7 a8 h8 a9 h9 a10 h10 p0 p1 x0 x1 x2 x3 x4 x5 o)]
  unfold kernelRun0_B
  dsimp only
  sl_unfold_words
  rw [View.canon_unit_zero zeros]
  simp only [View.readAt_eq_ld, h3.read_unread, h4.read_unread, h5.read_unread, h6.read_unread, h7.read_unread, h8.read_unread, View.ld_unit_zero (S := S8192x1024) zeros,
    View.ld_unit_zero (S := S256x8192) zeros, View.ld_unit_zero (S := S256x1024) zeros, View.ld_unit_zero (S := S1x1024) zeros, shapeCast_self]
/-- and add their part of the gain's gradient to what is there. -/
theorem later7 (p0 : ¬cond0_0 i) (p1 : cond0_1 i) :
    out0_B_7 (F := Ideal) c i a3 h3 a4 h4 a5 h5 a6 h6 a7 h7 a8 h8 a9 h9 a10 h10 p0 p1 x0 x1 x2 x3 x4 x5 o = addf o (k0_pay5 (F := Ideal) x1 x0 x2 x3) := by
  unfold out0_B_7
  rw [View.read_writes_eq_canon _ _ _ (cover0_B_7 c i a3 h3 a4 h4 a5 h5 a6 h6 a7 h7 a8 h8 a9 h9 a10 h10 p0 p1 x0 x1 x2 x3 x4 x5 o)]
  unfold kernelRun0_B
  dsimp only
  sl_unfold_words
  rw [View.canon_unit_zero zeros]
  unfold k0_pay1
  simp only [View.readAt_eq_ld, h3.read_unread, h4.read_unread, h5.read_unread, h6.read_unread, h10.read_unread, View.ld_unit_zero (S := S8192x1024) zeros,
    View.ld_unit_zero (S := S256x8192) zeros, View.ld_unit_zero (S := S256x1024) zeros, View.ld_unit_zero (S := S1x1024) zeros, shapeCast_self]

end

end Cert.RestBackIdeal.Val

end
-- ==== Proof.RestBackValue.lean ====
module

public import proofs.«01_k».proof.Defs
public import proofs.«01_k».proof.Proof.RestBackBlocks
public import proofs.«01_k».proof.Proof.RmsReference
public import proofs.«01_k».proof.Proof.Gen.RestBackReferenceIdeal.Run

@[expose] public section

set_option maxRecDepth 16384

/-! # The way back through the rest of the projection and the first norm -/

noncomputable section

namespace Cert.RestBackIdeal.Val

open Cert.RestBackIdeal Cert.RestBackIdeal.Gen Cert.RestBackIdeal.Value
open Idealize.ShloMosaic Idealize.ShloMosaic.TcCoe Idealize.SL.Sem
open Cert.Halves

variable (m : (ℓ : Loc nD τ sig) → Buf (Elt Ideal) ℓ) (c : Dev nD)

/-- The arguments: the gradient in the projection, the weight, what the attention's columns give, the norm's input, what comes past the norm,
    the gain. -/
abbrev Z : S8192x8192.Idx → EReal := m ((c.tc : Thread nD τ).loc main_arg0)
abbrev W : S1024x8192.Idx → EReal := m ((c.tc : Thread nD τ).loc main_arg1)
abbrev A : S8192x1024.Idx → EReal := m ((c.tc : Thread nD τ).loc main_arg2)
abbrev X : S8192x1024.Idx → EReal := m ((c.tc : Thread nD τ).loc main_arg3)
abbrev P : S8192x1024.Idx → EReal := m ((c.tc : Thread nD τ).loc main_arg4)
abbrev G : S1x1024.Idx → EReal := m ((c.tc : Thread nD τ).loc main_arg5)

/-- The gradient in the normed rows. -/
def normed (z : S8192x8192.Idx → EReal) (w : S1024x8192.Idx → EReal) (a : S8192x1024.Idx → EReal) : S8192x1024.Idx → EReal :=
  fun i => (∑ k : Fin 8192, z (ix2 (i 0) k) * w (ix2 (i 1) k)) + a i

/-- Where the blocks lie. -/
theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 0 := by decide +kernel
theorem index3 : ∀ t : Fin cfg0.N, win0_3.index t 0 = t.val ∧ win0_3.index t 1 = 0 := by decide +kernel
theorem index4 : ∀ t : Fin cfg0.N, win0_4.index t 0 = t.val ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = t.val ∧ win0_6.index t 1 = 0 := by decide +kernel
theorem index7 : ∀ t : Fin cfg0.N, win0_7.index t 0 = 0 ∧ win0_7.index t 1 = 0 := by decide +kernel
theorem last7 : ∀ t : Fin cfg0.N, (cfg0.win 7).flush t = true → t.val = 31 := by decide +kernel

/-- The row of the whole that is row `a` of block `t`. -/
def at_ (t : Fin cfg0.N) (a : Fin 256) : Fin 8192 := ⟨256 * t.val + a.val, by have := lt_of_lt_of_eq t.isLt (show cfg0.N = 32 from N_0); omega⟩

theorem block0 (t : Fin cfg0.N) (a : Fin 256) (k : Fin 8192) : (iblk m c 0 t : Vec Ideal S256x8192 .bf16) (ix2 a k) = Z m c (ix2 (at_ t a) k) := by
  rw [Z, ← V_main_arg0 m c, at_]
  blk_simp [iblk]; blk_ext <;> simp only [index0] <;> omega
/-- The weight is turned before the kernel reads it. -/
theorem turned (k : Fin 8192) (b : Fin 1024) : V m c main_v0 (ix2 k b) = W m c (ix2 b k) := by
  have e : (V m c main_v0 : FVec Ideal S8192x1024 .bf16) = transpose S8192x1024 [1, 0] (W m c) transposes_S1024x8192_S8192x1024_1_0 := by
    simp only [V, hostOps0]; after_reads_at
  rw [e]
  pointwise
theorem block1 (t : Fin cfg0.N) (k : Fin 8192) (b : Fin 1024) : (iblk m c 1 t : Vec Ideal S8192x1024 .bf16) (ix2 k b) = W m c (ix2 b k) := by
  refine Eq.trans ?_ (turned m c k b)
  blk_simp [iblk]; blk_ext <;> simp only [index1] <;> omega
theorem block2 (t : Fin cfg0.N) (a : Fin 256) (b : Fin 1024) : (iblk m c 2 t : Vec Ideal S256x1024 .f32) (ix2 a b) = A m c (ix2 (at_ t a) b) := by
  rw [A, ← V_main_arg2 m c, at_]
  blk_simp [iblk]; blk_ext <;> simp only [index2] <;> omega
theorem block3 (t : Fin cfg0.N) (a : Fin 256) (b : Fin 1024) : (iblk m c 3 t : Vec Ideal S256x1024 .f32) (ix2 a b) = X m c (ix2 (at_ t a) b) := by
  rw [X, ← V_main_arg3 m c, at_]
  blk_simp [iblk]; blk_ext <;> simp only [index3] <;> omega
theorem block4 (t : Fin cfg0.N) (a : Fin 256) (b : Fin 1024) : (iblk m c 4 t : Vec Ideal S256x1024 .f32) (ix2 a b) = P m c (ix2 (at_ t a) b) := by
  rw [P, ← V_main_arg4 m c, at_]
  blk_simp [iblk]; blk_ext <;> simp only [index4] <;> omega
theorem block5 (t : Fin cfg0.N) (b : Fin 1024) : (iblk m c 5 t : Vec Ideal S1x1024 .f32) (ix2 0 b) = G m c (ix2 0 b) := by
  rw [G, ← V_main_arg5 m c]
  blk_simp [iblk]; blk_ext <;> simp only [index5] <;> omega

/-- A block's row of gradients in the normed rows, -/
theorem normed_at (t : Fin cfg0.N) (z : Vec Ideal S256x8192 .bf16) (w : Vec Ideal S8192x1024 .bf16) (d : Vec Ideal S256x1024 .f32) (hz : z = iblk m c 0 t) (hw : w = iblk m c 1 t)
    (hd : d = iblk m c 2 t) (a : Fin 256) (b : Fin 1024) :
    (∑ k : Fin 8192, z (ix2 a k) * w (ix2 k b)) + d (ix2 a b) = normed (Z m c) (W m c) (A m c) (ix2 (at_ t a) b) := by
  subst hz hw hd
  exact congrArg₂ (fun p q : EReal => p + q) (Finset.sum_congr rfl fun k _ => congrArg₂ (fun p q : EReal => p * q) (block0 m c t a k) (block1 m c t k b)) (block2 m c t a b)
/-- of inputs, -/
theorem row_at (t : Fin cfg0.N) (a : Fin 256) : (fun k => (iblk m c 3 t : Vec Ideal S256x1024 .f32) (ix2 a k)) = RmsBack.row (X m c) (at_ t a) :=
  funext fun k => block3 m c t a k

/-- of gradients in the input, -/
theorem input_block (t : Fin cfg0.N) (a : Fin 256) (b : Fin 1024) :
    k0_pay6 (F := Ideal) (iblk m c 1 t) (iblk m c 0 t) (iblk m c 2 t) (iblk m c 3 t) (iblk m c 5 t) (iblk m c 4 t) (ix2 a b)
    = RmsBack.input (X m c) (normed (Z m c) (W m c) (A m c)) (P m c) (G m c) (ix2 (at_ t a) b) := by
  refine (input_at _ _ _ _ _ _ a b).trans ?_
  exact congrArg₂ (fun p q : EReal => p + q) (block4 m c t a b) (congrArg₂ (fun p q => RmsBack.back p q b) (row_at m c t a)
    (funext fun j => congrArg₂ (fun p q : EReal => p * q) (normed_at m c t _ _ _ rfl rfl rfl a j) (block5 m c t j)))
/-- and its part of the gain's gradient. -/
def part (b : Fin 1024) (g : Fin 32) : EReal := ∑ a : Fin 256, normed (Z m c) (W m c) (A m c) (ix2 ⟨256 * g.val + a.val, by omega⟩ b)
  * (X m c (ix2 ⟨256 * g.val + a.val, by omega⟩ b) * RmsBack.scale (RmsBack.row (X m c) ⟨256 * g.val + a.val, by omega⟩))
theorem gain_block (t : Fin cfg0.N) (b : Fin 1024) : k0_pay5 (F := Ideal) (iblk m c 1 t) (iblk m c 0 t) (iblk m c 2 t) (iblk m c 3 t) (ix2 0 b)
    = part m c b ⟨t.val, lt_of_lt_of_eq t.isLt (show cfg0.N = 32 from N_0)⟩ := by
  refine (gain_at _ _ _ _ b).trans ?_
  exact Finset.sum_congr rfl fun a _ => congrArg₂ (fun p q : EReal => p * q) (normed_at m c t _ _ _ rfl rfl rfl a b)
    (congrArg₂ (fun p q : EReal => p * q) (block3 m c t a b) (congrArg RmsBack.scale (row_at m c t a)))

/-- Every point writes its rows of the gradient in the input, -/
theorem outs6 (t : Fin cfg0.N) : (outsAt0 m c t.val t.isLt).1
    = k0_pay6 (F := Ideal) (iblk m c 1 t) (iblk m c 0 t) (iblk m c 2 t) (iblk m c 3 t) (iblk m c 5 t) (iblk m c 4 t) := by
  have hN : t.val < 32 := lt_of_lt_of_eq t.isLt (show cfg0.N = 32 from N_0)
  by_cases h : t.val = 0
  · rw [outsAt0_A m c t (by omega) (by omega)]; dsimp only; rw [first6]
  · rw [outsAt0_B m c t (by omega) (by omega)]; dsimp only; rw [later6]
/-- and leaves the sum of the parts so far. -/
theorem outs7 (n : ℕ) (hn : n < cfg0.N) (b : Fin 1024) : (outsAt0 m c n hn).2 (ix2 0 b)
    = ∑ g : Fin (n + 1), part m c b ⟨g.val, by have := lt_of_lt_of_eq hn (show cfg0.N = 32 from N_0); omega⟩ := by
  induction n with
  | zero =>
    rw [outsAt0_A m c ⟨0, hn⟩ (by dsimp only) (by dsimp only; omega)]
    dsimp only
    rw [first7, gain_block]
    exact (Fin.sum_univ_one fun g : Fin 1 => part m c b ⟨g.val, by omega⟩).symm
  | succ n ih =>
    have hN : n + 1 < 32 := lt_of_lt_of_eq hn (show cfg0.N = 32 from N_0)
    rw [outsAt0_B m c ⟨n + 1, hn⟩ (by dsimp only; omega) (by dsimp only; omega)]
    dsimp only
    rw [later7, Fin.sum_univ_castSucc]
    show (outsAt0 m c n _).2 (ix2 0 b) + k0_pay5 (F := Ideal) _ _ _ _ (ix2 0 b) = _
    rw [ih, gain_block]
    rfl

/-- The blocks make the results whole: the gradient in the input, -/
theorem result6 : (dats m 0 c).arrAt 6 cfg0.N = RmsBack.input (X m c) (normed (Z m c) (W m c) (A m c)) (P m c) (G m c) := by
  refine (dats m 0 c).arrAt_eq_of_covers 6 _ (by decide +kernel) fun t hf y => ?_
  obtain ⟨a, b, rfl⟩ : ∃ (a : Fin 256) (b : Fin 1024), y = ix2 a b := ⟨y 0, y 1, eq_ix2 y⟩
  blk_simp
  rw [after0_6, outs6, input_block, at_]
  congr 1
  blk_ext <;> simp only [index6] <;> omega
/-- and, the last point's sum being over all the rows, the gain's gradient. -/
theorem result7 : (dats m 0 c).arrAt 7 cfg0.N = RmsBack.gain (X m c) (normed (Z m c) (W m c) (A m c)) := by
  refine (dats m 0 c).arrAt_eq_of_covers 7 _ (by decide +kernel) fun t hf y => ?_
  obtain ⟨b, rfl⟩ : ∃ b : Fin 1024, y = ix2 0 b := ⟨y 1, by rw [eq_ix2 y]; congr 1; exact Subsingleton.elim _ _⟩
  have e : ∀ (n : ℕ) (hn : n < cfg0.N), n = 31 → (outsAt0 m c n hn).2 (ix2 0 b) = RmsBack.gain (X m c) (normed (Z m c) (W m c) (A m c)) (ix2 0 b) := by
    rintro n hn rfl
    rw [outs7, RmsBack.gain, Cert.MlpIdeal.Val.sum_blocks 32 256]
    rfl
  have ht := last7 t hf
  blk_simp
  rw [after0_7, e _ _ ht]
  congr 1
  blk_ext <;> simp only [index7] <;> omega

/-- The gradient in the normed rows, as the other program states it. -/
theorem reference (z : S8192x8192.Idx → EReal) (w : S1024x8192.Idx → EReal) (d : S8192x1024.Idx → EReal) :
    addf (F := Ideal) (φ := .f32) (Host.dotGeneral (F := Ideal) Cert.RestBackReferenceIdeal.dot_S8192x8192_S1024x8192_S8192x1024_1_1_0_0_n_n none
      (extf (φ := .bf16) .f32 z Cert.RestBackReferenceIdeal.Gen.bitsLt_bf16_f32) (extf (φ := .bf16) .f32 w Cert.RestBackReferenceIdeal.Gen.bitsLt_bf16_f32)
      : FVec Ideal Cert.RestBackReferenceIdeal.S8192x1024 .f32) d = normed z w d := by
  funext i
  rw [eq_ix2 i]
  unfold normed
  pointwise

end Cert.RestBackIdeal.Val

namespace Cert.RestBackIdeal

open Idealize.ShloMosaic Idealize.SL.Sem

/-- From equal arguments the two programs end with the same gradients in the norm's input and in its gain. -/
theorem algebraic : Cert.algebraic_RestBackIdeal_RestBackReferenceIdeal := by
  intro m g m' g' _ hin
  refine ⟨fun c => RmsBack.input (Val.X m c) (Val.normed (Val.Z m c) (Val.W m c) (Val.A m c)) (Val.P m c) (Val.G m c),
    fun c => RmsBack.gain (Val.X m c) (Val.normed (Val.Z m c) (Val.W m c) (Val.A m c)),
    (θ_run _ _ _).mono (fun r hr c => ?_) (Value.run_blocks m g), (θ_run _ _ _).mono (fun r hr c => ?_) (Cert.RestBackReferenceIdeal.Value.run m' g')⟩
  · obtain ⟨h6, h7, hr⟩ := hr c
    exact ⟨h6.trans (Val.result6 m c), h7.trans (Val.result7 m c), hr⟩
  · obtain ⟨e0, e1, e2, e3, e4, e5⟩ := hin c
    obtain ⟨h6, h7, hr⟩ := hr c
    unfold Cert.RestBackReferenceIdeal.Value.res_main_v42 at h6
    rw [e0, e1, e2, e3, e4, e5, Val.reference (Val.Z m c) (Val.W m c) (Val.A m c)] at h6
    rw [e0, e1, e2, e3, Val.reference (Val.Z m c) (Val.W m c) (Val.A m c)] at h7
    exact ⟨h6.trans (RmsBack.reference_input (Val.X m c) _ (Val.P m c) (Val.G m c)), h7.trans (RmsBack.reference_gain (Val.X m c) _), hr⟩

end Cert.RestBackIdeal

end
-- ==== Proof.MergeBlocks.lean ====
module

public import proofs.«01_k».proof.Proof.RmsReference
public import proofs.«01_k».proof.Proof.Gen.MergeIdeal.Value
public import proofs.«01_k».proof.Proof.Gen.MergeReferenceIdeal.Run
public import proofs.«01_k».proof.Proof.Halves
public import Idealize.ShloMosaic.Lib.Pointwise

@[expose] public section

set_option maxRecDepth 16384

/-! # The merge of the two branches: what it computes, one block of rows, and the other program's form -/

noncomputable section

namespace Cert.MergeIdeal.Val

open Cert.MergeIdeal Cert.MergeIdeal.Gen
open Idealize.ShloMosaic
open Cert.Halves

/-! ## What is computed -/

section
variable (oa : S8192x512.Idx → EReal) (ob : S8192x2048.Idx → EReal) (z : S8192x8192.Idx → EReal) (x : S8192x1024.Idx → EReal)
  (wa : S512x1024.Idx → EReal) (wb : S2048x1024.Idx → EReal) (wo : S1024x1024.Idx → EReal) (g : S1x1024.Idx → EReal)

/-- The two branches' projections, -/
def branchA : S8192x1024.Idx → EReal := fun i => ∑ k : Fin 512, oa (ix2 (i 0) k) * wa (ix2 k (i 1))
def branchB : S8192x1024.Idx → EReal := fun i => ∑ k : Fin 2048, ob (ix2 (i 0) k) * wb (ix2 k (i 1))
/-- each times its gate and added, -/
def mixed : S8192x1024.Idx → EReal := fun i =>
  Ideal.logistic (z (ix2 (i 0) ⟨6144 + (i 1).val, by have : (i 1).val < 1024 := (i 1).isLt; omega⟩)) * branchA oa wa i
  + Ideal.logistic (z (ix2 (i 0) ⟨7168 + (i 1).val, by have : (i 1).val < 1024 := (i 1).isLt; omega⟩)) * branchB ob wb i
/-- the output projection on top of the input, -/
def stream : S8192x1024.Idx → EReal := fun i => x i + ∑ k : Fin 1024, mixed oa ob z wa wb (ix2 (i 0) k) * wo (ix2 k (i 1))
/-- and the norm of that. -/
def norm (s : S8192x1024.Idx → EReal) (g : S1x1024.Idx → EReal) : S8192x1024.Idx → EReal :=
  fun i => s i * RmsBack.scale (RmsBack.row s (i 0)) * g (ix2 0 (i 1))

end

/-! ## One block of rows -/

section
variable (x0 : Vec Ideal S512x512 .f32) (x1 : Vec Ideal S512x2048 .bf16) (x2 x3 : Vec Ideal S512x1024 .bf16) (x4 : Vec Ideal S512x1024 .f32)
  (x5 : Vec Ideal S512x1024 .bf16) (x6 : Vec Ideal S2048x1024 .bf16) (x7 : Vec Ideal S1024x1024 .bf16) (x8 : Vec Ideal S1x1024 .f32)

/-- The five results are the five expressions of the block. -/
theorem out9 : out0_9 (F := Ideal) x0 x1 x2 x3 x4 x5 x6 x7 x8 = k0_pay5 (F := Ideal) x0 x5 x1 x6 x2 x3 x4 x7 := by
  unfold out0_9
  rw [View.canon_unit_zero zeros]
  simp only [View.ld_unit_zero (S := S512x512) zeros, View.ld_unit_zero (S := S512x1024) zeros, View.ld_unit_zero (S := S512x2048) zeros,
    View.ld_unit_zero (S := S2048x1024) zeros, View.ld_unit_zero (S := S1024x1024) zeros]
theorem out10 : out0_10 (F := Ideal) x0 x1 x2 x3 x4 x5 x6 x7 x8 = k0_pay4 (F := Ideal) x0 x5 x1 x6 x2 x3 := by
  unfold out0_10
  rw [View.canon_unit_zero zeros]
  simp only [View.ld_unit_zero (S := S512x512) zeros, View.ld_unit_zero (S := S512x1024) zeros, View.ld_unit_zero (S := S512x2048) zeros,
    View.ld_unit_zero (S := S2048x1024) zeros]
theorem out11 : out0_11 (F := Ideal) x0 x1 x2 x3 x4 x5 x6 x7 x8 = k0_pay2 (F := Ideal) x0 x5 := by
  unfold out0_11
  rw [View.canon_unit_zero zeros]
  simp only [View.ld_unit_zero (S := S512x512) zeros, View.ld_unit_zero (S := S512x1024) zeros]
  rfl
theorem out12 : out0_12 (F := Ideal) x0 x1 x2 x3 x4 x5 x6 x7 x8 = k0_pay3 (F := Ideal) x1 x6 := by
  unfold out0_12
  rw [View.canon_unit_zero zeros]
  simp only [View.ld_unit_zero (S := S512x2048) zeros, View.ld_unit_zero (S := S2048x1024) zeros]
  rfl
theorem out13 : out0_13 (F := Ideal) x0 x1 x2 x3 x4 x5 x6 x7 x8
    = k0_pay1 (F := Ideal) (k0_pay5 (F := Ideal) x0 x5 x1 x6 x2 x3 x4 x7) (mulf (k0_pay5 (F := Ideal) x0 x5 x1 x6 x2 x3 x4 x7) (k0_pay5 (F := Ideal) x0 x5 x1 x6 x2 x3 x4 x7)) x8 := by
  unfold out0_13 k0_pay8
  rw [View.canon_unit_zero zeros]
  simp only [View.ld_unit_zero (S := S512x512) zeros, View.ld_unit_zero (S := S512x1024) zeros, View.ld_unit_zero (S := S512x2048) zeros,
    View.ld_unit_zero (S := S2048x1024) zeros, View.ld_unit_zero (S := S1024x1024) zeros, View.ld_unit_zero (S := S1x1024) zeros]

/-- The expressions at an index: the two products, -/
theorem first_at (a : Fin 512) (b : Fin 1024) : k0_pay2 (F := Ideal) x0 x5 (ix2 a b) = ∑ k : Fin 512, x0 (ix2 a k) * x5 (ix2 k b) := by
  pointwise [k0_pay2]
theorem second_at (a : Fin 512) (b : Fin 1024) : k0_pay3 (F := Ideal) x1 x6 (ix2 a b) = ∑ k : Fin 2048, x1 (ix2 a k) * x6 (ix2 k b) := by
  pointwise [k0_pay3]
/-- the gated sum, -/
theorem mixed_at (a : Fin 512) (b : Fin 1024) : k0_pay4 (F := Ideal) x0 x5 x1 x6 x2 x3 (ix2 a b)
    = Ideal.logistic (x2 (ix2 a b)) * k0_pay2 (F := Ideal) x0 x5 (ix2 a b) + Ideal.logistic (x3 (ix2 a b)) * k0_pay3 (F := Ideal) x1 x6 (ix2 a b) := by
  unfold k0_pay4
  generalize k0_pay2 (F := Ideal) x0 x5 = p
  generalize k0_pay3 (F := Ideal) x1 x6 = q
  pointwise
/-- the sum with the input -/
theorem stream_at (a : Fin 512) (b : Fin 1024) : k0_pay5 (F := Ideal) x0 x5 x1 x6 x2 x3 x4 x7 (ix2 a b)
    = x4 (ix2 a b) + ∑ k : Fin 1024, k0_pay4 (F := Ideal) x0 x5 x1 x6 x2 x3 (ix2 a k) * x7 (ix2 k b) := by
  unfold k0_pay5
  generalize k0_pay4 (F := Ideal) x0 x5 x1 x6 x2 x3 = p
  pointwise
/-- and its norm. -/
theorem norm_at (s : Vec Ideal S512x1024 .f32) (a : Fin 512) (b : Fin 1024) : k0_pay1 (F := Ideal) s (mulf s s) x8 (ix2 a b)
    = s (ix2 a b) * RmsBack.scale (fun k => s (ix2 a k)) * x8 (ix2 0 b) := by
  unfold RmsBack.scale RmsBack.spread
  pointwise [k0_pay1]

end

end Cert.MergeIdeal.Val

namespace Cert.MergeReferenceIdeal.Val

open Cert.MergeReferenceIdeal Cert.MergeReferenceIdeal.Gen
open Cert.MergeIdeal.Val (branchA branchB mixed stream norm)
open Idealize.ShloMosaic

/-! ## The other program's form -/

section
variable (oa : FVec Ideal S8192x512 .f32) (ob : FVec Ideal S8192x2048 .bf16) (z : FVec Ideal S8192x8192 .bf16) (x s p q y : FVec Ideal S8192x1024 .f32)
  (wa : FVec Ideal S512x1024 .bf16) (wb : FVec Ideal S2048x1024 .bf16) (wo : FVec Ideal S1024x1024 .bf16) (g : FVec Ideal S1x1024 .f32)

/-- The two products. -/
theorem reference_a : Host.dotGeneral (F := Ideal) (φ₁ := .f32) (φ₂ := .f32) dot_S8192x512_S512x1024_S8192x1024_1_0_0_1_n_n none oa (extf .f32 wa bitsLt_bf16_f32) = branchA oa wa := by
  funext i
  rw [eq_ix2 i]
  unfold branchA
  pointwise
theorem reference_b : Host.dotGeneral (F := Ideal) dot_S8192x2048_S2048x1024_S8192x1024_1_0_0_1_n_n none (extf .f32 ob bitsLt_bf16_f32) (extf .f32 wb bitsLt_bf16_f32) = branchB ob wb := by
  funext i
  rw [eq_ix2 i]
  unfold branchB
  pointwise

/-- A column of gates: one over one and the exponential. -/
abbrev gates (u : FVec Ideal S8192x1024 .bf16) : FVec Ideal S8192x1024 .f32 :=
  Host.divf (broadcastInDim S8192x1024 ![] bcast_S_S8192x1024 (constant S_ .f32 0x3F800000#32)) (addf (broadcastInDim S8192x1024 ![] bcast_S_S8192x1024 (constant S_ .f32 0x3F800000#32))
    (Host.exp (Host.negf (extf .f32 u bitsLt_bf16_f32))))
theorem gates_at (u : FVec Ideal S8192x1024 .bf16) (i : S8192x1024.Idx) : gates u i = Ideal.logistic (u i) := by
  have e : Ideal.ofBits .f32 0x3F800000#32 = 1 := Cert.MlpIdeal.Val.one_eq.trans EReal.coe_one
  refine Eq.trans (b := Ideal.div (Ideal.ofBits .f32 0x3F800000#32) (Ideal.ofBits .f32 0x3F800000#32 + Ideal.exp (-(u i)))) ?_ (by rw [e]; rfl)
  rw [eq_ix2 i]
  pointwise

/-- The gated sum. -/
theorem reference_mixed : addf (mulf (gates (extractStridedSlice S8192x1024 ![0, 6144] z slices_S8192x8192_S8192x1024_0_6144)) (branchA oa wa))
    (mulf (gates (extractStridedSlice S8192x1024 ![0, 7168] z slices_S8192x8192_S8192x1024_0_7168)) (branchB ob wb)) = mixed oa ob z wa wb := by
  funext i
  obtain ⟨R, b, rfl⟩ : ∃ (R : Fin 8192) (b : Fin 1024), i = ix2 R b := ⟨i 0, i 1, eq_ix2 i⟩
  have slice (n : ℕ) (h : S8192x8192.Slices ![0, n] S8192x1024) (hn : n + b.val < 8192) : extractStridedSlice S8192x1024 ![0, n] z h (ix2 R b) = z (ix2 R ⟨n + b.val, hn⟩) := by
    pointwise
  show gates _ (ix2 R b) * branchA oa wa (ix2 R b) + gates _ (ix2 R b) * branchB ob wb (ix2 R b) = _
  rw [gates_at, gates_at, slice 6144 _ (by omega), slice 7168 _ (by omega)]
  rfl

/-- The sum with the input. -/
theorem reference_stream : addf x (Host.dotGeneral (F := Ideal) (φ₁ := .f32) dot_S8192x1024_S1024x1024_S8192x1024_1_0_0_1_n_n none (mixed oa ob z wa wb : FVec Ideal S8192x1024 .f32) (extf .f32 wo bitsLt_bf16_f32))
    = stream oa ob z x wa wb wo := by
  funext i
  rw [eq_ix2 i]
  unfold stream
  generalize mixed oa ob z wa wb = y
  pointwise

/-- Its norm. -/
theorem reference_norm : mulf (mulf s (broadcastInDim S8192x1024 ![0, 1] bcast_S8192x1_S8192x1024_0_1 (Host.rsqrt (RmsBack.spreads s)))) (RmsBack.gains g) = norm s g := by
  funext i
  obtain ⟨R, b, rfl⟩ : ∃ (R : Fin 8192) (b : Fin 1024), i = ix2 R b := ⟨i 0, i 1, eq_ix2 i⟩
  exact congrArg₂ (fun p q : EReal => p * q) (congrArg (s (ix2 R b) * ·) (RmsBack.scales_at s R b)) (RmsBack.gains_at g R b)

end

end Cert.MergeReferenceIdeal.Val

end
-- ==== Proof.MergeValue.lean ====
module

public import proofs.«01_k».proof.Defs
public import proofs.«01_k».proof.Proof.MergeBlocks
public import Idealize.ShloMosaic.Lib.Pipeline.ValueKit

@[expose] public section

set_option maxRecDepth 16384

/-! # The merge of the two branches -/

noncomputable section

namespace Cert.MergeIdeal.Val

open Cert.MergeIdeal Cert.MergeIdeal.Gen Cert.MergeIdeal.Value
open Idealize.ShloMosaic Idealize.ShloMosaic.TcCoe Idealize.SL.Sem
open Cert.Halves

variable (m : (ℓ : Loc nD τ sig) → Buf (Elt Ideal) ℓ) (c : Dev nD)

/-- The arguments: the branches' outputs, the projection with the gates in it, the input, the three weights, the gain. -/
abbrev OA : S8192x512.Idx → EReal := m ((c.tc : Thread nD τ).loc main_arg0)
abbrev OB : S8192x2048.Idx → EReal := m ((c.tc : Thread nD τ).loc main_arg1)
abbrev Z : S8192x8192.Idx → EReal := m ((c.tc : Thread nD τ).loc main_arg2)
abbrev X : S8192x1024.Idx → EReal := m ((c.tc : Thread nD τ).loc main_arg3)
abbrev WA : S512x1024.Idx → EReal := m ((c.tc : Thread nD τ).loc main_arg4)
abbrev WB : S2048x1024.Idx → EReal := m ((c.tc : Thread nD τ).loc main_arg5)
abbrev WO : S1024x1024.Idx → EReal := m ((c.tc : Thread nD τ).loc main_arg6)
abbrev G : S1x1024.Idx → EReal := m ((c.tc : Thread nD τ).loc main_arg7)

/-- Where the blocks lie. -/
theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = t.val ∧ win0_2.index t 1 = 6 := by decide +kernel
theorem index3 : ∀ t : Fin cfg0.N, win0_3.index t 0 = t.val ∧ win0_3.index t 1 = 7 := by decide +kernel
theorem index4 : ∀ t : Fin cfg0.N, win0_4.index t 0 = t.val ∧ win0_4.index t 1 = 0 := by decide +kernel
theorem index5 : ∀ t : Fin cfg0.N, win0_5.index t 0 = 0 ∧ win0_5.index t 1 = 0 := by decide +kernel
theorem index6 : ∀ t : Fin cfg0.N, win0_6.index t 0 = 0 ∧ win0_6.index t 1 = 0 := by decide +kernel
theorem index7 : ∀ t : Fin cfg0.N, win0_7.index t 0 = 0 ∧ win0_7.index t 1 = 0 := by decide +kernel
theorem index8 : ∀ t : Fin cfg0.N, win0_8.index t 0 = 0 ∧ win0_8.index t 1 = 0 := by decide +kernel
theorem index9 : ∀ t : Fin cfg0.N, win0_9.index t 0 = t.val ∧ win0_9.index t 1 = 0 := by decide +kernel
theorem index10 : ∀ t : Fin cfg0.N, win0_10.index t 0 = t.val ∧ win0_10.index t 1 = 0 := by decide +kernel
theorem index11 : ∀ t : Fin cfg0.N, win0_11.index t 0 = t.val ∧ win0_11.index t 1 = 0 := by decide +kernel
theorem index12 : ∀ t : Fin cfg0.N, win0_12.index t 0 = t.val ∧ win0_12.index t 1 = 0 := by decide +kernel
theorem index13 : ∀ t : Fin cfg0.N, win0_13.index t 0 = t.val ∧ win0_13.index t 1 = 0 := by decide +kernel

/-- The row of the whole that is row `a` of block `t`. -/
def at_ (t : Fin cfg0.N) (a : Fin 512) : Fin 8192 := ⟨512 * t.val + a.val, by have := lt_of_lt_of_eq t.isLt (show cfg0.N = 16 from N_0); omega⟩

theorem block0 (t : Fin cfg0.N) (a k : Fin 512) : (iblk m c 0 t : Vec Ideal S512x512 .f32) (ix2 a k) = OA m c (ix2 (at_ t a) k) := by
  rw [OA, ← V_main_arg0 m c, at_]
  blk_simp [iblk]; blk_ext <;> simp only [index0] <;> omega
theorem block1 (t : Fin cfg0.N) (a : Fin 512) (k : Fin 2048) : (iblk m c 1 t : Vec Ideal S512x2048 .bf16) (ix2 a k) = OB m c (ix2 (at_ t a) k) := by
  rw [OB, ← V_main_arg1 m c, at_]
  blk_simp [iblk]; blk_ext <;> simp only [index1] <;> omega
theorem block2 (t : Fin cfg0.N) (a : Fin 512) (b : Fin 1024) : (iblk m c 2 t : Vec Ideal S512x1024 .bf16) (ix2 a b) = Z m c (ix2 (at_ t a) ⟨6144 + b.val, by omega⟩) := by
  rw [Z, ← V_main_arg2 m c, at_]
  blk_simp [iblk]; blk_ext <;> simp only [index2] <;> omega
theorem block3 (t : Fin cfg0.N) (a : Fin 512) (b : Fin 1024) : (iblk m c 3 t : Vec Ideal S512x1024 .bf16) (ix2 a b) = Z m c (ix2 (at_ t a) ⟨7168 + b.val, by omega⟩) := by
  rw [Z, ← V_main_arg2 m c, at_]
  blk_simp [iblk]; blk_ext <;> simp only [index3] <;> omega
theorem block4 (t : Fin cfg0.N) (a : Fin 512) (b : Fin 1024) : (iblk m c 4 t : Vec Ideal S512x1024 .f32) (ix2 a b) = X m c (ix2 (at_ t a) b) := by
  rw [X, ← V_main_arg3 m c, at_]
  blk_simp [iblk]; blk_ext <;> simp only [index4] <;> omega
theorem block5 (t : Fin cfg0.N) (k : Fin 512) (b : Fin 1024) : (iblk m c 5 t : Vec Ideal S512x1024 .bf16) (ix2 k b) = WA m c (ix2 k b) := by
  rw [WA, ← V_main_arg4 m c]
  blk_simp [iblk]; blk_ext <;> simp only [index5] <;> omega
theorem block6 (t : Fin cfg0.N) (k : Fin 2048) (b : Fin 1024) : (iblk m c 6 t : Vec Ideal S2048x1024 .bf16) (ix2 k b) = WB m c (ix2 k b) := by
  rw [WB, ← V_main_arg5 m c]
  blk_simp [iblk]; blk_ext <;> simp only [index6] <;> omega
theorem block7 (t : Fin cfg0.N) (k b : Fin 1024) : (iblk m c 7 t : Vec Ideal S1024x1024 .bf16) (ix2 k b) = WO m c (ix2 k b) := by
  rw [WO, ← V_main_arg6 m c]
  blk_simp [iblk]; blk_ext <;> simp only [index7] <;> omega
theorem block8 (t : Fin cfg0.N) (b : Fin 1024) : (iblk m c 8 t : Vec Ideal S1x1024 .f32) (ix2 0 b) = G m c (ix2 0 b) := by
  rw [G, ← V_main_arg7 m c]
  blk_simp [iblk]; blk_ext <;> simp only [index8] <;> omega

/-- A block's rows of the two products, -/
theorem first_block (t : Fin cfg0.N) (a : Fin 512) (b : Fin 1024) : k0_pay2 (F := Ideal) (iblk m c 0 t) (iblk m c 5 t) (ix2 a b) = branchA (OA m c) (WA m c) (ix2 (at_ t a) b) := by
  refine (first_at _ _ a b).trans ?_
  exact Finset.sum_congr rfl fun k _ => congrArg₂ (fun p q : EReal => p * q) (block0 m c t a k) (block5 m c t k b)
theorem second_block (t : Fin cfg0.N) (a : Fin 512) (b : Fin 1024) : k0_pay3 (F := Ideal) (iblk m c 1 t) (iblk m c 6 t) (ix2 a b) = branchB (OB m c) (WB m c) (ix2 (at_ t a) b) := by
  refine (second_at _ _ a b).trans ?_
  exact Finset.sum_congr rfl fun k _ => congrArg₂ (fun p q : EReal => p * q) (block1 m c t a k) (block6 m c t k b)
/-- of the gated sum, -/
theorem mixed_block (t : Fin cfg0.N) (a : Fin 512) (b : Fin 1024) :
    k0_pay4 (F := Ideal) (iblk m c 0 t) (iblk m c 5 t) (iblk m c 1 t) (iblk m c 6 t) (iblk m c 2 t) (iblk m c 3 t) (ix2 a b)
    = mixed (OA m c) (OB m c) (Z m c) (WA m c) (WB m c) (ix2 (at_ t a) b) := by
  refine (mixed_at _ _ _ _ _ _ a b).trans ?_
  exact congrArg₂ (fun p q : EReal => p + q) (congrArg₂ (fun p q : EReal => p * q) (congrArg Ideal.logistic (block2 m c t a b)) (first_block m c t a b))
    (congrArg₂ (fun p q : EReal => p * q) (congrArg Ideal.logistic (block3 m c t a b)) (second_block m c t a b))
/-- of the sum with the input -/
theorem stream_block (t : Fin cfg0.N) (a : Fin 512) (b : Fin 1024) :
    k0_pay5 (F := Ideal) (iblk m c 0 t) (iblk m c 5 t) (iblk m c 1 t) (iblk m c 6 t) (iblk m c 2 t) (iblk m c 3 t) (iblk m c 4 t) (iblk m c 7 t) (ix2 a b)
    = stream (OA m c) (OB m c) (Z m c) (X m c) (WA m c) (WB m c) (WO m c) (ix2 (at_ t a) b) := by
  refine (stream_at _ _ _ _ _ _ _ _ a b).trans ?_
  exact congrArg₂ (fun p q : EReal => p + q) (block4 m c t a b)
    (Finset.sum_congr rfl fun k _ => congrArg₂ (fun p q : EReal => p * q) (mixed_block m c t a k) (block7 m c t k b))
/-- and of its norm. -/
theorem norm_block (t : Fin cfg0.N) (s : Vec Ideal S512x1024 .f32)
    (hs : ∀ (a : Fin 512) (b : Fin 1024), s (ix2 a b) = stream (OA m c) (OB m c) (Z m c) (X m c) (WA m c) (WB m c) (WO m c) (ix2 (at_ t a) b)) (a : Fin 512) (b : Fin 1024) :
    k0_pay1 (F := Ideal) s (mulf s s) (iblk m c 8 t) (ix2 a b)
    = norm (stream (OA m c) (OB m c) (Z m c) (X m c) (WA m c) (WB m c) (WO m c)) (G m c) (ix2 (at_ t a) b) := by
  refine (norm_at _ s a b).trans ?_
  exact congrArg₂ (fun p q : EReal => p * q) (congrArg₂ (fun p q : EReal => p * q) (hs a b) (congrArg RmsBack.scale (funext fun k => hs a k))) (block8 m c t b)

/-- The sixteen blocks make the results whole: the sum with the input, -/
theorem result9 : (dats m 0 c).arrAt 9 cfg0.N = stream (OA m c) (OB m c) (Z m c) (X m c) (WA m c) (WB m c) (WO m c) := by
  refine (dats m 0 c).arrAt_eq_of_covers 9 _ (by decide +kernel) fun t hf y => ?_
  obtain ⟨a, b, rfl⟩ : ∃ (a : Fin 512) (b : Fin 1024), y = ix2 a b := ⟨y 0, y 1, eq_ix2 y⟩
  blk_simp
  rw [after0_9, out9, stream_block, at_]
  congr 1
  blk_ext <;> simp only [index9] <;> omega
/-- the gated sum, -/
theorem result10 : (dats m 0 c).arrAt 10 cfg0.N = mixed (OA m c) (OB m c) (Z m c) (WA m c) (WB m c) := by
  refine (dats m 0 c).arrAt_eq_of_covers 10 _ (by decide +kernel) fun t hf y => ?_
  obtain ⟨a, b, rfl⟩ : ∃ (a : Fin 512) (b : Fin 1024), y = ix2 a b := ⟨y 0, y 1, eq_ix2 y⟩
  blk_simp
  rw [after0_10, out10, mixed_block, at_]
  congr 1
  blk_ext <;> simp only [index10] <;> omega
/-- the two branches' projections -/
theorem result11 : (dats m 0 c).arrAt 11 cfg0.N = branchA (OA m c) (WA m c) := by
  refine (dats m 0 c).arrAt_eq_of_covers 11 _ (by decide +kernel) fun t hf y => ?_
  obtain ⟨a, b, rfl⟩ : ∃ (a : Fin 512) (b : Fin 1024), y = ix2 a b := ⟨y 0, y 1, eq_ix2 y⟩
  blk_simp
  rw [after0_11, out11, first_block, at_]
  congr 1
  blk_ext <;> simp only [index11] <;> omega
theorem result12 : (dats m 0 c).arrAt 12 cfg0.N = branchB (OB m c) (WB m c) := by
  refine (dats m 0 c).arrAt_eq_of_covers 12 _ (by decide +kernel) fun t hf y => ?_
  obtain ⟨a, b, rfl⟩ : ∃ (a : Fin 512) (b : Fin 1024), y = ix2 a b := ⟨y 0, y 1, eq_ix2 y⟩
  blk_simp
  rw [after0_12, out12, second_block, at_]
  congr 1
  blk_ext <;> simp only [index12] <;> omega
/-- and the norm. -/
theorem result13 : (dats m 0 c).arrAt 13 cfg0.N = norm (stream (OA m c) (OB m c) (Z m c) (X m c) (WA m c) (WB m c) (WO m c)) (G m c) := by
  refine (dats m 0 c).arrAt_eq_of_covers 13 _ (by decide +kernel) fun t hf y => ?_
  obtain ⟨a, b, rfl⟩ : ∃ (a : Fin 512) (b : Fin 1024), y = ix2 a b := ⟨y 0, y 1, eq_ix2 y⟩
  blk_simp
  rw [after0_13, out13, norm_block m c t _ (stream_block m c t), at_]
  congr 1
  blk_ext <;> simp only [index13] <;> omega

end Cert.MergeIdeal.Val

namespace Cert.MergeIdeal

open Idealize.ShloMosaic Idealize.SL.Sem
open Cert.MergeReferenceIdeal.Val

/-- From equal arguments the two programs end with the same stream, the same gated sum, the same two projections and the same norm. -/
theorem algebraic : Cert.algebraic_MergeIdeal_MergeReferenceIdeal := by
  intro m g m' g' _ hin
  refine ⟨fun c => Val.stream (Val.OA m c) (Val.OB m c) (Val.Z m c) (Val.X m c) (Val.WA m c) (Val.WB m c) (Val.WO m c),
    fun c => Val.mixed (Val.OA m c) (Val.OB m c) (Val.Z m c) (Val.WA m c) (Val.WB m c), fun c => Val.branchA (Val.OA m c) (Val.WA m c),
    fun c => Val.branchB (Val.OB m c) (Val.WB m c),
    fun c => Val.norm (Val.stream (Val.OA m c) (Val.OB m c) (Val.Z m c) (Val.X m c) (Val.WA m c) (Val.WB m c) (Val.WO m c)) (Val.G m c),
    (θ_run _ _ _).mono (fun r hr c => ?_) (Value.run_blocks m g), (θ_run _ _ _).mono (fun r hr c => ?_) (Cert.MergeReferenceIdeal.Value.run m' g')⟩
  · obtain ⟨h9, h10, h11, h12, h13, hr⟩ := hr c
    exact ⟨h9.trans (Val.result9 m c), h10.trans (Val.result10 m c), h11.trans (Val.result11 m c), h12.trans (Val.result12 m c), h13.trans (Val.result13 m c), hr⟩
  · obtain ⟨e0, e1, e2, e3, e4, e5, e6, e7⟩ := hin c
    obtain ⟨h9, h10, h11, h12, h13, hr⟩ := hr c
    unfold Cert.MergeReferenceIdeal.Value.res_main_v44 at h13
    rw [e0, e1, e2, e3, e4, e5, e6, reference_a, reference_b, reference_mixed, reference_stream] at h9
    rw [e0, e1, e2, e4, e5, reference_a, reference_b, reference_mixed] at h10
    rw [e0, e4, reference_a] at h11
    rw [e1, e5, reference_b] at h12
    rw [e0, e1, e2, e3, e4, e5, e6, e7, reference_a, reference_b, reference_mixed, reference_stream] at h13
    exact ⟨h9, h10, h11, h12, h13.trans (reference_norm _ _), hr⟩

end Cert.MergeIdeal

end
-- ==== Proof.GradOutValue.lean ====
module

public import proofs.«01_k».proof.Defs
public import proofs.«01_k».proof.Proof.Gen.GradOutIdeal.Value
public import proofs.«01_k».proof.Proof.Gen.GradOutReferenceIdeal.Run
public import proofs.«01_k».proof.Proof.Halves
public import Idealize.ShloMosaic.Lib.Pointwise
public import Idealize.ShloMosaic.Lib.Pipeline.ValueKit

@[expose] public section

set_option maxRecDepth 16384

/-! # The gradient of the output projection's weight -/

noncomputable section

namespace Cert.GradOutIdeal.Val

open Cert.GradOutIdeal Cert.GradOutIdeal.Gen Cert.GradOutIdeal.Value
open Idealize.ShloMosaic Idealize.ShloMosaic.TcCoe Idealize.SL.Sem
open Cert.Halves

variable (m : (ℓ : Loc nD τ sig) → Buf (Elt Ideal) ℓ) (c : Dev nD)

/-- The product of one block of rows. -/
theorem part_at (v0 v1 : Vec Ideal S4096x1024 .bf16) (a b : Fin 1024) :
    k0_pay1 (F := Ideal) v0 v1 (ix2 a b) = ∑ k : Fin 4096, v1 (ix2 k a) * v0 (ix2 k b) := by
  pointwise [k0_pay1]

section
variable (i : grid0.Coords) (a3 : Memref sig .tc .vmem S4096x1024 .bf16) (h3 : a3.IsWhole)
  (a4 : Memref sig .tc .vmem S4096x1024 .bf16) (h4 : a4.IsWhole) (a5 : Memref sig .tc .vmem S1024x1024 .bf16) (h5 : a5.IsWhole)
  (a6 : Memref sig .tc .vmem S1024x1024 .f32) (h6 : a6.IsWhole) (x0 x1 : Vec Ideal S4096x1024 .bf16) (s : Vec Ideal S1024x1024 .f32)

/-- The first block of rows leaves its product in the scratch. -/
theorem first (p0 : cond0_0 i) (p1 : ¬cond0_1 i) (p2 : ¬cond0_2 i) :
    sout0_A_0 (F := Ideal) c i a3 h3 a4 h4 a5 h5 a6 h6 p0 p1 p2 x0 x1 = k0_pay1 (F := Ideal) x1 x0 := by
  unfold sout0_A_0
  rw [View.read_writes_eq_canon _ _ _ (scover0_A_0 c i a3 h3 a4 h4 a5 h5 a6 h6 p0 p1 p2 x0 x1)]
  unfold kernelRun0_A
  dsimp only
  rw [View.canon_unit_zero zeros]
  unfold k0_pay2
  simp only [View.readAt_eq_ld, h3.read_unread, h4.read_unread, View.ld_unit_zero (S := S4096x1024) zeros, shapeCast_self]

/-- The second adds its own and writes the sum. -/
theorem second (p0 : ¬cond0_0 i) (p1 : cond0_1 i) (p2 : cond0_2 i) :
    out0_B_2 (F := Ideal) c i a3 h3 a4 h4 a5 h5 a6 h6 p0 p1 p2 x0 x1 s
      = truncf .bf16 (addf s (k0_pay1 (F := Ideal) x1 x0)) bitsLt_bf16_f32 := by
  unfold out0_B_2
  rw [View.read_writes_eq_canon _ _ _ (cover0_B_2 c i a3 h3 a4 h4 a5 h5 a6 h6 p0 p1 p2 x0 x1 s)]
  unfold kernelRun0_B
  dsimp only
  sl_unfold_words
  rw [View.canon_unit_zero zeros, View.readCov_unit_zero (S := S1024x1024) _ zeros]
  unfold k0_pay3 k0_pay4
  simp only [View.readAt_eq_ld, h3.read_unread, h4.read_unread, h6.read_unread, View.ld_unit_zero (S := S4096x1024) zeros, View.ld_unit_zero (S := S1024x1024) zeros, shapeCast_self]

end

/-- The two operands, -/
abbrev X : S8192x1024.Idx → EReal := m ((c.tc : Thread nD τ).loc main_arg0)
abbrev Y : S8192x1024.Idx → EReal := m ((c.tc : Thread nD τ).loc main_arg1)

/-- and their blocks. -/
theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = 0 ∧ win0_2.index t 1 = 0 := by decide +kernel
theorem last2 : ∀ t : Fin cfg0.N, (cfg0.win 2).flush t = true → t.val = 1 := by decide +kernel

theorem block0 (t : Fin cfg0.N) (k : Fin 4096) (a : Fin 1024) : (iblk m c 0 t : Vec Ideal S4096x1024 .bf16) (ix2 k a)
    = X m c (ix2 ⟨4096 * t.val + k, by have := lt_of_lt_of_eq t.isLt (show cfg0.N = 2 from N_0); omega⟩ a) := by
  rw [X, ← V_main_arg0 m c]
  blk_simp [iblk]; blk_ext <;> simp only [index0] <;> omega
theorem block1 (t : Fin cfg0.N) (k : Fin 4096) (b : Fin 1024) : (iblk m c 1 t : Vec Ideal S4096x1024 .bf16) (ix2 k b)
    = Y m c (ix2 ⟨4096 * t.val + k, by have := lt_of_lt_of_eq t.isLt (show cfg0.N = 2 from N_0); omega⟩ b) := by
  rw [Y, ← V_main_arg1 m c]
  blk_simp [iblk]; blk_ext <;> simp only [index1] <;> omega

/-- The gradient: the product over all the rows. -/
def grad : S1024x1024.Idx → EReal := fun i => ∑ k : Fin 8192, X m c (ix2 k (i 0)) * Y m c (ix2 k (i 1))

/-- The two grid points make it -/
theorem block (n : ℕ) (hn : n < cfg0.N) (h : n = 1) (a b : Fin 1024) : (outsAt0 m c n hn).1 (ix2 a b) = grad m c (ix2 a b) := by
  subst h
  rw [outsAt0_B m c ⟨1, hn⟩ (by dsimp only; omega) (by dsimp only) (by dsimp only)]
  dsimp only
  rw [second]
  show (outsAt0 m c 0 _).2 (ix2 a b) + k0_pay1 (F := Ideal) _ _ (ix2 a b) = _
  rw [outsAt0_A m c ⟨0, by omega⟩ (by dsimp only) (by dsimp only; omega) (by dsimp only; omega)]
  dsimp only
  rw [first, part_at, part_at, grad, ← sum_rows]
  congr 1 <;> refine Finset.sum_congr rfl fun k _ => ?_
  · rw [block0, block1]
    congr 2 <;> congr 1 <;> apply Fin.ext <;> dsimp only [ix2_0, ix2_1] <;> omega
  · rw [block0, block1]
    congr 2 <;> congr 1 <;> apply Fin.ext <;> dsimp only [ix2_0, ix2_1] <;> omega
/-- whole. -/
theorem result : (dats m 0 c).arrAt 2 cfg0.N = grad m c := by
  refine (dats m 0 c).arrAt_eq_of_covers 2 _ (by decide +kernel) fun t hf y => ?_
  obtain ⟨a, b, rfl⟩ : ∃ a b : Fin 1024, y = ix2 a b := ⟨y 0, y 1, eq_ix2 y⟩
  have ht := last2 t hf
  blk_simp
  rw [after0_2, block m c _ _ ht]
  congr 1
  blk_ext <;> simp only [index2] <;> omega

/-- The same product, as the other program states it. -/
theorem reference (x y : S8192x1024.Idx → EReal) (i : S1024x1024.Idx) :
    (truncf .bf16 (transpose Cert.GradOutReferenceIdeal.S1024x1024 [1, 0] (Host.dotGeneral (F := Ideal) Cert.GradOutReferenceIdeal.dot_S8192x1024_S8192x1024_S1024x1024_0_0_1_1_n_n none
      (extf (φ := .bf16) .f32 y Cert.GradOutReferenceIdeal.Gen.bitsLt_bf16_f32) (extf (φ := .bf16) .f32 x Cert.GradOutReferenceIdeal.Gen.bitsLt_bf16_f32)) Cert.GradOutReferenceIdeal.Gen.transposes_S1024x1024_S1024x1024_1_0)
      Cert.GradOutReferenceIdeal.Gen.bitsLt_bf16_f32 : FVec Ideal Cert.GradOutReferenceIdeal.S1024x1024 .bf16) i
      = ∑ k : Fin 8192, x (ix2 k (i 0)) * y (ix2 k (i 1)) := by
  rw [eq_ix2 i]
  refine Eq.trans (b := ∑ k : Fin 8192, y (ix2 k (i 1)) * x (ix2 k (i 0))) ?_ (Finset.sum_congr rfl fun k _ => mul_comm _ _)
  pointwise

end Cert.GradOutIdeal.Val

namespace Cert.GradOutIdeal

open Idealize.ShloMosaic Idealize.SL.Sem

/-- From equal arguments the two programs end with the same gradient. -/
theorem algebraic : Cert.algebraic_GradOutIdeal_GradOutReferenceIdeal := by
  intro m g m' g' _ hin
  refine ⟨fun c => Val.grad m c, (θ_run _ _ _).mono (fun r hr c => ?_) (Value.run_blocks m g),
    (θ_run _ _ _).mono (fun r hr c => ?_) (Cert.GradOutReferenceIdeal.Value.run m' g')⟩
  · exact ⟨(hr c).1.trans (Val.result m c), (hr c).2⟩
  · refine ⟨(hr c).1.trans ?_, (hr c).2⟩
    rw [(hin c).1, (hin c).2]
    exact funext fun i => Val.reference (Val.X m c) (Val.Y m c) i

end Cert.GradOutIdeal

end
-- ==== Proof.GradMixValue.lean ====
module

public import proofs.«01_k».proof.Defs
public import proofs.«01_k».proof.Proof.Gen.GradMixIdeal.Value
public import proofs.«01_k».proof.Proof.Gen.GradMixReferenceIdeal.Run
public import proofs.«01_k».proof.Proof.Halves
public import Idealize.ShloMosaic.Lib.Pointwise
public import Idealize.ShloMosaic.Lib.Pipeline.ValueKit

@[expose] public section

set_option maxRecDepth 16384

/-! # The gradient of the weight the attention's heads are mixed with -/

noncomputable section

namespace Cert.GradMixIdeal.Val

open Cert.GradMixIdeal Cert.GradMixIdeal.Gen Cert.GradMixIdeal.Value
open Idealize.ShloMosaic Idealize.ShloMosaic.TcCoe Idealize.SL.Sem
open Cert.Halves

variable (m : (ℓ : Loc nD τ sig) → Buf (Elt Ideal) ℓ) (c : Dev nD)

/-- The product of one block of rows. -/
theorem part_at (v0 : Vec Ideal S2048x1024 .bf16) (v1 : Vec Ideal S2048x512 .f32) (a : Fin 512) (b : Fin 1024) :
    k0_pay1 (F := Ideal) v0 v1 (ix2 a b) = ∑ k : Fin 2048, v1 (ix2 k a) * v0 (ix2 k b) := by
  pointwise [k0_pay1]

section
variable (i : grid0.Coords) (a3 : Memref sig .tc .vmem S2048x512 .f32) (h3 : a3.IsWhole)
  (a4 : Memref sig .tc .vmem S2048x1024 .bf16) (h4 : a4.IsWhole) (a5 : Memref sig .tc .vmem S512x1024 .bf16) (h5 : a5.IsWhole)
  (a6 : Memref sig .tc .vmem S512x1024 .f32) (h6 : a6.IsWhole) (x0 : Vec Ideal S2048x512 .f32) (x1 : Vec Ideal S2048x1024 .bf16)
  (s : Vec Ideal S512x1024 .f32)

/-- The first block of rows leaves its product in the scratch. -/
theorem first (p0 : cond0_0 i) (p1 : ¬cond0_1 i) (p2 : ¬cond0_2 i) :
    sout0_A_0 (F := Ideal) c i a3 h3 a4 h4 a5 h5 a6 h6 p0 p1 p2 x0 x1 = k0_pay1 (F := Ideal) x1 x0 := by
  unfold sout0_A_0
  rw [View.read_writes_eq_canon _ _ _ (scover0_A_0 c i a3 h3 a4 h4 a5 h5 a6 h6 p0 p1 p2 x0 x1)]
  unfold kernelRun0_A
  dsimp only
  rw [View.canon_unit_zero zeros]
  unfold k0_pay2
  simp only [View.readAt_eq_ld, h3.read_unread, h4.read_unread, View.ld_unit_zero (S := S2048x512) zeros, View.ld_unit_zero (S := S2048x1024) zeros, shapeCast_self]

/-- Each further block adds its own to the scratch. -/
theorem next (p0 : ¬cond0_0 i) (p1 : cond0_1 i) (p2 : ¬cond0_2 i) :
    sout0_B_0 (F := Ideal) c i a3 h3 a4 h4 a5 h5 a6 h6 p0 p1 p2 x0 x1 s
      = addf s (k0_pay1 (F := Ideal) x1 x0) := by
  unfold sout0_B_0
  rw [View.read_writes_eq_canon _ _ _ (scover0_B_0 c i a3 h3 a4 h4 a5 h5 a6 h6 p0 p1 p2 x0 x1 s)]
  unfold kernelRun0_B
  dsimp only
  rw [View.canon_unit_zero zeros]
  unfold k0_pay3
  simp only [View.readAt_eq_ld, h3.read_unread, h4.read_unread, h6.read_unread, View.ld_unit_zero (S := S2048x512) zeros, View.ld_unit_zero (S := S2048x1024) zeros, View.ld_unit_zero (S := S512x1024) zeros, shapeCast_self]

/-- The last writes the sum too. -/
theorem last (p0 : ¬cond0_0 i) (p1 : cond0_1 i) (p2 : cond0_2 i) :
    out0_C_2 (F := Ideal) c i a3 h3 a4 h4 a5 h5 a6 h6 p0 p1 p2 x0 x1 s
      = truncf .bf16 (addf s (k0_pay1 (F := Ideal) x1 x0)) bitsLt_bf16_f32 := by
  unfold out0_C_2
  rw [View.read_writes_eq_canon _ _ _ (cover0_C_2 c i a3 h3 a4 h4 a5 h5 a6 h6 p0 p1 p2 x0 x1 s)]
  unfold kernelRun0_C
  dsimp only
  sl_unfold_words
  rw [View.canon_unit_zero zeros, View.readCov_unit_zero (S := S512x1024) _ zeros]
  unfold k0_pay3 k0_pay4
  simp only [View.readAt_eq_ld, h3.read_unread, h4.read_unread, h6.read_unread, View.ld_unit_zero (S := S2048x512) zeros, View.ld_unit_zero (S := S2048x1024) zeros, View.ld_unit_zero (S := S512x1024) zeros, shapeCast_self]

end

/-- The two operands, -/
abbrev X : S8192x512.Idx → EReal := m ((c.tc : Thread nD τ).loc main_arg0)
abbrev Y : S8192x1024.Idx → EReal := m ((c.tc : Thread nD τ).loc main_arg1)

/-- and their blocks. -/
theorem index0 : ∀ t : Fin cfg0.N, win0_0.index t 0 = t.val ∧ win0_0.index t 1 = 0 := by decide +kernel
theorem index1 : ∀ t : Fin cfg0.N, win0_1.index t 0 = t.val ∧ win0_1.index t 1 = 0 := by decide +kernel
theorem index2 : ∀ t : Fin cfg0.N, win0_2.index t 0 = 0 ∧ win0_2.index t 1 = 0 := by decide +kernel
theorem last2 : ∀ t : Fin cfg0.N, (cfg0.win 2).flush t = true → t.val = 3 := by decide +kernel

theorem block0 (t : Fin cfg0.N) (k : Fin 2048) (a : Fin 512) : (iblk m c 0 t : Vec Ideal S2048x512 .f32) (ix2 k a)
    = X m c (ix2 ⟨2048 * t.val + k, by have := lt_of_lt_of_eq t.isLt (show cfg0.N = 4 from N_0); omega⟩ a) := by
  rw [X, ← V_main_arg0 m c]
  blk_simp [iblk]; blk_ext <;> simp only [index0] <;> omega
theorem block1 (t : Fin cfg0.N) (k : Fin 2048) (b : Fin 1024) : (iblk m c 1 t : Vec Ideal S2048x1024 .bf16) (ix2 k b)
    = Y m c (ix2 ⟨2048 * t.val + k, by have := lt_of_lt_of_eq t.isLt (show cfg0.N = 4 from N_0); omega⟩ b) := by
  rw [Y, ← V_main_arg1 m c]
  blk_simp [iblk]; blk_ext <;> simp only [index1] <;> omega

/-- The gradient: the product over all the rows. -/
def grad : S512x1024.Idx → EReal := fun i => ∑ k : Fin 8192, X m c (ix2 k (i 0)) * Y m c (ix2 k (i 1))

/-- What the scratch holds after the first block, -/
theorem scratch0 (hn : 0 < cfg0.N) : (outsAt0 m c 0 hn).2 = k0_pay1 (F := Ideal) (iblk m c 1 ⟨0, hn⟩) (iblk m c 0 ⟨0, hn⟩) := by
  rw [outsAt0_A m c ⟨0, hn⟩ (by dsimp only) (by dsimp only; omega) (by dsimp only; omega)]
  dsimp only
  rw [first]
/-- and after a further one. -/
theorem scratch1 (n : ℕ) (hn : n + 1 < cfg0.N) (h : n + 1 < 3) : (outsAt0 m c (n + 1) hn).2
    = addf (outsAt0 m c n (Nat.lt_of_succ_lt hn)).2 (k0_pay1 (F := Ideal) (iblk m c 1 ⟨n + 1, hn⟩) (iblk m c 0 ⟨n + 1, hn⟩)) := by
  rw [outsAt0_B m c ⟨n + 1, hn⟩ (by dsimp only; omega) (by dsimp only; omega) (by dsimp only; omega)]
  dsimp only
  rw [next]
  rfl
/-- One block's product as rows of the arguments. -/
theorem piece (r : ℕ) (hr : r < 4) (hp : r < cfg0.N) (a : Fin 512) (b : Fin 1024) :
    k0_pay1 (F := Ideal) (iblk m c 1 ⟨r, hp⟩) (iblk m c 0 ⟨r, hp⟩) (ix2 a b)
      = ∑ k : Fin 2048, X m c (ix2 ⟨2048 * r + k, by omega⟩ a) * Y m c (ix2 ⟨2048 * r + k, by omega⟩ b) := by
  rw [part_at]
  exact Finset.sum_congr rfl fun k _ => by rw [block0, block1]

/-- The four grid points make it -/
theorem block (n : ℕ) (hn : n < cfg0.N) (h : n = 3) (a : Fin 512) (b : Fin 1024) : (outsAt0 m c n hn).1 (ix2 a b) = grad m c (ix2 a b) := by
  subst h
  rw [outsAt0_C m c ⟨3, hn⟩ (by dsimp only; omega) (by dsimp only; omega) (by dsimp only)]
  dsimp only
  rw [last]
  show (outsAt0 m c 2 _).2 (ix2 a b) + k0_pay1 (F := Ideal) _ _ (ix2 a b) = _
  rw [scratch1 m c 1 (by omega) (by omega), scratch1 m c 0 (by omega) (by omega), scratch0 m c (by omega)]
  show ((k0_pay1 (F := Ideal) _ _ (ix2 a b) + k0_pay1 (F := Ideal) _ _ (ix2 a b)) + k0_pay1 (F := Ideal) _ _ (ix2 a b)) + _ = _
  rw [piece m c 0 (by omega), piece m c (0 + 1) (by omega), piece m c (1 + 1) (by omega), piece m c 3 (by omega), grad, ← sum_quarters]
  simp only [Nat.mul_zero, Nat.mul_one, Nat.zero_add]
  rfl
/-- whole. -/
theorem result : (dats m 0 c).arrAt 2 cfg0.N = grad m c := by
  refine (dats m 0 c).arrAt_eq_of_covers 2 _ (by decide +kernel) fun t hf y => ?_
  obtain ⟨a, b, rfl⟩ : ∃ (a : Fin 512) (b : Fin 1024), y = ix2 a b := ⟨y 0, y 1, eq_ix2 y⟩
  have ht := last2 t hf
  blk_simp
  rw [after0_2, block m c _ _ ht]
  congr 1
  blk_ext <;> simp only [index2] <;> omega

/-- The same product, as the other program states it. -/
theorem reference (x : S8192x512.Idx → EReal) (y : S8192x1024.Idx → EReal) (i : S512x1024.Idx) :
    (truncf .bf16 (transpose Cert.GradMixReferenceIdeal.S512x1024 [1, 0] (Host.dotGeneral (F := Ideal) (φ₁ := .f32) (φ₂ := .f32) Cert.GradMixReferenceIdeal.dot_S8192x1024_S8192x512_S1024x512_0_0_1_1_n_n none
      (extf (φ := .bf16) .f32 y Cert.GradMixReferenceIdeal.Gen.bitsLt_bf16_f32) x) Cert.GradMixReferenceIdeal.Gen.transposes_S1024x512_S512x1024_1_0)
      Cert.GradMixReferenceIdeal.Gen.bitsLt_bf16_f32 : FVec Ideal Cert.GradMixReferenceIdeal.S512x1024 .bf16) i
      = ∑ k : Fin 8192, x (ix2 k (i 0)) * y (ix2 k (i 1)) := by
  rw [eq_ix2 i]
  refine Eq.trans (b := ∑ k : Fin 8192, y (ix2 k (i 1)) * x (ix2 k (i 0))) ?_ (Finset.sum_congr rfl fun k _ => mul_comm _ _)
  pointwise

end Cert.GradMixIdeal.Val

namespace Cert.GradMixIdeal

open Idealize.ShloMosaic Idealize.SL.Sem

/-- From equal arguments the two programs end with the same gradient. -/
theorem algebraic : Cert.algebraic_GradMixIdeal_GradMixReferenceIdeal := by
  intro m g m' g' _ hin
  refine ⟨fun c => Val.grad m c, (θ_run _ _ _).mono (fun r hr c => ?_) (Value.run_blocks m g),
    (θ_run _ _ _).mono (fun r hr c => ?_) (Cert.GradMixReferenceIdeal.Value.run m' g')⟩
  · exact ⟨(hr c).1.trans (Val.result m c), (hr c).2⟩
  · refine ⟨(hr c).1.trans ?_, (hr c).2⟩
    rw [(hin c).1, (hin c).2]
    exact funext fun i => Val.reference (Val.X m c) (Val.Y m c) i

end Cert.GradMixIdeal

end
-- ==== Proof.MixBackBlocks.lean ====
module

public import proofs.«01_k».proof.Proof.MergeBlocks
public import proofs.«01_k».proof.Proof.Gen.MixBackIdeal.Frame
public import proofs.«01_k».proof.Proof.Gen.MixBackReferenceIdeal.Run
public import proofs.«01_k».proof.Proof.Halves
public import Idealize.ShloMosaic.Lib.Pointwise
public import Idealize.ShloMosaic.Lib.Pipeline.ValueKit

@[expose] public section

set_option maxRecDepth 16384

/-! # The way back through the output projection and the gates: one block of rows, and the other program's form -/

noncomputable section

namespace Cert.MixBackIdeal.Val

open Cert.MixBackIdeal Cert.MixBackIdeal.Gen
open Idealize.ShloMosaic
open Cert.Halves

/-! ## What is computed -/

section
variable (d p : S8192x1024.Idx → EReal) (w : S1024x1024.Idx → EReal) (z : S8192x8192.Idx → EReal)

/-- The gradient of the gated sum, -/
def back : S8192x1024.Idx → EReal := fun i => ∑ k : Fin 1024, d (ix2 (i 0) k) * w (ix2 (i 1) k)
/-- the gates: the logistic function of the projection's columns from `n` on, -/
def gate (n : ℕ) (hn : n + 1024 ≤ 8192) : S8192x1024.Idx → EReal := fun i =>
  Ideal.logistic (z (ix2 (i 0) ⟨n + (i 1).val, by have : (i 1).val < 1024 := (i 1).isLt; omega⟩))
/-- the gradient of a branch -/
def branchBack (n : ℕ) (hn : n + 1024 ≤ 8192) : S8192x1024.Idx → EReal := fun i => back d w i * gate z n hn i
/-- and that of the gates' columns, the number one written as it is in the programs. -/
def gateBack (n : ℕ) (hn : n + 1024 ≤ 8192) : S8192x1024.Idx → EReal := fun i =>
  back d w i * p i * (gate z n hn i * (Ideal.ofBits .f32 0x3F800000#32 - gate z n hn i))

end

/-! ## One block of rows -/

section
variable (x0 : Vec Ideal S512x1024 .bf16) (x1 : Vec Ideal S1024x1024 .bf16) (x2 x3 x4 x5 : Vec Ideal S512x1024 .bf16)

/-- The branches' gradients are one expression each. -/
theorem out6 : out0_6 (F := Ideal) x0 x1 x2 x3 x4 x5 = k0_pay4 (F := Ideal) x1 x0 x2 := by
  unfold out0_6
  rw [View.canon_unit_zero zeros]
  simp only [View.ld_unit_zero (S := S512x1024) zeros, View.ld_unit_zero (S := S1024x1024) zeros]
theorem out7 : out0_7 (F := Ideal) x0 x1 x2 x3 x4 x5 = k0_pay5 (F := Ideal) x1 x0 x3 := by
  unfold out0_7
  rw [View.canon_unit_zero zeros]
  simp only [View.ld_unit_zero (S := S512x1024) zeros, View.ld_unit_zero (S := S1024x1024) zeros]

/-- The product, -/
theorem back_at (a : Fin 512) (b : Fin 1024) : k0_pay1 (F := Ideal) x1 x0 (ix2 a b) = ∑ k : Fin 1024, x0 (ix2 a k) * x1 (ix2 k b) := by
  pointwise [k0_pay1]
/-- the branches' gradients -/
theorem first_at (a : Fin 512) (b : Fin 1024) : k0_pay4 (F := Ideal) x1 x0 x2 (ix2 a b)
    = k0_pay1 (F := Ideal) x1 x0 (ix2 a b) * Ideal.logistic (x2 (ix2 a b)) := by
  unfold k0_pay4 k0_pay2
  generalize k0_pay1 (F := Ideal) x1 x0 = p
  pointwise
theorem second_at (a : Fin 512) (b : Fin 1024) : k0_pay5 (F := Ideal) x1 x0 x3 (ix2 a b)
    = k0_pay1 (F := Ideal) x1 x0 (ix2 a b) * Ideal.logistic (x3 (ix2 a b)) := by
  unfold k0_pay5 k0_pay3
  generalize k0_pay1 (F := Ideal) x1 x0 = p
  pointwise
/-- and the gates'. -/
theorem third_at (a : Fin 512) (b : Fin 1024) : k0_pay6 (F := Ideal) x1 x0 x2 x4 (ix2 a b)
    = k0_pay1 (F := Ideal) x1 x0 (ix2 a b) * x4 (ix2 a b)
      * (Ideal.logistic (x2 (ix2 a b)) * (Ideal.ofBits .f32 0x3F800000#32 - Ideal.logistic (x2 (ix2 a b)))) := by
  unfold k0_pay6 k0_pay2
  generalize k0_pay1 (F := Ideal) x1 x0 = p
  pointwise
theorem fourth_at (a : Fin 512) (b : Fin 1024) : k0_pay7 (F := Ideal) x1 x0 x3 x5 (ix2 a b)
    = k0_pay1 (F := Ideal) x1 x0 (ix2 a b) * x5 (ix2 a b)
      * (Ideal.logistic (x3 (ix2 a b)) * (Ideal.ofBits .f32 0x3F800000#32 - Ideal.logistic (x3 (ix2 a b)))) := by
  unfold k0_pay7 k0_pay3
  generalize k0_pay1 (F := Ideal) x1 x0 = p
  pointwise

/-- The gates' gradients lie side by side: what agrees with both halves is the whole. -/
theorem out8 (f : S512x2048.Idx → EReal)
    (hl : ∀ (a : Fin 512) (b : Fin 1024), k0_pay6 (F := Ideal) x1 x0 x2 x4 (ix2 a b) = f (ix2 a ⟨b.val, by omega⟩))
    (hr : ∀ (a : Fin 512) (b : Fin 1024), k0_pay7 (F := Ideal) x1 x0 x3 x5 (ix2 a b) = f (ix2 a ⟨1024 + b.val, by omega⟩)) (y : S512x2048.Idx) :
    out0_8 (F := Ideal) x0 x1 x2 x3 x4 x5 y = f y := by
  unfold out0_8
  refine View.canon_apply_of_pieces (Val := Elt Ideal) f _ (fun p hp x => ?_) y (cover0_8 _ _ y)
  simp only [List.mem_cons, List.not_mem_nil, or_false] at hp
  rcases hp with rfl | rfl
  · obtain ⟨a, b, rfl⟩ : ∃ (a : Fin 512) (b : Fin 1024), x = ix2 a b := ⟨x 0, x 1, eq_ix2 x⟩
    simp only [View.ld_unit_zero (S := S512x1024) zeros, View.ld_unit_zero (S := S1024x1024) zeros]
    refine (hr a b).trans ?_
    congr 1
    blk_ext <;> omega
  · obtain ⟨a, b, rfl⟩ : ∃ (a : Fin 512) (b : Fin 1024), x = ix2 a b := ⟨x 0, x 1, eq_ix2 x⟩
    simp only [View.ld_unit_zero (S := S512x1024) zeros, View.ld_unit_zero (S := S1024x1024) zeros]
    refine (hl a b).trans ?_
    congr 1
    blk_ext <;> omega

end

end Cert.MixBackIdeal.Val

namespace Cert.MixBackReferenceIdeal.Val

open Cert.MixBackReferenceIdeal Cert.MixBackReferenceIdeal.Gen
open Cert.MixBackIdeal.Val (back gate branchBack gateBack)
open Cert.MergeReferenceIdeal.Val (gates gates_at)
open Idealize.ShloMosaic

/-! ## The other program's form -/

section
variable (d p : FVec Ideal S8192x1024 .bf16) (w : FVec Ideal S1024x1024 .bf16) (z : FVec Ideal S8192x8192 .bf16)

/-- The product. -/
theorem reference_back : Host.dotGeneral (F := Ideal) dot_S8192x1024_S1024x1024_S8192x1024_1_1_0_0_n_n none (extf .f32 d bitsLt_bf16_f32) (extf .f32 w bitsLt_bf16_f32) = back d w := by
  funext i
  rw [eq_ix2 i]
  unfold back
  pointwise

/-- The gates' columns. -/
theorem gate_at (n : ℕ) (hn : n + 1024 ≤ 8192) (h : S8192x8192.Slices ![0, n] S8192x1024) (i : S8192x1024.Idx) :
    gates (extractStridedSlice S8192x1024 ![0, n] z h) i = gate z n hn i := by
  obtain ⟨R, b, rfl⟩ : ∃ (R : Fin 8192) (b : Fin 1024), i = ix2 R b := ⟨i 0, i 1, eq_ix2 i⟩
  refine (gates_at _ _).trans (congrArg Ideal.logistic ?_)
  have slice (hn : n + b.val < 8192) : extractStridedSlice S8192x1024 ![0, n] z h (ix2 R b) = z (ix2 R ⟨n + b.val, hn⟩) := by
    pointwise
  exact slice (by omega)

/-- A branch's gradient -/
theorem reference_branch (n : ℕ) (hn : n + 1024 ≤ 8192) (h : S8192x8192.Slices ![0, n] S8192x1024) :
    truncf .bf16 (mulf (gates (extractStridedSlice S8192x1024 ![0, n] z h)) (back d w : FVec Ideal S8192x1024 .f32)) bitsLt_bf16_f32 = branchBack d w z n hn := by
  funext i
  exact (congrArg (· * back d w i) (gate_at z n hn h i)).trans (mul_comm (G := EReal) _ _)

/-- and its gates'. -/
theorem reference_gate (n : ℕ) (hn : n + 1024 ≤ 8192) (h : S8192x8192.Slices ![0, n] S8192x1024) :
    truncf .bf16 (mulf (mulf (back d w : FVec Ideal S8192x1024 .f32) (extf .f32 p bitsLt_bf16_f32)) (mulf (gates (extractStridedSlice S8192x1024 ![0, n] z h))
      (subf (broadcastInDim S8192x1024 ![] bcast_S_S8192x1024 (constant S_ .f32 0x3F800000#32)) (gates (extractStridedSlice S8192x1024 ![0, n] z h))))) bitsLt_bf16_f32
    = gateBack d p w z n hn := by
  funext i
  exact congrArg (fun g : EReal => back d w i * p i * (g * (Ideal.ofBits .f32 0x3F800000#32 - g))) (gate_at z n hn h i)

end

end Cert.MixBackReferenceIdeal.Val

end
-- ==== Proof.MixBackValue.lean ====
module

public import proofs.«01_k».proof.Defs
public import proofs.«01_k».proof.Proof.MixBackBlocks
public import Idealize.ShloMosaic.Lib.StableHlo.ReadAt
public import Idealize.ShloMosaic.Lib.Pipeline.ValueKit
public import Idealize.ShloMosaic.Lib.Pipeline.ValueKit.Partial

@[expose] public section

set_option maxRecDepth 16384

/-! # The way back through the output projection and the gates -/

noncomputable section

namespace Cert.MixBackIdeal.Val

open Cert.MixBackIdeal Cert.MixBackIdeal.Gen
open Idealize.ShloMosaic Idealize.ShloMosaic.TcCoe Idealize.SL.Sem
open Cert.Halves

variable (m : (ℓ : Loc nD τ sig) → Buf (Elt Ideal) ℓ) (c : Dev nD)

/-- The arguments: the stream's gradient, the weight, the projection with the gates in it, the two branches. -/
abbrev D : S8192x1024.Idx → EReal := m ((c.tc : Thread nD τ).loc main_arg0)
abbrev W : S1024x1024.Idx → EReal := m ((c.tc : Thread nD τ).loc main_arg1)
abbrev Z : S8192x8192.Idx → EReal := m ((c.tc : Thread nD τ).loc main_arg2)
abbrev PA : S8192x1024.Idx → EReal := m ((c.tc : Thread nD τ).loc main_arg3)
abbrev PB : S8192x1024.Idx → EReal := m ((c.tc : Thread nD τ).loc main_arg4)

/-- Where the blocks lie. -/
theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index2 : ∀ t : Fin cfg0.N, win0_2.index t 0 = t.val ∧ win0_2.index t 1 = 6 := by decide +kernel
theorem index3 : ∀ t : Fin cfg0.N, win0_3.index t 0 = t.val ∧ win0_3.index t 1 = 7 := by decide +kernel
theorem index4 : ∀ t : Fin cfg0.N, win0_4.index t 0 = t.val ∧ win0_4.index t 1 = 0 := by decide +kernel
theorem index5 : ∀ t : Fin cfg0.N, win0_5.index t 0 = t.val ∧ win0_5.index t 1 = 0 := by decide +kernel
theorem index6 : ∀ t : Fin cfg0.N, win0_6.index t 0 = t.val ∧ win0_6.index t 1 = 0 := by decide +kernel
theorem index7 : ∀ t : Fin cfg0.N, win0_7.index t 0 = t.val ∧ win0_7.index t 1 = 0 := by decide +kernel
theorem index8 : ∀ t : Fin cfg0.N, win0_8.index t 0 = t.val ∧ win0_8.index t 1 = 3 := by decide +kernel

/-- The row of the whole that is row `a` of block `t`. -/
def at_ (t : Fin cfg0.N) (a : Fin 512) : Fin 8192 := ⟨512 * t.val + a.val, by have := lt_of_lt_of_eq t.isLt (show cfg0.N = 16 from N_0); omega⟩

theorem block0 (t : Fin cfg0.N) (a : Fin 512) (k : Fin 1024) : (iblk m c 0 t : Vec Ideal S512x1024 .bf16) (ix2 a k) = D m c (ix2 (at_ t a) k) := by
  rw [D, ← V_main_arg0 m c, at_]
  blk_simp [iblk]; blk_ext <;> simp only [index0] <;> omega
/-- The weight is turned before the kernel reads it. -/
theorem turned (k b : Fin 1024) : V m c main_v0 (ix2 k b) = W m c (ix2 b k) := by
  have e : (V m c main_v0 : FVec Ideal S1024x1024 .bf16) = transpose S1024x1024 [1, 0] (W m c) transposes_S1024x1024_S1024x1024_1_0 := by
    simp only [V, hostOps0]; after_reads_at
  rw [e]
  pointwise
theorem block1 (t : Fin cfg0.N) (k b : Fin 1024) : (iblk m c 1 t : Vec Ideal S1024x1024 .bf16) (ix2 k b) = W m c (ix2 b k) := by
  refine Eq.trans ?_ (turned m c k b)
  blk_simp [iblk]; blk_ext <;> simp only [index1] <;> omega
theorem block2 (t : Fin cfg0.N) (a : Fin 512) (b : Fin 1024) : (iblk m c 2 t : Vec Ideal S512x1024 .bf16) (ix2 a b) = Z m c (ix2 (at_ t a) ⟨6144 + b.val, by omega⟩) := by
  rw [Z, ← V_main_arg2 m c, at_]
  blk_simp [iblk]; blk_ext <;> simp only [index2] <;> omega
theorem block3 (t : Fin cfg0.N) (a : Fin 512) (b : Fin 1024) : (iblk m c 3 t : Vec Ideal S512x1024 .bf16) (ix2 a b) = Z m c (ix2 (at_ t a) ⟨7168 + b.val, by omega⟩) := by
  rw [Z, ← V_main_arg2 m c, at_]
  blk_simp [iblk]; blk_ext <;> simp only [index3] <;> omega
theorem block4 (t : Fin cfg0.N) (a : Fin 512) (b : Fin 1024) : (iblk m c 4 t : Vec Ideal S512x1024 .bf16) (ix2 a b) = PA m c (ix2 (at_ t a) b) := by
  rw [PA, ← V_main_arg3 m c, at_]
  blk_simp [iblk]; blk_ext <;> simp only [index4] <;> omega
theorem block5 (t : Fin cfg0.N) (a : Fin 512) (b : Fin 1024) : (iblk m c 5 t : Vec Ideal S512x1024 .bf16) (ix2 a b) = PB m c (ix2 (at_ t a) b) := by
  rw [PB, ← V_main_arg4 m c, at_]
  blk_simp [iblk]; blk_ext <;> simp only [index5] <;> omega

/-- A block's rows of the product, -/
theorem back_block (t : Fin cfg0.N) (a : Fin 512) (b : Fin 1024) : k0_pay1 (F := Ideal) (iblk m c 1 t) (iblk m c 0 t) (ix2 a b) = back (D m c) (W m c) (ix2 (at_ t a) b) := by
  refine (back_at _ _ a b).trans ?_
  exact Finset.sum_congr rfl fun k _ => congrArg₂ (fun p q : EReal => p * q) (block0 m c t a k) (block1 m c t k b)
/-- of the branches' gradients -/
theorem first_block (t : Fin cfg0.N) (a : Fin 512) (b : Fin 1024) : k0_pay4 (F := Ideal) (iblk m c 1 t) (iblk m c 0 t) (iblk m c 2 t) (ix2 a b)
    = branchBack (D m c) (W m c) (Z m c) 6144 (by omega) (ix2 (at_ t a) b) :=
  (first_at _ _ _ a b).trans (congrArg₂ (fun p q : EReal => p * q) (back_block m c t a b) (congrArg Ideal.logistic (block2 m c t a b)))
theorem second_block (t : Fin cfg0.N) (a : Fin 512) (b : Fin 1024) : k0_pay5 (F := Ideal) (iblk m c 1 t) (iblk m c 0 t) (iblk m c 3 t) (ix2 a b)
    = branchBack (D m c) (W m c) (Z m c) 7168 (by omega) (ix2 (at_ t a) b) :=
  (second_at _ _ _ a b).trans (congrArg₂ (fun p q : EReal => p * q) (back_block m c t a b) (congrArg Ideal.logistic (block3 m c t a b)))
/-- and of the gates'. -/
theorem third_block (t : Fin cfg0.N) (a : Fin 512) (b : Fin 1024) : k0_pay6 (F := Ideal) (iblk m c 1 t) (iblk m c 0 t) (iblk m c 2 t) (iblk m c 4 t) (ix2 a b)
    = gateBack (D m c) (PA m c) (W m c) (Z m c) 6144 (by omega) (ix2 (at_ t a) b) :=
  (third_at _ _ _ _ a b).trans (congrArg₂ (fun p q : EReal => p * q) (congrArg₂ (fun p q : EReal => p * q) (back_block m c t a b) (block4 m c t a b))
    (congrArg (fun g : EReal => Ideal.logistic g * (Ideal.ofBits .f32 0x3F800000#32 - Ideal.logistic g)) (block2 m c t a b)))
theorem fourth_block (t : Fin cfg0.N) (a : Fin 512) (b : Fin 1024) : k0_pay7 (F := Ideal) (iblk m c 1 t) (iblk m c 0 t) (iblk m c 3 t) (iblk m c 5 t) (ix2 a b)
    = gateBack (D m c) (PB m c) (W m c) (Z m c) 7168 (by omega) (ix2 (at_ t a) b) :=
  (fourth_at _ _ _ _ a b).trans (congrArg₂ (fun p q : EReal => p * q) (congrArg₂ (fun p q : EReal => p * q) (back_block m c t a b) (block5 m c t a b))
    (congrArg (fun g : EReal => Ideal.logistic g * (Ideal.ofBits .f32 0x3F800000#32 - Ideal.logistic g)) (block3 m c t a b)))

/-- The sixteen blocks make the branches' gradients whole. -/
theorem result6 : (dats m 0 c).arrAt 6 cfg0.N = branchBack (D m c) (W m c) (Z m c) 6144 (by omega) := by
  refine (dats m 0 c).arrAt_eq_of_covers 6 _ (by decide +kernel) fun t hf y => ?_
  obtain ⟨a, b, rfl⟩ : ∃ (a : Fin 512) (b : Fin 1024), y = ix2 a b := ⟨y 0, y 1, eq_ix2 y⟩
  blk_simp
  rw [after0_6, out6, first_block, at_]
  congr 1
  blk_ext <;> simp only [index6] <;> omega
theorem result7 : (dats m 0 c).arrAt 7 cfg0.N = branchBack (D m c) (W m c) (Z m c) 7168 (by omega) := by
  refine (dats m 0 c).arrAt_eq_of_covers 7 _ (by decide +kernel) fun t hf y => ?_
  obtain ⟨a, b, rfl⟩ : ∃ (a : Fin 512) (b : Fin 1024), y = ix2 a b := ⟨y 0, y 1, eq_ix2 y⟩
  blk_simp
  rw [after0_7, out7, second_block, at_]
  congr 1
  blk_ext <;> simp only [index7] <;> omega

/-- The gates' gradients as columns of the projection's: one half to the left of column 7168, the other from it on. -/
def gatesBack (i j : ℕ) (hi : i < 8192) : EReal :=
  if h : 6144 ≤ j ∧ j < 7168 then gateBack (D m c) (PA m c) (W m c) (Z m c) 6144 (by omega) (ix2 ⟨i, hi⟩ ⟨j - 6144, by omega⟩)
  else if h : 7168 ≤ j ∧ j < 8192 then gateBack (D m c) (PB m c) (W m c) (Z m c) 7168 (by omega) (ix2 ⟨i, hi⟩ ⟨j - 7168, by omega⟩)
  else 0

/-- Read in its two halves. -/
theorem gatesBack_left (i j : ℕ) (hi : i < 8192) (b : Fin 1024) (hj : j = 6144 + b.val) :
    gatesBack m c i j hi = gateBack (D m c) (PA m c) (W m c) (Z m c) 6144 (by omega) (ix2 ⟨i, hi⟩ b) := by
  subst hj
  rw [gatesBack, dif_pos (by omega)]
  exact congrArg (fun x => gateBack (D m c) (PA m c) (W m c) (Z m c) 6144 (by omega) (ix2 ⟨i, hi⟩ x)) (Fin.ext (Nat.add_sub_cancel_left 6144 b.val))
theorem gatesBack_right (i j : ℕ) (hi : i < 8192) (b : Fin 1024) (hj : j = 7168 + b.val) :
    gatesBack m c i j hi = gateBack (D m c) (PB m c) (W m c) (Z m c) 7168 (by omega) (ix2 ⟨i, hi⟩ b) := by
  subst hj
  rw [gatesBack, dif_neg (by omega), dif_pos (by omega)]
  exact congrArg (fun x => gateBack (D m c) (PB m c) (W m c) (Z m c) 7168 (by omega) (ix2 ⟨i, hi⟩ x)) (Fin.ext (Nat.add_sub_cancel_left 7168 b.val))

/-- What each point leaves in the result window, -/
theorem gates_block (t : Fin cfg0.N) (y : S512x2048.Idx) : out0_8 (F := Ideal) (iblk m c 0 t) (iblk m c 1 t) (iblk m c 2 t) (iblk m c 3 t) (iblk m c 4 t) (iblk m c 5 t) y
    = gatesBack m c (at_ t (y 0)).val (6144 + (y 1).val) (at_ t (y 0)).isLt := by
  refine out8 _ _ _ _ _ _ (fun y => gatesBack m c (at_ t (y 0)).val (6144 + (y 1).val) (at_ t (y 0)).isLt) (fun a b => ?_) (fun a b => ?_) y
  · exact (third_block m c t a b).trans (gatesBack_left m c _ _ _ b rfl).symm
  · exact (fourth_block m c t a b).trans (gatesBack_right m c _ _ _ b (by show 6144 + (1024 + b.val) = 7168 + b.val; omega)).symm

/-- and the whole array: its last 2048 columns are the kernel's. -/
theorem result8 : (dats m 0 c).arrAt 8 cfg0.N
    = fun i : S8192x8192.Idx => if 6144 ≤ (i 1).val then gatesBack m c (i 0).val (i 1).val (i 0).isLt else V m c main_v1_2 i := by
  refine (dats m 0 c).arrAt_eq_of_coversWhere 8 (fun i : S8192x8192.Idx => gatesBack m c (i 0).val (i 1).val (i 0).isLt)
    (P := fun i : S8192x8192.Idx => 6144 ≤ (i 1).val) (fun β => β (1 : Fin 2) = 3) (by decide +kernel) (fun t hf y => ?_)
    (fun j => ?_)
  · blk_simp
    rw [after0_8, gates_block]
    congr 1 <;> simp only [index8, at_] <;> omega
  · show 6144 ≤ (j 1).val ↔ (j 1).val / 2048 = 3
    have : (j 1).val < 8192 := (j 1).isLt
    omega

/-- After the kernel the gates' columns are cut out of that array. -/
theorem array8 (V' : Valuation τ sig (Elt Ideal)) (hV : V' = Pipeline.withArrays cfg0.spec c (V0 m c) fun w => (dats m 0 c).arrAt w cfg0.N) :
    V' (Proc.devRef .tc main_v1_2) = (dats m 0 c).arrAt 8 cfg0.N := by
  rw [hV]
  exact Pipeline.withArrays_arr_shared _ c (V0 m c) _ ((dats m 0 c).arrAt_sharedIn (by decide +kernel) (V0 m c) (A_eq m c) _) 8
theorem result2 : Pipeline.afterTail₀ cfgs (dats m) 0 (V0 m) [hostOps1] c main_v2 = gateBack (D m c) (PA m c) (W m c) (Z m c) 6144 (by omega) := by
  have e : (Pipeline.afterTail₀ cfgs (dats m) 0 (V0 m) [hostOps1] c main_v2 : FVec Ideal S8192x1024 .bf16)
      = extractStridedSlice S8192x1024 ![0, 6144] ((dats m 0 c).arrAt 8 cfg0.N : FVec Ideal S8192x8192 .bf16) slices_S8192x8192_S8192x1024_0_6144 := by
    rw [← array8 m c _ rfl]
    unfold Pipeline.afterTail₀
    simp only [hostOps1]; after_reads_at
  rw [e, result8]
  funext i
  obtain ⟨R, b, rfl⟩ : ∃ (R : Fin 8192) (b : Fin 1024), i = ix2 R b := ⟨i 0, i 1, eq_ix2 i⟩
  have slice (z : FVec Ideal S8192x8192 .bf16) : extractStridedSlice S8192x1024 ![0, 6144] z slices_S8192x8192_S8192x1024_0_6144 (ix2 R b) = z (ix2 R ⟨6144 + b.val, by omega⟩) := by
    pointwise
  refine (slice _).trans ?_
  show (if 6144 ≤ 6144 + b.val then gatesBack m c R.val (6144 + b.val) R.isLt else _) = _
  rw [if_pos (by omega)]
  exact gatesBack_left m c _ _ _ b rfl
theorem result3 : Pipeline.afterTail₀ cfgs (dats m) 0 (V0 m) [hostOps1] c main_v3 = gateBack (D m c) (PB m c) (W m c) (Z m c) 7168 (by omega) := by
  have e : (Pipeline.afterTail₀ cfgs (dats m) 0 (V0 m) [hostOps1] c main_v3 : FVec Ideal S8192x1024 .bf16)
      = extractStridedSlice S8192x1024 ![0, 7168] ((dats m 0 c).arrAt 8 cfg0.N : FVec Ideal S8192x8192 .bf16) slices_S8192x8192_S8192x1024_0_7168 := by
    rw [← array8 m c _ rfl]
    unfold Pipeline.afterTail₀
    simp only [hostOps1]; after_reads_at
  rw [e, result8]
  funext i
  obtain ⟨R, b, rfl⟩ : ∃ (R : Fin 8192) (b : Fin 1024), i = ix2 R b := ⟨i 0, i 1, eq_ix2 i⟩
  have slice (z : FVec Ideal S8192x8192 .bf16) : extractStridedSlice S8192x1024 ![0, 7168] z slices_S8192x8192_S8192x1024_0_7168 (ix2 R b) = z (ix2 R ⟨7168 + b.val, by omega⟩) := by
    pointwise
  refine (slice _).trans ?_
  show (if 6144 ≤ 7168 + b.val then gatesBack m c R.val (7168 + b.val) R.isLt else _) = _
  rw [if_pos (by omega)]
  exact gatesBack_right m c _ _ _ b rfl

end Cert.MixBackIdeal.Val

namespace Cert.MixBackIdeal

open Idealize.ShloMosaic Idealize.SL.Sem
open Cert.MixBackReferenceIdeal.Val

/-- From equal arguments the two programs end with the same gradients of the two branches and of their gates. -/
theorem algebraic : Cert.algebraic_MixBackIdeal_MixBackReferenceIdeal := by
  intro m g m' g' _ hin
  refine ⟨fun c => Val.branchBack (Val.D m c) (Val.W m c) (Val.Z m c) 6144 (by omega), fun c => Val.branchBack (Val.D m c) (Val.W m c) (Val.Z m c) 7168 (by omega),
    fun c => Val.gateBack (Val.D m c) (Val.PA m c) (Val.W m c) (Val.Z m c) 6144 (by omega), fun c => Val.gateBack (Val.D m c) (Val.PB m c) (Val.W m c) (Val.Z m c) 7168 (by omega),
    (θ_run _ _ _).mono (fun r hr c => ?_) (Idealize.ShloMosaic.θ_run_and (Gen.run_main m g) (Gen.unchanged m g)), (θ_run _ _ _).mono (fun r hr c => ?_) (Cert.MixBackReferenceIdeal.Value.run m' g')⟩
  · obtain ⟨h, hr⟩ := hr
    exact ⟨((h c).1 6).trans (Val.result6 m c), ((h c).1 7).trans (Val.result7 m c),
      ((h c).2 main_v2 (Pipeline.mem_restRefs_of main_v2 (by decide) (by decide))).trans (Val.result2 m c),
      ((h c).2 main_v3 (Pipeline.mem_restRefs_of main_v3 (by decide) (by decide))).trans (Val.result3 m c), hr c⟩
  · obtain ⟨e0, e1, e2, e3, e4⟩ := hin c
    obtain ⟨h6, h7, h2, h3, hr⟩ := hr c
    rw [e0, e1, e2, reference_back] at h6 h7
    rw [e0, e1, e2, e3, reference_back] at h2
    rw [e0, e1, e2, e4, reference_back] at h3
    exact ⟨h6.trans (reference_branch _ _ _ 6144 _ _), h7.trans (reference_branch _ _ _ 7168 _ _),
      h2.trans (reference_gate _ _ _ _ 6144 _ _), h3.trans (reference_gate _ _ _ _ 7168 _ _), hr⟩

end Cert.MixBackIdeal

end
-- ==== Proof.HeadBackValue.lean ====
module

public import proofs.«01_k».proof.Defs
public import proofs.«01_k».proof.Proof.Gen.HeadBackIdeal.Value
public import proofs.«01_k».proof.Proof.Gen.HeadBackReferenceIdeal.Run
public import proofs.«01_k».proof.Proof.Halves
public import Idealize.ShloMosaic.Lib.Pointwise
public import Idealize.ShloMosaic.Lib.StableHlo.ReadAt
public import Idealize.ShloMosaic.Lib.Pipeline.ValueKit

@[expose] public section

set_option maxRecDepth 16384

/-! # The way back through the first branch's projection -/

noncomputable section

namespace Cert.HeadBackIdeal.Val

open Cert.HeadBackIdeal Cert.HeadBackIdeal.Gen Cert.HeadBackIdeal.Value
open Idealize.ShloMosaic Idealize.ShloMosaic.TcCoe Idealize.SL.Sem
open Cert.Halves

/-- One block of rows: a product. -/
theorem out4 (x0 : Vec Ideal S512x1024 .bf16) (x1 : Vec Ideal S1024x512 .bf16) (x2 x3 : Vec Ideal S512x512 .f32) (a b : Fin 512) :
    out0_4 (F := Ideal) x0 x1 x2 x3 (ix2 a b) = ∑ k : Fin 1024, x0 (ix2 a k) * x1 (ix2 k b) := by
  unfold out0_4
  rw [View.canon_unit_zero zeros]
  simp only [View.ld_unit_zero (S := S512x1024) zeros, View.ld_unit_zero (S := S1024x512) zeros]
  pointwise [k0_pay2]

variable (m : (ℓ : Loc nD τ sig) → Buf (Elt Ideal) ℓ) (c : Dev nD)

/-- The two operands, -/
abbrev D : S8192x1024.Idx → EReal := m ((c.tc : Thread nD τ).loc main_arg0)
abbrev W : S512x1024.Idx → EReal := m ((c.tc : Thread nD τ).loc main_arg1)

theorem index0 : ∀ t : Fin cfg0.N, win0_0.index t 0 = t.val ∧ win0_0.index t 1 = 0 := by decide +kernel
theorem index1 : ∀ t : Fin cfg0.N, win0_1.index t 0 = 0 ∧ win0_1.index t 1 = 0 := by decide +kernel
theorem index4 : ∀ t : Fin cfg0.N, win0_4.index t 0 = t.val ∧ win0_4.index t 1 = 0 := by decide +kernel

/-- The row of the whole that is row `a` of block `t`. -/
def at_ (t : Fin cfg0.N) (a : Fin 512) : Fin 8192 := ⟨512 * t.val + a.val, by have := lt_of_lt_of_eq t.isLt (show cfg0.N = 16 from N_0); omega⟩

/-- and their blocks. -/
theorem block0 (t : Fin cfg0.N) (a : Fin 512) (k : Fin 1024) : (iblk m c 0 t : Vec Ideal S512x1024 .bf16) (ix2 a k) = D m c (ix2 (at_ t a) k) := by
  rw [D, ← V_main_arg0 m c, at_]
  blk_simp [iblk]; blk_ext <;> simp only [index0] <;> omega
/-- The weight is turned before the kernel reads it. -/
theorem turned (k : Fin 1024) (b : Fin 512) : V m c main_v0 (ix2 k b) = W m c (ix2 b k) := by
  have e : (V m c main_v0 : FVec Ideal S1024x512 .bf16) = transpose S1024x512 [1, 0] (W m c) transposes_S512x1024_S1024x512_1_0 := by
    simp only [V, hostOps0]; after_reads_at
  rw [e]
  pointwise
theorem block1 (t : Fin cfg0.N) (k : Fin 1024) (b : Fin 512) : (iblk m c 1 t : Vec Ideal S1024x512 .bf16) (ix2 k b) = W m c (ix2 b k) := by
  refine Eq.trans ?_ (turned m c k b)
  blk_simp [iblk]; blk_ext <;> simp only [index1] <;> omega

/-- The gradient of the branch's output. -/
def back (d : S8192x1024.Idx → EReal) (w : S512x1024.Idx → EReal) : S8192x512.Idx → EReal := fun i => ∑ k : Fin 1024, d (ix2 (i 0) k) * w (ix2 (i 1) k)

/-- The sixteen blocks make it whole. -/
theorem result4 : (dats m 0 c).arrAt 4 cfg0.N = back (D m c) (W m c) := by
  refine (dats m 0 c).arrAt_eq_of_covers 4 _ (by decide +kernel) fun t hf y => ?_
  obtain ⟨a, b, rfl⟩ : ∃ (a b : Fin 512), y = ix2 a b := ⟨y 0, y 1, eq_ix2 y⟩
  have h : out0_4 (F := Ideal) (iblk m c 0 t) (iblk m c 1 t) (iblk m c 2 t) (iblk m c 3 t) (ix2 a b) = back (D m c) (W m c) (ix2 (at_ t a) b) :=
    (out4 _ _ _ _ a b).trans (Finset.sum_congr rfl fun k _ => congrArg₂ (fun p q : EReal => p * q) (block0 m c t a k) (block1 m c t k b))
  blk_simp
  rw [after0_4, h, at_]
  congr 1
  blk_ext <;> simp only [index4] <;> omega

/-- The other program's product. -/
theorem reference_back (d : FVec Ideal S8192x1024 .bf16) (w : FVec Ideal S512x1024 .bf16) :
    Host.dotGeneral (F := Ideal) Cert.HeadBackReferenceIdeal.dot_S8192x1024_S512x1024_S8192x512_1_1_0_0_n_n none (extf .f32 d Cert.HeadBackReferenceIdeal.Gen.bitsLt_bf16_f32) (extf .f32 w Cert.HeadBackReferenceIdeal.Gen.bitsLt_bf16_f32) = back d w := by
  funext i
  rw [eq_ix2 i]
  unfold back
  pointwise

end Cert.HeadBackIdeal.Val

namespace Cert.HeadBackIdeal

open Idealize.ShloMosaic Idealize.SL.Sem

/-- From equal arguments the two programs end with the same gradient of the branch's output. -/
theorem algebraic : Cert.algebraic_HeadBackIdeal_HeadBackReferenceIdeal := by
  intro m g m' g' _ hin
  refine ⟨fun c => Val.back (Val.D m c) (Val.W m c), (θ_run _ _ _).mono (fun r hr c => ?_) (Value.run_blocks m g),
    (θ_run _ _ _).mono (fun r hr c => ?_) (Cert.HeadBackReferenceIdeal.Value.run m' g')⟩
  · obtain ⟨h4, h5, hr⟩ := hr c
    exact ⟨h4.trans (Val.result4 m c), hr⟩
  · obtain ⟨e0, e1, e2, e3⟩ := hin c
    obtain ⟨h4, hr⟩ := hr c
    rw [e0, e1, Val.reference_back] at h4
    exact ⟨h4, hr⟩

end Cert.HeadBackIdeal

end
-- ==== Proof.lean ====
module

public import proofs.«01_k».proof.Defs
public import proofs.«01_k».proof.Proof.KernelRun
public import proofs.«01_k».proof.Proof.Bits.KernelRun
public import proofs.«01_k».proof.Proof.RefRun
public import proofs.«01_k».proof.Proof.Algebraic
public import proofs.«01_k».proof.Proof.Gen.GradDown.Frame
public import proofs.«01_k».proof.Proof.GradDownValue
public import proofs.«01_k».proof.Proof.Gen.GradUp.Frame
public import proofs.«01_k».proof.Proof.GradUpValue
public import proofs.«01_k».proof.Proof.Gen.GradIn.Frame
public import proofs.«01_k».proof.Proof.GradInValue
public import proofs.«01_k».proof.Proof.Gen.GradAtt.Frame
public import proofs.«01_k».proof.Proof.GradAttValue
public import proofs.«01_k».proof.Proof.Gen.GradBranch.Frame
public import proofs.«01_k».proof.Proof.GradBranchValue
public import proofs.«01_k».proof.Proof.Gen.InAtt.Frame
public import proofs.«01_k».proof.Proof.InAttValue
public import proofs.«01_k».proof.Proof.Gen.InRest.Frame
public import proofs.«01_k».proof.Proof.InRestValue
public import proofs.«01_k».proof.Proof.Gen.BackAtt.Frame
public import proofs.«01_k».proof.Proof.BackAttValue
public import proofs.«01_k».proof.Proof.Gen.Mlp.Frame
public import proofs.«01_k».proof.Proof.Gen.MlpIdeal.Frame
public import proofs.«01_k».proof.Proof.MlpAlgebraic
public import proofs.«01_k».proof.Proof.Gen.UpBack.Frame
public import proofs.«01_k».proof.Proof.UpBackValue
public import proofs.«01_k».proof.Proof.Gen.RestBack.Frame
public import proofs.«01_k».proof.Proof.RestBackValue
public import proofs.«01_k».proof.Proof.Gen.Merge.Frame
public import proofs.«01_k».proof.Proof.MergeValue
public import proofs.«01_k».proof.Proof.Gen.GradOut.Frame
public import proofs.«01_k».proof.Proof.GradOutValue
public import proofs.«01_k».proof.Proof.Gen.GradMix.Frame
public import proofs.«01_k».proof.Proof.GradMixValue
public import proofs.«01_k».proof.Proof.Gen.MixBack.Frame
public import proofs.«01_k».proof.Proof.MixBackValue
public import proofs.«01_k».proof.Proof.Gen.HeadBack.Frame
public import proofs.«01_k».proof.Proof.HeadBackValue
public import Idealize.ShloMosaic.Adequacy
public import Idealize.ShloMosaic.Init

@[expose] public section

noncomputable section

namespace Cert.Proof

open Idealize.ShloMosaic Idealize.SL.Sem Cert.Kernel

/-- Every named constant is the value the table gives it. -/
theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl,
    IdealRules.named_const.statement _ _ _ _ _ rfl, IdealRules.named_const.statement _ _ _ _ _ rfl⟩

/-- Every claim, in the order they are stated. -/
theorem claim : Cert.Claim := ⟨Cert.Kernel.Gen.facts,
  Cert.KernelIdeal.Gen.facts,
  Cert.ReferenceIdeal.Gen.facts,
  Cert.GradDown.Gen.facts,
  Cert.GradDownIdeal.Gen.facts,
  Cert.GradDownReferenceIdeal.Gen.facts,
  Cert.GradUp.Gen.facts,
  Cert.GradUpIdeal.Gen.facts,
  Cert.GradUpReferenceIdeal.Gen.facts,
  Cert.GradIn.Gen.facts,
  Cert.GradInIdeal.Gen.facts,
  Cert.GradInReferenceIdeal.Gen.facts,
  Cert.GradAtt.Gen.facts,
  Cert.GradAttIdeal.Gen.facts,
  Cert.GradAttReferenceIdeal.Gen.facts,
  Cert.GradBranch.Gen.facts,
  Cert.GradBranchIdeal.Gen.facts,
  Cert.GradBranchReferenceIdeal.Gen.facts,
  Cert.InAtt.Gen.facts,
  Cert.InAttIdeal.Gen.facts,
  Cert.InAttReferenceIdeal.Gen.facts,
  Cert.InRest.Gen.facts,
  Cert.InRestIdeal.Gen.facts,
  Cert.InRestReferenceIdeal.Gen.facts,
  Cert.BackAtt.Gen.facts,
  Cert.BackAttIdeal.Gen.facts,
  Cert.BackAttReferenceIdeal.Gen.facts,
  Cert.Mlp.Gen.facts,
  Cert.MlpIdeal.Gen.facts,
  Cert.MlpReferenceIdeal.Gen.facts,
  Cert.UpBack.Gen.facts,
  Cert.UpBackIdeal.Gen.facts,
  Cert.UpBackReferenceIdeal.Gen.facts,
  Cert.RestBack.Gen.facts,
  Cert.RestBackIdeal.Gen.facts,
  Cert.RestBackReferenceIdeal.Gen.facts,
  Cert.Merge.Gen.facts,
  Cert.MergeIdeal.Gen.facts,
  Cert.MergeReferenceIdeal.Gen.facts,
  Cert.GradOut.Gen.facts,
  Cert.GradOutIdeal.Gen.facts,
  Cert.GradOutReferenceIdeal.Gen.facts,
  Cert.GradMix.Gen.facts,
  Cert.GradMixIdeal.Gen.facts,
  Cert.GradMixReferenceIdeal.Gen.facts,
  Cert.MixBack.Gen.facts,
  Cert.MixBackIdeal.Gen.facts,
  Cert.MixBackReferenceIdeal.Gen.facts,
  Cert.HeadBack.Gen.facts,
  Cert.HeadBackIdeal.Gen.facts,
  Cert.HeadBackReferenceIdeal.Gen.facts,
  fun m ρ _ => Cert.Kernel.Run.frame m ρ,
  fun m ρ _ => Cert.KernelIdeal.Run.frame m ρ,
  fun m ρ _ => Cert.ReferenceIdeal.Ref.frame m ρ,
  fun m ρ _ => Cert.GradDown.Gen.frame m ρ,
  fun m ρ _ => Cert.GradDownIdeal.Gen.frame m ρ,
  fun m ρ _ => (θ_run _ _ _).mono (fun r h => ⟨fun c => (h c).2, sem_eq_zero_of_no_sems rfl r.2⟩) (Cert.GradDownReferenceIdeal.Value.run m ρ),
  fun m ρ _ => Cert.GradUp.Gen.frame m ρ,
  fun m ρ _ => Cert.GradUpIdeal.Gen.frame m ρ,
  fun m ρ _ => (θ_run _ _ _).mono (fun r h => ⟨fun c => (h c).2, sem_eq_zero_of_no_sems rfl r.2⟩) (Cert.GradUpReferenceIdeal.Value.run m ρ),
  fun m ρ _ => Cert.GradIn.Gen.frame m ρ,
  fun m ρ _ => Cert.GradInIdeal.Gen.frame m ρ,
  fun m ρ _ => (θ_run _ _ _).mono (fun r h => ⟨fun c => (h c).2, sem_eq_zero_of_no_sems rfl r.2⟩) (Cert.GradInReferenceIdeal.Value.run m ρ),
  fun m ρ _ => Cert.GradAtt.Gen.frame m ρ,
  fun m ρ _ => Cert.GradAttIdeal.Gen.frame m ρ,
  fun m ρ _ => (θ_run _ _ _).mono (fun r h => ⟨fun c => (h c).2, sem_eq_zero_of_no_sems rfl r.2⟩) (Cert.GradAttReferenceIdeal.Value.run m ρ),
  fun m ρ _ => Cert.GradBranch.Gen.frame m ρ,
  fun m ρ _ => Cert.GradBranchIdeal.Gen.frame m ρ,
  fun m ρ _ => (θ_run _ _ _).mono (fun r h => ⟨fun c => (h c).2, sem_eq_zero_of_no_sems rfl r.2⟩) (Cert.GradBranchReferenceIdeal.Value.run m ρ),
  fun m ρ _ => Cert.InAtt.Gen.frame m ρ,
  fun m ρ _ => Cert.InAttIdeal.Gen.frame m ρ,
  fun m ρ _ => (θ_run _ _ _).mono (fun r h => ⟨fun c => (h c).2, sem_eq_zero_of_no_sems rfl r.2⟩) (Cert.InAttReferenceIdeal.Value.run m ρ),
  fun m ρ _ => Cert.InRest.Gen.frame m ρ,
  fun m ρ _ => Cert.InRestIdeal.Gen.frame m ρ,
  fun m ρ _ => (θ_run _ _ _).mono (fun r h => ⟨fun c => (h c).2, sem_eq_zero_of_no_sems rfl r.2⟩) (Cert.InRestReferenceIdeal.Value.run m ρ),
  fun m ρ _ => Cert.BackAtt.Gen.frame m ρ,
  fun m ρ _ => Cert.BackAttIdeal.Gen.frame m ρ,
  fun m ρ _ => (θ_run _ _ _).mono (fun r h => ⟨fun c => (h c).2, sem_eq_zero_of_no_sems rfl r.2⟩) (Cert.BackAttReferenceIdeal.Value.run m ρ),
  fun m ρ _ => Cert.Mlp.Gen.frame m ρ,
  fun m ρ _ => Cert.MlpIdeal.Gen.frame m ρ,
  fun m ρ _ => (θ_run _ _ _).mono (fun r h => ⟨fun c => (h c).2.2.2.2, sem_eq_zero_of_no_sems rfl r.2⟩) (Cert.MlpReferenceIdeal.Value.run m ρ),
  fun m ρ _ => Cert.UpBack.Gen.frame m ρ,
  fun m ρ _ => Cert.UpBackIdeal.Gen.frame m ρ,
  fun m ρ _ => (θ_run _ _ _).mono (fun r h => ⟨fun c => (h c).2.2.2, sem_eq_zero_of_no_sems rfl r.2⟩) (Cert.UpBackReferenceIdeal.Value.run m ρ),
  fun m ρ _ => Cert.RestBack.Gen.frame m ρ,
  fun m ρ _ => Cert.RestBackIdeal.Gen.frame m ρ,
  fun m ρ _ => (θ_run _ _ _).mono (fun r h => ⟨fun c => (h c).2.2, sem_eq_zero_of_no_sems rfl r.2⟩) (Cert.RestBackReferenceIdeal.Value.run m ρ),
  fun m ρ _ => Cert.Merge.Gen.frame m ρ,
  fun m ρ _ => Cert.MergeIdeal.Gen.frame m ρ,
  fun m ρ _ => (θ_run _ _ _).mono (fun r h => ⟨fun c => (h c).2.2.2.2.2, sem_eq_zero_of_no_sems rfl r.2⟩) (Cert.MergeReferenceIdeal.Value.run m ρ),
  fun m ρ _ => Cert.GradOut.Gen.frame m ρ,
  fun m ρ _ => Cert.GradOutIdeal.Gen.frame m ρ,
  fun m ρ _ => (θ_run _ _ _).mono (fun r h => ⟨fun c => (h c).2, sem_eq_zero_of_no_sems rfl r.2⟩) (Cert.GradOutReferenceIdeal.Value.run m ρ),
  fun m ρ _ => Cert.GradMix.Gen.frame m ρ,
  fun m ρ _ => Cert.GradMixIdeal.Gen.frame m ρ,
  fun m ρ _ => (θ_run _ _ _).mono (fun r h => ⟨fun c => (h c).2, sem_eq_zero_of_no_sems rfl r.2⟩) (Cert.GradMixReferenceIdeal.Value.run m ρ),
  fun m ρ _ => Cert.MixBack.Gen.frame m ρ,
  fun m ρ _ => Cert.MixBackIdeal.Gen.frame m ρ,
  fun m ρ _ => (θ_run _ _ _).mono (fun r h => ⟨fun c => (h c).2.2.2.2, sem_eq_zero_of_no_sems rfl r.2⟩) (Cert.MixBackReferenceIdeal.Value.run m ρ),
  fun m ρ _ => Cert.HeadBack.Gen.frame m ρ,
  fun m ρ _ => Cert.HeadBackIdeal.Gen.frame m ρ,
  fun m ρ _ => (θ_run _ _ _).mono (fun r h => ⟨fun c => (h c).2, sem_eq_zero_of_no_sems rfl r.2⟩) (Cert.HeadBackReferenceIdeal.Value.run m ρ),
  preserves,
  algebraic,
  trivial,
  Cert.GradDownIdeal.algebraic,
  trivial,
  Cert.GradUpIdeal.algebraic,
  trivial,
  Cert.GradInIdeal.algebraic,
  trivial,
  Cert.GradAttIdeal.algebraic,
  trivial,
  Cert.GradBranchIdeal.algebraic,
  trivial,
  Cert.InAttIdeal.algebraic,
  trivial,
  Cert.InRestIdeal.algebraic,
  trivial,
  Cert.BackAttIdeal.algebraic,
  trivial,
  Cert.MlpIdeal.algebraic,
  trivial,
  Cert.UpBackIdeal.algebraic,
  trivial,
  Cert.RestBackIdeal.algebraic,
  trivial,
  Cert.MergeIdeal.algebraic,
  trivial,
  Cert.GradOutIdeal.algebraic,
  trivial,
  Cert.GradMixIdeal.algebraic,
  trivial,
  Cert.MixBackIdeal.algebraic,
  trivial,
  Cert.HeadBackIdeal.algebraic⟩

end Cert.Proof

end
